-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernelb (m : (ℓ : Loc Cert.Kernelb.nD Cert.Kernelb.τ Cert.Kernelb.sig) → Buf (Elt Bits) ℓ) : Prop :=
  True

def Pre_KernelbIdeal (m : (ℓ : Loc Cert.KernelbIdeal.nD Cert.KernelbIdeal.τ Cert.KernelbIdeal.sig) → Buf (Elt Ideal) ℓ) : Prop :=
  True

def Pre_KernelbIdeal_finite [hPre_finite : Cert.Pre_finite.Facts] (m : (ℓ : Loc Cert.KernelbIdeal.nD Cert.KernelbIdeal.τ Cert.KernelbIdeal.sig) → Buf (Elt Ideal) ℓ) : Prop :=
  ∀ c : Dev Cert.KernelbIdeal.nD,
    (Cert.Pre_finite.fn (F := Ideal) (m ((c.tc : Thread Cert.KernelbIdeal.nD Cert.KernelbIdeal.τ).loc Cert.KernelbIdeal.main_arg0)) (m ((c.tc : Thread Cert.KernelbIdeal.nD Cert.KernelbIdeal.τ).loc Cert.KernelbIdeal.main_arg1)) (m ((c.tc : Thread Cert.KernelbIdeal.nD Cert.KernelbIdeal.τ).loc Cert.KernelbIdeal.main_arg2)) (m ((c.tc : Thread Cert.KernelbIdeal.nD Cert.KernelbIdeal.τ).loc Cert.KernelbIdeal.main_arg3))) = (fun _ => 1#1)

def Pre_ReferencebIdeal (m : (ℓ : Loc Cert.ReferencebIdeal.nD Cert.ReferencebIdeal.τ Cert.ReferencebIdeal.sig) → Buf (Elt Ideal) ℓ) : Prop :=
  True

def Pre_ReferencebIdeal_finite [hPre_finite : Cert.Pre_finite.Facts] (m : (ℓ : Loc Cert.ReferencebIdeal.nD Cert.ReferencebIdeal.τ Cert.ReferencebIdeal.sig) → Buf (Elt Ideal) ℓ) : Prop :=
  ∀ c : Dev Cert.ReferencebIdeal.nD,
    (Cert.Pre_finite.fn (F := Ideal) (m ((c.tc : Thread Cert.ReferencebIdeal.nD Cert.ReferencebIdeal.τ).loc Cert.ReferencebIdeal.main_arg0)) (m ((c.tc : Thread Cert.ReferencebIdeal.nD Cert.ReferencebIdeal.τ).loc Cert.ReferencebIdeal.main_arg1)) (m ((c.tc : Thread Cert.ReferencebIdeal.nD Cert.ReferencebIdeal.τ).loc Cert.ReferencebIdeal.main_arg2)) (m ((c.tc : Thread Cert.ReferencebIdeal.nD Cert.ReferencebIdeal.τ).loc Cert.ReferencebIdeal.main_arg3))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2))).2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2))).2.2 = (fun _ => 1#1)

def Pre_GradFfnIn (m : (ℓ : Loc Cert.GradFfnIn.nD Cert.GradFfnIn.τ Cert.GradFfnIn.sig) → Buf (Elt Bits) ℓ) : Prop :=
  True

def Pre_GradFfnInIdeal (m : (ℓ : Loc Cert.GradFfnInIdeal.nD Cert.GradFfnInIdeal.τ Cert.GradFfnInIdeal.sig) → Buf (Elt Ideal) ℓ) : Prop :=
  True

def Pre_GradFfnInRefIdeal (m : (ℓ : Loc Cert.GradFfnInRefIdeal.nD Cert.GradFfnInRefIdeal.τ Cert.GradFfnInRefIdeal.sig) → Buf (Elt Ideal) ℓ) : Prop :=
  True

def Pre_GradFfnOut (m : (ℓ : Loc Cert.GradFfnOut.nD Cert.GradFfnOut.τ Cert.GradFfnOut.sig) → Buf (Elt Bits) ℓ) : Prop :=
  True

def Pre_GradFfnOutIdeal (m : (ℓ : Loc Cert.GradFfnOutIdeal.nD Cert.GradFfnOutIdeal.τ Cert.GradFfnOutIdeal.sig) → Buf (Elt Ideal) ℓ) : Prop :=
  True

def Pre_GradFfnOutRefIdeal (m : (ℓ : Loc Cert.GradFfnOutRefIdeal.nD Cert.GradFfnOutRefIdeal.τ Cert.GradFfnOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_GradSquare (m : (ℓ : Loc Cert.GradSquare.nD Cert.GradSquare.τ Cert.GradSquare.sig) → Buf (Elt Bits) ℓ) : Prop :=
  True

def Pre_GradSquareIdeal (m : (ℓ : Loc Cert.GradSquareIdeal.nD Cert.GradSquareIdeal.τ Cert.GradSquareIdeal.sig) → Buf (Elt Ideal) ℓ) : Prop :=
  True

def Pre_GradSquareRefIdeal (m : (ℓ : Loc Cert.GradSquareRefIdeal.nD Cert.GradSquareRefIdeal.τ Cert.GradSquareRefIdeal.sig) → Buf (Elt Ideal) ℓ) : Prop :=
  True

def Pre_GradHalf (m : (ℓ : Loc Cert.GradHalf.nD Cert.GradHalf.τ Cert.GradHalf.sig) → Buf (Elt Bits) ℓ) : Prop :=
  True

def Pre_GradHalfIdeal (m : (ℓ : Loc Cert.GradHalfIdeal.nD Cert.GradHalfIdeal.τ Cert.GradHalfIdeal.sig) → Buf (Elt Ideal) ℓ) : Prop :=
  True

def Pre_GradHalfRefIdeal (m : (ℓ : Loc Cert.GradHalfRefIdeal.nD Cert.GradHalfRefIdeal.τ Cert.GradHalfRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradOm (m : (ℓ : Loc Cert.GradOm.nD Cert.GradOm.τ Cert.GradOm.sig) → Buf (Elt Bits) ℓ) : Prop :=
  True

def Pre_GradOmIdeal (m : (ℓ : Loc Cert.GradOmIdeal.nD Cert.GradOmIdeal.τ Cert.GradOmIdeal.sig) → Buf (Elt Ideal) ℓ) : Prop :=
  True

def Pre_GradOmRefIdeal (m : (ℓ : Loc Cert.GradOmRefIdeal.nD Cert.GradOmRefIdeal.τ Cert.GradOmRefIdeal.sig) → Buf (Elt Ideal) ℓ) : Prop :=
  True

def Pre_GradYGated (m : (ℓ : Loc Cert.GradYGated.nD Cert.GradYGated.τ Cert.GradYGated.sig) → Buf (Elt Bits) ℓ) : Prop :=
  True

def Pre_GradYGatedIdeal (m : (ℓ : Loc Cert.GradYGatedIdeal.nD Cert.GradYGatedIdeal.τ Cert.GradYGatedIdeal.sig) → Buf (Elt Ideal) ℓ) : Prop :=
  True

def Pre_GradYGatedRefIdeal (m : (ℓ : Loc Cert.GradYGatedRefIdeal.nD Cert.GradYGatedRefIdeal.τ Cert.GradYGatedRefIdeal.sig) → Buf (Elt Ideal) ℓ) : Prop :=
  True

def Pre_GradASb (m : (ℓ : Loc Cert.GradASb.nD Cert.GradASb.τ Cert.GradASb.sig) → Buf (Elt Bits) ℓ) : Prop :=
  True

def Pre_GradASbIdeal (m : (ℓ : Loc Cert.GradASbIdeal.nD Cert.GradASbIdeal.τ Cert.GradASbIdeal.sig) → Buf (Elt Ideal) ℓ) : Prop :=
  True

def Pre_GradASbRefIdeal (m : (ℓ : Loc Cert.GradASbRefIdeal.nD Cert.GradASbRefIdeal.τ Cert.GradASbRefIdeal.sig) → Buf (Elt Ideal) ℓ) : Prop :=
  True

def Pre_GradSbO (m : (ℓ : Loc Cert.GradSbO.nD Cert.GradSbO.τ Cert.GradSbO.sig) → Buf (Elt Bits) ℓ) : Prop :=
  True

def Pre_GradSbOIdeal (m : (ℓ : Loc Cert.GradSbOIdeal.nD Cert.GradSbOIdeal.τ Cert.GradSbOIdeal.sig) → Buf (Elt Ideal) ℓ) : Prop :=
  True

def Pre_GradSbORefIdeal (m : (ℓ : Loc Cert.GradSbORefIdeal.nD Cert.GradSbORefIdeal.τ Cert.GradSbORefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutRefIdeal (m : (ℓ : Loc Cert.SbOutRefIdeal.nD Cert.SbOutRefIdeal.τ Cert.SbOutRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_LnOut (m : (ℓ : Loc Cert.LnOut.nD Cert.LnOut.τ Cert.LnOut.sig) → Buf (Elt Bits) ℓ) : Prop :=
  True

def Pre_LnOutIdeal (m : (ℓ : Loc Cert.LnOutIdeal.nD Cert.LnOutIdeal.τ Cert.LnOutIdeal.sig) → Buf (Elt Ideal) ℓ) : Prop :=
  True

def Pre_LnOutRefIdeal (m : (ℓ : Loc Cert.LnOutRefIdeal.nD Cert.LnOutRefIdeal.τ Cert.LnOutRefIdeal.sig) → Buf (Elt Ideal) ℓ) : Prop :=
  True

def Pre_GradMix (m : (ℓ : Loc Cert.GradMix.nD Cert.GradMix.τ Cert.GradMix.sig) → Buf (Elt Bits) ℓ) : Prop :=
  True

def Pre_GradMixIdeal (m : (ℓ : Loc Cert.GradMixIdeal.nD Cert.GradMixIdeal.τ Cert.GradMixIdeal.sig) → Buf (Elt Ideal) ℓ) : Prop :=
  True

def Pre_GradMixRefIdeal (m : (ℓ : Loc Cert.GradMixRefIdeal.nD Cert.GradMixRefIdeal.τ Cert.GradMixRefIdeal.sig) → Buf (Elt Ideal) ℓ) : Prop :=
  True

def Pre_GradNorm (m : (ℓ : Loc Cert.GradNorm.nD Cert.GradNorm.τ Cert.GradNorm.sig) → Buf (Elt Bits) ℓ) : Prop :=
  True

def Pre_GradNormIdeal (m : (ℓ : Loc Cert.GradNormIdeal.nD Cert.GradNormIdeal.τ Cert.GradNormIdeal.sig) → Buf (Elt Ideal) ℓ) : Prop :=
  True

def Pre_GradNormIdeal_finite_norm [hPre_finite_norm : Cert.Pre_finite_norm.Facts] (m : (ℓ : Loc Cert.GradNormIdeal.nD Cert.GradNormIdeal.τ Cert.GradNormIdeal.sig) → Buf (Elt Ideal) ℓ) : Prop :=
  ∀ c : Dev Cert.GradNormIdeal.nD,
    (Cert.Pre_finite_norm.fn (F := Ideal) (m ((c.tc : Thread Cert.GradNormIdeal.nD Cert.GradNormIdeal.τ).loc Cert.GradNormIdeal.main_arg0)) (m ((c.tc : Thread Cert.GradNormIdeal.nD Cert.GradNormIdeal.τ).loc Cert.GradNormIdeal.main_arg1)) (m ((c.tc : Thread Cert.GradNormIdeal.nD Cert.GradNormIdeal.τ).loc Cert.GradNormIdeal.main_arg2)) (m ((c.tc : Thread Cert.GradNormIdeal.nD Cert.GradNormIdeal.τ).loc Cert.GradNormIdeal.main_arg3)) (m ((c.tc : Thread Cert.GradNormIdeal.nD Cert.GradNormIdeal.τ).loc Cert.GradNormIdeal.main_arg4))).1 = (fun _ => 1#1)
    ∧ (Cert.Pre_finite_norm.fn (F := Ideal) (m ((c.tc : Thread Cert.GradNormIdeal.nD Cert.GradNormIdeal.τ).loc Cert.GradNormIdeal.main_arg0)) (m ((c.tc : Thread Cert.GradNormIdeal.nD Cert.GradNormIdeal.τ).loc Cert.GradNormIdeal.main_arg1)) (m ((c.tc : Thread Cert.GradNormIdeal.nD Cert.GradNormIdeal.τ).loc Cert.GradNormIdeal.main_arg2)) (m ((c.tc : Thread Cert.GradNormIdeal.nD Cert.GradNormIdeal.τ).loc Cert.GradNormIdeal.main_arg3)) (m ((c.tc : Thread Cert.GradNormIdeal.nD Cert.GradNormIdeal.τ).loc Cert.GradNormIdeal.main_arg4))).2.1 = (fun _ => 1#1)
    ∧ (Cert.Pre_finite_norm.fn (F := Ideal) (m ((c.tc : Thread Cert.GradNormIdeal.nD Cert.GradNormIdeal.τ).loc Cert.GradNormIdeal.main_arg0)) (m ((c.tc : Thread Cert.GradNormIdeal.nD Cert.GradNormIdeal.τ).loc Cert.GradNormIdeal.main_arg1)) (m ((c.tc : Thread Cert.GradNormIdeal.nD Cert.GradNormIdeal.τ).loc Cert.GradNormIdeal.main_arg2)) (m ((c.tc : Thread Cert.GradNormIdeal.nD Cert.GradNormIdeal.τ).loc Cert.GradNormIdeal.main_arg3)) (m ((c.tc : Thread Cert.GradNormIdeal.nD Cert.GradNormIdeal.τ).loc Cert.GradNormIdeal.main_arg4))).2.2.1 = (fun _ => 1#1)
    ∧ (Cert.Pre_finite_norm.fn (F := Ideal) (m ((c.tc : Thread Cert.GradNormIdeal.nD Cert.GradNormIdeal.τ).loc Cert.GradNormIdeal.main_arg0)) (m ((c.tc : Thread Cert.GradNormIdeal.nD Cert.GradNormIdeal.τ).loc Cert.GradNormIdeal.main_arg1)) (m ((c.tc : Thread Cert.GradNormIdeal.nD Cert.GradNormIdeal.τ).loc Cert.GradNormIdeal.main_arg2)) (m ((c.tc : Thread Cert.GradNormIdeal.nD Cert.GradNormIdeal.τ).loc Cert.GradNormIdeal.main_arg3)) (m ((c.tc : Thread Cert.GradNormIdeal.nD Cert.GradNormIdeal.τ).loc Cert.GradNormIdeal.main_arg4))).2.2.2 = (fun _ => 1#1)

def Pre_GradNormRefIdeal (m : (ℓ : Loc Cert.GradNormRefIdeal.nD Cert.GradNormRefIdeal.τ Cert.GradNormRefIdeal.sig) → Buf (Elt Ideal) ℓ) : Prop :=
  True

def Pre_GradNormRefIdeal_finite_norm [hPre_finite_norm : Cert.Pre_finite_norm.Facts] (m : (ℓ : Loc Cert.GradNormRefIdeal.nD Cert.GradNormRefIdeal.τ Cert.GradNormRefIdeal.sig) → Buf (Elt Ideal) ℓ) : Prop :=
  ∀ c : Dev Cert.GradNormRefIdeal.nD,
    (Cert.Pre_finite_norm.fn (F := Ideal) (m ((c.tc : Thread Cert.GradNormRefIdeal.nD Cert.GradNormRefIdeal.τ).loc Cert.GradNormRefIdeal.main_arg0)) (m ((c.tc : Thread Cert.GradNormRefIdeal.nD Cert.GradNormRefIdeal.τ).loc Cert.GradNormRefIdeal.main_arg1)) (m ((c.tc : Thread Cert.GradNormRefIdeal.nD Cert.GradNormRefIdeal.τ).loc Cert.GradNormRefIdeal.main_arg2)) (m ((c.tc : Thread Cert.GradNormRefIdeal.nD Cert.GradNormRefIdeal.τ).loc Cert.GradNormRefIdeal.main_arg3)) (m ((c.tc : Thread Cert.GradNormRefIdeal.nD Cert.GradNormRefIdeal.τ).loc Cert.GradNormRefIdeal.main_arg4))).1 = (fun _ => 1#1)
    ∧ (Cert.Pre_finite_norm.fn (F := Ideal) (m ((c.tc : Thread Cert.GradNormRefIdeal.nD Cert.GradNormRefIdeal.τ).loc Cert.GradNormRefIdeal.main_arg0)) (m ((c.tc : Thread Cert.GradNormRefIdeal.nD Cert.GradNormRefIdeal.τ).loc Cert.GradNormRefIdeal.main_arg1)) (m ((c.tc : Thread Cert.GradNormRefIdeal.nD Cert.GradNormRefIdeal.τ).loc Cert.GradNormRefIdeal.main_arg2)) (m ((c.tc : Thread Cert.GradNormRefIdeal.nD Cert.GradNormRefIdeal.τ).loc Cert.GradNormRefIdeal.main_arg3)) (m ((c.tc : Thread Cert.GradNormRefIdeal.nD Cert.GradNormRefIdeal.τ).loc Cert.GradNormRefIdeal.main_arg4))).2.1 = (fun _ => 1#1)
    ∧ (Cert.Pre_finite_norm.fn (F := Ideal) (m ((c.tc : Thread Cert.GradNormRefIdeal.nD Cert.GradNormRefIdeal.τ).loc Cert.GradNormRefIdeal.main_arg0)) (m ((c.tc : Thread Cert.GradNormRefIdeal.nD Cert.GradNormRefIdeal.τ).loc Cert.GradNormRefIdeal.main_arg1)) (m ((c.tc : Thread Cert.GradNormRefIdeal.nD Cert.GradNormRefIdeal.τ).loc Cert.GradNormRefIdeal.main_arg2)) (m ((c.tc : Thread Cert.GradNormRefIdeal.nD Cert.GradNormRefIdeal.τ).loc Cert.GradNormRefIdeal.main_arg3)) (m ((c.tc : Thread Cert.GradNormRefIdeal.nD Cert.GradNormRefIdeal.τ).loc Cert.GradNormRefIdeal.main_arg4))).2.2.1 = (fun _ => 1#1)
    ∧ (Cert.Pre_finite_norm.fn (F := Ideal) (m ((c.tc : Thread Cert.GradNormRefIdeal.nD Cert.GradNormRefIdeal.τ).loc Cert.GradNormRefIdeal.main_arg0)) (m ((c.tc : Thread Cert.GradNormRefIdeal.nD Cert.GradNormRefIdeal.τ).loc Cert.GradNormRefIdeal.main_arg1)) (m ((c.tc : Thread Cert.GradNormRefIdeal.nD Cert.GradNormRefIdeal.τ).loc Cert.GradNormRefIdeal.main_arg2)) (m ((c.tc : Thread Cert.GradNormRefIdeal.nD Cert.GradNormRefIdeal.τ).loc Cert.GradNormRefIdeal.main_arg3)) (m ((c.tc : Thread Cert.GradNormRefIdeal.nD Cert.GradNormRefIdeal.τ).loc Cert.GradNormRefIdeal.main_arg4))).2.2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_GradMemKv (m : (ℓ : Loc Cert.GradMemKv.nD Cert.GradMemKv.τ Cert.GradMemKv.sig) → Buf (Elt Bits) ℓ) : Prop :=
  True

def Pre_GradMemKvIdeal (m : (ℓ : Loc Cert.GradMemKvIdeal.nD Cert.GradMemKvIdeal.τ Cert.GradMemKvIdeal.sig) → Buf (Elt Ideal) ℓ) : Prop :=
  True

def Pre_GradMemKvRefIdeal (m : (ℓ : Loc Cert.GradMemKvRefIdeal.nD Cert.GradMemKvRefIdeal.τ Cert.GradMemKvRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutIdeal_finite_out [hPre_finite_out : Cert.Pre_finite_out.Facts] (m : (ℓ : Loc Cert.FfnOutIdeal.nD Cert.FfnOutIdeal.τ Cert.FfnOutIdeal.sig) → Buf (Elt Ideal) ℓ) : Prop :=
  ∀ c : Dev Cert.FfnOutIdeal.nD,
    (Cert.Pre_finite_out.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3)) (m ((c.tc : Thread Cert.FfnOutIdeal.nD Cert.FfnOutIdeal.τ).loc Cert.FfnOutIdeal.main_arg4)) (m ((c.tc : Thread Cert.FfnOutIdeal.nD Cert.FfnOutIdeal.τ).loc Cert.FfnOutIdeal.main_arg5))).1 = (fun _ => 1#1)
    ∧ (Cert.Pre_finite_out.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3)) (m ((c.tc : Thread Cert.FfnOutIdeal.nD Cert.FfnOutIdeal.τ).loc Cert.FfnOutIdeal.main_arg4)) (m ((c.tc : Thread Cert.FfnOutIdeal.nD Cert.FfnOutIdeal.τ).loc Cert.FfnOutIdeal.main_arg5))).2.1 = (fun _ => 1#1)
    ∧ (Cert.Pre_finite_out.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3)) (m ((c.tc : Thread Cert.FfnOutIdeal.nD Cert.FfnOutIdeal.τ).loc Cert.FfnOutIdeal.main_arg4)) (m ((c.tc : Thread Cert.FfnOutIdeal.nD Cert.FfnOutIdeal.τ).loc Cert.FfnOutIdeal.main_arg5))).2.2 = (fun _ => 1#1)

def Pre_FfnOutRefIdeal (m : (ℓ : Loc Cert.FfnOutRefIdeal.nD Cert.FfnOutRefIdeal.τ Cert.FfnOutRefIdeal.sig) → Buf (Elt Ideal) ℓ) : Prop :=
  True

def Pre_FfnOutRefIdeal_finite_out [hPre_finite_out : Cert.Pre_finite_out.Facts] (m : (ℓ : Loc Cert.FfnOutRefIdeal.nD Cert.FfnOutRefIdeal.τ Cert.FfnOutRefIdeal.sig) → Buf (Elt Ideal) ℓ) : Prop :=
  ∀ c : Dev Cert.FfnOutRefIdeal.nD,
    (Cert.Pre_finite_out.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2)) (m ((c.tc : Thread Cert.FfnOutRefIdeal.nD Cert.FfnOutRefIdeal.τ).loc Cert.FfnOutRefIdeal.main_arg3)) (m ((c.tc : Thread Cert.FfnOutRefIdeal.nD Cert.FfnOutRefIdeal.τ).loc Cert.FfnOutRefIdeal.main_arg4)) (m ((c.tc : Thread Cert.FfnOutRefIdeal.nD Cert.FfnOutRefIdeal.τ).loc Cert.FfnOutRefIdeal.main_arg5))).1 = (fun _ => 1#1)
    ∧ (Cert.Pre_finite_out.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2)) (m ((c.tc : Thread Cert.FfnOutRefIdeal.nD Cert.FfnOutRefIdeal.τ).loc Cert.FfnOutRefIdeal.main_arg3)) (m ((c.tc : Thread Cert.FfnOutRefIdeal.nD Cert.FfnOutRefIdeal.τ).loc Cert.FfnOutRefIdeal.main_arg4)) (m ((c.tc : Thread Cert.FfnOutRefIdeal.nD Cert.FfnOutRefIdeal.τ).loc Cert.FfnOutRefIdeal.main_arg5))).2.1 = (fun _ => 1#1)
    ∧ (Cert.Pre_finite_out.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2)) (m ((c.tc : Thread Cert.FfnOutRefIdeal.nD Cert.FfnOutRefIdeal.τ).loc Cert.FfnOutRefIdeal.main_arg3)) (m ((c.tc : Thread Cert.FfnOutRefIdeal.nD Cert.FfnOutRefIdeal.τ).loc Cert.FfnOutRefIdeal.main_arg4)) (m ((c.tc : Thread Cert.FfnOutRefIdeal.nD Cert.FfnOutRefIdeal.τ).loc Cert.FfnOutRefIdeal.main_arg5))).2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSbO (m : (ℓ : Loc Cert.AdamSbO.nD Cert.AdamSbO.τ Cert.AdamSbO.sig) → Buf (Elt Bits) ℓ) : Prop :=
  True

def Pre_AdamSbOIdeal (m : (ℓ : Loc Cert.AdamSbOIdeal.nD Cert.AdamSbOIdeal.τ Cert.AdamSbOIdeal.sig) → Buf (Elt Ideal) ℓ) : Prop :=
  True

def Pre_AdamSbORefIdeal (m : (ℓ : Loc Cert.AdamSbORefIdeal.nD Cert.AdamSbORefIdeal.τ Cert.AdamSbORefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamMemKv (m : (ℓ : Loc Cert.AdamMemKv.nD Cert.AdamMemKv.τ Cert.AdamMemKv.sig) → Buf (Elt Bits) ℓ) : Prop :=
  True

def Pre_AdamMemKvIdeal (m : (ℓ : Loc Cert.AdamMemKvIdeal.nD Cert.AdamMemKvIdeal.τ Cert.AdamMemKvIdeal.sig) → Buf (Elt Ideal) ℓ) : Prop :=
  True

def Pre_AdamMemKvRefIdeal (m : (ℓ : Loc Cert.AdamMemKvRefIdeal.nD Cert.AdamMemKvRefIdeal.τ Cert.AdamMemKvRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernelb [hKernelb : Cert.Kernelb.Facts] : Prop :=
  ∀ (m : (ℓ : Loc Cert.Kernelb.nD Cert.Kernelb.τ Cert.Kernelb.sig) → Buf (Elt Bits) ℓ) (g : Dev Cert.Kernelb.nD → PrngReg), Pre_Kernelb m →
    θ_run (Cert.Kernelb.defs (F := Bits)) (onTc (τ := Cert.Kernelb.τ) (Cert.Kernelb.main (F := Bits))) ⟨m, fun _ => 0, g⟩ (fun r => (∀ c : Dev Cert.Kernelb.nD,
      r.2.mem ((c.tc : Thread Cert.Kernelb.nD Cert.Kernelb.τ).loc Cert.Kernelb.main_arg0) = m ((c.tc : Thread Cert.Kernelb.nD Cert.Kernelb.τ).loc Cert.Kernelb.main_arg0)
      ∧ r.2.mem ((c.tc : Thread Cert.Kernelb.nD Cert.Kernelb.τ).loc Cert.Kernelb.main_arg1) = m ((c.tc : Thread Cert.Kernelb.nD Cert.Kernelb.τ).loc Cert.Kernelb.main_arg1)
      ∧ r.2.mem ((c.tc : Thread Cert.Kernelb.nD Cert.Kernelb.τ).loc Cert.Kernelb.main_arg2) = m ((c.tc : Thread Cert.Kernelb.nD Cert.Kernelb.τ).loc Cert.Kernelb.main_arg2)
      ∧ r.2.mem ((c.tc : Thread Cert.Kernelb.nD Cert.Kernelb.τ).loc Cert.Kernelb.main_arg3) = m ((c.tc : Thread Cert.Kernelb.nD Cert.Kernelb.τ).loc Cert.Kernelb.main_arg3))
      ∧ r.2.sem = fun _ => 0)

def quiescent_KernelbIdeal [hKernelbIdeal : Cert.KernelbIdeal.Facts] : Prop :=
  ∀ (m : (ℓ : Loc Cert.KernelbIdeal.nD Cert.KernelbIdeal.τ Cert.KernelbIdeal.sig) → Buf (Elt Ideal) ℓ) (g : Dev Cert.KernelbIdeal.nD → PrngReg), Pre_KernelbIdeal m →
    θ_run (Cert.KernelbIdeal.defs (F := Ideal)) (onTc (τ := Cert.KernelbIdeal.τ) (Cert.KernelbIdeal.main (F := Ideal))) ⟨m, fun _ => 0, g⟩ (fun r => (∀ c : Dev Cert.KernelbIdeal.nD,
      r.2.mem ((c.tc : Thread Cert.KernelbIdeal.nD Cert.KernelbIdeal.τ).loc Cert.KernelbIdeal.main_arg0) = m ((c.tc : Thread Cert.KernelbIdeal.nD Cert.KernelbIdeal.τ).loc Cert.KernelbIdeal.main_arg0)
      ∧ r.2.mem ((c.tc : Thread Cert.KernelbIdeal.nD Cert.KernelbIdeal.τ).loc Cert.KernelbIdeal.main_arg1) = m ((c.tc : Thread Cert.KernelbIdeal.nD Cert.KernelbIdeal.τ).loc Cert.KernelbIdeal.main_arg1)
      ∧ r.2.mem ((c.tc : Thread Cert.KernelbIdeal.nD Cert.KernelbIdeal.τ).loc Cert.KernelbIdeal.main_arg2) = m ((c.tc : Thread Cert.KernelbIdeal.nD Cert.KernelbIdeal.τ).loc Cert.KernelbIdeal.main_arg2)
      ∧ r.2.mem ((c.tc : Thread Cert.KernelbIdeal.nD Cert.KernelbIdeal.τ).loc Cert.KernelbIdeal.main_arg3) = m ((c.tc : Thread Cert.KernelbIdeal.nD Cert.KernelbIdeal.τ).loc Cert.KernelbIdeal.main_arg3))
      ∧ r.2.sem = fun _ => 0)

def quiescent_KernelbIdeal_pre_finite [hKernelbIdeal : Cert.KernelbIdeal.Facts] [hPre_finite : Cert.Pre_finite.Facts] : Prop :=
  ∀ (m : (ℓ : Loc Cert.KernelbIdeal.nD Cert.KernelbIdeal.τ Cert.KernelbIdeal.sig) → Buf (Elt Ideal) ℓ) (g : Dev Cert.KernelbIdeal.nD → PrngReg), Pre_KernelbIdeal_finite m →
    θ_run (Cert.KernelbIdeal.defs (F := Ideal)) (onTc (τ := Cert.KernelbIdeal.τ) (Cert.KernelbIdeal.main (F := Ideal))) ⟨m, fun _ => 0, g⟩ (fun r => (∀ c : Dev Cert.KernelbIdeal.nD,
      r.2.mem ((c.tc : Thread Cert.KernelbIdeal.nD Cert.KernelbIdeal.τ).loc Cert.KernelbIdeal.main_arg0) = m ((c.tc : Thread Cert.KernelbIdeal.nD Cert.KernelbIdeal.τ).loc Cert.KernelbIdeal.main_arg0)
      ∧ r.2.mem ((c.tc : Thread Cert.KernelbIdeal.nD Cert.KernelbIdeal.τ).loc Cert.KernelbIdeal.main_arg1) = m ((c.tc : Thread Cert.KernelbIdeal.nD Cert.KernelbIdeal.τ).loc Cert.KernelbIdeal.main_arg1)
      ∧ r.2.mem ((c.tc : Thread Cert.KernelbIdeal.nD Cert.KernelbIdeal.τ).loc Cert.KernelbIdeal.main_arg2) = m ((c.tc : Thread Cert.KernelbIdeal.nD Cert.KernelbIdeal.τ).loc Cert.KernelbIdeal.main_arg2)
      ∧ r.2.mem ((c.tc : Thread Cert.KernelbIdeal.nD Cert.KernelbIdeal.τ).loc Cert.KernelbIdeal.main_arg3) = m ((c.tc : Thread Cert.KernelbIdeal.nD Cert.KernelbIdeal.τ).loc Cert.KernelbIdeal.main_arg3))
      ∧ r.2.sem = fun _ => 0)

def quiescent_ReferencebIdeal [hReferencebIdeal : Cert.ReferencebIdeal.Facts] : Prop :=
  ∀ (m : (ℓ : Loc Cert.ReferencebIdeal.nD Cert.ReferencebIdeal.τ Cert.ReferencebIdeal.sig) → Buf (Elt Ideal) ℓ) (g : Dev Cert.ReferencebIdeal.nD → PrngReg), Pre_ReferencebIdeal m →
    θ_run (Cert.ReferencebIdeal.defs (F := Ideal)) (onTc (τ := Cert.ReferencebIdeal.τ) (Cert.ReferencebIdeal.main (F := Ideal))) ⟨m, fun _ => 0, g⟩ (fun r => (∀ c : Dev Cert.ReferencebIdeal.nD,
      r.2.mem ((c.tc : Thread Cert.ReferencebIdeal.nD Cert.ReferencebIdeal.τ).loc Cert.ReferencebIdeal.main_arg0) = m ((c.tc : Thread Cert.ReferencebIdeal.nD Cert.ReferencebIdeal.τ).loc Cert.ReferencebIdeal.main_arg0)
      ∧ r.2.mem ((c.tc : Thread Cert.ReferencebIdeal.nD Cert.ReferencebIdeal.τ).loc Cert.ReferencebIdeal.main_arg1) = m ((c.tc : Thread Cert.ReferencebIdeal.nD Cert.ReferencebIdeal.τ).loc Cert.ReferencebIdeal.main_arg1)
      ∧ r.2.mem ((c.tc : Thread Cert.ReferencebIdeal.nD Cert.ReferencebIdeal.τ).loc Cert.ReferencebIdeal.main_arg2) = m ((c.tc : Thread Cert.ReferencebIdeal.nD Cert.ReferencebIdeal.τ).loc Cert.ReferencebIdeal.main_arg2)
      ∧ r.2.mem ((c.tc : Thread Cert.ReferencebIdeal.nD Cert.ReferencebIdeal.τ).loc Cert.ReferencebIdeal.main_arg3) = m ((c.tc : Thread Cert.ReferencebIdeal.nD Cert.ReferencebIdeal.τ).loc Cert.ReferencebIdeal.main_arg3))
      ∧ r.2.sem = fun _ => 0)

def quiescent_ReferencebIdeal_pre_finite [hReferencebIdeal : Cert.ReferencebIdeal.Facts] [hPre_finite : Cert.Pre_finite.Facts] : Prop :=
  ∀ (m : (ℓ : Loc Cert.ReferencebIdeal.nD Cert.ReferencebIdeal.τ Cert.ReferencebIdeal.sig) → Buf (Elt Ideal) ℓ) (g : Dev Cert.ReferencebIdeal.nD → PrngReg), Pre_ReferencebIdeal_finite m →
    θ_run (Cert.ReferencebIdeal.defs (F := Ideal)) (onTc (τ := Cert.ReferencebIdeal.τ) (Cert.ReferencebIdeal.main (F := Ideal))) ⟨m, fun _ => 0, g⟩ (fun r => (∀ c : Dev Cert.ReferencebIdeal.nD,
      r.2.mem ((c.tc : Thread Cert.ReferencebIdeal.nD Cert.ReferencebIdeal.τ).loc Cert.ReferencebIdeal.main_arg0) = m ((c.tc : Thread Cert.ReferencebIdeal.nD Cert.ReferencebIdeal.τ).loc Cert.ReferencebIdeal.main_arg0)
      ∧ r.2.mem ((c.tc : Thread Cert.ReferencebIdeal.nD Cert.ReferencebIdeal.τ).loc Cert.ReferencebIdeal.main_arg1) = m ((c.tc : Thread Cert.ReferencebIdeal.nD Cert.ReferencebIdeal.τ).loc Cert.ReferencebIdeal.main_arg1)
      ∧ r.2.mem ((c.tc : Thread Cert.ReferencebIdeal.nD Cert.ReferencebIdeal.τ).loc Cert.ReferencebIdeal.main_arg2) = m ((c.tc : Thread Cert.ReferencebIdeal.nD Cert.ReferencebIdeal.τ).loc Cert.ReferencebIdeal.main_arg2)
      ∧ r.2.mem ((c.tc : Thread Cert.ReferencebIdeal.nD Cert.ReferencebIdeal.τ).loc Cert.ReferencebIdeal.main_arg3) = m ((c.tc : Thread Cert.ReferencebIdeal.nD Cert.ReferencebIdeal.τ).loc Cert.ReferencebIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2))
      ∧ r.2.sem = fun _ => 0)

def quiescent_GradFfnIn [hGradFfnIn : Cert.GradFfnIn.Facts] : Prop :=
  ∀ (m : (ℓ : Loc Cert.GradFfnIn.nD Cert.GradFfnIn.τ Cert.GradFfnIn.sig) → Buf (Elt Bits) ℓ) (g : Dev Cert.GradFfnIn.nD → PrngReg), Pre_GradFfnIn m →
    θ_run (Cert.GradFfnIn.defs (F := Bits)) (onTc (τ := Cert.GradFfnIn.τ) (Cert.GradFfnIn.main (F := Bits))) ⟨m, fun _ => 0, g⟩ (fun r => (∀ c : Dev Cert.GradFfnIn.nD,
      r.2.mem ((c.tc : Thread Cert.GradFfnIn.nD Cert.GradFfnIn.τ).loc Cert.GradFfnIn.main_arg0) = m ((c.tc : Thread Cert.GradFfnIn.nD Cert.GradFfnIn.τ).loc Cert.GradFfnIn.main_arg0)
      ∧ r.2.mem ((c.tc : Thread Cert.GradFfnIn.nD Cert.GradFfnIn.τ).loc Cert.GradFfnIn.main_arg1) = m ((c.tc : Thread Cert.GradFfnIn.nD Cert.GradFfnIn.τ).loc Cert.GradFfnIn.main_arg1))
      ∧ r.2.sem = fun _ => 0)

def quiescent_GradFfnInIdeal [hGradFfnInIdeal : Cert.GradFfnInIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg), Pre_GradFfnInIdeal m →
    θ_run (Cert.GradFfnInIdeal.defs (F := Ideal)) (onTc (τ := Cert.GradFfnInIdeal.τ) (Cert.GradFfnInIdeal.main (F := Ideal))) ⟨m, fun _ => 0, g⟩ (fun r => (∀ c : Dev Cert.GradFfnInIdeal.nD,
      r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
      ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ r.2.sem = fun _ => 0)

def quiescent_GradFfnInRefIdeal [hGradFfnInRefIdeal : Cert.GradFfnInRefIdeal.Facts] : Prop :=
  ∀ (m : (ℓ : Loc Cert.GradFfnInRefIdeal.nD Cert.GradFfnInRefIdeal.τ Cert.GradFfnInRefIdeal.sig) → Buf (Elt Ideal) ℓ) (g : Dev Cert.GradFfnInRefIdeal.nD → PrngReg), Pre_GradFfnInRefIdeal m →
    θ_run (Cert.GradFfnInRefIdeal.defs (F := Ideal)) (onTc (τ := Cert.GradFfnInRefIdeal.τ) (Cert.GradFfnInRefIdeal.main (F := Ideal))) ⟨m, fun _ => 0, g⟩ (fun r => (∀ c : Dev Cert.GradFfnInRefIdeal.nD,
      r.2.mem ((c.tc : Thread Cert.GradFfnInRefIdeal.nD Cert.GradFfnInRefIdeal.τ).loc Cert.GradFfnInRefIdeal.main_arg0) = m ((c.tc : Thread Cert.GradFfnInRefIdeal.nD Cert.GradFfnInRefIdeal.τ).loc Cert.GradFfnInRefIdeal.main_arg0)
      ∧ r.2.mem ((c.tc : Thread Cert.GradFfnInRefIdeal.nD Cert.GradFfnInRefIdeal.τ).loc Cert.GradFfnInRefIdeal.main_arg1) = m ((c.tc : Thread Cert.GradFfnInRefIdeal.nD Cert.GradFfnInRefIdeal.τ).loc Cert.GradFfnInRefIdeal.main_arg1))
      ∧ r.2.sem = fun _ => 0)

def quiescent_GradFfnOut [hGradFfnOut : Cert.GradFfnOut.Facts] : Prop :=
  ∀ (m : (ℓ : Loc Cert.GradFfnOut.nD Cert.GradFfnOut.τ Cert.GradFfnOut.sig) → Buf (Elt Bits) ℓ) (g : Dev Cert.GradFfnOut.nD → PrngReg), Pre_GradFfnOut m →
    θ_run (Cert.GradFfnOut.defs (F := Bits)) (onTc (τ := Cert.GradFfnOut.τ) (Cert.GradFfnOut.main (F := Bits))) ⟨m, fun _ => 0, g⟩ (fun r => (∀ c : Dev Cert.GradFfnOut.nD,
      r.2.mem ((c.tc : Thread Cert.GradFfnOut.nD Cert.GradFfnOut.τ).loc Cert.GradFfnOut.main_arg0) = m ((c.tc : Thread Cert.GradFfnOut.nD Cert.GradFfnOut.τ).loc Cert.GradFfnOut.main_arg0)
      ∧ r.2.mem ((c.tc : Thread Cert.GradFfnOut.nD Cert.GradFfnOut.τ).loc Cert.GradFfnOut.main_arg1) = m ((c.tc : Thread Cert.GradFfnOut.nD Cert.GradFfnOut.τ).loc Cert.GradFfnOut.main_arg1))
      ∧ r.2.sem = fun _ => 0)

def quiescent_GradFfnOutIdeal [hGradFfnOutIdeal : Cert.GradFfnOutIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg), Pre_GradFfnOutIdeal m →
    θ_run (Cert.GradFfnOutIdeal.defs (F := Ideal)) (onTc (τ := Cert.GradFfnOutIdeal.τ) (Cert.GradFfnOutIdeal.main (F := Ideal))) ⟨m, fun _ => 0, g⟩ (fun r => (∀ c : Dev Cert.GradFfnOutIdeal.nD,
      r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
      ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ r.2.sem = fun _ => 0)

def quiescent_GradFfnOutRefIdeal [hGradFfnOutRefIdeal : Cert.GradFfnOutRefIdeal.Facts] : Prop :=
  ∀ (m : (ℓ : Loc Cert.GradFfnOutRefIdeal.nD Cert.GradFfnOutRefIdeal.τ Cert.GradFfnOutRefIdeal.sig) → Buf (Elt Ideal) ℓ) (g : Dev Cert.GradFfnOutRefIdeal.nD → PrngReg), Pre_GradFfnOutRefIdeal m →
    θ_run (Cert.GradFfnOutRefIdeal.defs (F := Ideal)) (onTc (τ := Cert.GradFfnOutRefIdeal.τ) (Cert.GradFfnOutRefIdeal.main (F := Ideal))) ⟨m, fun _ => 0, g⟩ (fun r => (∀ c : Dev Cert.GradFfnOutRefIdeal.nD,
      r.2.mem ((c.tc : Thread Cert.GradFfnOutRefIdeal.nD Cert.GradFfnOutRefIdeal.τ).loc Cert.GradFfnOutRefIdeal.main_arg0) = m ((c.tc : Thread Cert.GradFfnOutRefIdeal.nD Cert.GradFfnOutRefIdeal.τ).loc Cert.GradFfnOutRefIdeal.main_arg0)
      ∧ r.2.mem ((c.tc : Thread Cert.GradFfnOutRefIdeal.nD Cert.GradFfnOutRefIdeal.τ).loc Cert.GradFfnOutRefIdeal.main_arg1) = m ((c.tc : Thread Cert.GradFfnOutRefIdeal.nD Cert.GradFfnOutRefIdeal.τ).loc Cert.GradFfnOutRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_GradSquare [hGradSquare : Cert.GradSquare.Facts] : Prop :=
  ∀ (m : (ℓ : Loc Cert.GradSquare.nD Cert.GradSquare.τ Cert.GradSquare.sig) → Buf (Elt Bits) ℓ) (g : Dev Cert.GradSquare.nD → PrngReg), Pre_GradSquare m →
    θ_run (Cert.GradSquare.defs (F := Bits)) (onTc (τ := Cert.GradSquare.τ) (Cert.GradSquare.main (F := Bits))) ⟨m, fun _ => 0, g⟩ (fun r => (∀ c : Dev Cert.GradSquare.nD,
      r.2.mem ((c.tc : Thread Cert.GradSquare.nD Cert.GradSquare.τ).loc Cert.GradSquare.main_arg0) = m ((c.tc : Thread Cert.GradSquare.nD Cert.GradSquare.τ).loc Cert.GradSquare.main_arg0)
      ∧ r.2.mem ((c.tc : Thread Cert.GradSquare.nD Cert.GradSquare.τ).loc Cert.GradSquare.main_arg1) = m ((c.tc : Thread Cert.GradSquare.nD Cert.GradSquare.τ).loc Cert.GradSquare.main_arg1))
      ∧ r.2.sem = fun _ => 0)

def quiescent_GradSquareIdeal [hGradSquareIdeal : Cert.GradSquareIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg), Pre_GradSquareIdeal m →
    θ_run (Cert.GradSquareIdeal.defs (F := Ideal)) (onTc (τ := Cert.GradSquareIdeal.τ) (Cert.GradSquareIdeal.main (F := Ideal))) ⟨m, fun _ => 0, g⟩ (fun r => (∀ c : Dev Cert.GradSquareIdeal.nD,
      r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
      ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ r.2.sem = fun _ => 0)

def quiescent_GradSquareRefIdeal [hGradSquareRefIdeal : Cert.GradSquareRefIdeal.Facts] : Prop :=
  ∀ (m : (ℓ : Loc Cert.GradSquareRefIdeal.nD Cert.GradSquareRefIdeal.τ Cert.GradSquareRefIdeal.sig) → Buf (Elt Ideal) ℓ) (g : Dev Cert.GradSquareRefIdeal.nD → PrngReg), Pre_GradSquareRefIdeal m →
    θ_run (Cert.GradSquareRefIdeal.defs (F := Ideal)) (onTc (τ := Cert.GradSquareRefIdeal.τ) (Cert.GradSquareRefIdeal.main (F := Ideal))) ⟨m, fun _ => 0, g⟩ (fun r => (∀ c : Dev Cert.GradSquareRefIdeal.nD,
      r.2.mem ((c.tc : Thread Cert.GradSquareRefIdeal.nD Cert.GradSquareRefIdeal.τ).loc Cert.GradSquareRefIdeal.main_arg0) = m ((c.tc : Thread Cert.GradSquareRefIdeal.nD Cert.GradSquareRefIdeal.τ).loc Cert.GradSquareRefIdeal.main_arg0)
      ∧ r.2.mem ((c.tc : Thread Cert.GradSquareRefIdeal.nD Cert.GradSquareRefIdeal.τ).loc Cert.GradSquareRefIdeal.main_arg1) = m ((c.tc : Thread Cert.GradSquareRefIdeal.nD Cert.GradSquareRefIdeal.τ).loc Cert.GradSquareRefIdeal.main_arg1))
      ∧ r.2.sem = fun _ => 0)

def quiescent_GradHalf [hGradHalf : Cert.GradHalf.Facts] : Prop :=
  ∀ (m : (ℓ : Loc Cert.GradHalf.nD Cert.GradHalf.τ Cert.GradHalf.sig) → Buf (Elt Bits) ℓ) (g : Dev Cert.GradHalf.nD → PrngReg), Pre_GradHalf m →
    θ_run (Cert.GradHalf.defs (F := Bits)) (onTc (τ := Cert.GradHalf.τ) (Cert.GradHalf.main (F := Bits))) ⟨m, fun _ => 0, g⟩ (fun r => (∀ c : Dev Cert.GradHalf.nD,
      r.2.mem ((c.tc : Thread Cert.GradHalf.nD Cert.GradHalf.τ).loc Cert.GradHalf.main_arg0) = m ((c.tc : Thread Cert.GradHalf.nD Cert.GradHalf.τ).loc Cert.GradHalf.main_arg0)
      ∧ r.2.mem ((c.tc : Thread Cert.GradHalf.nD Cert.GradHalf.τ).loc Cert.GradHalf.main_arg1) = m ((c.tc : Thread Cert.GradHalf.nD Cert.GradHalf.τ).loc Cert.GradHalf.main_arg1))
      ∧ r.2.sem = fun _ => 0)

def quiescent_GradHalfIdeal [hGradHalfIdeal : Cert.GradHalfIdeal.Facts] : Prop :=
  ∀ (m : (ℓ : Loc Cert.GradHalfIdeal.nD Cert.GradHalfIdeal.τ Cert.GradHalfIdeal.sig) → Buf (Elt Ideal) ℓ) (g : Dev Cert.GradHalfIdeal.nD → PrngReg), Pre_GradHalfIdeal m →
    θ_run (Cert.GradHalfIdeal.defs (F := Ideal)) (onTc (τ := Cert.GradHalfIdeal.τ) (Cert.GradHalfIdeal.main (F := Ideal))) ⟨m, fun _ => 0, g⟩ (fun r => (∀ c : Dev Cert.GradHalfIdeal.nD,
      r.2.mem ((c.tc : Thread Cert.GradHalfIdeal.nD Cert.GradHalfIdeal.τ).loc Cert.GradHalfIdeal.main_arg0) = m ((c.tc : Thread Cert.GradHalfIdeal.nD Cert.GradHalfIdeal.τ).loc Cert.GradHalfIdeal.main_arg0)
      ∧ r.2.mem ((c.tc : Thread Cert.GradHalfIdeal.nD Cert.GradHalfIdeal.τ).loc Cert.GradHalfIdeal.main_arg1) = m ((c.tc : Thread Cert.GradHalfIdeal.nD Cert.GradHalfIdeal.τ).loc Cert.GradHalfIdeal.main_arg1))
      ∧ r.2.sem = fun _ => 0)

def quiescent_GradHalfRefIdeal [hGradHalfRefIdeal : Cert.GradHalfRefIdeal.Facts] : Prop :=
  ∀ (m : (ℓ : Loc Cert.GradHalfRefIdeal.nD Cert.GradHalfRefIdeal.τ Cert.GradHalfRefIdeal.sig) → Buf (Elt Ideal) ℓ) (g : Dev Cert.GradHalfRefIdeal.nD → PrngReg), Pre_GradHalfRefIdeal m →
    θ_run (Cert.GradHalfRefIdeal.defs (F := Ideal)) (onTc (τ := Cert.GradHalfRefIdeal.τ) (Cert.GradHalfRefIdeal.main (F := Ideal))) ⟨m, fun _ => 0, g⟩ (fun r => (∀ c : Dev Cert.GradHalfRefIdeal.nD,
      r.2.mem ((c.tc : Thread Cert.GradHalfRefIdeal.nD Cert.GradHalfRefIdeal.τ).loc Cert.GradHalfRefIdeal.main_arg0) = m ((c.tc : Thread Cert.GradHalfRefIdeal.nD Cert.GradHalfRefIdeal.τ).loc Cert.GradHalfRefIdeal.main_arg0)
      ∧ r.2.mem ((c.tc : Thread Cert.GradHalfRefIdeal.nD Cert.GradHalfRefIdeal.τ).loc Cert.GradHalfRefIdeal.main_arg1) = m ((c.tc : Thread Cert.GradHalfRefIdeal.nD Cert.GradHalfRefIdeal.τ).loc Cert.GradHalfRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradOm [hGradOm : Cert.GradOm.Facts] : Prop :=
  ∀ (m : (ℓ : Loc Cert.GradOm.nD Cert.GradOm.τ Cert.GradOm.sig) → Buf (Elt Bits) ℓ) (g : Dev Cert.GradOm.nD → PrngReg), Pre_GradOm m →
    θ_run (Cert.GradOm.defs (F := Bits)) (onTc (τ := Cert.GradOm.τ) (Cert.GradOm.main (F := Bits))) ⟨m, fun _ => 0, g⟩ (fun r => (∀ c : Dev Cert.GradOm.nD,
      r.2.mem ((c.tc : Thread Cert.GradOm.nD Cert.GradOm.τ).loc Cert.GradOm.main_arg0) = m ((c.tc : Thread Cert.GradOm.nD Cert.GradOm.τ).loc Cert.GradOm.main_arg0)
      ∧ r.2.mem ((c.tc : Thread Cert.GradOm.nD Cert.GradOm.τ).loc Cert.GradOm.main_arg1) = m ((c.tc : Thread Cert.GradOm.nD Cert.GradOm.τ).loc Cert.GradOm.main_arg1))
      ∧ r.2.sem = fun _ => 0)

def quiescent_GradOmIdeal [hGradOmIdeal : Cert.GradOmIdeal.Facts] : Prop :=
  ∀ (m : (ℓ : Loc Cert.GradOmIdeal.nD Cert.GradOmIdeal.τ Cert.GradOmIdeal.sig) → Buf (Elt Ideal) ℓ) (g : Dev Cert.GradOmIdeal.nD → PrngReg), Pre_GradOmIdeal m →
    θ_run (Cert.GradOmIdeal.defs (F := Ideal)) (onTc (τ := Cert.GradOmIdeal.τ) (Cert.GradOmIdeal.main (F := Ideal))) ⟨m, fun _ => 0, g⟩ (fun r => (∀ c : Dev Cert.GradOmIdeal.nD,
      r.2.mem ((c.tc : Thread Cert.GradOmIdeal.nD Cert.GradOmIdeal.τ).loc Cert.GradOmIdeal.main_arg0) = m ((c.tc : Thread Cert.GradOmIdeal.nD Cert.GradOmIdeal.τ).loc Cert.GradOmIdeal.main_arg0)
      ∧ r.2.mem ((c.tc : Thread Cert.GradOmIdeal.nD Cert.GradOmIdeal.τ).loc Cert.GradOmIdeal.main_arg1) = m ((c.tc : Thread Cert.GradOmIdeal.nD Cert.GradOmIdeal.τ).loc Cert.GradOmIdeal.main_arg1))
      ∧ r.2.sem = fun _ => 0)

def quiescent_GradOmRefIdeal [hGradOmRefIdeal : Cert.GradOmRefIdeal.Facts] : Prop :=
  ∀ (m : (ℓ : Loc Cert.GradOmRefIdeal.nD Cert.GradOmRefIdeal.τ Cert.GradOmRefIdeal.sig) → Buf (Elt Ideal) ℓ) (g : Dev Cert.GradOmRefIdeal.nD → PrngReg), Pre_GradOmRefIdeal m →
    θ_run (Cert.GradOmRefIdeal.defs (F := Ideal)) (onTc (τ := Cert.GradOmRefIdeal.τ) (Cert.GradOmRefIdeal.main (F := Ideal))) ⟨m, fun _ => 0, g⟩ (fun r => (∀ c : Dev Cert.GradOmRefIdeal.nD,
      r.2.mem ((c.tc : Thread Cert.GradOmRefIdeal.nD Cert.GradOmRefIdeal.τ).loc Cert.GradOmRefIdeal.main_arg0) = m ((c.tc : Thread Cert.GradOmRefIdeal.nD Cert.GradOmRefIdeal.τ).loc Cert.GradOmRefIdeal.main_arg0)
      ∧ r.2.mem ((c.tc : Thread Cert.GradOmRefIdeal.nD Cert.GradOmRefIdeal.τ).loc Cert.GradOmRefIdeal.main_arg1) = m ((c.tc : Thread Cert.GradOmRefIdeal.nD Cert.GradOmRefIdeal.τ).loc Cert.GradOmRefIdeal.main_arg1))
      ∧ r.2.sem = fun _ => 0)

def quiescent_GradYGated [hGradYGated : Cert.GradYGated.Facts] : Prop :=
  ∀ (m : (ℓ : Loc Cert.GradYGated.nD Cert.GradYGated.τ Cert.GradYGated.sig) → Buf (Elt Bits) ℓ) (g : Dev Cert.GradYGated.nD → PrngReg), Pre_GradYGated m →
    θ_run (Cert.GradYGated.defs (F := Bits)) (onTc (τ := Cert.GradYGated.τ) (Cert.GradYGated.main (F := Bits))) ⟨m, fun _ => 0, g⟩ (fun r => (∀ c : Dev Cert.GradYGated.nD,
      r.2.mem ((c.tc : Thread Cert.GradYGated.nD Cert.GradYGated.τ).loc Cert.GradYGated.main_arg0) = m ((c.tc : Thread Cert.GradYGated.nD Cert.GradYGated.τ).loc Cert.GradYGated.main_arg0)
      ∧ r.2.mem ((c.tc : Thread Cert.GradYGated.nD Cert.GradYGated.τ).loc Cert.GradYGated.main_arg1) = m ((c.tc : Thread Cert.GradYGated.nD Cert.GradYGated.τ).loc Cert.GradYGated.main_arg1))
      ∧ r.2.sem = fun _ => 0)

def quiescent_GradYGatedIdeal [hGradYGatedIdeal : Cert.GradYGatedIdeal.Facts] : Prop :=
  ∀ (m : (ℓ : Loc Cert.GradYGatedIdeal.nD Cert.GradYGatedIdeal.τ Cert.GradYGatedIdeal.sig) → Buf (Elt Ideal) ℓ) (g : Dev Cert.GradYGatedIdeal.nD → PrngReg), Pre_GradYGatedIdeal m →
    θ_run (Cert.GradYGatedIdeal.defs (F := Ideal)) (onTc (τ := Cert.GradYGatedIdeal.τ) (Cert.GradYGatedIdeal.main (F := Ideal))) ⟨m, fun _ => 0, g⟩ (fun r => (∀ c : Dev Cert.GradYGatedIdeal.nD,
      r.2.mem ((c.tc : Thread Cert.GradYGatedIdeal.nD Cert.GradYGatedIdeal.τ).loc Cert.GradYGatedIdeal.main_arg0) = m ((c.tc : Thread Cert.GradYGatedIdeal.nD Cert.GradYGatedIdeal.τ).loc Cert.GradYGatedIdeal.main_arg0)
      ∧ r.2.mem ((c.tc : Thread Cert.GradYGatedIdeal.nD Cert.GradYGatedIdeal.τ).loc Cert.GradYGatedIdeal.main_arg1) = m ((c.tc : Thread Cert.GradYGatedIdeal.nD Cert.GradYGatedIdeal.τ).loc Cert.GradYGatedIdeal.main_arg1))
      ∧ r.2.sem = fun _ => 0)

def quiescent_GradYGatedRefIdeal [hGradYGatedRefIdeal : Cert.GradYGatedRefIdeal.Facts] : Prop :=
  ∀ (m : (ℓ : Loc Cert.GradYGatedRefIdeal.nD Cert.GradYGatedRefIdeal.τ Cert.GradYGatedRefIdeal.sig) → Buf (Elt Ideal) ℓ) (g : Dev Cert.GradYGatedRefIdeal.nD → PrngReg), Pre_GradYGatedRefIdeal m →
    θ_run (Cert.GradYGatedRefIdeal.defs (F := Ideal)) (onTc (τ := Cert.GradYGatedRefIdeal.τ) (Cert.GradYGatedRefIdeal.main (F := Ideal))) ⟨m, fun _ => 0, g⟩ (fun r => (∀ c : Dev Cert.GradYGatedRefIdeal.nD,
      r.2.mem ((c.tc : Thread Cert.GradYGatedRefIdeal.nD Cert.GradYGatedRefIdeal.τ).loc Cert.GradYGatedRefIdeal.main_arg0) = m ((c.tc : Thread Cert.GradYGatedRefIdeal.nD Cert.GradYGatedRefIdeal.τ).loc Cert.GradYGatedRefIdeal.main_arg0)
      ∧ r.2.mem ((c.tc : Thread Cert.GradYGatedRefIdeal.nD Cert.GradYGatedRefIdeal.τ).loc Cert.GradYGatedRefIdeal.main_arg1) = m ((c.tc : Thread Cert.GradYGatedRefIdeal.nD Cert.GradYGatedRefIdeal.τ).loc Cert.GradYGatedRefIdeal.main_arg1))
      ∧ r.2.sem = fun _ => 0)

def quiescent_GradASb [hGradASb : Cert.GradASb.Facts] : Prop :=
  ∀ (m : (ℓ : Loc Cert.GradASb.nD Cert.GradASb.τ Cert.GradASb.sig) → Buf (Elt Bits) ℓ) (g : Dev Cert.GradASb.nD → PrngReg), Pre_GradASb m →
    θ_run (Cert.GradASb.defs (F := Bits)) (onTc (τ := Cert.GradASb.τ) (Cert.GradASb.main (F := Bits))) ⟨m, fun _ => 0, g⟩ (fun r => (∀ c : Dev Cert.GradASb.nD,
      r.2.mem ((c.tc : Thread Cert.GradASb.nD Cert.GradASb.τ).loc Cert.GradASb.main_arg0) = m ((c.tc : Thread Cert.GradASb.nD Cert.GradASb.τ).loc Cert.GradASb.main_arg0)
      ∧ r.2.mem ((c.tc : Thread Cert.GradASb.nD Cert.GradASb.τ).loc Cert.GradASb.main_arg1) = m ((c.tc : Thread Cert.GradASb.nD Cert.GradASb.τ).loc Cert.GradASb.main_arg1))
      ∧ r.2.sem = fun _ => 0)

def quiescent_GradASbIdeal [hGradASbIdeal : Cert.GradASbIdeal.Facts] : Prop :=
  ∀ (m : (ℓ : Loc Cert.GradASbIdeal.nD Cert.GradASbIdeal.τ Cert.GradASbIdeal.sig) → Buf (Elt Ideal) ℓ) (g : Dev Cert.GradASbIdeal.nD → PrngReg), Pre_GradASbIdeal m →
    θ_run (Cert.GradASbIdeal.defs (F := Ideal)) (onTc (τ := Cert.GradASbIdeal.τ) (Cert.GradASbIdeal.main (F := Ideal))) ⟨m, fun _ => 0, g⟩ (fun r => (∀ c : Dev Cert.GradASbIdeal.nD,
      r.2.mem ((c.tc : Thread Cert.GradASbIdeal.nD Cert.GradASbIdeal.τ).loc Cert.GradASbIdeal.main_arg0) = m ((c.tc : Thread Cert.GradASbIdeal.nD Cert.GradASbIdeal.τ).loc Cert.GradASbIdeal.main_arg0)
      ∧ r.2.mem ((c.tc : Thread Cert.GradASbIdeal.nD Cert.GradASbIdeal.τ).loc Cert.GradASbIdeal.main_arg1) = m ((c.tc : Thread Cert.GradASbIdeal.nD Cert.GradASbIdeal.τ).loc Cert.GradASbIdeal.main_arg1))
      ∧ r.2.sem = fun _ => 0)

def quiescent_GradASbRefIdeal [hGradASbRefIdeal : Cert.GradASbRefIdeal.Facts] : Prop :=
  ∀ (m : (ℓ : Loc Cert.GradASbRefIdeal.nD Cert.GradASbRefIdeal.τ Cert.GradASbRefIdeal.sig) → Buf (Elt Ideal) ℓ) (g : Dev Cert.GradASbRefIdeal.nD → PrngReg), Pre_GradASbRefIdeal m →
    θ_run (Cert.GradASbRefIdeal.defs (F := Ideal)) (onTc (τ := Cert.GradASbRefIdeal.τ) (Cert.GradASbRefIdeal.main (F := Ideal))) ⟨m, fun _ => 0, g⟩ (fun r => (∀ c : Dev Cert.GradASbRefIdeal.nD,
      r.2.mem ((c.tc : Thread Cert.GradASbRefIdeal.nD Cert.GradASbRefIdeal.τ).loc Cert.GradASbRefIdeal.main_arg0) = m ((c.tc : Thread Cert.GradASbRefIdeal.nD Cert.GradASbRefIdeal.τ).loc Cert.GradASbRefIdeal.main_arg0)
      ∧ r.2.mem ((c.tc : Thread Cert.GradASbRefIdeal.nD Cert.GradASbRefIdeal.τ).loc Cert.GradASbRefIdeal.main_arg1) = m ((c.tc : Thread Cert.GradASbRefIdeal.nD Cert.GradASbRefIdeal.τ).loc Cert.GradASbRefIdeal.main_arg1))
      ∧ r.2.sem = fun _ => 0)

def quiescent_GradSbO [hGradSbO : Cert.GradSbO.Facts] : Prop :=
  ∀ (m : (ℓ : Loc Cert.GradSbO.nD Cert.GradSbO.τ Cert.GradSbO.sig) → Buf (Elt Bits) ℓ) (g : Dev Cert.GradSbO.nD → PrngReg), Pre_GradSbO m →
    θ_run (Cert.GradSbO.defs (F := Bits)) (onTc (τ := Cert.GradSbO.τ) (Cert.GradSbO.main (F := Bits))) ⟨m, fun _ => 0, g⟩ (fun r => (∀ c : Dev Cert.GradSbO.nD,
      r.2.mem ((c.tc : Thread Cert.GradSbO.nD Cert.GradSbO.τ).loc Cert.GradSbO.main_arg0) = m ((c.tc : Thread Cert.GradSbO.nD Cert.GradSbO.τ).loc Cert.GradSbO.main_arg0)
      ∧ r.2.mem ((c.tc : Thread Cert.GradSbO.nD Cert.GradSbO.τ).loc Cert.GradSbO.main_arg1) = m ((c.tc : Thread Cert.GradSbO.nD Cert.GradSbO.τ).loc Cert.GradSbO.main_arg1))
      ∧ r.2.sem = fun _ => 0)

def quiescent_GradSbOIdeal [hGradSbOIdeal : Cert.GradSbOIdeal.Facts] : Prop :=
  ∀ (m : (ℓ : Loc Cert.GradSbOIdeal.nD Cert.GradSbOIdeal.τ Cert.GradSbOIdeal.sig) → Buf (Elt Ideal) ℓ) (g : Dev Cert.GradSbOIdeal.nD → PrngReg), Pre_GradSbOIdeal m →
    θ_run (Cert.GradSbOIdeal.defs (F := Ideal)) (onTc (τ := Cert.GradSbOIdeal.τ) (Cert.GradSbOIdeal.main (F := Ideal))) ⟨m, fun _ => 0, g⟩ (fun r => (∀ c : Dev Cert.GradSbOIdeal.nD,
      r.2.mem ((c.tc : Thread Cert.GradSbOIdeal.nD Cert.GradSbOIdeal.τ).loc Cert.GradSbOIdeal.main_arg0) = m ((c.tc : Thread Cert.GradSbOIdeal.nD Cert.GradSbOIdeal.τ).loc Cert.GradSbOIdeal.main_arg0)
      ∧ r.2.mem ((c.tc : Thread Cert.GradSbOIdeal.nD Cert.GradSbOIdeal.τ).loc Cert.GradSbOIdeal.main_arg1) = m ((c.tc : Thread Cert.GradSbOIdeal.nD Cert.GradSbOIdeal.τ).loc Cert.GradSbOIdeal.main_arg1))
      ∧ r.2.sem = fun _ => 0)

def quiescent_GradSbORefIdeal [hGradSbORefIdeal : Cert.GradSbORefIdeal.Facts] : Prop :=
  ∀ (m : (ℓ : Loc Cert.GradSbORefIdeal.nD Cert.GradSbORefIdeal.τ Cert.GradSbORefIdeal.sig) → Buf (Elt Ideal) ℓ) (g : Dev Cert.GradSbORefIdeal.nD → PrngReg), Pre_GradSbORefIdeal m →
    θ_run (Cert.GradSbORefIdeal.defs (F := Ideal)) (onTc (τ := Cert.GradSbORefIdeal.τ) (Cert.GradSbORefIdeal.main (F := Ideal))) ⟨m, fun _ => 0, g⟩ (fun r => (∀ c : Dev Cert.GradSbORefIdeal.nD,
      r.2.mem ((c.tc : Thread Cert.GradSbORefIdeal.nD Cert.GradSbORefIdeal.τ).loc Cert.GradSbORefIdeal.main_arg0) = m ((c.tc : Thread Cert.GradSbORefIdeal.nD Cert.GradSbORefIdeal.τ).loc Cert.GradSbORefIdeal.main_arg0)
      ∧ r.2.mem ((c.tc : Thread Cert.GradSbORefIdeal.nD Cert.GradSbORefIdeal.τ).loc Cert.GradSbORefIdeal.main_arg1) = m ((c.tc : Thread Cert.GradSbORefIdeal.nD Cert.GradSbORefIdeal.τ).loc Cert.GradSbORefIdeal.main_arg1))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ r.2.sem = fun _ => 0)

def quiescent_SbOutRefIdeal [hSbOutRefIdeal : Cert.SbOutRefIdeal.Facts] : Prop :=
  ∀ (m : (ℓ : Loc Cert.SbOutRefIdeal.nD Cert.SbOutRefIdeal.τ Cert.SbOutRefIdeal.sig) → Buf (Elt Ideal) ℓ) (g : Dev Cert.SbOutRefIdeal.nD → PrngReg), Pre_SbOutRefIdeal m →
    θ_run (Cert.SbOutRefIdeal.defs (F := Ideal)) (onTc (τ := Cert.SbOutRefIdeal.τ) (Cert.SbOutRefIdeal.main (F := Ideal))) ⟨m, fun _ => 0, g⟩ (fun r => (∀ c : Dev Cert.SbOutRefIdeal.nD,
      r.2.mem ((c.tc : Thread Cert.SbOutRefIdeal.nD Cert.SbOutRefIdeal.τ).loc Cert.SbOutRefIdeal.main_arg0) = m ((c.tc : Thread Cert.SbOutRefIdeal.nD Cert.SbOutRefIdeal.τ).loc Cert.SbOutRefIdeal.main_arg0)
      ∧ r.2.mem ((c.tc : Thread Cert.SbOutRefIdeal.nD Cert.SbOutRefIdeal.τ).loc Cert.SbOutRefIdeal.main_arg1) = m ((c.tc : Thread Cert.SbOutRefIdeal.nD Cert.SbOutRefIdeal.τ).loc Cert.SbOutRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3)
      ∧ r.2.mem ((c.tc : Thread Cert.RetOutRefIdeal.nD Cert.RetOutRefIdeal.τ).loc Cert.RetOutRefIdeal.main_arg4) = m ((c.tc : Thread Cert.RetOutRefIdeal.nD Cert.RetOutRefIdeal.τ).loc Cert.RetOutRefIdeal.main_arg4))
      ∧ r.2.sem = fun _ => 0)

def quiescent_LnOut [hLnOut : Cert.LnOut.Facts] : Prop :=
  ∀ (m : (ℓ : Loc Cert.LnOut.nD Cert.LnOut.τ Cert.LnOut.sig) → Buf (Elt Bits) ℓ) (g : Dev Cert.LnOut.nD → PrngReg), Pre_LnOut m →
    θ_run (Cert.LnOut.defs (F := Bits)) (onTc (τ := Cert.LnOut.τ) (Cert.LnOut.main (F := Bits))) ⟨m, fun _ => 0, g⟩ (fun r => (∀ c : Dev Cert.LnOut.nD,
      r.2.mem ((c.tc : Thread Cert.LnOut.nD Cert.LnOut.τ).loc Cert.LnOut.main_arg0) = m ((c.tc : Thread Cert.LnOut.nD Cert.LnOut.τ).loc Cert.LnOut.main_arg0)
      ∧ r.2.mem ((c.tc : Thread Cert.LnOut.nD Cert.LnOut.τ).loc Cert.LnOut.main_arg1) = m ((c.tc : Thread Cert.LnOut.nD Cert.LnOut.τ).loc Cert.LnOut.main_arg1)
      ∧ r.2.mem ((c.tc : Thread Cert.LnOut.nD Cert.LnOut.τ).loc Cert.LnOut.main_arg2) = m ((c.tc : Thread Cert.LnOut.nD Cert.LnOut.τ).loc Cert.LnOut.main_arg2)
      ∧ r.2.mem ((c.tc : Thread Cert.LnOut.nD Cert.LnOut.τ).loc Cert.LnOut.main_arg3) = m ((c.tc : Thread Cert.LnOut.nD Cert.LnOut.τ).loc Cert.LnOut.main_arg3)
      ∧ r.2.mem ((c.tc : Thread Cert.LnOut.nD Cert.LnOut.τ).loc Cert.LnOut.main_arg4) = m ((c.tc : Thread Cert.LnOut.nD Cert.LnOut.τ).loc Cert.LnOut.main_arg4))
      ∧ r.2.sem = fun _ => 0)

def quiescent_LnOutIdeal [hLnOutIdeal : Cert.LnOutIdeal.Facts] : Prop :=
  ∀ (m : (ℓ : Loc Cert.LnOutIdeal.nD Cert.LnOutIdeal.τ Cert.LnOutIdeal.sig) → Buf (Elt Ideal) ℓ) (g : Dev Cert.LnOutIdeal.nD → PrngReg), Pre_LnOutIdeal m →
    θ_run (Cert.LnOutIdeal.defs (F := Ideal)) (onTc (τ := Cert.LnOutIdeal.τ) (Cert.LnOutIdeal.main (F := Ideal))) ⟨m, fun _ => 0, g⟩ (fun r => (∀ c : Dev Cert.LnOutIdeal.nD,
      r.2.mem ((c.tc : Thread Cert.LnOutIdeal.nD Cert.LnOutIdeal.τ).loc Cert.LnOutIdeal.main_arg0) = m ((c.tc : Thread Cert.LnOutIdeal.nD Cert.LnOutIdeal.τ).loc Cert.LnOutIdeal.main_arg0)
      ∧ r.2.mem ((c.tc : Thread Cert.LnOutIdeal.nD Cert.LnOutIdeal.τ).loc Cert.LnOutIdeal.main_arg1) = m ((c.tc : Thread Cert.LnOutIdeal.nD Cert.LnOutIdeal.τ).loc Cert.LnOutIdeal.main_arg1)
      ∧ r.2.mem ((c.tc : Thread Cert.LnOutIdeal.nD Cert.LnOutIdeal.τ).loc Cert.LnOutIdeal.main_arg2) = m ((c.tc : Thread Cert.LnOutIdeal.nD Cert.LnOutIdeal.τ).loc Cert.LnOutIdeal.main_arg2)
      ∧ r.2.mem ((c.tc : Thread Cert.LnOutIdeal.nD Cert.LnOutIdeal.τ).loc Cert.LnOutIdeal.main_arg3) = m ((c.tc : Thread Cert.LnOutIdeal.nD Cert.LnOutIdeal.τ).loc Cert.LnOutIdeal.main_arg3)
      ∧ r.2.mem ((c.tc : Thread Cert.LnOutIdeal.nD Cert.LnOutIdeal.τ).loc Cert.LnOutIdeal.main_arg4) = m ((c.tc : Thread Cert.LnOutIdeal.nD Cert.LnOutIdeal.τ).loc Cert.LnOutIdeal.main_arg4))
      ∧ r.2.sem = fun _ => 0)

def quiescent_LnOutRefIdeal [hLnOutRefIdeal : Cert.LnOutRefIdeal.Facts] : Prop :=
  ∀ (m : (ℓ : Loc Cert.LnOutRefIdeal.nD Cert.LnOutRefIdeal.τ Cert.LnOutRefIdeal.sig) → Buf (Elt Ideal) ℓ) (g : Dev Cert.LnOutRefIdeal.nD → PrngReg), Pre_LnOutRefIdeal m →
    θ_run (Cert.LnOutRefIdeal.defs (F := Ideal)) (onTc (τ := Cert.LnOutRefIdeal.τ) (Cert.LnOutRefIdeal.main (F := Ideal))) ⟨m, fun _ => 0, g⟩ (fun r => (∀ c : Dev Cert.LnOutRefIdeal.nD,
      r.2.mem ((c.tc : Thread Cert.LnOutRefIdeal.nD Cert.LnOutRefIdeal.τ).loc Cert.LnOutRefIdeal.main_arg0) = m ((c.tc : Thread Cert.LnOutRefIdeal.nD Cert.LnOutRefIdeal.τ).loc Cert.LnOutRefIdeal.main_arg0)
      ∧ r.2.mem ((c.tc : Thread Cert.LnOutRefIdeal.nD Cert.LnOutRefIdeal.τ).loc Cert.LnOutRefIdeal.main_arg1) = m ((c.tc : Thread Cert.LnOutRefIdeal.nD Cert.LnOutRefIdeal.τ).loc Cert.LnOutRefIdeal.main_arg1)
      ∧ r.2.mem ((c.tc : Thread Cert.LnOutRefIdeal.nD Cert.LnOutRefIdeal.τ).loc Cert.LnOutRefIdeal.main_arg2) = m ((c.tc : Thread Cert.LnOutRefIdeal.nD Cert.LnOutRefIdeal.τ).loc Cert.LnOutRefIdeal.main_arg2)
      ∧ r.2.mem ((c.tc : Thread Cert.LnOutRefIdeal.nD Cert.LnOutRefIdeal.τ).loc Cert.LnOutRefIdeal.main_arg3) = m ((c.tc : Thread Cert.LnOutRefIdeal.nD Cert.LnOutRefIdeal.τ).loc Cert.LnOutRefIdeal.main_arg3)
      ∧ r.2.mem ((c.tc : Thread Cert.LnOutRefIdeal.nD Cert.LnOutRefIdeal.τ).loc Cert.LnOutRefIdeal.main_arg4) = m ((c.tc : Thread Cert.LnOutRefIdeal.nD Cert.LnOutRefIdeal.τ).loc Cert.LnOutRefIdeal.main_arg4))
      ∧ r.2.sem = fun _ => 0)

def quiescent_GradMix [hGradMix : Cert.GradMix.Facts] : Prop :=
  ∀ (m : (ℓ : Loc Cert.GradMix.nD Cert.GradMix.τ Cert.GradMix.sig) → Buf (Elt Bits) ℓ) (g : Dev Cert.GradMix.nD → PrngReg), Pre_GradMix m →
    θ_run (Cert.GradMix.defs (F := Bits)) (onTc (τ := Cert.GradMix.τ) (Cert.GradMix.main (F := Bits))) ⟨m, fun _ => 0, g⟩ (fun r => (∀ c : Dev Cert.GradMix.nD,
      r.2.mem ((c.tc : Thread Cert.GradMix.nD Cert.GradMix.τ).loc Cert.GradMix.main_arg0) = m ((c.tc : Thread Cert.GradMix.nD Cert.GradMix.τ).loc Cert.GradMix.main_arg0)
      ∧ r.2.mem ((c.tc : Thread Cert.GradMix.nD Cert.GradMix.τ).loc Cert.GradMix.main_arg1) = m ((c.tc : Thread Cert.GradMix.nD Cert.GradMix.τ).loc Cert.GradMix.main_arg1)
      ∧ r.2.mem ((c.tc : Thread Cert.GradMix.nD Cert.GradMix.τ).loc Cert.GradMix.main_arg2) = m ((c.tc : Thread Cert.GradMix.nD Cert.GradMix.τ).loc Cert.GradMix.main_arg2)
      ∧ r.2.mem ((c.tc : Thread Cert.GradMix.nD Cert.GradMix.τ).loc Cert.GradMix.main_arg3) = m ((c.tc : Thread Cert.GradMix.nD Cert.GradMix.τ).loc Cert.GradMix.main_arg3)
      ∧ r.2.mem ((c.tc : Thread Cert.GradMix.nD Cert.GradMix.τ).loc Cert.GradMix.main_arg4) = m ((c.tc : Thread Cert.GradMix.nD Cert.GradMix.τ).loc Cert.GradMix.main_arg4)
      ∧ r.2.mem ((c.tc : Thread Cert.GradMix.nD Cert.GradMix.τ).loc Cert.GradMix.main_arg5) = m ((c.tc : Thread Cert.GradMix.nD Cert.GradMix.τ).loc Cert.GradMix.main_arg5))
      ∧ r.2.sem = fun _ => 0)

def quiescent_GradMixIdeal [hGradMixIdeal : Cert.GradMixIdeal.Facts] : Prop :=
  ∀ (m : (ℓ : Loc Cert.GradMixIdeal.nD Cert.GradMixIdeal.τ Cert.GradMixIdeal.sig) → Buf (Elt Ideal) ℓ) (g : Dev Cert.GradMixIdeal.nD → PrngReg), Pre_GradMixIdeal m →
    θ_run (Cert.GradMixIdeal.defs (F := Ideal)) (onTc (τ := Cert.GradMixIdeal.τ) (Cert.GradMixIdeal.main (F := Ideal))) ⟨m, fun _ => 0, g⟩ (fun r => (∀ c : Dev Cert.GradMixIdeal.nD,
      r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
      ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
      ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2)
      ∧ r.2.mem ((c.tc : Thread Cert.GradMixIdeal.nD Cert.GradMixIdeal.τ).loc Cert.GradMixIdeal.main_arg3) = m ((c.tc : Thread Cert.GradMixIdeal.nD Cert.GradMixIdeal.τ).loc Cert.GradMixIdeal.main_arg3)
      ∧ r.2.mem ((c.tc : Thread Cert.GradMixIdeal.nD Cert.GradMixIdeal.τ).loc Cert.GradMixIdeal.main_arg4) = m ((c.tc : Thread Cert.GradMixIdeal.nD Cert.GradMixIdeal.τ).loc Cert.GradMixIdeal.main_arg4)
      ∧ r.2.mem ((c.tc : Thread Cert.GradMixIdeal.nD Cert.GradMixIdeal.τ).loc Cert.GradMixIdeal.main_arg5) = m ((c.tc : Thread Cert.GradMixIdeal.nD Cert.GradMixIdeal.τ).loc Cert.GradMixIdeal.main_arg5))
      ∧ r.2.sem = fun _ => 0)

def quiescent_GradMixRefIdeal [hGradMixRefIdeal : Cert.GradMixRefIdeal.Facts] : Prop :=
  ∀ (m : (ℓ : Loc Cert.GradMixRefIdeal.nD Cert.GradMixRefIdeal.τ Cert.GradMixRefIdeal.sig) → Buf (Elt Ideal) ℓ) (g : Dev Cert.GradMixRefIdeal.nD → PrngReg), Pre_GradMixRefIdeal m →
    θ_run (Cert.GradMixRefIdeal.defs (F := Ideal)) (onTc (τ := Cert.GradMixRefIdeal.τ) (Cert.GradMixRefIdeal.main (F := Ideal))) ⟨m, fun _ => 0, g⟩ (fun r => (∀ c : Dev Cert.GradMixRefIdeal.nD,
      r.2.mem ((c.tc : Thread Cert.GradMixRefIdeal.nD Cert.GradMixRefIdeal.τ).loc Cert.GradMixRefIdeal.main_arg0) = m ((c.tc : Thread Cert.GradMixRefIdeal.nD Cert.GradMixRefIdeal.τ).loc Cert.GradMixRefIdeal.main_arg0)
      ∧ r.2.mem ((c.tc : Thread Cert.GradMixRefIdeal.nD Cert.GradMixRefIdeal.τ).loc Cert.GradMixRefIdeal.main_arg1) = m ((c.tc : Thread Cert.GradMixRefIdeal.nD Cert.GradMixRefIdeal.τ).loc Cert.GradMixRefIdeal.main_arg1)
      ∧ r.2.mem ((c.tc : Thread Cert.GradMixRefIdeal.nD Cert.GradMixRefIdeal.τ).loc Cert.GradMixRefIdeal.main_arg2) = m ((c.tc : Thread Cert.GradMixRefIdeal.nD Cert.GradMixRefIdeal.τ).loc Cert.GradMixRefIdeal.main_arg2)
      ∧ r.2.mem ((c.tc : Thread Cert.GradMixRefIdeal.nD Cert.GradMixRefIdeal.τ).loc Cert.GradMixRefIdeal.main_arg3) = m ((c.tc : Thread Cert.GradMixRefIdeal.nD Cert.GradMixRefIdeal.τ).loc Cert.GradMixRefIdeal.main_arg3)
      ∧ r.2.mem ((c.tc : Thread Cert.GradMixRefIdeal.nD Cert.GradMixRefIdeal.τ).loc Cert.GradMixRefIdeal.main_arg4) = m ((c.tc : Thread Cert.GradMixRefIdeal.nD Cert.GradMixRefIdeal.τ).loc Cert.GradMixRefIdeal.main_arg4)
      ∧ r.2.mem ((c.tc : Thread Cert.GradMixRefIdeal.nD Cert.GradMixRefIdeal.τ).loc Cert.GradMixRefIdeal.main_arg5) = m ((c.tc : Thread Cert.GradMixRefIdeal.nD Cert.GradMixRefIdeal.τ).loc Cert.GradMixRefIdeal.main_arg5))
      ∧ r.2.sem = fun _ => 0)

def quiescent_GradNorm [hGradNorm : Cert.GradNorm.Facts] : Prop :=
  ∀ (m : (ℓ : Loc Cert.GradNorm.nD Cert.GradNorm.τ Cert.GradNorm.sig) → Buf (Elt Bits) ℓ) (g : Dev Cert.GradNorm.nD → PrngReg), Pre_GradNorm m →
    θ_run (Cert.GradNorm.defs (F := Bits)) (onTc (τ := Cert.GradNorm.τ) (Cert.GradNorm.main (F := Bits))) ⟨m, fun _ => 0, g⟩ (fun r => (∀ c : Dev Cert.GradNorm.nD,
      r.2.mem ((c.tc : Thread Cert.GradNorm.nD Cert.GradNorm.τ).loc Cert.GradNorm.main_arg0) = m ((c.tc : Thread Cert.GradNorm.nD Cert.GradNorm.τ).loc Cert.GradNorm.main_arg0)
      ∧ r.2.mem ((c.tc : Thread Cert.GradNorm.nD Cert.GradNorm.τ).loc Cert.GradNorm.main_arg1) = m ((c.tc : Thread Cert.GradNorm.nD Cert.GradNorm.τ).loc Cert.GradNorm.main_arg1)
      ∧ r.2.mem ((c.tc : Thread Cert.GradNorm.nD Cert.GradNorm.τ).loc Cert.GradNorm.main_arg2) = m ((c.tc : Thread Cert.GradNorm.nD Cert.GradNorm.τ).loc Cert.GradNorm.main_arg2)
      ∧ r.2.mem ((c.tc : Thread Cert.GradNorm.nD Cert.GradNorm.τ).loc Cert.GradNorm.main_arg3) = m ((c.tc : Thread Cert.GradNorm.nD Cert.GradNorm.τ).loc Cert.GradNorm.main_arg3)
      ∧ r.2.mem ((c.tc : Thread Cert.GradNorm.nD Cert.GradNorm.τ).loc Cert.GradNorm.main_arg4) = m ((c.tc : Thread Cert.GradNorm.nD Cert.GradNorm.τ).loc Cert.GradNorm.main_arg4))
      ∧ r.2.sem = fun _ => 0)

def quiescent_GradNormIdeal [hGradNormIdeal : Cert.GradNormIdeal.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
      ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3)
      ∧ r.2.mem ((c.tc : Thread Cert.GradNormIdeal.nD Cert.GradNormIdeal.τ).loc Cert.GradNormIdeal.main_arg4) = m ((c.tc : Thread Cert.GradNormIdeal.nD Cert.GradNormIdeal.τ).loc Cert.GradNormIdeal.main_arg4))
      ∧ r.2.sem = fun _ => 0)

def quiescent_GradNormIdeal_pre_finite_norm [hGradNormIdeal : Cert.GradNormIdeal.Facts] [hPre_finite_norm : Cert.Pre_finite_norm.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal_finite_norm m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
      ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3)
      ∧ r.2.mem ((c.tc : Thread Cert.GradNormIdeal.nD Cert.GradNormIdeal.τ).loc Cert.GradNormIdeal.main_arg4) = m ((c.tc : Thread Cert.GradNormIdeal.nD Cert.GradNormIdeal.τ).loc Cert.GradNormIdeal.main_arg4))
      ∧ r.2.sem = fun _ => 0)

def quiescent_GradNormRefIdeal [hGradNormRefIdeal : Cert.GradNormRefIdeal.Facts] : Prop :=
  ∀ (m : (ℓ : Loc Cert.GradNormRefIdeal.nD Cert.GradNormRefIdeal.τ Cert.GradNormRefIdeal.sig) → Buf (Elt Ideal) ℓ) (g : Dev Cert.GradNormRefIdeal.nD → PrngReg), Pre_GradNormRefIdeal m →
    θ_run (Cert.GradNormRefIdeal.defs (F := Ideal)) (onTc (τ := Cert.GradNormRefIdeal.τ) (Cert.GradNormRefIdeal.main (F := Ideal))) ⟨m, fun _ => 0, g⟩ (fun r => (∀ c : Dev Cert.GradNormRefIdeal.nD,
      r.2.mem ((c.tc : Thread Cert.GradNormRefIdeal.nD Cert.GradNormRefIdeal.τ).loc Cert.GradNormRefIdeal.main_arg0) = m ((c.tc : Thread Cert.GradNormRefIdeal.nD Cert.GradNormRefIdeal.τ).loc Cert.GradNormRefIdeal.main_arg0)
      ∧ r.2.mem ((c.tc : Thread Cert.GradNormRefIdeal.nD Cert.GradNormRefIdeal.τ).loc Cert.GradNormRefIdeal.main_arg1) = m ((c.tc : Thread Cert.GradNormRefIdeal.nD Cert.GradNormRefIdeal.τ).loc Cert.GradNormRefIdeal.main_arg1)
      ∧ r.2.mem ((c.tc : Thread Cert.GradNormRefIdeal.nD Cert.GradNormRefIdeal.τ).loc Cert.GradNormRefIdeal.main_arg2) = m ((c.tc : Thread Cert.GradNormRefIdeal.nD Cert.GradNormRefIdeal.τ).loc Cert.GradNormRefIdeal.main_arg2)
      ∧ r.2.mem ((c.tc : Thread Cert.GradNormRefIdeal.nD Cert.GradNormRefIdeal.τ).loc Cert.GradNormRefIdeal.main_arg3) = m ((c.tc : Thread Cert.GradNormRefIdeal.nD Cert.GradNormRefIdeal.τ).loc Cert.GradNormRefIdeal.main_arg3)
      ∧ r.2.mem ((c.tc : Thread Cert.GradNormRefIdeal.nD Cert.GradNormRefIdeal.τ).loc Cert.GradNormRefIdeal.main_arg4) = m ((c.tc : Thread Cert.GradNormRefIdeal.nD Cert.GradNormRefIdeal.τ).loc Cert.GradNormRefIdeal.main_arg4))
      ∧ r.2.sem = fun _ => 0)

def quiescent_GradNormRefIdeal_pre_finite_norm [hGradNormRefIdeal : Cert.GradNormRefIdeal.Facts] [hPre_finite_norm : Cert.Pre_finite_norm.Facts] : Prop :=
  ∀ (m : (ℓ : Loc Cert.GradNormRefIdeal.nD Cert.GradNormRefIdeal.τ Cert.GradNormRefIdeal.sig) → Buf (Elt Ideal) ℓ) (g : Dev Cert.GradNormRefIdeal.nD → PrngReg), Pre_GradNormRefIdeal_finite_norm m →
    θ_run (Cert.GradNormRefIdeal.defs (F := Ideal)) (onTc (τ := Cert.GradNormRefIdeal.τ) (Cert.GradNormRefIdeal.main (F := Ideal))) ⟨m, fun _ => 0, g⟩ (fun r => (∀ c : Dev Cert.GradNormRefIdeal.nD,
      r.2.mem ((c.tc : Thread Cert.GradNormRefIdeal.nD Cert.GradNormRefIdeal.τ).loc Cert.GradNormRefIdeal.main_arg0) = m ((c.tc : Thread Cert.GradNormRefIdeal.nD Cert.GradNormRefIdeal.τ).loc Cert.GradNormRefIdeal.main_arg0)
      ∧ r.2.mem ((c.tc : Thread Cert.GradNormRefIdeal.nD Cert.GradNormRefIdeal.τ).loc Cert.GradNormRefIdeal.main_arg1) = m ((c.tc : Thread Cert.GradNormRefIdeal.nD Cert.GradNormRefIdeal.τ).loc Cert.GradNormRefIdeal.main_arg1)
      ∧ r.2.mem ((c.tc : Thread Cert.GradNormRefIdeal.nD Cert.GradNormRefIdeal.τ).loc Cert.GradNormRefIdeal.main_arg2) = m ((c.tc : Thread Cert.GradNormRefIdeal.nD Cert.GradNormRefIdeal.τ).loc Cert.GradNormRefIdeal.main_arg2)
      ∧ r.2.mem ((c.tc : Thread Cert.GradNormRefIdeal.nD Cert.GradNormRefIdeal.τ).loc Cert.GradNormRefIdeal.main_arg3) = m ((c.tc : Thread Cert.GradNormRefIdeal.nD Cert.GradNormRefIdeal.τ).loc Cert.GradNormRefIdeal.main_arg3)
      ∧ r.2.mem ((c.tc : Thread Cert.GradNormRefIdeal.nD Cert.GradNormRefIdeal.τ).loc Cert.GradNormRefIdeal.main_arg4) = m ((c.tc : Thread Cert.GradNormRefIdeal.nD Cert.GradNormRefIdeal.τ).loc Cert.GradNormRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_GradMemKv [hGradMemKv : Cert.GradMemKv.Facts] : Prop :=
  ∀ (m : (ℓ : Loc Cert.GradMemKv.nD Cert.GradMemKv.τ Cert.GradMemKv.sig) → Buf (Elt Bits) ℓ) (g : Dev Cert.GradMemKv.nD → PrngReg), Pre_GradMemKv m →
    θ_run (Cert.GradMemKv.defs (F := Bits)) (onTc (τ := Cert.GradMemKv.τ) (Cert.GradMemKv.main (F := Bits))) ⟨m, fun _ => 0, g⟩ (fun r => (∀ c : Dev Cert.GradMemKv.nD,
      r.2.mem ((c.tc : Thread Cert.GradMemKv.nD Cert.GradMemKv.τ).loc Cert.GradMemKv.main_arg0) = m ((c.tc : Thread Cert.GradMemKv.nD Cert.GradMemKv.τ).loc Cert.GradMemKv.main_arg0)
      ∧ r.2.mem ((c.tc : Thread Cert.GradMemKv.nD Cert.GradMemKv.τ).loc Cert.GradMemKv.main_arg1) = m ((c.tc : Thread Cert.GradMemKv.nD Cert.GradMemKv.τ).loc Cert.GradMemKv.main_arg1))
      ∧ r.2.sem = fun _ => 0)

def quiescent_GradMemKvIdeal [hGradMemKvIdeal : Cert.GradMemKvIdeal.Facts] : Prop :=
  ∀ (m : (ℓ : Loc Cert.GradMemKvIdeal.nD Cert.GradMemKvIdeal.τ Cert.GradMemKvIdeal.sig) → Buf (Elt Ideal) ℓ) (g : Dev Cert.GradMemKvIdeal.nD → PrngReg), Pre_GradMemKvIdeal m →
    θ_run (Cert.GradMemKvIdeal.defs (F := Ideal)) (onTc (τ := Cert.GradMemKvIdeal.τ) (Cert.GradMemKvIdeal.main (F := Ideal))) ⟨m, fun _ => 0, g⟩ (fun r => (∀ c : Dev Cert.GradMemKvIdeal.nD,
      r.2.mem ((c.tc : Thread Cert.GradMemKvIdeal.nD Cert.GradMemKvIdeal.τ).loc Cert.GradMemKvIdeal.main_arg0) = m ((c.tc : Thread Cert.GradMemKvIdeal.nD Cert.GradMemKvIdeal.τ).loc Cert.GradMemKvIdeal.main_arg0)
      ∧ r.2.mem ((c.tc : Thread Cert.GradMemKvIdeal.nD Cert.GradMemKvIdeal.τ).loc Cert.GradMemKvIdeal.main_arg1) = m ((c.tc : Thread Cert.GradMemKvIdeal.nD Cert.GradMemKvIdeal.τ).loc Cert.GradMemKvIdeal.main_arg1))
      ∧ r.2.sem = fun _ => 0)

def quiescent_GradMemKvRefIdeal [hGradMemKvRefIdeal : Cert.GradMemKvRefIdeal.Facts] : Prop :=
  ∀ (m : (ℓ : Loc Cert.GradMemKvRefIdeal.nD Cert.GradMemKvRefIdeal.τ Cert.GradMemKvRefIdeal.sig) → Buf (Elt Ideal) ℓ) (g : Dev Cert.GradMemKvRefIdeal.nD → PrngReg), Pre_GradMemKvRefIdeal m →
    θ_run (Cert.GradMemKvRefIdeal.defs (F := Ideal)) (onTc (τ := Cert.GradMemKvRefIdeal.τ) (Cert.GradMemKvRefIdeal.main (F := Ideal))) ⟨m, fun _ => 0, g⟩ (fun r => (∀ c : Dev Cert.GradMemKvRefIdeal.nD,
      r.2.mem ((c.tc : Thread Cert.GradMemKvRefIdeal.nD Cert.GradMemKvRefIdeal.τ).loc Cert.GradMemKvRefIdeal.main_arg0) = m ((c.tc : Thread Cert.GradMemKvRefIdeal.nD Cert.GradMemKvRefIdeal.τ).loc Cert.GradMemKvRefIdeal.main_arg0)
      ∧ r.2.mem ((c.tc : Thread Cert.GradMemKvRefIdeal.nD Cert.GradMemKvRefIdeal.τ).loc Cert.GradMemKvRefIdeal.main_arg1) = m ((c.tc : Thread Cert.GradMemKvRefIdeal.nD Cert.GradMemKvRefIdeal.τ).loc Cert.GradMemKvRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ r.2.sem = fun _ => 0)

def quiescent_FfnOutIdeal_pre_finite_out [hFfnOutIdeal : Cert.FfnOutIdeal.Facts] [hPre_finite_out : Cert.Pre_finite_out.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal_finite_out m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5))
      ∧ r.2.sem = fun _ => 0)

def quiescent_FfnOutRefIdeal_pre_finite_out [hFfnOutRefIdeal : Cert.FfnOutRefIdeal.Facts] [hPre_finite_out : Cert.Pre_finite_out.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal_finite_out m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSbO [hAdamSbO : Cert.AdamSbO.Facts] : Prop :=
  ∀ (m : (ℓ : Loc Cert.AdamSbO.nD Cert.AdamSbO.τ Cert.AdamSbO.sig) → Buf (Elt Bits) ℓ) (g : Dev Cert.AdamSbO.nD → PrngReg), Pre_AdamSbO m →
    θ_run (Cert.AdamSbO.defs (F := Bits)) (onTc (τ := Cert.AdamSbO.τ) (Cert.AdamSbO.main (F := Bits))) ⟨m, fun _ => 0, g⟩ (fun r => (∀ c : Dev Cert.AdamSbO.nD,
      r.2.mem ((c.tc : Thread Cert.AdamSbO.nD Cert.AdamSbO.τ).loc Cert.AdamSbO.main_arg0) = m ((c.tc : Thread Cert.AdamSbO.nD Cert.AdamSbO.τ).loc Cert.AdamSbO.main_arg0)
      ∧ r.2.mem ((c.tc : Thread Cert.AdamSbO.nD Cert.AdamSbO.τ).loc Cert.AdamSbO.main_arg1) = m ((c.tc : Thread Cert.AdamSbO.nD Cert.AdamSbO.τ).loc Cert.AdamSbO.main_arg1)
      ∧ r.2.mem ((c.tc : Thread Cert.AdamSbO.nD Cert.AdamSbO.τ).loc Cert.AdamSbO.main_arg2) = m ((c.tc : Thread Cert.AdamSbO.nD Cert.AdamSbO.τ).loc Cert.AdamSbO.main_arg2)
      ∧ r.2.mem ((c.tc : Thread Cert.AdamSbO.nD Cert.AdamSbO.τ).loc Cert.AdamSbO.main_arg3) = m ((c.tc : Thread Cert.AdamSbO.nD Cert.AdamSbO.τ).loc Cert.AdamSbO.main_arg3))
      ∧ r.2.sem = fun _ => 0)

def quiescent_AdamSbOIdeal [hAdamSbOIdeal : Cert.AdamSbOIdeal.Facts] : Prop :=
  ∀ (m : (ℓ : Loc Cert.AdamSbOIdeal.nD Cert.AdamSbOIdeal.τ Cert.AdamSbOIdeal.sig) → Buf (Elt Ideal) ℓ) (g : Dev Cert.AdamSbOIdeal.nD → PrngReg), Pre_AdamSbOIdeal m →
    θ_run (Cert.AdamSbOIdeal.defs (F := Ideal)) (onTc (τ := Cert.AdamSbOIdeal.τ) (Cert.AdamSbOIdeal.main (F := Ideal))) ⟨m, fun _ => 0, g⟩ (fun r => (∀ c : Dev Cert.AdamSbOIdeal.nD,
      r.2.mem ((c.tc : Thread Cert.AdamSbOIdeal.nD Cert.AdamSbOIdeal.τ).loc Cert.AdamSbOIdeal.main_arg0) = m ((c.tc : Thread Cert.AdamSbOIdeal.nD Cert.AdamSbOIdeal.τ).loc Cert.AdamSbOIdeal.main_arg0)
      ∧ r.2.mem ((c.tc : Thread Cert.AdamSbOIdeal.nD Cert.AdamSbOIdeal.τ).loc Cert.AdamSbOIdeal.main_arg1) = m ((c.tc : Thread Cert.AdamSbOIdeal.nD Cert.AdamSbOIdeal.τ).loc Cert.AdamSbOIdeal.main_arg1)
      ∧ r.2.mem ((c.tc : Thread Cert.AdamSbOIdeal.nD Cert.AdamSbOIdeal.τ).loc Cert.AdamSbOIdeal.main_arg2) = m ((c.tc : Thread Cert.AdamSbOIdeal.nD Cert.AdamSbOIdeal.τ).loc Cert.AdamSbOIdeal.main_arg2)
      ∧ r.2.mem ((c.tc : Thread Cert.AdamSbOIdeal.nD Cert.AdamSbOIdeal.τ).loc Cert.AdamSbOIdeal.main_arg3) = m ((c.tc : Thread Cert.AdamSbOIdeal.nD Cert.AdamSbOIdeal.τ).loc Cert.AdamSbOIdeal.main_arg3))
      ∧ r.2.sem = fun _ => 0)

def quiescent_AdamSbORefIdeal [hAdamSbORefIdeal : Cert.AdamSbORefIdeal.Facts] : Prop :=
  ∀ (m : (ℓ : Loc Cert.AdamSbORefIdeal.nD Cert.AdamSbORefIdeal.τ Cert.AdamSbORefIdeal.sig) → Buf (Elt Ideal) ℓ) (g : Dev Cert.AdamSbORefIdeal.nD → PrngReg), Pre_AdamSbORefIdeal m →
    θ_run (Cert.AdamSbORefIdeal.defs (F := Ideal)) (onTc (τ := Cert.AdamSbORefIdeal.τ) (Cert.AdamSbORefIdeal.main (F := Ideal))) ⟨m, fun _ => 0, g⟩ (fun r => (∀ c : Dev Cert.AdamSbORefIdeal.nD,
      r.2.mem ((c.tc : Thread Cert.AdamSbORefIdeal.nD Cert.AdamSbORefIdeal.τ).loc Cert.AdamSbORefIdeal.main_arg0) = m ((c.tc : Thread Cert.AdamSbORefIdeal.nD Cert.AdamSbORefIdeal.τ).loc Cert.AdamSbORefIdeal.main_arg0)
      ∧ r.2.mem ((c.tc : Thread Cert.AdamSbORefIdeal.nD Cert.AdamSbORefIdeal.τ).loc Cert.AdamSbORefIdeal.main_arg1) = m ((c.tc : Thread Cert.AdamSbORefIdeal.nD Cert.AdamSbORefIdeal.τ).loc Cert.AdamSbORefIdeal.main_arg1)
      ∧ r.2.mem ((c.tc : Thread Cert.AdamSbORefIdeal.nD Cert.AdamSbORefIdeal.τ).loc Cert.AdamSbORefIdeal.main_arg2) = m ((c.tc : Thread Cert.AdamSbORefIdeal.nD Cert.AdamSbORefIdeal.τ).loc Cert.AdamSbORefIdeal.main_arg2)
      ∧ r.2.mem ((c.tc : Thread Cert.AdamSbORefIdeal.nD Cert.AdamSbORefIdeal.τ).loc Cert.AdamSbORefIdeal.main_arg3) = m ((c.tc : Thread Cert.AdamSbORefIdeal.nD Cert.AdamSbORefIdeal.τ).loc Cert.AdamSbORefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamMemKv [hAdamMemKv : Cert.AdamMemKv.Facts] : Prop :=
  ∀ (m : (ℓ : Loc Cert.AdamMemKv.nD Cert.AdamMemKv.τ Cert.AdamMemKv.sig) → Buf (Elt Bits) ℓ) (g : Dev Cert.AdamMemKv.nD → PrngReg), Pre_AdamMemKv m →
    θ_run (Cert.AdamMemKv.defs (F := Bits)) (onTc (τ := Cert.AdamMemKv.τ) (Cert.AdamMemKv.main (F := Bits))) ⟨m, fun _ => 0, g⟩ (fun r => (∀ c : Dev Cert.AdamMemKv.nD,
      r.2.mem ((c.tc : Thread Cert.AdamMemKv.nD Cert.AdamMemKv.τ).loc Cert.AdamMemKv.main_arg0) = m ((c.tc : Thread Cert.AdamMemKv.nD Cert.AdamMemKv.τ).loc Cert.AdamMemKv.main_arg0)
      ∧ r.2.mem ((c.tc : Thread Cert.AdamMemKv.nD Cert.AdamMemKv.τ).loc Cert.AdamMemKv.main_arg1) = m ((c.tc : Thread Cert.AdamMemKv.nD Cert.AdamMemKv.τ).loc Cert.AdamMemKv.main_arg1)
      ∧ r.2.mem ((c.tc : Thread Cert.AdamMemKv.nD Cert.AdamMemKv.τ).loc Cert.AdamMemKv.main_arg2) = m ((c.tc : Thread Cert.AdamMemKv.nD Cert.AdamMemKv.τ).loc Cert.AdamMemKv.main_arg2)
      ∧ r.2.mem ((c.tc : Thread Cert.AdamMemKv.nD Cert.AdamMemKv.τ).loc Cert.AdamMemKv.main_arg3) = m ((c.tc : Thread Cert.AdamMemKv.nD Cert.AdamMemKv.τ).loc Cert.AdamMemKv.main_arg3))
      ∧ r.2.sem = fun _ => 0)

def quiescent_AdamMemKvIdeal [hAdamMemKvIdeal : Cert.AdamMemKvIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg), Pre_AdamMemKvIdeal m →
    θ_run (Cert.AdamMemKvIdeal.defs (F := Ideal)) (onTc (τ := Cert.AdamMemKvIdeal.τ) (Cert.AdamMemKvIdeal.main (F := Ideal))) ⟨m, fun _ => 0, g⟩ (fun r => (∀ c : Dev Cert.AdamMemKvIdeal.nD,
      r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
      ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
      ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
      ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ r.2.sem = fun _ => 0)

def quiescent_AdamMemKvRefIdeal [hAdamMemKvRefIdeal : Cert.AdamMemKvRefIdeal.Facts] : Prop :=
  ∀ (m : (ℓ : Loc Cert.AdamMemKvRefIdeal.nD Cert.AdamMemKvRefIdeal.τ Cert.AdamMemKvRefIdeal.sig) → Buf (Elt Ideal) ℓ) (g : Dev Cert.AdamMemKvRefIdeal.nD → PrngReg), Pre_AdamMemKvRefIdeal m →
    θ_run (Cert.AdamMemKvRefIdeal.defs (F := Ideal)) (onTc (τ := Cert.AdamMemKvRefIdeal.τ) (Cert.AdamMemKvRefIdeal.main (F := Ideal))) ⟨m, fun _ => 0, g⟩ (fun r => (∀ c : Dev Cert.AdamMemKvRefIdeal.nD,
      r.2.mem ((c.tc : Thread Cert.AdamMemKvRefIdeal.nD Cert.AdamMemKvRefIdeal.τ).loc Cert.AdamMemKvRefIdeal.main_arg0) = m ((c.tc : Thread Cert.AdamMemKvRefIdeal.nD Cert.AdamMemKvRefIdeal.τ).loc Cert.AdamMemKvRefIdeal.main_arg0)
      ∧ r.2.mem ((c.tc : Thread Cert.AdamMemKvRefIdeal.nD Cert.AdamMemKvRefIdeal.τ).loc Cert.AdamMemKvRefIdeal.main_arg1) = m ((c.tc : Thread Cert.AdamMemKvRefIdeal.nD Cert.AdamMemKvRefIdeal.τ).loc Cert.AdamMemKvRefIdeal.main_arg1)
      ∧ r.2.mem ((c.tc : Thread Cert.AdamMemKvRefIdeal.nD Cert.AdamMemKvRefIdeal.τ).loc Cert.AdamMemKvRefIdeal.main_arg2) = m ((c.tc : Thread Cert.AdamMemKvRefIdeal.nD Cert.AdamMemKvRefIdeal.τ).loc Cert.AdamMemKvRefIdeal.main_arg2)
      ∧ r.2.mem ((c.tc : Thread Cert.AdamMemKvRefIdeal.nD Cert.AdamMemKvRefIdeal.τ).loc Cert.AdamMemKvRefIdeal.main_arg3) = m ((c.tc : Thread Cert.AdamMemKvRefIdeal.nD Cert.AdamMemKvRefIdeal.τ).loc Cert.AdamMemKvRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernelb_KernelbIdeal : Prop :=
  True

def algebraic_KernelbIdeal_ReferencebIdeal_pre_finite [hKernelbIdeal : Cert.KernelbIdeal.Facts] [hReferencebIdeal : Cert.ReferencebIdeal.Facts] [hPre_finite : Cert.Pre_finite.Facts] : Prop :=
  ∀ (m : (ℓ : Loc Cert.KernelbIdeal.nD Cert.KernelbIdeal.τ Cert.KernelbIdeal.sig) → Buf (Elt Ideal) ℓ) (g : Dev Cert.KernelbIdeal.nD → PrngReg)
    (m' : (ℓ : Loc Cert.ReferencebIdeal.nD Cert.ReferencebIdeal.τ Cert.ReferencebIdeal.sig) → Buf (Elt Ideal) ℓ) (g' : Dev Cert.ReferencebIdeal.nD → PrngReg), Pre_KernelbIdeal_finite m →
    (∀ c : Dev Cert.KernelbIdeal.nD,
      m' ((c.tc : Thread Cert.ReferencebIdeal.nD Cert.ReferencebIdeal.τ).loc Cert.ReferencebIdeal.main_arg0) = m ((c.tc : Thread Cert.KernelbIdeal.nD Cert.KernelbIdeal.τ).loc Cert.KernelbIdeal.main_arg0)
      ∧ m' ((c.tc : Thread Cert.ReferencebIdeal.nD Cert.ReferencebIdeal.τ).loc Cert.ReferencebIdeal.main_arg1) = m ((c.tc : Thread Cert.KernelbIdeal.nD Cert.KernelbIdeal.τ).loc Cert.KernelbIdeal.main_arg1)
      ∧ m' ((c.tc : Thread Cert.ReferencebIdeal.nD Cert.ReferencebIdeal.τ).loc Cert.ReferencebIdeal.main_arg2) = m ((c.tc : Thread Cert.KernelbIdeal.nD Cert.KernelbIdeal.τ).loc Cert.KernelbIdeal.main_arg2)
      ∧ m' ((c.tc : Thread Cert.ReferencebIdeal.nD Cert.ReferencebIdeal.τ).loc Cert.ReferencebIdeal.main_arg3) = m ((c.tc : Thread Cert.KernelbIdeal.nD Cert.KernelbIdeal.τ).loc Cert.KernelbIdeal.main_arg3)) →
    ∃ (v0 : (c : Dev Cert.KernelbIdeal.nD) → Buf (Elt Ideal) ((c.tc : Thread Cert.KernelbIdeal.nD Cert.KernelbIdeal.τ).loc Cert.KernelbIdeal.main_v223_0)) (v1 : (c : Dev Cert.KernelbIdeal.nD) → Buf (Elt Ideal) ((c.tc : Thread Cert.KernelbIdeal.nD Cert.KernelbIdeal.τ).loc Cert.KernelbIdeal.main_v223_1)) (v2 : (c : Dev Cert.KernelbIdeal.nD) → Buf (Elt Ideal) ((c.tc : Thread Cert.KernelbIdeal.nD Cert.KernelbIdeal.τ).loc Cert.KernelbIdeal.main_v223_2)) (v3 : (c : Dev Cert.KernelbIdeal.nD) → Buf (Elt Ideal) ((c.tc : Thread Cert.KernelbIdeal.nD Cert.KernelbIdeal.τ).loc Cert.KernelbIdeal.main_v223_3)),
      θ_run (Cert.KernelbIdeal.defs (F := Ideal)) (onTc (τ := Cert.KernelbIdeal.τ) (Cert.KernelbIdeal.main (F := Ideal))) ⟨m, fun _ => 0, g⟩ (fun r => ∀ c : Dev Cert.KernelbIdeal.nD,
          r.2.mem ((c.tc : Thread Cert.KernelbIdeal.nD Cert.KernelbIdeal.τ).loc Cert.KernelbIdeal.main_v223_0) = v0 c
          ∧ r.2.mem ((c.tc : Thread Cert.KernelbIdeal.nD Cert.KernelbIdeal.τ).loc Cert.KernelbIdeal.main_v223_1) = v1 c
          ∧ r.2.mem ((c.tc : Thread Cert.KernelbIdeal.nD Cert.KernelbIdeal.τ).loc Cert.KernelbIdeal.main_v223_2) = v2 c
          ∧ r.2.mem ((c.tc : Thread Cert.KernelbIdeal.nD Cert.KernelbIdeal.τ).loc Cert.KernelbIdeal.main_v223_3) = v3 c
          ∧ r.2.mem ((c.tc : Thread Cert.KernelbIdeal.nD Cert.KernelbIdeal.τ).loc Cert.KernelbIdeal.main_arg0) = m ((c.tc : Thread Cert.KernelbIdeal.nD Cert.KernelbIdeal.τ).loc Cert.KernelbIdeal.main_arg0)
          ∧ r.2.mem ((c.tc : Thread Cert.KernelbIdeal.nD Cert.KernelbIdeal.τ).loc Cert.KernelbIdeal.main_arg1) = m ((c.tc : Thread Cert.KernelbIdeal.nD Cert.KernelbIdeal.τ).loc Cert.KernelbIdeal.main_arg1)
          ∧ r.2.mem ((c.tc : Thread Cert.KernelbIdeal.nD Cert.KernelbIdeal.τ).loc Cert.KernelbIdeal.main_arg2) = m ((c.tc : Thread Cert.KernelbIdeal.nD Cert.KernelbIdeal.τ).loc Cert.KernelbIdeal.main_arg2)
          ∧ r.2.mem ((c.tc : Thread Cert.KernelbIdeal.nD Cert.KernelbIdeal.τ).loc Cert.KernelbIdeal.main_arg3) = m ((c.tc : Thread Cert.KernelbIdeal.nD Cert.KernelbIdeal.τ).loc Cert.KernelbIdeal.main_arg3))
      ∧ θ_run (Cert.ReferencebIdeal.defs (F := Ideal)) (onTc (τ := Cert.ReferencebIdeal.τ) (Cert.ReferencebIdeal.main (F := Ideal))) ⟨m', fun _ => 0, g'⟩ (fun r => ∀ c : Dev Cert.ReferencebIdeal.nD,
          r.2.mem ((c.tc : Thread Cert.ReferencebIdeal.nD Cert.ReferencebIdeal.τ).loc Cert.ReferencebIdeal.main_v284) = v0 c
          ∧ r.2.mem ((c.tc : Thread Cert.ReferencebIdeal.nD Cert.ReferencebIdeal.τ).loc Cert.ReferencebIdeal.main_v285) = v1 c
          ∧ r.2.mem ((c.tc : Thread Cert.ReferencebIdeal.nD Cert.ReferencebIdeal.τ).loc Cert.ReferencebIdeal.main_v286) = v2 c
          ∧ r.2.mem ((c.tc : Thread Cert.ReferencebIdeal.nD Cert.ReferencebIdeal.τ).loc Cert.ReferencebIdeal.main_v287) = v3 c
          ∧ r.2.mem ((c.tc : Thread Cert.ReferencebIdeal.nD Cert.ReferencebIdeal.τ).loc Cert.ReferencebIdeal.main_arg0) = m' ((c.tc : Thread Cert.ReferencebIdeal.nD Cert.ReferencebIdeal.τ).loc Cert.ReferencebIdeal.main_arg0)
          ∧ r.2.mem ((c.tc : Thread Cert.ReferencebIdeal.nD Cert.ReferencebIdeal.τ).loc Cert.ReferencebIdeal.main_arg1) = m' ((c.tc : Thread Cert.ReferencebIdeal.nD Cert.ReferencebIdeal.τ).loc Cert.ReferencebIdeal.main_arg1)
          ∧ r.2.mem ((c.tc : Thread Cert.ReferencebIdeal.nD Cert.ReferencebIdeal.τ).loc Cert.ReferencebIdeal.main_arg2) = m' ((c.tc : Thread Cert.ReferencebIdeal.nD Cert.ReferencebIdeal.τ).loc Cert.ReferencebIdeal.main_arg2)
          ∧ r.2.mem ((c.tc : Thread Cert.ReferencebIdeal.nD Cert.ReferencebIdeal.τ).loc Cert.ReferencebIdeal.main_arg3) = m' ((c.tc : Thread Cert.ReferencebIdeal.nD Cert.ReferencebIdeal.τ).loc Cert.ReferencebIdeal.main_arg3))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)) →
    ∃ (v0 : (c : Dev Cert.FfnBwdIdeal.nD) → Buf (Elt Ideal) ((c.tc : Thread Cert.FfnBwdIdeal.nD Cert.FfnBwdIdeal.τ).loc Cert.FfnBwdIdeal.main_v0)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0) = v0 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v14) = v0 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2))

def preserves_GradFfnIn_GradFfnInIdeal : Prop :=
  True

def algebraic_GradFfnInIdeal_GradFfnInRefIdeal [hGradFfnInIdeal : Cert.GradFfnInIdeal.Facts] [hGradFfnInRefIdeal : Cert.GradFfnInRefIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg)
    (m' : (ℓ : Loc Cert.GradFfnInRefIdeal.nD Cert.GradFfnInRefIdeal.τ Cert.GradFfnInRefIdeal.sig) → Buf (Elt Ideal) ℓ) (g' : Dev Cert.GradFfnInRefIdeal.nD → PrngReg), Pre_GradFfnInIdeal m →
    (∀ c : Dev Cert.GradFfnInIdeal.nD,
      m' ((c.tc : Thread Cert.GradFfnInRefIdeal.nD Cert.GradFfnInRefIdeal.τ).loc Cert.GradFfnInRefIdeal.main_arg0) = m ((c.tc : Thread Cert.GradFfnInIdeal.nD Cert.GradFfnInIdeal.τ).loc Cert.GradFfnInIdeal.main_arg0)
      ∧ m' ((c.tc : Thread Cert.GradFfnInRefIdeal.nD Cert.GradFfnInRefIdeal.τ).loc Cert.GradFfnInRefIdeal.main_arg1) = m ((c.tc : Thread Cert.GradFfnInIdeal.nD Cert.GradFfnInIdeal.τ).loc Cert.GradFfnInIdeal.main_arg1)) →
    ∃ (v0 : (c : Dev Cert.GradFfnInIdeal.nD) → Buf (Elt Ideal) ((c.tc : Thread Cert.GradFfnInIdeal.nD Cert.GradFfnInIdeal.τ).loc Cert.GradFfnInIdeal.main_v0)),
      θ_run (Cert.GradFfnInIdeal.defs (F := Ideal)) (onTc (τ := Cert.GradFfnInIdeal.τ) (Cert.GradFfnInIdeal.main (F := Ideal))) ⟨m, fun _ => 0, g⟩ (fun r => ∀ c : Dev Cert.GradFfnInIdeal.nD,
          r.2.mem ((c.tc : Thread Cert.GradFfnInIdeal.nD Cert.GradFfnInIdeal.τ).loc Cert.GradFfnInIdeal.main_v0) = v0 c
          ∧ r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
          ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ θ_run (Cert.GradFfnInRefIdeal.defs (F := Ideal)) (onTc (τ := Cert.GradFfnInRefIdeal.τ) (Cert.GradFfnInRefIdeal.main (F := Ideal))) ⟨m', fun _ => 0, g'⟩ (fun r => ∀ c : Dev Cert.GradFfnInRefIdeal.nD,
          r.2.mem ((c.tc : Thread Cert.GradFfnInRefIdeal.nD Cert.GradFfnInRefIdeal.τ).loc Cert.GradFfnInRefIdeal.main_v4) = v0 c
          ∧ r.2.mem ((c.tc : Thread Cert.GradFfnInRefIdeal.nD Cert.GradFfnInRefIdeal.τ).loc Cert.GradFfnInRefIdeal.main_arg0) = m' ((c.tc : Thread Cert.GradFfnInRefIdeal.nD Cert.GradFfnInRefIdeal.τ).loc Cert.GradFfnInRefIdeal.main_arg0)
          ∧ r.2.mem ((c.tc : Thread Cert.GradFfnInRefIdeal.nD Cert.GradFfnInRefIdeal.τ).loc Cert.GradFfnInRefIdeal.main_arg1) = m' ((c.tc : Thread Cert.GradFfnInRefIdeal.nD Cert.GradFfnInRefIdeal.τ).loc Cert.GradFfnInRefIdeal.main_arg1))

def preserves_GradFfnOut_GradFfnOutIdeal : Prop :=
  True

def algebraic_GradFfnOutIdeal_GradFfnOutRefIdeal [hGradFfnOutIdeal : Cert.GradFfnOutIdeal.Facts] [hGradFfnOutRefIdeal : Cert.GradFfnOutRefIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg)
    (m' : (ℓ : Loc Cert.GradFfnOutRefIdeal.nD Cert.GradFfnOutRefIdeal.τ Cert.GradFfnOutRefIdeal.sig) → Buf (Elt Ideal) ℓ) (g' : Dev Cert.GradFfnOutRefIdeal.nD → PrngReg), Pre_GradFfnOutIdeal m →
    (∀ c : Dev Cert.GradFfnOutIdeal.nD,
      m' ((c.tc : Thread Cert.GradFfnOutRefIdeal.nD Cert.GradFfnOutRefIdeal.τ).loc Cert.GradFfnOutRefIdeal.main_arg0) = m ((c.tc : Thread Cert.GradFfnOutIdeal.nD Cert.GradFfnOutIdeal.τ).loc Cert.GradFfnOutIdeal.main_arg0)
      ∧ m' ((c.tc : Thread Cert.GradFfnOutRefIdeal.nD Cert.GradFfnOutRefIdeal.τ).loc Cert.GradFfnOutRefIdeal.main_arg1) = m ((c.tc : Thread Cert.GradFfnOutIdeal.nD Cert.GradFfnOutIdeal.τ).loc Cert.GradFfnOutIdeal.main_arg1)) →
    ∃ (v0 : (c : Dev Cert.GradFfnOutIdeal.nD) → Buf (Elt Ideal) ((c.tc : Thread Cert.GradFfnOutIdeal.nD Cert.GradFfnOutIdeal.τ).loc Cert.GradFfnOutIdeal.main_v0)),
      θ_run (Cert.GradFfnOutIdeal.defs (F := Ideal)) (onTc (τ := Cert.GradFfnOutIdeal.τ) (Cert.GradFfnOutIdeal.main (F := Ideal))) ⟨m, fun _ => 0, g⟩ (fun r => ∀ c : Dev Cert.GradFfnOutIdeal.nD,
          r.2.mem ((c.tc : Thread Cert.GradFfnOutIdeal.nD Cert.GradFfnOutIdeal.τ).loc Cert.GradFfnOutIdeal.main_v0) = v0 c
          ∧ r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
          ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ θ_run (Cert.GradFfnOutRefIdeal.defs (F := Ideal)) (onTc (τ := Cert.GradFfnOutRefIdeal.τ) (Cert.GradFfnOutRefIdeal.main (F := Ideal))) ⟨m', fun _ => 0, g'⟩ (fun r => ∀ c : Dev Cert.GradFfnOutRefIdeal.nD,
          r.2.mem ((c.tc : Thread Cert.GradFfnOutRefIdeal.nD Cert.GradFfnOutRefIdeal.τ).loc Cert.GradFfnOutRefIdeal.main_v4) = v0 c
          ∧ r.2.mem ((c.tc : Thread Cert.GradFfnOutRefIdeal.nD Cert.GradFfnOutRefIdeal.τ).loc Cert.GradFfnOutRefIdeal.main_arg0) = m' ((c.tc : Thread Cert.GradFfnOutRefIdeal.nD Cert.GradFfnOutRefIdeal.τ).loc Cert.GradFfnOutRefIdeal.main_arg0)
          ∧ r.2.mem ((c.tc : Thread Cert.GradFfnOutRefIdeal.nD Cert.GradFfnOutRefIdeal.τ).loc Cert.GradFfnOutRefIdeal.main_arg1) = m' ((c.tc : Thread Cert.GradFfnOutRefIdeal.nD Cert.GradFfnOutRefIdeal.τ).loc Cert.GradFfnOutRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v2) = v0 c
          ∧ r.2.mem ((c.tc : Thread Cert.FfnFwdRefIdeal.nD Cert.FfnFwdRefIdeal.τ).loc Cert.FfnFwdRefIdeal.main_v7) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0_0)) (v1 : (c : Dev Cert.ProjInIdeal.nD) → Buf (Elt Ideal) ((c.tc : Thread Cert.ProjInIdeal.nD Cert.ProjInIdeal.τ).loc Cert.ProjInIdeal.main_v0_1)) (v2 : (c : Dev Cert.ProjInIdeal.nD) → Buf (Elt Ideal) ((c.tc : Thread Cert.ProjInIdeal.nD Cert.ProjInIdeal.τ).loc Cert.ProjInIdeal.main_v0_2)) (v3 : (c : Dev Cert.ProjInIdeal.nD) → Buf (Elt Ideal) ((c.tc : Thread Cert.ProjInIdeal.nD Cert.ProjInIdeal.τ).loc Cert.ProjInIdeal.main_v0_3)) (v4 : (c : Dev Cert.ProjInIdeal.nD) → Buf (Elt Ideal) ((c.tc : Thread Cert.ProjInIdeal.nD Cert.ProjInIdeal.τ).loc Cert.ProjInIdeal.main_v0_4)) (v5 : (c : Dev Cert.ProjInIdeal.nD) → Buf (Elt Ideal) ((c.tc : Thread Cert.ProjInIdeal.nD Cert.ProjInIdeal.τ).loc Cert.ProjInIdeal.main_v0_5)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0_0) = v0 c
          ∧ r.2.mem ((c.tc : Thread Cert.ProjInIdeal.nD Cert.ProjInIdeal.τ).loc Cert.ProjInIdeal.main_v0_1) = v1 c
          ∧ r.2.mem ((c.tc : Thread Cert.ProjInIdeal.nD Cert.ProjInIdeal.τ).loc Cert.ProjInIdeal.main_v0_2) = v2 c
          ∧ r.2.mem ((c.tc : Thread Cert.ProjInIdeal.nD Cert.ProjInIdeal.τ).loc Cert.ProjInIdeal.main_v0_3) = v3 c
          ∧ r.2.mem ((c.tc : Thread Cert.ProjInIdeal.nD Cert.ProjInIdeal.τ).loc Cert.ProjInIdeal.main_v0_4) = v4 c
          ∧ r.2.mem ((c.tc : Thread Cert.ProjInIdeal.nD Cert.ProjInIdeal.τ).loc Cert.ProjInIdeal.main_v0_5) = v5 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v7) = v0 c
          ∧ r.2.mem ((c.tc : Thread Cert.ProjInRefIdeal.nD Cert.ProjInRefIdeal.τ).loc Cert.ProjInRefIdeal.main_v3) = v1 c
          ∧ r.2.mem ((c.tc : Thread Cert.ProjInRefIdeal.nD Cert.ProjInRefIdeal.τ).loc Cert.ProjInRefIdeal.main_v8) = v2 c
          ∧ r.2.mem ((c.tc : Thread Cert.ProjInRefIdeal.nD Cert.ProjInRefIdeal.τ).loc Cert.ProjInRefIdeal.main_v5) = v3 c
          ∧ r.2.mem ((c.tc : Thread Cert.ProjInRefIdeal.nD Cert.ProjInRefIdeal.τ).loc Cert.ProjInRefIdeal.main_v6) = v4 c
          ∧ r.2.mem ((c.tc : Thread Cert.ProjInRefIdeal.nD Cert.ProjInRefIdeal.τ).loc Cert.ProjInRefIdeal.main_v9) = v5 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_GradSquare_GradSquareIdeal : Prop :=
  True

def algebraic_GradSquareIdeal_GradSquareRefIdeal [hGradSquareIdeal : Cert.GradSquareIdeal.Facts] [hGradSquareRefIdeal : Cert.GradSquareRefIdeal.Facts] : Prop :=
  ∀ (m : (ℓ : Loc Cert.GradSquareIdeal.nD Cert.GradSquareIdeal.τ Cert.GradSquareIdeal.sig) → Buf (Elt Ideal) ℓ) (g : Dev Cert.GradSquareIdeal.nD → PrngReg)
    (m' : (ℓ : Loc Cert.GradSquareRefIdeal.nD Cert.GradSquareRefIdeal.τ Cert.GradSquareRefIdeal.sig) → Buf (Elt Ideal) ℓ) (g' : Dev Cert.GradSquareRefIdeal.nD → PrngReg), Pre_GradSquareIdeal m →
    (∀ c : Dev Cert.GradSquareIdeal.nD,
      m' ((c.tc : Thread Cert.GradSquareRefIdeal.nD Cert.GradSquareRefIdeal.τ).loc Cert.GradSquareRefIdeal.main_arg0) = m ((c.tc : Thread Cert.GradSquareIdeal.nD Cert.GradSquareIdeal.τ).loc Cert.GradSquareIdeal.main_arg0)
      ∧ m' ((c.tc : Thread Cert.GradSquareRefIdeal.nD Cert.GradSquareRefIdeal.τ).loc Cert.GradSquareRefIdeal.main_arg1) = m ((c.tc : Thread Cert.GradSquareIdeal.nD Cert.GradSquareIdeal.τ).loc Cert.GradSquareIdeal.main_arg1)) →
    ∃ (v0 : (c : Dev Cert.GradSquareIdeal.nD) → Buf (Elt Ideal) ((c.tc : Thread Cert.GradSquareIdeal.nD Cert.GradSquareIdeal.τ).loc Cert.GradSquareIdeal.main_v0)),
      θ_run (Cert.GradSquareIdeal.defs (F := Ideal)) (onTc (τ := Cert.GradSquareIdeal.τ) (Cert.GradSquareIdeal.main (F := Ideal))) ⟨m, fun _ => 0, g⟩ (fun r => ∀ c : Dev Cert.GradSquareIdeal.nD,
          r.2.mem ((c.tc : Thread Cert.GradSquareIdeal.nD Cert.GradSquareIdeal.τ).loc Cert.GradSquareIdeal.main_v0) = v0 c
          ∧ r.2.mem ((c.tc : Thread Cert.GradSquareIdeal.nD Cert.GradSquareIdeal.τ).loc Cert.GradSquareIdeal.main_arg0) = m ((c.tc : Thread Cert.GradSquareIdeal.nD Cert.GradSquareIdeal.τ).loc Cert.GradSquareIdeal.main_arg0)
          ∧ r.2.mem ((c.tc : Thread Cert.GradSquareIdeal.nD Cert.GradSquareIdeal.τ).loc Cert.GradSquareIdeal.main_arg1) = m ((c.tc : Thread Cert.GradSquareIdeal.nD Cert.GradSquareIdeal.τ).loc Cert.GradSquareIdeal.main_arg1))
      ∧ θ_run (Cert.GradSquareRefIdeal.defs (F := Ideal)) (onTc (τ := Cert.GradSquareRefIdeal.τ) (Cert.GradSquareRefIdeal.main (F := Ideal))) ⟨m', fun _ => 0, g'⟩ (fun r => ∀ c : Dev Cert.GradSquareRefIdeal.nD,
          r.2.mem ((c.tc : Thread Cert.GradSquareRefIdeal.nD Cert.GradSquareRefIdeal.τ).loc Cert.GradSquareRefIdeal.main_v4) = v0 c
          ∧ r.2.mem ((c.tc : Thread Cert.GradSquareRefIdeal.nD Cert.GradSquareRefIdeal.τ).loc Cert.GradSquareRefIdeal.main_arg0) = m' ((c.tc : Thread Cert.GradSquareRefIdeal.nD Cert.GradSquareRefIdeal.τ).loc Cert.GradSquareRefIdeal.main_arg0)
          ∧ r.2.mem ((c.tc : Thread Cert.GradSquareRefIdeal.nD Cert.GradSquareRefIdeal.τ).loc Cert.GradSquareRefIdeal.main_arg1) = m' ((c.tc : Thread Cert.GradSquareRefIdeal.nD Cert.GradSquareRefIdeal.τ).loc Cert.GradSquareRefIdeal.main_arg1))

def preserves_GradHalf_GradHalfIdeal : Prop :=
  True

def algebraic_GradHalfIdeal_GradHalfRefIdeal [hGradHalfIdeal : Cert.GradHalfIdeal.Facts] [hGradHalfRefIdeal : Cert.GradHalfRefIdeal.Facts] : Prop :=
  ∀ (m : (ℓ : Loc Cert.GradHalfIdeal.nD Cert.GradHalfIdeal.τ Cert.GradHalfIdeal.sig) → Buf (Elt Ideal) ℓ) (g : Dev Cert.GradHalfIdeal.nD → PrngReg)
    (m' : (ℓ : Loc Cert.GradHalfRefIdeal.nD Cert.GradHalfRefIdeal.τ Cert.GradHalfRefIdeal.sig) → Buf (Elt Ideal) ℓ) (g' : Dev Cert.GradHalfRefIdeal.nD → PrngReg), Pre_GradHalfIdeal m →
    (∀ c : Dev Cert.GradHalfIdeal.nD,
      m' ((c.tc : Thread Cert.GradHalfRefIdeal.nD Cert.GradHalfRefIdeal.τ).loc Cert.GradHalfRefIdeal.main_arg0) = m ((c.tc : Thread Cert.GradHalfIdeal.nD Cert.GradHalfIdeal.τ).loc Cert.GradHalfIdeal.main_arg0)
      ∧ m' ((c.tc : Thread Cert.GradHalfRefIdeal.nD Cert.GradHalfRefIdeal.τ).loc Cert.GradHalfRefIdeal.main_arg1) = m ((c.tc : Thread Cert.GradHalfIdeal.nD Cert.GradHalfIdeal.τ).loc Cert.GradHalfIdeal.main_arg1)) →
    ∃ (v0 : (c : Dev Cert.GradHalfIdeal.nD) → Buf (Elt Ideal) ((c.tc : Thread Cert.GradHalfIdeal.nD Cert.GradHalfIdeal.τ).loc Cert.GradHalfIdeal.main_v0)),
      θ_run (Cert.GradHalfIdeal.defs (F := Ideal)) (onTc (τ := Cert.GradHalfIdeal.τ) (Cert.GradHalfIdeal.main (F := Ideal))) ⟨m, fun _ => 0, g⟩ (fun r => ∀ c : Dev Cert.GradHalfIdeal.nD,
          r.2.mem ((c.tc : Thread Cert.GradHalfIdeal.nD Cert.GradHalfIdeal.τ).loc Cert.GradHalfIdeal.main_v0) = v0 c
          ∧ r.2.mem ((c.tc : Thread Cert.GradHalfIdeal.nD Cert.GradHalfIdeal.τ).loc Cert.GradHalfIdeal.main_arg0) = m ((c.tc : Thread Cert.GradHalfIdeal.nD Cert.GradHalfIdeal.τ).loc Cert.GradHalfIdeal.main_arg0)
          ∧ r.2.mem ((c.tc : Thread Cert.GradHalfIdeal.nD Cert.GradHalfIdeal.τ).loc Cert.GradHalfIdeal.main_arg1) = m ((c.tc : Thread Cert.GradHalfIdeal.nD Cert.GradHalfIdeal.τ).loc Cert.GradHalfIdeal.main_arg1))
      ∧ θ_run (Cert.GradHalfRefIdeal.defs (F := Ideal)) (onTc (τ := Cert.GradHalfRefIdeal.τ) (Cert.GradHalfRefIdeal.main (F := Ideal))) ⟨m', fun _ => 0, g'⟩ (fun r => ∀ c : Dev Cert.GradHalfRefIdeal.nD,
          r.2.mem ((c.tc : Thread Cert.GradHalfRefIdeal.nD Cert.GradHalfRefIdeal.τ).loc Cert.GradHalfRefIdeal.main_v4) = v0 c
          ∧ r.2.mem ((c.tc : Thread Cert.GradHalfRefIdeal.nD Cert.GradHalfRefIdeal.τ).loc Cert.GradHalfRefIdeal.main_arg0) = m' ((c.tc : Thread Cert.GradHalfRefIdeal.nD Cert.GradHalfRefIdeal.τ).loc Cert.GradHalfRefIdeal.main_arg0)
          ∧ r.2.mem ((c.tc : Thread Cert.GradHalfRefIdeal.nD Cert.GradHalfRefIdeal.τ).loc Cert.GradHalfRefIdeal.main_arg1) = m' ((c.tc : Thread Cert.GradHalfRefIdeal.nD Cert.GradHalfRefIdeal.τ).loc Cert.GradHalfRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v4) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradOm_GradOmIdeal : Prop :=
  True

def algebraic_GradOmIdeal_GradOmRefIdeal [hGradOmIdeal : Cert.GradOmIdeal.Facts] [hGradOmRefIdeal : Cert.GradOmRefIdeal.Facts] : Prop :=
  ∀ (m : (ℓ : Loc Cert.GradOmIdeal.nD Cert.GradOmIdeal.τ Cert.GradOmIdeal.sig) → Buf (Elt Ideal) ℓ) (g : Dev Cert.GradOmIdeal.nD → PrngReg)
    (m' : (ℓ : Loc Cert.GradOmRefIdeal.nD Cert.GradOmRefIdeal.τ Cert.GradOmRefIdeal.sig) → Buf (Elt Ideal) ℓ) (g' : Dev Cert.GradOmRefIdeal.nD → PrngReg), Pre_GradOmIdeal m →
    (∀ c : Dev Cert.GradOmIdeal.nD,
      m' ((c.tc : Thread Cert.GradOmRefIdeal.nD Cert.GradOmRefIdeal.τ).loc Cert.GradOmRefIdeal.main_arg0) = m ((c.tc : Thread Cert.GradOmIdeal.nD Cert.GradOmIdeal.τ).loc Cert.GradOmIdeal.main_arg0)
      ∧ m' ((c.tc : Thread Cert.GradOmRefIdeal.nD Cert.GradOmRefIdeal.τ).loc Cert.GradOmRefIdeal.main_arg1) = m ((c.tc : Thread Cert.GradOmIdeal.nD Cert.GradOmIdeal.τ).loc Cert.GradOmIdeal.main_arg1)) →
    ∃ (v0 : (c : Dev Cert.GradOmIdeal.nD) → Buf (Elt Ideal) ((c.tc : Thread Cert.GradOmIdeal.nD Cert.GradOmIdeal.τ).loc Cert.GradOmIdeal.main_v0)),
      θ_run (Cert.GradOmIdeal.defs (F := Ideal)) (onTc (τ := Cert.GradOmIdeal.τ) (Cert.GradOmIdeal.main (F := Ideal))) ⟨m, fun _ => 0, g⟩ (fun r => ∀ c : Dev Cert.GradOmIdeal.nD,
          r.2.mem ((c.tc : Thread Cert.GradOmIdeal.nD Cert.GradOmIdeal.τ).loc Cert.GradOmIdeal.main_v0) = v0 c
          ∧ r.2.mem ((c.tc : Thread Cert.GradOmIdeal.nD Cert.GradOmIdeal.τ).loc Cert.GradOmIdeal.main_arg0) = m ((c.tc : Thread Cert.GradOmIdeal.nD Cert.GradOmIdeal.τ).loc Cert.GradOmIdeal.main_arg0)
          ∧ r.2.mem ((c.tc : Thread Cert.GradOmIdeal.nD Cert.GradOmIdeal.τ).loc Cert.GradOmIdeal.main_arg1) = m ((c.tc : Thread Cert.GradOmIdeal.nD Cert.GradOmIdeal.τ).loc Cert.GradOmIdeal.main_arg1))
      ∧ θ_run (Cert.GradOmRefIdeal.defs (F := Ideal)) (onTc (τ := Cert.GradOmRefIdeal.τ) (Cert.GradOmRefIdeal.main (F := Ideal))) ⟨m', fun _ => 0, g'⟩ (fun r => ∀ c : Dev Cert.GradOmRefIdeal.nD,
          r.2.mem ((c.tc : Thread Cert.GradOmRefIdeal.nD Cert.GradOmRefIdeal.τ).loc Cert.GradOmRefIdeal.main_v3) = v0 c
          ∧ r.2.mem ((c.tc : Thread Cert.GradOmRefIdeal.nD Cert.GradOmRefIdeal.τ).loc Cert.GradOmRefIdeal.main_arg0) = m' ((c.tc : Thread Cert.GradOmRefIdeal.nD Cert.GradOmRefIdeal.τ).loc Cert.GradOmRefIdeal.main_arg0)
          ∧ r.2.mem ((c.tc : Thread Cert.GradOmRefIdeal.nD Cert.GradOmRefIdeal.τ).loc Cert.GradOmRefIdeal.main_arg1) = m' ((c.tc : Thread Cert.GradOmRefIdeal.nD Cert.GradOmRefIdeal.τ).loc Cert.GradOmRefIdeal.main_arg1))

def preserves_GradYGated_GradYGatedIdeal : Prop :=
  True

def algebraic_GradYGatedIdeal_GradYGatedRefIdeal [hGradYGatedIdeal : Cert.GradYGatedIdeal.Facts] [hGradYGatedRefIdeal : Cert.GradYGatedRefIdeal.Facts] : Prop :=
  ∀ (m : (ℓ : Loc Cert.GradYGatedIdeal.nD Cert.GradYGatedIdeal.τ Cert.GradYGatedIdeal.sig) → Buf (Elt Ideal) ℓ) (g : Dev Cert.GradYGatedIdeal.nD → PrngReg)
    (m' : (ℓ : Loc Cert.GradYGatedRefIdeal.nD Cert.GradYGatedRefIdeal.τ Cert.GradYGatedRefIdeal.sig) → Buf (Elt Ideal) ℓ) (g' : Dev Cert.GradYGatedRefIdeal.nD → PrngReg), Pre_GradYGatedIdeal m →
    (∀ c : Dev Cert.GradYGatedIdeal.nD,
      m' ((c.tc : Thread Cert.GradYGatedRefIdeal.nD Cert.GradYGatedRefIdeal.τ).loc Cert.GradYGatedRefIdeal.main_arg0) = m ((c.tc : Thread Cert.GradYGatedIdeal.nD Cert.GradYGatedIdeal.τ).loc Cert.GradYGatedIdeal.main_arg0)
      ∧ m' ((c.tc : Thread Cert.GradYGatedRefIdeal.nD Cert.GradYGatedRefIdeal.τ).loc Cert.GradYGatedRefIdeal.main_arg1) = m ((c.tc : Thread Cert.GradYGatedIdeal.nD Cert.GradYGatedIdeal.τ).loc Cert.GradYGatedIdeal.main_arg1)) →
    ∃ (v0 : (c : Dev Cert.GradYGatedIdeal.nD) → Buf (Elt Ideal) ((c.tc : Thread Cert.GradYGatedIdeal.nD Cert.GradYGatedIdeal.τ).loc Cert.GradYGatedIdeal.main_v0)),
      θ_run (Cert.GradYGatedIdeal.defs (F := Ideal)) (onTc (τ := Cert.GradYGatedIdeal.τ) (Cert.GradYGatedIdeal.main (F := Ideal))) ⟨m, fun _ => 0, g⟩ (fun r => ∀ c : Dev Cert.GradYGatedIdeal.nD,
          r.2.mem ((c.tc : Thread Cert.GradYGatedIdeal.nD Cert.GradYGatedIdeal.τ).loc Cert.GradYGatedIdeal.main_v0) = v0 c
          ∧ r.2.mem ((c.tc : Thread Cert.GradYGatedIdeal.nD Cert.GradYGatedIdeal.τ).loc Cert.GradYGatedIdeal.main_arg0) = m ((c.tc : Thread Cert.GradYGatedIdeal.nD Cert.GradYGatedIdeal.τ).loc Cert.GradYGatedIdeal.main_arg0)
          ∧ r.2.mem ((c.tc : Thread Cert.GradYGatedIdeal.nD Cert.GradYGatedIdeal.τ).loc Cert.GradYGatedIdeal.main_arg1) = m ((c.tc : Thread Cert.GradYGatedIdeal.nD Cert.GradYGatedIdeal.τ).loc Cert.GradYGatedIdeal.main_arg1))
      ∧ θ_run (Cert.GradYGatedRefIdeal.defs (F := Ideal)) (onTc (τ := Cert.GradYGatedRefIdeal.τ) (Cert.GradYGatedRefIdeal.main (F := Ideal))) ⟨m', fun _ => 0, g'⟩ (fun r => ∀ c : Dev Cert.GradYGatedRefIdeal.nD,
          r.2.mem ((c.tc : Thread Cert.GradYGatedRefIdeal.nD Cert.GradYGatedRefIdeal.τ).loc Cert.GradYGatedRefIdeal.main_v2) = v0 c
          ∧ r.2.mem ((c.tc : Thread Cert.GradYGatedRefIdeal.nD Cert.GradYGatedRefIdeal.τ).loc Cert.GradYGatedRefIdeal.main_arg0) = m' ((c.tc : Thread Cert.GradYGatedRefIdeal.nD Cert.GradYGatedRefIdeal.τ).loc Cert.GradYGatedRefIdeal.main_arg0)
          ∧ r.2.mem ((c.tc : Thread Cert.GradYGatedRefIdeal.nD Cert.GradYGatedRefIdeal.τ).loc Cert.GradYGatedRefIdeal.main_arg1) = m' ((c.tc : Thread Cert.GradYGatedRefIdeal.nD Cert.GradYGatedRefIdeal.τ).loc Cert.GradYGatedRefIdeal.main_arg1))

def preserves_GradASb_GradASbIdeal : Prop :=
  True

def algebraic_GradASbIdeal_GradASbRefIdeal [hGradASbIdeal : Cert.GradASbIdeal.Facts] [hGradASbRefIdeal : Cert.GradASbRefIdeal.Facts] : Prop :=
  ∀ (m : (ℓ : Loc Cert.GradASbIdeal.nD Cert.GradASbIdeal.τ Cert.GradASbIdeal.sig) → Buf (Elt Ideal) ℓ) (g : Dev Cert.GradASbIdeal.nD → PrngReg)
    (m' : (ℓ : Loc Cert.GradASbRefIdeal.nD Cert.GradASbRefIdeal.τ Cert.GradASbRefIdeal.sig) → Buf (Elt Ideal) ℓ) (g' : Dev Cert.GradASbRefIdeal.nD → PrngReg), Pre_GradASbIdeal m →
    (∀ c : Dev Cert.GradASbIdeal.nD,
      m' ((c.tc : Thread Cert.GradASbRefIdeal.nD Cert.GradASbRefIdeal.τ).loc Cert.GradASbRefIdeal.main_arg0) = m ((c.tc : Thread Cert.GradASbIdeal.nD Cert.GradASbIdeal.τ).loc Cert.GradASbIdeal.main_arg0)
      ∧ m' ((c.tc : Thread Cert.GradASbRefIdeal.nD Cert.GradASbRefIdeal.τ).loc Cert.GradASbRefIdeal.main_arg1) = m ((c.tc : Thread Cert.GradASbIdeal.nD Cert.GradASbIdeal.τ).loc Cert.GradASbIdeal.main_arg1)) →
    ∃ (v0 : (c : Dev Cert.GradASbIdeal.nD) → Buf (Elt Ideal) ((c.tc : Thread Cert.GradASbIdeal.nD Cert.GradASbIdeal.τ).loc Cert.GradASbIdeal.main_v0)),
      θ_run (Cert.GradASbIdeal.defs (F := Ideal)) (onTc (τ := Cert.GradASbIdeal.τ) (Cert.GradASbIdeal.main (F := Ideal))) ⟨m, fun _ => 0, g⟩ (fun r => ∀ c : Dev Cert.GradASbIdeal.nD,
          r.2.mem ((c.tc : Thread Cert.GradASbIdeal.nD Cert.GradASbIdeal.τ).loc Cert.GradASbIdeal.main_v0) = v0 c
          ∧ r.2.mem ((c.tc : Thread Cert.GradASbIdeal.nD Cert.GradASbIdeal.τ).loc Cert.GradASbIdeal.main_arg0) = m ((c.tc : Thread Cert.GradASbIdeal.nD Cert.GradASbIdeal.τ).loc Cert.GradASbIdeal.main_arg0)
          ∧ r.2.mem ((c.tc : Thread Cert.GradASbIdeal.nD Cert.GradASbIdeal.τ).loc Cert.GradASbIdeal.main_arg1) = m ((c.tc : Thread Cert.GradASbIdeal.nD Cert.GradASbIdeal.τ).loc Cert.GradASbIdeal.main_arg1))
      ∧ θ_run (Cert.GradASbRefIdeal.defs (F := Ideal)) (onTc (τ := Cert.GradASbRefIdeal.τ) (Cert.GradASbRefIdeal.main (F := Ideal))) ⟨m', fun _ => 0, g'⟩ (fun r => ∀ c : Dev Cert.GradASbRefIdeal.nD,
          r.2.mem ((c.tc : Thread Cert.GradASbRefIdeal.nD Cert.GradASbRefIdeal.τ).loc Cert.GradASbRefIdeal.main_v3) = v0 c
          ∧ r.2.mem ((c.tc : Thread Cert.GradASbRefIdeal.nD Cert.GradASbRefIdeal.τ).loc Cert.GradASbRefIdeal.main_arg0) = m' ((c.tc : Thread Cert.GradASbRefIdeal.nD Cert.GradASbRefIdeal.τ).loc Cert.GradASbRefIdeal.main_arg0)
          ∧ r.2.mem ((c.tc : Thread Cert.GradASbRefIdeal.nD Cert.GradASbRefIdeal.τ).loc Cert.GradASbRefIdeal.main_arg1) = m' ((c.tc : Thread Cert.GradASbRefIdeal.nD Cert.GradASbRefIdeal.τ).loc Cert.GradASbRefIdeal.main_arg1))

def preserves_GradSbO_GradSbOIdeal : Prop :=
  True

def algebraic_GradSbOIdeal_GradSbORefIdeal [hGradSbOIdeal : Cert.GradSbOIdeal.Facts] [hGradSbORefIdeal : Cert.GradSbORefIdeal.Facts] : Prop :=
  ∀ (m : (ℓ : Loc Cert.GradSbOIdeal.nD Cert.GradSbOIdeal.τ Cert.GradSbOIdeal.sig) → Buf (Elt Ideal) ℓ) (g : Dev Cert.GradSbOIdeal.nD → PrngReg)
    (m' : (ℓ : Loc Cert.GradSbORefIdeal.nD Cert.GradSbORefIdeal.τ Cert.GradSbORefIdeal.sig) → Buf (Elt Ideal) ℓ) (g' : Dev Cert.GradSbORefIdeal.nD → PrngReg), Pre_GradSbOIdeal m →
    (∀ c : Dev Cert.GradSbOIdeal.nD,
      m' ((c.tc : Thread Cert.GradSbORefIdeal.nD Cert.GradSbORefIdeal.τ).loc Cert.GradSbORefIdeal.main_arg0) = m ((c.tc : Thread Cert.GradSbOIdeal.nD Cert.GradSbOIdeal.τ).loc Cert.GradSbOIdeal.main_arg0)
      ∧ m' ((c.tc : Thread Cert.GradSbORefIdeal.nD Cert.GradSbORefIdeal.τ).loc Cert.GradSbORefIdeal.main_arg1) = m ((c.tc : Thread Cert.GradSbOIdeal.nD Cert.GradSbOIdeal.τ).loc Cert.GradSbOIdeal.main_arg1)) →
    ∃ (v0 : (c : Dev Cert.GradSbOIdeal.nD) → Buf (Elt Ideal) ((c.tc : Thread Cert.GradSbOIdeal.nD Cert.GradSbOIdeal.τ).loc Cert.GradSbOIdeal.main_v0)),
      θ_run (Cert.GradSbOIdeal.defs (F := Ideal)) (onTc (τ := Cert.GradSbOIdeal.τ) (Cert.GradSbOIdeal.main (F := Ideal))) ⟨m, fun _ => 0, g⟩ (fun r => ∀ c : Dev Cert.GradSbOIdeal.nD,
          r.2.mem ((c.tc : Thread Cert.GradSbOIdeal.nD Cert.GradSbOIdeal.τ).loc Cert.GradSbOIdeal.main_v0) = v0 c
          ∧ r.2.mem ((c.tc : Thread Cert.GradSbOIdeal.nD Cert.GradSbOIdeal.τ).loc Cert.GradSbOIdeal.main_arg0) = m ((c.tc : Thread Cert.GradSbOIdeal.nD Cert.GradSbOIdeal.τ).loc Cert.GradSbOIdeal.main_arg0)
          ∧ r.2.mem ((c.tc : Thread Cert.GradSbOIdeal.nD Cert.GradSbOIdeal.τ).loc Cert.GradSbOIdeal.main_arg1) = m ((c.tc : Thread Cert.GradSbOIdeal.nD Cert.GradSbOIdeal.τ).loc Cert.GradSbOIdeal.main_arg1))
      ∧ θ_run (Cert.GradSbORefIdeal.defs (F := Ideal)) (onTc (τ := Cert.GradSbORefIdeal.τ) (Cert.GradSbORefIdeal.main (F := Ideal))) ⟨m', fun _ => 0, g'⟩ (fun r => ∀ c : Dev Cert.GradSbORefIdeal.nD,
          r.2.mem ((c.tc : Thread Cert.GradSbORefIdeal.nD Cert.GradSbORefIdeal.τ).loc Cert.GradSbORefIdeal.main_v4) = v0 c
          ∧ r.2.mem ((c.tc : Thread Cert.GradSbORefIdeal.nD Cert.GradSbORefIdeal.τ).loc Cert.GradSbORefIdeal.main_arg0) = m' ((c.tc : Thread Cert.GradSbORefIdeal.nD Cert.GradSbORefIdeal.τ).loc Cert.GradSbORefIdeal.main_arg0)
          ∧ r.2.mem ((c.tc : Thread Cert.GradSbORefIdeal.nD Cert.GradSbORefIdeal.τ).loc Cert.GradSbORefIdeal.main_arg1) = m' ((c.tc : Thread Cert.GradSbORefIdeal.nD Cert.GradSbORefIdeal.τ).loc Cert.GradSbORefIdeal.main_arg1))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)) →
    ∃ (v0 : (c : Dev Cert.MemQIdeal.nD) → Buf (Elt Ideal) ((c.tc : Thread Cert.MemQIdeal.nD Cert.MemQIdeal.τ).loc Cert.MemQIdeal.main_v0)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v0) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v3) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1))

def preserves_SbOut_SbOutIdeal : Prop :=
  True

def algebraic_SbOutIdeal_SbOutRefIdeal [hSbOutIdeal : Cert.SbOutIdeal.Facts] [hSbOutRefIdeal : Cert.SbOutRefIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutRefIdeal.nD Cert.SbOutRefIdeal.τ Cert.SbOutRefIdeal.sig) → Buf (Elt Ideal) ℓ) (g' : Dev Cert.SbOutRefIdeal.nD → PrngReg), Pre_SbOutIdeal m →
    (∀ c : Dev Cert.SbOutIdeal.nD,
      m' ((c.tc : Thread Cert.SbOutRefIdeal.nD Cert.SbOutRefIdeal.τ).loc Cert.SbOutRefIdeal.main_arg0) = m ((c.tc : Thread Cert.SbOutIdeal.nD Cert.SbOutIdeal.τ).loc Cert.SbOutIdeal.main_arg0)
      ∧ m' ((c.tc : Thread Cert.SbOutRefIdeal.nD Cert.SbOutRefIdeal.τ).loc Cert.SbOutRefIdeal.main_arg1) = m ((c.tc : Thread Cert.SbOutIdeal.nD Cert.SbOutIdeal.τ).loc Cert.SbOutIdeal.main_arg1)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1))
      ∧ θ_run (Cert.SbOutRefIdeal.defs (F := Ideal)) (onTc (τ := Cert.SbOutRefIdeal.τ) (Cert.SbOutRefIdeal.main (F := Ideal))) ⟨m', fun _ => 0, g'⟩ (fun r => ∀ c : Dev Cert.SbOutRefIdeal.nD,
          r.2.mem ((c.tc : Thread Cert.SbOutRefIdeal.nD Cert.SbOutRefIdeal.τ).loc Cert.SbOutRefIdeal.main_v2) = v0 c
          ∧ r.2.mem ((c.tc : Thread Cert.SbOutRefIdeal.nD Cert.SbOutRefIdeal.τ).loc Cert.SbOutRefIdeal.main_arg0) = m' ((c.tc : Thread Cert.SbOutRefIdeal.nD Cert.SbOutRefIdeal.τ).loc Cert.SbOutRefIdeal.main_arg0)
          ∧ r.2.mem ((c.tc : Thread Cert.SbOutRefIdeal.nD Cert.SbOutRefIdeal.τ).loc Cert.SbOutRefIdeal.main_arg1) = m' ((c.tc : Thread Cert.SbOutRefIdeal.nD Cert.SbOutRefIdeal.τ).loc Cert.SbOutRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)) →
    ∃ (v0 : (c : Dev Cert.RetOutIdeal.nD) → Buf (Elt Ideal) ((c.tc : Thread Cert.RetOutIdeal.nD Cert.RetOutIdeal.τ).loc Cert.RetOutIdeal.main_v0_0)) (v1 : (c : Dev Cert.RetOutIdeal.nD) → Buf (Elt Ideal) ((c.tc : Thread Cert.RetOutIdeal.nD Cert.RetOutIdeal.τ).loc Cert.RetOutIdeal.main_v0_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0_0) = v0 c
          ∧ r.2.mem ((c.tc : Thread Cert.RetOutIdeal.nD Cert.RetOutIdeal.τ).loc Cert.RetOutIdeal.main_v0_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v11) = v0 c
          ∧ r.2.mem ((c.tc : Thread Cert.RetOutRefIdeal.nD Cert.RetOutRefIdeal.τ).loc Cert.RetOutRefIdeal.main_v19) = v1 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4))

def preserves_LnOut_LnOutIdeal : Prop :=
  True

def algebraic_LnOutIdeal_LnOutRefIdeal [hLnOutIdeal : Cert.LnOutIdeal.Facts] [hLnOutRefIdeal : Cert.LnOutRefIdeal.Facts] : Prop :=
  ∀ (m : (ℓ : Loc Cert.LnOutIdeal.nD Cert.LnOutIdeal.τ Cert.LnOutIdeal.sig) → Buf (Elt Ideal) ℓ) (g : Dev Cert.LnOutIdeal.nD → PrngReg)
    (m' : (ℓ : Loc Cert.LnOutRefIdeal.nD Cert.LnOutRefIdeal.τ Cert.LnOutRefIdeal.sig) → Buf (Elt Ideal) ℓ) (g' : Dev Cert.LnOutRefIdeal.nD → PrngReg), Pre_LnOutIdeal m →
    (∀ c : Dev Cert.LnOutIdeal.nD,
      m' ((c.tc : Thread Cert.LnOutRefIdeal.nD Cert.LnOutRefIdeal.τ).loc Cert.LnOutRefIdeal.main_arg0) = m ((c.tc : Thread Cert.LnOutIdeal.nD Cert.LnOutIdeal.τ).loc Cert.LnOutIdeal.main_arg0)
      ∧ m' ((c.tc : Thread Cert.LnOutRefIdeal.nD Cert.LnOutRefIdeal.τ).loc Cert.LnOutRefIdeal.main_arg1) = m ((c.tc : Thread Cert.LnOutIdeal.nD Cert.LnOutIdeal.τ).loc Cert.LnOutIdeal.main_arg1)
      ∧ m' ((c.tc : Thread Cert.LnOutRefIdeal.nD Cert.LnOutRefIdeal.τ).loc Cert.LnOutRefIdeal.main_arg2) = m ((c.tc : Thread Cert.LnOutIdeal.nD Cert.LnOutIdeal.τ).loc Cert.LnOutIdeal.main_arg2)
      ∧ m' ((c.tc : Thread Cert.LnOutRefIdeal.nD Cert.LnOutRefIdeal.τ).loc Cert.LnOutRefIdeal.main_arg3) = m ((c.tc : Thread Cert.LnOutIdeal.nD Cert.LnOutIdeal.τ).loc Cert.LnOutIdeal.main_arg3)
      ∧ m' ((c.tc : Thread Cert.LnOutRefIdeal.nD Cert.LnOutRefIdeal.τ).loc Cert.LnOutRefIdeal.main_arg4) = m ((c.tc : Thread Cert.LnOutIdeal.nD Cert.LnOutIdeal.τ).loc Cert.LnOutIdeal.main_arg4)) →
    ∃ (v0 : (c : Dev Cert.LnOutIdeal.nD) → Buf (Elt Ideal) ((c.tc : Thread Cert.LnOutIdeal.nD Cert.LnOutIdeal.τ).loc Cert.LnOutIdeal.main_v0_0)) (v1 : (c : Dev Cert.LnOutIdeal.nD) → Buf (Elt Ideal) ((c.tc : Thread Cert.LnOutIdeal.nD Cert.LnOutIdeal.τ).loc Cert.LnOutIdeal.main_v0_1)) (v2 : (c : Dev Cert.LnOutIdeal.nD) → Buf (Elt Ideal) ((c.tc : Thread Cert.LnOutIdeal.nD Cert.LnOutIdeal.τ).loc Cert.LnOutIdeal.main_v0_2)) (v3 : (c : Dev Cert.LnOutIdeal.nD) → Buf (Elt Ideal) ((c.tc : Thread Cert.LnOutIdeal.nD Cert.LnOutIdeal.τ).loc Cert.LnOutIdeal.main_v0_3)),
      θ_run (Cert.LnOutIdeal.defs (F := Ideal)) (onTc (τ := Cert.LnOutIdeal.τ) (Cert.LnOutIdeal.main (F := Ideal))) ⟨m, fun _ => 0, g⟩ (fun r => ∀ c : Dev Cert.LnOutIdeal.nD,
          r.2.mem ((c.tc : Thread Cert.LnOutIdeal.nD Cert.LnOutIdeal.τ).loc Cert.LnOutIdeal.main_v0_0) = v0 c
          ∧ r.2.mem ((c.tc : Thread Cert.LnOutIdeal.nD Cert.LnOutIdeal.τ).loc Cert.LnOutIdeal.main_v0_1) = v1 c
          ∧ r.2.mem ((c.tc : Thread Cert.LnOutIdeal.nD Cert.LnOutIdeal.τ).loc Cert.LnOutIdeal.main_v0_2) = v2 c
          ∧ r.2.mem ((c.tc : Thread Cert.LnOutIdeal.nD Cert.LnOutIdeal.τ).loc Cert.LnOutIdeal.main_v0_3) = v3 c
          ∧ r.2.mem ((c.tc : Thread Cert.LnOutIdeal.nD Cert.LnOutIdeal.τ).loc Cert.LnOutIdeal.main_arg0) = m ((c.tc : Thread Cert.LnOutIdeal.nD Cert.LnOutIdeal.τ).loc Cert.LnOutIdeal.main_arg0)
          ∧ r.2.mem ((c.tc : Thread Cert.LnOutIdeal.nD Cert.LnOutIdeal.τ).loc Cert.LnOutIdeal.main_arg1) = m ((c.tc : Thread Cert.LnOutIdeal.nD Cert.LnOutIdeal.τ).loc Cert.LnOutIdeal.main_arg1)
          ∧ r.2.mem ((c.tc : Thread Cert.LnOutIdeal.nD Cert.LnOutIdeal.τ).loc Cert.LnOutIdeal.main_arg2) = m ((c.tc : Thread Cert.LnOutIdeal.nD Cert.LnOutIdeal.τ).loc Cert.LnOutIdeal.main_arg2)
          ∧ r.2.mem ((c.tc : Thread Cert.LnOutIdeal.nD Cert.LnOutIdeal.τ).loc Cert.LnOutIdeal.main_arg3) = m ((c.tc : Thread Cert.LnOutIdeal.nD Cert.LnOutIdeal.τ).loc Cert.LnOutIdeal.main_arg3)
          ∧ r.2.mem ((c.tc : Thread Cert.LnOutIdeal.nD Cert.LnOutIdeal.τ).loc Cert.LnOutIdeal.main_arg4) = m ((c.tc : Thread Cert.LnOutIdeal.nD Cert.LnOutIdeal.τ).loc Cert.LnOutIdeal.main_arg4))
      ∧ θ_run (Cert.LnOutRefIdeal.defs (F := Ideal)) (onTc (τ := Cert.LnOutRefIdeal.τ) (Cert.LnOutRefIdeal.main (F := Ideal))) ⟨m', fun _ => 0, g'⟩ (fun r => ∀ c : Dev Cert.LnOutRefIdeal.nD,
          r.2.mem ((c.tc : Thread Cert.LnOutRefIdeal.nD Cert.LnOutRefIdeal.τ).loc Cert.LnOutRefIdeal.main_v27) = v0 c
          ∧ r.2.mem ((c.tc : Thread Cert.LnOutRefIdeal.nD Cert.LnOutRefIdeal.τ).loc Cert.LnOutRefIdeal.main_v28) = v1 c
          ∧ r.2.mem ((c.tc : Thread Cert.LnOutRefIdeal.nD Cert.LnOutRefIdeal.τ).loc Cert.LnOutRefIdeal.main_v23) = v2 c
          ∧ r.2.mem ((c.tc : Thread Cert.LnOutRefIdeal.nD Cert.LnOutRefIdeal.τ).loc Cert.LnOutRefIdeal.main_v19) = v3 c
          ∧ r.2.mem ((c.tc : Thread Cert.LnOutRefIdeal.nD Cert.LnOutRefIdeal.τ).loc Cert.LnOutRefIdeal.main_arg0) = m' ((c.tc : Thread Cert.LnOutRefIdeal.nD Cert.LnOutRefIdeal.τ).loc Cert.LnOutRefIdeal.main_arg0)
          ∧ r.2.mem ((c.tc : Thread Cert.LnOutRefIdeal.nD Cert.LnOutRefIdeal.τ).loc Cert.LnOutRefIdeal.main_arg1) = m' ((c.tc : Thread Cert.LnOutRefIdeal.nD Cert.LnOutRefIdeal.τ).loc Cert.LnOutRefIdeal.main_arg1)
          ∧ r.2.mem ((c.tc : Thread Cert.LnOutRefIdeal.nD Cert.LnOutRefIdeal.τ).loc Cert.LnOutRefIdeal.main_arg2) = m' ((c.tc : Thread Cert.LnOutRefIdeal.nD Cert.LnOutRefIdeal.τ).loc Cert.LnOutRefIdeal.main_arg2)
          ∧ r.2.mem ((c.tc : Thread Cert.LnOutRefIdeal.nD Cert.LnOutRefIdeal.τ).loc Cert.LnOutRefIdeal.main_arg3) = m' ((c.tc : Thread Cert.LnOutRefIdeal.nD Cert.LnOutRefIdeal.τ).loc Cert.LnOutRefIdeal.main_arg3)
          ∧ r.2.mem ((c.tc : Thread Cert.LnOutRefIdeal.nD Cert.LnOutRefIdeal.τ).loc Cert.LnOutRefIdeal.main_arg4) = m' ((c.tc : Thread Cert.LnOutRefIdeal.nD Cert.LnOutRefIdeal.τ).loc Cert.LnOutRefIdeal.main_arg4))

def preserves_GradMix_GradMixIdeal : Prop :=
  True

def algebraic_GradMixIdeal_GradMixRefIdeal [hGradMixIdeal : Cert.GradMixIdeal.Facts] [hGradMixRefIdeal : Cert.GradMixRefIdeal.Facts] : Prop :=
  ∀ (m : (ℓ : Loc Cert.GradMixIdeal.nD Cert.GradMixIdeal.τ Cert.GradMixIdeal.sig) → Buf (Elt Ideal) ℓ) (g : Dev Cert.GradMixIdeal.nD → PrngReg)
    (m' : (ℓ : Loc Cert.GradMixRefIdeal.nD Cert.GradMixRefIdeal.τ Cert.GradMixRefIdeal.sig) → Buf (Elt Ideal) ℓ) (g' : Dev Cert.GradMixRefIdeal.nD → PrngReg), Pre_GradMixIdeal m →
    (∀ c : Dev Cert.GradMixIdeal.nD,
      m' ((c.tc : Thread Cert.GradMixRefIdeal.nD Cert.GradMixRefIdeal.τ).loc Cert.GradMixRefIdeal.main_arg0) = m ((c.tc : Thread Cert.GradMixIdeal.nD Cert.GradMixIdeal.τ).loc Cert.GradMixIdeal.main_arg0)
      ∧ m' ((c.tc : Thread Cert.GradMixRefIdeal.nD Cert.GradMixRefIdeal.τ).loc Cert.GradMixRefIdeal.main_arg1) = m ((c.tc : Thread Cert.GradMixIdeal.nD Cert.GradMixIdeal.τ).loc Cert.GradMixIdeal.main_arg1)
      ∧ m' ((c.tc : Thread Cert.GradMixRefIdeal.nD Cert.GradMixRefIdeal.τ).loc Cert.GradMixRefIdeal.main_arg2) = m ((c.tc : Thread Cert.GradMixIdeal.nD Cert.GradMixIdeal.τ).loc Cert.GradMixIdeal.main_arg2)
      ∧ m' ((c.tc : Thread Cert.GradMixRefIdeal.nD Cert.GradMixRefIdeal.τ).loc Cert.GradMixRefIdeal.main_arg3) = m ((c.tc : Thread Cert.GradMixIdeal.nD Cert.GradMixIdeal.τ).loc Cert.GradMixIdeal.main_arg3)
      ∧ m' ((c.tc : Thread Cert.GradMixRefIdeal.nD Cert.GradMixRefIdeal.τ).loc Cert.GradMixRefIdeal.main_arg4) = m ((c.tc : Thread Cert.GradMixIdeal.nD Cert.GradMixIdeal.τ).loc Cert.GradMixIdeal.main_arg4)
      ∧ m' ((c.tc : Thread Cert.GradMixRefIdeal.nD Cert.GradMixRefIdeal.τ).loc Cert.GradMixRefIdeal.main_arg5) = m ((c.tc : Thread Cert.GradMixIdeal.nD Cert.GradMixIdeal.τ).loc Cert.GradMixIdeal.main_arg5)) →
    ∃ (v0 : (c : Dev Cert.GradMixIdeal.nD) → Buf (Elt Ideal) ((c.tc : Thread Cert.GradMixIdeal.nD Cert.GradMixIdeal.τ).loc Cert.GradMixIdeal.main_v0_0)) (v1 : (c : Dev Cert.GradMixIdeal.nD) → Buf (Elt Ideal) ((c.tc : Thread Cert.GradMixIdeal.nD Cert.GradMixIdeal.τ).loc Cert.GradMixIdeal.main_v0_1)) (v2 : (c : Dev Cert.GradMixIdeal.nD) → Buf (Elt Ideal) ((c.tc : Thread Cert.GradMixIdeal.nD Cert.GradMixIdeal.τ).loc Cert.GradMixIdeal.main_v0_2)) (v3 : (c : Dev Cert.GradMixIdeal.nD) → Buf (Elt Ideal) ((c.tc : Thread Cert.GradMixIdeal.nD Cert.GradMixIdeal.τ).loc Cert.GradMixIdeal.main_v0_3)),
      θ_run (Cert.GradMixIdeal.defs (F := Ideal)) (onTc (τ := Cert.GradMixIdeal.τ) (Cert.GradMixIdeal.main (F := Ideal))) ⟨m, fun _ => 0, g⟩ (fun r => ∀ c : Dev Cert.GradMixIdeal.nD,
          r.2.mem ((c.tc : Thread Cert.GradMixIdeal.nD Cert.GradMixIdeal.τ).loc Cert.GradMixIdeal.main_v0_0) = v0 c
          ∧ r.2.mem ((c.tc : Thread Cert.GradMixIdeal.nD Cert.GradMixIdeal.τ).loc Cert.GradMixIdeal.main_v0_1) = v1 c
          ∧ r.2.mem ((c.tc : Thread Cert.GradMixIdeal.nD Cert.GradMixIdeal.τ).loc Cert.GradMixIdeal.main_v0_2) = v2 c
          ∧ r.2.mem ((c.tc : Thread Cert.GradMixIdeal.nD Cert.GradMixIdeal.τ).loc Cert.GradMixIdeal.main_v0_3) = v3 c
          ∧ r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
          ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
          ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2)
          ∧ r.2.mem ((c.tc : Thread Cert.GradMixIdeal.nD Cert.GradMixIdeal.τ).loc Cert.GradMixIdeal.main_arg3) = m ((c.tc : Thread Cert.GradMixIdeal.nD Cert.GradMixIdeal.τ).loc Cert.GradMixIdeal.main_arg3)
          ∧ r.2.mem ((c.tc : Thread Cert.GradMixIdeal.nD Cert.GradMixIdeal.τ).loc Cert.GradMixIdeal.main_arg4) = m ((c.tc : Thread Cert.GradMixIdeal.nD Cert.GradMixIdeal.τ).loc Cert.GradMixIdeal.main_arg4)
          ∧ r.2.mem ((c.tc : Thread Cert.GradMixIdeal.nD Cert.GradMixIdeal.τ).loc Cert.GradMixIdeal.main_arg5) = m ((c.tc : Thread Cert.GradMixIdeal.nD Cert.GradMixIdeal.τ).loc Cert.GradMixIdeal.main_arg5))
      ∧ θ_run (Cert.GradMixRefIdeal.defs (F := Ideal)) (onTc (τ := Cert.GradMixRefIdeal.τ) (Cert.GradMixRefIdeal.main (F := Ideal))) ⟨m', fun _ => 0, g'⟩ (fun r => ∀ c : Dev Cert.GradMixRefIdeal.nD,
          r.2.mem ((c.tc : Thread Cert.GradMixRefIdeal.nD Cert.GradMixRefIdeal.τ).loc Cert.GradMixRefIdeal.main_v36) = v0 c
          ∧ r.2.mem ((c.tc : Thread Cert.GradMixRefIdeal.nD Cert.GradMixRefIdeal.τ).loc Cert.GradMixRefIdeal.main_v37) = v1 c
          ∧ r.2.mem ((c.tc : Thread Cert.GradMixRefIdeal.nD Cert.GradMixRefIdeal.τ).loc Cert.GradMixRefIdeal.main_v38) = v2 c
          ∧ r.2.mem ((c.tc : Thread Cert.GradMixRefIdeal.nD Cert.GradMixRefIdeal.τ).loc Cert.GradMixRefIdeal.main_v35) = v3 c
          ∧ r.2.mem ((c.tc : Thread Cert.GradMixRefIdeal.nD Cert.GradMixRefIdeal.τ).loc Cert.GradMixRefIdeal.main_arg0) = m' ((c.tc : Thread Cert.GradMixRefIdeal.nD Cert.GradMixRefIdeal.τ).loc Cert.GradMixRefIdeal.main_arg0)
          ∧ r.2.mem ((c.tc : Thread Cert.GradMixRefIdeal.nD Cert.GradMixRefIdeal.τ).loc Cert.GradMixRefIdeal.main_arg1) = m' ((c.tc : Thread Cert.GradMixRefIdeal.nD Cert.GradMixRefIdeal.τ).loc Cert.GradMixRefIdeal.main_arg1)
          ∧ r.2.mem ((c.tc : Thread Cert.GradMixRefIdeal.nD Cert.GradMixRefIdeal.τ).loc Cert.GradMixRefIdeal.main_arg2) = m' ((c.tc : Thread Cert.GradMixRefIdeal.nD Cert.GradMixRefIdeal.τ).loc Cert.GradMixRefIdeal.main_arg2)
          ∧ r.2.mem ((c.tc : Thread Cert.GradMixRefIdeal.nD Cert.GradMixRefIdeal.τ).loc Cert.GradMixRefIdeal.main_arg3) = m' ((c.tc : Thread Cert.GradMixRefIdeal.nD Cert.GradMixRefIdeal.τ).loc Cert.GradMixRefIdeal.main_arg3)
          ∧ r.2.mem ((c.tc : Thread Cert.GradMixRefIdeal.nD Cert.GradMixRefIdeal.τ).loc Cert.GradMixRefIdeal.main_arg4) = m' ((c.tc : Thread Cert.GradMixRefIdeal.nD Cert.GradMixRefIdeal.τ).loc Cert.GradMixRefIdeal.main_arg4)
          ∧ r.2.mem ((c.tc : Thread Cert.GradMixRefIdeal.nD Cert.GradMixRefIdeal.τ).loc Cert.GradMixRefIdeal.main_arg5) = m' ((c.tc : Thread Cert.GradMixRefIdeal.nD Cert.GradMixRefIdeal.τ).loc Cert.GradMixRefIdeal.main_arg5))

def preserves_GradNorm_GradNormIdeal : Prop :=
  True

def algebraic_GradNormIdeal_GradNormRefIdeal_pre_finite_norm [hGradNormIdeal : Cert.GradNormIdeal.Facts] [hGradNormRefIdeal : Cert.GradNormRefIdeal.Facts] [hPre_finite_norm : Cert.Pre_finite_norm.Facts] : Prop :=
  ∀ (m : (ℓ : Loc Cert.GradNormIdeal.nD Cert.GradNormIdeal.τ Cert.GradNormIdeal.sig) → Buf (Elt Ideal) ℓ) (g : Dev Cert.GradNormIdeal.nD → PrngReg)
    (m' : (ℓ : Loc Cert.GradNormRefIdeal.nD Cert.GradNormRefIdeal.τ Cert.GradNormRefIdeal.sig) → Buf (Elt Ideal) ℓ) (g' : Dev Cert.GradNormRefIdeal.nD → PrngReg), Pre_GradNormIdeal_finite_norm m →
    (∀ c : Dev Cert.GradNormIdeal.nD,
      m' ((c.tc : Thread Cert.GradNormRefIdeal.nD Cert.GradNormRefIdeal.τ).loc Cert.GradNormRefIdeal.main_arg0) = m ((c.tc : Thread Cert.GradNormIdeal.nD Cert.GradNormIdeal.τ).loc Cert.GradNormIdeal.main_arg0)
      ∧ m' ((c.tc : Thread Cert.GradNormRefIdeal.nD Cert.GradNormRefIdeal.τ).loc Cert.GradNormRefIdeal.main_arg1) = m ((c.tc : Thread Cert.GradNormIdeal.nD Cert.GradNormIdeal.τ).loc Cert.GradNormIdeal.main_arg1)
      ∧ m' ((c.tc : Thread Cert.GradNormRefIdeal.nD Cert.GradNormRefIdeal.τ).loc Cert.GradNormRefIdeal.main_arg2) = m ((c.tc : Thread Cert.GradNormIdeal.nD Cert.GradNormIdeal.τ).loc Cert.GradNormIdeal.main_arg2)
      ∧ m' ((c.tc : Thread Cert.GradNormRefIdeal.nD Cert.GradNormRefIdeal.τ).loc Cert.GradNormRefIdeal.main_arg3) = m ((c.tc : Thread Cert.GradNormIdeal.nD Cert.GradNormIdeal.τ).loc Cert.GradNormIdeal.main_arg3)
      ∧ m' ((c.tc : Thread Cert.GradNormRefIdeal.nD Cert.GradNormRefIdeal.τ).loc Cert.GradNormRefIdeal.main_arg4) = m ((c.tc : Thread Cert.GradNormIdeal.nD Cert.GradNormIdeal.τ).loc Cert.GradNormIdeal.main_arg4)) →
    ∃ (v0 : (c : Dev Cert.GradNormIdeal.nD) → Buf (Elt Ideal) ((c.tc : Thread Cert.GradNormIdeal.nD Cert.GradNormIdeal.τ).loc Cert.GradNormIdeal.main_v18_0)) (v1 : (c : Dev Cert.GradNormIdeal.nD) → Buf (Elt Ideal) ((c.tc : Thread Cert.GradNormIdeal.nD Cert.GradNormIdeal.τ).loc Cert.GradNormIdeal.main_v18_1)) (v2 : (c : Dev Cert.GradNormIdeal.nD) → Buf (Elt Ideal) ((c.tc : Thread Cert.GradNormIdeal.nD Cert.GradNormIdeal.τ).loc Cert.GradNormIdeal.main_v18_2)) (v3 : (c : Dev Cert.GradNormIdeal.nD) → Buf (Elt Ideal) ((c.tc : Thread Cert.GradNormIdeal.nD Cert.GradNormIdeal.τ).loc Cert.GradNormIdeal.main_v18_3)),
      θ_run (Cert.GradNormIdeal.defs (F := Ideal)) (onTc (τ := Cert.GradNormIdeal.τ) (Cert.GradNormIdeal.main (F := Ideal))) ⟨m, fun _ => 0, g⟩ (fun r => ∀ c : Dev Cert.GradNormIdeal.nD,
          r.2.mem ((c.tc : Thread Cert.GradNormIdeal.nD Cert.GradNormIdeal.τ).loc Cert.GradNormIdeal.main_v18_0) = v0 c
          ∧ r.2.mem ((c.tc : Thread Cert.GradNormIdeal.nD Cert.GradNormIdeal.τ).loc Cert.GradNormIdeal.main_v18_1) = v1 c
          ∧ r.2.mem ((c.tc : Thread Cert.GradNormIdeal.nD Cert.GradNormIdeal.τ).loc Cert.GradNormIdeal.main_v18_2) = v2 c
          ∧ r.2.mem ((c.tc : Thread Cert.GradNormIdeal.nD Cert.GradNormIdeal.τ).loc Cert.GradNormIdeal.main_v18_3) = v3 c
          ∧ r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
          ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
          ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
          ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3)
          ∧ r.2.mem ((c.tc : Thread Cert.GradNormIdeal.nD Cert.GradNormIdeal.τ).loc Cert.GradNormIdeal.main_arg4) = m ((c.tc : Thread Cert.GradNormIdeal.nD Cert.GradNormIdeal.τ).loc Cert.GradNormIdeal.main_arg4))
      ∧ θ_run (Cert.GradNormRefIdeal.defs (F := Ideal)) (onTc (τ := Cert.GradNormRefIdeal.τ) (Cert.GradNormRefIdeal.main (F := Ideal))) ⟨m', fun _ => 0, g'⟩ (fun r => ∀ c : Dev Cert.GradNormRefIdeal.nD,
          r.2.mem ((c.tc : Thread Cert.GradNormRefIdeal.nD Cert.GradNormRefIdeal.τ).loc Cert.GradNormRefIdeal.main_v67) = v0 c
          ∧ r.2.mem ((c.tc : Thread Cert.GradNormRefIdeal.nD Cert.GradNormRefIdeal.τ).loc Cert.GradNormRefIdeal.main_v68) = v1 c
          ∧ r.2.mem ((c.tc : Thread Cert.GradNormRefIdeal.nD Cert.GradNormRefIdeal.τ).loc Cert.GradNormRefIdeal.main_v41) = v2 c
          ∧ r.2.mem ((c.tc : Thread Cert.GradNormRefIdeal.nD Cert.GradNormRefIdeal.τ).loc Cert.GradNormRefIdeal.main_v38) = v3 c
          ∧ r.2.mem ((c.tc : Thread Cert.GradNormRefIdeal.nD Cert.GradNormRefIdeal.τ).loc Cert.GradNormRefIdeal.main_arg0) = m' ((c.tc : Thread Cert.GradNormRefIdeal.nD Cert.GradNormRefIdeal.τ).loc Cert.GradNormRefIdeal.main_arg0)
          ∧ r.2.mem ((c.tc : Thread Cert.GradNormRefIdeal.nD Cert.GradNormRefIdeal.τ).loc Cert.GradNormRefIdeal.main_arg1) = m' ((c.tc : Thread Cert.GradNormRefIdeal.nD Cert.GradNormRefIdeal.τ).loc Cert.GradNormRefIdeal.main_arg1)
          ∧ r.2.mem ((c.tc : Thread Cert.GradNormRefIdeal.nD Cert.GradNormRefIdeal.τ).loc Cert.GradNormRefIdeal.main_arg2) = m' ((c.tc : Thread Cert.GradNormRefIdeal.nD Cert.GradNormRefIdeal.τ).loc Cert.GradNormRefIdeal.main_arg2)
          ∧ r.2.mem ((c.tc : Thread Cert.GradNormRefIdeal.nD Cert.GradNormRefIdeal.τ).loc Cert.GradNormRefIdeal.main_arg3) = m' ((c.tc : Thread Cert.GradNormRefIdeal.nD Cert.GradNormRefIdeal.τ).loc Cert.GradNormRefIdeal.main_arg3)
          ∧ r.2.mem ((c.tc : Thread Cert.GradNormRefIdeal.nD Cert.GradNormRefIdeal.τ).loc Cert.GradNormRefIdeal.main_arg4) = m' ((c.tc : Thread Cert.GradNormRefIdeal.nD Cert.GradNormRefIdeal.τ).loc Cert.GradNormRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_GradMemKv_GradMemKvIdeal : Prop :=
  True

def algebraic_GradMemKvIdeal_GradMemKvRefIdeal [hGradMemKvIdeal : Cert.GradMemKvIdeal.Facts] [hGradMemKvRefIdeal : Cert.GradMemKvRefIdeal.Facts] : Prop :=
  ∀ (m : (ℓ : Loc Cert.GradMemKvIdeal.nD Cert.GradMemKvIdeal.τ Cert.GradMemKvIdeal.sig) → Buf (Elt Ideal) ℓ) (g : Dev Cert.GradMemKvIdeal.nD → PrngReg)
    (m' : (ℓ : Loc Cert.GradMemKvRefIdeal.nD Cert.GradMemKvRefIdeal.τ Cert.GradMemKvRefIdeal.sig) → Buf (Elt Ideal) ℓ) (g' : Dev Cert.GradMemKvRefIdeal.nD → PrngReg), Pre_GradMemKvIdeal m →
    (∀ c : Dev Cert.GradMemKvIdeal.nD,
      m' ((c.tc : Thread Cert.GradMemKvRefIdeal.nD Cert.GradMemKvRefIdeal.τ).loc Cert.GradMemKvRefIdeal.main_arg0) = m ((c.tc : Thread Cert.GradMemKvIdeal.nD Cert.GradMemKvIdeal.τ).loc Cert.GradMemKvIdeal.main_arg0)
      ∧ m' ((c.tc : Thread Cert.GradMemKvRefIdeal.nD Cert.GradMemKvRefIdeal.τ).loc Cert.GradMemKvRefIdeal.main_arg1) = m ((c.tc : Thread Cert.GradMemKvIdeal.nD Cert.GradMemKvIdeal.τ).loc Cert.GradMemKvIdeal.main_arg1)) →
    ∃ (v0 : (c : Dev Cert.GradMemKvIdeal.nD) → Buf (Elt Ideal) ((c.tc : Thread Cert.GradMemKvIdeal.nD Cert.GradMemKvIdeal.τ).loc Cert.GradMemKvIdeal.main_v1)),
      θ_run (Cert.GradMemKvIdeal.defs (F := Ideal)) (onTc (τ := Cert.GradMemKvIdeal.τ) (Cert.GradMemKvIdeal.main (F := Ideal))) ⟨m, fun _ => 0, g⟩ (fun r => ∀ c : Dev Cert.GradMemKvIdeal.nD,
          r.2.mem ((c.tc : Thread Cert.GradMemKvIdeal.nD Cert.GradMemKvIdeal.τ).loc Cert.GradMemKvIdeal.main_v1) = v0 c
          ∧ r.2.mem ((c.tc : Thread Cert.GradMemKvIdeal.nD Cert.GradMemKvIdeal.τ).loc Cert.GradMemKvIdeal.main_arg0) = m ((c.tc : Thread Cert.GradMemKvIdeal.nD Cert.GradMemKvIdeal.τ).loc Cert.GradMemKvIdeal.main_arg0)
          ∧ r.2.mem ((c.tc : Thread Cert.GradMemKvIdeal.nD Cert.GradMemKvIdeal.τ).loc Cert.GradMemKvIdeal.main_arg1) = m ((c.tc : Thread Cert.GradMemKvIdeal.nD Cert.GradMemKvIdeal.τ).loc Cert.GradMemKvIdeal.main_arg1))
      ∧ θ_run (Cert.GradMemKvRefIdeal.defs (F := Ideal)) (onTc (τ := Cert.GradMemKvRefIdeal.τ) (Cert.GradMemKvRefIdeal.main (F := Ideal))) ⟨m', fun _ => 0, g'⟩ (fun r => ∀ c : Dev Cert.GradMemKvRefIdeal.nD,
          r.2.mem ((c.tc : Thread Cert.GradMemKvRefIdeal.nD Cert.GradMemKvRefIdeal.τ).loc Cert.GradMemKvRefIdeal.main_v3) = v0 c
          ∧ r.2.mem ((c.tc : Thread Cert.GradMemKvRefIdeal.nD Cert.GradMemKvRefIdeal.τ).loc Cert.GradMemKvRefIdeal.main_arg0) = m' ((c.tc : Thread Cert.GradMemKvRefIdeal.nD Cert.GradMemKvRefIdeal.τ).loc Cert.GradMemKvRefIdeal.main_arg0)
          ∧ r.2.mem ((c.tc : Thread Cert.GradMemKvRefIdeal.nD Cert.GradMemKvRefIdeal.τ).loc Cert.GradMemKvRefIdeal.main_arg1) = m' ((c.tc : Thread Cert.GradMemKvRefIdeal.nD Cert.GradMemKvRefIdeal.τ).loc Cert.GradMemKvRefIdeal.main_arg1))

def preserves_FfnOut_FfnOutIdeal : Prop :=
  True

def algebraic_FfnOutIdeal_FfnOutRefIdeal_pre_finite_out [hFfnOutIdeal : Cert.FfnOutIdeal.Facts] [hFfnOutRefIdeal : Cert.FfnOutRefIdeal.Facts] [hPre_finite_out : Cert.Pre_finite_out.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal_finite_out m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)) (v3 : (c : Dev Cert.FfnOutIdeal.nD) → Buf (Elt Ideal) ((c.tc : Thread Cert.FfnOutIdeal.nD Cert.FfnOutIdeal.τ).loc Cert.FfnOutIdeal.main_v0_3)) (v4 : (c : Dev Cert.FfnOutIdeal.nD) → Buf (Elt Ideal) ((c.tc : Thread Cert.FfnOutIdeal.nD Cert.FfnOutIdeal.τ).loc Cert.FfnOutIdeal.main_v0_4)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_v0_3) = v3 c
          ∧ r.2.mem ((c.tc : Thread Cert.FfnOutIdeal.nD Cert.FfnOutIdeal.τ).loc Cert.FfnOutIdeal.main_v0_4) = v4 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v78) = v0 c
          ∧ r.2.mem ((c.tc : Thread Cert.FfnOutRefIdeal.nD Cert.FfnOutRefIdeal.τ).loc Cert.FfnOutRefIdeal.main_v105) = v1 c
          ∧ r.2.mem ((c.tc : Thread Cert.FfnOutRefIdeal.nD Cert.FfnOutRefIdeal.τ).loc Cert.FfnOutRefIdeal.main_v104) = v2 c
          ∧ r.2.mem ((c.tc : Thread Cert.FfnOutRefIdeal.nD Cert.FfnOutRefIdeal.τ).loc Cert.FfnOutRefIdeal.main_v52) = v3 c
          ∧ r.2.mem ((c.tc : Thread Cert.FfnOutRefIdeal.nD Cert.FfnOutRefIdeal.τ).loc Cert.FfnOutRefIdeal.main_v49) = v4 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSbO_AdamSbOIdeal : Prop :=
  True

def algebraic_AdamSbOIdeal_AdamSbORefIdeal [hAdamSbOIdeal : Cert.AdamSbOIdeal.Facts] [hAdamSbORefIdeal : Cert.AdamSbORefIdeal.Facts] : Prop :=
  ∀ (m : (ℓ : Loc Cert.AdamSbOIdeal.nD Cert.AdamSbOIdeal.τ Cert.AdamSbOIdeal.sig) → Buf (Elt Ideal) ℓ) (g : Dev Cert.AdamSbOIdeal.nD → PrngReg)
    (m' : (ℓ : Loc Cert.AdamSbORefIdeal.nD Cert.AdamSbORefIdeal.τ Cert.AdamSbORefIdeal.sig) → Buf (Elt Ideal) ℓ) (g' : Dev Cert.AdamSbORefIdeal.nD → PrngReg), Pre_AdamSbOIdeal m →
    (∀ c : Dev Cert.AdamSbOIdeal.nD,
      m' ((c.tc : Thread Cert.AdamSbORefIdeal.nD Cert.AdamSbORefIdeal.τ).loc Cert.AdamSbORefIdeal.main_arg0) = m ((c.tc : Thread Cert.AdamSbOIdeal.nD Cert.AdamSbOIdeal.τ).loc Cert.AdamSbOIdeal.main_arg0)
      ∧ m' ((c.tc : Thread Cert.AdamSbORefIdeal.nD Cert.AdamSbORefIdeal.τ).loc Cert.AdamSbORefIdeal.main_arg1) = m ((c.tc : Thread Cert.AdamSbOIdeal.nD Cert.AdamSbOIdeal.τ).loc Cert.AdamSbOIdeal.main_arg1)
      ∧ m' ((c.tc : Thread Cert.AdamSbORefIdeal.nD Cert.AdamSbORefIdeal.τ).loc Cert.AdamSbORefIdeal.main_arg2) = m ((c.tc : Thread Cert.AdamSbOIdeal.nD Cert.AdamSbOIdeal.τ).loc Cert.AdamSbOIdeal.main_arg2)
      ∧ m' ((c.tc : Thread Cert.AdamSbORefIdeal.nD Cert.AdamSbORefIdeal.τ).loc Cert.AdamSbORefIdeal.main_arg3) = m ((c.tc : Thread Cert.AdamSbOIdeal.nD Cert.AdamSbOIdeal.τ).loc Cert.AdamSbOIdeal.main_arg3)) →
    ∃ (v0 : (c : Dev Cert.AdamSbOIdeal.nD) → Buf (Elt Ideal) ((c.tc : Thread Cert.AdamSbOIdeal.nD Cert.AdamSbOIdeal.τ).loc Cert.AdamSbOIdeal.main_v0_0)) (v1 : (c : Dev Cert.AdamSbOIdeal.nD) → Buf (Elt Ideal) ((c.tc : Thread Cert.AdamSbOIdeal.nD Cert.AdamSbOIdeal.τ).loc Cert.AdamSbOIdeal.main_v0_1)) (v2 : (c : Dev Cert.AdamSbOIdeal.nD) → Buf (Elt Ideal) ((c.tc : Thread Cert.AdamSbOIdeal.nD Cert.AdamSbOIdeal.τ).loc Cert.AdamSbOIdeal.main_v0_2)) (v3 : (c : Dev Cert.AdamSbOIdeal.nD) → Buf (Elt Ideal) ((c.tc : Thread Cert.AdamSbOIdeal.nD Cert.AdamSbOIdeal.τ).loc Cert.AdamSbOIdeal.main_v0_3)),
      θ_run (Cert.AdamSbOIdeal.defs (F := Ideal)) (onTc (τ := Cert.AdamSbOIdeal.τ) (Cert.AdamSbOIdeal.main (F := Ideal))) ⟨m, fun _ => 0, g⟩ (fun r => ∀ c : Dev Cert.AdamSbOIdeal.nD,
          r.2.mem ((c.tc : Thread Cert.AdamSbOIdeal.nD Cert.AdamSbOIdeal.τ).loc Cert.AdamSbOIdeal.main_v0_0) = v0 c
          ∧ r.2.mem ((c.tc : Thread Cert.AdamSbOIdeal.nD Cert.AdamSbOIdeal.τ).loc Cert.AdamSbOIdeal.main_v0_1) = v1 c
          ∧ r.2.mem ((c.tc : Thread Cert.AdamSbOIdeal.nD Cert.AdamSbOIdeal.τ).loc Cert.AdamSbOIdeal.main_v0_2) = v2 c
          ∧ r.2.mem ((c.tc : Thread Cert.AdamSbOIdeal.nD Cert.AdamSbOIdeal.τ).loc Cert.AdamSbOIdeal.main_v0_3) = v3 c
          ∧ r.2.mem ((c.tc : Thread Cert.AdamSbOIdeal.nD Cert.AdamSbOIdeal.τ).loc Cert.AdamSbOIdeal.main_arg0) = m ((c.tc : Thread Cert.AdamSbOIdeal.nD Cert.AdamSbOIdeal.τ).loc Cert.AdamSbOIdeal.main_arg0)
          ∧ r.2.mem ((c.tc : Thread Cert.AdamSbOIdeal.nD Cert.AdamSbOIdeal.τ).loc Cert.AdamSbOIdeal.main_arg1) = m ((c.tc : Thread Cert.AdamSbOIdeal.nD Cert.AdamSbOIdeal.τ).loc Cert.AdamSbOIdeal.main_arg1)
          ∧ r.2.mem ((c.tc : Thread Cert.AdamSbOIdeal.nD Cert.AdamSbOIdeal.τ).loc Cert.AdamSbOIdeal.main_arg2) = m ((c.tc : Thread Cert.AdamSbOIdeal.nD Cert.AdamSbOIdeal.τ).loc Cert.AdamSbOIdeal.main_arg2)
          ∧ r.2.mem ((c.tc : Thread Cert.AdamSbOIdeal.nD Cert.AdamSbOIdeal.τ).loc Cert.AdamSbOIdeal.main_arg3) = m ((c.tc : Thread Cert.AdamSbOIdeal.nD Cert.AdamSbOIdeal.τ).loc Cert.AdamSbOIdeal.main_arg3))
      ∧ θ_run (Cert.AdamSbORefIdeal.defs (F := Ideal)) (onTc (τ := Cert.AdamSbORefIdeal.τ) (Cert.AdamSbORefIdeal.main (F := Ideal))) ⟨m', fun _ => 0, g'⟩ (fun r => ∀ c : Dev Cert.AdamSbORefIdeal.nD,
          r.2.mem ((c.tc : Thread Cert.AdamSbORefIdeal.nD Cert.AdamSbORefIdeal.τ).loc Cert.AdamSbORefIdeal.main_v1) = v0 c
          ∧ r.2.mem ((c.tc : Thread Cert.AdamSbORefIdeal.nD Cert.AdamSbORefIdeal.τ).loc Cert.AdamSbORefIdeal.main_v25) = v1 c
          ∧ r.2.mem ((c.tc : Thread Cert.AdamSbORefIdeal.nD Cert.AdamSbORefIdeal.τ).loc Cert.AdamSbORefIdeal.main_v6) = v2 c
          ∧ r.2.mem ((c.tc : Thread Cert.AdamSbORefIdeal.nD Cert.AdamSbORefIdeal.τ).loc Cert.AdamSbORefIdeal.main_v12) = v3 c
          ∧ r.2.mem ((c.tc : Thread Cert.AdamSbORefIdeal.nD Cert.AdamSbORefIdeal.τ).loc Cert.AdamSbORefIdeal.main_arg0) = m' ((c.tc : Thread Cert.AdamSbORefIdeal.nD Cert.AdamSbORefIdeal.τ).loc Cert.AdamSbORefIdeal.main_arg0)
          ∧ r.2.mem ((c.tc : Thread Cert.AdamSbORefIdeal.nD Cert.AdamSbORefIdeal.τ).loc Cert.AdamSbORefIdeal.main_arg1) = m' ((c.tc : Thread Cert.AdamSbORefIdeal.nD Cert.AdamSbORefIdeal.τ).loc Cert.AdamSbORefIdeal.main_arg1)
          ∧ r.2.mem ((c.tc : Thread Cert.AdamSbORefIdeal.nD Cert.AdamSbORefIdeal.τ).loc Cert.AdamSbORefIdeal.main_arg2) = m' ((c.tc : Thread Cert.AdamSbORefIdeal.nD Cert.AdamSbORefIdeal.τ).loc Cert.AdamSbORefIdeal.main_arg2)
          ∧ r.2.mem ((c.tc : Thread Cert.AdamSbORefIdeal.nD Cert.AdamSbORefIdeal.τ).loc Cert.AdamSbORefIdeal.main_arg3) = m' ((c.tc : Thread Cert.AdamSbORefIdeal.nD Cert.AdamSbORefIdeal.τ).loc Cert.AdamSbORefIdeal.main_arg3))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v0_0)) (v1 : (c : Dev Cert.AdamRowsIdeal.nD) → Buf (Elt Ideal) ((c.tc : Thread Cert.AdamRowsIdeal.nD Cert.AdamRowsIdeal.τ).loc Cert.AdamRowsIdeal.main_v0_1)) (v2 : (c : Dev Cert.AdamRowsIdeal.nD) → Buf (Elt Ideal) ((c.tc : Thread Cert.AdamRowsIdeal.nD Cert.AdamRowsIdeal.τ).loc Cert.AdamRowsIdeal.main_v0_2)) (v3 : (c : Dev Cert.AdamRowsIdeal.nD) → Buf (Elt Ideal) ((c.tc : Thread Cert.AdamRowsIdeal.nD Cert.AdamRowsIdeal.τ).loc Cert.AdamRowsIdeal.main_v0_3)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v0_0) = v0 c
          ∧ r.2.mem ((c.tc : Thread Cert.AdamRowsIdeal.nD Cert.AdamRowsIdeal.τ).loc Cert.AdamRowsIdeal.main_v0_1) = v1 c
          ∧ r.2.mem ((c.tc : Thread Cert.AdamRowsIdeal.nD Cert.AdamRowsIdeal.τ).loc Cert.AdamRowsIdeal.main_v0_2) = v2 c
          ∧ r.2.mem ((c.tc : Thread Cert.AdamRowsIdeal.nD Cert.AdamRowsIdeal.τ).loc Cert.AdamRowsIdeal.main_v0_3) = v3 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v1) = v0 c
          ∧ r.2.mem ((c.tc : Thread Cert.AdamRowsRefIdeal.nD Cert.AdamRowsRefIdeal.τ).loc Cert.AdamRowsRefIdeal.main_v25) = v1 c
          ∧ r.2.mem ((c.tc : Thread Cert.AdamRowsRefIdeal.nD Cert.AdamRowsRefIdeal.τ).loc Cert.AdamRowsRefIdeal.main_v6) = v2 c
          ∧ r.2.mem ((c.tc : Thread Cert.AdamRowsRefIdeal.nD Cert.AdamRowsRefIdeal.τ).loc Cert.AdamRowsRefIdeal.main_v12) = v3 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamMemKv_AdamMemKvIdeal : Prop :=
  True

def algebraic_AdamMemKvIdeal_AdamMemKvRefIdeal [hAdamMemKvIdeal : Cert.AdamMemKvIdeal.Facts] [hAdamMemKvRefIdeal : Cert.AdamMemKvRefIdeal.Facts] : Prop :=
  ∀ (m : (ℓ : Loc Cert.AdamMemKvIdeal.nD Cert.AdamMemKvIdeal.τ Cert.AdamMemKvIdeal.sig) → Buf (Elt Ideal) ℓ) (g : Dev Cert.AdamMemKvIdeal.nD → PrngReg)
    (m' : (ℓ : Loc Cert.AdamMemKvRefIdeal.nD Cert.AdamMemKvRefIdeal.τ Cert.AdamMemKvRefIdeal.sig) → Buf (Elt Ideal) ℓ) (g' : Dev Cert.AdamMemKvRefIdeal.nD → PrngReg), Pre_AdamMemKvIdeal m →
    (∀ c : Dev Cert.AdamMemKvIdeal.nD,
      m' ((c.tc : Thread Cert.AdamMemKvRefIdeal.nD Cert.AdamMemKvRefIdeal.τ).loc Cert.AdamMemKvRefIdeal.main_arg0) = m ((c.tc : Thread Cert.AdamMemKvIdeal.nD Cert.AdamMemKvIdeal.τ).loc Cert.AdamMemKvIdeal.main_arg0)
      ∧ m' ((c.tc : Thread Cert.AdamMemKvRefIdeal.nD Cert.AdamMemKvRefIdeal.τ).loc Cert.AdamMemKvRefIdeal.main_arg1) = m ((c.tc : Thread Cert.AdamMemKvIdeal.nD Cert.AdamMemKvIdeal.τ).loc Cert.AdamMemKvIdeal.main_arg1)
      ∧ m' ((c.tc : Thread Cert.AdamMemKvRefIdeal.nD Cert.AdamMemKvRefIdeal.τ).loc Cert.AdamMemKvRefIdeal.main_arg2) = m ((c.tc : Thread Cert.AdamMemKvIdeal.nD Cert.AdamMemKvIdeal.τ).loc Cert.AdamMemKvIdeal.main_arg2)
      ∧ m' ((c.tc : Thread Cert.AdamMemKvRefIdeal.nD Cert.AdamMemKvRefIdeal.τ).loc Cert.AdamMemKvRefIdeal.main_arg3) = m ((c.tc : Thread Cert.AdamMemKvIdeal.nD Cert.AdamMemKvIdeal.τ).loc Cert.AdamMemKvIdeal.main_arg3)) →
    ∃ (v0 : (c : Dev Cert.AdamMemKvIdeal.nD) → Buf (Elt Ideal) ((c.tc : Thread Cert.AdamMemKvIdeal.nD Cert.AdamMemKvIdeal.τ).loc Cert.AdamMemKvIdeal.main_v0_0)) (v1 : (c : Dev Cert.AdamMemKvIdeal.nD) → Buf (Elt Ideal) ((c.tc : Thread Cert.AdamMemKvIdeal.nD Cert.AdamMemKvIdeal.τ).loc Cert.AdamMemKvIdeal.main_v0_1)) (v2 : (c : Dev Cert.AdamMemKvIdeal.nD) → Buf (Elt Ideal) ((c.tc : Thread Cert.AdamMemKvIdeal.nD Cert.AdamMemKvIdeal.τ).loc Cert.AdamMemKvIdeal.main_v0_2)) (v3 : (c : Dev Cert.AdamMemKvIdeal.nD) → Buf (Elt Ideal) ((c.tc : Thread Cert.AdamMemKvIdeal.nD Cert.AdamMemKvIdeal.τ).loc Cert.AdamMemKvIdeal.main_v0_3)),
      θ_run (Cert.AdamMemKvIdeal.defs (F := Ideal)) (onTc (τ := Cert.AdamMemKvIdeal.τ) (Cert.AdamMemKvIdeal.main (F := Ideal))) ⟨m, fun _ => 0, g⟩ (fun r => ∀ c : Dev Cert.AdamMemKvIdeal.nD,
          r.2.mem ((c.tc : Thread Cert.AdamMemKvIdeal.nD Cert.AdamMemKvIdeal.τ).loc Cert.AdamMemKvIdeal.main_v0_0) = v0 c
          ∧ r.2.mem ((c.tc : Thread Cert.AdamMemKvIdeal.nD Cert.AdamMemKvIdeal.τ).loc Cert.AdamMemKvIdeal.main_v0_1) = v1 c
          ∧ r.2.mem ((c.tc : Thread Cert.AdamMemKvIdeal.nD Cert.AdamMemKvIdeal.τ).loc Cert.AdamMemKvIdeal.main_v0_2) = v2 c
          ∧ r.2.mem ((c.tc : Thread Cert.AdamMemKvIdeal.nD Cert.AdamMemKvIdeal.τ).loc Cert.AdamMemKvIdeal.main_v0_3) = v3 c
          ∧ r.2.mem ((c.tc : Thread Cert.AdamMemKvIdeal.nD Cert.AdamMemKvIdeal.τ).loc Cert.AdamMemKvIdeal.main_arg0) = m ((c.tc : Thread Cert.AdamMemKvIdeal.nD Cert.AdamMemKvIdeal.τ).loc Cert.AdamMemKvIdeal.main_arg0)
          ∧ r.2.mem ((c.tc : Thread Cert.AdamMemKvIdeal.nD Cert.AdamMemKvIdeal.τ).loc Cert.AdamMemKvIdeal.main_arg1) = m ((c.tc : Thread Cert.AdamMemKvIdeal.nD Cert.AdamMemKvIdeal.τ).loc Cert.AdamMemKvIdeal.main_arg1)
          ∧ r.2.mem ((c.tc : Thread Cert.AdamMemKvIdeal.nD Cert.AdamMemKvIdeal.τ).loc Cert.AdamMemKvIdeal.main_arg2) = m ((c.tc : Thread Cert.AdamMemKvIdeal.nD Cert.AdamMemKvIdeal.τ).loc Cert.AdamMemKvIdeal.main_arg2)
          ∧ r.2.mem ((c.tc : Thread Cert.AdamMemKvIdeal.nD Cert.AdamMemKvIdeal.τ).loc Cert.AdamMemKvIdeal.main_arg3) = m ((c.tc : Thread Cert.AdamMemKvIdeal.nD Cert.AdamMemKvIdeal.τ).loc Cert.AdamMemKvIdeal.main_arg3))
      ∧ θ_run (Cert.AdamMemKvRefIdeal.defs (F := Ideal)) (onTc (τ := Cert.AdamMemKvRefIdeal.τ) (Cert.AdamMemKvRefIdeal.main (F := Ideal))) ⟨m', fun _ => 0, g'⟩ (fun r => ∀ c : Dev Cert.AdamMemKvRefIdeal.nD,
          r.2.mem ((c.tc : Thread Cert.AdamMemKvRefIdeal.nD Cert.AdamMemKvRefIdeal.τ).loc Cert.AdamMemKvRefIdeal.main_v1) = v0 c
          ∧ r.2.mem ((c.tc : Thread Cert.AdamMemKvRefIdeal.nD Cert.AdamMemKvRefIdeal.τ).loc Cert.AdamMemKvRefIdeal.main_v25) = v1 c
          ∧ r.2.mem ((c.tc : Thread Cert.AdamMemKvRefIdeal.nD Cert.AdamMemKvRefIdeal.τ).loc Cert.AdamMemKvRefIdeal.main_v6) = v2 c
          ∧ r.2.mem ((c.tc : Thread Cert.AdamMemKvRefIdeal.nD Cert.AdamMemKvRefIdeal.τ).loc Cert.AdamMemKvRefIdeal.main_v12) = v3 c
          ∧ r.2.mem ((c.tc : Thread Cert.AdamMemKvRefIdeal.nD Cert.AdamMemKvRefIdeal.τ).loc Cert.AdamMemKvRefIdeal.main_arg0) = m' ((c.tc : Thread Cert.AdamMemKvRefIdeal.nD Cert.AdamMemKvRefIdeal.τ).loc Cert.AdamMemKvRefIdeal.main_arg0)
          ∧ r.2.mem ((c.tc : Thread Cert.AdamMemKvRefIdeal.nD Cert.AdamMemKvRefIdeal.τ).loc Cert.AdamMemKvRefIdeal.main_arg1) = m' ((c.tc : Thread Cert.AdamMemKvRefIdeal.nD Cert.AdamMemKvRefIdeal.τ).loc Cert.AdamMemKvRefIdeal.main_arg1)
          ∧ r.2.mem ((c.tc : Thread Cert.AdamMemKvRefIdeal.nD Cert.AdamMemKvRefIdeal.τ).loc Cert.AdamMemKvRefIdeal.main_arg2) = m' ((c.tc : Thread Cert.AdamMemKvRefIdeal.nD Cert.AdamMemKvRefIdeal.τ).loc Cert.AdamMemKvRefIdeal.main_arg2)
          ∧ r.2.mem ((c.tc : Thread Cert.AdamMemKvRefIdeal.nD Cert.AdamMemKvRefIdeal.τ).loc Cert.AdamMemKvRefIdeal.main_arg3) = m' ((c.tc : Thread Cert.AdamMemKvRefIdeal.nD Cert.AdamMemKvRefIdeal.τ).loc Cert.AdamMemKvRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v1) = v0 c
          ∧ r.2.mem ((c.tc : Thread Cert.AdamFfnInRefIdeal.nD Cert.AdamFfnInRefIdeal.τ).loc Cert.AdamFfnInRefIdeal.main_v25) = v1 c
          ∧ r.2.mem ((c.tc : Thread Cert.AdamFfnInRefIdeal.nD Cert.AdamFfnInRefIdeal.τ).loc Cert.AdamFfnInRefIdeal.main_v6) = v2 c
          ∧ r.2.mem ((c.tc : Thread Cert.AdamFfnInRefIdeal.nD Cert.AdamFfnInRefIdeal.τ).loc Cert.AdamFfnInRefIdeal.main_v12) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v1) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v6) = v2 c
          ∧ r.2.mem ((c.tc : Thread Cert.AdamFfnOutRefIdeal.nD Cert.AdamFfnOutRefIdeal.τ).loc Cert.AdamFfnOutRefIdeal.main_v12) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hKernelb : Cert.Kernelb.Facts) (hKernelbIdeal : Cert.KernelbIdeal.Facts) (hReferencebIdeal : Cert.ReferencebIdeal.Facts) (hFfnBwd : Cert.FfnBwd.Facts) (hFfnBwdIdeal : Cert.FfnBwdIdeal.Facts) (hFfnBwdRefIdeal : Cert.FfnBwdRefIdeal.Facts) (hGradFfnIn : Cert.GradFfnIn.Facts) (hGradFfnInIdeal : Cert.GradFfnInIdeal.Facts) (hGradFfnInRefIdeal : Cert.GradFfnInRefIdeal.Facts) (hGradFfnOut : Cert.GradFfnOut.Facts) (hGradFfnOutIdeal : Cert.GradFfnOutIdeal.Facts) (hGradFfnOutRefIdeal : Cert.GradFfnOutRefIdeal.Facts) (hFfnFwd : Cert.FfnFwd.Facts) (hFfnFwdIdeal : Cert.FfnFwdIdeal.Facts) (hFfnFwdRefIdeal : Cert.FfnFwdRefIdeal.Facts) (hProjIn : Cert.ProjIn.Facts) (hProjInIdeal : Cert.ProjInIdeal.Facts) (hProjInRefIdeal : Cert.ProjInRefIdeal.Facts) (hGradSquare : Cert.GradSquare.Facts) (hGradSquareIdeal : Cert.GradSquareIdeal.Facts) (hGradSquareRefIdeal : Cert.GradSquareRefIdeal.Facts) (hGradHalf : Cert.GradHalf.Facts) (hGradHalfIdeal : Cert.GradHalfIdeal.Facts) (hGradHalfRefIdeal : Cert.GradHalfRefIdeal.Facts) (hGradGate : Cert.GradGate.Facts) (hGradGateIdeal : Cert.GradGateIdeal.Facts) (hGradGateRefIdeal : Cert.GradGateRefIdeal.Facts) (hGradOm : Cert.GradOm.Facts) (hGradOmIdeal : Cert.GradOmIdeal.Facts) (hGradOmRefIdeal : Cert.GradOmRefIdeal.Facts) (hGradYGated : Cert.GradYGated.Facts) (hGradYGatedIdeal : Cert.GradYGatedIdeal.Facts) (hGradYGatedRefIdeal : Cert.GradYGatedRefIdeal.Facts) (hGradASb : Cert.GradASb.Facts) (hGradASbIdeal : Cert.GradASbIdeal.Facts) (hGradASbRefIdeal : Cert.GradASbRefIdeal.Facts) (hGradSbO : Cert.GradSbO.Facts) (hGradSbOIdeal : Cert.GradSbOIdeal.Facts) (hGradSbORefIdeal : Cert.GradSbORefIdeal.Facts) (hMemQ : Cert.MemQ.Facts) (hMemQIdeal : Cert.MemQIdeal.Facts) (hMemQRefIdeal : Cert.MemQRefIdeal.Facts) (hSbOut : Cert.SbOut.Facts) (hSbOutIdeal : Cert.SbOutIdeal.Facts) (hSbOutRefIdeal : Cert.SbOutRefIdeal.Facts) (hRetOut : Cert.RetOut.Facts) (hRetOutIdeal : Cert.RetOutIdeal.Facts) (hRetOutRefIdeal : Cert.RetOutRefIdeal.Facts) (hLnOut : Cert.LnOut.Facts) (hLnOutIdeal : Cert.LnOutIdeal.Facts) (hLnOutRefIdeal : Cert.LnOutRefIdeal.Facts) (hGradMix : Cert.GradMix.Facts) (hGradMixIdeal : Cert.GradMixIdeal.Facts) (hGradMixRefIdeal : Cert.GradMixRefIdeal.Facts) (hGradNorm : Cert.GradNorm.Facts) (hGradNormIdeal : Cert.GradNormIdeal.Facts) (hGradNormRefIdeal : Cert.GradNormRefIdeal.Facts) (hMemKv : Cert.MemKv.Facts) (hMemKvIdeal : Cert.MemKvIdeal.Facts) (hMemKvRefIdeal : Cert.MemKvRefIdeal.Facts) (hGradMemKv : Cert.GradMemKv.Facts) (hGradMemKvIdeal : Cert.GradMemKvIdeal.Facts) (hGradMemKvRefIdeal : Cert.GradMemKvRefIdeal.Facts) (hFfnOut : Cert.FfnOut.Facts) (hFfnOutIdeal : Cert.FfnOutIdeal.Facts) (hFfnOutRefIdeal : Cert.FfnOutRefIdeal.Facts) (hAdamIn : Cert.AdamIn.Facts) (hAdamInIdeal : Cert.AdamInIdeal.Facts) (hAdamInRefIdeal : Cert.AdamInRefIdeal.Facts) (hAdamSbO : Cert.AdamSbO.Facts) (hAdamSbOIdeal : Cert.AdamSbOIdeal.Facts) (hAdamSbORefIdeal : Cert.AdamSbORefIdeal.Facts) (hAdamRows : Cert.AdamRows.Facts) (hAdamRowsIdeal : Cert.AdamRowsIdeal.Facts) (hAdamRowsRefIdeal : Cert.AdamRowsRefIdeal.Facts) (hAdamMemKv : Cert.AdamMemKv.Facts) (hAdamMemKvIdeal : Cert.AdamMemKvIdeal.Facts) (hAdamMemKvRefIdeal : Cert.AdamMemKvRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_ffn : Cert.Pre_finite_ffn.Facts) (hPre_finite_norm : Cert.Pre_finite_norm.Facts) (hPre_finite_out : Cert.Pre_finite_out.Facts),
    quiescent_Kernel (hKernel := hKernel)
    ∧ quiescent_KernelIdeal (hKernelIdeal := hKernelIdeal)
    ∧ quiescent_ReferenceIdeal (hReferenceIdeal := hReferenceIdeal)
    ∧ quiescent_Kernelb (hKernelb := hKernelb)
    ∧ quiescent_KernelbIdeal (hKernelbIdeal := hKernelbIdeal)
    ∧ quiescent_KernelbIdeal_pre_finite (hKernelbIdeal := hKernelbIdeal) (hPre_finite := hPre_finite)
    ∧ quiescent_ReferencebIdeal (hReferencebIdeal := hReferencebIdeal)
    ∧ quiescent_ReferencebIdeal_pre_finite (hReferencebIdeal := hReferencebIdeal) (hPre_finite := hPre_finite)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_GradFfnIn (hGradFfnIn := hGradFfnIn)
    ∧ quiescent_GradFfnInIdeal (hGradFfnInIdeal := hGradFfnInIdeal)
    ∧ quiescent_GradFfnInRefIdeal (hGradFfnInRefIdeal := hGradFfnInRefIdeal)
    ∧ quiescent_GradFfnOut (hGradFfnOut := hGradFfnOut)
    ∧ quiescent_GradFfnOutIdeal (hGradFfnOutIdeal := hGradFfnOutIdeal)
    ∧ quiescent_GradFfnOutRefIdeal (hGradFfnOutRefIdeal := hGradFfnOutRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_GradSquare (hGradSquare := hGradSquare)
    ∧ quiescent_GradSquareIdeal (hGradSquareIdeal := hGradSquareIdeal)
    ∧ quiescent_GradSquareRefIdeal (hGradSquareRefIdeal := hGradSquareRefIdeal)
    ∧ quiescent_GradHalf (hGradHalf := hGradHalf)
    ∧ quiescent_GradHalfIdeal (hGradHalfIdeal := hGradHalfIdeal)
    ∧ quiescent_GradHalfRefIdeal (hGradHalfRefIdeal := hGradHalfRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradOm (hGradOm := hGradOm)
    ∧ quiescent_GradOmIdeal (hGradOmIdeal := hGradOmIdeal)
    ∧ quiescent_GradOmRefIdeal (hGradOmRefIdeal := hGradOmRefIdeal)
    ∧ quiescent_GradYGated (hGradYGated := hGradYGated)
    ∧ quiescent_GradYGatedIdeal (hGradYGatedIdeal := hGradYGatedIdeal)
    ∧ quiescent_GradYGatedRefIdeal (hGradYGatedRefIdeal := hGradYGatedRefIdeal)
    ∧ quiescent_GradASb (hGradASb := hGradASb)
    ∧ quiescent_GradASbIdeal (hGradASbIdeal := hGradASbIdeal)
    ∧ quiescent_GradASbRefIdeal (hGradASbRefIdeal := hGradASbRefIdeal)
    ∧ quiescent_GradSbO (hGradSbO := hGradSbO)
    ∧ quiescent_GradSbOIdeal (hGradSbOIdeal := hGradSbOIdeal)
    ∧ quiescent_GradSbORefIdeal (hGradSbORefIdeal := hGradSbORefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_SbOut (hSbOut := hSbOut)
    ∧ quiescent_SbOutIdeal (hSbOutIdeal := hSbOutIdeal)
    ∧ quiescent_SbOutRefIdeal (hSbOutRefIdeal := hSbOutRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_LnOut (hLnOut := hLnOut)
    ∧ quiescent_LnOutIdeal (hLnOutIdeal := hLnOutIdeal)
    ∧ quiescent_LnOutRefIdeal (hLnOutRefIdeal := hLnOutRefIdeal)
    ∧ quiescent_GradMix (hGradMix := hGradMix)
    ∧ quiescent_GradMixIdeal (hGradMixIdeal := hGradMixIdeal)
    ∧ quiescent_GradMixRefIdeal (hGradMixRefIdeal := hGradMixRefIdeal)
    ∧ quiescent_GradNorm (hGradNorm := hGradNorm)
    ∧ quiescent_GradNormIdeal (hGradNormIdeal := hGradNormIdeal)
    ∧ quiescent_GradNormIdeal_pre_finite_norm (hGradNormIdeal := hGradNormIdeal) (hPre_finite_norm := hPre_finite_norm)
    ∧ quiescent_GradNormRefIdeal (hGradNormRefIdeal := hGradNormRefIdeal)
    ∧ quiescent_GradNormRefIdeal_pre_finite_norm (hGradNormRefIdeal := hGradNormRefIdeal) (hPre_finite_norm := hPre_finite_norm)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_GradMemKv (hGradMemKv := hGradMemKv)
    ∧ quiescent_GradMemKvIdeal (hGradMemKvIdeal := hGradMemKvIdeal)
    ∧ quiescent_GradMemKvRefIdeal (hGradMemKvRefIdeal := hGradMemKvRefIdeal)
    ∧ quiescent_FfnOut (hFfnOut := hFfnOut)
    ∧ quiescent_FfnOutIdeal (hFfnOutIdeal := hFfnOutIdeal)
    ∧ quiescent_FfnOutIdeal_pre_finite_out (hFfnOutIdeal := hFfnOutIdeal) (hPre_finite_out := hPre_finite_out)
    ∧ quiescent_FfnOutRefIdeal (hFfnOutRefIdeal := hFfnOutRefIdeal)
    ∧ quiescent_FfnOutRefIdeal_pre_finite_out (hFfnOutRefIdeal := hFfnOutRefIdeal) (hPre_finite_out := hPre_finite_out)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSbO (hAdamSbO := hAdamSbO)
    ∧ quiescent_AdamSbOIdeal (hAdamSbOIdeal := hAdamSbOIdeal)
    ∧ quiescent_AdamSbORefIdeal (hAdamSbORefIdeal := hAdamSbORefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamMemKv (hAdamMemKv := hAdamMemKv)
    ∧ quiescent_AdamMemKvIdeal (hAdamMemKvIdeal := hAdamMemKvIdeal)
    ∧ quiescent_AdamMemKvRefIdeal (hAdamMemKvRefIdeal := hAdamMemKvRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_Kernelb_KernelbIdeal
    ∧ algebraic_KernelbIdeal_ReferencebIdeal_pre_finite (hKernelbIdeal := hKernelbIdeal) (hReferencebIdeal := hReferencebIdeal) (hPre_finite := hPre_finite)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_GradFfnIn_GradFfnInIdeal
    ∧ algebraic_GradFfnInIdeal_GradFfnInRefIdeal (hGradFfnInIdeal := hGradFfnInIdeal) (hGradFfnInRefIdeal := hGradFfnInRefIdeal)
    ∧ preserves_GradFfnOut_GradFfnOutIdeal
    ∧ algebraic_GradFfnOutIdeal_GradFfnOutRefIdeal (hGradFfnOutIdeal := hGradFfnOutIdeal) (hGradFfnOutRefIdeal := hGradFfnOutRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjIn_ProjInIdeal
    ∧ algebraic_ProjInIdeal_ProjInRefIdeal (hProjInIdeal := hProjInIdeal) (hProjInRefIdeal := hProjInRefIdeal)
    ∧ preserves_GradSquare_GradSquareIdeal
    ∧ algebraic_GradSquareIdeal_GradSquareRefIdeal (hGradSquareIdeal := hGradSquareIdeal) (hGradSquareRefIdeal := hGradSquareRefIdeal)
    ∧ preserves_GradHalf_GradHalfIdeal
    ∧ algebraic_GradHalfIdeal_GradHalfRefIdeal (hGradHalfIdeal := hGradHalfIdeal) (hGradHalfRefIdeal := hGradHalfRefIdeal)
    ∧ preserves_GradGate_GradGateIdeal
    ∧ algebraic_GradGateIdeal_GradGateRefIdeal (hGradGateIdeal := hGradGateIdeal) (hGradGateRefIdeal := hGradGateRefIdeal)
    ∧ preserves_GradOm_GradOmIdeal
    ∧ algebraic_GradOmIdeal_GradOmRefIdeal (hGradOmIdeal := hGradOmIdeal) (hGradOmRefIdeal := hGradOmRefIdeal)
    ∧ preserves_GradYGated_GradYGatedIdeal
    ∧ algebraic_GradYGatedIdeal_GradYGatedRefIdeal (hGradYGatedIdeal := hGradYGatedIdeal) (hGradYGatedRefIdeal := hGradYGatedRefIdeal)
    ∧ preserves_GradASb_GradASbIdeal
    ∧ algebraic_GradASbIdeal_GradASbRefIdeal (hGradASbIdeal := hGradASbIdeal) (hGradASbRefIdeal := hGradASbRefIdeal)
    ∧ preserves_GradSbO_GradSbOIdeal
    ∧ algebraic_GradSbOIdeal_GradSbORefIdeal (hGradSbOIdeal := hGradSbOIdeal) (hGradSbORefIdeal := hGradSbORefIdeal)
    ∧ preserves_MemQ_MemQIdeal
    ∧ algebraic_MemQIdeal_MemQRefIdeal (hMemQIdeal := hMemQIdeal) (hMemQRefIdeal := hMemQRefIdeal)
    ∧ preserves_SbOut_SbOutIdeal
    ∧ algebraic_SbOutIdeal_SbOutRefIdeal (hSbOutIdeal := hSbOutIdeal) (hSbOutRefIdeal := hSbOutRefIdeal)
    ∧ preserves_RetOut_RetOutIdeal
    ∧ algebraic_RetOutIdeal_RetOutRefIdeal (hRetOutIdeal := hRetOutIdeal) (hRetOutRefIdeal := hRetOutRefIdeal)
    ∧ preserves_LnOut_LnOutIdeal
    ∧ algebraic_LnOutIdeal_LnOutRefIdeal (hLnOutIdeal := hLnOutIdeal) (hLnOutRefIdeal := hLnOutRefIdeal)
    ∧ preserves_GradMix_GradMixIdeal
    ∧ algebraic_GradMixIdeal_GradMixRefIdeal (hGradMixIdeal := hGradMixIdeal) (hGradMixRefIdeal := hGradMixRefIdeal)
    ∧ preserves_GradNorm_GradNormIdeal
    ∧ algebraic_GradNormIdeal_GradNormRefIdeal_pre_finite_norm (hGradNormIdeal := hGradNormIdeal) (hGradNormRefIdeal := hGradNormRefIdeal) (hPre_finite_norm := hPre_finite_norm)
    ∧ preserves_MemKv_MemKvIdeal
    ∧ algebraic_MemKvIdeal_MemKvRefIdeal (hMemKvIdeal := hMemKvIdeal) (hMemKvRefIdeal := hMemKvRefIdeal)
    ∧ preserves_GradMemKv_GradMemKvIdeal
    ∧ algebraic_GradMemKvIdeal_GradMemKvRefIdeal (hGradMemKvIdeal := hGradMemKvIdeal) (hGradMemKvRefIdeal := hGradMemKvRefIdeal)
    ∧ preserves_FfnOut_FfnOutIdeal
    ∧ algebraic_FfnOutIdeal_FfnOutRefIdeal_pre_finite_out (hFfnOutIdeal := hFfnOutIdeal) (hFfnOutRefIdeal := hFfnOutRefIdeal) (hPre_finite_out := hPre_finite_out)
    ∧ preserves_AdamIn_AdamInIdeal
    ∧ algebraic_AdamInIdeal_AdamInRefIdeal (hAdamInIdeal := hAdamInIdeal) (hAdamInRefIdeal := hAdamInRefIdeal)
    ∧ preserves_AdamSbO_AdamSbOIdeal
    ∧ algebraic_AdamSbOIdeal_AdamSbORefIdeal (hAdamSbOIdeal := hAdamSbOIdeal) (hAdamSbORefIdeal := hAdamSbORefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamMemKv_AdamMemKvIdeal
    ∧ algebraic_AdamMemKvIdeal_AdamMemKvRefIdeal (hAdamMemKvIdeal := hAdamMemKvIdeal) (hAdamMemKvRefIdeal := hAdamMemKvRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .bf16) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S8192x1024 .bf16 := Host.absf main_arg2
  let main_cst_1 : FVec F S_ .bf16 := constant S_ .bf16 0x7F80#16
  let main_v8 : FVec F S8192x1024 .bf16 := broadcastInDim S8192x1024 ![] bcast_S_S8192x1024 main_cst_1
  let main_v9 : IVec S8192x1024 1 := cmpf .olt main_v7 main_v8
  let main_v10 : IVec S8192x1024 1 := andi main_v6 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : IVec S8192x1024 1 := andi main_v10 main_v13
  main_v14
-- ==== Pre_finite_ffn.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x5632 : S_.BroadcastsInDim S8192x5632 (![] : Fin 0 → Fin S8192x5632.rank)

variable [Facts]

def fn {F : FTy → Type} [FloatOps F] (main_arg0 : FVec F S8192x1024 .bf16) (main_arg1 : FVec F S2816x1024 .bf16) (main_arg2 : FVec F S8192x5632 .f32) : IVec S8192x1024 1 × IVec S2816x1024 1 × IVec S8192x5632 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x5632 .f32 := Host.absf main_arg2
  let main_cst_1 : FVec F S_ .f32 := constant S_ .f32 0x7F800000#32
  let main_v7 : FVec F S8192x5632 .f32 := broadcastInDim S8192x5632 ![] bcast_S_S8192x5632 main_cst_1
  let main_v8 : IVec S8192x5632 1 := cmpf .olt main_v6 main_v7
  (main_v2, main_v5, main_v8)
-- ==== Pre_finite_norm.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S1x1024 .f32) : IVec S8192x1024 1 × IVec S1024x1024 1 × IVec S8192x1024 1 × IVec S1x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_out.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x2816 .bf16) (main_arg1 : FVec F S2816x1024 .bf16) (main_arg2 : FVec F S8192x1024 .f32) (main_arg3 : FVec F S1x1024 .f32) (main_arg4 : FVec F S1x1024 .f32) (main_arg5 : FVec F S8192x1024 .f32) : IVec S1x1024 1 × IVec S1x1024 1 × IVec S8192x1024 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8192x1024 .f32 := Host.absf main_arg5
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x1024 : Shape := ⟨2, ![8192, 1024]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S4x128 : Shape := ⟨2, ![4, 128]⟩
abbrev S4x128x1 : Shape := ⟨3, ![4, 128, 1]⟩
abbrev S4x8x128 : Shape := ⟨3, ![4, 8, 128]⟩
abbrev S4x64x128x256 : Shape := ⟨4, ![4, 64, 128, 256]⟩
abbrev S256x512 : Shape := ⟨2, ![256, 512]⟩
abbrev S256x1024 : Shape := ⟨2, ![256, 1024]⟩
abbrev S256x128 : Shape := ⟨2, ![256, 128]⟩
abbrev S4x2x128x256 : Shape := ⟨4, ![4, 2, 128, 256]⟩
abbrev S4x128x256 : Shape := ⟨3, ![4, 128, 256]⟩
abbrev S128x256 : Shape := ⟨2, ![128, 256]⟩
abbrev S1x128x256 : Shape := ⟨3, ![1, 128, 256]⟩
abbrev S1x1x128x256 : Shape := ⟨4, ![1, 1, 128, 256]⟩
abbrev S1x1x1 : Shape := ⟨3, ![1, 1, 1]⟩
abbrev S1x1 : Shape := ⟨2, ![1, 1]⟩

abbrev nBuf : Space → Nat
  | .hbm => 91
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S8192, .f32⟩
  | .hbm, ⟨14, _⟩ => ⟨S8192x1, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8192x128, .f32⟩
  | .hbm, ⟨22, _⟩ => ⟨S8192x64, .f32⟩
  | .hbm, ⟨23, _⟩ => ⟨S8192x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S128, .f32⟩
  | .hbm, ⟨35, _⟩ => ⟨S128x1, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S_, .f32⟩
  | .hbm, ⟨42, _⟩ => ⟨S1x128x128, .f32⟩
  | .hbm, ⟨43, _⟩ => ⟨S1x128x128, .i1⟩
  | .hbm, ⟨44, _⟩ => ⟨S4x1x1, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S1x128x128, .f32⟩
  | .hbm, ⟨49, _⟩ => ⟨S4x128x128, .f32⟩
  | .hbm, ⟨50, _⟩ => ⟨S4x128x128, .f32⟩
  | .hbm, ⟨51, _⟩ => ⟨S4x128x128, .f32⟩
  | .hbm, ⟨52, _⟩ => ⟨S4x128x128, .f32⟩
  | .hbm, ⟨53, _⟩ => ⟨S_, .f32⟩
  | .hbm, ⟨54, _⟩ => ⟨S_, .f32⟩
  | .hbm, ⟨55, _⟩ => ⟨S4x128x128, .i1⟩
  | .hbm, ⟨56, _⟩ => ⟨S4x128x128, .f32⟩
  | .hbm, ⟨57, _⟩ => ⟨S4x128x128, .f32⟩
  | .hbm, ⟨58, _⟩ => ⟨S1x4, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128x1, .f32⟩
  | .hbm, ⟨63, _⟩ => ⟨S128x4, .f32⟩
  | .hbm, ⟨64, _⟩ => ⟨S128x4, .f32⟩
  | .hbm, ⟨65, _⟩ => ⟨S128x4, .f32⟩
  | .hbm, ⟨66, _⟩ => ⟨S128x4, .f32⟩
  | .hbm, ⟨67, _⟩ => ⟨S1x4, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128x1, .f32⟩
  | .hbm, ⟨72, _⟩ => ⟨S128x4, .f32⟩
  | .hbm, ⟨73, _⟩ => ⟨S128x4, .f32⟩
  | .hbm, ⟨74, _⟩ => ⟨S128x4, .f32⟩
  | .hbm, ⟨75, _⟩ => ⟨S128x4, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4x128, .f32⟩
  | .hbm, ⟨81, _⟩ => ⟨S4x128x1, .f32⟩
  | .hbm, ⟨82, _⟩ => ⟨S4x128x128, .f32⟩
  | .hbm, ⟨83, _⟩ => ⟨S4x128, .f32⟩
  | .hbm, ⟨84, _⟩ => ⟨S4x128x1, .f32⟩
  | .hbm, ⟨85, _⟩ => ⟨S4x128x128, .f32⟩
  | .hbm, ⟨86, _⟩ => ⟨S4x1x1, .f32⟩
  | .hbm, ⟨87, _⟩ => ⟨S4x8x128, .f32⟩
  | .hbm, ⟨88, _⟩ => ⟨S8192x1024, .bf16⟩
  | .hbm, ⟨89, _⟩ => ⟨S8192x1024, .f32⟩
  | .hbm, ⟨90, _⟩ => ⟨S4x64x128x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x8x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S4x2x128x256, .f32⟩
  | .local _ .vmem, ⟨21, _⟩ => ⟨S4x2x128x256, .f32⟩
  | .local _ .vmem, ⟨22, _⟩ => ⟨S4x128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71_0 : Ref sig .tc := ⟨.hbm, 88, rfl⟩
abbrev main_v71_1 : Ref sig .tc := ⟨.hbm, 89, rfl⟩
abbrev main_v71_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x512 : Shape := ⟨2, ![8192, 512]⟩
abbrev S1x8192x4x128 : Shape := ⟨4, ![1, 8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x8192x4x256 : Shape := ⟨4, ![1, 8192, 4, 256]⟩
abbrev S4 : Shape := ⟨1, ![4]⟩
abbrev S1x64x128x4x128 : Shape := ⟨5, ![1, 64, 128, 4, 128]⟩
abbrev S1x64x128x4x256 : Shape := ⟨5, ![1, 64, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x64x4x128x128 : Shape := ⟨5, ![1, 64, 4, 128, 128]⟩
abbrev S1x1x4x128x128 : Shape := ⟨5, ![1, 1, 4, 128, 128]⟩
abbrev S1x64x4x256x128 : Shape := ⟨5, ![1, 64, 4, 256, 128]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x1x8192x4x128 : Shape := ⟨5, ![1, 1, 8192, 4, 128]⟩
abbrev S64x8192x4 : Shape := ⟨3, ![64, 8192, 4]⟩
abbrev S1x64x8192x4x1 : Shape := ⟨5, ![1, 64, 8192, 4, 1]⟩
abbrev S1x64x8192x4x128 : Shape := ⟨5, ![1, 64, 8192, 4, 128]⟩
abbrev S1x4x256x64x128 : Shape := ⟨5, ![1, 4, 256, 64, 128]⟩
abbrev S64x1x4x128x256 : Shape := ⟨5, ![64, 1, 4, 128, 256]⟩
abbrev S1x4 : Shape := ⟨2, ![1, 4]⟩
abbrev S128x4 : Shape := ⟨2, ![128, 4]⟩
abbrev S1x1x128x4x1 : Shape := ⟨5, ![1, 1, 128, 4, 1]⟩
abbrev S1x8192x4 : Shape := ⟨3, ![1, 8192, 4]⟩
abbrev S1x8192x4x1 : Shape := ⟨4, ![1, 8192, 4, 1]⟩
abbrev S1x8192x1024 : Shape := ⟨3, ![1, 8192, 1024]⟩
abbrev S64x4x128x256 : Shape := ⟨4, ![64, 4, 128, 256]⟩
abbrev S4x64x128x256 : Shape := ⟨4, ![4, 64, 128, 256]⟩

abbrev nBuf : Space → Nat
  | .hbm => 216
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .f32⟩
  | 3 => ⟨S8192x512, .f32⟩
  | 4 => ⟨S8192x512, .f32⟩
  | 5 => ⟨S8192x1024, .f32⟩
  | 6 => ⟨S1x8192x4x128, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S8192, .f32⟩
  | 18 => ⟨S8192x1, .f32⟩
  | 19 => ⟨S1x64, .f32⟩
  | 20 => ⟨S8192x64, .f32⟩
  | 21 => ⟨S8192x64, .f32⟩
  | 22 => ⟨S8192x64, .f32⟩
  | 23 => ⟨S8192x64, .f32⟩
  | 24 => ⟨S1x8192x1x64, .f32⟩
  | 25 => ⟨S8192x64, .f32⟩
  | 26 => ⟨S1x8192x1x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x128, .f32⟩
  | 40 => ⟨S1x8192x4x128, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S8192, .f32⟩
  | 52 => ⟨S8192x1, .f32⟩
  | 53 => ⟨S1x64, .f32⟩
  | 54 => ⟨S8192x64, .f32⟩
  | 55 => ⟨S8192x64, .f32⟩
  | 56 => ⟨S8192x64, .f32⟩
  | 57 => ⟨S8192x64, .f32⟩
  | 58 => ⟨S1x8192x1x64, .f32⟩
  | 59 => ⟨S8192x64, .f32⟩
  | 60 => ⟨S1x8192x1x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x64, .f32⟩
  | 73 => ⟨S1x8192x4x128, .f32⟩
  | 74 => ⟨S1x8192x4x256, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S4, .f32⟩
  | 84 => ⟨S4, .f32⟩
  | 85 => ⟨S_, .f32⟩
  | 86 => ⟨S1x8192x4x128, .f32⟩
  | 87 => ⟨S1x8192x4x128, .f32⟩
  | 88 => ⟨S1x64x128x4x128, .f32⟩
  | 89 => ⟨S1x64x128x4x128, .f32⟩
  | 90 => ⟨S1x64x128x4x256, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S1x128x128, .f32⟩
  | 98 => ⟨S_, .f32⟩
  | 99 => ⟨S1x128x128, .f32⟩
  | 100 => ⟨S1x128x128, .i1⟩
  | 101 => ⟨S4x1x1, .f32⟩
  | 102 => ⟨S_, .f32⟩
  | 103 => ⟨S128x128, .f32⟩
  | 104 => ⟨S128x128, .f32⟩
  | 105 => ⟨S1x128x128, .f32⟩
  | 106 => ⟨S4x128x128, .f32⟩
  | 107 => ⟨S4x128x128, .f32⟩
  | 108 => ⟨S4x128x128, .f32⟩
  | 109 => ⟨S4x128x128, .f32⟩
  | 110 => ⟨S_, .f32⟩
  | 111 => ⟨S_, .f32⟩
  | 112 => ⟨S4x128x128, .i1⟩
  | 113 => ⟨S4x128x128, .f32⟩
  | 114 => ⟨S4x128x128, .f32⟩
  | 115 => ⟨S1x64x4x128x128, .f32⟩
  | 116 => ⟨S1x1x4x128x128, .f32⟩
  | 117 => ⟨S1x64x4x128x128, .f32⟩
  | 118 => ⟨S1x64x4x128x128, .f32⟩
  | 119 => ⟨S1x64x4x256x128, .f32⟩
  | 120 => ⟨S1x64x128x4x256, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S8192x1024, .f32⟩

abbrev hbmTy0_1 (i : Nat) : BufTy := match i % 128 with
  | 0 => ⟨S64x1, .f32⟩
  | 1 => ⟨S8192, .f32⟩
  | 2 => ⟨S1x8192, .f32⟩
  | 3 => ⟨S64x8192, .f32⟩
  | 4 => ⟨S64x8192, .f32⟩
  | 5 => ⟨S64x8192, .f32⟩
  | 6 => ⟨S1x64x8192, .f32⟩
  | 7 => ⟨S_, .f32⟩
  | 8 => ⟨S1x64x8192, .f32⟩
  | 9 => ⟨S1x64x8192, .i1⟩
  | 10 => ⟨S4x1x1, .f32⟩
  | 11 => ⟨S_, .f32⟩
  | 12 => ⟨S64x8192, .f32⟩
  | 13 => ⟨S64x8192, .f32⟩
  | 14 => ⟨S1x64x8192, .f32⟩
  | 15 => ⟨S4x64x8192, .f32⟩
  | 16 => ⟨S4x64x8192, .f32⟩
  | 17 => ⟨S4x64x8192, .f32⟩
  | 18 => ⟨S4x64x8192, .f32⟩
  | 19 => ⟨S_, .f32⟩
  | 20 => ⟨S_, .f32⟩
  | 21 => ⟨S4x64x8192, .i1⟩
  | 22 => ⟨S4x64x8192, .f32⟩
  | 23 => ⟨S4x64x8192, .f32⟩
  | 24 => ⟨S1x1x8192x4x128, .f32⟩
  | 25 => ⟨S64x8192x4, .f32⟩
  | 26 => ⟨S1x64x8192x4x1, .f32⟩
  | 27 => ⟨S1x64x8192x4x128, .f32⟩
  | 28 => ⟨S1x64x8192x4x128, .f32⟩
  | 29 => ⟨S1x64x8192x4x128, .f32⟩
  | 30 => ⟨S1x4x256x64x128, .f32⟩
  | 31 => ⟨S64x1x4x128x256, .f32⟩
  | 32 => ⟨S1x4, .f32⟩
  | 33 => ⟨S_, .f32⟩
  | 34 => ⟨S128, .f32⟩
  | 35 => ⟨S128, .f32⟩
  | 36 => ⟨S128x1, .f32⟩
  | 37 => ⟨S128x4, .f32⟩
  | 38 => ⟨S128x4, .f32⟩
  | 39 => ⟨S128x4, .f32⟩
  | 40 => ⟨S128x4, .f32⟩
  | 41 => ⟨S1x1x128x4x1, .f32⟩
  | 42 => ⟨S1x64x128x4x128, .f32⟩
  | 43 => ⟨S1x64x128x4x128, .f32⟩
  | 44 => ⟨S1x64x4x256x128, .f32⟩
  | 45 => ⟨S1x64x128x4x256, .f32⟩
  | 46 => ⟨S1x64x128x4x256, .f32⟩
  | 47 => ⟨S1x8192x4x256, .f32⟩
  | 48 => ⟨S_, .f32⟩
  | 49 => ⟨S1x8192x4, .f32⟩
  | 50 => ⟨S1x8192x4x1, .f32⟩
  | 51 => ⟨S_, .f32⟩
  | 52 => ⟨S1x8192x4x1, .f32⟩
  | 53 => ⟨S1x8192x4x1, .f32⟩
  | 54 => ⟨S1x8192x4x256, .f32⟩
  | 55 => ⟨S1x8192x4x256, .f32⟩
  | 56 => ⟨S1x8192x4x256, .f32⟩
  | 57 => ⟨S_, .f32⟩
  | 58 => ⟨S1x8192x4, .f32⟩
  | 59 => ⟨S1x8192x4x1, .f32⟩
  | 60 => ⟨S_, .f32⟩
  | 61 => ⟨S1x8192x4x1, .f32⟩
  | 62 => ⟨S1x8192x4x1, .f32⟩
  | 63 => ⟨S1x8192x4x256, .f32⟩
  | 64 => ⟨S1x8192x4x256, .f32⟩
  | 65 => ⟨S_, .f32⟩
  | 66 => ⟨S1x8192x4x1, .f32⟩
  | 67 => ⟨S1x8192x4x1, .f32⟩
  | 68 => ⟨S1x8192x4x1, .f32⟩
  | 69 => ⟨S1x8192x4x256, .f32⟩
  | 70 => ⟨S1x8192x4x256, .f32⟩
  | 71 => ⟨S1x8192x1024, .f32⟩
  | 72 => ⟨S1x8192x1024, .f32⟩
  | 73 => ⟨S1x8192x1024, .f32⟩
  | 74 => ⟨S1x8192x1024, .f32⟩
  | 75 => ⟨S_, .f32⟩
  | 76 => ⟨S1x8192x1024, .f32⟩
  | 77 => ⟨S1x8192x1024, .f32⟩
  | 78 => ⟨S_, .f32⟩
  | 79 => ⟨S1x8192x1024, .f32⟩
  | 80 => ⟨S1x8192x1024, .f32⟩
  | 81 => ⟨S1x8192x1024, .f32⟩
  | 82 => ⟨S1x8192x1024, .f32⟩
  | 83 => ⟨S8192x1024, .f32⟩
  | 84 => ⟨S8192x1024, .f32⟩
  | 85 => ⟨S64x4x128x256, .f32⟩
  | 86 => ⟨S4x64x128x256, .f32⟩
  | 87 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_7 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_8 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_9 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_10 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_cst_12 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_13 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_14 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_15 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_16 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_17 : Ref sig .tc := ⟨.hbm, 176, rfl⟩
abbrev main_v149 : Ref sig .tc := ⟨.hbm, 177, rfl⟩
abbrev main_v150 : Ref sig .tc := ⟨.hbm, 178, rfl⟩
abbrev main_cst_18 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_19 : Ref sig .tc := ⟨.hbm, 185, rfl⟩
abbrev main_v156 : Ref sig .tc := ⟨.hbm, 186, rfl⟩
abbrev main_v157 : Ref sig .tc := ⟨.hbm, 187, rfl⟩
abbrev main_cst_20 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_cst_21 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_call2_v0 : Ref sig .tc := ⟨.hbm, 201, rfl⟩
abbrev main_call2_v1 : Ref sig .tc := ⟨.hbm, 202, rfl⟩
abbrev main_call2_cst : Ref sig .tc := ⟨.hbm, 203, rfl⟩
abbrev main_call2_v2 : Ref sig .tc := ⟨.hbm, 204, rfl⟩
abbrev main_call2_v3 : Ref sig .tc := ⟨.hbm, 205, rfl⟩
abbrev main_call2_cst_0 : Ref sig .tc := ⟨.hbm, 206, rfl⟩
abbrev main_call2_v4 : Ref sig .tc := ⟨.hbm, 207, rfl⟩
abbrev main_call2_v5 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩

abbrev nD : Nat := 1
abbrev τ : Topo := Topo.v7x

variable {F : FTy → Type} [FloatOps F]
-- ==== Kernelb.lean ====
abbrev S8192x1024 : Shape := ⟨2, ![8192, 1024]⟩
abbrev S8192x512 : Shape := ⟨2, ![8192, 512]⟩
abbrev S1x8192x4x128 : Shape := ⟨4, ![1, 8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x8192x4x256 : Shape := ⟨4, ![1, 8192, 4, 256]⟩
abbrev S4 : Shape := ⟨1, ![4]⟩
abbrev S1x64x128x4x128 : Shape := ⟨5, ![1, 64, 128, 4, 128]⟩
abbrev S1x64x128x4x256 : Shape := ⟨5, ![1, 64, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x64x4x128x128 : Shape := ⟨5, ![1, 64, 4, 128, 128]⟩
abbrev S1x1x4x128x128 : Shape := ⟨5, ![1, 1, 4, 128, 128]⟩
abbrev S1x64x4x256x128 : Shape := ⟨5, ![1, 64, 4, 256, 128]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x1x8192x4x128 : Shape := ⟨5, ![1, 1, 8192, 4, 128]⟩
abbrev S64x8192x4 : Shape := ⟨3, ![64, 8192, 4]⟩
abbrev S1x64x8192x4x1 : Shape := ⟨5, ![1, 64, 8192, 4, 1]⟩
abbrev S1x64x8192x4x128 : Shape := ⟨5, ![1, 64, 8192, 4, 128]⟩
abbrev S1x4x256x64x128 : Shape := ⟨5, ![1, 4, 256, 64, 128]⟩
abbrev S64x1x4x128x256 : Shape := ⟨5, ![64, 1, 4, 128, 256]⟩
abbrev S1x4 : Shape := ⟨2, ![1, 4]⟩
abbrev S128x4 : Shape := ⟨2, ![128, 4]⟩
abbrev S1x1x128x4x1 : Shape := ⟨5, ![1, 1, 128, 4, 1]⟩
abbrev S64x4x128x256 : Shape := ⟨4, ![64, 4, 128, 256]⟩
abbrev S4x64x128x256 : Shape := ⟨4, ![4, 64, 128, 256]⟩
abbrev S8192x128 : Shape := ⟨2, ![8192, 128]⟩
abbrev S4x128 : Shape := ⟨2, ![4, 128]⟩
abbrev S4x128x1 : Shape := ⟨3, ![4, 128, 1]⟩
abbrev S4x8x128 : Shape := ⟨3, ![4, 8, 128]⟩
abbrev S256x1024 : Shape := ⟨2, ![256, 1024]⟩
abbrev S4x2x128x256 : Shape := ⟨4, ![4, 2, 128, 256]⟩
abbrev S256x512 : Shape := ⟨2, ![256, 512]⟩
abbrev S256x128 : Shape := ⟨2, ![256, 128]⟩
abbrev S4x128x256 : Shape := ⟨3, ![4, 128, 256]⟩
abbrev S128x256 : Shape := ⟨2, ![128, 256]⟩
abbrev S1x1x1 : Shape := ⟨3, ![1, 1, 1]⟩
abbrev S1x1 : Shape := ⟨2, ![1, 1]⟩
abbrev S1x1x128x256 : Shape := ⟨4, ![1, 1, 128, 256]⟩
abbrev S1x128x256 : Shape := ⟨3, ![1, 128, 256]⟩

abbrev nBuf : Space → Nat
  | .hbm => 269
  | .vmem => 31
  | .smem => 0
  | _ => 0

abbrev hbmTy0_0 (i : Nat) : BufTy := match i % 128 with
  | 0 => ⟨S8192x1024, .f32⟩
  | 1 => ⟨S8192x1024, .f32⟩
  | 2 => ⟨S8192x1024, .bf16⟩
  | 3 => ⟨S8192x1024, .f32⟩
  | 4 => ⟨S8192x512, .f32⟩
  | 5 => ⟨S8192x512, .f32⟩
  | 6 => ⟨S8192x1024, .f32⟩
  | 7 => ⟨S1x8192x4x128, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x128, .f32⟩
  | 41 => ⟨S1x8192x4x128, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S8192, .f32⟩
  | 53 => ⟨S8192x1, .f32⟩
  | 54 => ⟨S1x64, .f32⟩
  | 55 => ⟨S8192x64, .f32⟩
  | 56 => ⟨S8192x64, .f32⟩
  | 57 => ⟨S8192x64, .f32⟩
  | 58 => ⟨S8192x64, .f32⟩
  | 59 => ⟨S1x8192x1x64, .f32⟩
  | 60 => ⟨S8192x64, .f32⟩
  | 61 => ⟨S1x8192x1x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x64, .f32⟩
  | 73 => ⟨S1x8192x4x64, .f32⟩
  | 74 => ⟨S1x8192x4x128, .f32⟩
  | 75 => ⟨S1x8192x4x256, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S_, .f32⟩
  | 87 => ⟨S1x8192x4x128, .f32⟩
  | 88 => ⟨S1x8192x4x128, .f32⟩
  | 89 => ⟨S1x64x128x4x128, .f32⟩
  | 90 => ⟨S1x64x128x4x128, .f32⟩
  | 91 => ⟨S1x64x128x4x256, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S1x128x128, .f32⟩
  | 99 => ⟨S_, .f32⟩
  | 100 => ⟨S1x128x128, .f32⟩
  | 101 => ⟨S1x128x128, .i1⟩
  | 102 => ⟨S4x1x1, .f32⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S1x64x4x128x128, .f32⟩
  | 117 => ⟨S1x1x4x128x128, .f32⟩
  | 118 => ⟨S1x64x4x128x128, .f32⟩
  | 119 => ⟨S1x64x4x128x128, .f32⟩
  | 120 => ⟨S1x64x4x256x128, .f32⟩
  | 121 => ⟨S1x64x128x4x256, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S8192x1024, .f32⟩

abbrev hbmTy0_1 (i : Nat) : BufTy := match i % 128 with
  | 0 => ⟨S64, .f32⟩
  | 1 => ⟨S64x1, .f32⟩
  | 2 => ⟨S8192, .f32⟩
  | 3 => ⟨S1x8192, .f32⟩
  | 4 => ⟨S64x8192, .f32⟩
  | 5 => ⟨S64x8192, .f32⟩
  | 6 => ⟨S64x8192, .f32⟩
  | 7 => ⟨S1x64x8192, .f32⟩
  | 8 => ⟨S_, .f32⟩
  | 9 => ⟨S1x64x8192, .f32⟩
  | 10 => ⟨S1x64x8192, .i1⟩
  | 11 => ⟨S4x1x1, .f32⟩
  | 12 => ⟨S_, .f32⟩
  | 13 => ⟨S64x8192, .f32⟩
  | 14 => ⟨S64x8192, .f32⟩
  | 15 => ⟨S1x64x8192, .f32⟩
  | 16 => ⟨S4x64x8192, .f32⟩
  | 17 => ⟨S4x64x8192, .f32⟩
  | 18 => ⟨S4x64x8192, .f32⟩
  | 19 => ⟨S4x64x8192, .f32⟩
  | 20 => ⟨S_, .f32⟩
  | 21 => ⟨S_, .f32⟩
  | 22 => ⟨S4x64x8192, .i1⟩
  | 23 => ⟨S4x64x8192, .f32⟩
  | 24 => ⟨S4x64x8192, .f32⟩
  | 25 => ⟨S1x1x8192x4x128, .f32⟩
  | 26 => ⟨S64x8192x4, .f32⟩
  | 27 => ⟨S1x64x8192x4x1, .f32⟩
  | 28 => ⟨S1x64x8192x4x128, .f32⟩
  | 29 => ⟨S1x64x8192x4x128, .f32⟩
  | 30 => ⟨S1x64x8192x4x128, .f32⟩
  | 31 => ⟨S1x4x256x64x128, .f32⟩
  | 32 => ⟨S64x1x4x128x256, .f32⟩
  | 33 => ⟨S1x4, .f32⟩
  | 34 => ⟨S_, .f32⟩
  | 35 => ⟨S128, .f32⟩
  | 36 => ⟨S128, .f32⟩
  | 37 => ⟨S128x1, .f32⟩
  | 38 => ⟨S128x4, .f32⟩
  | 39 => ⟨S128x4, .f32⟩
  | 40 => ⟨S128x4, .f32⟩
  | 41 => ⟨S128x4, .f32⟩
  | 42 => ⟨S1x1x128x4x1, .f32⟩
  | 43 => ⟨S1x64x128x4x128, .f32⟩
  | 44 => ⟨S1x64x128x4x128, .f32⟩
  | 45 => ⟨S1x64x4x256x128, .f32⟩
  | 46 => ⟨S1x64x128x4x256, .f32⟩
  | 47 => ⟨S1x64x128x4x256, .f32⟩
  | 48 => ⟨S1x8192x4x256, .f32⟩
  | 49 => ⟨S8192x1024, .f32⟩
  | 50 => ⟨S64x4x128x256, .f32⟩
  | 51 => ⟨S4x64x128x256, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S8192, .f32⟩
  | 63 => ⟨S8192x1, .f32⟩
  | 64 => ⟨S1x64, .f32⟩
  | 65 => ⟨S8192x64, .f32⟩
  | 66 => ⟨S8192x64, .f32⟩
  | 67 => ⟨S8192x64, .f32⟩
  | 68 => ⟨S8192x64, .f32⟩
  | 69 => ⟨S8192x64, .f32⟩
  | 70 => ⟨S8192x128, .f32⟩
  | 71 => ⟨S8192x64, .f32⟩
  | 72 => ⟨S8192x128, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S4, .f32⟩
  | 82 => ⟨S4, .f32⟩
  | 83 => ⟨S128, .f32⟩
  | 84 => ⟨S128x1, .f32⟩
  | 85 => ⟨S1x128, .f32⟩
  | 86 => ⟨S128x128, .f32⟩
  | 87 => ⟨S128x128, .f32⟩
  | 88 => ⟨S128x128, .f32⟩
  | 89 => ⟨S1x128x128, .f32⟩
  | 90 => ⟨S_, .f32⟩
  | 91 => ⟨S1x128x128, .f32⟩
  | 92 => ⟨S1x128x128, .i1⟩
  | 93 => ⟨S4x1x1, .f32⟩
  | 94 => ⟨S_, .f32⟩
  | 95 => ⟨S128x128, .f32⟩
  | 96 => ⟨S128x128, .f32⟩
  | 97 => ⟨S1x128x128, .f32⟩
  | 98 => ⟨S4x128x128, .f32⟩
  | 99 => ⟨S4x128x128, .f32⟩
  | 100 => ⟨S4x128x128, .f32⟩
  | 101 => ⟨S4x128x128, .f32⟩
  | 102 => ⟨S_, .f32⟩
  | 103 => ⟨S_, .f32⟩
  | 104 => ⟨S4x128x128, .i1⟩
  | 105 => ⟨S4x128x128, .f32⟩
  | 106 => ⟨S4x128x128, .f32⟩
  | 107 => ⟨S1x4, .f32⟩
  | 108 => ⟨S_, .f32⟩
  | 109 => ⟨S128, .f32⟩
  | 110 => ⟨S128, .f32⟩
  | 111 => ⟨S128x1, .f32⟩
  | 112 => ⟨S128x4, .f32⟩
  | 113 => ⟨S128x4, .f32⟩
  | 114 => ⟨S128x4, .f32⟩
  | 115 => ⟨S128x4, .f32⟩
  | 116 => ⟨S1x4, .f32⟩
  | 117 => ⟨S_, .f32⟩
  | 118 => ⟨S128, .f32⟩
  | 119 => ⟨S128, .f32⟩
  | 120 => ⟨S128x1, .f32⟩
  | 121 => ⟨S128x4, .f32⟩
  | 122 => ⟨S128x4, .f32⟩
  | 123 => ⟨S128x4, .f32⟩
  | 124 => ⟨S128x4, .f32⟩
  | 125 => ⟨S_, .f32⟩
  | 126 => ⟨S4, .f32⟩
  | 127 => ⟨S4, .f32⟩
  | _ => ⟨S8192x1024, .f32⟩

abbrev hbmTy0_2 (i : Nat) : BufTy := match i % 128 with
  | 0 => ⟨S4, .f32⟩
  | 1 => ⟨S4x128, .f32⟩
  | 2 => ⟨S4x128x1, .f32⟩
  | 3 => ⟨S4x128x128, .f32⟩
  | 4 => ⟨S4x128, .f32⟩
  | 5 => ⟨S4x128x1, .f32⟩
  | 6 => ⟨S4x128x128, .f32⟩
  | 7 => ⟨S4x1x1, .f32⟩
  | 8 => ⟨S4x8x128, .f32⟩
  | 9 => ⟨S8192x512, .bf16⟩
  | 10 => ⟨S8192x512, .bf16⟩
  | 11 => ⟨S8192x1024, .bf16⟩
  | 12 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x2x128x256, .f32⟩
  | .local _ .vmem, ⟨5, _⟩ => ⟨S4x2x128x256, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4x128x128, .f32⟩
  | .local _ .vmem, ⟨19, _⟩ => ⟨S4x128x128, .f32⟩
  | .local _ .vmem, ⟨20, _⟩ => ⟨S4x128x128, .f32⟩
  | .local _ .vmem, ⟨21, _⟩ => ⟨S4x8x128, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S4x128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_11 : Ref sig .tc := ⟨.hbm, 123, rfl⟩
abbrev main_v104 : Ref sig .tc := ⟨.hbm, 124, rfl⟩
abbrev main_v105 : Ref sig .tc := ⟨.hbm, 125, rfl⟩
abbrev main_cst_12 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_14 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_15 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_16 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_cst_17 : Ref sig .tc := ⟨.hbm, 181, rfl⟩
abbrev main_v153 : Ref sig .tc := ⟨.hbm, 182, rfl⟩
abbrev main_v154 : Ref sig .tc := ⟨.hbm, 183, rfl⟩
abbrev main_cst_18 : Ref sig .tc := ⟨.hbm, 184, rfl⟩
abbrev main_v155 : Ref sig .tc := ⟨.hbm, 185, rfl⟩
abbrev main_v156 : Ref sig .tc := ⟨.hbm, 186, rfl⟩
abbrev main_cst_19 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_cst_20 : Ref sig .tc := ⟨.hbm, 202, rfl⟩
abbrev main_v171 : Ref sig .tc := ⟨.hbm, 203, rfl⟩
abbrev main_v172 : Ref sig .tc := ⟨.hbm, 204, rfl⟩
abbrev main_cst_21 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_cst_22 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_cst_23 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_cst_24 : Ref sig .tc := ⟨.hbm, 230, rfl⟩
abbrev main_call2_v0 : Ref sig .tc := ⟨.hbm, 231, rfl⟩
abbrev main_call2_v1 : Ref sig .tc := ⟨.hbm, 232, rfl⟩
abbrev main_call2_v2 : Ref sig .tc := ⟨.hbm, 233, rfl⟩
abbrev main_v195 : Ref sig .tc := ⟨.hbm, 234, rfl⟩
abbrev main_v196 : Ref sig .tc := ⟨.hbm, 235, rfl⟩
abbrev main_cst_25 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_cst_26 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_cst_27 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223_0 : Ref sig .tc := ⟨.hbm, 265, rfl⟩
abbrev main_v223_1 : Ref sig .tc := ⟨.hbm, 266, rfl⟩
abbrev main_v223_2 : Ref sig .tc := ⟨.hbm, 267, rfl⟩
abbrev main_v223_3 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferencebIdeal.lean ====
abbrev S8192x1024 : Shape := ⟨2, ![8192, 1024]⟩
abbrev S8192x512 : Shape := ⟨2, ![8192, 512]⟩
abbrev S1x8192x4x128 : Shape := ⟨4, ![1, 8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x8192x4x256 : Shape := ⟨4, ![1, 8192, 4, 256]⟩
abbrev S4 : Shape := ⟨1, ![4]⟩
abbrev S1x64x128x4x128 : Shape := ⟨5, ![1, 64, 128, 4, 128]⟩
abbrev S1x64x128x4x256 : Shape := ⟨5, ![1, 64, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x64x4x128x128 : Shape := ⟨5, ![1, 64, 4, 128, 128]⟩
abbrev S1x1x4x128x128 : Shape := ⟨5, ![1, 1, 4, 128, 128]⟩
abbrev S1x64x4x256x128 : Shape := ⟨5, ![1, 64, 4, 256, 128]⟩
abbrev S64x1 : Shape := ⟨2, ![64, 1]⟩
abbrev S1x8192 : Shape := ⟨2, ![1, 8192]⟩
abbrev S64x8192 : Shape := ⟨2, ![64, 8192]⟩
abbrev S1x64x8192 : Shape := ⟨3, ![1, 64, 8192]⟩
abbrev S4x64x8192 : Shape := ⟨3, ![4, 64, 8192]⟩
abbrev S1x1x8192x4x128 : Shape := ⟨5, ![1, 1, 8192, 4, 128]⟩
abbrev S64x8192x4 : Shape := ⟨3, ![64, 8192, 4]⟩
abbrev S1x64x8192x4x1 : Shape := ⟨5, ![1, 64, 8192, 4, 1]⟩
abbrev S1x64x8192x4x128 : Shape := ⟨5, ![1, 64, 8192, 4, 128]⟩
abbrev S1x4x256x64x128 : Shape := ⟨5, ![1, 4, 256, 64, 128]⟩
abbrev S64x1x4x128x256 : Shape := ⟨5, ![64, 1, 4, 128, 256]⟩
abbrev S1x4 : Shape := ⟨2, ![1, 4]⟩
abbrev S128x4 : Shape := ⟨2, ![128, 4]⟩
abbrev S1x1x128x4x1 : Shape := ⟨5, ![1, 1, 128, 4, 1]⟩
abbrev S1x8192x4 : Shape := ⟨3, ![1, 8192, 4]⟩
abbrev S1x8192x4x1 : Shape := ⟨4, ![1, 8192, 4, 1]⟩
abbrev S1x8192x1024 : Shape := ⟨3, ![1, 8192, 1024]⟩
abbrev S64x4x128x256 : Shape := ⟨4, ![64, 4, 128, 256]⟩
abbrev S4x64x128x256 : Shape := ⟨4, ![4, 64, 128, 256]⟩
abbrev S8192x4 : Shape := ⟨2, ![8192, 4]⟩
abbrev S1x4x64x128x8192 : Shape := ⟨5, ![1, 4, 64, 128, 8192]⟩
abbrev S1x4x256x8192 : Shape := ⟨4, ![1, 4, 256, 8192]⟩
abbrev S8192x4x128 : Shape := ⟨3, ![8192, 4, 128]⟩

abbrev nBuf : Space → Nat
  | .hbm => 352
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .bf16⟩
  | 3 => ⟨S8192x1024, .f32⟩
  | 4 => ⟨S8192x512, .f32⟩
  | 5 => ⟨S8192x512, .f32⟩
  | 6 => ⟨S8192x1024, .f32⟩
  | 7 => ⟨S1x8192x4x128, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S8192, .f32⟩
  | 19 => ⟨S8192x1, .f32⟩
  | 20 => ⟨S1x64, .f32⟩
  | 21 => ⟨S8192x64, .f32⟩
  | 22 => ⟨S8192x64, .f32⟩
  | 23 => ⟨S8192x64, .f32⟩
  | 24 => ⟨S8192x64, .f32⟩
  | 25 => ⟨S1x8192x1x64, .f32⟩
  | 26 => ⟨S8192x64, .f32⟩
  | 27 => ⟨S1x8192x1x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x128, .f32⟩
  | 41 => ⟨S1x8192x4x128, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S8192, .f32⟩
  | 53 => ⟨S8192x1, .f32⟩
  | 54 => ⟨S1x64, .f32⟩
  | 55 => ⟨S8192x64, .f32⟩
  | 56 => ⟨S8192x64, .f32⟩
  | 57 => ⟨S8192x64, .f32⟩
  | 58 => ⟨S8192x64, .f32⟩
  | 59 => ⟨S1x8192x1x64, .f32⟩
  | 60 => ⟨S8192x64, .f32⟩
  | 61 => ⟨S1x8192x1x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x64, .f32⟩
  | 73 => ⟨S1x8192x4x64, .f32⟩
  | 74 => ⟨S1x8192x4x128, .f32⟩
  | 75 => ⟨S1x8192x4x256, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S4, .f32⟩
  | 86 => ⟨S_, .f32⟩
  | 87 => ⟨S1x8192x4x128, .f32⟩
  | 88 => ⟨S1x8192x4x128, .f32⟩
  | 89 => ⟨S1x64x128x4x128, .f32⟩
  | 90 => ⟨S1x64x128x4x128, .f32⟩
  | 91 => ⟨S1x64x128x4x256, .f32⟩
  | 92 => ⟨S128, .f32⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S1x128x128, .f32⟩
  | 99 => ⟨S_, .f32⟩
  | 100 => ⟨S1x128x128, .f32⟩
  | 101 => ⟨S1x128x128, .i1⟩
  | 102 => ⟨S4x1x1, .f32⟩
  | 103 => ⟨S_, .f32⟩
  | 104 => ⟨S128x128, .f32⟩
  | 105 => ⟨S128x128, .f32⟩
  | 106 => ⟨S1x128x128, .f32⟩
  | 107 => ⟨S4x128x128, .f32⟩
  | 108 => ⟨S4x128x128, .f32⟩
  | 109 => ⟨S4x128x128, .f32⟩
  | 110 => ⟨S4x128x128, .f32⟩
  | 111 => ⟨S_, .f32⟩
  | 112 => ⟨S_, .f32⟩
  | 113 => ⟨S4x128x128, .i1⟩
  | 114 => ⟨S4x128x128, .f32⟩
  | 115 => ⟨S4x128x128, .f32⟩
  | 116 => ⟨S1x64x4x128x128, .f32⟩
  | 117 => ⟨S1x1x4x128x128, .f32⟩
  | 118 => ⟨S1x64x4x128x128, .f32⟩
  | 119 => ⟨S1x64x4x128x128, .f32⟩
  | 120 => ⟨S1x64x4x256x128, .f32⟩
  | 121 => ⟨S1x64x128x4x256, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S8192x1024, .f32⟩

abbrev hbmTy0_1 (i : Nat) : BufTy := match i % 128 with
  | 0 => ⟨S64, .f32⟩
  | 1 => ⟨S64x1, .f32⟩
  | 2 => ⟨S8192, .f32⟩
  | 3 => ⟨S1x8192, .f32⟩
  | 4 => ⟨S64x8192, .f32⟩
  | 5 => ⟨S64x8192, .f32⟩
  | 6 => ⟨S64x8192, .f32⟩
  | 7 => ⟨S1x64x8192, .f32⟩
  | 8 => ⟨S_, .f32⟩
  | 9 => ⟨S1x64x8192, .f32⟩
  | 10 => ⟨S1x64x8192, .i1⟩
  | 11 => ⟨S4x1x1, .f32⟩
  | 12 => ⟨S_, .f32⟩
  | 13 => ⟨S64x8192, .f32⟩
  | 14 => ⟨S64x8192, .f32⟩
  | 15 => ⟨S1x64x8192, .f32⟩
  | 16 => ⟨S4x64x8192, .f32⟩
  | 17 => ⟨S4x64x8192, .f32⟩
  | 18 => ⟨S4x64x8192, .f32⟩
  | 19 => ⟨S4x64x8192, .f32⟩
  | 20 => ⟨S_, .f32⟩
  | 21 => ⟨S_, .f32⟩
  | 22 => ⟨S4x64x8192, .i1⟩
  | 23 => ⟨S4x64x8192, .f32⟩
  | 24 => ⟨S4x64x8192, .f32⟩
  | 25 => ⟨S1x1x8192x4x128, .f32⟩
  | 26 => ⟨S64x8192x4, .f32⟩
  | 27 => ⟨S1x64x8192x4x1, .f32⟩
  | 28 => ⟨S1x64x8192x4x128, .f32⟩
  | 29 => ⟨S1x64x8192x4x128, .f32⟩
  | 30 => ⟨S1x64x8192x4x128, .f32⟩
  | 31 => ⟨S1x4x256x64x128, .f32⟩
  | 32 => ⟨S64x1x4x128x256, .f32⟩
  | 33 => ⟨S1x4, .f32⟩
  | 34 => ⟨S_, .f32⟩
  | 35 => ⟨S128, .f32⟩
  | 36 => ⟨S128, .f32⟩
  | 37 => ⟨S128x1, .f32⟩
  | 38 => ⟨S128x4, .f32⟩
  | 39 => ⟨S128x4, .f32⟩
  | 40 => ⟨S128x4, .f32⟩
  | 41 => ⟨S128x4, .f32⟩
  | 42 => ⟨S1x1x128x4x1, .f32⟩
  | 43 => ⟨S1x64x128x4x128, .f32⟩
  | 44 => ⟨S1x64x128x4x128, .f32⟩
  | 45 => ⟨S1x64x4x256x128, .f32⟩
  | 46 => ⟨S1x64x128x4x256, .f32⟩
  | 47 => ⟨S1x64x128x4x256, .f32⟩
  | 48 => ⟨S1x8192x4x256, .f32⟩
  | 49 => ⟨S_, .f32⟩
  | 50 => ⟨S1x8192x4, .f32⟩
  | 51 => ⟨S1x8192x4x1, .f32⟩
  | 52 => ⟨S_, .f32⟩
  | 53 => ⟨S1x8192x4x1, .f32⟩
  | 54 => ⟨S1x8192x4x1, .f32⟩
  | 55 => ⟨S1x8192x4x256, .f32⟩
  | 56 => ⟨S1x8192x4x256, .f32⟩
  | 57 => ⟨S1x8192x4x256, .f32⟩
  | 58 => ⟨S_, .f32⟩
  | 59 => ⟨S1x8192x4x256, .f32⟩
  | 60 => ⟨S1x8192x4x256, .f32⟩
  | 61 => ⟨S_, .f32⟩
  | 62 => ⟨S1x8192x4, .f32⟩
  | 63 => ⟨S1x8192x4x1, .f32⟩
  | 64 => ⟨S_, .f32⟩
  | 65 => ⟨S1x8192x4x1, .f32⟩
  | 66 => ⟨S1x8192x4x1, .f32⟩
  | 67 => ⟨S1x8192x4x256, .f32⟩
  | 68 => ⟨S1x8192x4x256, .f32⟩
  | 69 => ⟨S_, .f32⟩
  | 70 => ⟨S1x8192x4x1, .f32⟩
  | 71 => ⟨S1x8192x4x1, .f32⟩
  | 72 => ⟨S1x8192x4x1, .f32⟩
  | 73 => ⟨S1x8192x4x1, .f32⟩
  | 74 => ⟨S_, .f32⟩
  | 75 => ⟨S1x8192x4x1, .f32⟩
  | 76 => ⟨S1x8192x4x1, .f32⟩
  | 77 => ⟨S1x8192x4x256, .f32⟩
  | 78 => ⟨S1x8192x4x256, .f32⟩
  | 79 => ⟨S1x8192x1024, .f32⟩
  | 80 => ⟨S1x8192x1024, .f32⟩
  | 81 => ⟨S1x8192x1024, .f32⟩
  | 82 => ⟨S1x8192x1024, .f32⟩
  | 83 => ⟨S_, .f32⟩
  | 84 => ⟨S1x8192x1024, .f32⟩
  | 85 => ⟨S1x8192x1024, .f32⟩
  | 86 => ⟨S_, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S1x8192x1024, .f32⟩
  | 93 => ⟨S1x8192x1024, .f32⟩
  | 94 => ⟨S1x8192x1024, .f32⟩
  | 95 => ⟨S8192x1024, .f32⟩
  | 96 => ⟨S8192x1024, .f32⟩
  | 97 => ⟨S64x4x128x256, .f32⟩
  | 98 => ⟨S4x64x128x256, .f32⟩
  | 99 => ⟨S1x8192x1024, .f32⟩
  | 100 => ⟨S1x8192x1024, .f32⟩
  | 101 => ⟨S1x8192x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S8192x1024, .f32⟩
  | 107 => ⟨S1x8192x4x256, .f32⟩
  | 108 => ⟨S1x8192x4x256, .f32⟩
  | 109 => ⟨S_, .f32⟩
  | 110 => ⟨S1x8192x4, .f32⟩
  | 111 => ⟨S1x8192x4x1, .f32⟩
  | 112 => ⟨S1x8192x4x256, .f32⟩
  | 113 => ⟨S1x8192x4x256, .f32⟩
  | 114 => ⟨S1x8192x4x1, .f32⟩
  | 115 => ⟨S1x8192x4x256, .f32⟩
  | 116 => ⟨S_, .f32⟩
  | 117 => ⟨S1x8192x4, .f32⟩
  | 118 => ⟨S1x8192x4x1, .f32⟩
  | 119 => ⟨S_, .f32⟩
  | 120 => ⟨S1x8192x4x1, .f32⟩
  | 121 => ⟨S1x8192x4x1, .f32⟩
  | 122 => ⟨S_, .f32⟩
  | 123 => ⟨S8192x4, .f32⟩
  | 124 => ⟨S1x8192x4, .f32⟩
  | 125 => ⟨S1x8192x4x256, .f32⟩
  | 126 => ⟨S1x8192x4x256, .f32⟩
  | 127 => ⟨S1x8192x4x256, .f32⟩
  | _ => ⟨S8192x1024, .f32⟩

abbrev hbmTy0_2 (i : Nat) : BufTy := match i % 128 with
  | 0 => ⟨S_, .f32⟩
  | 1 => ⟨S1x8192x4, .f32⟩
  | 2 => ⟨S1x8192x4x1, .f32⟩
  | 3 => ⟨S1x8192x4x256, .f32⟩
  | 4 => ⟨S1x8192x4x1, .f32⟩
  | 5 => ⟨S_, .f32⟩
  | 6 => ⟨S1x8192x4x1, .f32⟩
  | 7 => ⟨S1x8192x4x1, .f32⟩
  | 8 => ⟨S_, .f32⟩
  | 9 => ⟨S8192x4, .f32⟩
  | 10 => ⟨S1x8192x4, .f32⟩
  | 11 => ⟨S1x8192x4x256, .f32⟩
  | 12 => ⟨S1x8192x4x256, .f32⟩
  | 13 => ⟨S1x64x128x4x256, .f32⟩
  | 14 => ⟨S1x64x4x256x128, .f32⟩
  | 15 => ⟨S1x64x4x128x128, .f32⟩
  | 16 => ⟨S1x64x128x4x128, .f32⟩
  | 17 => ⟨S1x64x4x256x128, .f32⟩
  | 18 => ⟨S64x1x4x128x256, .f32⟩
  | 19 => ⟨S1x64x128x4x128, .f32⟩
  | 20 => ⟨S1x64x128x4x128, .f32⟩
  | 21 => ⟨S1x4x256x64x128, .f32⟩
  | 22 => ⟨S1x4x64x128x8192, .f32⟩
  | 23 => ⟨S1x64x8192x4x128, .f32⟩
  | 24 => ⟨S1x4x256x8192, .f32⟩
  | 25 => ⟨S1x8192x4x256, .f32⟩
  | 26 => ⟨S1x64x8192x4x128, .f32⟩
  | 27 => ⟨S1x64x8192x4x128, .f32⟩
  | 28 => ⟨S_, .f32⟩
  | 29 => ⟨S1x8192x4x128, .f32⟩
  | 30 => ⟨S1x1x8192x4x128, .f32⟩
  | 31 => ⟨S_, .f32⟩
  | 32 => ⟨S8192x4x128, .f32⟩
  | 33 => ⟨S1x8192x4x128, .f32⟩
  | 34 => ⟨S1x64x4x256x128, .f32⟩
  | 35 => ⟨S1x64x4x128x128, .f32⟩
  | 36 => ⟨S1x64x4x256x128, .f32⟩
  | 37 => ⟨S1x64x128x4x256, .f32⟩
  | 38 => ⟨S1x64x4x128x128, .f32⟩
  | 39 => ⟨S1x64x4x128x128, .f32⟩
  | 40 => ⟨S1x64x4x128x128, .f32⟩
  | 41 => ⟨S1x64x128x4x128, .f32⟩
  | 42 => ⟨S1x64x4x128x128, .f32⟩
  | 43 => ⟨S1x64x128x4x128, .f32⟩
  | 44 => ⟨S1x64x128x4x128, .f32⟩
  | 45 => ⟨S1x8192x4x256, .f32⟩
  | 46 => ⟨S1x8192x4x256, .f32⟩
  | 47 => ⟨S1x8192x4x128, .f32⟩
  | 48 => ⟨S1x8192x4x128, .f32⟩
  | 49 => ⟨S1x8192x4x128, .f32⟩
  | 50 => ⟨S_, .f32⟩
  | 51 => ⟨S1x8192x4x128, .f32⟩
  | 52 => ⟨S1x8192x4x128, .f32⟩
  | 53 => ⟨S8192x1024, .f32⟩
  | 54 => ⟨S1x8192x4x64, .f32⟩
  | 55 => ⟨S1x8192x4x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S_, .f32⟩
  | 68 => ⟨S1x8192x4x128, .f32⟩
  | 69 => ⟨S_, .f32⟩
  | 70 => ⟨S1x8192x4x128, .f32⟩
  | 71 => ⟨S1x8192x4x128, .f32⟩
  | 72 => ⟨S8192x512, .f32⟩
  | 73 => ⟨S1x8192x4x64, .f32⟩
  | 74 => ⟨S1x8192x4x64, .f32⟩
  | 75 => ⟨S1x8192x4x64, .f32⟩
  | 76 => ⟨S1x8192x4x64, .f32⟩
  | 77 => ⟨S1x8192x4x64, .f32⟩
  | 78 => ⟨S1x8192x4x64, .f32⟩
  | 79 => ⟨S1x8192x4x64, .f32⟩
  | 80 => ⟨S1x8192x4x64, .f32⟩
  | 81 => ⟨S1x8192x4x64, .f32⟩
  | 82 => ⟨S1x8192x4x64, .f32⟩
  | 83 => ⟨S1x8192x4x64, .f32⟩
  | 84 => ⟨S1x8192x4x64, .f32⟩
  | 85 => ⟨S1x8192x4x64, .f32⟩
  | 86 => ⟨S_, .f32⟩
  | 87 => ⟨S1x8192x4x128, .f32⟩
  | 88 => ⟨S_, .f32⟩
  | 89 => ⟨S1x8192x4x128, .f32⟩
  | 90 => ⟨S1x8192x4x128, .f32⟩
  | 91 => ⟨S8192x512, .f32⟩
  | 92 => ⟨S8192x512, .bf16⟩
  | 93 => ⟨S8192x512, .bf16⟩
  | 94 => ⟨S8192x1024, .bf16⟩
  | 95 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_11 : Ref sig .tc := ⟨.hbm, 123, rfl⟩
abbrev main_v104 : Ref sig .tc := ⟨.hbm, 124, rfl⟩
abbrev main_v105 : Ref sig .tc := ⟨.hbm, 125, rfl⟩
abbrev main_cst_12 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_14 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_15 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_16 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_17 : Ref sig .tc := ⟨.hbm, 177, rfl⟩
abbrev main_v149 : Ref sig .tc := ⟨.hbm, 178, rfl⟩
abbrev main_v150 : Ref sig .tc := ⟨.hbm, 179, rfl⟩
abbrev main_cst_18 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_19 : Ref sig .tc := ⟨.hbm, 186, rfl⟩
abbrev main_v156 : Ref sig .tc := ⟨.hbm, 187, rfl⟩
abbrev main_v157 : Ref sig .tc := ⟨.hbm, 188, rfl⟩
abbrev main_cst_20 : Ref sig .tc := ⟨.hbm, 189, rfl⟩
abbrev main_v158 : Ref sig .tc := ⟨.hbm, 190, rfl⟩
abbrev main_v159 : Ref sig .tc := ⟨.hbm, 191, rfl⟩
abbrev main_cst_21 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_22 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_23 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_call2_v0 : Ref sig .tc := ⟨.hbm, 209, rfl⟩
abbrev main_call2_v1 : Ref sig .tc := ⟨.hbm, 210, rfl⟩
abbrev main_call2_cst : Ref sig .tc := ⟨.hbm, 211, rfl⟩
abbrev main_call2_v2 : Ref sig .tc := ⟨.hbm, 212, rfl⟩
abbrev main_call2_v3 : Ref sig .tc := ⟨.hbm, 213, rfl⟩
abbrev main_call2_cst_0 : Ref sig .tc := ⟨.hbm, 214, rfl⟩
abbrev main_call2_v4 : Ref sig .tc := ⟨.hbm, 215, rfl⟩
abbrev main_v174_2 : Ref sig .tc := ⟨.hbm, 216, rfl⟩
abbrev main_call2_cst_1 : Ref sig .tc := ⟨.hbm, 217, rfl⟩
abbrev main_call2_v6 : Ref sig .tc := ⟨.hbm, 218, rfl⟩
abbrev main_call2_v7 : Ref sig .tc := ⟨.hbm, 219, rfl⟩
abbrev main_v174_1 : Ref sig .tc := ⟨.hbm, 220, rfl⟩
abbrev main_v174_0 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_call3_v0 : Ref sig .tc := ⟨.hbm, 230, rfl⟩
abbrev main_call3_v1 : Ref sig .tc := ⟨.hbm, 231, rfl⟩
abbrev main_call3_v2 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_24 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_25 : Ref sig .tc := ⟨.hbm, 244, rfl⟩
abbrev main_v193 : Ref sig .tc := ⟨.hbm, 245, rfl⟩
abbrev main_v194 : Ref sig .tc := ⟨.hbm, 246, rfl⟩
abbrev main_cst_26 : Ref sig .tc := ⟨.hbm, 247, rfl⟩
abbrev main_v195 : Ref sig .tc := ⟨.hbm, 248, rfl⟩
abbrev main_v196 : Ref sig .tc := ⟨.hbm, 249, rfl⟩
abbrev main_cst_27 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_28 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_29 : Ref sig .tc := ⟨.hbm, 261, rfl⟩
abbrev main_v206 : Ref sig .tc := ⟨.hbm, 262, rfl⟩
abbrev main_v207 : Ref sig .tc := ⟨.hbm, 263, rfl⟩
abbrev main_cst_30 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_cst_31 : Ref sig .tc := ⟨.hbm, 284, rfl⟩
abbrev main_v227 : Ref sig .tc := ⟨.hbm, 285, rfl⟩
abbrev main_v228 : Ref sig .tc := ⟨.hbm, 286, rfl⟩
abbrev main_cst_32 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_cst_33 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_cst_34 : Ref sig .tc := ⟨.hbm, 323, rfl⟩
abbrev main_v263 : Ref sig .tc := ⟨.hbm, 324, rfl⟩
abbrev main_cst_35 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_cst_36 : Ref sig .tc := ⟨.hbm, 342, rfl⟩
abbrev main_v280 : Ref sig .tc := ⟨.hbm, 343, rfl⟩
abbrev main_cst_37 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩

abbrev nD : Nat := 1
abbrev τ : Topo := Topo.v7x

variable {F : FTy → Type} [FloatOps F]
-- ==== FfnBwd.lean ====
abbrev S8192x1024 : Shape := ⟨2, ![8192, 1024]⟩
abbrev S2816x1024 : Shape := ⟨2, ![2816, 1024]⟩
abbrev S8192x5632 : Shape := ⟨2, ![8192, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .f32⟩
  | .hbm, ⟨3, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .f32⟩
  | .local _ .vmem, ⟨4, _⟩ => ⟨S256x5632, .f32⟩
  | .local _ .vmem, ⟨5, _⟩ => ⟨S256x5632, .bf16⟩
  | .local _ .vmem, ⟨6, _⟩ => ⟨S256x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnBwdRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S2816x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== GradFfnIn.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnInRefIdeal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradFfnOut.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnOutRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnFwd.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .hbm, ⟨3, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x5632, .bf16⟩
  | .local _ .vmem, ⟨3, _⟩ => ⟨S256x5632, .f32⟩
  | .local _ .vmem, ⟨4, _⟩ => ⟨S256x5632, .f32⟩
  | .local _ .vmem, ⟨5, _⟩ => ⟨S256x2816, .bf16⟩
  | .local _ .vmem, ⟨6, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnFwdRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== ProjIn.lean ====
abbrev S8192x1024 : Shape := ⟨2, ![8192, 1024]⟩
abbrev S1024x6656 : Shape := ⟨2, ![1024, 6656]⟩
abbrev S8192x1536 : Shape := ⟨2, ![8192, 1536]⟩
abbrev S8192x2048 : Shape := ⟨2, ![8192, 2048]⟩
abbrev S256x1024 : Shape := ⟨2, ![256, 1024]⟩
abbrev S256x1536 : Shape := ⟨2, ![256, 1536]⟩
abbrev S256x2048 : Shape := ⟨2, ![256, 2048]⟩
abbrev S256x6656 : Shape := ⟨2, ![256, 6656]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x6656, .bf16⟩
  | .hbm, ⟨2, _⟩ => ⟨S8192x1536, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x2048, .f32⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1024x6656, .bf16⟩
  | .local _ .vmem, ⟨3, _⟩ => ⟨S256x1536, .bf16⟩
  | .local _ .vmem, ⟨4, _⟩ => ⟨S256x1536, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x1024, .bf16⟩
  | .local _ .vmem, ⟨14, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6656 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjInRefIdeal.lean ====
abbrev S8192x1024 : Shape := ⟨2, ![8192, 1024]⟩
abbrev S1024x6656 : Shape := ⟨2, ![1024, 6656]⟩
abbrev S8192x6656 : Shape := ⟨2, ![8192, 6656]⟩
abbrev S8192x1536 : Shape := ⟨2, ![8192, 1536]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6656, .bf16⟩
  | .hbm, ⟨2, _⟩ => ⟨S1024x6656, .f32⟩
  | .hbm, ⟨3, _⟩ => ⟨S8192x6656, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x1536, .bf16⟩
  | .hbm, ⟨10, _⟩ => ⟨S8192x1024, .bf16⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== GradSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradSquareRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradHalf.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradHalfRefIdeal.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S512x1024, .f32⟩
  | .hbm, ⟨5, _⟩ => ⟨S1024x512, .f32⟩
  | .hbm, ⟨6, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradGate.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGateRefIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOm.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOmRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradYGated.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradYGatedRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradASb.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradASbRefIdeal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S512x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradSbO.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradSbORefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MemQ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemQRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SbOut.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RetOut.lean ====
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetOutRefIdeal.lean ====
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1x1024, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== LnOut.lean ====
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== GradMix.lean ====
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S8x2048 : Shape := ⟨2, ![8, 2048]⟩
abbrev S32x8x2048 : Shape := ⟨3, ![32, 8, 2048]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x2048, .bf16⟩
  | .hbm, ⟨9, _⟩ => ⟨S1x2048, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S8x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v39 : BitVec 1 := Scalar.cmpi .eq arg0 c31_i32
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GradMixRefIdeal.lean ====
abbrev S8192x1024 : Shape := ⟨2, ![8192, 1024]⟩
abbrev S1024x1024 : Shape := ⟨2, ![1024, 1024]⟩
abbrev S8192x2048 : Shape := ⟨2, ![8192, 2048]⟩
abbrev S1x2048 : Shape := ⟨2, ![1, 2048]⟩
abbrev S_ : Shape := ⟨0, ![]⟩
abbrev S8192x2x1024 : Shape := ⟨3, ![8192, 2, 1024]⟩
abbrev S8192x1x1024 : Shape := ⟨3, ![8192, 1, 1024]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2x1024, .f32⟩
  | .hbm, ⟨21, _⟩ => ⟨S8192x1x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S_, .f32⟩
  | .hbm, ⟨36, _⟩ => ⟨S8192x2x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S_, .f32⟩
  | .hbm, ⟨41, _⟩ => ⟨S8192x2x1024, .f32⟩
  | .hbm, ⟨42, _⟩ => ⟨S8192x2x1024, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x1024, .bf16⟩
  | .hbm, ⟨49, _⟩ => ⟨S8192x1024, .bf16⟩
  | .hbm, ⟨50, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== GradNorm.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256x1 : Shape := ⟨2, ![256, 1]⟩
abbrev S8x1024 : Shape := ⟨2, ![8, 1024]⟩
abbrev S256 : Shape := ⟨1, ![256]⟩
abbrev S32x8x1024 : Shape := ⟨3, ![32, 8, 1024]⟩
abbrev S1024 : Shape := ⟨1, ![1024]⟩

abbrev nBuf : Space → Nat
  | .hbm => 32
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S8x1024, .f32⟩
  | .local _ .vmem, ⟨17, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond5 (i : grid0.Coords) : BitVec 1 :=
  let arg0 : BitVec 32 := BitVec.ofNat 32 (i 0).val
  let c31_i32 : BitVec 32 := 31#32
  let v50 : BitVec 1 := Scalar.cmpi .eq arg0 c31_i32
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GradNormRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== MemKv.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x2048, .bf16⟩
  | .local _ .vmem, ⟨2, _⟩ => ⟨S256x2048, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradMemKv.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x2048, .bf16⟩
  | .hbm, ⟨3, _⟩ => ⟨S1024x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMemKvRefIdeal.lean ====
abbrev S256x1024 : Shape := ⟨2, ![256, 1024]⟩
abbrev S256x2048 : Shape := ⟨2, ![256, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S2048x1024, .f32⟩
  | .hbm, ⟨4, _⟩ => ⟨S1024x2048, .f32⟩
  | .hbm, ⟨5, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def k0_cond7 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_39 : BitVec 32 := 0#32
  let v82 : BitVec 1 := Scalar.cmpi .ne v81 c0_i32_39
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnOutRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 143
  | .vmem => 0
  | .smem => 0
  | _ => 0

abbrev hbmTy0_0 (i : Nat) : BufTy := match i % 128 with
  | 0 => ⟨S8192x2816, .bf16⟩
  | 1 => ⟨S2816x1024, .bf16⟩
  | 2 => ⟨S8192x1024, .f32⟩
  | 3 => ⟨S1x1024, .f32⟩
  | 4 => ⟨S1x1024, .f32⟩
  | 5 => ⟨S8192x1024, .f32⟩
  | 6 => ⟨S_, .f32⟩
  | 7 => ⟨S8192x1024, .f32⟩
  | 8 => ⟨S8192x1024, .f32⟩
  | 9 => ⟨S8192x2816, .f32⟩
  | 10 => ⟨S2816x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S_, .f32⟩
  | 34 => ⟨S8192x1, .f32⟩
  | 35 => ⟨S8192x1, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192, .f32⟩
  | 54 => ⟨S_, .f32⟩
  | 55 => ⟨S8192, .f32⟩
  | 56 => ⟨S8192, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S8192, .f32⟩
  | 65 => ⟨S_, .f32⟩
  | 66 => ⟨S8192, .f32⟩
  | 67 => ⟨S8192, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S8192x1024, .f32⟩
  | 84 => ⟨S8192x1024, .f32⟩
  | 85 => ⟨S8192x1, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1024, .f32⟩
  | 126 => ⟨S8192x1024, .f32⟩
  | 127 => ⟨S_, .f32⟩
  | _ => ⟨S8192x2816, .bf16⟩

abbrev hbmTy0_1 (i : Nat) : BufTy := match i % 128 with
  | 0 => ⟨S8192x1, .f32⟩
  | 1 => ⟨S8192x1, .f32⟩
  | 2 => ⟨S8192x1, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S8192x1024, .bf16⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_cst_23 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_24 : Ref sig .tc := ⟨.hbm, 110, rfl⟩
abbrev main_v79 : Ref sig .tc := ⟨.hbm, 111, rfl⟩
abbrev main_v80 : Ref sig .tc := ⟨.hbm, 112, rfl⟩
abbrev main_cst_25 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_26 : Ref sig .tc := ⟨.hbm, 119, rfl⟩
abbrev main_v86 : Ref sig .tc := ⟨.hbm, 120, rfl⟩
abbrev main_v87 : Ref sig .tc := ⟨.hbm, 121, rfl⟩
abbrev main_cst_27 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_28 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_29 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]
-- ==== AdamIn.lean ====
abbrev S8x1024x832 : Shape := ⟨3, ![8, 1024, 832]⟩
abbrev S1024x832 : Shape := ⟨2, ![1024, 832]⟩
abbrev S8x256x832 : Shape := ⟨3, ![8, 256, 832]⟩
abbrev S256x832 : Shape := ⟨2, ![256, 832]⟩
abbrev S1x256x832 : Shape := ⟨3, ![1, 256, 832]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x832, .bf16⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S1024x832, .f32⟩
  | .hbm, ⟨5, _⟩ => ⟨S1024x832, .f32⟩
  | .hbm, ⟨6, _⟩ => ⟨S1024x832, .f32⟩
  | .hbm, ⟨7, _⟩ => ⟨S1024x832, .f32⟩
  | .local _ .vmem, ⟨0, _⟩ => ⟨S8x256x832, .bf16⟩
  | .local _ .vmem, ⟨1, _⟩ => ⟨S8x256x832, .bf16⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | .local _ .vmem, ⟨7, _⟩ => ⟨S256x832, .f32⟩
  | .local _ .vmem, ⟨8, _⟩ => ⟨S256x832, .f32⟩
  | .local _ .vmem, ⟨9, _⟩ => ⟨S256x832, .f32⟩
  | .local _ .vmem, ⟨10, _⟩ => ⟨S256x832, .f32⟩
  | .local _ .vmem, ⟨11, _⟩ => ⟨S256x832, .f32⟩
  | .local _ .vmem, ⟨12, _⟩ => ⟨S256x832, .f32⟩
  | .local _ .vmem, ⟨13, _⟩ => ⟨S256x832, .f32⟩
  | .local _ .vmem, ⟨14, _⟩ => ⟨S256x832, .f32⟩
  | .local _ .vmem, ⟨15, _⟩ => ⟨S256x832, .f32⟩
  | _, _ => ⟨S8x1024x832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x832 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x832 : Shape := ⟨3, ![8, 1024, 832]⟩
abbrev S1024x832 : Shape := ⟨2, ![1024, 832]⟩
abbrev S8x256x832 : Shape := ⟨3, ![8, 256, 832]⟩
abbrev S256x832 : Shape := ⟨2, ![256, 832]⟩
abbrev S1x256x832 : Shape := ⟨3, ![1, 256, 832]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x832, .bf16⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S1024x832, .f32⟩
  | .hbm, ⟨5, _⟩ => ⟨S1024x832, .f32⟩
  | .hbm, ⟨6, _⟩ => ⟨S1024x832, .f32⟩
  | .hbm, ⟨7, _⟩ => ⟨S1024x832, .f32⟩
  | .local _ .vmem, ⟨0, _⟩ => ⟨S8x256x832, .bf16⟩
  | .local _ .vmem, ⟨1, _⟩ => ⟨S8x256x832, .bf16⟩
  | .local _ .vmem, ⟨2, _⟩ => ⟨S256x832, .f32⟩
  | .local _ .vmem, ⟨3, _⟩ => ⟨S256x832, .f32⟩
  | .local _ .vmem, ⟨4, _⟩ => ⟨S256x832, .f32⟩
  | .local _ .vmem, ⟨5, _⟩ => ⟨S256x832, .f32⟩
  | .local _ .vmem, ⟨6, _⟩ => ⟨S256x832, .f32⟩
  | .local _ .vmem, ⟨7, _⟩ => ⟨S256x832, .f32⟩
  | .local _ .vmem, ⟨8, _⟩ => ⟨S256x832, .f32⟩
  | .local _ .vmem, ⟨9, _⟩ => ⟨S256x832, .f32⟩
  | .local _ .vmem, ⟨10, _⟩ => ⟨S256x832, .f32⟩
  | .local _ .vmem, ⟨11, _⟩ => ⟨S256x832, .f32⟩
  | .local _ .vmem, ⟨12, _⟩ => ⟨S256x832, .f32⟩
  | .local _ .vmem, ⟨13, _⟩ => ⟨S256x832, .f32⟩
  | .local _ .vmem, ⟨14, _⟩ => ⟨S256x832, .f32⟩
  | .local _ .vmem, ⟨15, _⟩ => ⟨S256x832, .f32⟩
  | _, _ => ⟨S8x1024x832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x832 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x832 : Shape := ⟨3, ![8, 1024, 832]⟩
abbrev S1024x832 : Shape := ⟨2, ![1024, 832]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x832, .bf16⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S8x1024x832, .f32⟩
  | .hbm, ⟨5, _⟩ => ⟨S_, .f32⟩
  | .hbm, ⟨6, _⟩ => ⟨S1024x832, .f32⟩
  | .hbm, ⟨7, _⟩ => ⟨S_, .f32⟩
  | .hbm, ⟨8, _⟩ => ⟨S1024x832, .f32⟩
  | .hbm, ⟨9, _⟩ => ⟨S1024x832, .f32⟩
  | .hbm, ⟨10, _⟩ => ⟨S_, .f32⟩
  | .hbm, ⟨11, _⟩ => ⟨S1024x832, .f32⟩
  | .hbm, ⟨12, _⟩ => ⟨S1024x832, .f32⟩
  | .hbm, ⟨13, _⟩ => ⟨S1024x832, .f32⟩
  | .hbm, ⟨14, _⟩ => ⟨S_, .f32⟩
  | .hbm, ⟨15, _⟩ => ⟨S1024x832, .f32⟩
  | .hbm, ⟨16, _⟩ => ⟨S1024x832, .f32⟩
  | .hbm, ⟨17, _⟩ => ⟨S1024x832, .f32⟩
  | .hbm, ⟨18, _⟩ => ⟨S_, .f32⟩
  | .hbm, ⟨19, _⟩ => ⟨S1024x832, .f32⟩
  | .hbm, ⟨20, _⟩ => ⟨S1024x832, .f32⟩
  | .hbm, ⟨21, _⟩ => ⟨S1024x832, .f32⟩
  | .hbm, ⟨22, _⟩ => ⟨S_, .f32⟩
  | .hbm, ⟨23, _⟩ => ⟨S1024x832, .f32⟩
  | .hbm, ⟨24, _⟩ => ⟨S1024x832, .f32⟩
  | .hbm, ⟨25, _⟩ => ⟨S_, .f32⟩
  | .hbm, ⟨26, _⟩ => ⟨S1024x832, .f32⟩
  | .hbm, ⟨27, _⟩ => ⟨S1024x832, .f32⟩
  | .hbm, ⟨28, _⟩ => ⟨S1024x832, .f32⟩
  | .hbm, ⟨29, _⟩ => ⟨S_, .f32⟩
  | .hbm, ⟨30, _⟩ => ⟨S1024x832, .f32⟩
  | .hbm, ⟨31, _⟩ => ⟨S1024x832, .f32⟩
  | .hbm, ⟨32, _⟩ => ⟨S1024x832, .f32⟩
  | .hbm, ⟨33, _⟩ => ⟨S_, .f32⟩
  | .hbm, ⟨34, _⟩ => ⟨S1024x832, .f32⟩
  | .hbm, ⟨35, _⟩ => ⟨S1024x832, .f32⟩
  | .hbm, ⟨36, _⟩ => ⟨S1024x832, .f32⟩
  | .hbm, ⟨37, _⟩ => ⟨S_, .f32⟩
  | .hbm, ⟨38, _⟩ => ⟨S1024x832, .f32⟩
  | .hbm, ⟨39, _⟩ => ⟨S1024x832, .f32⟩
  | _, _ => ⟨S8x1024x832, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSbO.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSbOIdeal.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSbORefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRows.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRowsIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRowsRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMemKv.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMemKvIdeal.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMemKvRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfnIn.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInIdeal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInRefIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfnOut.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Math.lean ====
module

public import Idealize.ShloMosaic.PureOps.Ideal
public import Idealize.ShloMosaic.PureOps.Ideal.Laws
public import Idealize.ShloMosaic.Lib.IdealHost
public import Idealize.ShloMosaic.Lib.Pointwise
public import Mathlib.Analysis.SpecialFunctions.Exp

@[expose] public section

noncomputable section

/-! The mathematics of retention on the extended reals: what multiplication by a real constant does to a sum, the
weights of the closed form of the state, and the recursion they satisfy. -/

namespace Cert.Ret

open Idealize.ShloMosaic

/-- A nonnegative real factor distributes over a sum. -/
theorem coe_mul_sum {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The weight of position `j` in the state before chunk `n`, for the head whose logarithmic decay is `l`. -/
def wt (l : ℝ) (n j : ℕ) : ℝ := if j + 1 ≤ 128 * n then Real.exp (l * (128 * n - 1 - j)) else 0

theorem wt_nonneg (l : ℝ) (n j : ℕ) : 0 ≤ wt l n j := by unfold wt; split <;> positivity

theorem wt_zero (l : ℝ) (j : ℕ) : wt l 0 j = 0 := by simp [wt]

/-- One chunk later an old position's weight has decayed by one chunk, and the chunk's own positions have joined. -/
theorem wt_succ (l : ℝ) (n j : ℕ) : wt l (n + 1) j =
    if j + 1 ≤ 128 * n then wt l n j * Real.exp (l * 128)
    else if j + 1 ≤ 128 * (n + 1) then Real.exp (l * (127 - (j - n * 128 : ℕ))) else 0 := by
  unfold wt
  by_cases h : j + 1 ≤ 128 * n
  · rw [if_pos h, if_pos h, if_pos (by omega), ← Real.exp_add]
    congr 1; push_cast; ring
  · rw [if_neg h]
    by_cases h' : j + 1 ≤ 128 * (n + 1)
    · rw [if_pos h', if_pos h', Nat.cast_sub (by omega)]
      congr 1; push_cast; ring
    · rw [if_neg h', if_neg h']

/-- A sum over the positions of chunk `n`. -/
theorem sum_chunk (n : Fin 64) (f : ℕ → EReal) :
    (∑ j : Fin 8192, if ¬ (j.val + 1 ≤ 128 * n.val) ∧ j.val + 1 ≤ 128 * (n.val + 1) then f j.val else 0)
      = ∑ i : Fin 128, f (n.val * 128 + i.val) := by
  have hn := n.isLt
  rw [← Finset.sum_filter]
  symm
  refine Finset.sum_bij (fun i _ => (⟨n.val * 128 + i.val, by omega⟩ : Fin 8192)) ?_ ?_ ?_ ?_
  · intro i _; simp only [Finset.mem_filter, Finset.mem_univ, true_and]; omega
  · intro a _ b _ h; have := congrArg Fin.val h; simp only at this; exact Fin.ext (by omega)
  · intro j hj
    simp only [Finset.mem_filter, Finset.mem_univ, true_and] at hj
    exact ⟨⟨j.val - 128 * n.val, by omega⟩, Finset.mem_univ _, Fin.ext (by simp only; omega)⟩
  · intro i _; rfl

/-- The state's recursion: what the weights of the closed form sum to satisfies what the chunks compute in turn. -/
theorem state_succ (l : ℝ) (k v : ℕ → EReal) (n : Fin 64) :
    (∑ j : Fin 8192, v j.val * (k j.val * (wt l (n.val + 1) j.val : EReal)))
      = (∑ j : Fin 8192, v j.val * (k j.val * (wt l n.val j.val : EReal))) * (Real.exp (l * 128) : EReal)
        + ∑ i : Fin 128, k (n.val * 128 + i.val) * (Real.exp (l * (127 - i.val)) : EReal) * v (n.val * 128 + i.val) := by
  have hc : (0 : ℝ) ≤ Real.exp (l * 128) := (Real.exp_pos _).le
  have hs := sum_chunk n (fun p => k p * (Real.exp (l * (127 - (p - n.val * 128 : ℕ))) : EReal) * v p)
  simp only [Nat.add_sub_cancel_left] at hs
  rw [← hs, mul_comm (∑ j : Fin 8192, _) _, coe_mul_sum _ _ _ hc, ← Finset.sum_add_distrib]
  refine Finset.sum_congr rfl fun j _ => ?_
  rw [wt_succ]
  by_cases h : j.val + 1 ≤ 128 * n.val
  · rw [if_pos h, if_neg (fun h' => h'.1 h), add_zero, EReal.coe_mul]
    ac_rfl
  · have h0 : wt l n.val j.val = 0 := if_neg h
    rw [if_neg h, h0, EReal.coe_zero, mul_zero, mul_zero, mul_zero, zero_add]
    by_cases h' : j.val + 1 ≤ 128 * (n.val + 1)
    · rw [if_pos h', if_pos ⟨h, h'⟩]; ac_rfl
    · rw [if_neg h', if_neg (fun h'' => h' h''.2), EReal.coe_zero, mul_zero, mul_zero]

theorem state_zero (l : ℝ) (k v : ℕ → EReal) :
    (∑ j : Fin 8192, v j.val * (k j.val * (wt l 0 j.val : EReal))) = 0 := by
  simp [wt_zero]

/-! ## The branch's values, entry by entry -/

/-- A matrix read at natural numbers: zero outside. -/
def at2 {n m : ℕ} (A : (⟨2, ![n, m]⟩ : Shape).Idx → EReal) (p c : ℕ) : EReal :=
  if h : p < n ∧ c < m then A (ix2 ⟨p, h.1⟩ ⟨c, h.2⟩) else 0

theorem at2_ix {n m : ℕ} (A : (⟨2, ![n, m]⟩ : Shape).Idx → EReal) (p : Fin n) (c : Fin m) :
    A (ix2 p c) = at2 A p.val c.val := by
  unfold at2; rw [dif_pos ⟨p.isLt, c.isLt⟩]

/-- A number of the host's float iota. -/
def natE (i : ℕ) : EReal := FloatOps.sitofp (F := Ideal) FTy.f32 (BitVec.ofNat 32 i)

theorem natE_eq (i : ℕ) (h : i < 2 ^ 31) : natE i = ((i : ℝ) : EReal) := by
  have : (BitVec.ofNat 32 i).toInt = (i : ℤ) := by
    rw [BitVec.toInt_eq_toNat_of_lt (by rw [BitVec.toNat_ofNat]; omega), BitVec.toNat_ofNat]
    congr 1; omega
  show (((BitVec.ofNat 32 i).toInt : ℝ) : EReal) = _
  rw [this]; simp

theorem lit_0 : Ideal.ofBits .f32 0x00000000#32 = ((0 : ℝ) : EReal) := by
  simp [Ideal.ofBits, Ideal.ieee]
theorem lit_1 : Ideal.ofBits .f32 0x3F800000#32 = ((1 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_neg5 : Ideal.ofBits .f32 0xC0A00000#32 = ((-5 : ℝ) : EReal) := by
  simp [Ideal.ofBits, Ideal.ieee, -EReal.coe_mul, -EReal.coe_neg]; norm_num
theorem lit_half : Ideal.ofBits .f32 0xBF000000#32 = ((-(1/2) : ℝ) : EReal) := by
  simp [Ideal.ofBits, Ideal.ieee, -EReal.coe_mul, -EReal.coe_neg]; norm_num
theorem lit_2 : Ideal.ofBits .f32 0x40000000#32 = ((2 : ℝ) : EReal) := by
  simp [Ideal.ofBits, Ideal.ieee, -EReal.coe_mul]; norm_num
theorem lit_eps : Ideal.ofBits .f32 0x3727C5AC#32 = ((10995116 / 2 ^ 40 : ℝ) : EReal) := by
  simp [Ideal.ofBits, Ideal.ieee, -EReal.coe_mul]; norm_num
theorem lit_ln2 : Ideal.ofBits .f32 0x3F317218#32 = ((11629080 / 2 ^ 24 : ℝ) : EReal) := by
  simp [Ideal.ofBits, Ideal.ieee, -EReal.coe_mul]; norm_num
theorem lit_scale : Ideal.ofBits .f32 0x3DB504F3#32 = ((11863283 / 2 ^ 27 : ℝ) : EReal) := by
  simp [Ideal.ofBits, Ideal.ieee, -EReal.coe_mul]; norm_num

/-- The logarithm of a head's decay, `log (1 - 2 ^ (-5 - h))` in the text's own operations. -/
def lgE (h : ℕ) : EReal :=
  Ideal.log1p (-Ideal.exp (Ideal.ofBits .f32 0x3F317218#32 * (Ideal.ofBits .f32 0xC0A00000#32 - natE h)))

/-- The same as a real number. -/
def lg (h : ℕ) : ℝ := Real.log (1 + -Real.exp (11629080 / 2 ^ 24 * (-5 - h)))

theorem lgE_eq (h : ℕ) (hh : h < 4) : lgE h = (lg h : EReal) := by
  have h1 : Real.exp (11629080 / 2 ^ 24 * (-5 - (h : ℝ))) < 1 := by
    rw [Real.exp_lt_one_iff]
    have : (0 : ℝ) ≤ h := Nat.cast_nonneg h
    apply mul_neg_of_pos_of_neg <;> [norm_num; linarith]
  unfold lgE lg
  rw [natE_eq h (by omega), lit_ln2, lit_neg5, ← EReal.coe_sub, ← EReal.coe_mul, Ideal.exp_coe, ← EReal.coe_neg]
  unfold Ideal.log1p
  rw [show (1 : EReal) = ((1 : ℝ) : EReal) from rfl, ← EReal.coe_add, Ideal.log_coe, if_neg (by linarith)]

/-- The rotary angle's tables. -/
def angE (p d : ℕ) : EReal :=
  natE p * Ideal.div 1
    (Ideal.pow (Ideal.ofBits .f32 0x461C4000#32) (Ideal.div (natE d) (Ideal.ofBits .f32 0x42800000#32)))
def cosE (p d : ℕ) : EReal := Ideal.cos (angE p d)
def sinE (p d : ℕ) : EReal := Ideal.sin (angE p d)

/-- The decay within a chunk, of the keys to the chunk's end, of the queries from its beginning, and over it. -/
def decE (h i j : ℕ) : EReal :=
  if 0 ≤ natE i - natE j then Ideal.exp (lgE h * max (natE i - natE j) 0) else 0
def kdE (h i : ℕ) : EReal := Ideal.exp (lgE h * (Ideal.ofBits .f32 0x42FE0000#32 - natE i))
def qdE (h i : ℕ) : EReal := Ideal.exp (lgE h * (natE i + 1))
def cdE (h : ℕ) : EReal := Ideal.exp (lgE h * Ideal.ofBits .f32 0x43000000#32)
/-- The closed form's weight as the text computes it. -/
def wtE (h n j : ℕ) : EReal :=
  if 0 ≤ natE n * Ideal.ofBits .f32 0x43000000#32 - 1 - natE j then
    Ideal.exp (lgE h * max (natE n * Ideal.ofBits .f32 0x43000000#32 - 1 - natE j) 0) else 0

theorem one_coe : (1 : EReal) = ((1 : ℝ) : EReal) := rfl
theorem zero_coe : (0 : EReal) = ((0 : ℝ) : EReal) := rfl

theorem kdE_eq (h i : ℕ) (hh : h < 4) (hi : i < 128) : kdE h i = (Real.exp (lg h * (127 - i)) : EReal) := by
  unfold kdE
  rw [lgE_eq h hh, natE_eq i (by omega), lit_127, ← EReal.coe_sub, ← EReal.coe_mul, Ideal.exp_coe]

theorem qdE_eq (h i : ℕ) (hh : h < 4) (hi : i < 128) : qdE h i = (Real.exp (lg h * (i + 1)) : EReal) := by
  unfold qdE
  rw [lgE_eq h hh, natE_eq i (by omega), one_coe, ← EReal.coe_add, ← EReal.coe_mul, Ideal.exp_coe]

theorem cdE_eq (h : ℕ) (hh : h < 4) : cdE h = (Real.exp (lg h * 128) : EReal) := by
  unfold cdE
  rw [lgE_eq h hh, lit_128, ← EReal.coe_mul, Ideal.exp_coe]

theorem if_le (a b : ℝ) (x y : EReal) : (if (b : EReal) ≤ (a : EReal) then x else y) = if b ≤ a then x else y := by
  simp only [EReal.coe_le_coe_iff]

theorem coe_max' (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

theorem wtE_eq (h n j : ℕ) (hh : h < 4) (hn : n < 64) (hj : j < 8192) : wtE h n j = (wt (lg h) n j : EReal) := by
  unfold wtE wt
  rw [lgE_eq h hh, natE_eq n (by omega), natE_eq j (by omega), lit_128, one_coe, zero_coe, ← EReal.coe_mul, ← EReal.coe_sub,
    ← EReal.coe_sub, if_le, coe_max', ← EReal.coe_mul, Ideal.exp_coe]
  by_cases hc : j + 1 ≤ 128 * n
  · have : (j : ℝ) + 1 ≤ 128 * n := by exact_mod_cast hc
    rw [if_pos hc, if_pos (by linarith), max_eq_left (by linarith)]
    congr 3; ring
  · have : (128 : ℝ) * n < j + 1 := by exact_mod_cast (not_le.mp hc)
    rw [if_neg hc, if_neg (by linarith)]

/-- The decay within a chunk as a real number. -/
def dec (l : ℝ) (i j : ℕ) : ℝ := if j ≤ i then Real.exp (l * (i - j)) else 0

theorem decE_eq (h i j : ℕ) (hh : h < 4) (hi : i < 128) (hj : j < 128) : decE h i j = (dec (lg h) i j : EReal) := by
  unfold decE dec
  rw [lgE_eq h hh, natE_eq i (by omega), natE_eq j (by omega), zero_coe, ← EReal.coe_sub, if_le, coe_max', ← EReal.coe_mul,
    Ideal.exp_coe]
  by_cases hc : j ≤ i
  · have : (j : ℝ) ≤ i := by exact_mod_cast hc
    rw [if_pos hc, if_pos (by linarith), max_eq_left (by linarith)]
  · have : (i : ℝ) < j := by exact_mod_cast (not_le.mp hc)
    rw [if_neg hc, if_neg (by linarith)]

/-- Rotary: the head's row `x` at position `p`. -/
def rot (x : ℕ → EReal) (p d : ℕ) : EReal :=
  if d < 64 then x d * cosE p d - x (64 + d) * sinE p d else x (d - 64) * sinE p (d - 64) + x d * cosE p (d - 64)

/-- The scaled queries, the keys and the values of head `h` at position `p`. -/
def Qs (a : ℕ → ℕ → EReal) (p h d : ℕ) : EReal := rot (fun d => a p (h * 128 + d)) p d * Ideal.ofBits .f32 0x3DB504F3#32
def Ks (a : ℕ → ℕ → EReal) (p h d : ℕ) : EReal := rot (fun d => a p (512 + (h * 128 + d))) p d
def Vs (b : ℕ → ℕ → EReal) (p h e : ℕ) : EReal := b p (h * 256 + e)

/-- The decayed scores of chunk `n`, the state before it, and retention's output there. -/
def sc (a : ℕ → ℕ → EReal) (n h i j : ℕ) : EReal :=
  (∑ d : Fin 128, Qs a (n * 128 + i) h d.val * Ks a (n * 128 + j) h d.val) * decE h i j
def St (a b : ℕ → ℕ → EReal) (n h d e : ℕ) : EReal :=
  ∑ j : Fin 8192, Vs b j.val h e * (Ks a j.val h d * (wt (lg h) n j.val : EReal))
def oN (a b : ℕ → ℕ → EReal) (n h i e : ℕ) : EReal :=
  (∑ j : Fin 128, sc a n h i j.val * Vs b (n * 128 + j.val) h e)
    + ∑ d : Fin 128, Qs a (n * 128 + i) h d.val * qdE h i * St a b n h d.val e

/-- The head's normalisation of a row. -/
def mean (f : ℕ → EReal) : EReal := Ideal.div (∑ e : Fin 256, f e.val) (Ideal.ofBits .f32 0x43800000#32)
def cen (f : ℕ → EReal) (e : ℕ) : EReal := f e - mean f
def rstd (f : ℕ → EReal) : EReal := Ideal.rsqrt (mean (fun e => cen f e * cen f e) + Ideal.ofBits .f32 0x3727C5AC#32)
def hnorm (f : ℕ → EReal) (e : ℕ) : EReal := cen f e * rstd f

/-- The gated output. -/
def yN (a b g : ℕ → ℕ → EReal) (n h i e : ℕ) : EReal :=
  g (n * 128 + i) (h * 256 + e) * Ideal.logistic (g (n * 128 + i) (h * 256 + e)) * hnorm (fun e => oN a b n h i e) e

theorem St_zero (a b : ℕ → ℕ → EReal) (h d e : ℕ) : St a b 0 h d e = 0 :=
  state_zero (lg h) (fun p => Ks a p h d) (fun p => Vs b p h e)

theorem St_succ (a b : ℕ → ℕ → EReal) (n : Fin 64) (h : Fin 4) (d e : ℕ) :
    St a b (n.val + 1) h d e = St a b n h d e * cdE h
      + ∑ i : Fin 128, Ks a (n.val * 128 + i.val) h d * kdE h i * Vs b (n.val * 128 + i.val) h e := by
  rw [cdE_eq h.val h.isLt]
  refine (state_succ (lg h) (fun p => Ks a p h d) (fun p => Vs b p h e) n).trans ?_
  congr 1
  exact Finset.sum_congr rfl fun i _ => by rw [kdE_eq h.val i.val h.isLt i.isLt]

end Cert.Ret
-- ==== Proof.KFwd.lean ====
module

public import proofs.«01_k».proof.Proof.Gen.KernelIdeal.Value
public import proofs.«01_k».proof.Proof.Math
public import Idealize.ShloMosaic.Lib.Pointwise
public import Idealize.ShloMosaic.Lib.Pipeline.ValueKit.Tiles

@[expose] public section

set_option maxRecDepth 16384

noncomputable section

/-! What one grid step of the forward kernel computes: two chunks of the sequence, for each of the four heads. -/

namespace Cert.KernelIdeal.Fwd

open Cert.KernelIdeal Cert.KernelIdeal.Gen Idealize.ShloMosaic Idealize.ShloMosaic.TcCoe Cert.Ret

/-! ## One chunk of one head -/

/-- The blocks a chunk's arithmetic reads: rows `n * 128 …` of head `h`, and the tables. -/
structure Chunk (a b : ℕ → ℕ → EReal) (n h : ℕ) (cs sn q k : Vec Ideal S128x128 .f32) (v : Vec Ideal S128x256 .bf16)
    (dc kd qd : Vec Ideal S1x128x128 .f32) (cd : Vec Ideal S1x1x1 .f32) : Prop where
  cs : ∀ i d : Fin 128, cs (ix2 i d) = if d.val < 64 then cosE (n * 128 + i.val) d.val else cosE (n * 128 + i.val) (d.val - 64)
  sn : ∀ i d : Fin 128, sn (ix2 i d) = if d.val < 64 then -sinE (n * 128 + i.val) d.val else sinE (n * 128 + i.val) (d.val - 64)
  q : ∀ i d : Fin 128, q (ix2 i d) = a (n * 128 + i.val) (h * 128 + d.val)
  k : ∀ i d : Fin 128, k (ix2 i d) = a (n * 128 + i.val) (512 + (h * 128 + d.val))
  v : ∀ (i : Fin 128) (e : Fin 256), v (ix2 i e) = b (n * 128 + i.val) (h * 256 + e.val)
  dc : ∀ i j : Fin 128, dc (ix3 0 i j) = decE h i.val j.val
  kd : ∀ i d : Fin 128, kd (ix3 0 i d) = kdE h i.val
  qd : ∀ i d : Fin 128, qd (ix3 0 i d) = qdE h i.val
  cd : cd (ix3 0 0 0) = cdE h

theorem rot_at (x : ℕ → EReal) (p : ℕ) (d : Fin 128) :
    x d.val * (if d.val < 64 then cosE p d.val else cosE p (d.val - 64))
      + x ((d.val + 128 - 64) % 128) * (if d.val < 64 then -sinE p d.val else sinE p (d.val - 64)) = rot x p d.val := by
  have hd := d.isLt
  unfold rot
  by_cases h : d.val < 64
  · rw [if_pos h, if_pos h, if_pos h, show (d.val + 128 - 64) % 128 = 64 + d.val by omega, mul_neg, ← sub_eq_add_neg]
  · rw [if_neg h, if_neg h, if_neg h, show (d.val + 128 - 64) % 128 = d.val - 64 by omega, add_comm]

section
variable {a b g : ℕ → ℕ → EReal} {n h : ℕ} {cs sn q k : Vec Ideal S128x128 .f32} {v : Vec Ideal S128x256 .bf16}
    {dc kd qd : Vec Ideal S1x128x128 .f32} {cd : Vec Ideal S1x1x1 .f32} (C : Chunk a b n h cs sn q k v dc kd qd cd)
include C

theorem Chunk.q_at (i d : Fin 128) : k0_pay5 cs sn q (ix2 i d) = Qs a (n * 128 + i.val) h d.val := by
  pointwise [k0_pay5, k0_pay3, k0_pay4]
  rw [C.cs, C.sn, C.q, C.q]
  exact congrArg (· * _) (rot_at (fun d => a (n * 128 + i.val) (h * 128 + d)) (n * 128 + i.val) d)

theorem Chunk.k_at (i d : Fin 128) : k0_pay6 cs sn k (ix2 i d) = Ks a (n * 128 + i.val) h d.val := by
  pointwise [k0_pay6, k0_pay3, k0_pay4]
  rw [C.cs, C.sn, C.k, C.k]
  exact rot_at (fun d => a (n * 128 + i.val) (512 + (h * 128 + d))) (n * 128 + i.val) d

theorem Chunk.inner_at (i : Fin 128) (e : Fin 256) : k0_pay8 cs sn q k v dc (ix2 i e)
    = ∑ j : Fin 128, sc a n h i.val j.val * Vs b (n * 128 + j.val) h e.val := by
  pointwise [k0_pay8]
  simp only [C.q_at, C.k_at, C.dc, C.v]
  rfl

variable {pv : Vec Ideal S1x128x256 .f32} (hp : ∀ (d : Fin 128) (e : Fin 256), pv (ix3 0 d e) = St a b n h d.val e.val)
include hp

theorem Chunk.o_at (i : Fin 128) (e : Fin 256) :
    k0_pay10 (k0_pay5 cs sn q) (k0_pay7 pv) (k0_pay8 cs sn q k v dc) (k0_pay9 qd) (ix2 i e) = oN a b n h i.val e.val := by
  pointwise [k0_pay10, k0_pay7, k0_pay9]
  simp only [C.q_at, C.inner_at, hp, C.qd]
  rfl

omit C in
theorem st_at (d : Fin 128) (e : Fin 256) : k0_pay11 (k0_pay7 pv) (ix4 0 0 d e) = St a b n h d.val e.val := by
  pointwise [k0_pay11, k0_pay7]
  exact hp d e

theorem Chunk.next_at (hn : n < 64) (hh : h < 4) (d : Fin 128) (e : Fin 256) :
    k0_pay12 (k0_pay6 cs sn k) v (k0_pay7 pv) kd cd (ix3 0 d e) = St a b (n + 1) h d.val e.val := by
  pointwise [k0_pay12, k0_pay7]
  simp only [C.k_at, hp, C.kd, C.cd, C.v]
  exact (St_succ a b ⟨n, hn⟩ ⟨h, hh⟩ d.val e.val).symm

theorem Chunk.cen_at (i : Fin 128) (e : Fin 256) :
    k0_pay13 (k0_pay5 cs sn q) (k0_pay7 pv) (k0_pay8 cs sn q k v dc) (k0_pay9 qd) (ix2 i e)
      = cen (fun e => oN a b n h i.val e) e.val := by
  pointwise [k0_pay13]
  simp only [C.o_at hp]
  rfl

theorem Chunk.var_at (i : Fin 128) :
    k0_pay14 (k0_pay5 cs sn q) (k0_pay7 pv) (k0_pay8 cs sn q k v dc) (k0_pay9 qd) (ix2 i 0)
      = mean (fun e => cen (fun e => oN a b n h i.val e) e * cen (fun e => oN a b n h i.val e) e)
        + Ideal.ofBits .f32 0x3727C5AC#32 := by
  pointwise [k0_pay14]
  simp only [C.cen_at hp]
  rfl

theorem Chunk.y_at {gt : Vec Ideal S128x256 .f32}
    (hg : ∀ (i : Fin 128) (e : Fin 256), gt (ix2 i e) = g (n * 128 + i.val) (h * 256 + e.val)) (i : Fin 128) (e : Fin 256) :
    k0_pay15 (k0_pay13 (k0_pay5 cs sn q) (k0_pay7 pv) (k0_pay8 cs sn q k v dc) (k0_pay9 qd))
      (k0_pay14 (k0_pay5 cs sn q) (k0_pay7 pv) (k0_pay8 cs sn q k v dc) (k0_pay9 qd)) gt (ix2 i e)
      = yN a b g n h i.val e.val := by
  pointwise [k0_pay15]
  rw [C.cen_at hp, C.var_at hp, hg]
  rfl
end

/-! ## The blocks of a grid step -/

/-- The windows' blocks at grid step `t`. -/
structure Blk (a b g : ℕ → ℕ → EReal) (t : ℕ) (x0 x1 : Vec Ideal S256x512 .f32) (x2 : Vec Ideal S256x1024 .bf16)
    (x3 : Vec Ideal S256x1024 .f32) (x4 x5 : Vec Ideal S256x128 .f32) (x6 x7 x8 : Vec Ideal S4x128x128 .f32)
    (x9 : Vec Ideal S4x8x128 .f32) : Prop where
  q : ∀ (r : Fin 256) (s : Fin 512), x0 (ix2 r s) = a (t * 256 + r.val) s.val
  k : ∀ (r : Fin 256) (s : Fin 512), x1 (ix2 r s) = a (t * 256 + r.val) (512 + s.val)
  v : ∀ (r : Fin 256) (s : Fin 1024), x2 (ix2 r s) = b (t * 256 + r.val) s.val
  g : ∀ (r : Fin 256) (s : Fin 1024), x3 (ix2 r s) = g (t * 256 + r.val) s.val
  cs : ∀ (r : Fin 256) (d : Fin 128), x4 (ix2 r d)
    = if d.val < 64 then cosE (t * 256 + r.val) d.val else cosE (t * 256 + r.val) (d.val - 64)
  sn : ∀ (r : Fin 256) (d : Fin 128), x5 (ix2 r d)
    = if d.val < 64 then -sinE (t * 256 + r.val) d.val else sinE (t * 256 + r.val) (d.val - 64)
  dc : ∀ (h : Fin 4) (i j : Fin 128), x6 (ix3 h i j) = decE h.val i.val j.val
  kd : ∀ (h : Fin 4) (i j : Fin 128), x7 (ix3 h i j) = kdE h.val i.val
  qd : ∀ (h : Fin 4) (i j : Fin 128), x8 (ix3 h i j) = qdE h.val i.val
  cd : ∀ (h : Fin 4), x9 (ix3 h 0 0) = cdE h.val

theorem ld2 {n m n' m' : ℕ} {e : EltTy} (X : Vec Ideal ⟨2, ![n, m]⟩ e) (r s : ℕ)
    (inb : ∀ a, (![r, s] : Fin 2 → ℕ) a + (⟨2, ![n', m']⟩ : Shape).size a ≤ (⟨2, ![n, m]⟩ : Shape).size a)
    (i : Fin n') (d : Fin m') (hr : r + i.val < n) (hs : s + d.val < m) :
    View.ld X (Rect.unit ![r, s] (⟨2, ![n', m']⟩ : Shape).size inb) (ix2 i d) = X (ix2 ⟨r + i.val, hr⟩ ⟨s + d.val, hs⟩) :=
  View.ld_unit_apply_of X _ _ inb _ _ (by intro a; fin_cases a <;> rfl)

theorem ld3 {k n m n' m' : ℕ} {e : EltTy} (X : Vec Ideal ⟨3, ![k, n, m]⟩ e) (h : ℕ)
    (inb : ∀ a, (![h, 0, 0] : Fin 3 → ℕ) a + (⟨3, ![1, n', m']⟩ : Shape).size a ≤ (⟨3, ![k, n, m]⟩ : Shape).size a)
    (i : Fin n') (d : Fin m') (hh : h < k) (hr : i.val < n) (hs : d.val < m) :
    View.ld X (Rect.unit ![h, 0, 0] (⟨3, ![1, n', m']⟩ : Shape).size inb) (ix3 0 i d) = X (ix3 ⟨h, hh⟩ ⟨i.val, hr⟩ ⟨d.val, hs⟩) :=
  View.ld_unit_apply_of X _ _ inb _ _ (by
    intro a; fin_cases a
    · rfl
    · exact (Nat.zero_add _).symm
    · exact (Nat.zero_add _).symm)

section
variable {a b g : ℕ → ℕ → EReal} {t : ℕ} {x0 x1 : Vec Ideal S256x512 .f32} {x2 : Vec Ideal S256x1024 .bf16}
    {x3 : Vec Ideal S256x1024 .f32} {x4 x5 : Vec Ideal S256x128 .f32} {x6 x7 x8 : Vec Ideal S4x128x128 .f32}
    {x9 : Vec Ideal S4x8x128 .f32} (B : Blk a b g t x0 x1 x2 x3 x4 x5 x6 x7 x8 x9)
include B

/-- Chunk `c` of the step's two, for head `h`. -/
theorem Blk.chunk (c h : ℕ) (hc : c < 2) (hh : h < 4) (r : ℕ) (hr : r = 128 * c) (u : ℕ) (hu : u = 128 * h) (w : ℕ) (hw : w = 256 * h)
    (i1 i2 i3 i4 i5 i6 i7 i8 i9) :
    Chunk a b (t * 2 + c) h (View.ld x4 (Rect.unit ![r, 0] S128x128.size i1)) (View.ld x5 (Rect.unit ![r, 0] S128x128.size i2))
      (View.ld x0 (Rect.unit ![r, u] S128x128.size i3)) (View.ld x1 (Rect.unit ![r, u] S128x128.size i4))
      (View.ld x2 (Rect.unit ![r, w] S128x256.size i5)) (View.ld x6 (Rect.unit ![h, 0, 0] S1x128x128.size i6))
      (View.ld x7 (Rect.unit ![h, 0, 0] S1x128x128.size i7)) (View.ld x8 (Rect.unit ![h, 0, 0] S1x128x128.size i8))
      (View.ld x9 (Rect.unit ![h, 0, 0] S1x1x1.size i9)) := by
  subst hr hu hw
  constructor
  · intro i d
    refine (ld2 x4 _ _ i1 i d (by omega) (by omega)).trans ((B.cs _ _).trans ?_)
    simp only [show t * 256 + (128 * c + i.val) = (t * 2 + c) * 128 + i.val by ring, Nat.zero_add]
  · intro i d
    refine (ld2 x5 _ _ i2 i d (by omega) (by omega)).trans ((B.sn _ _).trans ?_)
    simp only [show t * 256 + (128 * c + i.val) = (t * 2 + c) * 128 + i.val by ring, Nat.zero_add]
  · intro i d
    refine (ld2 x0 _ _ i3 i d (by omega) (by omega)).trans ((B.q _ _).trans ?_)
    simp only [show t * 256 + (128 * c + i.val) = (t * 2 + c) * 128 + i.val by ring, mul_comm 128 h]
  · intro i d
    refine (ld2 x1 _ _ i4 i d (by omega) (by omega)).trans ((B.k _ _).trans ?_)
    simp only [show t * 256 + (128 * c + i.val) = (t * 2 + c) * 128 + i.val by ring, mul_comm 128 h]
  · intro i d
    refine (ld2 x2 _ _ i5 i d (by omega) (by omega)).trans ((B.v _ _).trans ?_)
    simp only [show t * 256 + (128 * c + i.val) = (t * 2 + c) * 128 + i.val by ring, mul_comm 256 h]
  · intro i d
    exact (ld3 x6 _ i6 i d hh (by omega) (by omega)).trans (B.dc ⟨h, hh⟩ i d)
  · intro i d
    exact (ld3 x7 _ i7 i d hh (by omega) (by omega)).trans (B.kd ⟨h, hh⟩ i d)
  · intro i d
    exact (ld3 x8 _ i8 i d hh (by omega) (by omega)).trans (B.qd ⟨h, hh⟩ i d)
  · exact (ld3 x9 _ i9 0 0 hh (by omega) (by omega)).trans (B.cd ⟨h, hh⟩)

/-- The same for the blocks as the body loads them. -/
theorem Blk.chunkR {arg1 : Memref sig .tc .vmem S256x512 .f32} (harg1 : arg1.IsWhole) {arg2 : Memref sig .tc .vmem S256x512 .f32} (harg2 : arg2.IsWhole)
    {arg3 : Memref sig .tc .vmem S256x1024 .bf16} (harg3 : arg3.IsWhole) {arg5 : Memref sig .tc .vmem S256x128 .f32} (harg5 : arg5.IsWhole)
    {arg6 : Memref sig .tc .vmem S256x128 .f32} (harg6 : arg6.IsWhole) {arg7 : Memref sig .tc .vmem S4x128x128 .f32} (harg7 : arg7.IsWhole)
    {arg8 : Memref sig .tc .vmem S4x128x128 .f32} (harg8 : arg8.IsWhole) {arg9 : Memref sig .tc .vmem S4x128x128 .f32} (harg9 : arg9.IsWhole)
    {arg10 : Memref sig .tc .vmem S4x8x128 .f32} (harg10 : arg10.IsWhole)
    (c h : ℕ) (hc : c < 2) (hh : h < 4) (r : ℕ) (hr : r = 128 * c) (u : ℕ) (hu : u = 128 * h) (w : ℕ) (hw : w = 256 * h)
    (i1 i2 i3 i4 i5 i6 i7 i8 i9) :
    Chunk a b (t * 2 + c) h
      (View.readAt (Elt Ideal) arg5.view (Rect.unit (s := S256x128) ![r, 0] S128x128.size i1).toLoadRect (harg5.unread x4))
      (View.readAt (Elt Ideal) arg6.view (Rect.unit (s := S256x128) ![r, 0] S128x128.size i2).toLoadRect (harg6.unread x5))
      (View.readAt (Elt Ideal) arg1.view (Rect.unit (s := S256x512) ![r, u] S128x128.size i3).toLoadRect (harg1.unread x0))
      (View.readAt (Elt Ideal) arg2.view (Rect.unit (s := S256x512) ![r, u] S128x128.size i4).toLoadRect (harg2.unread x1))
      (View.readAt (Elt Ideal) arg3.view (Rect.unit (s := S256x1024) ![r, w] S128x256.size i5).toLoadRect (harg3.unread x2))
      (View.readAt (Elt Ideal) arg7.view (Rect.unit (s := S4x128x128) ![h, 0, 0] S1x128x128.size i6).toLoadRect (harg7.unread x6))
      (View.readAt (Elt Ideal) arg8.view (Rect.unit (s := S4x128x128) ![h, 0, 0] S1x128x128.size i7).toLoadRect (harg8.unread x7))
      (View.readAt (Elt Ideal) arg9.view (Rect.unit (s := S4x128x128) ![h, 0, 0] S1x128x128.size i8).toLoadRect (harg9.unread x8))
      (View.readAt (Elt Ideal) arg10.view (Rect.unit (s := S4x8x128) ![h, 0, 0] S1x1x1.size i9).toLoadRect (harg10.unread x9)) := by
  simp only [View.readAt_eq_ld, Memref.IsWhole.read_unread]
  exact B.chunk c h hc hh r hr u hu w hw i1 i2 i3 i4 i5 i6 i7 i8 i9

theorem Blk.gate (c h : ℕ) (hc : c < 2) (hh : h < 4) (r : ℕ) (hr : r = 128 * c) (w : ℕ) (hw : w = 256 * h) (i1)
    (i : Fin 128) (e : Fin 256) :
    View.ld x3 (Rect.unit ![r, w] S128x256.size i1) (ix2 i e) = g ((t * 2 + c) * 128 + i.val) (h * 256 + e.val) := by
  subst hr hw
  refine (ld2 x3 _ _ i1 i e (by omega) (by omega)).trans ((B.g _ _).trans ?_)
  simp only [show t * 256 + (128 * c + i.val) = (t * 2 + c) * 128 + i.val by ring, mul_comm 256 h]

theorem Blk.gateR {arg4 : Memref sig .tc .vmem S256x1024 .f32} (harg4 : arg4.IsWhole)
    (c h : ℕ) (hc : c < 2) (hh : h < 4) (r : ℕ) (hr : r = 128 * c) (w : ℕ) (hw : w = 256 * h) (i1) (i : Fin 128) (e : Fin 256) :
    View.readAt (Elt Ideal) arg4.view (Rect.unit (s := S256x1024) ![r, w] S128x256.size i1).toLoadRect (harg4.unread x3) (ix2 i e)
      = g ((t * 2 + c) * 128 + i.val) (h * 256 + e.val) := by
  rw [View.readAt_eq_ld, Memref.IsWhole.read_unread]
  exact B.gate c h hc hh r hr w hw i1 i e
end

/-! ## The state's buffer: one piece per head -/

section
variable {e : EltTy} (P : Vec Ideal S1x128x256 e) (L : List (View.Piece (Elt Ideal) S4x128x256 e))

theorem canon_hit (h : ℕ) (hh : h < 4) (inb) (d : Fin 128) (x : Fin 256) :
    View.canon (⟨Rect.unit (s := S4x128x256) ![h, 0, 0] S1x128x256.size inb, P⟩ :: L) (ix3 ⟨h, hh⟩ d x) = P (ix3 0 d x) := by
  have : (ix3 ⟨h, hh⟩ d x : S4x128x256.Idx) = (Rect.unit (s := S4x128x256) ![h, 0, 0] S1x128x256.size inb).emb (ix3 0 d x) := by
    funext a; apply Fin.ext
    rw [Rect.emb_apply]
    fin_cases a
    · rfl
    · show d.val = 0 + 1 * d.val; omega
    · show x.val = 0 + 1 * x.val; omega
  rw [this, View.canon_cons_emb]

theorem canon_skip (h j : ℕ) (hj : j < 4) (hne : j ≠ h) (inb) (d : Fin 128) (x : Fin 256) :
    View.canon (⟨Rect.unit (s := S4x128x256) ![h, 0, 0] S1x128x256.size inb, P⟩ :: L) (ix3 ⟨j, hj⟩ d x) = View.canon L (ix3 ⟨j, hj⟩ d x) := by
  refine View.canon_cons_of_not_mem _ _ ?_
  intro hm
  obtain ⟨y, hy⟩ := (Rect.unit (s := S4x128x256) ![h, 0, 0] S1x128x256.size inb).exists_idx_of_mem hm
  have h0 := congrArg Fin.val (congrFun hy 0)
  have h1 : ((Rect.unit (s := S4x128x256) ![h, 0, 0] S1x128x256.size inb).idx y 0).val = h + (y 0).val :=
    Rect.idx_unit_val _ _ inb y 0
  have h2 : (y 0).val < 1 := (y 0).isLt
  have h3 : ((ix3 ⟨j, hj⟩ d x : S4x128x256.Idx) 0).val = j := rfl
  omega

theorem readCov_at {sg : RefSig} {κ : Kind} {sp : Space} (v : View sg κ sp S4x128x256 e) (h : ℕ) (hh : h < 4) (inb) (d : Fin 128) (x : Fin 256) :
    v.readCov L (Rect.unit (s := S4x128x256) ![h, 0, 0] S1x128x256.size inb).toLoadRect (ix3 0 d x) = View.canon L (ix3 ⟨h, hh⟩ d x) := by
  rw [View.readCov_eq_canon']
  exact ld3 (View.canon L) h inb d x hh d.isLt x.isLt
end

/-! ## The two cases of a grid step -/

/-- A step's block of a value given chunk by chunk and head by head. -/
def spread (G : ℕ → ℕ → ℕ → ℕ → EReal) (t : ℕ) (y : S256x1024.Idx) : EReal :=
  G (t * 2 + (y 0).val / 128) ((y 1).val / 256) ((y 0).val % 128) ((y 1).val % 256)

/-- A step's block of the states before its chunks. -/
def spreadSt (a b : ℕ → ℕ → EReal) (t : ℕ) (y : S4x2x128x256.Idx) : EReal :=
  St a b (t * 2 + (y 1).val) (y 0).val (y 2).val (y 3).val

theorem canon_zero (L : List (View.Piece (Elt Ideal) S4x128x256 .f32)) (inb) (y : S4x128x256.Idx) :
    View.canon (⟨Rect.unit (s := S4x128x256) ![0, 0, 0] S4x128x256.size inb, (k0_pay2 (F := Ideal) : Vec Ideal S4x128x256 .f32)⟩ :: L) y = (0 : EReal) := by
  have : y = (Rect.unit (s := S4x128x256) ![0, 0, 0] S4x128x256.size inb).emb y := by
    funext a; apply Fin.ext
    rw [Rect.emb_apply]
    fin_cases a
    · show (y 0).val = 0 + 1 * (y 0).val; omega
    · show (y 1).val = 0 + 1 * (y 1).val; omega
    · show (y 2).val = 0 + 1 * (y 2).val; omega
  rw [this, View.canon_cons_emb]
  obtain ⟨h, d, e, rfl⟩ : ∃ h d e, y = ix3 h d e := ⟨y 0, y 1, y 2, by funext a; fin_cases a <;> rfl⟩
  pointwise [k0_pay2]

theorem rows_piece (G : ℕ → ℕ → ℕ → ℕ → EReal) (t c h : ℕ) (r : ℕ) (hr : r = 128 * c) (w : ℕ) (hw : w = 256 * h) (inb)
    (P : S128x256.Idx → EReal) (H : ∀ (i : Fin 128) (e : Fin 256), P (ix2 i e) = G (t * 2 + c) h i.val e.val)
    (x : S128x256.Idx) :
    P x = spread G t ((Rect.unit (s := S256x1024) ![r, w] S128x256.size inb).emb x) := by
  subst hr hw
  obtain ⟨i, e, rfl⟩ : ∃ (i : Fin 128) (e : Fin 256), x = ix2 i e := ⟨x 0, x 1, by funext a; fin_cases a <;> rfl⟩
  rw [H]
  have h0 : (((Rect.unit (s := S256x1024) ![128 * c, 256 * h] S128x256.size inb).emb (ix2 i e)) 0).val = 128 * c + i.val := by
    rw [Rect.emb_apply]; show 128 * c + 1 * i.val = _; omega
  have h1 : (((Rect.unit (s := S256x1024) ![128 * c, 256 * h] S128x256.size inb).emb (ix2 i e)) 1).val = 256 * h + e.val := by
    rw [Rect.emb_apply]; show 256 * h + 1 * e.val = _; omega
  show _ = G _ _ _ _
  rw [h0, h1]
  congr 1 <;> omega

theorem st_piece (a b : ℕ → ℕ → EReal) (t c h : ℕ) (inb)
    (P : S1x1x128x256.Idx → EReal) (H : ∀ (d : Fin 128) (e : Fin 256), P (ix4 0 0 d e) = St a b (t * 2 + c) h d.val e.val)
    (x : S1x1x128x256.Idx) :
    P x = spreadSt a b t ((Rect.unit (s := S4x2x128x256) ![h, c, 0, 0] S1x1x128x256.size inb).emb x) := by
  obtain ⟨d, e, rfl⟩ : ∃ (d : Fin 128) (e : Fin 256), x = ix4 0 0 d e :=
    ⟨x 2, x 3, by
      funext a; fin_cases a
      · exact Fin.ext (by have : (x 0).val < 1 := (x 0).isLt; show (x 0).val = 0; omega)
      · exact Fin.ext (by have : (x 1).val < 1 := (x 1).isLt; show (x 1).val = 0; omega)
      · rfl
      · rfl⟩
  rw [H]
  unfold spreadSt
  have h0 : (((Rect.unit (s := S4x2x128x256) ![h, c, 0, 0] S1x1x128x256.size inb).emb (ix4 0 0 d e)) 0).val = h := by
    rw [Rect.emb_apply]; show h + 1 * 0 = _; omega
  have h1 : (((Rect.unit (s := S4x2x128x256) ![h, c, 0, 0] S1x1x128x256.size inb).emb (ix4 0 0 d e)) 1).val = c := by
    rw [Rect.emb_apply]; show c + 1 * 0 = _; omega
  have h2 : (((Rect.unit (s := S4x2x128x256) ![h, c, 0, 0] S1x1x128x256.size inb).emb (ix4 0 0 d e)) 2).val = d.val := by
    rw [Rect.emb_apply]; show 0 + 1 * d.val = _; omega
  have h3 : (((Rect.unit (s := S4x2x128x256) ![h, c, 0, 0] S1x1x128x256.size inb).emb (ix4 0 0 d e)) 3).val = e.val := by
    rw [Rect.emb_apply]; show 0 + 1 * e.val = _; omega
  rw [h0, h1, h2, h3]

end Cert.KernelIdeal.Fwd
-- ==== Proof.KFwdA.lean ====
module

public import proofs.«01_k».proof.Proof.KFwd

@[expose] public section

set_option maxRecDepth 16384

noncomputable section

namespace Cert.KernelIdeal.Fwd

open Cert.KernelIdeal Cert.KernelIdeal.Gen Idealize.ShloMosaic Idealize.ShloMosaic.TcCoe Cert.Ret

variable {a b g : ℕ → ℕ → EReal} (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x8x128 .f32) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S4x2x128x256 .f32) (harg13 : arg13.IsWhole) (arg14 : Memref sig .tc .vmem S4x128x256 .f32) (harg14 : arg14.IsWhole) (hc0 : cond0_0 i)
    (x0 : Vec Ideal S256x512 .f32) (x1 : Vec Ideal S256x512 .f32) (x2 : Vec Ideal S256x1024 .bf16) (x3 : Vec Ideal S256x1024 .f32) (x4 : Vec Ideal S256x128 .f32) (x5 : Vec Ideal S256x128 .f32) (x6 : Vec Ideal S4x128x128 .f32) (x7 : Vec Ideal S4x128x128 .f32) (x8 : Vec Ideal S4x128x128 .f32) (x9 : Vec Ideal S4x8x128 .f32)

theorem out0_A_10_eq
    (B : Blk a b g 0 x0 x1 x2 x3 x4 x5 x6 x7 x8 x9) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = spread (yN a b g) 0 := by
  have C := B.chunkR harg1 harg2 harg3 harg5 harg6 harg7 harg8 harg9 harg10
  unfold out0_A_10
  rw [View.read_writes_eq_canon _ _ _ (fun y => cover0_A_10 c i _ _ _ _ _ _ _ _ _ _ _ _ _ _ _ _ _ _ _ _ _ _ _ _ _ _ _ _ _ _ _ _ _ _ _ _ _ _ _ y)]
  funext y
  refine View.canon_apply_of_pieces (Val := Elt Ideal) (spread (yN a b g) 0) _ ?_ y (cover0_A_10 c i _ _ _ _ _ _ _ _ _ _ _ _ _ _ _ _ _ _ _ _ _ _ _ _ _ _ _ _ _ _ _ _ _ _ _ _ _ _ _ y)
  unfold kernelRun0_A
  dsimp only
  intro p hp
  simp only [List.mem_cons, List.not_mem_nil, or_false] at hp
  rcases hp with rfl | rfl | rfl | rfl | rfl | rfl | rfl | rfl
  · refine rows_piece (yN a b g) 0 1 3 128 rfl 768 rfl inb_S256x1024_S128x256_128_768 _ fun i e => ?_
    refine (C 1 3 (by decide) (by decide) 128 rfl 384 rfl 768 rfl (by decide) (by decide) (by decide) (by decide) (by decide) (by decide) (by decide) (by decide) (by decide)).y_at ?_ (B.gateR harg4 1 3 (by decide) (by decide) 128 rfl 768 rfl (by decide)) i e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at ((fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))) (by omega) (by decide) d e)))))
  · refine rows_piece (yN a b g) 0 1 2 128 rfl 512 rfl inb_S256x1024_S128x256_128_512 _ fun i e => ?_
    refine (C 1 2 (by decide) (by decide) 128 rfl 256 rfl 512 rfl (by decide) (by decide) (by decide) (by decide) (by decide) (by decide) (by decide) (by decide) (by decide)).y_at ?_ (B.gateR harg4 1 2 (by decide) (by decide) 128 rfl 512 rfl (by decide)) i e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at ((fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))) (by omega) (by decide) d e)))))
  · refine rows_piece (yN a b g) 0 1 1 128 rfl 256 rfl inb_S256x1024_S128x256_128_256 _ fun i e => ?_
    refine (C 1 1 (by decide) (by decide) 128 rfl 128 rfl 256 rfl (by decide) (by decide) (by decide) (by decide) (by decide) (by decide) (by decide) (by decide) (by decide)).y_at ?_ (B.gateR harg4 1 1 (by decide) (by decide) 128 rfl 256 rfl (by decide)) i e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at ((fun d e => (readCov_at _ _ 1 (by decide) (by decide) d e).trans ((canon_skip _ _ 0 1 (by decide) (by decide) (by decide) d e).trans ((canon_zero _ (by decide) _).trans (St_zero a b _ _ _).symm)))) (by omega) (by decide) d e)))))
  · refine rows_piece (yN a b g) 0 1 0 128 rfl 0 rfl inb_S256x1024_S128x256_128_0 _ fun i e => ?_
    refine (C 1 0 (by decide) (by decide) 128 rfl 0 rfl 0 rfl (by decide) (by decide) (by decide) (by decide) (by decide) (by decide) (by decide) (by decide) (by decide)).y_at ?_ (B.gateR harg4 1 0 (by decide) (by decide) 128 rfl 0 rfl (by decide)) i e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at ((fun d e => (readCov_at _ _ 0 (by decide) (by decide) d e).trans ((canon_zero _ (by decide) _).trans (St_zero a b _ _ _).symm))) (by omega) (by decide) d e)))))
  · refine rows_piece (yN a b g) 0 0 3 0 rfl 768 rfl inb_S256x1024_S128x256_0_768 _ fun i e => ?_
    refine (C 0 3 (by decide) (by decide) 0 rfl 384 rfl 768 rfl (by decide) (by decide) (by decide) (by decide) (by decide) (by decide) (by decide) (by decide) (by decide)).y_at ?_ (B.gateR harg4 0 3 (by decide) (by decide) 0 rfl 768 rfl (by decide)) i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))
  · refine rows_piece (yN a b g) 0 0 2 0 rfl 512 rfl inb_S256x1024_S128x256_0_512 _ fun i e => ?_
    refine (C 0 2 (by decide) (by decide) 0 rfl 256 rfl 512 rfl (by decide) (by decide) (by decide) (by decide) (by decide) (by decide) (by decide) (by decide) (by decide)).y_at ?_ (B.gateR harg4 0 2 (by decide) (by decide) 0 rfl 512 rfl (by decide)) i e
    exact (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))
  · refine rows_piece (yN a b g) 0 0 1 0 rfl 256 rfl inb_S256x1024_S128x256_0_256 _ fun i e => ?_
    refine (C 0 1 (by decide) (by decide) 0 rfl 128 rfl 256 rfl (by decide) (by decide) (by decide) (by decide) (by decide) (by decide) (by decide) (by decide) (by decide)).y_at ?_ (B.gateR harg4 0 1 (by decide) (by decide) 0 rfl 256 rfl (by decide)) i e
    exact (fun d e => (readCov_at _ _ 1 (by decide) (by decide) d e).trans ((canon_skip _ _ 0 1 (by decide) (by decide) (by decide) d e).trans ((canon_zero _ (by decide) _).trans (St_zero a b _ _ _).symm)))
  · refine rows_piece (yN a b g) 0 0 0 0 rfl 0 rfl inb_S256x1024_S128x256_0_0 _ fun i e => ?_
    refine (C 0 0 (by decide) (by decide) 0 rfl 0 rfl 0 rfl (by decide) (by decide) (by decide) (by decide) (by decide) (by decide) (by decide) (by decide) (by decide)).y_at ?_ (B.gateR harg4 0 0 (by decide) (by decide) 0 rfl 0 rfl (by decide)) i e
    exact (fun d e => (readCov_at _ _ 0 (by decide) (by decide) d e).trans ((canon_zero _ (by decide) _).trans (St_zero a b _ _ _).symm))

theorem out0_A_11_eq
    (B : Blk a b g 0 x0 x1 x2 x3 x4 x5 x6 x7 x8 x9) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = spread (oN a b) 0 := by
  have C := B.chunkR harg1 harg2 harg3 harg5 harg6 harg7 harg8 harg9 harg10
  unfold out0_A_11
  rw [View.read_writes_eq_canon _ _ _ (fun y => cover0_A_11 c i _ _ _ _ _ _ _ _ _ _ _ _ _ _ _ _ _ _ _ _ _ _ _ _ _ _ _ _ _ _ _ _ _ _ _ _ _ _ _ y)]
  funext y
  refine View.canon_apply_of_pieces (Val := Elt Ideal) (spread (oN a b) 0) _ ?_ y (cover0_A_11 c i _ _ _ _ _ _ _ _ _ _ _ _ _ _ _ _ _ _ _ _ _ _ _ _ _ _ _ _ _ _ _ _ _ _ _ _ _ _ _ y)
  unfold kernelRun0_A
  dsimp only
  intro p hp
  simp only [List.mem_cons, List.not_mem_nil, or_false] at hp
  rcases hp with rfl | rfl | rfl | rfl | rfl | rfl | rfl | rfl
  · refine rows_piece (oN a b) 0 1 3 128 rfl 768 rfl inb_S256x1024_S128x256_128_768 _ fun i e => ?_
    refine (C 1 3 (by decide) (by decide) 128 rfl 384 rfl 768 rfl (by decide) (by decide) (by decide) (by decide) (by decide) (by decide) (by decide) (by decide) (by decide)).o_at ?_ i e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at ((fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))) (by omega) (by decide) d e)))))
  · refine rows_piece (oN a b) 0 1 2 128 rfl 512 rfl inb_S256x1024_S128x256_128_512 _ fun i e => ?_
    refine (C 1 2 (by decide) (by decide) 128 rfl 256 rfl 512 rfl (by decide) (by decide) (by decide) (by decide) (by decide) (by decide) (by decide) (by decide) (by decide)).o_at ?_ i e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at ((fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))) (by omega) (by decide) d e)))))
  · refine rows_piece (oN a b) 0 1 1 128 rfl 256 rfl inb_S256x1024_S128x256_128_256 _ fun i e => ?_
    refine (C 1 1 (by decide) (by decide) 128 rfl 128 rfl 256 rfl (by decide) (by decide) (by decide) (by decide) (by decide) (by decide) (by decide) (by decide) (by decide)).o_at ?_ i e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at ((fun d e => (readCov_at _ _ 1 (by decide) (by decide) d e).trans ((canon_skip _ _ 0 1 (by decide) (by decide) (by decide) d e).trans ((canon_zero _ (by decide) _).trans (St_zero a b _ _ _).symm)))) (by omega) (by decide) d e)))))
  · refine rows_piece (oN a b) 0 1 0 128 rfl 0 rfl inb_S256x1024_S128x256_128_0 _ fun i e => ?_
    refine (C 1 0 (by decide) (by decide) 128 rfl 0 rfl 0 rfl (by decide) (by decide) (by decide) (by decide) (by decide) (by decide) (by decide) (by decide) (by decide)).o_at ?_ i e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at ((fun d e => (readCov_at _ _ 0 (by decide) (by decide) d e).trans ((canon_zero _ (by decide) _).trans (St_zero a b _ _ _).symm))) (by omega) (by decide) d e)))))
  · refine rows_piece (oN a b) 0 0 3 0 rfl 768 rfl inb_S256x1024_S128x256_0_768 _ fun i e => ?_
    refine (C 0 3 (by decide) (by decide) 0 rfl 384 rfl 768 rfl (by decide) (by decide) (by decide) (by decide) (by decide) (by decide) (by decide) (by decide) (by decide)).o_at ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))
  · refine rows_piece (oN a b) 0 0 2 0 rfl 512 rfl inb_S256x1024_S128x256_0_512 _ fun i e => ?_
    refine (C 0 2 (by decide) (by decide) 0 rfl 256 rfl 512 rfl (by decide) (by decide) (by decide) (by decide) (by decide) (by decide) (by decide) (by decide) (by decide)).o_at ?_ i e
    exact (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))
  · refine rows_piece (oN a b) 0 0 1 0 rfl 256 rfl inb_S256x1024_S128x256_0_256 _ fun i e => ?_
    refine (C 0 1 (by decide) (by decide) 0 rfl 128 rfl 256 rfl (by decide) (by decide) (by decide) (by decide) (by decide) (by decide) (by decide) (by decide) (by decide)).o_at ?_ i e
    exact (fun d e => (readCov_at _ _ 1 (by decide) (by decide) d e).trans ((canon_skip _ _ 0 1 (by decide) (by decide) (by decide) d e).trans ((canon_zero _ (by decide) _).trans (St_zero a b _ _ _).symm)))
  · refine rows_piece (oN a b) 0 0 0 0 rfl 0 rfl inb_S256x1024_S128x256_0_0 _ fun i e => ?_
    refine (C 0 0 (by decide) (by decide) 0 rfl 0 rfl 0 rfl (by decide) (by decide) (by decide) (by decide) (by decide) (by decide) (by decide) (by decide) (by decide)).o_at ?_ i e
    exact (fun d e => (readCov_at _ _ 0 (by decide) (by decide) d e).trans ((canon_zero _ (by decide) _).trans (St_zero a b _ _ _).symm))

theorem out0_A_12_eq
    (B : Blk a b g 0 x0 x1 x2 x3 x4 x5 x6 x7 x8 x9) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = spreadSt a b 0 := by
  have C := B.chunkR harg1 harg2 harg3 harg5 harg6 harg7 harg8 harg9 harg10
  unfold out0_A_12
  rw [View.read_writes_eq_canon _ _ _ (fun y => cover0_A_12 c i _ _ _ _ _ _ _ _ _ _ _ _ _ _ _ _ _ _ _ _ _ _ _ _ _ _ _ _ _ _ _ _ _ _ _ _ _ _ _ y)]
  funext y
  refine View.canon_apply_of_pieces (Val := Elt Ideal) (spreadSt a b 0) _ ?_ y (cover0_A_12 c i _ _ _ _ _ _ _ _ _ _ _ _ _ _ _ _ _ _ _ _ _ _ _ _ _ _ _ _ _ _ _ _ _ _ _ _ _ _ _ y)
  unfold kernelRun0_A
  dsimp only
  intro p hp
  simp only [List.mem_cons, List.not_mem_nil, or_false] at hp
  rcases hp with rfl | rfl | rfl | rfl | rfl | rfl | rfl | rfl
  · refine st_piece a b 0 1 3 (by decide) _ fun d e => ?_
    dsimp only
    refine st_at ?_ d e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at ((fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))) (by omega) (by decide) d e)))))
  · refine st_piece a b 0 1 2 (by decide) _ fun d e => ?_
    dsimp only
    refine st_at ?_ d e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at ((fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))) (by omega) (by decide) d e)))))
  · refine st_piece a b 0 1 1 (by decide) _ fun d e => ?_
    dsimp only
    refine st_at ?_ d e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at ((fun d e => (readCov_at _ _ 1 (by decide) (by decide) d e).trans ((canon_skip _ _ 0 1 (by decide) (by decide) (by decide) d e).trans ((canon_zero _ (by decide) _).trans (St_zero a b _ _ _).symm)))) (by omega) (by decide) d e)))))
  · refine st_piece a b 0 1 0 (by decide) _ fun d e => ?_
    dsimp only
    refine st_at ?_ d e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at ((fun d e => (readCov_at _ _ 0 (by decide) (by decide) d e).trans ((canon_zero _ (by decide) _).trans (St_zero a b _ _ _).symm))) (by omega) (by decide) d e)))))
  · refine st_piece a b 0 0 3 (by decide) _ fun d e => ?_
    dsimp only
    refine st_at ?_ d e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))
  · refine st_piece a b 0 0 2 (by decide) _ fun d e => ?_
    dsimp only
    refine st_at ?_ d e
    exact (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))
  · refine st_piece a b 0 0 1 (by decide) _ fun d e => ?_
    dsimp only
    refine st_at ?_ d e
    exact (fun d e => (readCov_at _ _ 1 (by decide) (by decide) d e).trans ((canon_skip _ _ 0 1 (by decide) (by decide) (by decide) d e).trans ((canon_zero _ (by decide) _).trans (St_zero a b _ _ _).symm)))
  · refine st_piece a b 0 0 0 (by decide) _ fun d e => ?_
    dsimp only
    refine st_at ?_ d e
    exact (fun d e => (readCov_at _ _ 0 (by decide) (by decide) d e).trans ((canon_zero _ (by decide) _).trans (St_zero a b _ _ _).symm))

theorem sout0_A_0_eq
    (B : Blk a b g 0 x0 x1 x2 x3 x4 x5 x6 x7 x8 x9) :
    ∀ (h : Fin 4) (d : Fin 128) (e : Fin 256), sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 h d e) = St a b (0 * 2 + 1 + 1) h.val d.val e.val := by
  have C := B.chunkR harg1 harg2 harg3 harg5 harg6 harg7 harg8 harg9 harg10
  unfold sout0_A_0
  rw [View.read_writes_eq_canon _ _ _ (fun y => scover0_A_0 c i _ _ _ _ _ _ _ _ _ _ _ _ _ _ _ _ _ _ _ _ _ _ _ _ _ _ _ _ _ _ _ _ _ _ _ _ _ _ _ y)]
  intro h d e
  unfold kernelRun0_A
  dsimp only
  fin_cases h
  · exact (canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide)).next_at (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at ((fun d e => (readCov_at _ _ 0 (by decide) (by decide) d e).trans ((canon_zero _ (by decide) _).trans (St_zero a b _ _ _).symm))) (by omega) (by decide) d e)))))) (by omega) (by decide) d e))))
  · exact (canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide)).next_at (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at ((fun d e => (readCov_at _ _ 1 (by decide) (by decide) d e).trans ((canon_skip _ _ 0 1 (by decide) (by decide) (by decide) d e).trans ((canon_zero _ (by decide) _).trans (St_zero a b _ _ _).symm)))) (by omega) (by decide) d e)))))) (by omega) (by decide) d e)))
  · exact (canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide)).next_at (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at ((fun d e => (readCov_at _ _ 2 (by decide) (by decide) d e).trans ((canon_skip _ _ 1 2 (by decide) (by decide) (by decide) d e).trans ((canon_skip _ _ 0 2 (by decide) (by decide) (by decide) d e).trans ((canon_zero _ (by decide) _).trans (St_zero a b _ _ _).symm))))) (by omega) (by decide) d e)))))) (by omega) (by decide) d e))
  · exact (canon_hit _ _ 3 (by decide) (by decide) d e).trans ((C 1 3 (by decide) (by decide) 128 rfl 384 rfl 768 rfl (by decide) (by decide) (by decide) (by decide) (by decide) (by decide) (by decide) (by decide) (by decide)).next_at (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at ((fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (St_zero a b _ _ _).symm)))))) (by omega) (by decide) d e)))))) (by omega) (by decide) d e)

end Cert.KernelIdeal.Fwd
-- ==== Proof.KFwdB.lean ====
module

public import proofs.«01_k».proof.Proof.KFwd

@[expose] public section

set_option maxRecDepth 16384

noncomputable section

namespace Cert.KernelIdeal.Fwd

open Cert.KernelIdeal Cert.KernelIdeal.Gen Idealize.ShloMosaic Idealize.ShloMosaic.TcCoe Cert.Ret

variable {a b g : ℕ → ℕ → EReal} {t : ℕ} (ht : t < 32) (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x8x128 .f32) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S4x2x128x256 .f32) (harg13 : arg13.IsWhole) (arg14 : Memref sig .tc .vmem S4x128x256 .f32) (harg14 : arg14.IsWhole) (hc0 : ¬cond0_0 i)
    (x0 : Vec Ideal S256x512 .f32) (x1 : Vec Ideal S256x512 .f32) (x2 : Vec Ideal S256x1024 .bf16) (x3 : Vec Ideal S256x1024 .f32) (x4 : Vec Ideal S256x128 .f32) (x5 : Vec Ideal S256x128 .f32) (x6 : Vec Ideal S4x128x128 .f32) (x7 : Vec Ideal S4x128x128 .f32) (x8 : Vec Ideal S4x128x128 .f32) (x9 : Vec Ideal S4x8x128 .f32) (xs0 : Vec Ideal S4x128x256 .f32)

include ht

theorem out0_B_10_eq
    (B : Blk a b g t x0 x1 x2 x3 x4 x5 x6 x7 x8 x9)
    (hxs : ∀ (h : Fin 4) (d : Fin 128) (e : Fin 256), xs0 (ix3 h d e) = St a b (t * 2) h.val d.val e.val) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = spread (yN a b g) t := by
  have C := B.chunkR harg1 harg2 harg3 harg5 harg6 harg7 harg8 harg9 harg10
  have P0 : ∀ (h : ℕ) (hh : h < 4) (inb) (d : Fin 128) (e : Fin 256),
      View.readAt (Elt Ideal) arg14.view (Rect.unit (s := S4x128x256) ![h, 0, 0] S1x128x256.size inb).toLoadRect (harg14.unread xs0) (ix3 0 d e)
        = St a b (t * 2 + 0) h d.val e.val := fun h hh inb d e => by
    rw [View.readAt_eq_ld, Memref.IsWhole.read_unread]
    exact (ld3 xs0 h inb d e hh d.isLt e.isLt).trans (hxs ⟨h, hh⟩ d e)
  unfold out0_B_10
  rw [View.read_writes_eq_canon _ _ _ (fun y => cover0_B_10 c i _ _ _ _ _ _ _ _ _ _ _ _ _ _ _ _ _ _ _ _ _ _ _ _ _ _ _ _ _ _ _ _ _ _ _ _ _ _ _ _ y)]
  funext y
  refine View.canon_apply_of_pieces (Val := Elt Ideal) (spread (yN a b g) t) _ ?_ y (cover0_B_10 c i _ _ _ _ _ _ _ _ _ _ _ _ _ _ _ _ _ _ _ _ _ _ _ _ _ _ _ _ _ _ _ _ _ _ _ _ _ _ _ _ y)
  unfold kernelRun0_B
  dsimp only
  intro p hp
  simp only [List.mem_cons, List.not_mem_nil, or_false] at hp
  rcases hp with rfl | rfl | rfl | rfl | rfl | rfl | rfl | rfl
  · refine rows_piece (yN a b g) t 1 3 128 rfl 768 rfl inb_S256x1024_S128x256_128_768 _ fun i e => ?_
    refine (C 1 3 (by decide) (by decide) 128 rfl 384 rfl 768 rfl (by decide) (by decide) (by decide) (by decide) (by decide) (by decide) (by decide) (by decide) (by decide)).y_at ?_ (B.gateR harg4 1 3 (by decide) (by decide) 128 rfl 768 rfl (by decide)) i e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at (P0 3 (by decide) (by decide)) (by omega) (by decide) d e)))))
  · refine rows_piece (yN a b g) t 1 2 128 rfl 512 rfl inb_S256x1024_S128x256_128_512 _ fun i e => ?_
    refine (C 1 2 (by decide) (by decide) 128 rfl 256 rfl 512 rfl (by decide) (by decide) (by decide) (by decide) (by decide) (by decide) (by decide) (by decide) (by decide)).y_at ?_ (B.gateR harg4 1 2 (by decide) (by decide) 128 rfl 512 rfl (by decide)) i e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at (P0 2 (by decide) (by decide)) (by omega) (by decide) d e)))))
  · refine rows_piece (yN a b g) t 1 1 128 rfl 256 rfl inb_S256x1024_S128x256_128_256 _ fun i e => ?_
    refine (C 1 1 (by decide) (by decide) 128 rfl 128 rfl 256 rfl (by decide) (by decide) (by decide) (by decide) (by decide) (by decide) (by decide) (by decide) (by decide)).y_at ?_ (B.gateR harg4 1 1 (by decide) (by decide) 128 rfl 256 rfl (by decide)) i e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at (P0 1 (by decide) (by decide)) (by omega) (by decide) d e)))))
  · refine rows_piece (yN a b g) t 1 0 128 rfl 0 rfl inb_S256x1024_S128x256_128_0 _ fun i e => ?_
    refine (C 1 0 (by decide) (by decide) 128 rfl 0 rfl 0 rfl (by decide) (by decide) (by decide) (by decide) (by decide) (by decide) (by decide) (by decide) (by decide)).y_at ?_ (B.gateR harg4 1 0 (by decide) (by decide) 128 rfl 0 rfl (by decide)) i e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at (P0 0 (by decide) (by decide)) (by omega) (by decide) d e)))))
  · refine rows_piece (yN a b g) t 0 3 0 rfl 768 rfl inb_S256x1024_S128x256_0_768 _ fun i e => ?_
    refine (C 0 3 (by decide) (by decide) 0 rfl 384 rfl 768 rfl (by decide) (by decide) (by decide) (by decide) (by decide) (by decide) (by decide) (by decide) (by decide)).y_at ?_ (B.gateR harg4 0 3 (by decide) (by decide) 0 rfl 768 rfl (by decide)) i e
    exact P0 3 (by decide) (by decide)
  · refine rows_piece (yN a b g) t 0 2 0 rfl 512 rfl inb_S256x1024_S128x256_0_512 _ fun i e => ?_
    refine (C 0 2 (by decide) (by decide) 0 rfl 256 rfl 512 rfl (by decide) (by decide) (by decide) (by decide) (by decide) (by decide) (by decide) (by decide) (by decide)).y_at ?_ (B.gateR harg4 0 2 (by decide) (by decide) 0 rfl 512 rfl (by decide)) i e
    exact P0 2 (by decide) (by decide)
  · refine rows_piece (yN a b g) t 0 1 0 rfl 256 rfl inb_S256x1024_S128x256_0_256 _ fun i e => ?_
    refine (C 0 1 (by decide) (by decide) 0 rfl 128 rfl 256 rfl (by decide) (by decide) (by decide) (by decide) (by decide) (by decide) (by decide) (by decide) (by decide)).y_at ?_ (B.gateR harg4 0 1 (by decide) (by decide) 0 rfl 256 rfl (by decide)) i e
    exact P0 1 (by decide) (by decide)
  · refine rows_piece (yN a b g) t 0 0 0 rfl 0 rfl inb_S256x1024_S128x256_0_0 _ fun i e => ?_
    refine (C 0 0 (by decide) (by decide) 0 rfl 0 rfl 0 rfl (by decide) (by decide) (by decide) (by decide) (by decide) (by decide) (by decide) (by decide) (by decide)).y_at ?_ (B.gateR harg4 0 0 (by decide) (by decide) 0 rfl 0 rfl (by decide)) i e
    exact P0 0 (by decide) (by decide)

theorem out0_B_11_eq
    (B : Blk a b g t x0 x1 x2 x3 x4 x5 x6 x7 x8 x9)
    (hxs : ∀ (h : Fin 4) (d : Fin 128) (e : Fin 256), xs0 (ix3 h d e) = St a b (t * 2) h.val d.val e.val) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = spread (oN a b) t := by
  have C := B.chunkR harg1 harg2 harg3 harg5 harg6 harg7 harg8 harg9 harg10
  have P0 : ∀ (h : ℕ) (hh : h < 4) (inb) (d : Fin 128) (e : Fin 256),
      View.readAt (Elt Ideal) arg14.view (Rect.unit (s := S4x128x256) ![h, 0, 0] S1x128x256.size inb).toLoadRect (harg14.unread xs0) (ix3 0 d e)
        = St a b (t * 2 + 0) h d.val e.val := fun h hh inb d e => by
    rw [View.readAt_eq_ld, Memref.IsWhole.read_unread]
    exact (ld3 xs0 h inb d e hh d.isLt e.isLt).trans (hxs ⟨h, hh⟩ d e)
  unfold out0_B_11
  rw [View.read_writes_eq_canon _ _ _ (fun y => cover0_B_11 c i _ _ _ _ _ _ _ _ _ _ _ _ _ _ _ _ _ _ _ _ _ _ _ _ _ _ _ _ _ _ _ _ _ _ _ _ _ _ _ _ y)]
  funext y
  refine View.canon_apply_of_pieces (Val := Elt Ideal) (spread (oN a b) t) _ ?_ y (cover0_B_11 c i _ _ _ _ _ _ _ _ _ _ _ _ _ _ _ _ _ _ _ _ _ _ _ _ _ _ _ _ _ _ _ _ _ _ _ _ _ _ _ _ y)
  unfold kernelRun0_B
  dsimp only
  intro p hp
  simp only [List.mem_cons, List.not_mem_nil, or_false] at hp
  rcases hp with rfl | rfl | rfl | rfl | rfl | rfl | rfl | rfl
  · refine rows_piece (oN a b) t 1 3 128 rfl 768 rfl inb_S256x1024_S128x256_128_768 _ fun i e => ?_
    refine (C 1 3 (by decide) (by decide) 128 rfl 384 rfl 768 rfl (by decide) (by decide) (by decide) (by decide) (by decide) (by decide) (by decide) (by decide) (by decide)).o_at ?_ i e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at (P0 3 (by decide) (by decide)) (by omega) (by decide) d e)))))
  · refine rows_piece (oN a b) t 1 2 128 rfl 512 rfl inb_S256x1024_S128x256_128_512 _ fun i e => ?_
    refine (C 1 2 (by decide) (by decide) 128 rfl 256 rfl 512 rfl (by decide) (by decide) (by decide) (by decide) (by decide) (by decide) (by decide) (by decide) (by decide)).o_at ?_ i e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at (P0 2 (by decide) (by decide)) (by omega) (by decide) d e)))))
  · refine rows_piece (oN a b) t 1 1 128 rfl 256 rfl inb_S256x1024_S128x256_128_256 _ fun i e => ?_
    refine (C 1 1 (by decide) (by decide) 128 rfl 128 rfl 256 rfl (by decide) (by decide) (by decide) (by decide) (by decide) (by decide) (by decide) (by decide) (by decide)).o_at ?_ i e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at (P0 1 (by decide) (by decide)) (by omega) (by decide) d e)))))
  · refine rows_piece (oN a b) t 1 0 128 rfl 0 rfl inb_S256x1024_S128x256_128_0 _ fun i e => ?_
    refine (C 1 0 (by decide) (by decide) 128 rfl 0 rfl 0 rfl (by decide) (by decide) (by decide) (by decide) (by decide) (by decide) (by decide) (by decide) (by decide)).o_at ?_ i e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at (P0 0 (by decide) (by decide)) (by omega) (by decide) d e)))))
  · refine rows_piece (oN a b) t 0 3 0 rfl 768 rfl inb_S256x1024_S128x256_0_768 _ fun i e => ?_
    refine (C 0 3 (by decide) (by decide) 0 rfl 384 rfl 768 rfl (by decide) (by decide) (by decide) (by decide) (by decide) (by decide) (by decide) (by decide) (by decide)).o_at ?_ i e
    exact P0 3 (by decide) (by decide)
  · refine rows_piece (oN a b) t 0 2 0 rfl 512 rfl inb_S256x1024_S128x256_0_512 _ fun i e => ?_
    refine (C 0 2 (by decide) (by decide) 0 rfl 256 rfl 512 rfl (by decide) (by decide) (by decide) (by decide) (by decide) (by decide) (by decide) (by decide) (by decide)).o_at ?_ i e
    exact P0 2 (by decide) (by decide)
  · refine rows_piece (oN a b) t 0 1 0 rfl 256 rfl inb_S256x1024_S128x256_0_256 _ fun i e => ?_
    refine (C 0 1 (by decide) (by decide) 0 rfl 128 rfl 256 rfl (by decide) (by decide) (by decide) (by decide) (by decide) (by decide) (by decide) (by decide) (by decide)).o_at ?_ i e
    exact P0 1 (by decide) (by decide)
  · refine rows_piece (oN a b) t 0 0 0 rfl 0 rfl inb_S256x1024_S128x256_0_0 _ fun i e => ?_
    refine (C 0 0 (by decide) (by decide) 0 rfl 0 rfl 0 rfl (by decide) (by decide) (by decide) (by decide) (by decide) (by decide) (by decide) (by decide) (by decide)).o_at ?_ i e
    exact P0 0 (by decide) (by decide)

theorem out0_B_12_eq
    (B : Blk a b g t x0 x1 x2 x3 x4 x5 x6 x7 x8 x9)
    (hxs : ∀ (h : Fin 4) (d : Fin 128) (e : Fin 256), xs0 (ix3 h d e) = St a b (t * 2) h.val d.val e.val) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = spreadSt a b t := by
  have C := B.chunkR harg1 harg2 harg3 harg5 harg6 harg7 harg8 harg9 harg10
  have P0 : ∀ (h : ℕ) (hh : h < 4) (inb) (d : Fin 128) (e : Fin 256),
      View.readAt (Elt Ideal) arg14.view (Rect.unit (s := S4x128x256) ![h, 0, 0] S1x128x256.size inb).toLoadRect (harg14.unread xs0) (ix3 0 d e)
        = St a b (t * 2 + 0) h d.val e.val := fun h hh inb d e => by
    rw [View.readAt_eq_ld, Memref.IsWhole.read_unread]
    exact (ld3 xs0 h inb d e hh d.isLt e.isLt).trans (hxs ⟨h, hh⟩ d e)
  unfold out0_B_12
  rw [View.read_writes_eq_canon _ _ _ (fun y => cover0_B_12 c i _ _ _ _ _ _ _ _ _ _ _ _ _ _ _ _ _ _ _ _ _ _ _ _ _ _ _ _ _ _ _ _ _ _ _ _ _ _ _ _ y)]
  funext y
  refine View.canon_apply_of_pieces (Val := Elt Ideal) (spreadSt a b t) _ ?_ y (cover0_B_12 c i _ _ _ _ _ _ _ _ _ _ _ _ _ _ _ _ _ _ _ _ _ _ _ _ _ _ _ _ _ _ _ _ _ _ _ _ _ _ _ _ y)
  unfold kernelRun0_B
  dsimp only
  intro p hp
  simp only [List.mem_cons, List.not_mem_nil, or_false] at hp
  rcases hp with rfl | rfl | rfl | rfl | rfl | rfl | rfl | rfl
  · refine st_piece a b t 1 3 (by decide) _ fun d e => ?_
    dsimp only
    refine st_at ?_ d e
    exact fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at (P0 3 (by decide) (by decide)) (by omega) (by decide) d e)))))
  · refine st_piece a b t 1 2 (by decide) _ fun d e => ?_
    dsimp only
    refine st_at ?_ d e
    exact fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at (P0 2 (by decide) (by decide)) (by omega) (by decide) d e)))))
  · refine st_piece a b t 1 1 (by decide) _ fun d e => ?_
    dsimp only
    refine st_at ?_ d e
    exact fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at (P0 1 (by decide) (by decide)) (by omega) (by decide) d e)))))
  · refine st_piece a b t 1 0 (by decide) _ fun d e => ?_
    dsimp only
    refine st_at ?_ d e
    exact fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at (P0 0 (by decide) (by decide)) (by omega) (by decide) d e)))))
  · refine st_piece a b t 0 3 (by decide) _ fun d e => ?_
    dsimp only
    refine st_at ?_ d e
    exact P0 3 (by decide) (by decide)
  · refine st_piece a b t 0 2 (by decide) _ fun d e => ?_
    dsimp only
    refine st_at ?_ d e
    exact P0 2 (by decide) (by decide)
  · refine st_piece a b t 0 1 (by decide) _ fun d e => ?_
    dsimp only
    refine st_at ?_ d e
    exact P0 1 (by decide) (by decide)
  · refine st_piece a b t 0 0 (by decide) _ fun d e => ?_
    dsimp only
    refine st_at ?_ d e
    exact P0 0 (by decide) (by decide)

theorem sout0_B_0_eq
    (B : Blk a b g t x0 x1 x2 x3 x4 x5 x6 x7 x8 x9)
    (hxs : ∀ (h : Fin 4) (d : Fin 128) (e : Fin 256), xs0 (ix3 h d e) = St a b (t * 2) h.val d.val e.val) :
    ∀ (h : Fin 4) (d : Fin 128) (e : Fin 256), sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix3 h d e) = St a b (t * 2 + 1 + 1) h.val d.val e.val := by
  have C := B.chunkR harg1 harg2 harg3 harg5 harg6 harg7 harg8 harg9 harg10
  have P0 : ∀ (h : ℕ) (hh : h < 4) (inb) (d : Fin 128) (e : Fin 256),
      View.readAt (Elt Ideal) arg14.view (Rect.unit (s := S4x128x256) ![h, 0, 0] S1x128x256.size inb).toLoadRect (harg14.unread xs0) (ix3 0 d e)
        = St a b (t * 2 + 0) h d.val e.val := fun h hh inb d e => by
    rw [View.readAt_eq_ld, Memref.IsWhole.read_unread]
    exact (ld3 xs0 h inb d e hh d.isLt e.isLt).trans (hxs ⟨h, hh⟩ d e)
  unfold sout0_B_0
  rw [View.read_writes_eq_canon _ _ _ (fun y => scover0_B_0 c i _ _ _ _ _ _ _ _ _ _ _ _ _ _ _ _ _ _ _ _ _ _ _ _ _ _ _ _ _ _ _ _ _ _ _ _ _ _ _ _ y)]
  intro h d e
  unfold kernelRun0_B
  dsimp only
  fin_cases h
  · exact (canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide)).next_at (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide)).next_at (P0 0 (by decide) (by decide)) (by omega) (by decide) d e)))))) (by omega) (by decide) d e))))
  · exact (canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide)).next_at (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide)).next_at (P0 1 (by decide) (by decide)) (by omega) (by decide) d e)))))) (by omega) (by decide) d e)))
  · exact (canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide)).next_at (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide)).next_at (P0 2 (by decide) (by decide)) (by omega) (by decide) d e)))))) (by omega) (by decide) d e))
  · exact (canon_hit _ _ 3 (by decide) (by decide) d e).trans ((C 1 3 (by decide) (by decide) 128 rfl 384 rfl 768 rfl (by decide) (by decide) (by decide) (by decide) (by decide) (by decide) (by decide) (by decide) (by decide)).next_at (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 0 3 (by decide) (by decide) 0 rfl 384 rfl 768 rfl (by decide) (by decide) (by decide) (by decide) (by decide) (by decide) (by decide) (by decide) (by decide)).next_at (P0 3 (by decide) (by decide)) (by omega) (by decide) d e)))))) (by omega) (by decide) d e)

end Cert.KernelIdeal.Fwd
-- ==== Proof.KBlk.lean ====
module

public import proofs.«01_k».proof.Proof.KFwdA
public import proofs.«01_k».proof.Proof.KFwdB
public import Idealize.ShloMosaic.Lib.Claim
public import Idealize.ShloMosaic.Lib.StableHlo.ReadAt
public import Idealize.ShloMosaic.Lib.Pipeline.ValueKit.Point

@[expose] public section

set_option maxRecDepth 16384

noncomputable section

/-! The blocks that a grid step of the forward kernel reads: pieces of the arguments and of the host's tables. -/

namespace Cert.KernelIdeal.Fwd

open Cert.KernelIdeal Cert.KernelIdeal.Gen Idealize.ShloMosaic Idealize.ShloMosaic.TcCoe Cert.Ret

/-- The block index of every input window at every grid point. -/
theorem win_index : ∀ t : Fin cfg0.N,
    win0_0.index t = ![t.val, 0] ∧ win0_1.index t = ![t.val, 1] ∧ win0_2.index t = ![t.val, 0] ∧
    win0_3.index t = ![t.val, 0] ∧ win0_4.index t = ![t.val, 0] ∧ win0_5.index t = ![t.val, 0] ∧
    win0_6.index t = ![0, 0, 0] ∧ win0_7.index t = ![0, 0, 0] ∧ win0_8.index t = ![0, 0, 0] ∧
    win0_9.index t = ![0, 0, 0] := by decide +kernel

variable (m : (ℓ : Loc nD τ sig) → Buf (Elt Ideal) ℓ) (c : Dev nD)

/-- The three arguments' entries. -/
abbrev hb : ℕ → ℕ → EReal := at2 (m ((c : Thread nD τ).loc main_arg0))
abbrev hv : ℕ → ℕ → EReal := at2 (m ((c : Thread nD τ).loc main_arg1))
abbrev hg : ℕ → ℕ → EReal := at2 (m ((c : Thread nD τ).loc main_arg2))

theorem cell_lt (t : Fin cfg0.N) (r : Fin 256) : t.val * 256 + r.val < 8192 := by
  have := t.isLt
  have : cfg0.N = 32 := N_0
  omega

/-! ## The arguments' blocks -/

theorem blk_q (t : Fin cfg0.N) (r : Fin 256) (s : Fin 512) :
    iblk m c 0 t (ix2 r s) = hb m c (t.val * 256 + r.val) s.val := by
  have e := win_index t
  refine Eq.trans ?_ (at2_ix (n := 8192) (m := 1024) (m ((c : Thread nD τ).loc main_arg0)) ⟨t.val * 256 + r.val, cell_lt t r⟩ ⟨s.val, by omega⟩)
  blk_ext [iblk, V, e]

theorem blk_k (t : Fin cfg0.N) (r : Fin 256) (s : Fin 512) :
    iblk m c 1 t (ix2 r s) = hb m c (t.val * 256 + r.val) (512 + s.val) := by
  have e := win_index t
  refine Eq.trans ?_ (at2_ix (n := 8192) (m := 1024) (m ((c : Thread nD τ).loc main_arg0)) ⟨t.val * 256 + r.val, cell_lt t r⟩ ⟨512 + s.val, by omega⟩)
  blk_ext [iblk, V, e]

theorem blk_v (t : Fin cfg0.N) (r : Fin 256) (s : Fin 1024) :
    iblk m c 2 t (ix2 r s) = hv m c (t.val * 256 + r.val) s.val := by
  have e := win_index t
  refine Eq.trans ?_ (at2_ix (n := 8192) (m := 1024) (m ((c : Thread nD τ).loc main_arg1)) ⟨t.val * 256 + r.val, cell_lt t r⟩ s)
  blk_ext [iblk, V, e]

theorem blk_g (t : Fin cfg0.N) (r : Fin 256) (s : Fin 1024) :
    iblk m c 3 t (ix2 r s) = hg m c (t.val * 256 + r.val) s.val := by
  have e := win_index t
  refine Eq.trans ?_ (at2_ix (n := 8192) (m := 1024) (m ((c : Thread nD τ).loc main_arg2)) ⟨t.val * 256 + r.val, cell_lt t r⟩ s)
  blk_ext [iblk, V, e]

/-! ## The tables that the host computes -/

theorem tab_cs (p : Fin 8192) (d : Fin 128) :
    V m c main_v15 (ix2 p d) = if d.val < 64 then cosE p.val d.val else cosE p.val (d.val - 64) := by
  simp only [V, hostOps0, hostOps0_1, hostOps0_2, List.flatten_cons, List.flatten_nil, List.append_nil, List.cons_append, List.nil_append]
  after_reads_at
  rfl

theorem tab_sn (p : Fin 8192) (d : Fin 128) :
    V m c main_v17 (ix2 p d) = if d.val < 64 then -sinE p.val d.val else sinE p.val (d.val - 64) := by
  simp only [V, hostOps0, hostOps0_1, hostOps0_2, List.flatten_cons, List.flatten_nil, List.append_nil, List.cons_append, List.nil_append]
  after_reads_at
  rfl

theorem tab_dc (h : Fin 4) (i j : Fin 128) : V m c main_v43 (ix3 h i j) = decE h.val i.val j.val := by
  simp only [V, hostOps0, hostOps0_1, hostOps0_2, List.flatten_cons, List.flatten_nil, List.append_nil, List.cons_append, List.nil_append]
  after_reads_at
  pointwise [id_eq]
  rfl

theorem tab_kd (h : Fin 4) (i j : Fin 128) : V m c main_v65 (ix3 h i j) = kdE h.val i.val := by
  simp only [V, hostOps0, hostOps0_1, hostOps0_2, List.flatten_cons, List.flatten_nil, List.append_nil, List.cons_append, List.nil_append]
  after_reads_at
  rfl

theorem tab_qd (h : Fin 4) (i j : Fin 128) : V m c main_v68 (ix3 h i j) = qdE h.val i.val := by
  simp only [V, hostOps0, hostOps0_1, hostOps0_2, List.flatten_cons, List.flatten_nil, List.append_nil, List.cons_append, List.nil_append]
  after_reads_at
  rfl

theorem tab_cd (h : Fin 4) (i : Fin 8) (j : Fin 128) : V m c main_v70 (ix3 h i j) = cdE h.val := by
  simp only [V, hostOps0, hostOps0_1, hostOps0_2, List.flatten_cons, List.flatten_nil, List.append_nil, List.cons_append, List.nil_append]
  after_reads_at
  rfl

/-! ## The tables' blocks -/

theorem blk_cs (t : Fin cfg0.N) (r : Fin 256) (d : Fin 128) :
    iblk m c 4 t (ix2 r d) = V m c main_v15 (ix2 ⟨t.val * 256 + r.val, cell_lt t r⟩ d) := by
  have e := win_index t
  generalize hV : V m c main_v15 = T
  unfold iblk
  blk_ext [e, hV]

theorem blk_sn (t : Fin cfg0.N) (r : Fin 256) (d : Fin 128) :
    iblk m c 5 t (ix2 r d) = V m c main_v17 (ix2 ⟨t.val * 256 + r.val, cell_lt t r⟩ d) := by
  have e := win_index t
  blk_ext [iblk, e]

theorem blk_dc (t : Fin cfg0.N) (h : Fin 4) (i j : Fin 128) : iblk m c 6 t (ix3 h i j) = V m c main_v43 (ix3 h i j) := by
  have e := win_index t
  blk_ext [iblk, e]

theorem blk_kd (t : Fin cfg0.N) (h : Fin 4) (i j : Fin 128) : iblk m c 7 t (ix3 h i j) = V m c main_v65 (ix3 h i j) := by
  have e := win_index t
  blk_ext [iblk, e]

theorem blk_qd (t : Fin cfg0.N) (h : Fin 4) (i j : Fin 128) : iblk m c 8 t (ix3 h i j) = V m c main_v68 (ix3 h i j) := by
  have e := win_index t
  blk_ext [iblk, e]

theorem blk_cd (t : Fin cfg0.N) (h : Fin 4) (i : Fin 8) (j : Fin 128) : iblk m c 9 t (ix3 h i j) = V m c main_v70 (ix3 h i j) := by
  have e := win_index t
  blk_ext [iblk, e]

/-- What grid step `t` reads. -/
theorem blks (t : Fin cfg0.N) :
    Blk (hb m c) (hv m c) (hg m c) t.val (iblk m c 0 t) (iblk m c 1 t) (iblk m c 2 t) (iblk m c 3 t) (iblk m c 4 t)
      (iblk m c 5 t) (iblk m c 6 t) (iblk m c 7 t) (iblk m c 8 t) (iblk m c 9 t) where
  q := blk_q m c t
  k := blk_k m c t
  v := blk_v m c t
  g := blk_g m c t
  cs r d := (blk_cs m c t r d).trans (tab_cs m c _ d)
  sn r d := (blk_sn m c t r d).trans (tab_sn m c _ d)
  dc h i j := (blk_dc m c t h i j).trans (tab_dc m c h i j)
  kd h i j := (blk_kd m c t h i j).trans (tab_kd m c h i j)
  qd h i j := (blk_qd m c t h i j).trans (tab_qd m c h i j)
  cd h := (blk_cd m c t h 0 0).trans (tab_cd m c h 0 0)

end Cert.KernelIdeal.Fwd
-- ==== Proof.KVal.lean ====
module

public import proofs.«01_k».proof.Proof.KBlk

@[expose] public section

set_option maxRecDepth 16384

noncomputable section

/-! The arrays that the forward kernel leaves, at an index: the grid's steps in order, the state carried from one to the next. -/

namespace Cert.KernelIdeal.Fwd

open Cert.KernelIdeal Cert.KernelIdeal.Gen Cert.KernelIdeal.Value Idealize.ShloMosaic Idealize.ShloMosaic.TcCoe Cert.Ret

variable (m : (ℓ : Loc nD τ sig) → Buf (Elt Ideal) ℓ) (c : Dev nD)

/-- What the kernel leaves after grid step `n`: its three blocks and the state carried in the scratch. -/
def Left (n : ℕ) (r : Vec Ideal S256x1024 .bf16 × Vec Ideal S256x1024 .f32 × Vec Ideal S4x2x128x256 .f32 × Vec Ideal S4x128x256 .f32) : Prop :=
  r.1 = spread (yN (hb m c) (hv m c) (hg m c)) n ∧
  r.2.1 = spread (oN (hb m c) (hv m c)) n ∧
  r.2.2.1 = spreadSt (hb m c) (hv m c) n ∧
  ∀ (h : Fin 4) (d : Fin 128) (e : Fin 256), r.2.2.2 (ix3 h d e) = St (hb m c) (hv m c) (n * 2 + 1 + 1) h.val d.val e.val

/-- What the first step leaves. -/
theorem first_step (t : Fin cfg0.N) (acc : Vec Ideal S256x1024 .bf16 × Vec Ideal S256x1024 .f32 × Vec Ideal S4x2x128x256 .f32 × Vec Ideal S4x128x256 .f32) (h0 : t.val = 0) :
    Left m c 0 (stAt0 m c t.val t.isLt acc) := by
  have B := blks m c t
  rw [h0] at B
  have h0' : t.val % 32 = 0 := by rw [h0]
  rw [stAt0_A m c t acc h0']
  refine ⟨?_, ?_, ?_, ?_⟩ <;> dsimp only
  · have key := @out0_A_10_eq (hb m c) (hv m c) (hg m c)
    apply key
    exact B
  · have key := @out0_A_11_eq (hb m c) (hv m c) (hg m c)
    apply key
    exact B
  · have key := @out0_A_12_eq (hb m c) (hv m c) (hg m c)
    apply key
    exact B
  · have key := @sout0_A_0_eq (hb m c) (hv m c) (hg m c)
    apply key
    exact B

/-- What a later step leaves, from the state that the step before left. -/
theorem later_step (t : Fin cfg0.N) (acc : Vec Ideal S256x1024 .bf16 × Vec Ideal S256x1024 .f32 × Vec Ideal S4x2x128x256 .f32 × Vec Ideal S4x128x256 .f32) (h0 : t.val ≠ 0)
    (hs : ∀ (h : Fin 4) (d : Fin 128) (e : Fin 256), acc.2.2.2 (ix3 h d e) = St (hb m c) (hv m c) (t.val * 2) h.val d.val e.val) :
    Left m c t.val (stAt0 m c t.val t.isLt acc) := by
  have B := blks m c t
  have hN : cfg0.N = 32 := N_0
  have ht : t.val < 32 := hN ▸ t.isLt
  have h0' : ¬t.val % 32 = 0 := by omega
  rw [stAt0_B m c t acc h0']
  refine ⟨?_, ?_, ?_, ?_⟩ <;> dsimp only
  · have key := @out0_B_10_eq (hb m c) (hv m c) (hg m c) t.val ht
    apply key
    · exact B
    · exact hs
  · have key := @out0_B_11_eq (hb m c) (hv m c) (hg m c) t.val ht
    apply key
    · exact B
    · exact hs
  · have key := @out0_B_12_eq (hb m c) (hv m c) (hg m c) t.val ht
    apply key
    · exact B
    · exact hs
  · have key := @sout0_B_0_eq (hb m c) (hv m c) (hg m c) t.val ht
    apply key
    · exact B
    · exact hs

theorem outs_at (n : ℕ) (hn : n < cfg0.N) : Left m c n (outsAt0 m c n hn) := by
  induction n with
  | zero => exact first_step m c ⟨0, hn⟩ junk0 rfl
  | succ n ih =>
    rw [outsAt0_succ]
    refine later_step m c ⟨n + 1, hn⟩ _ (Nat.succ_ne_zero n) fun h d e => ?_
    rw [(ih (Nat.lt_of_succ_lt hn)).2.2.2 h d e]
    congr 1
    show n * 2 + 1 + 1 = (n + 1) * 2
    omega

/-- The gated output array. -/
theorem G10_at (p : Fin 8192) (s : Fin 1024) :
    G10 m c (ix2 p s) = yN (hb m c) (hv m c) (hg m c) (p.val / 128) (s.val / 256) (p.val % 128) (s.val % 256) := by
  have hN : cfg0.N = 32 := N_0
  have hp : pt10Of (ix2 p s) = p.val / 256 := by
    show 1 * (p.val / 256 - 0) + 1 * (s.val / 1024 - 0) = _
    omega
  have hlt : pt10Of (ix2 p s) < cfg0.N := by omega
  unfold G10
  rw [dif_pos hlt, ← outsAt0_sweep m c _ hlt, (outs_at m c _ hlt).1]
  show yN _ _ _ (pt10Of (ix2 p s) * 2 + p.val % 256 / 128) (s.val % 1024 / 256) (p.val % 256 % 128) (s.val % 1024 % 256) = _
  rw [hp]
  congr 1 <;> omega

/-- The ungated output array. -/
theorem G11_at (p : Fin 8192) (s : Fin 1024) :
    G11 m c (ix2 p s) = oN (hb m c) (hv m c) (p.val / 128) (s.val / 256) (p.val % 128) (s.val % 256) := by
  have hN : cfg0.N = 32 := N_0
  have hp : pt11Of (ix2 p s) = p.val / 256 := by
    show 1 * (p.val / 256 - 0) + 1 * (s.val / 1024 - 0) = _
    omega
  have hlt : pt11Of (ix2 p s) < cfg0.N := by omega
  unfold G11
  rw [dif_pos hlt, ← outsAt0_sweep m c _ hlt, (outs_at m c _ hlt).2.1]
  show oN _ _ (pt11Of (ix2 p s) * 2 + p.val % 256 / 128) (s.val % 1024 / 256) (p.val % 256 % 128) (s.val % 1024 % 256) = _
  rw [hp]
  congr 1 <;> omega

/-- The array of states. -/
theorem G12_at (h : Fin 4) (n : Fin 64) (d : Fin 128) (e : Fin 256) :
    G12 m c (ix4 h n d e) = St (hb m c) (hv m c) n.val h.val d.val e.val := by
  have hN : cfg0.N = 32 := N_0
  have hp : pt12Of (ix4 h n d e) = n.val / 2 := by
    show 32 * (h.val / 4 - 0) + 1 * (n.val / 2 - 0) + 1 * (d.val / 128 - 0) + 1 * (e.val / 256 - 0) = _
    omega
  have hlt : pt12Of (ix4 h n d e) < cfg0.N := by omega
  unfold G12
  rw [dif_pos hlt, ← outsAt0_sweep m c _ hlt, (outs_at m c _ hlt).2.2.1]
  show St _ _ (pt12Of (ix4 h n d e) * 2 + n.val % 2) (h.val % 4) (d.val % 128) (e.val % 256) = _
  rw [hp]
  congr 1 <;> omega

end Cert.KernelIdeal.Fwd
-- ==== Proof.RefFwd.lean ====
module

public import proofs.«01_k».proof.Proof.Gen.ReferenceIdeal.Read
public import proofs.«01_k».proof.Proof.Math
public import Idealize.ShloMosaic.Lib.Pointwise

@[expose] public section

set_option maxRecDepth 16384

noncomputable section

/-! The reference of the forward call, entry by entry. -/

namespace Cert.ReferenceIdeal.Read

open Cert.ReferenceIdeal Cert.ReferenceIdeal.Gen Idealize.ShloMosaic Idealize.ShloMosaic.StableHlo Cert.Ret

variable (x0 : S8192x1024.Idx → EReal) (x1 : S8192x1024.Idx → EReal) (x2 : S8192x1024.Idx → EReal)

theorem lg_at (h : Fin 4) : val_main_v73 (F := Ideal) (ix1 h) = lgE h := by
  pointwise [val_main_v73, val_main_v72, val_main_v71, val_main_v70, val_main_v69, val_main_v68, val_main_v67, val_main_v66,
    val_main_cst_5, val_main_cst_6]
  rfl

theorem cos_at (p : Fin 8192) (d : Fin 64) : val_main_v17 (F := Ideal) (ix2 p d) = cosE p d := by
  pointwise [val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  rfl

theorem sin_at (p : Fin 8192) (d : Fin 64) : val_main_v19 (F := Ideal) (ix2 p d) = sinE p d := by
  pointwise [val_main_v19, val_main_v16, val_main_v15, val_main_v14, val_main_v13, val_main_v12, val_main_v11, val_main_v10,
    val_main_v9, val_main_v8, val_main_v7, val_main_v6, val_main_v5, val_main_v4, val_main_cst, val_main_cst_0, val_main_cst_1]
  rfl

theorem cos_at' (p : Fin 8192) (d : Fin 64) : val_main_v48 (F := Ideal) (ix2 p d) = cosE p d := cos_at p d
theorem sin_at' (p : Fin 8192) (d : Fin 64) : val_main_v50 (F := Ideal) (ix2 p d) = sinE p d := sin_at p d

theorem q_at (p : Fin 8192) (h : Fin 4) (d : Fin 128) :
    val_main_v75 (F := Ideal) x0 (ix4 0 p h d) = Qs (at2 x0) p h d := by
  pointwise [val_main_v75, val_main_v74, val_main_v33, val_main_v32, val_main_v31, val_main_v30, val_main_v29, val_main_v28,
    val_main_v27, val_main_v26, val_main_v25, val_main_v24, val_main_v23, val_main_v22, val_main_v21, val_main_v20,
    val_main_v18, val_main_v3, val_main_v0, val_main_cst_7, cos_at, sin_at]
  simp only [at2_ix x0]
  unfold Qs rot
  split
  · rfl
  · next hd => rw [show 64 + (d.val - 64) = d.val by omega]

theorem k_at (p : Fin 8192) (h : Fin 4) (d : Fin 128) :
    val_main_v64 (F := Ideal) x0 (ix4 0 p h d) = Ks (at2 x0) p h d := by
  pointwise [val_main_v64, val_main_v63, val_main_v62, val_main_v61, val_main_v60, val_main_v59, val_main_v58, val_main_v57,
    val_main_v56, val_main_v55, val_main_v54, val_main_v53, val_main_v52, val_main_v51, val_main_v49, val_main_v34, val_main_v1,
    cos_at', sin_at']
  simp only [at2_ix x0]
  unfold Ks rot
  split
  · rfl
  · next hd => rw [show 64 + (d.val - 64) = d.val by omega]

theorem v_at (p : Fin 8192) (h : Fin 4) (e : Fin 256) :
    val_main_v65 (F := Ideal) x1 (ix4 0 p h e) = Vs (at2 x1) p h e := by
  pointwise [val_main_v65, val_main_v2]
  simp only [at2_ix x1]
  rfl

theorem dec_at (h : Fin 4) (i j : Fin 128) : val_main_v96 (F := Ideal) (ix3 h i j) = decE h i j := by
  pointwise [val_main_v96, val_main_v95, val_main_v94, val_main_v93, val_main_v92, val_main_v91, val_main_v90, val_main_v89,
    val_main_v88, val_main_v87, val_main_v86, val_main_v85, val_main_v84, val_main_v83, val_main_v82, val_main_v81,
    val_main_v80, val_main_v79, val_main_call0_v1, val_main_call0_v2, val_main_call0_v0, val_main_cst_8, val_main_cst_9,
    val_main_cst_10, lg_at, id_eq]
  rfl

theorem wt_at (h : Fin 4) (n : Fin 64) (j : Fin 8192) : val_main_v125 (F := Ideal) (ix3 h n j) = wtE h n j := by
  pointwise [val_main_v125, val_main_v124, val_main_v123, val_main_v122, val_main_v121, val_main_v120, val_main_v119, val_main_v118,
    val_main_v117, val_main_v116, val_main_v115, val_main_v114, val_main_v113, val_main_v112, val_main_v111, val_main_v110,
    val_main_v109, val_main_v108, val_main_v107, val_main_v106, val_main_v105, val_main_v104, val_main_v103,
    val_main_call1_v1, val_main_call1_v2, val_main_call1_v0, val_main_cst_11, val_main_cst_12, val_main_cst_13, val_main_cst_14,
    val_main_cst_15, lg_at, id_eq]
  rfl

theorem qd_at (i : Fin 128) (h : Fin 4) : val_main_v141 (F := Ideal) (ix2 i h) = qdE h i := by
  pointwise [val_main_v141, val_main_v140, val_main_v139, val_main_v138, val_main_v137, val_main_v136, val_main_v135,
    val_main_v134, val_main_v79, val_main_cst_16, lg_at]
  rfl

theorem q_chunk (n : Fin 64) (i : Fin 128) (h : Fin 4) (d : Fin 128) :
    val_main_v76 (F := Ideal) x0 (ix5 0 n i h d) = Qs (at2 x0) (n * 128 + i) h d := by
  pointwise [val_main_v76, q_at]
theorem k_chunk (n : Fin 64) (i : Fin 128) (h : Fin 4) (d : Fin 128) :
    val_main_v77 (F := Ideal) x0 (ix5 0 n i h d) = Ks (at2 x0) (n * 128 + i) h d := by
  pointwise [val_main_v77, k_at]
theorem v_chunk (n : Fin 64) (i : Fin 128) (h : Fin 4) (e : Fin 256) :
    val_main_v78 (F := Ideal) x1 (ix5 0 n i h e) = Vs (at2 x1) (n * 128 + i) h e := by
  pointwise [val_main_v78, v_at]

theorem score_at (n : Fin 64) (h : Fin 4) (i j : Fin 128) :
    val_main_v100 (F := Ideal) x0 (ix5 0 n h i j) = sc (at2 x0) n h i j := by
  pointwise [val_main_v100, val_main_v99, val_main_v98, val_main_v97, q_chunk, k_chunk, dec_at]
  rfl

theorem state_at (n : Fin 64) (h : Fin 4) (d : Fin 128) (e : Fin 256) :
    val_main_v133 (F := Ideal) x0 x1 (ix5 n 0 h d e) = St (at2 x0) (at2 x1) n h d e := by
  pointwise [val_main_v133, val_main_v132, val_main_v131, val_main_v130, val_main_v129, val_main_v128, val_main_v127,
    val_main_v126, k_at, v_at, wt_at]
  unfold St
  exact Finset.sum_congr rfl fun j _ => by rw [wtE_eq h n j h.isLt n.isLt j.isLt]

theorem o_chunk (n : Fin 64) (i : Fin 128) (h : Fin 4) (e : Fin 256) :
    val_main_v147 (F := Ideal) x0 x1 (ix5 0 n i h e) = oN (at2 x0) (at2 x1) n h i e := by
  pointwise [val_main_v147, val_main_v146, val_main_v145, val_main_v144, val_main_v143, val_main_v142, val_main_v102,
    val_main_v101, q_chunk, v_chunk, qd_at, score_at, state_at]
  unfold oN
  congr 1
  · exact Finset.sum_congr rfl fun j _ => by ac_rfl
  · exact Finset.sum_congr rfl fun j _ => by ac_rfl

theorem o_at (p : Fin 8192) (h : Fin 4) (e : Fin 256) :
    val_main_v148 (F := Ideal) x0 x1 (ix4 0 p h e) = oN (at2 x0) (at2 x1) (p / 128) h (p % 128) e := by
  pointwise [val_main_v148, o_chunk]

theorem norm_at (p : Fin 8192) (h : Fin 4) (e : Fin 256) :
    val_main_v166 (F := Ideal) x0 x1 (ix4 0 p h e) = hnorm (fun e => oN (at2 x0) (at2 x1) (p / 128) h (p % 128) e) e := by
  pointwise [val_main_v166, val_main_v165, val_main_v164, val_main_v163, val_main_v162, val_main_v161, val_main_v160, val_main_v159,
    val_main_v158, val_main_v157, val_main_v156, val_main_v155, val_main_v154, val_main_v153, val_main_v152, val_main_v151,
    val_main_v150, val_main_v149, val_main_cst_17, val_main_cst_18, val_main_cst_19, val_main_cst_20, val_main_cst_21, o_at]
  rfl

/-- The three results at an index. -/
theorem res_o (p : Fin 8192) (c : Fin 1024) : val_main_v172 (F := Ideal) x0 x1 (ix2 p c)
    = oN (at2 x0) (at2 x1) (p / 128) (c / 256) (p % 128) (c % 256) := by
  pointwise [val_main_v172, o_at]

theorem res_st (h : Fin 4) (n : Fin 64) (d : Fin 128) (e : Fin 256) :
    val_main_v174 (F := Ideal) x0 x1 (ix4 h n d e) = St (at2 x0) (at2 x1) n h d e := by
  pointwise [val_main_v174, val_main_v173, state_at]

theorem res_y (p : Fin 8192) (c : Fin 1024) : val_main_v175 (F := Ideal) x0 x1 x2 (ix2 p c)
    = yN (at2 x0) (at2 x1) (at2 x2) (p / 128) (c / 256) (p % 128) (c % 256) := by
  pointwise [val_main_v175, val_main_v171, val_main_v170, val_main_v169, val_main_v168, val_main_v167, val_main_call2_v5,
    val_main_call2_v4, val_main_call2_v3, val_main_call2_v2, val_main_call2_v1, val_main_call2_v0, val_main_call2_cst,
    val_main_call2_cst_0, norm_at]
  unfold yN
  rw [show p.val / 128 * 128 + p.val % 128 = p.val by omega, show c.val / 256 * 256 + c.val % 256 = c.val by omega, ← at2_ix x2]
  rfl

end Cert.ReferenceIdeal.Read
-- ==== Proof.Forward.lean ====
module

public import proofs.«01_k».proof.Defs
public import proofs.«01_k».proof.Proof.KVal
public import proofs.«01_k».proof.Proof.RefFwd
public import proofs.«01_k».proof.Proof.Gen.ReferenceIdeal.Run

@[expose] public section

set_option maxRecDepth 16384

noncomputable section

/-! The forward kernel and its reference leave equal results. -/

namespace Cert.Forward

open Idealize.ShloMosaic Idealize.SL.Sem Cert.Ret

variable (m : (ℓ : Loc Cert.KernelIdeal.nD Cert.KernelIdeal.τ Cert.KernelIdeal.sig) → Buf (Elt Ideal) ℓ) (c : Dev Cert.KernelIdeal.nD)

/-- The gated outputs agree. -/
theorem gated (X0 : (⟨Cert.ReferenceIdeal.S8192x1024, .f32⟩ : BufTy).Contents (Elt Ideal)) (X1 : (⟨Cert.ReferenceIdeal.S8192x1024, .bf16⟩ : BufTy).Contents (Elt Ideal)) (X2 : (⟨Cert.ReferenceIdeal.S8192x1024, .f32⟩ : BufTy).Contents (Elt Ideal))
    (h0 : X0 = m ((c.tc : Thread Cert.KernelIdeal.nD Cert.KernelIdeal.τ).loc Cert.KernelIdeal.main_arg0)) (h1 : X1 = m ((c.tc : Thread Cert.KernelIdeal.nD Cert.KernelIdeal.τ).loc Cert.KernelIdeal.main_arg1)) (h2 : X2 = m ((c.tc : Thread Cert.KernelIdeal.nD Cert.KernelIdeal.τ).loc Cert.KernelIdeal.main_arg2)) :
    Cert.ReferenceIdeal.Read.val_main_v175 (F := Ideal) X0 X1 X2 = Cert.KernelIdeal.Value.G10 m c := by
  subst h0 h1 h2
  funext i
  rw [eq_ix2 i]
  exact (Cert.ReferenceIdeal.Read.res_y _ _ _ (i 0) (i 1)).trans (Cert.KernelIdeal.Fwd.G10_at m c (i 0) (i 1)).symm

/-- The outputs before the norm agree. -/
theorem ungated (X0 : (⟨Cert.ReferenceIdeal.S8192x1024, .f32⟩ : BufTy).Contents (Elt Ideal)) (X1 : (⟨Cert.ReferenceIdeal.S8192x1024, .bf16⟩ : BufTy).Contents (Elt Ideal))
    (h0 : X0 = m ((c.tc : Thread Cert.KernelIdeal.nD Cert.KernelIdeal.τ).loc Cert.KernelIdeal.main_arg0)) (h1 : X1 = m ((c.tc : Thread Cert.KernelIdeal.nD Cert.KernelIdeal.τ).loc Cert.KernelIdeal.main_arg1)) :
    Cert.ReferenceIdeal.Read.val_main_v172 (F := Ideal) X0 X1 = Cert.KernelIdeal.Value.G11 m c := by
  subst h0 h1
  funext i
  rw [eq_ix2 i]
  exact (Cert.ReferenceIdeal.Read.res_o _ _ (i 0) (i 1)).trans (Cert.KernelIdeal.Fwd.G11_at m c (i 0) (i 1)).symm

/-- The states agree. -/
theorem states (X0 : (⟨Cert.ReferenceIdeal.S8192x1024, .f32⟩ : BufTy).Contents (Elt Ideal)) (X1 : (⟨Cert.ReferenceIdeal.S8192x1024, .bf16⟩ : BufTy).Contents (Elt Ideal))
    (h0 : X0 = m ((c.tc : Thread Cert.KernelIdeal.nD Cert.KernelIdeal.τ).loc Cert.KernelIdeal.main_arg0)) (h1 : X1 = m ((c.tc : Thread Cert.KernelIdeal.nD Cert.KernelIdeal.τ).loc Cert.KernelIdeal.main_arg1)) :
    Cert.ReferenceIdeal.Read.val_main_v174 (F := Ideal) X0 X1 = Cert.KernelIdeal.Value.G12 m c := by
  subst h0 h1
  funext i
  rw [eq_ix4 i]
  exact (Cert.ReferenceIdeal.Read.res_st _ _ (i 0) (i 1) (i 2) (i 3)).trans (Cert.KernelIdeal.Fwd.G12_at m c (i 0) (i 1) (i 2) (i 3)).symm

theorem results_equal : Cert.algebraic_KernelIdeal_ReferenceIdeal (hKernelIdeal := Cert.KernelIdeal.Gen.facts) (hReferenceIdeal := Cert.ReferenceIdeal.Gen.facts) := by
  intro m g m' g' _ hagree
  refine ⟨Cert.KernelIdeal.Value.G10 m, Cert.KernelIdeal.Value.G11 m, Cert.KernelIdeal.Value.G12 m,
    Cert.KernelIdeal.Value.run m g, (θ_run Cert.ReferenceIdeal.defs _ _).mono (fun r h c => ?_) (Cert.ReferenceIdeal.Value.run (F := Ideal) m' g')⟩
  obtain ⟨hy, ho, hs, h0, h1, h2⟩ := h c
  obtain ⟨e0, e1, e2⟩ := hagree c
  exact ⟨(hy.trans (Cert.ReferenceIdeal.Read.val_main_v175_eq (F := Ideal) _)).trans (gated m c _ _ _ e0 e1 e2),
    (ho.trans (Cert.ReferenceIdeal.Read.val_main_v172_eq (F := Ideal) _)).trans (ungated m c _ _ e0 e1),
    (hs.trans (Cert.ReferenceIdeal.Read.val_main_v174_eq (F := Ideal) _)).trans (states m c _ _ e0 e1), h0, h1, h2⟩

end Cert.Forward
-- ==== Proof.BMath.lean ====
module

public import proofs.«01_k».proof.Proof.Math
public import Mathlib.Tactic.FieldSimp
public import Mathlib.Tactic.LinearCombination

@[expose] public section

noncomputable section

/-! The mathematics of retention's gradient, over the reals: the branch's own values again as real numbers, the head
norm's derivative, and the gradient of the state as a sum over the later chunks. -/

namespace Cert.Ret

open Idealize.ShloMosaic

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The forward values as real numbers -/

def angR (p d : ℕ) : ℝ := p * (1 / Real.rpow 10000 (d * (1 / 64)))
def cosR (p d : ℕ) : ℝ := Real.cos (angR p d)
def sinR (p d : ℕ) : ℝ := Real.sin (angR p d)

theorem angE_eq (p d : ℕ) (hp : p < 8192) (hd : d < 64) : angE p d = (angR p d : EReal) := by
  have hpos : Real.rpow 10000 ((d : ℝ) * (1 / 64)) ≠ 0 := (Real.rpow_pos_of_pos (by norm_num) _).ne'
  unfold angE angR
  rw [natE_eq p (by omega), natE_eq d (by omega), lit_64, lit_10000, Ideal.div_coe (by norm_num), ← EReal.coe_mul,
    Ideal.pow_coe_coe, Ideal.div_coe hpos, one_mul, ← EReal.coe_mul]

theorem cosE_eq (p d : ℕ) (hp : p < 8192) (hd : d < 64) : cosE p d = (cosR p d : EReal) := by
  unfold cosE cosR; rw [angE_eq p d hp hd, Ideal.cos_coe]
theorem sinE_eq (p d : ℕ) (hp : p < 8192) (hd : d < 64) : sinE p d = (sinR p d : EReal) := by
  unfold sinE sinR; rw [angE_eq p d hp hd, Ideal.sin_coe]

def scaleR : ℝ := 11863283 / 2 ^ 27
def epsR : ℝ := 10995116 / 2 ^ 40

def rotR (x : ℕ → ℝ) (p d : ℕ) : ℝ :=
  if d < 64 then x d * cosR p d - x (64 + d) * sinR p d else x (d - 64) * sinR p (d - 64) + x d * cosR p (d - 64)

/-- The rotation's transpose. -/
def unrotR (x : ℕ → ℝ) (p d : ℕ) : ℝ :=
  if d < 64 then x d * cosR p d + x (64 + d) * sinR p d else x d * cosR p (d - 64) - x (d - 64) * sinR p (d - 64)

theorem rot_eq (x : ℕ → ℝ) (p d : ℕ) (hp : p < 8192) (hd : d < 128) :
    rot (fun d => (x d : EReal)) p d = (rotR x p d : EReal) := by
  unfold rot rotR
  by_cases h : d < 64
  · rw [if_pos h, if_pos h, cosE_eq p d hp h, sinE_eq p d hp h]; norm_cast
  · rw [if_neg h, if_neg h, cosE_eq p (d - 64) hp (by omega), sinE_eq p (d - 64) hp (by omega)]; norm_cast

/-- A real matrix as an extended one. -/
abbrev up (a : ℕ → ℕ → ℝ) : ℕ → ℕ → EReal := fun p c => (a p c : EReal)

section Values

variable (a b g y : ℕ → ℕ → ℝ)

def QR (p h d : ℕ) : ℝ := rotR (fun d => a p (h * 128 + d)) p d * scaleR
def KR (p h d : ℕ) : ℝ := rotR (fun d => a p (512 + (h * 128 + d))) p d
def VR (p h e : ℕ) : ℝ := b p (h * 256 + e)
def scR (n h i j : ℕ) : ℝ := (∑ d : Fin 128, QR a (n * 128 + i) h d * KR a (n * 128 + j) h d) * dec (lg h) i j
def StR (n h d e : ℕ) : ℝ := ∑ j : Fin 8192, VR b j h e * (KR a j h d * wt (lg h) n j)
def qdR (h i : ℕ) : ℝ := Real.exp (lg h * (i + 1))
def kdR (h i : ℕ) : ℝ := Real.exp (lg h * (127 - i))
def oR (n h i e : ℕ) : ℝ :=
  (∑ j : Fin 128, scR a n h i j * VR b (n * 128 + j) h e)
    + ∑ d : Fin 128, QR a (n * 128 + i) h d * qdR h i * StR a b n h d e

theorem Qs_eq (p h d : ℕ) (hp : p < 8192) (hd : d < 128) : Qs (up a) p h d = (QR a p h d : EReal) := by
  unfold Qs QR
  rw [lit_scale, EReal.coe_mul]
  exact congrArg₂ (· * ·) (rot_eq (fun d => a p (h * 128 + d)) p d hp hd) rfl

theorem Ks_eq (p h d : ℕ) (hp : p < 8192) (hd : d < 128) : Ks (up a) p h d = (KR a p h d : EReal) :=
  rot_eq (fun d => a p (512 + (h * 128 + d))) p d hp hd

theorem St_eq (n h d e : ℕ) (hd : d < 128) : St (up a) (up b) n h d e = (StR a b n h d e : EReal) := by
  unfold St StR
  rw [coe_sum]
  exact Finset.sum_congr rfl fun j _ => by
    rw [Ks_eq a j.val h d j.isLt hd, EReal.coe_mul, EReal.coe_mul]; rfl

theorem sc_eq (n h i j : ℕ) (hn : n < 64) (hh : h < 4) (hi : i < 128) (hj : j < 128) :
    sc (up a) n h i j = (scR a n h i j : EReal) := by
  unfold sc scR
  rw [decE_eq h i j hh hi hj, EReal.coe_mul, coe_sum]
  refine congrArg₂ (· * ·) (Finset.sum_congr rfl fun d _ => ?_) rfl
  rw [Qs_eq a _ h d.val (by omega) d.isLt, Ks_eq a _ h d.val (by omega) d.isLt, EReal.coe_mul]

theorem oN_eq (n h i e : ℕ) (hn : n < 64) (hh : h < 4) (hi : i < 128) :
    oN (up a) (up b) n h i e = (oR a b n h i e : EReal) := by
  unfold oN oR
  rw [EReal.coe_add, coe_sum, coe_sum]
  refine congrArg₂ (· + ·) (Finset.sum_congr rfl fun j _ => ?_) (Finset.sum_congr rfl fun d _ => ?_)
  · rw [sc_eq a n h i j.val hn hh hi j.isLt, EReal.coe_mul]; rfl
  · rw [Qs_eq a _ h d.val (by omega) d.isLt, qdE_eq h i hh hi, St_eq a b n h d.val e d.isLt, EReal.coe_mul, EReal.coe_mul]
    rfl

/-! ## The head norm and the gate -/

def meanR (f : ℕ → ℝ) : ℝ := (∑ e : Fin 256, f e) * (1 / 256)
def cenR (f : ℕ → ℝ) (e : ℕ) : ℝ := f e - meanR f
def varR (f : ℕ → ℝ) : ℝ := meanR (fun e => cenR f e * cenR f e) + epsR
def rstdR (f : ℕ → ℝ) : ℝ := (Real.sqrt (varR f))⁻¹
def hnR (f : ℕ → ℝ) (e : ℕ) : ℝ := cenR f e * rstdR f
def sigR (x : ℝ) : ℝ := (1 + Real.exp (-x))⁻¹

theorem varR_pos (f : ℕ → ℝ) : 0 < varR f := by
  unfold varR meanR
  have : 0 ≤ (∑ e : Fin 256, cenR f e * cenR f e) := Finset.sum_nonneg fun e _ => mul_self_nonneg _
  have h : (0 : ℝ) < epsR := by norm_num [epsR]
  linarith

theorem rstdR_sq (f : ℕ → ℝ) : rstdR f * rstdR f = 1 / varR f := by
  unfold rstdR
  rw [← mul_inv, Real.mul_self_sqrt (varR_pos f).le, one_div]

theorem sum_cenR (f : ℕ → ℝ) : (∑ e : Fin 256, cenR f e) = 0 := by
  unfold cenR
  rw [Finset.sum_sub_distrib, Finset.sum_const, Finset.card_univ, Fintype.card_fin]
  unfold meanR
  ring

theorem rsqrt_pos (r : ℝ) (h : 0 < r) : Ideal.rsqrt (r : EReal) = (((Real.sqrt r)⁻¹ : ℝ) : EReal) := by
  rw [Ideal.rsqrt_coe, if_neg (by linarith), if_neg h.ne']

theorem div_256 (x : ℝ) : Ideal.div (x : EReal) (Ideal.ofBits .f32 0x43800000#32) = ((x * (1 / 256) : ℝ) : EReal) := by
  rw [lit_256, Ideal.div_coe (by norm_num), ← EReal.coe_mul]

theorem mean_eq (f : ℕ → ℝ) : mean (fun e => (f e : EReal)) = (meanR f : EReal) := by
  unfold mean; rw [← coe_sum, div_256]; rfl
theorem cen_eq (f : ℕ → ℝ) (e : ℕ) : cen (fun e => (f e : EReal)) e = (cenR f e : EReal) := by
  unfold cen; rw [mean_eq]; rfl
theorem rstd_eq (f : ℕ → ℝ) : rstd (fun e => (f e : EReal)) = (rstdR f : EReal) := by
  unfold rstd rstdR
  simp only [cen_eq, ← EReal.coe_mul]
  rw [mean_eq, lit_eps, ← EReal.coe_add]
  exact rsqrt_pos _ (varR_pos f)
theorem hnorm_eq (f : ℕ → ℝ) (e : ℕ) : hnorm (fun e => (f e : EReal)) e = (hnR f e : EReal) := by
  unfold hnorm hnR; rw [cen_eq, rstd_eq, EReal.coe_mul]

/-- The gradient of a normalised row's argument, the row's gradient being `x`. -/
def nbR (f x : ℕ → ℝ) (e : ℕ) : ℝ := rstdR f * (x e - meanR x - hnR f e * meanR (fun e => x e * hnR f e))

/-- The same through the variance and the mean, as the chain rule writes it. -/
theorem nbR_chain (f x : ℕ → ℝ) (e : ℕ) :
    let t : ℕ → ℝ := fun e => ((∑ e' : Fin 256, cenR f e' * x e') * (-(1 / 2) * (rstdR f * (1 / varR f))) * (1 / 256)) * (2 * cenR f e)
    x e * rstdR f + t e
      + ((∑ e' : Fin 256, -(x e' * rstdR f)) + ∑ e' : Fin 256, -t e') * (1 / 256) = nbR f x e := by
  intro t
  have ht : (∑ e' : Fin 256, -t e') = 0 := by
    have : ∀ e' : Fin 256, -t e' = (-(((∑ e' : Fin 256, cenR f e' * x e') * (-(1 / 2) * (rstdR f * (1 / varR f))) * (1 / 256)) * 2)) * cenR f e' :=
      fun e' => by simp only [t]; ring
    rw [Finset.sum_congr rfl fun e' _ => this e', ← Finset.mul_sum, sum_cenR, mul_zero]
  rw [ht, add_zero, Finset.sum_neg_distrib, ← Finset.sum_mul]
  unfold nbR
  have hm : meanR (fun e => x e * hnR f e) = (∑ e' : Fin 256, cenR f e' * x e') * rstdR f * (1 / 256) := by
    unfold meanR
    rw [Finset.sum_mul (s := Finset.univ) (f := fun e' : Fin 256 => cenR f e' * x e')]
    refine congrArg (· * _) (Finset.sum_congr rfl fun e' _ => ?_)
    unfold hnR; ring
  rw [hm]
  simp only [t, ← rstdR_sq]
  unfold meanR hnR
  ring

/-! ## The gradients -/

/-- The gradient of the normalised row, and of retention's own output. -/
def dnR (n h i e : ℕ) : ℝ :=
  y (n * 128 + i) (h * 256 + e) * (g (n * 128 + i) (h * 256 + e) * sigR (g (n * 128 + i) (h * 256 + e)))
def doR (n h i e : ℕ) : ℝ := nbR (fun e => oR a b n h i e) (fun e => dnR g y n h i e) e
def dgR (n h i e : ℕ) : ℝ :=
  y (n * 128 + i) (h * 256 + e) * hnR (fun e => oR a b n h i e) e
    * (sigR (g (n * 128 + i) (h * 256 + e))
      * (1 + g (n * 128 + i) (h * 256 + e) * (1 - sigR (g (n * 128 + i) (h * 256 + e)))))

/-- The gradient of the decayed scores, and of the state before chunk `n`. -/
def dsR (n h i j : ℕ) : ℝ := (∑ e : Fin 256, doR a b g y n h i e * VR b (n * 128 + j) h e) * dec (lg h) i j
def dSR (n h d e : ℕ) : ℝ := ∑ i : Fin 128, QR a (n * 128 + i) h d * qdR h i * doR a b g y n h i e

/-- How much of the gradient of the state before chunk `m` reaches the state behind chunk `n - 1`. -/
def lw (l : ℝ) (n m : ℕ) : ℝ := if n ≤ m then Real.exp (l * 128 * (m - n)) else 0

/-- The gradient of the state that chunk `n - 1` leaves: the later chunks' contributions, decayed. -/
def LR (n h d e : ℕ) : ℝ := ∑ m : Fin 64, lw (lg h) n m * dSR a b g y m h d e

theorem LR_end (h d e : ℕ) : LR a b g y 64 h d e = 0 := by
  unfold LR
  refine Finset.sum_eq_zero fun m _ => ?_
  have := m.isLt
  rw [lw, if_neg (by omega), zero_mul]

theorem LR_step (n : Fin 64) (h d e : ℕ) :
    LR a b g y n.val h d e = dSR a b g y n h d e + Real.exp (lg h * 128) * LR a b g y (n.val + 1) h d e := by
  unfold LR
  have hs : dSR a b g y n h d e = ∑ m : Fin 64, if m = n then dSR a b g y m h d e else 0 := by
    rw [Finset.sum_ite_eq' Finset.univ n]; simp
  rw [hs, Finset.mul_sum, ← Finset.sum_add_distrib]
  refine Finset.sum_congr rfl fun m _ => ?_
  unfold lw
  by_cases h1 : m = n
  · subst h1
    rw [if_pos le_rfl, if_pos rfl, if_neg (by omega)]; simp
  · have h1' : m.val ≠ n.val := fun e => h1 (Fin.ext e)
    rw [if_neg h1]
    by_cases h2 : n.val ≤ m.val
    · rw [if_pos h2, if_pos (by omega), zero_add, ← mul_assoc, ← Real.exp_add]
      congr 2; push_cast; ring
    · rw [if_neg h2, if_neg (by omega)]; simp

/-- The weight of a key of chunk `n` in the state before chunk `m`. -/
theorem wt_chunk (l : ℝ) (n m i : ℕ) (hi : i < 128) :
    wt l m (n * 128 + i) = Real.exp (l * (127 - i)) * lw l (n + 1) m := by
  unfold wt lw
  by_cases h : n + 1 ≤ m
  · rw [if_pos (by omega), if_pos h, ← Real.exp_add]
    congr 1; push_cast; ring
  · rw [if_neg (by omega), if_neg h, mul_zero]

def dqR (n h i d : ℕ) : ℝ :=
  (∑ j : Fin 128, dsR a b g y n h i j * KR a (n * 128 + j) h d)
    + (∑ e : Fin 256, doR a b g y n h i e * StR a b n h d e) * qdR h i
def dkR (n h j d : ℕ) : ℝ :=
  (∑ i : Fin 128, dsR a b g y n h i j * QR a (n * 128 + i) h d)
    + (∑ e : Fin 256, VR b (n * 128 + j) h e * LR a b g y (n + 1) h d e) * kdR h j
def dvR (n h j e : ℕ) : ℝ :=
  (∑ i : Fin 128, scR a n h i j * doR a b g y n h i e)
    + ∑ d : Fin 128, KR a (n * 128 + j) h d * kdR h j * LR a b g y (n + 1) h d e

/-- The key's gradient through the states, summed over the chunks behind it. -/
theorem dk_states (n h j d : ℕ) (hj : j < 128) :
    (∑ m : Fin 64, (∑ e : Fin 256, dSR a b g y m h d e * VR b (n * 128 + j) h e) * wt (lg h) m (n * 128 + j))
      = (∑ e : Fin 256, VR b (n * 128 + j) h e * LR a b g y (n + 1) h d e) * kdR h j := by
  unfold LR
  simp only [Finset.mul_sum, Finset.sum_mul]
  rw [Finset.sum_comm]
  refine Finset.sum_congr rfl fun e _ => Finset.sum_congr rfl fun m _ => ?_
  rw [wt_chunk _ _ _ _ hj]; unfold kdR; ring

/-- The value's gradient through the states. -/
theorem dv_states (n h j e : ℕ) (hj : j < 128) :
    (∑ m : Fin 64, ∑ d : Fin 128, dSR a b g y m h d e * (KR a (n * 128 + j) h d * wt (lg h) m (n * 128 + j)))
      = ∑ d : Fin 128, KR a (n * 128 + j) h d * kdR h j * LR a b g y (n + 1) h d e := by
  unfold LR
  simp only [Finset.mul_sum]
  rw [Finset.sum_comm]
  refine Finset.sum_congr rfl fun d _ => Finset.sum_congr rfl fun m _ => ?_
  rw [wt_chunk _ _ _ _ hj]; unfold kdR; ring

end Values

end Cert.Ret
-- ==== Proof.KBwd.lean ====
module

public import proofs.«01_k».proof.Proof.Gen.KernelbIdeal.Value
public import proofs.«01_k».proof.Proof.KFwd
public import proofs.«01_k».proof.Proof.BMath
public import Idealize.ShloMosaic.Lib.Pointwise
public import Idealize.ShloMosaic.Lib.Pipeline.ValueKit.Tiles

@[expose] public section

set_option maxRecDepth 16384

noncomputable section

/-! What one grid step of the backward kernel computes: two chunks of the sequence, the later one first, for each of the
four heads. -/

namespace Cert.KernelbIdeal.Bwd

open Cert.KernelbIdeal Cert.KernelbIdeal.Gen Idealize.ShloMosaic Idealize.ShloMosaic.TcCoe Cert.Ret
open Cert.KernelIdeal.Fwd (ld2 ld3 canon_hit canon_skip readCov_at rot_at)

/-! ## One chunk of one head -/

/-- The blocks a chunk's arithmetic reads: rows `n * 128 …` of head `h`, the tables, and what the forward pass saved. -/
structure Chunk (a b g y : ℕ → ℕ → ℝ) (n h : ℕ) (cs sn q k : Vec Ideal S128x128 .f32) (v : Vec Ideal S128x256 .bf16)
    (dc kd qd : Vec Ideal S1x128x128 .f32) (cd : Vec Ideal S1x1x1 .f32) (st : Vec Ideal S1x1x128x256 .f32)
    (o gt dy : Vec Ideal S128x256 .f32) : Prop where
  cs : ∀ i d : Fin 128, cs (ix2 i d) = if d.val < 64 then cosE (n * 128 + i.val) d.val else cosE (n * 128 + i.val) (d.val - 64)
  sn : ∀ i d : Fin 128, sn (ix2 i d) = if d.val < 64 then -sinE (n * 128 + i.val) d.val else sinE (n * 128 + i.val) (d.val - 64)
  q : ∀ i d : Fin 128, q (ix2 i d) = up a (n * 128 + i.val) (h * 128 + d.val)
  k : ∀ i d : Fin 128, k (ix2 i d) = up a (n * 128 + i.val) (512 + (h * 128 + d.val))
  v : ∀ (i : Fin 128) (e : Fin 256), v (ix2 i e) = (VR b (n * 128 + i.val) h e.val : EReal)
  dc : ∀ i j : Fin 128, dc (ix3 0 i j) = (dec (lg h) i.val j.val : EReal)
  kd : ∀ i d : Fin 128, kd (ix3 0 i d) = (kdR h i.val : EReal)
  qd : ∀ i d : Fin 128, qd (ix3 0 i d) = (qdR h i.val : EReal)
  cd : cd (ix3 0 0 0) = (Real.exp (lg h * 128) : EReal)
  st : ∀ (d : Fin 128) (e : Fin 256), st (ix4 0 0 d e) = (StR a b n h d.val e.val : EReal)
  o : ∀ (i : Fin 128) (e : Fin 256), o (ix2 i e) = (oR a b n h i.val e.val : EReal)
  gt : ∀ (i : Fin 128) (e : Fin 256), gt (ix2 i e) = (g (n * 128 + i.val) (h * 256 + e.val) : EReal)
  dy : ∀ (i : Fin 128) (e : Fin 256), dy (ix2 i e) = (y (n * 128 + i.val) (h * 256 + e.val) : EReal)

/-- The transposed rotation as the kernel writes it. -/
theorem unrot_at (x : ℕ → ℝ) (p : ℕ) (hp : p < 8192) (d : Fin 128) :
    (x d.val : EReal) * (if d.val < 64 then cosE p d.val else cosE p (d.val - 64))
      + (x ((d.val + 128 - 64) % 128) : EReal) * (if (d.val + 128 - 64) % 128 < 64 then -sinE p ((d.val + 128 - 64) % 128)
          else sinE p ((d.val + 128 - 64) % 128 - 64)) = (unrotR x p d.val : EReal) := by
  have hd := d.isLt
  unfold unrotR
  by_cases h : d.val < 64
  · rw [if_pos h, if_pos h, show (d.val + 128 - 64) % 128 = 64 + d.val by omega, if_neg (by omega),
      show 64 + d.val - 64 = d.val by omega, cosE_eq p d.val hp h, sinE_eq p d.val hp h]
    norm_cast
  · rw [if_neg h, if_neg h, show (d.val + 128 - 64) % 128 = d.val - 64 by omega, if_pos (by omega),
      cosE_eq p (d.val - 64) hp (by omega), sinE_eq p (d.val - 64) hp (by omega), ← EReal.coe_neg, ← EReal.coe_mul,
      ← EReal.coe_mul, ← EReal.coe_add, mul_neg, ← sub_eq_add_neg]

section
variable {a b g y : ℕ → ℕ → ℝ} {n h : ℕ} {cs sn q k : Vec Ideal S128x128 .f32} {v : Vec Ideal S128x256 .bf16}
    {dc kd qd : Vec Ideal S1x128x128 .f32} {cd : Vec Ideal S1x1x1 .f32} {st : Vec Ideal S1x1x128x256 .f32}
    {o gt dy : Vec Ideal S128x256 .f32} (C : Chunk a b g y n h cs sn q k v dc kd qd cd st o gt dy)
include C

theorem Chunk.norm_at (i : Fin 128) (e : Fin 256) : k0_pay20 o (ix2 i e) = (hnR (fun e => oR a b n h i.val e) e.val : EReal) ∧
    k0_pay19 o (ix2 i 0) = (rstdR (fun e => oR a b n h i.val e) : EReal) := by
  have hc : ∀ (e : Fin 256), k0_pay18 o (ix2 i e) = (cenR (fun e => oR a b n h i.val e) e.val : EReal) := fun e => by
    pointwise [k0_pay18]
    simp only [C.o]
    exact cen_eq (fun e => oR a b n h i.val e) e.val
  have hr : k0_pay19 o (ix2 i 0) = (rstdR (fun e => oR a b n h i.val e) : EReal) := by
    pointwise [k0_pay19]
    simp only [hc, ← EReal.coe_mul, ← coe_sum, div_256, lit_eps, ← EReal.coe_add]
    exact rsqrt_pos _ (varR_pos (fun e => oR a b n h i.val e))
  refine ⟨?_, hr⟩
  pointwise [k0_pay20]
  rw [hc, hr, ← EReal.coe_mul]
  rfl

theorem Chunk.dn_at (i : Fin 128) (e : Fin 256) : k0_pay22 gt dy (ix2 i e) = (dnR g y n h i.val e.val : EReal) := by
  pointwise [k0_pay22, k0_pay17]
  simp only [C.gt, C.dy, Ideal.logistic_coe, ← EReal.coe_mul]
  rfl

theorem Chunk.dg_at (i : Fin 128) (e : Fin 256) : k0_pay21 gt o dy (ix2 i e) = (dgR a b g y n h i.val e.val : EReal) := by
  pointwise [k0_pay21, k0_pay17]
  simp only [C.gt, C.dy, (C.norm_at i e).1, Ideal.logistic_coe, one_coe, ← EReal.coe_mul, ← EReal.coe_sub, ← EReal.coe_add]
  rfl

theorem Chunk.do_at (i : Fin 128) (e : Fin 256) :
    k0_pay23 (k0_pay19 o) (k0_pay20 o) (k0_pay22 gt dy) (ix2 i e) = (doR a b g y n h i.val e.val : EReal) := by
  have h1 : ∀ e : Fin 256, k0_pay20 o (ix2 i e) = _ := fun e => (C.norm_at i e).1
  pointwise [k0_pay23]
  simp only [h1, (C.norm_at i 0).2, C.dn_at, ← EReal.coe_mul, ← coe_sum, div_256, ← EReal.coe_sub]
  rfl

variable (hn : n < 64) (hh : h < 4)
include hn

theorem Chunk.q_at (i d : Fin 128) : k0_pay8 cs sn q (ix2 i d) = (QR a (n * 128 + i.val) h d.val : EReal) := by
  rw [← Qs_eq a _ h d.val (by omega) d.isLt]
  pointwise [k0_pay8, k0_pay6, k0_pay7]
  rw [C.cs, C.sn, C.q, C.q]
  exact congrArg (· * _) (rot_at (fun d => up a (n * 128 + i.val) (h * 128 + d)) (n * 128 + i.val) d)

theorem Chunk.k_at (i d : Fin 128) : k0_pay9 cs sn k (ix2 i d) = (KR a (n * 128 + i.val) h d.val : EReal) := by
  rw [← Ks_eq a _ h d.val (by omega) d.isLt]
  pointwise [k0_pay9, k0_pay6, k0_pay7]
  rw [C.cs, C.sn, C.k, C.k]
  exact rot_at (fun d => up a (n * 128 + i.val) (512 + (h * 128 + d))) (n * 128 + i.val) d

omit hn in
theorem Chunk.ds_at (i j : Fin 128) :
    k0_pay26 v (k0_pay10 dc) (k0_pay19 o) (k0_pay20 o) (k0_pay22 gt dy) (ix2 i j) = (dsR a b g y n h i.val j.val : EReal) := by
  pointwise [k0_pay26, k0_pay10]
  simp only [C.do_at, C.v, C.dc, ← EReal.coe_mul, ← coe_sum]
  rfl

theorem Chunk.dqh_at (i d : Fin 128) :
    k0_pay27 (k0_pay9 cs sn k) v (k0_pay10 dc) (k0_pay12 qd) (k0_pay14 st) (k0_pay19 o) (k0_pay20 o) (k0_pay22 gt dy) (ix2 i d)
      = (dqR a b g y n h i.val d.val : EReal) := by
  pointwise [k0_pay27, k0_pay12, k0_pay14, k0_pay25]
  simp only [C.do_at, C.ds_at, C.k_at hn, C.st, C.qd, ← EReal.coe_mul, ← coe_sum, ← EReal.coe_add]
  rfl

theorem Chunk.dq_at (i d : Fin 128) :
    k0_pay32 (k0_pay6 cs) (k0_pay7 sn) (k0_pay27 (k0_pay9 cs sn k) v (k0_pay10 dc) (k0_pay12 qd) (k0_pay14 st) (k0_pay19 o)
      (k0_pay20 o) (k0_pay22 gt dy)) (ix2 i d)
      = (unrotR (fun d => dqR a b g y n h i.val d * scaleR) (n * 128 + i.val) d.val : EReal) := by
  pointwise [k0_pay32, k0_pay6, k0_pay7]
  simp only [C.dqh_at hn, C.cs, C.sn, lit_scale, ← EReal.coe_mul]
  exact unrot_at (fun d => dqR a b g y n h i.val d * scaleR) (n * 128 + i.val) (by omega) d

variable {pv : Vec Ideal S1x128x256 .f32}
    (hp : ∀ (d : Fin 128) (e : Fin 256), pv (ix3 0 d e) = (LR a b g y (n + 1) h d.val e.val : EReal))
include hp

theorem Chunk.dkh_at (i d : Fin 128) :
    k0_pay28 (k0_pay8 cs sn q) v (k0_pay10 dc) (k0_pay11 kd) (k0_pay16 pv) (k0_pay19 o) (k0_pay20 o) (k0_pay22 gt dy) (ix2 i d)
      = (dkR a b g y n h i.val d.val : EReal) := by
  pointwise [k0_pay28, k0_pay11, k0_pay16, k0_pay15, k0_pay24]
  simp only [C.ds_at, C.q_at hn, C.v, hp, C.kd, ← EReal.coe_mul, ← coe_sum, ← EReal.coe_add]
  rfl

theorem Chunk.dk_at (i d : Fin 128) :
    k0_pay33 (k0_pay6 cs) (k0_pay7 sn) (k0_pay28 (k0_pay8 cs sn q) v (k0_pay10 dc) (k0_pay11 kd) (k0_pay16 pv) (k0_pay19 o)
      (k0_pay20 o) (k0_pay22 gt dy)) (ix2 i d)
      = (unrotR (fun d => dkR a b g y n h i.val d) (n * 128 + i.val) d.val : EReal) := by
  pointwise [k0_pay33, k0_pay6, k0_pay7]
  simp only [C.dkh_at hn hp, C.cs, C.sn]
  exact unrot_at (fun d => dkR a b g y n h i.val d) (n * 128 + i.val) (by omega) d

theorem Chunk.dv_at (i : Fin 128) (e : Fin 256) :
    k0_pay34 (k0_pay29 (k0_pay8 cs sn q) (k0_pay9 cs sn k) (k0_pay10 dc) (k0_pay11 kd) (k0_pay16 pv) (k0_pay19 o) (k0_pay20 o)
      (k0_pay22 gt dy)) (ix2 i e) = (dvR a b g y n h i.val e.val : EReal) := by
  pointwise [k0_pay34, k0_pay29, k0_pay10, k0_pay11, k0_pay16, k0_pay15, k0_pay24, k0_pay25]
  simp only [C.do_at, C.q_at hn, C.k_at hn, C.dc, hp, C.kd, ← EReal.coe_mul, ← coe_sum, ← EReal.coe_add]
  rfl

theorem Chunk.next_at (d : Fin 128) (e : Fin 256) :
    k0_pay31 (k0_pay30 (k0_pay8 cs sn q) (k0_pay12 qd) (k0_pay13 cd) (k0_pay15 pv) (k0_pay19 o) (k0_pay20 o) (k0_pay22 gt dy))
      (ix3 0 d e) = (LR a b g y n h d.val e.val : EReal) := by
  pointwise [k0_pay31, k0_pay30, k0_pay12, k0_pay13, k0_pay15]
  simp only [C.do_at, C.q_at hn, C.qd, C.cd, hp, ← EReal.coe_mul, ← coe_sum, ← EReal.coe_add]
  rw [LR_step a b g y ⟨n, hn⟩ h d.val e.val]
  rfl
end

/-! ## The blocks of a grid step -/

/-- The windows' blocks at the grid step of block `t`. -/
structure Blk (a b g y : ℕ → ℕ → ℝ) (t : ℕ) (x0 x1 : Vec Ideal S256x1024 .f32) (x2 : Vec Ideal S4x2x128x256 .f32)
    (x3 x4 : Vec Ideal S256x512 .f32) (x5 : Vec Ideal S256x1024 .bf16) (x6 : Vec Ideal S256x1024 .f32)
    (x7 x8 : Vec Ideal S256x128 .f32) (x9 x10 x11 : Vec Ideal S4x128x128 .f32) (x12 : Vec Ideal S4x8x128 .f32) : Prop where
  dy : ∀ (r : Fin 256) (s : Fin 1024), x0 (ix2 r s) = up y (t * 256 + r.val) s.val
  o : ∀ (c : Fin 2) (h : Fin 4) (i : Fin 128) (e : Fin 256) (r : Fin 256) (s : Fin 1024), r.val = 128 * c.val + i.val →
    s.val = 256 * h.val + e.val → x1 (ix2 r s) = (oR a b (t * 2 + c.val) h.val i.val e.val : EReal)
  st : ∀ (h : Fin 4) (c : Fin 2) (d : Fin 128) (e : Fin 256), x2 (ix4 h c d e) = (StR a b (t * 2 + c.val) h.val d.val e.val : EReal)
  q : ∀ (r : Fin 256) (s : Fin 512), x3 (ix2 r s) = up a (t * 256 + r.val) s.val
  k : ∀ (r : Fin 256) (s : Fin 512), x4 (ix2 r s) = up a (t * 256 + r.val) (512 + s.val)
  v : ∀ (r : Fin 256) (s : Fin 1024), x5 (ix2 r s) = up b (t * 256 + r.val) s.val
  g : ∀ (r : Fin 256) (s : Fin 1024), x6 (ix2 r s) = up g (t * 256 + r.val) s.val
  cs : ∀ (r : Fin 256) (d : Fin 128), x7 (ix2 r d)
    = if d.val < 64 then cosE (t * 256 + r.val) d.val else cosE (t * 256 + r.val) (d.val - 64)
  sn : ∀ (r : Fin 256) (d : Fin 128), x8 (ix2 r d)
    = if d.val < 64 then -sinE (t * 256 + r.val) d.val else sinE (t * 256 + r.val) (d.val - 64)
  dc : ∀ (h : Fin 4) (i j : Fin 128), x9 (ix3 h i j) = decE h.val i.val j.val
  kd : ∀ (h : Fin 4) (i j : Fin 128), x10 (ix3 h i j) = kdE h.val i.val
  qd : ∀ (h : Fin 4) (i j : Fin 128), x11 (ix3 h i j) = qdE h.val i.val
  cd : ∀ (h : Fin 4), x12 (ix3 h 0 0) = cdE h.val

theorem ld4 {k n m n' m' l : ℕ} {e : EltTy} (X : Vec Ideal ⟨4, ![k, l, n, m]⟩ e) (h c : ℕ)
    (inb : ∀ a, (![h, c, 0, 0] : Fin 4 → ℕ) a + (⟨4, ![1, 1, n', m']⟩ : Shape).size a ≤ (⟨4, ![k, l, n, m]⟩ : Shape).size a)
    (i : Fin n') (d : Fin m') (hh : h < k) (hc : c < l) (hr : i.val < n) (hs : d.val < m) :
    View.ld X (Rect.unit ![h, c, 0, 0] (⟨4, ![1, 1, n', m']⟩ : Shape).size inb) (ix4 0 0 i d)
      = X (ix4 ⟨h, hh⟩ ⟨c, hc⟩ ⟨i.val, hr⟩ ⟨d.val, hs⟩) :=
  View.ld_unit_apply_of X _ _ inb _ _ (by
    intro a; fin_cases a
    · rfl
    · rfl
    · exact (Nat.zero_add _).symm
    · exact (Nat.zero_add _).symm)

section
variable {a b g y : ℕ → ℕ → ℝ} {t : ℕ} {x0 x1 : Vec Ideal S256x1024 .f32} {x2 : Vec Ideal S4x2x128x256 .f32}
    {x3 x4 : Vec Ideal S256x512 .f32} {x5 : Vec Ideal S256x1024 .bf16} {x6 : Vec Ideal S256x1024 .f32}
    {x7 x8 : Vec Ideal S256x128 .f32} {x9 x10 x11 : Vec Ideal S4x128x128 .f32} {x12 : Vec Ideal S4x8x128 .f32}
    (B : Blk a b g y t x0 x1 x2 x3 x4 x5 x6 x7 x8 x9 x10 x11 x12)
include B

/-- Chunk `c` of the step's two, for head `h`. -/
theorem Blk.chunk (c h : ℕ) (hc : c < 2) (hh : h < 4) (r : ℕ) (hr : r = 128 * c) (u : ℕ) (hu : u = 128 * h) (w : ℕ) (hw : w = 256 * h)
    (i1 i2 i3 i4 i5 i6 i7 i8 i9 i10 i11 i12 i13) :
    Chunk a b g y (t * 2 + c) h (View.ld x7 (Rect.unit ![r, 0] S128x128.size i1)) (View.ld x8 (Rect.unit ![r, 0] S128x128.size i2))
      (View.ld x3 (Rect.unit ![r, u] S128x128.size i3)) (View.ld x4 (Rect.unit ![r, u] S128x128.size i4))
      (View.ld x5 (Rect.unit ![r, w] S128x256.size i5)) (View.ld x9 (Rect.unit ![h, 0, 0] S1x128x128.size i6))
      (View.ld x10 (Rect.unit ![h, 0, 0] S1x128x128.size i7)) (View.ld x11 (Rect.unit ![h, 0, 0] S1x128x128.size i8))
      (View.ld x12 (Rect.unit ![h, 0, 0] S1x1x1.size i9)) (View.ld x2 (Rect.unit ![h, c, 0, 0] S1x1x128x256.size i10))
      (View.ld x1 (Rect.unit ![r, w] S128x256.size i11)) (View.ld x6 (Rect.unit ![r, w] S128x256.size i12))
      (View.ld x0 (Rect.unit ![r, w] S128x256.size i13)) := by
  subst hr hu hw
  have row : ∀ i : ℕ, t * 256 + (128 * c + i) = (t * 2 + c) * 128 + i := fun i => by ring
  constructor
  · intro i d
    refine (ld2 x7 _ _ i1 i d (by omega) (by omega)).trans ((B.cs _ _).trans ?_)
    simp only [row, Nat.zero_add]
  · intro i d
    refine (ld2 x8 _ _ i2 i d (by omega) (by omega)).trans ((B.sn _ _).trans ?_)
    simp only [row, Nat.zero_add]
  · intro i d
    refine (ld2 x3 _ _ i3 i d (by omega) (by omega)).trans ((B.q _ _).trans ?_)
    simp only [row, mul_comm 128 h]
  · intro i d
    refine (ld2 x4 _ _ i4 i d (by omega) (by omega)).trans ((B.k _ _).trans ?_)
    simp only [row, mul_comm 128 h]
  · intro i d
    refine (ld2 x5 _ _ i5 i d (by omega) (by omega)).trans ((B.v _ _).trans ?_)
    simp only [row, mul_comm 256 h]
    rfl
  · intro i d
    exact (ld3 x9 _ i6 i d hh (by omega) (by omega)).trans ((B.dc ⟨h, hh⟩ i d).trans (decE_eq h i.val d.val hh i.isLt d.isLt))
  · intro i d
    exact (ld3 x10 _ i7 i d hh (by omega) (by omega)).trans ((B.kd ⟨h, hh⟩ i d).trans (kdE_eq h i.val hh i.isLt))
  · intro i d
    exact (ld3 x11 _ i8 i d hh (by omega) (by omega)).trans ((B.qd ⟨h, hh⟩ i d).trans (qdE_eq h i.val hh i.isLt))
  · exact (ld3 x12 _ i9 0 0 hh (by omega) (by omega)).trans ((B.cd ⟨h, hh⟩).trans (cdE_eq h hh))
  · intro d e
    exact (ld4 x2 _ _ i10 d e hh hc (by omega) (by omega)).trans (B.st ⟨h, hh⟩ ⟨c, hc⟩ d e)
  · intro i e
    exact (ld2 x1 _ _ i11 i e (by omega) (by omega)).trans (B.o ⟨c, hc⟩ ⟨h, hh⟩ i e _ _ rfl rfl)
  · intro i d
    refine (ld2 x6 _ _ i12 i d (by omega) (by omega)).trans ((B.g _ _).trans ?_)
    simp only [row, mul_comm 256 h]
  · intro i d
    refine (ld2 x0 _ _ i13 i d (by omega) (by omega)).trans ((B.dy _ _).trans ?_)
    simp only [row, mul_comm 256 h]

/-- The same for the blocks as the body loads them. -/
theorem Blk.chunkR {arg1 : Memref sig .tc .vmem S256x1024 .f32} (harg1 : arg1.IsWhole) {arg2 : Memref sig .tc .vmem S256x1024 .f32} (harg2 : arg2.IsWhole)
    {arg3 : Memref sig .tc .vmem S4x2x128x256 .f32} (harg3 : arg3.IsWhole) {arg4 : Memref sig .tc .vmem S256x512 .f32} (harg4 : arg4.IsWhole)
    {arg5 : Memref sig .tc .vmem S256x512 .f32} (harg5 : arg5.IsWhole) {arg6 : Memref sig .tc .vmem S256x1024 .bf16} (harg6 : arg6.IsWhole)
    {arg7 : Memref sig .tc .vmem S256x1024 .f32} (harg7 : arg7.IsWhole) {arg8 : Memref sig .tc .vmem S256x128 .f32} (harg8 : arg8.IsWhole)
    {arg9 : Memref sig .tc .vmem S256x128 .f32} (harg9 : arg9.IsWhole) {arg10 : Memref sig .tc .vmem S4x128x128 .f32} (harg10 : arg10.IsWhole)
    {arg11 : Memref sig .tc .vmem S4x128x128 .f32} (harg11 : arg11.IsWhole) {arg12 : Memref sig .tc .vmem S4x128x128 .f32} (harg12 : arg12.IsWhole)
    {arg13 : Memref sig .tc .vmem S4x8x128 .f32} (harg13 : arg13.IsWhole)
    (c h : ℕ) (hc : c < 2) (hh : h < 4) (r : ℕ) (hr : r = 128 * c) (u : ℕ) (hu : u = 128 * h) (w : ℕ) (hw : w = 256 * h)
    (i1 i2 i3 i4 i5 i6 i7 i8 i9 i10 i11 i12 i13) :
    Chunk a b g y (t * 2 + c) h
      (View.readAt (Elt Ideal) arg8.view (Rect.unit (s := S256x128) ![r, 0] S128x128.size i1).toLoadRect (harg8.unread x7))
      (View.readAt (Elt Ideal) arg9.view (Rect.unit (s := S256x128) ![r, 0] S128x128.size i2).toLoadRect (harg9.unread x8))
      (View.readAt (Elt Ideal) arg4.view (Rect.unit (s := S256x512) ![r, u] S128x128.size i3).toLoadRect (harg4.unread x3))
      (View.readAt (Elt Ideal) arg5.view (Rect.unit (s := S256x512) ![r, u] S128x128.size i4).toLoadRect (harg5.unread x4))
      (View.readAt (Elt Ideal) arg6.view (Rect.unit (s := S256x1024) ![r, w] S128x256.size i5).toLoadRect (harg6.unread x5))
      (View.readAt (Elt Ideal) arg10.view (Rect.unit (s := S4x128x128) ![h, 0, 0] S1x128x128.size i6).toLoadRect (harg10.unread x9))
      (View.readAt (Elt Ideal) arg11.view (Rect.unit (s := S4x128x128) ![h, 0, 0] S1x128x128.size i7).toLoadRect (harg11.unread x10))
      (View.readAt (Elt Ideal) arg12.view (Rect.unit (s := S4x128x128) ![h, 0, 0] S1x128x128.size i8).toLoadRect (harg12.unread x11))
      (View.readAt (Elt Ideal) arg13.view (Rect.unit (s := S4x8x128) ![h, 0, 0] S1x1x1.size i9).toLoadRect (harg13.unread x12))
      (View.readAt (Elt Ideal) arg3.view (Rect.unit (s := S4x2x128x256) ![h, c, 0, 0] S1x1x128x256.size i10).toLoadRect (harg3.unread x2))
      (View.readAt (Elt Ideal) arg2.view (Rect.unit (s := S256x1024) ![r, w] S128x256.size i11).toLoadRect (harg2.unread x1))
      (View.readAt (Elt Ideal) arg7.view (Rect.unit (s := S256x1024) ![r, w] S128x256.size i12).toLoadRect (harg7.unread x6))
      (View.readAt (Elt Ideal) arg1.view (Rect.unit (s := S256x1024) ![r, w] S128x256.size i13).toLoadRect (harg1.unread x0)) := by
  simp only [View.readAt_eq_ld, Memref.IsWhole.read_unread]
  exact B.chunk c h hc hh r hr u hu w hw i1 i2 i3 i4 i5 i6 i7 i8 i9 i10 i11 i12 i13
end

/-! ## The pieces of a step's outputs -/

/-- A step's block of a value given chunk by chunk and head by head, `w` columns to a head. -/
def spread (w m : ℕ) (G : ℕ → ℕ → ℕ → ℕ → ℝ) (t : ℕ) (y : (⟨2, ![256, m]⟩ : Shape).Idx) : EReal :=
  (G (t * 2 + (y 0).val / 128) ((y 1).val / w) ((y 0).val % 128) ((y 1).val % w) : EReal)

theorem rows_piece (w m : ℕ) (G : ℕ → ℕ → ℕ → ℕ → ℝ) (t c h : ℕ) (r : ℕ) (hr : r = 128 * c) (s : ℕ) (hs : s = w * h)
    (inb : ∀ a, (![r, s] : Fin 2 → ℕ) a + (⟨2, ![128, w]⟩ : Shape).size a ≤ (⟨2, ![256, m]⟩ : Shape).size a)
    (P : (⟨2, ![128, w]⟩ : Shape).Idx → EReal)
    (H : ∀ (i : Fin 128) (e : Fin w), P (ix2 i e) = (G (t * 2 + c) h i.val e.val : EReal)) (x : (⟨2, ![128, w]⟩ : Shape).Idx) :
    P x = spread w m G t ((Rect.unit (s := (⟨2, ![256, m]⟩ : Shape)) ![r, s] (⟨2, ![128, w]⟩ : Shape).size inb).emb x) := by
  subst hr hs
  obtain ⟨i, e, rfl⟩ : ∃ (i : Fin 128) (e : Fin w), x = ix2 i e := ⟨x 0, x 1, by funext a; fin_cases a <;> rfl⟩
  rw [H]
  have hw := e.isLt
  have h0 : (((Rect.unit (s := (⟨2, ![256, m]⟩ : Shape)) ![128 * c, w * h] (⟨2, ![128, w]⟩ : Shape).size inb).emb (ix2 i e)) 0).val = 128 * c + i.val := by
    rw [Rect.emb_apply]; show 128 * c + 1 * i.val = _; omega
  have h1 : (((Rect.unit (s := (⟨2, ![256, m]⟩ : Shape)) ![128 * c, w * h] (⟨2, ![128, w]⟩ : Shape).size inb).emb (ix2 i e)) 1).val = w * h + e.val := by
    rw [Rect.emb_apply]; show w * h + 1 * e.val = _; omega
  unfold spread
  rw [h0, h1, show (128 * c + i.val) / 128 = c by omega, show (128 * c + i.val) % 128 = i.val by omega,
    Nat.mul_add_div (by omega), Nat.div_eq_of_lt hw, Nat.add_zero, Nat.mul_add_mod, Nat.mod_eq_of_lt hw]

theorem canon_zero (L : List (View.Piece (Elt Ideal) S4x128x256 .f32)) (inb) (y : S4x128x256.Idx) :
    View.canon (⟨Rect.unit (s := S4x128x256) ![0, 0, 0] S4x128x256.size inb, (k0_pay5 (F := Ideal) : Vec Ideal S4x128x256 .f32)⟩ :: L) y
      = ((0 : ℝ) : EReal) := by
  have : y = (Rect.unit (s := S4x128x256) ![0, 0, 0] S4x128x256.size inb).emb y := by
    funext a; apply Fin.ext
    rw [Rect.emb_apply]
    fin_cases a
    · show (y 0).val = 0 + 1 * (y 0).val; omega
    · show (y 1).val = 0 + 1 * (y 1).val; omega
    · show (y 2).val = 0 + 1 * (y 2).val; omega
  rw [this, View.canon_cons_emb]
  obtain ⟨h, d, e, rfl⟩ : ∃ h d e, y = ix3 h d e := ⟨y 0, y 1, y 2, by funext a; fin_cases a <;> rfl⟩
  pointwise [k0_pay5]
  rfl

/-- The four gradients, chunk by chunk and head by head. -/
def gq (a b g y : ℕ → ℕ → ℝ) (n h i d : ℕ) : ℝ := unrotR (fun d => dqR a b g y n h i d * scaleR) (n * 128 + i) d
def gk (a b g y : ℕ → ℕ → ℝ) (n h i d : ℕ) : ℝ := unrotR (fun d => dkR a b g y n h i d) (n * 128 + i) d

end Cert.KernelbIdeal.Bwd
-- ==== Proof.KBwdTab.lean ====
module

public import proofs.«01_k».proof.Proof.KBwd
public import proofs.«01_k».proof.Proof.RefFwd
public import Idealize.ShloMosaic.Lib.Claim
public import Idealize.ShloMosaic.Lib.StableHlo.ReadAt

@[expose] public section

set_option maxRecDepth 16384

noncomputable section

/-! What the host prepares for the backward kernel: the forward pass's output before the norm, its states, and the tables. -/

namespace Cert.KernelbIdeal.Bwd

open Cert.KernelbIdeal Cert.KernelbIdeal.Gen Idealize.ShloMosaic Idealize.ShloMosaic.TcCoe Cert.Ret

variable (m : (ℓ : Loc nD τ sig) → Buf (Elt Ideal) ℓ) (c : Dev nD)

/-! ## The forward pass's lines -/

theorem host_o : V m c main_v149 = Cert.ReferenceIdeal.Read.val_main_v172 (F := Ideal)
    (m ((c : Thread nD τ).loc main_arg1)) (m ((c : Thread nD τ).loc main_arg2)) := by
  simp only [V, hostOps0, hostOps0_1, hostOps0_2, hostOps0_3, hostOps0_4, hostOps0_5, hostOps0_6, List.flatten_cons, List.flatten_nil, List.append_nil, List.cons_append, List.nil_append]
  after_reads_simp
  rfl

theorem host_st : V m c main_v151 = Cert.ReferenceIdeal.Read.val_main_v174 (F := Ideal)
    (m ((c : Thread nD τ).loc main_arg1)) (m ((c : Thread nD τ).loc main_arg2)) := by
  simp only [V, hostOps0, hostOps0_1, hostOps0_2, hostOps0_3, hostOps0_4, hostOps0_5, hostOps0_6, List.flatten_cons, List.flatten_nil, List.append_nil, List.cons_append, List.nil_append]
  after_reads_simp
  rfl

/-! ## The tables -/

theorem tab_cs (p : Fin 8192) (d : Fin 128) :
    V m c main_v167 (ix2 p d) = if d.val < 64 then cosE p.val d.val else cosE p.val (d.val - 64) := by
  simp only [V, hostOps0, hostOps0_1, hostOps0_2, hostOps0_3, hostOps0_4, hostOps0_5, hostOps0_6, List.flatten_cons, List.flatten_nil, List.append_nil, List.cons_append, List.nil_append]
  after_reads_at
  rfl

theorem tab_sn (p : Fin 8192) (d : Fin 128) :
    V m c main_v169 (ix2 p d) = if d.val < 64 then -sinE p.val d.val else sinE p.val (d.val - 64) := by
  simp only [V, hostOps0, hostOps0_1, hostOps0_2, hostOps0_3, hostOps0_4, hostOps0_5, hostOps0_6, List.flatten_cons, List.flatten_nil, List.append_nil, List.cons_append, List.nil_append]
  after_reads_at
  rfl

theorem tab_dc (h : Fin 4) (i j : Fin 128) : V m c main_v195 (ix3 h i j) = decE h.val i.val j.val := by
  simp only [V, hostOps0, hostOps0_1, hostOps0_2, hostOps0_3, hostOps0_4, hostOps0_5, hostOps0_6, List.flatten_cons, List.flatten_nil, List.append_nil, List.cons_append, List.nil_append]
  after_reads_at
  pointwise [id_eq]
  rfl

theorem tab_kd (h : Fin 4) (i j : Fin 128) : V m c main_v217 (ix3 h i j) = kdE h.val i.val := by
  simp only [V, hostOps0, hostOps0_1, hostOps0_2, hostOps0_3, hostOps0_4, hostOps0_5, hostOps0_6, List.flatten_cons, List.flatten_nil, List.append_nil, List.cons_append, List.nil_append]
  after_reads_at
  rfl

theorem tab_qd (h : Fin 4) (i j : Fin 128) : V m c main_v220 (ix3 h i j) = qdE h.val i.val := by
  simp only [V, hostOps0, hostOps0_1, hostOps0_2, hostOps0_3, hostOps0_4, hostOps0_5, hostOps0_6, List.flatten_cons, List.flatten_nil, List.append_nil, List.cons_append, List.nil_append]
  after_reads_at
  rfl

theorem tab_cd (h : Fin 4) (i : Fin 8) (j : Fin 128) : V m c main_v222 (ix3 h i j) = cdE h.val := by
  simp only [V, hostOps0, hostOps0_1, hostOps0_2, hostOps0_3, hostOps0_4, hostOps0_5, hostOps0_6, List.flatten_cons, List.flatten_nil, List.append_nil, List.cons_append, List.nil_append]
  after_reads_at
  rfl

end Cert.KernelbIdeal.Bwd
-- ==== Proof.KBwdBlk.lean ====
module

public import proofs.«01_k».proof.Proof.KBwdTab
public import Idealize.ShloMosaic.Lib.Pipeline.ValueKit.Point

@[expose] public section

set_option maxRecDepth 16384

noncomputable section

/-! The blocks that a grid step of the backward kernel reads: pieces of the arguments, of the forward pass's values and of the tables. -/

namespace Cert.KernelbIdeal.Bwd

open Cert.KernelbIdeal Cert.KernelbIdeal.Gen Idealize.ShloMosaic Idealize.ShloMosaic.TcCoe Cert.Ret

/-- The block index of every input window at every grid point: the rows are taken from the last to the first. -/
theorem win_index : ∀ t : Fin cfg0.N,
    win0_0.index t = ![31 - t.val, 0] ∧ win0_1.index t = ![31 - t.val, 0] ∧ win0_2.index t = ![0, 31 - t.val, 0, 0] ∧
    win0_3.index t = ![31 - t.val, 0] ∧ win0_4.index t = ![31 - t.val, 1] ∧ win0_5.index t = ![31 - t.val, 0] ∧
    win0_6.index t = ![31 - t.val, 0] ∧ win0_7.index t = ![31 - t.val, 0] ∧ win0_8.index t = ![31 - t.val, 0] ∧
    win0_9.index t = ![0, 0, 0] ∧ win0_10.index t = ![0, 0, 0] ∧ win0_11.index t = ![0, 0, 0] ∧
    win0_12.index t = ![0, 0, 0] := by decide +kernel

variable (m : (ℓ : Loc nD τ sig) → Buf (Elt Ideal) ℓ) (c : Dev nD)

theorem cell_lt (t : Fin cfg0.N) (r : Fin 256) : (31 - t.val) * 256 + r.val < 8192 := by omega

/-! ## The arguments' blocks -/

theorem blk_dy (t : Fin cfg0.N) (r : Fin 256) (s : Fin 1024) :
    iblk m c 0 t (ix2 r s) = at2 (m ((c : Thread nD τ).loc main_arg0)) ((31 - t.val) * 256 + r.val) s.val := by
  have e := win_index t
  refine Eq.trans ?_ (at2_ix (n := 8192) (m := 1024) (m ((c : Thread nD τ).loc main_arg0)) ⟨(31 - t.val) * 256 + r.val, cell_lt t r⟩ s)
  blk_ext [iblk, V, e]

theorem blk_q (t : Fin cfg0.N) (r : Fin 256) (s : Fin 512) :
    iblk m c 3 t (ix2 r s) = at2 (m ((c : Thread nD τ).loc main_arg1)) ((31 - t.val) * 256 + r.val) s.val := by
  have e := win_index t
  refine Eq.trans ?_ (at2_ix (n := 8192) (m := 1024) (m ((c : Thread nD τ).loc main_arg1)) ⟨(31 - t.val) * 256 + r.val, cell_lt t r⟩ ⟨s.val, by omega⟩)
  blk_ext [iblk, V, e]

theorem blk_k (t : Fin cfg0.N) (r : Fin 256) (s : Fin 512) :
    iblk m c 4 t (ix2 r s) = at2 (m ((c : Thread nD τ).loc main_arg1)) ((31 - t.val) * 256 + r.val) (512 + s.val) := by
  have e := win_index t
  refine Eq.trans ?_ (at2_ix (n := 8192) (m := 1024) (m ((c : Thread nD τ).loc main_arg1)) ⟨(31 - t.val) * 256 + r.val, cell_lt t r⟩ ⟨512 + s.val, by omega⟩)
  blk_ext [iblk, V, e]

theorem blk_v (t : Fin cfg0.N) (r : Fin 256) (s : Fin 1024) :
    iblk m c 5 t (ix2 r s) = at2 (m ((c : Thread nD τ).loc main_arg2)) ((31 - t.val) * 256 + r.val) s.val := by
  have e := win_index t
  refine Eq.trans ?_ (at2_ix (n := 8192) (m := 1024) (m ((c : Thread nD τ).loc main_arg2)) ⟨(31 - t.val) * 256 + r.val, cell_lt t r⟩ s)
  blk_ext [iblk, V, e]

theorem blk_g (t : Fin cfg0.N) (r : Fin 256) (s : Fin 1024) :
    iblk m c 6 t (ix2 r s) = at2 (m ((c : Thread nD τ).loc main_arg3)) ((31 - t.val) * 256 + r.val) s.val := by
  have e := win_index t
  refine Eq.trans ?_ (at2_ix (n := 8192) (m := 1024) (m ((c : Thread nD τ).loc main_arg3)) ⟨(31 - t.val) * 256 + r.val, cell_lt t r⟩ s)
  blk_ext [iblk, V, e]

/-! ## The blocks of what the host prepares -/

theorem blk_o (t : Fin cfg0.N) (r : Fin 256) (s : Fin 1024) :
    iblk m c 1 t (ix2 r s) = V m c main_v149 (ix2 ⟨(31 - t.val) * 256 + r.val, cell_lt t r⟩ s) := by
  have e := win_index t
  blk_ext [iblk, e]

theorem blk_st (t : Fin cfg0.N) (h : Fin 4) (k : Fin 2) (d : Fin 128) (s : Fin 256) :
    iblk m c 2 t (ix4 h k d s) = V m c main_v151 (ix4 h ⟨(31 - t.val) * 2 + k.val, by omega⟩ d s) := by
  have e := win_index t
  blk_ext [iblk, e]

theorem blk_cs (t : Fin cfg0.N) (r : Fin 256) (d : Fin 128) :
    iblk m c 7 t (ix2 r d) = V m c main_v167 (ix2 ⟨(31 - t.val) * 256 + r.val, cell_lt t r⟩ d) := by
  have e := win_index t
  blk_ext [iblk, e]

theorem blk_sn (t : Fin cfg0.N) (r : Fin 256) (d : Fin 128) :
    iblk m c 8 t (ix2 r d) = V m c main_v169 (ix2 ⟨(31 - t.val) * 256 + r.val, cell_lt t r⟩ d) := by
  have e := win_index t
  blk_ext [iblk, e]

theorem blk_dc (t : Fin cfg0.N) (h : Fin 4) (i j : Fin 128) : iblk m c 9 t (ix3 h i j) = V m c main_v195 (ix3 h i j) := by
  have e := win_index t
  blk_ext [iblk, e]

theorem blk_kd (t : Fin cfg0.N) (h : Fin 4) (i j : Fin 128) : iblk m c 10 t (ix3 h i j) = V m c main_v217 (ix3 h i j) := by
  have e := win_index t
  blk_ext [iblk, e]

theorem blk_qd (t : Fin cfg0.N) (h : Fin 4) (i j : Fin 128) : iblk m c 11 t (ix3 h i j) = V m c main_v220 (ix3 h i j) := by
  have e := win_index t
  blk_ext [iblk, e]

theorem blk_cd (t : Fin cfg0.N) (h : Fin 4) (i : Fin 8) (j : Fin 128) : iblk m c 12 t (ix3 h i j) = V m c main_v222 (ix3 h i j) := by
  have e := win_index t
  blk_ext [iblk, e]

/-! ## All of them, the arguments being real -/

/-- The arguments' entries are the real numbers `y`, `a`, `b`, `g`. -/
structure Args (a b g y : ℕ → ℕ → ℝ) : Prop where
  y : at2 (n := 8192) (m := 1024) (m ((c : Thread nD τ).loc main_arg0)) = up y
  a : at2 (n := 8192) (m := 1024) (m ((c : Thread nD τ).loc main_arg1)) = up a
  b : at2 (n := 8192) (m := 1024) (m ((c : Thread nD τ).loc main_arg2)) = up b
  g : at2 (n := 8192) (m := 1024) (m ((c : Thread nD τ).loc main_arg3)) = up g

variable {a b g y : ℕ → ℕ → ℝ}

theorem o_real (H : Args m c a b g y) (p : Fin 8192) (s : Fin 1024) :
    V m c main_v149 (ix2 p s) = (oR a b (p.val / 128) (s.val / 256) (p.val % 128) (s.val % 256) : EReal) := by
  rw [host_o]
  refine (Cert.ReferenceIdeal.Read.res_o _ _ p s).trans ?_
  rw [H.a, H.b]
  exact oN_eq a b _ _ _ _ (by omega) (by omega) (by omega)

theorem st_real (H : Args m c a b g y) (h : Fin 4) (n : Fin 64) (d : Fin 128) (e : Fin 256) :
    V m c main_v151 (ix4 h n d e) = (StR a b n.val h.val d.val e.val : EReal) := by
  rw [host_st]
  refine (Cert.ReferenceIdeal.Read.res_st _ _ h n d e).trans ?_
  rw [H.a, H.b]
  exact St_eq a b _ _ _ _ d.isLt

/-- What grid step `t` reads. -/
theorem blks (H : Args m c a b g y) (t : Fin cfg0.N) :
    Blk a b g y (31 - t.val) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t) where
  dy r s := (blk_dy m c t r s).trans (congrFun (congrFun H.y _) _)
  o k h i e r s hr hs := by
    refine (blk_o m c t r s).trans ((o_real m c H _ s).trans ?_)
    show ((oR a b (((31 - t.val) * 256 + r.val) / 128) (s.val / 256) (((31 - t.val) * 256 + r.val) % 128) (s.val % 256) : ℝ) : EReal) = _
    rw [show ((31 - t.val) * 256 + r.val) / 128 = (31 - t.val) * 2 + k.val by omega, show s.val / 256 = h.val by omega,
      show ((31 - t.val) * 256 + r.val) % 128 = i.val by omega, show s.val % 256 = e.val by omega]
  st h k d e := (blk_st m c t h k d e).trans (st_real m c H h _ d e)
  q r s := (blk_q m c t r s).trans (congrFun (congrFun H.a _) _)
  k r s := (blk_k m c t r s).trans (congrFun (congrFun H.a _) _)
  v r s := (blk_v m c t r s).trans (congrFun (congrFun H.b _) _)
  g r s := (blk_g m c t r s).trans (congrFun (congrFun H.g _) _)
  cs r d := (blk_cs m c t r d).trans (tab_cs m c _ d)
  sn r d := (blk_sn m c t r d).trans (tab_sn m c _ d)
  dc h i j := (blk_dc m c t h i j).trans (tab_dc m c h i j)
  kd h i j := (blk_kd m c t h i j).trans (tab_kd m c h i j)
  qd h i j := (blk_qd m c t h i j).trans (tab_qd m c h i j)
  cd h := (blk_cd m c t h 0 0).trans (tab_cd m c h 0 0)

end Cert.KernelbIdeal.Bwd
-- ==== Proof.KBwdA1.lean ====
module

public import proofs.«01_k».proof.Proof.KBwd

@[expose] public section

set_option maxRecDepth 16384

noncomputable section

namespace Cert.KernelbIdeal.Bwd

open Cert.KernelbIdeal Cert.KernelbIdeal.Gen Idealize.ShloMosaic Idealize.ShloMosaic.TcCoe Cert.Ret
open Cert.KernelIdeal.Fwd (ld3 canon_hit canon_skip readCov_at)

variable {a b g y : ℕ → ℕ → ℝ} (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S4x2x128x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S4x128x256 .f32) (harg18 : arg18.IsWhole) (hc0 : cond0_0 i)
    (x0 : Vec Ideal S256x1024 .f32) (x1 : Vec Ideal S256x1024 .f32) (x2 : Vec Ideal S4x2x128x256 .f32) (x3 : Vec Ideal S256x512 .f32) (x4 : Vec Ideal S256x512 .f32) (x5 : Vec Ideal S256x1024 .bf16) (x6 : Vec Ideal S256x1024 .f32) (x7 : Vec Ideal S256x128 .f32) (x8 : Vec Ideal S256x128 .f32) (x9 : Vec Ideal S4x128x128 .f32) (x10 : Vec Ideal S4x128x128 .f32) (x11 : Vec Ideal S4x128x128 .f32) (x12 : Vec Ideal S4x8x128 .f32)

theorem out0_A_13_eq
    (B : Blk a b g y 31 x0 x1 x2 x3 x4 x5 x6 x7 x8 x9 x10 x11 x12) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = spread 128 512 (gq a b g y) 31 := by
  have C := B.chunkR harg1 harg2 harg3 harg4 harg5 harg6 harg7 harg8 harg9 harg10 harg11 harg12 harg13
  unfold out0_A_13
  rw [View.read_writes_eq_canon _ _ _ (fun y => cover0_A_13 c i _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 128 512 (gq a b g y) 31) _ ?_ z (cover0_A_13 c i _ _ _ _ _ _ _ _ _ _ _ _ _ _ _ _ _ _ _ _ _ _ _ _ _ _ _ _ _ _ _ _ _ _ _ _ _ _ _ _ _ _ _ _ _ _ _ _ _ _ z)
  unfold kernelRun0_A
  dsimp only
  intro p hp
  simp only [List.mem_cons, List.not_mem_nil, or_false] at hp
  rcases hp with rfl | rfl | rfl | rfl | rfl | rfl | rfl | rfl
  · refine rows_piece 128 512 (gq a b g y) 31 0 3 0 rfl 384 rfl (by decide) _ fun i e => ?_
    exact (C 0 3 (by decide) (by decide) 0 rfl 384 rfl 768 rfl (by decide) (by decide) (by decide) (by decide) (by decide) (by decide) (by decide) (by decide) (by decide) (by decide) (by decide) (by decide) (by decide)).dq_at (by omega) i e
  · refine rows_piece 128 512 (gq a b g y) 31 0 2 0 rfl 256 rfl (by decide) _ fun i e => ?_
    exact (C 0 2 (by decide) (by decide) 0 rfl 256 rfl 512 rfl (by decide) (by decide) (by decide) (by decide) (by decide) (by decide) (by decide) (by decide) (by decide) (by decide) (by decide) (by decide) (by decide)).dq_at (by omega) i e
  · refine rows_piece 128 512 (gq a b g y) 31 0 1 0 rfl 128 rfl (by decide) _ fun i e => ?_
    exact (C 0 1 (by decide) (by decide) 0 rfl 128 rfl 256 rfl (by decide) (by decide) (by decide) (by decide) (by decide) (by decide) (by decide) (by decide) (by decide) (by decide) (by decide) (by decide) (by decide)).dq_at (by omega) i e
  · refine rows_piece 128 512 (gq a b g y) 31 0 0 0 rfl 0 rfl (by decide) _ fun i e => ?_
    exact (C 0 0 (by decide) (by decide) 0 rfl 0 rfl 0 rfl (by decide) (by decide) (by decide) (by decide) (by decide) (by decide) (by decide) (by decide) (by decide) (by decide) (by decide) (by decide) (by decide)).dq_at (by omega) i e
  · refine rows_piece 128 512 (gq a b g y) 31 1 3 128 rfl 384 rfl (by decide) _ fun i e => ?_
    exact (C 1 3 (by decide) (by decide) 128 rfl 384 rfl 768 rfl (by decide) (by decide) (by decide) (by decide) (by decide) (by decide) (by decide) (by decide) (by decide) (by decide) (by decide) (by decide) (by decide)).dq_at (by omega) i e
  · refine rows_piece 128 512 (gq a b g y) 31 1 2 128 rfl 256 rfl (by decide) _ fun i e => ?_
    exact (C 1 2 (by decide) (by decide) 128 rfl 256 rfl 512 rfl (by decide) (by decide) (by decide) (by decide) (by decide) (by decide) (by decide) (by decide) (by decide) (by decide) (by decide) (by decide) (by decide)).dq_at (by omega) i e
  · refine rows_piece 128 512 (gq a b g y) 31 1 1 128 rfl 128 rfl (by decide) _ fun i e => ?_
    exact (C 1 1 (by decide) (by decide) 128 rfl 128 rfl 256 rfl (by decide) (by decide) (by decide) (by decide) (by decide) (by decide) (by decide) (by decide) (by decide) (by decide) (by decide) (by decide) (by decide)).dq_at (by omega) i e
  · refine rows_piece 128 512 (gq a b g y) 31 1 0 128 rfl 0 rfl (by decide) _ fun i e => ?_
    exact (C 1 0 (by decide) (by decide) 128 rfl 0 rfl 0 rfl (by decide) (by decide) (by decide) (by decide) (by decide) (by decide) (by decide) (by decide) (by decide) (by decide) (by decide) (by decide) (by decide)).dq_at (by omega) i e

theorem out0_A_14_eq
    (B : Blk a b g y 31 x0 x1 x2 x3 x4 x5 x6 x7 x8 x9 x10 x11 x12) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = spread 128 512 (gk a b g y) 31 := by
  have C := B.chunkR harg1 harg2 harg3 harg4 harg5 harg6 harg7 harg8 harg9 harg10 harg11 harg12 harg13
  unfold out0_A_14
  rw [View.read_writes_eq_canon _ _ _ (fun y => cover0_A_14 c i _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 128 512 (gk a b g y) 31) _ ?_ z (cover0_A_14 c i _ _ _ _ _ _ _ _ _ _ _ _ _ _ _ _ _ _ _ _ _ _ _ _ _ _ _ _ _ _ _ _ _ _ _ _ _ _ _ _ _ _ _ _ _ _ _ _ _ _ z)
  unfold kernelRun0_A
  dsimp only
  intro p hp
  simp only [List.mem_cons, List.not_mem_nil, or_false] at hp
  rcases hp with rfl | rfl | rfl | rfl | rfl | rfl | rfl | rfl
  · refine rows_piece 128 512 (gk a b g y) 31 0 3 0 rfl 384 rfl (by decide) _ fun i e => ?_
    refine (C 0 3 (by decide) (by decide) 0 rfl 384 rfl 768 rfl (by decide) (by decide) (by decide) (by decide) (by decide) (by decide) (by decide) (by decide) (by decide) (by decide) (by decide) (by decide) (by decide)).dk_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (congrArg Real.toEReal (LR_end a b g y 3 d e).symm)))))) d e))))))
  · refine rows_piece 128 512 (gk a b g y) 31 0 2 0 rfl 256 rfl (by decide) _ fun i e => ?_
    refine (C 0 2 (by decide) (by decide) 0 rfl 256 rfl 512 rfl (by decide) (by decide) (by decide) (by decide) (by decide) (by decide) (by decide) (by decide) (by decide) (by decide) (by decide) (by decide) (by decide)).dk_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (congrArg Real.toEReal (LR_end a b g y 2 d e).symm))))) d e))))))
  · refine rows_piece 128 512 (gk a b g y) 31 0 1 0 rfl 128 rfl (by decide) _ fun i e => ?_
    refine (C 0 1 (by decide) (by decide) 0 rfl 128 rfl 256 rfl (by decide) (by decide) (by decide) (by decide) (by decide) (by decide) (by decide) (by decide) (by decide) (by decide) (by decide) (by decide) (by decide)).dk_at (by omega) ?_ i e
    exact (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (fun d e => (readCov_at _ _ 1 (by decide) (by decide) d e).trans ((canon_skip _ _ 0 1 (by decide) (by decide) (by decide) d e).trans ((canon_zero _ (by decide) _).trans (congrArg Real.toEReal (LR_end a b g y 1 d e).symm)))) d e))))))
  · refine rows_piece 128 512 (gk a b g y) 31 0 0 0 rfl 0 rfl (by decide) _ fun i e => ?_
    refine (C 0 0 (by decide) (by decide) 0 rfl 0 rfl 0 rfl (by decide) (by decide) (by decide) (by decide) (by decide) (by decide) (by decide) (by decide) (by decide) (by decide) (by decide) (by decide) (by decide)).dk_at (by omega) ?_ i e
    exact (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (fun d e => (readCov_at _ _ 0 (by decide) (by decide) d e).trans ((canon_zero _ (by decide) _).trans (congrArg Real.toEReal (LR_end a b g y 0 d e).symm))) d e))))))
  · refine rows_piece 128 512 (gk a b g y) 31 1 3 128 rfl 384 rfl (by decide) _ fun i e => ?_
    refine (C 1 3 (by decide) (by decide) 128 rfl 384 rfl 768 rfl (by decide) (by decide) (by decide) (by decide) (by decide) (by decide) (by decide) (by decide) (by decide) (by decide) (by decide) (by decide) (by decide)).dk_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (congrArg Real.toEReal (LR_end a b g y 3 d e).symm))))))
  · refine rows_piece 128 512 (gk a b g y) 31 1 2 128 rfl 256 rfl (by decide) _ fun i e => ?_
    refine (C 1 2 (by decide) (by decide) 128 rfl 256 rfl 512 rfl (by decide) (by decide) (by decide) (by decide) (by decide) (by decide) (by decide) (by decide) (by decide) (by decide) (by decide) (by decide) (by decide)).dk_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (congrArg Real.toEReal (LR_end a b g y 2 d e).symm)))))
  · refine rows_piece 128 512 (gk a b g y) 31 1 1 128 rfl 128 rfl (by decide) _ fun i e => ?_
    refine (C 1 1 (by decide) (by decide) 128 rfl 128 rfl 256 rfl (by decide) (by decide) (by decide) (by decide) (by decide) (by decide) (by decide) (by decide) (by decide) (by decide) (by decide) (by decide) (by decide)).dk_at (by omega) ?_ i e
    exact (fun d e => (readCov_at _ _ 1 (by decide) (by decide) d e).trans ((canon_skip _ _ 0 1 (by decide) (by decide) (by decide) d e).trans ((canon_zero _ (by decide) _).trans (congrArg Real.toEReal (LR_end a b g y 1 d e).symm))))
  · refine rows_piece 128 512 (gk a b g y) 31 1 0 128 rfl 0 rfl (by decide) _ fun i e => ?_
    refine (C 1 0 (by decide) (by decide) 128 rfl 0 rfl 0 rfl (by decide) (by decide) (by decide) (by decide) (by decide) (by decide) (by decide) (by decide) (by decide) (by decide) (by decide) (by decide) (by decide)).dk_at (by omega) ?_ i e
    exact (fun d e => (readCov_at _ _ 0 (by decide) (by decide) d e).trans ((canon_zero _ (by decide) _).trans (congrArg Real.toEReal (LR_end a b g y 0 d e).symm)))

end Cert.KernelbIdeal.Bwd
-- ==== Proof.KBwdA2.lean ====
module

public import proofs.«01_k».proof.Proof.KBwd

@[expose] public section

set_option maxRecDepth 16384

noncomputable section

namespace Cert.KernelbIdeal.Bwd

open Cert.KernelbIdeal Cert.KernelbIdeal.Gen Idealize.ShloMosaic Idealize.ShloMosaic.TcCoe Cert.Ret
open Cert.KernelIdeal.Fwd (ld3 canon_hit canon_skip readCov_at)

variable {a b g y : ℕ → ℕ → ℝ} (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S4x2x128x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S4x128x256 .f32) (harg18 : arg18.IsWhole) (hc0 : cond0_0 i)
    (x0 : Vec Ideal S256x1024 .f32) (x1 : Vec Ideal S256x1024 .f32) (x2 : Vec Ideal S4x2x128x256 .f32) (x3 : Vec Ideal S256x512 .f32) (x4 : Vec Ideal S256x512 .f32) (x5 : Vec Ideal S256x1024 .bf16) (x6 : Vec Ideal S256x1024 .f32) (x7 : Vec Ideal S256x128 .f32) (x8 : Vec Ideal S256x128 .f32) (x9 : Vec Ideal S4x128x128 .f32) (x10 : Vec Ideal S4x128x128 .f32) (x11 : Vec Ideal S4x128x128 .f32) (x12 : Vec Ideal S4x8x128 .f32)

theorem out0_A_15_eq
    (B : Blk a b g y 31 x0 x1 x2 x3 x4 x5 x6 x7 x8 x9 x10 x11 x12) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = spread 256 1024 (dvR a b g y) 31 := by
  have C := B.chunkR harg1 harg2 harg3 harg4 harg5 harg6 harg7 harg8 harg9 harg10 harg11 harg12 harg13
  unfold out0_A_15
  rw [View.read_writes_eq_canon _ _ _ (fun y => cover0_A_15 c i _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 256 1024 (dvR a b g y) 31) _ ?_ z (cover0_A_15 c i _ _ _ _ _ _ _ _ _ _ _ _ _ _ _ _ _ _ _ _ _ _ _ _ _ _ _ _ _ _ _ _ _ _ _ _ _ _ _ _ _ _ _ _ _ _ _ _ _ _ z)
  unfold kernelRun0_A
  dsimp only
  intro p hp
  simp only [List.mem_cons, List.not_mem_nil, or_false] at hp
  rcases hp with rfl | rfl | rfl | rfl | rfl | rfl | rfl | rfl
  · refine rows_piece 256 1024 (dvR a b g y) 31 0 3 0 rfl 768 rfl (by decide) _ fun i e => ?_
    refine (C 0 3 (by decide) (by decide) 0 rfl 384 rfl 768 rfl (by decide) (by decide) (by decide) (by decide) (by decide) (by decide) (by decide) (by decide) (by decide) (by decide) (by decide) (by decide) (by decide)).dv_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (congrArg Real.toEReal (LR_end a b g y 3 d e).symm)))))) d e))))))
  · refine rows_piece 256 1024 (dvR a b g y) 31 0 2 0 rfl 512 rfl (by decide) _ fun i e => ?_
    refine (C 0 2 (by decide) (by decide) 0 rfl 256 rfl 512 rfl (by decide) (by decide) (by decide) (by decide) (by decide) (by decide) (by decide) (by decide) (by decide) (by decide) (by decide) (by decide) (by decide)).dv_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (congrArg Real.toEReal (LR_end a b g y 2 d e).symm))))) d e))))))
  · refine rows_piece 256 1024 (dvR a b g y) 31 0 1 0 rfl 256 rfl (by decide) _ fun i e => ?_
    refine (C 0 1 (by decide) (by decide) 0 rfl 128 rfl 256 rfl (by decide) (by decide) (by decide) (by decide) (by decide) (by decide) (by decide) (by decide) (by decide) (by decide) (by decide) (by decide) (by decide)).dv_at (by omega) ?_ i e
    exact (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (fun d e => (readCov_at _ _ 1 (by decide) (by decide) d e).trans ((canon_skip _ _ 0 1 (by decide) (by decide) (by decide) d e).trans ((canon_zero _ (by decide) _).trans (congrArg Real.toEReal (LR_end a b g y 1 d e).symm)))) d e))))))
  · refine rows_piece 256 1024 (dvR a b g y) 31 0 0 0 rfl 0 rfl (by decide) _ fun i e => ?_
    refine (C 0 0 (by decide) (by decide) 0 rfl 0 rfl 0 rfl (by decide) (by decide) (by decide) (by decide) (by decide) (by decide) (by decide) (by decide) (by decide) (by decide) (by decide) (by decide) (by decide)).dv_at (by omega) ?_ i e
    exact (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (fun d e => (readCov_at _ _ 0 (by decide) (by decide) d e).trans ((canon_zero _ (by decide) _).trans (congrArg Real.toEReal (LR_end a b g y 0 d e).symm))) d e))))))
  · refine rows_piece 256 1024 (dvR a b g y) 31 1 3 128 rfl 768 rfl (by decide) _ fun i e => ?_
    refine (C 1 3 (by decide) (by decide) 128 rfl 384 rfl 768 rfl (by decide) (by decide) (by decide) (by decide) (by decide) (by decide) (by decide) (by decide) (by decide) (by decide) (by decide) (by decide) (by decide)).dv_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (congrArg Real.toEReal (LR_end a b g y 3 d e).symm))))))
  · refine rows_piece 256 1024 (dvR a b g y) 31 1 2 128 rfl 512 rfl (by decide) _ fun i e => ?_
    refine (C 1 2 (by decide) (by decide) 128 rfl 256 rfl 512 rfl (by decide) (by decide) (by decide) (by decide) (by decide) (by decide) (by decide) (by decide) (by decide) (by decide) (by decide) (by decide) (by decide)).dv_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (congrArg Real.toEReal (LR_end a b g y 2 d e).symm)))))
  · refine rows_piece 256 1024 (dvR a b g y) 31 1 1 128 rfl 256 rfl (by decide) _ fun i e => ?_
    refine (C 1 1 (by decide) (by decide) 128 rfl 128 rfl 256 rfl (by decide) (by decide) (by decide) (by decide) (by decide) (by decide) (by decide) (by decide) (by decide) (by decide) (by decide) (by decide) (by decide)).dv_at (by omega) ?_ i e
    exact (fun d e => (readCov_at _ _ 1 (by decide) (by decide) d e).trans ((canon_skip _ _ 0 1 (by decide) (by decide) (by decide) d e).trans ((canon_zero _ (by decide) _).trans (congrArg Real.toEReal (LR_end a b g y 1 d e).symm))))
  · refine rows_piece 256 1024 (dvR a b g y) 31 1 0 128 rfl 0 rfl (by decide) _ fun i e => ?_
    refine (C 1 0 (by decide) (by decide) 128 rfl 0 rfl 0 rfl (by decide) (by decide) (by decide) (by decide) (by decide) (by decide) (by decide) (by decide) (by decide) (by decide) (by decide) (by decide) (by decide)).dv_at (by omega) ?_ i e
    exact (fun d e => (readCov_at _ _ 0 (by decide) (by decide) d e).trans ((canon_zero _ (by decide) _).trans (congrArg Real.toEReal (LR_end a b g y 0 d e).symm)))

theorem out0_A_16_eq
    (B : Blk a b g y 31 x0 x1 x2 x3 x4 x5 x6 x7 x8 x9 x10 x11 x12) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = spread 256 1024 (dgR a b g y) 31 := by
  have C := B.chunkR harg1 harg2 harg3 harg4 harg5 harg6 harg7 harg8 harg9 harg10 harg11 harg12 harg13
  unfold out0_A_16
  rw [View.read_writes_eq_canon _ _ _ (fun y => cover0_A_16 c i _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 256 1024 (dgR a b g y) 31) _ ?_ z (cover0_A_16 c i _ _ _ _ _ _ _ _ _ _ _ _ _ _ _ _ _ _ _ _ _ _ _ _ _ _ _ _ _ _ _ _ _ _ _ _ _ _ _ _ _ _ _ _ _ _ _ _ _ _ z)
  unfold kernelRun0_A
  dsimp only
  intro p hp
  simp only [List.mem_cons, List.not_mem_nil, or_false] at hp
  rcases hp with rfl | rfl | rfl | rfl | rfl | rfl | rfl | rfl
  · refine rows_piece 256 1024 (dgR a b g y) 31 0 3 0 rfl 768 rfl (by decide) _ fun i e => ?_
    exact (C 0 3 (by decide) (by decide) 0 rfl 384 rfl 768 rfl (by decide) (by decide) (by decide) (by decide) (by decide) (by decide) (by decide) (by decide) (by decide) (by decide) (by decide) (by decide) (by decide)).dg_at i e
  · refine rows_piece 256 1024 (dgR a b g y) 31 0 2 0 rfl 512 rfl (by decide) _ fun i e => ?_
    exact (C 0 2 (by decide) (by decide) 0 rfl 256 rfl 512 rfl (by decide) (by decide) (by decide) (by decide) (by decide) (by decide) (by decide) (by decide) (by decide) (by decide) (by decide) (by decide) (by decide)).dg_at i e
  · refine rows_piece 256 1024 (dgR a b g y) 31 0 1 0 rfl 256 rfl (by decide) _ fun i e => ?_
    exact (C 0 1 (by decide) (by decide) 0 rfl 128 rfl 256 rfl (by decide) (by decide) (by decide) (by decide) (by decide) (by decide) (by decide) (by decide) (by decide) (by decide) (by decide) (by decide) (by decide)).dg_at i e
  · refine rows_piece 256 1024 (dgR a b g y) 31 0 0 0 rfl 0 rfl (by decide) _ fun i e => ?_
    exact (C 0 0 (by decide) (by decide) 0 rfl 0 rfl 0 rfl (by decide) (by decide) (by decide) (by decide) (by decide) (by decide) (by decide) (by decide) (by decide) (by decide) (by decide) (by decide) (by decide)).dg_at i e
  · refine rows_piece 256 1024 (dgR a b g y) 31 1 3 128 rfl 768 rfl (by decide) _ fun i e => ?_
    exact (C 1 3 (by decide) (by decide) 128 rfl 384 rfl 768 rfl (by decide) (by decide) (by decide) (by decide) (by decide) (by decide) (by decide) (by decide) (by decide) (by decide) (by decide) (by decide) (by decide)).dg_at i e
  · refine rows_piece 256 1024 (dgR a b g y) 31 1 2 128 rfl 512 rfl (by decide) _ fun i e => ?_
    exact (C 1 2 (by decide) (by decide) 128 rfl 256 rfl 512 rfl (by decide) (by decide) (by decide) (by decide) (by decide) (by decide) (by decide) (by decide) (by decide) (by decide) (by decide) (by decide) (by decide)).dg_at i e
  · refine rows_piece 256 1024 (dgR a b g y) 31 1 1 128 rfl 256 rfl (by decide) _ fun i e => ?_
    exact (C 1 1 (by decide) (by decide) 128 rfl 128 rfl 256 rfl (by decide) (by decide) (by decide) (by decide) (by decide) (by decide) (by decide) (by decide) (by decide) (by decide) (by decide) (by decide) (by decide)).dg_at i e
  · refine rows_piece 256 1024 (dgR a b g y) 31 1 0 128 rfl 0 rfl (by decide) _ fun i e => ?_
    exact (C 1 0 (by decide) (by decide) 128 rfl 0 rfl 0 rfl (by decide) (by decide) (by decide) (by decide) (by decide) (by decide) (by decide) (by decide) (by decide) (by decide) (by decide) (by decide) (by decide)).dg_at i e

theorem sout0_A_0_eq
    (B : Blk a b g y 31 x0 x1 x2 x3 x4 x5 x6 x7 x8 x9 x10 x11 x12) :
    ∀ (h : Fin 4) (d : Fin 128) (e : Fin 256), sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 (ix3 h d e) = (LR a b g y (31 * 2) h.val d.val e.val : EReal) := by
  have C := B.chunkR harg1 harg2 harg3 harg4 harg5 harg6 harg7 harg8 harg9 harg10 harg11 harg12 harg13
  unfold sout0_A_0
  rw [View.read_writes_eq_canon _ _ _ (fun y => scover0_A_0 c i _ _ _ _ _ _ _ _ _ _ _ _ _ _ _ _ _ _ _ _ _ _ _ _ _ _ _ _ _ _ _ _ _ _ _ _ _ _ _ _ _ _ _ _ _ _ _ _ _ _ y)]
  intro h d e
  unfold kernelRun0_A
  dsimp only
  fin_cases h
  · exact (canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide) (by decide) (by decide) (by decide) (by decide)).next_at (by omega) (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (fun d e => (readCov_at _ _ 0 (by decide) (by decide) d e).trans ((canon_zero _ (by decide) _).trans (congrArg Real.toEReal (LR_end a b g y 0 d e).symm))) d e)))))) d e))))
  · exact (canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide) (by decide) (by decide) (by decide) (by decide)).next_at (by omega) (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (fun d e => (readCov_at _ _ 1 (by decide) (by decide) d e).trans ((canon_skip _ _ 0 1 (by decide) (by decide) (by decide) d e).trans ((canon_zero _ (by decide) _).trans (congrArg Real.toEReal (LR_end a b g y 1 d e).symm)))) d e)))))) d e)))
  · exact (canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide) (by decide) (by decide) (by decide) (by decide)).next_at (by omega) (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (fun d e => (readCov_at _ _ 2 (by decide) (by decide) d e).trans ((canon_skip _ _ 1 2 (by decide) (by decide) (by decide) d e).trans ((canon_skip _ _ 0 2 (by decide) (by decide) (by decide) d e).trans ((canon_zero _ (by decide) _).trans (congrArg Real.toEReal (LR_end a b g y 2 d e).symm))))) d e)))))) d e))
  · exact (canon_hit _ _ 3 (by decide) (by decide) d e).trans ((C 0 3 (by decide) (by decide) 0 rfl 384 rfl 768 rfl (by decide) (by decide) (by decide) (by decide) (by decide) (by decide) (by decide) (by decide) (by decide) (by decide) (by decide) (by decide) (by decide)).next_at (by omega) (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_zero _ (by decide) _).trans (congrArg Real.toEReal (LR_end a b g y 3 d e).symm)))))) d e)))))) d e)

end Cert.KernelbIdeal.Bwd
-- ==== Proof.KBwdB1.lean ====
module

public import proofs.«01_k».proof.Proof.KBwd

@[expose] public section

set_option maxRecDepth 16384

noncomputable section

namespace Cert.KernelbIdeal.Bwd

open Cert.KernelbIdeal Cert.KernelbIdeal.Gen Idealize.ShloMosaic Idealize.ShloMosaic.TcCoe Cert.Ret
open Cert.KernelIdeal.Fwd (ld3 canon_hit canon_skip readCov_at)

variable {a b g y : ℕ → ℕ → ℝ} {t : ℕ} (ht : t < 32) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S4x2x128x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S4x128x256 .f32) (harg18 : arg18.IsWhole) (hc0 : ¬cond0_0 i)
    (x0 : Vec Ideal S256x1024 .f32) (x1 : Vec Ideal S256x1024 .f32) (x2 : Vec Ideal S4x2x128x256 .f32) (x3 : Vec Ideal S256x512 .f32) (x4 : Vec Ideal S256x512 .f32) (x5 : Vec Ideal S256x1024 .bf16) (x6 : Vec Ideal S256x1024 .f32) (x7 : Vec Ideal S256x128 .f32) (x8 : Vec Ideal S256x128 .f32) (x9 : Vec Ideal S4x128x128 .f32) (x10 : Vec Ideal S4x128x128 .f32) (x11 : Vec Ideal S4x128x128 .f32) (x12 : Vec Ideal S4x8x128 .f32) (xs0 : Vec Ideal S4x128x256 .f32)

include ht

theorem out0_B_13_eq
    (B : Blk a b g y t x0 x1 x2 x3 x4 x5 x6 x7 x8 x9 x10 x11 x12)
    (hxs : ∀ (h : Fin 4) (d : Fin 128) (e : Fin 256), xs0 (ix3 h d e) = (LR a b g y (t * 2 + 1 + 1) h.val d.val e.val : EReal)) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = spread 128 512 (gq a b g y) t := by
  have C := B.chunkR harg1 harg2 harg3 harg4 harg5 harg6 harg7 harg8 harg9 harg10 harg11 harg12 harg13
  unfold out0_B_13
  rw [View.read_writes_eq_canon _ _ _ (fun y => cover0_B_13 c i _ _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 128 512 (gq a b g y) t) _ ?_ z (cover0_B_13 c i _ _ _ _ _ _ _ _ _ _ _ _ _ _ _ _ _ _ _ _ _ _ _ _ _ _ _ _ _ _ _ _ _ _ _ _ _ _ _ _ _ _ _ _ _ _ _ _ _ _ _ z)
  unfold kernelRun0_B
  dsimp only
  intro p hp
  simp only [List.mem_cons, List.not_mem_nil, or_false] at hp
  rcases hp with rfl | rfl | rfl | rfl | rfl | rfl | rfl | rfl
  · refine rows_piece 128 512 (gq a b g y) t 0 3 0 rfl 384 rfl (by decide) _ fun i e => ?_
    exact (C 0 3 (by decide) (by decide) 0 rfl 384 rfl 768 rfl (by decide) (by decide) (by decide) (by decide) (by decide) (by decide) (by decide) (by decide) (by decide) (by decide) (by decide) (by decide) (by decide)).dq_at (by omega) i e
  · refine rows_piece 128 512 (gq a b g y) t 0 2 0 rfl 256 rfl (by decide) _ fun i e => ?_
    exact (C 0 2 (by decide) (by decide) 0 rfl 256 rfl 512 rfl (by decide) (by decide) (by decide) (by decide) (by decide) (by decide) (by decide) (by decide) (by decide) (by decide) (by decide) (by decide) (by decide)).dq_at (by omega) i e
  · refine rows_piece 128 512 (gq a b g y) t 0 1 0 rfl 128 rfl (by decide) _ fun i e => ?_
    exact (C 0 1 (by decide) (by decide) 0 rfl 128 rfl 256 rfl (by decide) (by decide) (by decide) (by decide) (by decide) (by decide) (by decide) (by decide) (by decide) (by decide) (by decide) (by decide) (by decide)).dq_at (by omega) i e
  · refine rows_piece 128 512 (gq a b g y) t 0 0 0 rfl 0 rfl (by decide) _ fun i e => ?_
    exact (C 0 0 (by decide) (by decide) 0 rfl 0 rfl 0 rfl (by decide) (by decide) (by decide) (by decide) (by decide) (by decide) (by decide) (by decide) (by decide) (by decide) (by decide) (by decide) (by decide)).dq_at (by omega) i e
  · refine rows_piece 128 512 (gq a b g y) t 1 3 128 rfl 384 rfl (by decide) _ fun i e => ?_
    exact (C 1 3 (by decide) (by decide) 128 rfl 384 rfl 768 rfl (by decide) (by decide) (by decide) (by decide) (by decide) (by decide) (by decide) (by decide) (by decide) (by decide) (by decide) (by decide) (by decide)).dq_at (by omega) i e
  · refine rows_piece 128 512 (gq a b g y) t 1 2 128 rfl 256 rfl (by decide) _ fun i e => ?_
    exact (C 1 2 (by decide) (by decide) 128 rfl 256 rfl 512 rfl (by decide) (by decide) (by decide) (by decide) (by decide) (by decide) (by decide) (by decide) (by decide) (by decide) (by decide) (by decide) (by decide)).dq_at (by omega) i e
  · refine rows_piece 128 512 (gq a b g y) t 1 1 128 rfl 128 rfl (by decide) _ fun i e => ?_
    exact (C 1 1 (by decide) (by decide) 128 rfl 128 rfl 256 rfl (by decide) (by decide) (by decide) (by decide) (by decide) (by decide) (by decide) (by decide) (by decide) (by decide) (by decide) (by decide) (by decide)).dq_at (by omega) i e
  · refine rows_piece 128 512 (gq a b g y) t 1 0 128 rfl 0 rfl (by decide) _ fun i e => ?_
    exact (C 1 0 (by decide) (by decide) 128 rfl 0 rfl 0 rfl (by decide) (by decide) (by decide) (by decide) (by decide) (by decide) (by decide) (by decide) (by decide) (by decide) (by decide) (by decide) (by decide)).dq_at (by omega) i e

theorem out0_B_14_eq
    (B : Blk a b g y t x0 x1 x2 x3 x4 x5 x6 x7 x8 x9 x10 x11 x12)
    (hxs : ∀ (h : Fin 4) (d : Fin 128) (e : Fin 256), xs0 (ix3 h d e) = (LR a b g y (t * 2 + 1 + 1) h.val d.val e.val : EReal)) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = spread 128 512 (gk a b g y) t := by
  have C := B.chunkR harg1 harg2 harg3 harg4 harg5 harg6 harg7 harg8 harg9 harg10 harg11 harg12 harg13
  have P0 : ∀ (h : ℕ) (hh : h < 4) (inb) (d : Fin 128) (e : Fin 256),
      View.readAt (Elt Ideal) arg18.view (Rect.unit (s := S4x128x256) ![h, 0, 0] S1x128x256.size inb).toLoadRect (harg18.unread xs0) (ix3 0 d e)
        = (LR a b g y (t * 2 + 1 + 1) h d.val e.val : EReal) := fun h hh inb d e => by
    rw [View.readAt_eq_ld, Memref.IsWhole.read_unread]
    exact (ld3 xs0 h inb d e hh d.isLt e.isLt).trans (hxs ⟨h, hh⟩ d e)
  unfold out0_B_14
  rw [View.read_writes_eq_canon _ _ _ (fun y => cover0_B_14 c i _ _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 128 512 (gk a b g y) t) _ ?_ z (cover0_B_14 c i _ _ _ _ _ _ _ _ _ _ _ _ _ _ _ _ _ _ _ _ _ _ _ _ _ _ _ _ _ _ _ _ _ _ _ _ _ _ _ _ _ _ _ _ _ _ _ _ _ _ _ z)
  unfold kernelRun0_B
  dsimp only
  intro p hp
  simp only [List.mem_cons, List.not_mem_nil, or_false] at hp
  rcases hp with rfl | rfl | rfl | rfl | rfl | rfl | rfl | rfl
  · refine rows_piece 128 512 (gk a b g y) t 0 3 0 rfl 384 rfl (by decide) _ fun i e => ?_
    refine (C 0 3 (by decide) (by decide) 0 rfl 384 rfl 768 rfl (by decide) (by decide) (by decide) (by decide) (by decide) (by decide) (by decide) (by decide) (by decide) (by decide) (by decide) (by decide) (by decide)).dk_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (P0 3 (by decide) (by decide)) d e))))))
  · refine rows_piece 128 512 (gk a b g y) t 0 2 0 rfl 256 rfl (by decide) _ fun i e => ?_
    refine (C 0 2 (by decide) (by decide) 0 rfl 256 rfl 512 rfl (by decide) (by decide) (by decide) (by decide) (by decide) (by decide) (by decide) (by decide) (by decide) (by decide) (by decide) (by decide) (by decide)).dk_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (P0 2 (by decide) (by decide)) d e))))))
  · refine rows_piece 128 512 (gk a b g y) t 0 1 0 rfl 128 rfl (by decide) _ fun i e => ?_
    refine (C 0 1 (by decide) (by decide) 0 rfl 128 rfl 256 rfl (by decide) (by decide) (by decide) (by decide) (by decide) (by decide) (by decide) (by decide) (by decide) (by decide) (by decide) (by decide) (by decide)).dk_at (by omega) ?_ i e
    exact (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (P0 1 (by decide) (by decide)) d e))))))
  · refine rows_piece 128 512 (gk a b g y) t 0 0 0 rfl 0 rfl (by decide) _ fun i e => ?_
    refine (C 0 0 (by decide) (by decide) 0 rfl 0 rfl 0 rfl (by decide) (by decide) (by decide) (by decide) (by decide) (by decide) (by decide) (by decide) (by decide) (by decide) (by decide) (by decide) (by decide)).dk_at (by omega) ?_ i e
    exact (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (P0 0 (by decide) (by decide)) d e))))))
  · refine rows_piece 128 512 (gk a b g y) t 1 3 128 rfl 384 rfl (by decide) _ fun i e => ?_
    refine (C 1 3 (by decide) (by decide) 128 rfl 384 rfl 768 rfl (by decide) (by decide) (by decide) (by decide) (by decide) (by decide) (by decide) (by decide) (by decide) (by decide) (by decide) (by decide) (by decide)).dk_at (by omega) ?_ i e
    exact (P0 3 (by decide) (by decide))
  · refine rows_piece 128 512 (gk a b g y) t 1 2 128 rfl 256 rfl (by decide) _ fun i e => ?_
    refine (C 1 2 (by decide) (by decide) 128 rfl 256 rfl 512 rfl (by decide) (by decide) (by decide) (by decide) (by decide) (by decide) (by decide) (by decide) (by decide) (by decide) (by decide) (by decide) (by decide)).dk_at (by omega) ?_ i e
    exact (P0 2 (by decide) (by decide))
  · refine rows_piece 128 512 (gk a b g y) t 1 1 128 rfl 128 rfl (by decide) _ fun i e => ?_
    refine (C 1 1 (by decide) (by decide) 128 rfl 128 rfl 256 rfl (by decide) (by decide) (by decide) (by decide) (by decide) (by decide) (by decide) (by decide) (by decide) (by decide) (by decide) (by decide) (by decide)).dk_at (by omega) ?_ i e
    exact (P0 1 (by decide) (by decide))
  · refine rows_piece 128 512 (gk a b g y) t 1 0 128 rfl 0 rfl (by decide) _ fun i e => ?_
    refine (C 1 0 (by decide) (by decide) 128 rfl 0 rfl 0 rfl (by decide) (by decide) (by decide) (by decide) (by decide) (by decide) (by decide) (by decide) (by decide) (by decide) (by decide) (by decide) (by decide)).dk_at (by omega) ?_ i e
    exact (P0 0 (by decide) (by decide))

end Cert.KernelbIdeal.Bwd
-- ==== Proof.KBwdB2.lean ====
module

public import proofs.«01_k».proof.Proof.KBwd

@[expose] public section

set_option maxRecDepth 16384

noncomputable section

namespace Cert.KernelbIdeal.Bwd

open Cert.KernelbIdeal Cert.KernelbIdeal.Gen Idealize.ShloMosaic Idealize.ShloMosaic.TcCoe Cert.Ret
open Cert.KernelIdeal.Fwd (ld3 canon_hit canon_skip readCov_at)

variable {a b g y : ℕ → ℕ → ℝ} {t : ℕ} (ht : t < 32) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S4x2x128x256 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S4x128x256 .f32) (harg18 : arg18.IsWhole) (hc0 : ¬cond0_0 i)
    (x0 : Vec Ideal S256x1024 .f32) (x1 : Vec Ideal S256x1024 .f32) (x2 : Vec Ideal S4x2x128x256 .f32) (x3 : Vec Ideal S256x512 .f32) (x4 : Vec Ideal S256x512 .f32) (x5 : Vec Ideal S256x1024 .bf16) (x6 : Vec Ideal S256x1024 .f32) (x7 : Vec Ideal S256x128 .f32) (x8 : Vec Ideal S256x128 .f32) (x9 : Vec Ideal S4x128x128 .f32) (x10 : Vec Ideal S4x128x128 .f32) (x11 : Vec Ideal S4x128x128 .f32) (x12 : Vec Ideal S4x8x128 .f32) (xs0 : Vec Ideal S4x128x256 .f32)

include ht

theorem out0_B_15_eq
    (B : Blk a b g y t x0 x1 x2 x3 x4 x5 x6 x7 x8 x9 x10 x11 x12)
    (hxs : ∀ (h : Fin 4) (d : Fin 128) (e : Fin 256), xs0 (ix3 h d e) = (LR a b g y (t * 2 + 1 + 1) h.val d.val e.val : EReal)) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = spread 256 1024 (dvR a b g y) t := by
  have C := B.chunkR harg1 harg2 harg3 harg4 harg5 harg6 harg7 harg8 harg9 harg10 harg11 harg12 harg13
  have P0 : ∀ (h : ℕ) (hh : h < 4) (inb) (d : Fin 128) (e : Fin 256),
      View.readAt (Elt Ideal) arg18.view (Rect.unit (s := S4x128x256) ![h, 0, 0] S1x128x256.size inb).toLoadRect (harg18.unread xs0) (ix3 0 d e)
        = (LR a b g y (t * 2 + 1 + 1) h d.val e.val : EReal) := fun h hh inb d e => by
    rw [View.readAt_eq_ld, Memref.IsWhole.read_unread]
    exact (ld3 xs0 h inb d e hh d.isLt e.isLt).trans (hxs ⟨h, hh⟩ d e)
  unfold out0_B_15
  rw [View.read_writes_eq_canon _ _ _ (fun y => cover0_B_15 c i _ _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 256 1024 (dvR a b g y) t) _ ?_ z (cover0_B_15 c i _ _ _ _ _ _ _ _ _ _ _ _ _ _ _ _ _ _ _ _ _ _ _ _ _ _ _ _ _ _ _ _ _ _ _ _ _ _ _ _ _ _ _ _ _ _ _ _ _ _ _ z)
  unfold kernelRun0_B
  dsimp only
  intro p hp
  simp only [List.mem_cons, List.not_mem_nil, or_false] at hp
  rcases hp with rfl | rfl | rfl | rfl | rfl | rfl | rfl | rfl
  · refine rows_piece 256 1024 (dvR a b g y) t 0 3 0 rfl 768 rfl (by decide) _ fun i e => ?_
    refine (C 0 3 (by decide) (by decide) 0 rfl 384 rfl 768 rfl (by decide) (by decide) (by decide) (by decide) (by decide) (by decide) (by decide) (by decide) (by decide) (by decide) (by decide) (by decide) (by decide)).dv_at (by omega) ?_ i e
    exact (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (P0 3 (by decide) (by decide)) d e))))))
  · refine rows_piece 256 1024 (dvR a b g y) t 0 2 0 rfl 512 rfl (by decide) _ fun i e => ?_
    refine (C 0 2 (by decide) (by decide) 0 rfl 256 rfl 512 rfl (by decide) (by decide) (by decide) (by decide) (by decide) (by decide) (by decide) (by decide) (by decide) (by decide) (by decide) (by decide) (by decide)).dv_at (by omega) ?_ i e
    exact (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (P0 2 (by decide) (by decide)) d e))))))
  · refine rows_piece 256 1024 (dvR a b g y) t 0 1 0 rfl 256 rfl (by decide) _ fun i e => ?_
    refine (C 0 1 (by decide) (by decide) 0 rfl 128 rfl 256 rfl (by decide) (by decide) (by decide) (by decide) (by decide) (by decide) (by decide) (by decide) (by decide) (by decide) (by decide) (by decide) (by decide)).dv_at (by omega) ?_ i e
    exact (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (P0 1 (by decide) (by decide)) d e))))))
  · refine rows_piece 256 1024 (dvR a b g y) t 0 0 0 rfl 0 rfl (by decide) _ fun i e => ?_
    refine (C 0 0 (by decide) (by decide) 0 rfl 0 rfl 0 rfl (by decide) (by decide) (by decide) (by decide) (by decide) (by decide) (by decide) (by decide) (by decide) (by decide) (by decide) (by decide) (by decide)).dv_at (by omega) ?_ i e
    exact (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (P0 0 (by decide) (by decide)) d e))))))
  · refine rows_piece 256 1024 (dvR a b g y) t 1 3 128 rfl 768 rfl (by decide) _ fun i e => ?_
    refine (C 1 3 (by decide) (by decide) 128 rfl 384 rfl 768 rfl (by decide) (by decide) (by decide) (by decide) (by decide) (by decide) (by decide) (by decide) (by decide) (by decide) (by decide) (by decide) (by decide)).dv_at (by omega) ?_ i e
    exact (P0 3 (by decide) (by decide))
  · refine rows_piece 256 1024 (dvR a b g y) t 1 2 128 rfl 512 rfl (by decide) _ fun i e => ?_
    refine (C 1 2 (by decide) (by decide) 128 rfl 256 rfl 512 rfl (by decide) (by decide) (by decide) (by decide) (by decide) (by decide) (by decide) (by decide) (by decide) (by decide) (by decide) (by decide) (by decide)).dv_at (by omega) ?_ i e
    exact (P0 2 (by decide) (by decide))
  · refine rows_piece 256 1024 (dvR a b g y) t 1 1 128 rfl 256 rfl (by decide) _ fun i e => ?_
    refine (C 1 1 (by decide) (by decide) 128 rfl 128 rfl 256 rfl (by decide) (by decide) (by decide) (by decide) (by decide) (by decide) (by decide) (by decide) (by decide) (by decide) (by decide) (by decide) (by decide)).dv_at (by omega) ?_ i e
    exact (P0 1 (by decide) (by decide))
  · refine rows_piece 256 1024 (dvR a b g y) t 1 0 128 rfl 0 rfl (by decide) _ fun i e => ?_
    refine (C 1 0 (by decide) (by decide) 128 rfl 0 rfl 0 rfl (by decide) (by decide) (by decide) (by decide) (by decide) (by decide) (by decide) (by decide) (by decide) (by decide) (by decide) (by decide) (by decide)).dv_at (by omega) ?_ i e
    exact (P0 0 (by decide) (by decide))

theorem out0_B_16_eq
    (B : Blk a b g y t x0 x1 x2 x3 x4 x5 x6 x7 x8 x9 x10 x11 x12)
    (hxs : ∀ (h : Fin 4) (d : Fin 128) (e : Fin 256), xs0 (ix3 h d e) = (LR a b g y (t * 2 + 1 + 1) h.val d.val e.val : EReal)) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = spread 256 1024 (dgR a b g y) t := by
  have C := B.chunkR harg1 harg2 harg3 harg4 harg5 harg6 harg7 harg8 harg9 harg10 harg11 harg12 harg13
  unfold out0_B_16
  rw [View.read_writes_eq_canon _ _ _ (fun y => cover0_B_16 c i _ _ _ _ _ _ _ _ _ _ _ _ _ _ _ _ _ _ _ _ _ _ _ _ _ _ _ _ _ _ _ _ _ _ _ _ _ _ _ _ _ _ _ _ _ _ _ _ _ _ _ y)]
  funext z
  refine View.canon_apply_of_pieces (Val := Elt Ideal) (spread 256 1024 (dgR a b g y) t) _ ?_ z (cover0_B_16 c i _ _ _ _ _ _ _ _ _ _ _ _ _ _ _ _ _ _ _ _ _ _ _ _ _ _ _ _ _ _ _ _ _ _ _ _ _ _ _ _ _ _ _ _ _ _ _ _ _ _ _ z)
  unfold kernelRun0_B
  dsimp only
  intro p hp
  simp only [List.mem_cons, List.not_mem_nil, or_false] at hp
  rcases hp with rfl | rfl | rfl | rfl | rfl | rfl | rfl | rfl
  · refine rows_piece 256 1024 (dgR a b g y) t 0 3 0 rfl 768 rfl (by decide) _ fun i e => ?_
    exact (C 0 3 (by decide) (by decide) 0 rfl 384 rfl 768 rfl (by decide) (by decide) (by decide) (by decide) (by decide) (by decide) (by decide) (by decide) (by decide) (by decide) (by decide) (by decide) (by decide)).dg_at i e
  · refine rows_piece 256 1024 (dgR a b g y) t 0 2 0 rfl 512 rfl (by decide) _ fun i e => ?_
    exact (C 0 2 (by decide) (by decide) 0 rfl 256 rfl 512 rfl (by decide) (by decide) (by decide) (by decide) (by decide) (by decide) (by decide) (by decide) (by decide) (by decide) (by decide) (by decide) (by decide)).dg_at i e
  · refine rows_piece 256 1024 (dgR a b g y) t 0 1 0 rfl 256 rfl (by decide) _ fun i e => ?_
    exact (C 0 1 (by decide) (by decide) 0 rfl 128 rfl 256 rfl (by decide) (by decide) (by decide) (by decide) (by decide) (by decide) (by decide) (by decide) (by decide) (by decide) (by decide) (by decide) (by decide)).dg_at i e
  · refine rows_piece 256 1024 (dgR a b g y) t 0 0 0 rfl 0 rfl (by decide) _ fun i e => ?_
    exact (C 0 0 (by decide) (by decide) 0 rfl 0 rfl 0 rfl (by decide) (by decide) (by decide) (by decide) (by decide) (by decide) (by decide) (by decide) (by decide) (by decide) (by decide) (by decide) (by decide)).dg_at i e
  · refine rows_piece 256 1024 (dgR a b g y) t 1 3 128 rfl 768 rfl (by decide) _ fun i e => ?_
    exact (C 1 3 (by decide) (by decide) 128 rfl 384 rfl 768 rfl (by decide) (by decide) (by decide) (by decide) (by decide) (by decide) (by decide) (by decide) (by decide) (by decide) (by decide) (by decide) (by decide)).dg_at i e
  · refine rows_piece 256 1024 (dgR a b g y) t 1 2 128 rfl 512 rfl (by decide) _ fun i e => ?_
    exact (C 1 2 (by decide) (by decide) 128 rfl 256 rfl 512 rfl (by decide) (by decide) (by decide) (by decide) (by decide) (by decide) (by decide) (by decide) (by decide) (by decide) (by decide) (by decide) (by decide)).dg_at i e
  · refine rows_piece 256 1024 (dgR a b g y) t 1 1 128 rfl 256 rfl (by decide) _ fun i e => ?_
    exact (C 1 1 (by decide) (by decide) 128 rfl 128 rfl 256 rfl (by decide) (by decide) (by decide) (by decide) (by decide) (by decide) (by decide) (by decide) (by decide) (by decide) (by decide) (by decide) (by decide)).dg_at i e
  · refine rows_piece 256 1024 (dgR a b g y) t 1 0 128 rfl 0 rfl (by decide) _ fun i e => ?_
    exact (C 1 0 (by decide) (by decide) 128 rfl 0 rfl 0 rfl (by decide) (by decide) (by decide) (by decide) (by decide) (by decide) (by decide) (by decide) (by decide) (by decide) (by decide) (by decide) (by decide)).dg_at i e

theorem sout0_B_0_eq
    (B : Blk a b g y t x0 x1 x2 x3 x4 x5 x6 x7 x8 x9 x10 x11 x12)
    (hxs : ∀ (h : Fin 4) (d : Fin 128) (e : Fin 256), xs0 (ix3 h d e) = (LR a b g y (t * 2 + 1 + 1) h.val d.val e.val : EReal)) :
    ∀ (h : Fin 4) (d : Fin 128) (e : Fin 256), sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 (ix3 h d e) = (LR a b g y (t * 2) h.val d.val e.val : EReal) := by
  have C := B.chunkR harg1 harg2 harg3 harg4 harg5 harg6 harg7 harg8 harg9 harg10 harg11 harg12 harg13
  have P0 : ∀ (h : ℕ) (hh : h < 4) (inb) (d : Fin 128) (e : Fin 256),
      View.readAt (Elt Ideal) arg18.view (Rect.unit (s := S4x128x256) ![h, 0, 0] S1x128x256.size inb).toLoadRect (harg18.unread xs0) (ix3 0 d e)
        = (LR a b g y (t * 2 + 1 + 1) h d.val e.val : EReal) := fun h hh inb d e => by
    rw [View.readAt_eq_ld, Memref.IsWhole.read_unread]
    exact (ld3 xs0 h inb d e hh d.isLt e.isLt).trans (hxs ⟨h, hh⟩ d e)
  unfold sout0_B_0
  rw [View.read_writes_eq_canon _ _ _ (fun y => scover0_B_0 c i _ _ _ _ _ _ _ _ _ _ _ _ _ _ _ _ _ _ _ _ _ _ _ _ _ _ _ _ _ _ _ _ _ _ _ _ _ _ _ _ _ _ _ _ _ _ _ _ _ _ _ y)]
  intro h d e
  unfold kernelRun0_B
  dsimp only
  fin_cases h
  · exact (canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 0 0 (by decide) (by decide) 0 rfl 0 rfl 0 rfl (by decide) (by decide) (by decide) (by decide) (by decide) (by decide) (by decide) (by decide) (by decide) (by decide) (by decide) (by decide) (by decide)).next_at (by omega) (fun d e => (readCov_at _ _ 0 (by decide) (by decide) d e).trans ((canon_skip _ _ 3 0 (by decide) (by decide) (by decide) d e).trans ((canon_skip _ _ 2 0 (by decide) (by decide) (by decide) d e).trans ((canon_skip _ _ 1 0 (by decide) (by decide) (by decide) d e).trans ((canon_hit _ _ 0 (by decide) (by decide) d e).trans ((C 1 0 (by decide) (by decide) 128 rfl 0 rfl 0 rfl (by decide) (by decide) (by decide) (by decide) (by decide) (by decide) (by decide) (by decide) (by decide) (by decide) (by decide) (by decide) (by decide)).next_at (by omega) (P0 0 (by decide) (by decide)) d e)))))) d e))))
  · exact (canon_skip _ _ 3 1 (by decide) (by decide) (by decide) d e).trans ((canon_skip _ _ 2 1 (by decide) (by decide) (by decide) d e).trans ((canon_hit _ _ 1 (by decide) (by decide) d e).trans ((C 0 1 (by decide) (by decide) 0 rfl 128 rfl 256 rfl (by decide) (by decide) (by decide) (by decide) (by decide) (by decide) (by decide) (by decide) (by decide) (by decide) (by decide) (by decide) (by decide)).next_at (by omega) (fun d e => (readCov_at _ _ 1 (by decide) (by decide) d e).trans ((canon_skip _ _ 0 1 (by decide) (by decide) (by decide) d e).trans ((canon_skip _ _ 3 1 (by decide) (by decide) (by decide) d e).trans ((canon_skip _ _ 2 1 (by decide) (by decide) (by decide) d e).trans ((canon_hit _ _ 1 (by decide) (by decide) d e).trans ((C 1 1 (by decide) (by decide) 128 rfl 128 rfl 256 rfl (by decide) (by decide) (by decide) (by decide) (by decide) (by decide) (by decide) (by decide) (by decide) (by decide) (by decide) (by decide) (by decide)).next_at (by omega) (P0 1 (by decide) (by decide)) d e)))))) d e)))
  · exact (canon_skip _ _ 3 2 (by decide) (by decide) (by decide) d e).trans ((canon_hit _ _ 2 (by decide) (by decide) d e).trans ((C 0 2 (by decide) (by decide) 0 rfl 256 rfl 512 rfl (by decide) (by decide) (by decide) (by decide) (by decide) (by decide) (by decide) (by decide) (by decide) (by decide) (by decide) (by decide) (by decide)).next_at (by omega) (fun d e => (readCov_at _ _ 2 (by decide) (by decide) d e).trans ((canon_skip _ _ 1 2 (by decide) (by decide) (by decide) d e).trans ((canon_skip _ _ 0 2 (by decide) (by decide) (by decide) d e).trans ((canon_skip _ _ 3 2 (by decide) (by decide) (by decide) d e).trans ((canon_hit _ _ 2 (by decide) (by decide) d e).trans ((C 1 2 (by decide) (by decide) 128 rfl 256 rfl 512 rfl (by decide) (by decide) (by decide) (by decide) (by decide) (by decide) (by decide) (by decide) (by decide) (by decide) (by decide) (by decide) (by decide)).next_at (by omega) (P0 2 (by decide) (by decide)) d e)))))) d e))
  · exact (canon_hit _ _ 3 (by decide) (by decide) d e).trans ((C 0 3 (by decide) (by decide) 0 rfl 384 rfl 768 rfl (by decide) (by decide) (by decide) (by decide) (by decide) (by decide) (by decide) (by decide) (by decide) (by decide) (by decide) (by decide) (by decide)).next_at (by omega) (fun d e => (readCov_at _ _ 3 (by decide) (by decide) d e).trans ((canon_skip _ _ 2 3 (by decide) (by decide) (by decide) d e).trans ((canon_skip _ _ 1 3 (by decide) (by decide) (by decide) d e).trans ((canon_skip _ _ 0 3 (by decide) (by decide) (by decide) d e).trans ((canon_hit _ _ 3 (by decide) (by decide) d e).trans ((C 1 3 (by decide) (by decide) 128 rfl 384 rfl 768 rfl (by decide) (by decide) (by decide) (by decide) (by decide) (by decide) (by decide) (by decide) (by decide) (by decide) (by decide) (by decide) (by decide)).next_at (by omega) (P0 3 (by decide) (by decide)) d e)))))) d e)

end Cert.KernelbIdeal.Bwd
-- ==== Proof.KBwdVal.lean ====
module

public import proofs.«01_k».proof.Proof.KBwdBlk
public import proofs.«01_k».proof.Proof.KBwdA1
public import proofs.«01_k».proof.Proof.KBwdA2
public import proofs.«01_k».proof.Proof.KBwdB1
public import proofs.«01_k».proof.Proof.KBwdB2
public import proofs.«01_k».proof.Proof.Gen.KernelbIdeal.Value

@[expose] public section

set_option maxRecDepth 16384

noncomputable section

/-! The arrays that the backward kernel leaves, at an index: the grid's steps in order, the last rows first, the state's gradient
    carried from one to the next. -/

namespace Cert.KernelbIdeal.Bwd

open Cert.KernelbIdeal Cert.KernelbIdeal.Gen Cert.KernelbIdeal.Value Idealize.ShloMosaic Idealize.ShloMosaic.TcCoe Cert.Ret

variable (m : (ℓ : Loc nD τ sig) → Buf (Elt Ideal) ℓ) (c : Dev nD) (a b g y : ℕ → ℕ → ℝ)

/-- What the kernel leaves after the grid step of block `n`: its four blocks and the gradient carried in the scratch. -/
def Left (n : ℕ) (r : Vec Ideal S256x512 .bf16 × Vec Ideal S256x512 .bf16 × Vec Ideal S256x1024 .bf16 × Vec Ideal S256x1024 .bf16 × Vec Ideal S4x128x256 .f32) : Prop :=
  r.1 = spread 128 512 (gq a b g y) n ∧
  r.2.1 = spread 128 512 (gk a b g y) n ∧
  r.2.2.1 = spread 256 1024 (dvR a b g y) n ∧
  r.2.2.2.1 = spread 256 1024 (dgR a b g y) n ∧
  ∀ (h : Fin 4) (d : Fin 128) (e : Fin 256), r.2.2.2.2 (ix3 h d e) = (LR a b g y (n * 2) h.val d.val e.val : EReal)

variable {a b g y} (H : Args m c a b g y)
include H

/-- What the first step leaves. -/
theorem first_step (t : Fin cfg0.N) (h0 : t.val = 0) : Left a b g y 31 (outsAt0 m c t.val t.isLt) := by
  have B := blks m c H t
  rw [show 31 - t.val = 31 by omega] at B
  have h0' : t.val % 32 = 0 := by rw [h0]
  rw [outsAt0_A m c t h0']
  refine ⟨?_, ?_, ?_, ?_, ?_⟩ <;> dsimp only
  · have key := @out0_A_13_eq a b g y
    apply key
    exact B
  · have key := @out0_A_14_eq a b g y
    apply key
    exact B
  · have key := @out0_A_15_eq a b g y
    apply key
    exact B
  · have key := @out0_A_16_eq a b g y
    apply key
    exact B
  · have key := @sout0_A_0_eq a b g y
    apply key
    exact B

/-- What a later step leaves, from what the step before left in the scratch. -/
theorem later_step (t : Fin cfg0.N) (h0 : t.val ≠ 0)
    (hs : ∀ (h : Fin 4) (d : Fin 128) (e : Fin 256), (outsAt0 m c (t.val - 1) (by omega)).2.2.2.2 (ix3 h d e)
      = (LR a b g y ((31 - t.val) * 2 + 1 + 1) h.val d.val e.val : EReal)) :
    Left a b g y (31 - t.val) (outsAt0 m c t.val t.isLt) := by
  have B := blks m c H t
  have hN : cfg0.N = 32 := N_0
  have ht : 31 - t.val < 32 := by omega
  have h0' : ¬t.val % 32 = 0 := by have := t.isLt; omega
  rw [outsAt0_B m c t h0']
  refine ⟨?_, ?_, ?_, ?_, ?_⟩ <;> dsimp only
  · have key := @out0_B_13_eq a b g y (31 - t.val) ht
    apply key
    · exact B
    · exact hs
  · have key := @out0_B_14_eq a b g y (31 - t.val) ht
    apply key
    · exact B
    · exact hs
  · have key := @out0_B_15_eq a b g y (31 - t.val) ht
    apply key
    · exact B
    · exact hs
  · have key := @out0_B_16_eq a b g y (31 - t.val) ht
    apply key
    · exact B
    · exact hs
  · have key := @sout0_B_0_eq a b g y (31 - t.val) ht
    apply key
    · exact B
    · exact hs

theorem outs_at (n : ℕ) (hn : n < cfg0.N) : Left a b g y (31 - n) (outsAt0 m c n hn) := by
  induction n with
  | zero => exact first_step m c H ⟨0, hn⟩ rfl
  | succ n ih =>
    have hN : cfg0.N = 32 := N_0
    refine later_step m c H ⟨n + 1, hn⟩ (Nat.succ_ne_zero n) fun h d e => ?_
    refine ((ih (Nat.lt_of_succ_lt hn)).2.2.2.2 h d e).trans ?_
    show ((LR a b g y ((31 - n) * 2) h.val d.val e.val : ℝ) : EReal) = (LR a b g y ((31 - (n + 1)) * 2 + 1 + 1) h.val d.val e.val : ℝ)
    rw [show (31 - (n + 1)) * 2 + 1 + 1 = (31 - n) * 2 by omega]

omit H

theorem out_index : ∀ t : Fin cfg0.N,
    win0_13.index t = ![31 - t.val, 0] ∧ win0_14.index t = ![31 - t.val, 0] ∧ win0_15.index t = ![31 - t.val, 0] ∧
    win0_16.index t = ![31 - t.val, 0] := by decide +kernel

/-- Row `r` of block `n` is a row of a chunk. -/
theorem row_chunk (n r : ℕ) : (n * 256 + r) / 128 = n * 2 + r / 128 ∧ (n * 256 + r) % 128 = r % 128 := by omega

include H

/-- The gradient of `q` over the whole array. -/
theorem dq_at (p : Fin 8192) (s : Fin 512) : (dats m 0 c).arrAt 13 cfg0.N (ix2 p s)
    = (gq a b g y (p.val / 128) (s.val / 128) (p.val % 128) (s.val % 128) : EReal) := by
  have key : (dats m 0 c).arrAt 13 cfg0.N = fun i : S8192x512.Idx =>
      (gq a b g y ((i 0).val / 128) ((i 1).val / 128) ((i 0).val % 128) ((i 1).val % 128) : EReal) := by
    refine (dats m 0 c).arrAt_eq_of_covers 13 _ (by decide +kernel) fun t hf z => ?_
    have e := out_index t
    blk_simp
    rw [after0_13, (outs_at m c H t.val t.isLt).1]
    simp only [spread]
    blk_simp [e]
    rw [(row_chunk _ _).1, (row_chunk _ _).2]
  rw [key]
  rfl

/-- The gradient of `k` over the whole array. -/
theorem dk_at (p : Fin 8192) (s : Fin 512) : (dats m 0 c).arrAt 14 cfg0.N (ix2 p s)
    = (gk a b g y (p.val / 128) (s.val / 128) (p.val % 128) (s.val % 128) : EReal) := by
  have key : (dats m 0 c).arrAt 14 cfg0.N = fun i : S8192x512.Idx =>
      (gk a b g y ((i 0).val / 128) ((i 1).val / 128) ((i 0).val % 128) ((i 1).val % 128) : EReal) := by
    refine (dats m 0 c).arrAt_eq_of_covers 14 _ (by decide +kernel) fun t hf z => ?_
    have e := out_index t
    blk_simp
    rw [after0_14, (outs_at m c H t.val t.isLt).2.1]
    simp only [spread]
    blk_simp [e]
    rw [(row_chunk _ _).1, (row_chunk _ _).2]
  rw [key]
  rfl

/-- The gradient of `v` over the whole array. -/
theorem dv_at (p : Fin 8192) (s : Fin 1024) : (dats m 0 c).arrAt 15 cfg0.N (ix2 p s)
    = (dvR a b g y (p.val / 128) (s.val / 256) (p.val % 128) (s.val % 256) : EReal) := by
  have key : (dats m 0 c).arrAt 15 cfg0.N = fun i : S8192x1024.Idx =>
      (dvR a b g y ((i 0).val / 128) ((i 1).val / 256) ((i 0).val % 128) ((i 1).val % 256) : EReal) := by
    refine (dats m 0 c).arrAt_eq_of_covers 15 _ (by decide +kernel) fun t hf z => ?_
    have e := out_index t
    blk_simp
    rw [after0_15, (outs_at m c H t.val t.isLt).2.2.1]
    simp only [spread]
    blk_simp [e]
    rw [(row_chunk _ _).1, (row_chunk _ _).2]
  rw [key]
  rfl

/-- The gradient of the gate over the whole array. -/
theorem dg_at (p : Fin 8192) (s : Fin 1024) : (dats m 0 c).arrAt 16 cfg0.N (ix2 p s)
    = (dgR a b g y (p.val / 128) (s.val / 256) (p.val % 128) (s.val % 256) : EReal) := by
  have key : (dats m 0 c).arrAt 16 cfg0.N = fun i : S8192x1024.Idx =>
      (dgR a b g y ((i 0).val / 128) ((i 1).val / 256) ((i 0).val % 128) ((i 1).val % 256) : EReal) := by
    refine (dats m 0 c).arrAt_eq_of_covers 16 _ (by decide +kernel) fun t hf z => ?_
    have e := out_index t
    blk_simp
    rw [after0_16, (outs_at m c H t.val t.isLt).2.2.2.1]
    simp only [spread]
    blk_simp [e]
    rw [(row_chunk _ _).1, (row_chunk _ _).2]
  rw [key]
  rfl

end Cert.KernelbIdeal.Bwd
-- ==== Proof.RefBwd.lean ====
module

public import proofs.«01_k».proof.Proof.Gen.ReferencebIdeal.Read
public import proofs.«01_k».proof.Proof.RefFwd
public import proofs.«01_k».proof.Proof.BMath

@[expose] public section

set_option maxRecDepth 16384

noncomputable section

/-! The reference of the backward call: the forward lines it goes through again, the gate, and the gradient of retention's output. -/

namespace Cert.ReferencebIdeal.Read

open Cert.ReferencebIdeal Cert.ReferencebIdeal.Gen Idealize.ShloMosaic Idealize.ShloMosaic.StableHlo Cert.Ret

/-- A sum over axes of extent one is the one element. -/
theorem sum_unit4 {n m : ℕ} (x : (⟨4, ![1, n, m, 1]⟩ : Shape).Idx → EReal) (init : (⟨0, ![]⟩ : Shape).Idx → EReal)
    (h : (⟨4, ![1, n, m, 1]⟩ : Shape).ReducesTo [0, 3] ⟨2, ![n, m]⟩) (hu : 0 < (⟨0, ![]⟩ : Shape).numel) (p : Fin n) (q : Fin m) :
    Host.reduceAdd (F := Ideal) (φ := .f32) x init h hu (ix2 p q) = init (Shape.Idx.first hu) + x (ix4 0 p q 0) := by
  show init (Shape.Idx.first hu) + ∑ i ∈ Finset.univ.filter (fun i => h.drop i = ix2 p q), x i = _
  have : Finset.univ.filter (fun i => h.drop i = ix2 p q) = {ix4 0 p q 0} := by
    ext i
    rw [Finset.mem_filter, Finset.mem_singleton]
    constructor
    · rintro ⟨-, e⟩
      funext a; apply Fin.ext
      match a with
      | ⟨0, _⟩ => have h0 : (i 0).val < 1 := (i 0).isLt; show (i 0).val = 0; omega
      | ⟨1, _⟩ => exact congrArg Fin.val (congrFun e 0)
      | ⟨2, _⟩ => exact congrArg Fin.val (congrFun e 1)
      | ⟨3, _⟩ => have h0 : (i 3).val < 1 := (i 3).isLt; show (i 3).val = 0; omega
    · rintro rfl
      refine ⟨Finset.mem_univ _, ?_⟩
      funext b; apply Fin.ext
      match b with
      | ⟨0, _⟩ => rfl
      | ⟨1, _⟩ => rfl
  rw [this, Finset.sum_singleton]

theorem sum_unit5 {n m k : ℕ} (x : (⟨5, ![1, 1, n, m, k]⟩ : Shape).Idx → EReal) (init : (⟨0, ![]⟩ : Shape).Idx → EReal)
    (h : (⟨5, ![1, 1, n, m, k]⟩ : Shape).ReducesTo [0, 1] ⟨3, ![n, m, k]⟩) (hu : 0 < (⟨0, ![]⟩ : Shape).numel) (p : Fin n) (q : Fin m) (r : Fin k) :
    Host.reduceAdd (F := Ideal) (φ := .f32) x init h hu (ix3 p q r) = init (Shape.Idx.first hu) + x (ix5 0 0 p q r) := by
  show init (Shape.Idx.first hu) + ∑ i ∈ Finset.univ.filter (fun i => h.drop i = ix3 p q r), x i = _
  have : Finset.univ.filter (fun i => h.drop i = ix3 p q r) = {ix5 0 0 p q r} := by
    ext i
    rw [Finset.mem_filter, Finset.mem_singleton]
    constructor
    · rintro ⟨-, e⟩
      funext a; apply Fin.ext
      match a with
      | ⟨0, _⟩ => have h0 : (i 0).val < 1 := (i 0).isLt; show (i 0).val = 0; omega
      | ⟨1, _⟩ => have h0 : (i 1).val < 1 := (i 1).isLt; show (i 1).val = 0; omega
      | ⟨2, _⟩ => exact congrArg Fin.val (congrFun e 0)
      | ⟨3, _⟩ => exact congrArg Fin.val (congrFun e 1)
      | ⟨4, _⟩ => exact congrArg Fin.val (congrFun e 2)
    · rintro rfl
      refine ⟨Finset.mem_univ _, ?_⟩
      funext b; apply Fin.ext
      match b with
      | ⟨0, _⟩ => rfl
      | ⟨1, _⟩ => rfl
      | ⟨2, _⟩ => rfl
  rw [this, Finset.sum_singleton]

variable {x0 x1 x2 x3 : S8192x1024.Idx → EReal} {a b g y : ℕ → ℕ → ℝ}

/-! ## The forward lines -/

theorem q_same : val_main_v76 (F := Ideal) x1 = Cert.ReferenceIdeal.Read.val_main_v76 (F := Ideal) x1 := rfl
theorem k_same : val_main_v64 (F := Ideal) x1 = Cert.ReferenceIdeal.Read.val_main_v64 (F := Ideal) x1 := rfl
theorem v_same : val_main_v65 (F := Ideal) x2 = Cert.ReferenceIdeal.Read.val_main_v65 (F := Ideal) x2 := rfl
theorem dec_same : val_main_v96 (F := Ideal) = Cert.ReferenceIdeal.Read.val_main_v96 (F := Ideal) := rfl
theorem wt_same : val_main_v125 (F := Ideal) = Cert.ReferenceIdeal.Read.val_main_v125 (F := Ideal) := rfl
theorem qd_same : val_main_v141 (F := Ideal) = Cert.ReferenceIdeal.Read.val_main_v141 (F := Ideal) := rfl
theorem sc_same : val_main_v100 (F := Ideal) x1 = Cert.ReferenceIdeal.Read.val_main_v100 (F := Ideal) x1 := rfl
theorem st_same : val_main_v133 (F := Ideal) x1 x2 = Cert.ReferenceIdeal.Read.val_main_v133 (F := Ideal) x1 x2 := rfl
theorem o_same : val_main_v148 (F := Ideal) x1 x2 = Cert.ReferenceIdeal.Read.val_main_v148 (F := Ideal) x1 x2 := rfl
theorem cos_same : val_main_v48 (F := Ideal) = Cert.ReferenceIdeal.Read.val_main_v48 (F := Ideal) := rfl
theorem sin_same : val_main_v50 (F := Ideal) = Cert.ReferenceIdeal.Read.val_main_v50 (F := Ideal) := rfl

theorem o_at (H1 : at2 x1 = up a) (H2 : at2 x2 = up b) (p : Fin 8192) (h : Fin 4) (e : Fin 256) :
    val_main_v148 (F := Ideal) x1 x2 (ix4 0 p h e) = (oR a b (p.val / 128) h.val (p.val % 128) e.val : EReal) := by
  rw [o_same, Cert.ReferenceIdeal.Read.o_at, H1, H2]
  exact oN_eq a b _ _ _ _ (by omega) h.isLt (by omega)

/-! ## The norm -/

theorem cen_at (H1 : at2 x1 = up a) (H2 : at2 x2 = up b) (p : Fin 8192) (h : Fin 4) (e : Fin 256) :
    val_main_v154 (F := Ideal) x1 x2 (ix4 0 p h e) = (cenR (fun e => oR a b (p.val / 128) h.val (p.val % 128) e) e.val : EReal) := by
  refine Eq.trans ?_ (cen_eq _ _)
  pointwise [val_main_v154, val_main_v153, val_main_v152, val_main_v151, val_main_v150, val_main_v149, val_main_cst_17, val_main_cst_18, o_at H1 H2]
  rfl

theorem var_at (H1 : at2 x1 = up a) (H2 : at2 x2 = up b) (p : Fin 8192) (h : Fin 4) :
    val_main_v165 (F := Ideal) x1 x2 (ix4 0 p h 0) = (varR (fun e => oR a b (p.val / 128) h.val (p.val % 128) e) : EReal) := by
  pointwise [val_main_v165, val_main_v164, val_main_v161, val_main_v160, val_main_v159, val_main_v158, val_main_v155, val_main_cst_20,
    val_main_cst_21, val_main_cst_22, cen_at H1 H2]
  simp only [← EReal.coe_mul, ← coe_sum, div_256, lit_eps, ← EReal.coe_add]
  rfl

theorem rstd_at (H1 : at2 x1 = up a) (H2 : at2 x2 = up b) (p : Fin 8192) (h : Fin 4) :
    val_main_v166 (F := Ideal) x1 x2 (ix4 0 p h 0) = (rstdR (fun e => oR a b (p.val / 128) h.val (p.val % 128) e) : EReal) := by
  pointwise [val_main_v166, var_at H1 H2]
  exact rsqrt_pos _ (varR_pos _)

theorem half_at (H1 : at2 x1 = up a) (H2 : at2 x2 = up b) (p : Fin 8192) (h : Fin 4) :
    val_main_v169 (F := Ideal) x1 x2 (ix4 0 p h 0) = (-(1 / 2) * (rstdR (fun e => oR a b (p.val / 128) h.val (p.val % 128) e)
      * (1 / varR (fun e => oR a b (p.val / 128) h.val (p.val % 128) e))) : ℝ) := by
  pointwise [val_main_v169, val_main_v168, val_main_v167, val_main_cst_23, var_at H1 H2, rstd_at H1 H2]
  rw [Ideal.div_coe (varR_pos _).ne', lit_half, ← EReal.coe_mul, ← EReal.coe_mul]

theorem norm_at (H1 : at2 x1 = up a) (H2 : at2 x2 = up b) (p : Fin 8192) (s : Fin 1024) :
    val_main_v172 (F := Ideal) x1 x2 (ix3 0 p s) = (hnR (fun e => oR a b (p.val / 128) (s.val / 256) (p.val % 128) e) (s.val % 256) : EReal) := by
  have hc : ∀ (p : Fin 8192) (h : Fin 4) (e : Fin 256), val_main_v163 (F := Ideal) x1 x2 (ix4 0 p h e) = _ := cen_at H1 H2
  pointwise [val_main_v172, val_main_v171, val_main_v170, hc, rstd_at H1 H2]
  rw [← EReal.coe_mul]
  rfl

/-! ## The gate -/

theorem sig_at (H3 : at2 x3 = up g) (p : Fin 8192) (s : Fin 1024) :
    val_main_v174_2 (F := Ideal) x3 (ix3 0 p s) = (sigR (g p.val s.val) : EReal) := by
  pointwise [val_main_v174_2, val_main_call2_v4, val_main_call2_v3, val_main_call2_v2, val_main_call2_v1, val_main_call2_v0, val_main_v173,
    val_main_call2_cst, val_main_call2_cst_0]
  rw [at2_ix x3, H3]
  exact Ideal.logistic_coe _

theorem gate_at (H3 : at2 x3 = up g) (p : Fin 8192) (s : Fin 1024) : val_main_v173 (F := Ideal) x3 (ix3 0 p s) = (g p.val s.val : EReal) := by
  pointwise [val_main_v173]
  rw [at2_ix x3, H3]

theorem dy_at (H0 : at2 x0 = up y) (p : Fin 8192) (s : Fin 1024) : val_main_v180 (F := Ideal) x0 (ix3 0 p s) = (y p.val s.val : EReal) := by
  pointwise [val_main_v180]
  rw [at2_ix x0, H0]

theorem dg_at (H0 : at2 x0 = up y) (H1 : at2 x1 = up a) (H2 : at2 x2 = up b) (H3 : at2 x3 = up g) (p : Fin 8192) (s : Fin 1024) :
    val_main_v287 (F := Ideal) x0 x1 x2 x3 (ix2 p s) = (dgR a b g y (p.val / 128) (s.val / 256) (p.val % 128) (s.val % 256) : EReal) := by
  pointwise [val_main_v287, val_main_v184, val_main_v183, val_main_call3_v2, val_main_call3_v1, val_main_call3_v0, val_main_v182,
    val_main_v174_1, val_main_call2_v7, val_main_call2_v6, val_main_call2_cst_1, sig_at H3, gate_at H3, dy_at H0, norm_at H1 H2]
  simp only [one_coe, ← EReal.coe_mul, ← EReal.coe_sub, ← EReal.coe_add]
  unfold dgR
  rw [show p.val / 128 * 128 + p.val % 128 = p.val by omega, show s.val / 256 * 256 + s.val % 256 = s.val by omega]
  congr 1
  ring

theorem dn_at (H0 : at2 x0 = up y) (H3 : at2 x3 = up g) (p : Fin 8192) (h : Fin 4) (e : Fin 256) :
    val_main_v185 (F := Ideal) x0 x3 (ix4 0 p h e) = (dnR g y (p.val / 128) h.val (p.val % 128) e.val : EReal) := by
  pointwise [val_main_v185, val_main_v181, val_main_v174_0, sig_at H3, gate_at H3, dy_at H0]
  simp only [← EReal.coe_mul]
  unfold dnR
  rw [show p.val / 128 * 128 + p.val % 128 = p.val by omega]
  congr 1
  ring

/-! ## The gradient of retention's output -/

theorem through_var (H0 : at2 x0 = up y) (H1 : at2 x1 = up a) (H2 : at2 x2 = up b) (H3 : at2 x3 = up g) (p : Fin 8192) (h : Fin 4) (e : Fin 256) :
    val_main_v200 (F := Ideal) x0 x1 x2 x3 (ix4 0 p h e)
      = (((∑ e' : Fin 256, cenR (fun e => oR a b (p.val / 128) h.val (p.val % 128) e) e'.val * dnR g y (p.val / 128) h.val (p.val % 128) e'.val)
        * (-(1 / 2) * (rstdR (fun e => oR a b (p.val / 128) h.val (p.val % 128) e)
          * (1 / varR (fun e => oR a b (p.val / 128) h.val (p.val % 128) e)))) * (1 / 256))
        * (2 * cenR (fun e => oR a b (p.val / 128) h.val (p.val % 128) e) e.val) : ℝ) := by
  have hc : ∀ (p : Fin 8192) (h : Fin 4) (e : Fin 256), val_main_v163 (F := Ideal) x1 x2 (ix4 0 p h e) = _ := cen_at H1 H2
  have hr : ∀ (p : Fin 8192) (h : Fin 4), val_main_v197 (F := Ideal) x0 x1 x2 x3 (ix2 p h) = val_main_v196 (F := Ideal) x0 x1 x2 x3 (ix4 0 p h 0) := fun p h => by
    unfold val_main_v197
    refine (sum_unit4 _ _ _ _ _ _).trans ?_
    pointwise [val_main_cst_27]
  pointwise [val_main_v200, val_main_v199, val_main_v198, hr, val_main_v196, val_main_v195, val_main_v191, val_main_v188, val_main_v187,
    val_main_v186, val_main_v157, val_main_v156, val_main_cst_19, val_main_cst_24, val_main_cst_26, hc, cen_at H1 H2, dn_at H0 H3, half_at H1 H2]
  simp only [lit_2, ← EReal.coe_mul, ← coe_sum, div_256]

theorem do_at (H0 : at2 x0 = up y) (H1 : at2 x1 = up a) (H2 : at2 x2 = up b) (H3 : at2 x3 = up g) (p : Fin 8192) (h : Fin 4) (e : Fin 256) :
    val_main_v211 (F := Ideal) x0 x1 x2 x3 (ix4 0 p h e) = (doR a b g y (p.val / 128) h.val (p.val % 128) e.val : EReal) := by
  have hr : ∀ (p : Fin 8192) (h : Fin 4), val_main_v208 (F := Ideal) x0 x1 x2 x3 (ix2 p h) = val_main_v207 (F := Ideal) x0 x1 x2 x3 (ix4 0 p h 0) := fun p h => by
    unfold val_main_v208
    refine (sum_unit4 _ _ _ _ _ _).trans ?_
    pointwise [val_main_cst_30]
  pointwise [val_main_v211, val_main_v210, val_main_v209, hr, val_main_v207, val_main_v206, val_main_v205, val_main_v204, val_main_v203,
    val_main_v202, val_main_v201, val_main_v194, val_main_v193, val_main_v192, val_main_v190, val_main_v189, val_main_cst_25, val_main_cst_28,
    val_main_cst_29, through_var H0 H1 H2 H3, dn_at H0 H3, rstd_at H1 H2]
  simp only [← EReal.coe_neg, ← EReal.coe_mul, ← coe_sum, ← EReal.coe_add, div_256]
  exact congrArg _ (nbR_chain _ _ _)

end Cert.ReferencebIdeal.Read
-- ==== Proof.RefBwdB.lean ====
module

public import proofs.«01_k».proof.Proof.RefBwd

@[expose] public section

set_option maxRecDepth 16384

noncomputable section

/-! The reference of the backward call: the gradients of query, key and value, and the four results at an index. -/

namespace Cert.ReferencebIdeal.Read

open Cert.ReferencebIdeal Cert.ReferencebIdeal.Gen Idealize.ShloMosaic Idealize.ShloMosaic.StableHlo Cert.Ret

variable {x0 x1 x2 x3 : S8192x1024.Idx → EReal} {a b g y : ℕ → ℕ → ℝ}

/-! ## The forward values that the gradients meet -/

theorem q_at (H1 : at2 x1 = up a) (n : Fin 64) (i : Fin 128) (h : Fin 4) (d : Fin 128) :
    val_main_v76 (F := Ideal) x1 (ix5 0 n i h d) = (QR a (n.val * 128 + i.val) h.val d.val : EReal) := by
  rw [q_same, Cert.ReferenceIdeal.Read.q_chunk, H1]
  exact Qs_eq a _ _ _ (by omega) d.isLt

theorem k_at (H1 : at2 x1 = up a) (p : Fin 8192) (h : Fin 4) (d : Fin 128) :
    val_main_v64 (F := Ideal) x1 (ix4 0 p h d) = (KR a p.val h.val d.val : EReal) := by
  rw [k_same, Cert.ReferenceIdeal.Read.k_at, H1]
  exact Ks_eq a _ _ _ p.isLt d.isLt

theorem k_chunk (H1 : at2 x1 = up a) (n : Fin 64) (i : Fin 128) (h : Fin 4) (d : Fin 128) :
    val_main_v77 (F := Ideal) x1 (ix5 0 n i h d) = (KR a (n.val * 128 + i.val) h.val d.val : EReal) := by
  pointwise [val_main_v77, k_at H1]

theorem v_at (H2 : at2 x2 = up b) (p : Fin 8192) (h : Fin 4) (e : Fin 256) :
    val_main_v65 (F := Ideal) x2 (ix4 0 p h e) = (VR b p.val h.val e.val : EReal) := by
  rw [v_same, Cert.ReferenceIdeal.Read.v_at, H2]
  rfl

theorem v_chunk (H2 : at2 x2 = up b) (n : Fin 64) (i : Fin 128) (h : Fin 4) (e : Fin 256) :
    val_main_v78 (F := Ideal) x2 (ix5 0 n i h e) = (VR b (n.val * 128 + i.val) h.val e.val : EReal) := by
  pointwise [val_main_v78, v_at H2]

theorem dec_at (h : Fin 4) (i j : Fin 128) : val_main_v96 (F := Ideal) (ix3 h i j) = (dec (lg h.val) i.val j.val : EReal) := by
  rw [dec_same, Cert.ReferenceIdeal.Read.dec_at]
  exact decE_eq _ _ _ h.isLt i.isLt j.isLt

theorem wt_at (h : Fin 4) (n : Fin 64) (j : Fin 8192) : val_main_v125 (F := Ideal) (ix3 h n j) = (wt (lg h.val) n.val j.val : EReal) := by
  rw [wt_same, Cert.ReferenceIdeal.Read.wt_at]
  exact wtE_eq _ _ _ h.isLt n.isLt j.isLt

theorem qd_at (i : Fin 128) (h : Fin 4) : val_main_v141 (F := Ideal) (ix2 i h) = (qdR h.val i.val : EReal) := by
  rw [qd_same, Cert.ReferenceIdeal.Read.qd_at]
  exact qdE_eq _ _ h.isLt i.isLt

theorem sc_at (H1 : at2 x1 = up a) (n : Fin 64) (h : Fin 4) (i j : Fin 128) :
    val_main_v100 (F := Ideal) x1 (ix5 0 n h i j) = (scR a n.val h.val i.val j.val : EReal) := by
  rw [sc_same, Cert.ReferenceIdeal.Read.score_at, H1]
  exact sc_eq a _ _ _ _ n.isLt h.isLt i.isLt j.isLt

theorem st_at (H1 : at2 x1 = up a) (H2 : at2 x2 = up b) (n : Fin 64) (h : Fin 4) (d : Fin 128) (e : Fin 256) :
    val_main_v133 (F := Ideal) x1 x2 (ix5 n 0 h d e) = (StR a b n.val h.val d.val e.val : EReal) := by
  rw [st_same, Cert.ReferenceIdeal.Read.state_at, H1, H2]
  exact St_eq a b _ _ _ _ d.isLt

theorem cos_k (p : Fin 8192) (d : Fin 64) : val_main_v48 (F := Ideal) (ix2 p d) = (cosR p.val d.val : EReal) := by
  rw [cos_same, Cert.ReferenceIdeal.Read.cos_at']
  exact cosE_eq _ _ p.isLt d.isLt
theorem sin_k (p : Fin 8192) (d : Fin 64) : val_main_v50 (F := Ideal) (ix2 p d) = (sinR p.val d.val : EReal) := by
  rw [sin_same, Cert.ReferenceIdeal.Read.sin_at']
  exact sinE_eq _ _ p.isLt d.isLt
theorem cos_q (p : Fin 8192) (d : Fin 64) : val_main_v17 (F := Ideal) (ix2 p d) = (cosR p.val d.val : EReal) := cos_k p d
theorem sin_q (p : Fin 8192) (d : Fin 64) : val_main_v19 (F := Ideal) (ix2 p d) = (sinR p.val d.val : EReal) := sin_k p d

/-- The two halves of a row, put together again. -/
theorem halves (x : ℕ → ℝ) (p s : ℕ) (hs : s < 512) :
    ((if h : s / 128 < 4 ∧ 64 ≤ s % 128 ∧ s % 128 - 64 < 64 then
        (x (64 + (s % 128 - 64)) : EReal) * (cosR p (s % 128 - 64) : EReal) + -(x (s % 128 - 64) : EReal) * (sinR p (s % 128 - 64) : EReal)
      else 0) +
      if h : s / 128 < 4 ∧ s % 128 < 64 then
        (x (64 + s % 128) : EReal) * (sinR p (s % 128) : EReal) + (x (s % 128) : EReal) * (cosR p (s % 128) : EReal)
      else 0) = (unrotR x p (s % 128) : EReal) := by
  unfold unrotR
  by_cases hd : s % 128 < 64
  · rw [dif_neg (by omega), dif_pos ⟨by omega, hd⟩, if_pos hd, zero_add, ← EReal.coe_mul, ← EReal.coe_mul, ← EReal.coe_add, add_comm]
  · rw [dif_pos (by omega), dif_neg (by omega), if_neg hd, add_zero, show 64 + (s % 128 - 64) = s % 128 by omega, ← EReal.coe_neg,
      ← EReal.coe_mul, ← EReal.coe_mul, ← EReal.coe_add]
    congr 1
    ring

/-! ## The gradients per chunk -/

section
variable (H0 : at2 x0 = up y) (H1 : at2 x1 = up a) (H2 : at2 x2 = up b) (H3 : at2 x3 = up g)
include H0 H1 H2 H3

theorem do_chunk (n : Fin 64) (i : Fin 128) (h : Fin 4) (e : Fin 256) :
    val_main_v212 (F := Ideal) x0 x1 x2 x3 (ix5 0 n i h e) = (doR a b g y n.val h.val i.val e.val : EReal) := by
  pointwise [val_main_v212, do_at H0 H1 H2 H3]
  rw [show (n.val * 128 + i.val) / 128 = n.val by omega, show (n.val * 128 + i.val) % 128 = i.val by omega]

theorem ds_chunk (n : Fin 64) (h : Fin 4) (i j : Fin 128) :
    val_main_v236 (F := Ideal) x0 x1 x2 x3 (ix5 0 n h i j) = (dsR a b g y n.val h.val i.val j.val : EReal) := by
  pointwise [val_main_v236, val_main_v235, val_main_v232, val_main_v231, val_main_v98, val_main_v97, do_chunk H0 H1 H2 H3, v_chunk H2, dec_at]
  simp only [← EReal.coe_mul, ← coe_sum]
  rfl

theorem dS_chunk (n : Fin 64) (h : Fin 4) (d : Fin 128) (e : Fin 256) :
    val_main_v217 (F := Ideal) x0 x1 x2 x3 (ix5 n 0 h d e) = (dSR a b g y n.val h.val d.val e.val : EReal) := by
  pointwise [val_main_v217, val_main_v216, val_main_v213, val_main_v144, val_main_v143, val_main_v142, do_chunk H0 H1 H2 H3, q_at H1, qd_at]
  simp only [← EReal.coe_mul, ← coe_sum]
  unfold dSR
  exact congrArg _ (Finset.sum_congr rfl fun i _ => by ring)

theorem dq_chunk (n : Fin 64) (i : Fin 128) (h : Fin 4) (d : Fin 128) :
    val_main_v241 (F := Ideal) x0 x1 x2 x3 (ix5 0 n i h d) = (dqR a b g y n.val h.val i.val d.val : EReal) := by
  pointwise [val_main_v241, val_main_v240, val_main_v239, val_main_v219, val_main_v218, val_main_v215, val_main_v214, val_main_v213,
    val_main_v142, do_chunk H0 H1 H2 H3, ds_chunk H0 H1 H2 H3, st_at H1 H2, k_chunk H1, qd_at]
  simp only [← EReal.coe_mul, ← coe_sum, ← EReal.coe_add]
  unfold dqR
  rw [add_comm]

theorem dk_inner (n : Fin 64) (j : Fin 128) (h : Fin 4) (d : Fin 128) :
    val_main_v238 (F := Ideal) x0 x1 x2 x3 (ix5 0 n j h d)
      = (∑ i : Fin 128, dsR a b g y n.val h.val i.val j.val * QR a (n.val * 128 + i.val) h.val d.val : ℝ) := by
  pointwise [val_main_v238, val_main_v237, ds_chunk H0 H1 H2 H3, q_at H1]
  simp only [← EReal.coe_mul, ← coe_sum]

theorem dv_inner (n : Fin 64) (j : Fin 128) (h : Fin 4) (e : Fin 256) :
    val_main_v234 (F := Ideal) x0 x1 x2 x3 (ix5 0 n j h e)
      = (∑ i : Fin 128, scR a n.val h.val i.val j.val * doR a b g y n.val h.val i.val e.val : ℝ) := by
  pointwise [val_main_v234, val_main_v233, val_main_v231, do_chunk H0 H1 H2 H3, sc_at H1]
  simp only [← EReal.coe_mul, ← coe_sum]
  exact congrArg _ (Finset.sum_congr rfl fun i _ => by ring)

theorem dk_cross (p : Fin 8192) (h : Fin 4) (d : Fin 128) :
    val_main_v230 (F := Ideal) x0 x1 x2 x3 (ix4 0 p h d)
      = (∑ m : Fin 64, (∑ e : Fin 256, dSR a b g y m.val h.val d.val e.val * VR b p.val h.val e.val) * wt (lg h.val) m.val p.val : ℝ) := by
  have hr : ∀ (p : Fin 8192) (h : Fin 4) (d : Fin 128), val_main_v229 (F := Ideal) x0 x1 x2 x3 (ix3 p h d)
      = val_main_v228 (F := Ideal) x0 x1 x2 x3 (ix5 0 0 p h d) := fun p h d => by
    unfold val_main_v229
    refine (sum_unit5 _ _ _ _ _ _ _).trans ?_
    pointwise [val_main_cst_32]
  pointwise [val_main_v230, hr, val_main_v228, val_main_v227, val_main_v226, val_main_v225, val_main_v222, val_main_v221, val_main_v220,
    val_main_v128, val_main_v127, val_main_v126, val_main_cst_31, dS_chunk H0 H1 H2 H3, v_at H2, wt_at]
  simp only [← EReal.coe_mul, ← coe_sum]

theorem dv_cross (p : Fin 8192) (h : Fin 4) (e : Fin 256) :
    val_main_v224 (F := Ideal) x0 x1 x2 x3 (ix4 0 p h e)
      = (∑ m : Fin 64, ∑ d : Fin 128, dSR a b g y m.val h.val d.val e.val * (KR a p.val h.val d.val * wt (lg h.val) m.val p.val) : ℝ) := by
  pointwise [val_main_v224, val_main_v223, val_main_v220, val_main_v131, val_main_v130, val_main_v129, val_main_v128, val_main_v127,
    val_main_v126, dS_chunk H0 H1 H2 H3, k_at H1, wt_at]
  simp only [← EReal.coe_mul, ← coe_sum]

theorem dk_at (p : Fin 8192) (h : Fin 4) (d : Fin 128) :
    val_main_v245 (F := Ideal) x0 x1 x2 x3 (ix4 0 p h d) = (dkR a b g y (p.val / 128) h.val (p.val % 128) d.val : EReal) := by
  pointwise [val_main_v245, val_main_v244, dk_inner H0 H1 H2 H3, dk_cross H0 H1 H2 H3]
  rw [← EReal.coe_add]
  unfold dkR
  rw [← dk_states a b g y (p.val / 128) h.val (p.val % 128) d.val (by omega), show p.val / 128 * 128 + p.val % 128 = p.val by omega, add_comm]

theorem dv_at (p : Fin 8192) (h : Fin 4) (e : Fin 256) :
    val_main_v243 (F := Ideal) x0 x1 x2 x3 (ix4 0 p h e) = (dvR a b g y (p.val / 128) h.val (p.val % 128) e.val : EReal) := by
  pointwise [val_main_v243, val_main_v242, dv_inner H0 H1 H2 H3, dv_cross H0 H1 H2 H3]
  rw [← EReal.coe_add]
  unfold dvR
  rw [← dv_states a b g y (p.val / 128) h.val (p.val % 128) e.val (by omega), show p.val / 128 * 128 + p.val % 128 = p.val by omega, add_comm]

theorem dq_at (p : Fin 8192) (h : Fin 4) (d : Fin 128) :
    val_main_v248 (F := Ideal) x0 x1 x2 x3 (ix4 0 p h d) = (dqR a b g y (p.val / 128) h.val (p.val % 128) d.val * scaleR : ℝ) := by
  pointwise [val_main_v248, val_main_v247, val_main_v246, val_main_cst_33, dq_chunk H0 H1 H2 H3]
  rw [lit_scale, ← EReal.coe_mul]
  rfl

/-! ## The results -/

theorem res_dv (p : Fin 8192) (s : Fin 1024) :
    val_main_v286 (F := Ideal) x0 x1 x2 x3 (ix2 p s) = (dvR a b g y (p.val / 128) (s.val / 256) (p.val % 128) (s.val % 256) : EReal) := by
  pointwise [val_main_v286, val_main_v249, dv_at H0 H1 H2 H3]

theorem res_dk (p : Fin 8192) (s : Fin 512) :
    val_main_v285 (F := Ideal) x0 x1 x2 x3 (ix2 p s)
      = (unrotR (fun d => dkR a b g y (p.val / 128) (s.val / 128) (p.val % 128) d) p.val (s.val % 128) : EReal) := by
  pointwise [val_main_v285, val_main_v266, val_main_v265, val_main_v264, val_main_v263, val_main_v262, val_main_v261, val_main_v260,
    val_main_v259, val_main_v258, val_main_v257, val_main_v256, val_main_v255, val_main_v254, val_main_v253, val_main_v252, val_main_v251,
    val_main_v250, val_main_v51, val_main_v49, val_main_cst_34, val_main_cst_35, cos_k, sin_k, dk_at H0 H1 H2 H3]
  exact halves (fun d => dkR a b g y (p.val / 128) (s.val / 128) (p.val % 128) d) _ _ s.isLt

theorem res_dq (p : Fin 8192) (s : Fin 512) :
    val_main_v284 (F := Ideal) x0 x1 x2 x3 (ix2 p s)
      = (unrotR (fun d => dqR a b g y (p.val / 128) (s.val / 128) (p.val % 128) d * scaleR) p.val (s.val % 128) : EReal) := by
  pointwise [val_main_v284, val_main_v283, val_main_v282, val_main_v281, val_main_v280, val_main_v279, val_main_v278, val_main_v277,
    val_main_v276, val_main_v275, val_main_v274, val_main_v273, val_main_v272, val_main_v271, val_main_v270, val_main_v269, val_main_v268,
    val_main_v267, val_main_v20, val_main_v18, val_main_cst_36, val_main_cst_37, cos_q, sin_q, dq_at H0 H1 H2 H3]
  exact halves (fun d => dqR a b g y (p.val / 128) (s.val / 128) (p.val % 128) d * scaleR) _ _ s.isLt

end

end Cert.ReferencebIdeal.Read
-- ==== Proof.Backward.lean ====
module

public import proofs.«01_k».proof.Defs
public import proofs.«01_k».proof.Proof.KBwdVal
public import proofs.«01_k».proof.Proof.RefBwdB
public import proofs.«01_k».proof.Proof.Gen.ReferencebIdeal.Run

@[expose] public section

set_option maxRecDepth 16384

noncomputable section

/-! The backward kernel and its reference leave equal gradients where no argument has an infinite entry. -/

namespace Cert.Backward

open Idealize.ShloMosaic Idealize.SL.Sem Cert.Ret

/-- The precondition's side condition. -/
theorem facts : Cert.Pre_finite.Facts := ⟨by decide⟩

theorem real_of_abs_lt (x : EReal) (h : max x (-x) < ⊤) : ((x.toReal : ℝ) : EReal) = x := by
  refine EReal.coe_toReal ?_ ?_
  · rintro rfl
    simp at h
  · rintro rfl
    simp at h

theorem and_ofBool (p q : Bool) : IntOp.andi (BitVec.ofBool p) (BitVec.ofBool q) = BitVec.ofBool (p && q) := by
  cases p <;> cases q <;> rfl

/-- The bound that the precondition compares with, in both formats. -/
theorem inf_f32 : Ideal.ofBits FTy.f32 0x7F800000#32 = ⊤ := by simp [Ideal.ofBits, Ideal.ieee]
theorem inf_bf16 : Ideal.ofBits FTy.bf16 0x7F80#16 = ⊤ := by simp [Ideal.ofBits, Ideal.ieee]

theorem abs_at {φ : FTy} (x : EReal) : FloatOps.absf (F := Ideal) (φ := φ) x = max x (-x) := rfl

/-- What the precondition says of an entry of each argument. -/
theorem entries (x0 x1 x2 x3 : Cert.Pre_finite.S8192x1024.Idx → EReal)
    (h : @Cert.Pre_finite.fn facts Ideal _ x0 x1 x2 x3 = fun _ => 1#1) (i : Cert.Pre_finite.S8192x1024.Idx) :
    max (x0 i) (-x0 i) < ⊤ ∧ max (x1 i) (-x1 i) < ⊤ ∧ max (x2 i) (-x2 i) < ⊤ ∧ max (x3 i) (-x3 i) < ⊤ := by
  have hi := congrFun h i
  revert hi
  pointwise [Cert.Pre_finite.fn]
  intro hi
  rw [inf_f32, inf_bf16, and_ofBool, and_ofBool, and_ofBool, abs_at, abs_at, abs_at, abs_at] at hi
  have hb : ∀ p : Bool, BitVec.ofBool p = 1#1 → p = true := by decide
  have := hb _ hi
  simp only [Bool.and_eq_true, decide_eq_true_eq] at this
  exact ⟨this.1.1.1, this.1.1.2, this.1.2, this.2⟩

/-- An array without infinite entries is the array of its real values. -/
theorem at2_real (X : (⟨2, ![8192, 1024]⟩ : Shape).Idx → EReal) (h : ∀ i, max (X i) (-X i) < ⊤) :
    at2 X = up fun p s => (at2 X p s).toReal := by
  funext p s
  refine (real_of_abs_lt _ ?_).symm
  unfold at2
  split
  · exact h _
  · simp

variable (m : (ℓ : Loc Cert.KernelbIdeal.nD Cert.KernelbIdeal.τ Cert.KernelbIdeal.sig) → Buf (Elt Ideal) ℓ) (c : Dev Cert.KernelbIdeal.nD)

/-- Under the precondition the arguments are arrays of reals. -/
theorem args (h : @Cert.Pre_KernelbIdeal_finite facts m) : ∃ a b g y : ℕ → ℕ → ℝ, Cert.KernelbIdeal.Bwd.Args m c a b g y := by
  have e := entries _ _ _ _ (h c)
  exact ⟨_, _, _, _, at2_real _ fun i => (e i).1, at2_real _ fun i => (e i).2.1, at2_real _ fun i => (e i).2.2.1,
    at2_real _ fun i => (e i).2.2.2⟩

section

variable {a b g y : ℕ → ℕ → ℝ} (H : Cert.KernelbIdeal.Bwd.Args m c a b g y)
  (X0 X1 : (⟨Cert.ReferencebIdeal.S8192x1024, .f32⟩ : BufTy).Contents (Elt Ideal)) (X2 : (⟨Cert.ReferencebIdeal.S8192x1024, .bf16⟩ : BufTy).Contents (Elt Ideal))
  (X3 : (⟨Cert.ReferencebIdeal.S8192x1024, .f32⟩ : BufTy).Contents (Elt Ideal))
  (h0 : X0 = m ((c.tc : Thread Cert.KernelbIdeal.nD Cert.KernelbIdeal.τ).loc Cert.KernelbIdeal.main_arg0))
  (h1 : X1 = m ((c.tc : Thread Cert.KernelbIdeal.nD Cert.KernelbIdeal.τ).loc Cert.KernelbIdeal.main_arg1))
  (h2 : X2 = m ((c.tc : Thread Cert.KernelbIdeal.nD Cert.KernelbIdeal.τ).loc Cert.KernelbIdeal.main_arg2))
  (h3 : X3 = m ((c.tc : Thread Cert.KernelbIdeal.nD Cert.KernelbIdeal.τ).loc Cert.KernelbIdeal.main_arg3))
include H h0 h1 h2 h3

/-- The gradients of `q` agree. -/
theorem dq : Cert.ReferencebIdeal.Read.val_main_v284 (F := Ideal) X0 X1 X2 X3 = (Cert.KernelbIdeal.Gen.dats m 0 c).arrAt 13 Cert.KernelbIdeal.cfg0.N := by
  subst h0 h1 h2 h3
  funext i
  rw [eq_ix2 i]
  refine (Cert.ReferencebIdeal.Read.res_dq H.y H.a H.b H.g (i 0) (i 1)).trans (Eq.trans ?_ (Cert.KernelbIdeal.Bwd.dq_at m c H (i 0) (i 1)).symm)
  unfold Cert.KernelbIdeal.Bwd.gq
  rw [Nat.div_add_mod']

/-- The gradients of `k` agree. -/
theorem dk : Cert.ReferencebIdeal.Read.val_main_v285 (F := Ideal) X0 X1 X2 X3 = (Cert.KernelbIdeal.Gen.dats m 0 c).arrAt 14 Cert.KernelbIdeal.cfg0.N := by
  subst h0 h1 h2 h3
  funext i
  rw [eq_ix2 i]
  refine (Cert.ReferencebIdeal.Read.res_dk H.y H.a H.b H.g (i 0) (i 1)).trans (Eq.trans ?_ (Cert.KernelbIdeal.Bwd.dk_at m c H (i 0) (i 1)).symm)
  unfold Cert.KernelbIdeal.Bwd.gk
  rw [Nat.div_add_mod']

/-- The gradients of `v` agree. -/
theorem dv : Cert.ReferencebIdeal.Read.val_main_v286 (F := Ideal) X0 X1 X2 X3 = (Cert.KernelbIdeal.Gen.dats m 0 c).arrAt 15 Cert.KernelbIdeal.cfg0.N := by
  subst h0 h1 h2 h3
  funext i
  rw [eq_ix2 i]
  exact (Cert.ReferencebIdeal.Read.res_dv H.y H.a H.b H.g (i 0) (i 1)).trans (Cert.KernelbIdeal.Bwd.dv_at m c H (i 0) (i 1)).symm

/-- The gradients of the gate agree. -/
theorem dg : Cert.ReferencebIdeal.Read.val_main_v287 (F := Ideal) X0 X1 X2 X3 = (Cert.KernelbIdeal.Gen.dats m 0 c).arrAt 16 Cert.KernelbIdeal.cfg0.N := by
  subst h0 h1 h2 h3
  funext i
  rw [eq_ix2 i]
  exact (Cert.ReferencebIdeal.Read.dg_at H.y H.a H.b H.g (i 0) (i 1)).trans (Cert.KernelbIdeal.Bwd.dg_at m c H (i 0) (i 1)).symm

end

theorem results_equal : Cert.algebraic_KernelbIdeal_ReferencebIdeal_pre_finite (hKernelbIdeal := Cert.KernelbIdeal.Gen.facts)
    (hReferencebIdeal := Cert.ReferencebIdeal.Gen.facts) (hPre_finite := facts) := by
  intro m g m' g' hpre hagree
  refine ⟨fun c => (Cert.KernelbIdeal.Gen.dats m 0 c).arrAt 13 Cert.KernelbIdeal.cfg0.N, fun c => (Cert.KernelbIdeal.Gen.dats m 0 c).arrAt 14 Cert.KernelbIdeal.cfg0.N,
    fun c => (Cert.KernelbIdeal.Gen.dats m 0 c).arrAt 15 Cert.KernelbIdeal.cfg0.N, fun c => (Cert.KernelbIdeal.Gen.dats m 0 c).arrAt 16 Cert.KernelbIdeal.cfg0.N,
    Cert.KernelbIdeal.Value.run_blocks m g, (θ_run Cert.ReferencebIdeal.defs _ _).mono (fun r h c => ?_) (Cert.ReferencebIdeal.Value.run (F := Ideal) m' g')⟩
  obtain ⟨a, b, w, y, H⟩ := args m c hpre
  obtain ⟨hq, hk, hv, hg, h0, h1, h2, h3⟩ := h c
  obtain ⟨e0, e1, e2, e3⟩ := hagree c
  exact ⟨(hq.trans (Cert.ReferencebIdeal.Read.val_main_v284_eq (F := Ideal) _)).trans (dq m c H _ _ _ _ e0 e1 e2 e3),
    (hk.trans (Cert.ReferencebIdeal.Read.val_main_v285_eq (F := Ideal) _)).trans (dk m c H _ _ _ _ e0 e1 e2 e3),
    (hv.trans (Cert.ReferencebIdeal.Read.val_main_v286_eq (F := Ideal) _)).trans (dv m c H _ _ _ _ e0 e1 e2 e3),
    (hg.trans (Cert.ReferencebIdeal.Read.val_main_v287_eq (F := Ideal) _)).trans (dg m c H _ _ _ _ e0 e1 e2 e3), h0, h1, h2, h3⟩

end Cert.Backward
-- ==== Proof.Finite.lean ====
module

public import proofs.«01_k».proof.Defs
public import Idealize.ShloMosaic.Lib.Pointwise
public import Idealize.ShloMosaic.Lib.Pipeline.ValueKit.Acc

@[expose] public section

set_option maxRecDepth 16384

noncomputable section

/-! What the preconditions say of an entry: its absolute value is below the infinity of its format, so it is a real. -/

namespace Cert.Finite

open Idealize.ShloMosaic

theorem real_of_abs_lt (x : EReal) (h : max x (-x) < ⊤) : ((x.toReal : ℝ) : EReal) = x := by
  refine EReal.coe_toReal ?_ ?_
  · rintro rfl
    simp at h
  · rintro rfl
    simp at h

/-- The bound that the preconditions compare with, in both formats. -/
theorem inf_f32 : Ideal.ofBits FTy.f32 0x7F800000#32 = ⊤ := by simp [Ideal.ofBits, Ideal.ieee]
theorem inf_bf16 : Ideal.ofBits FTy.bf16 0x7F80#16 = ⊤ := by simp [Ideal.ofBits, Ideal.ieee]
theorem one_f32 : Ideal.ofBits FTy.f32 0x3F800000#32 = ((1 : ℝ) : EReal) := by
  simp [Ideal.ofBits, Ideal.ieee, -EReal.coe_mul]; norm_num

theorem abs_at {φ : FTy} (x : EReal) : FloatOps.absf (F := Ideal) (φ := φ) x = max x (-x) := rfl

/-- An entry for which the comparison holds is a real. -/
theorem real_of_bit (x : EReal) (h : BitVec.ofBool (decide (max x (-x) < ⊤)) = 1#1) : ∃ r : ℝ, x = r := by
  have hb : ∀ p : Bool, BitVec.ofBool p = 1#1 → p = true := by decide
  exact ⟨x.toReal, (real_of_abs_lt x (of_decide_eq_true (hb _ h))).symm⟩

/-- A sum of products of reals is the real sum of the real products. -/
theorem sum_mul_coe {n : ℕ} (f g : Fin n → EReal) (a b : Fin n → ℝ) (hf : ∀ k, f k = a k) (hg : ∀ k, g k = b k) :
    ∑ k, f k * g k = ((∑ k, a k * b k : ℝ) : EReal) := by
  have : ∀ s : Finset (Fin n), ∑ k ∈ s, f k * g k = ((∑ k ∈ s, a k * b k : ℝ) : EReal) := by
    intro s
    induction s using Finset.cons_induction with
    | empty => simp
    | cons k s hk ih => rw [Finset.sum_cons, Finset.sum_cons, ih, hf, hg, EReal.coe_add, EReal.coe_mul]
  exact this _

end Cert.Finite

end
-- ==== Proof.FfnBwdVal.lean ====
module

public import proofs.«01_k».proof.Defs
public import proofs.«01_k».proof.Proof.Finite
public import proofs.«01_k».proof.Proof.Gen.FfnBwdIdeal.Value
public import proofs.«01_k».proof.Proof.Gen.FfnBwdRefIdeal.Run
public import proofs.«01_k».proof.Proof.Gen.FfnBwdRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The feed-forward's gradient through its second product and its gated activation. The kernel writes the two
halves of the gradient side by side; the reference adds them up, each padded with zeros. -/

namespace Cert.FfnBwdIdeal.Val

open Cert.FfnBwdIdeal Cert.FfnBwdIdeal.Gen Cert.FfnBwdIdeal.Value Idealize.ShloMosaic Idealize.ShloMosaic.TcCoe Cert.Finite

/-- The gradient of the activation's gate, as the kernel computes it from the activation's gradient. -/
def gateGrad (d a b : EReal) : EReal :=
  d * b * (Ideal.logistic a * (((1 : ℝ) : EReal) + a * (((1 : ℝ) : EReal) - Ideal.logistic a)))

/-- The gradient of the activation's other factor. -/
def valueGrad (d a : EReal) : EReal := d * (a * Ideal.logistic a)

/-- The activation's gradient. -/
def back (y : S8192x1024.Idx → EReal) (w : S2816x1024.Idx → EReal) (i : Fin 8192) (j : Fin 2816) : EReal :=
  ∑ k : Fin 1024, y (ix2 i k) * w (ix2 j k)

/-- The kernel's left half of a block. -/
theorem pay_left (u : Vec Ideal S256x1024 .bf16) (w : Vec Ideal S2816x1024 .bf16) (f : Vec Ideal S256x5632 .f32) (p : Fin 256) (q : Fin 2816) :
    k0_pay1 u w f (ix2 p ⟨q.val, by omega⟩)
      = gateGrad (∑ k : Fin 1024, u (ix2 p k) * w (ix2 q k)) (f (ix2 p ⟨q.val, by omega⟩)) (f (ix2 p ⟨2816 + q.val, by omega⟩)) := by
  unfold gateGrad
  rw [← one_f32]
  refine (concatenate_pair_apply_left (1 : Fin S256x5632.rank) _ _ concatenates_S256x2816_S256x2816_S256x5632_d1 _ rfl (ix2 p q)
    (fun b => match b with | ⟨0, _⟩ => rfl | ⟨1, _⟩ => rfl)).trans ?_
  pointwise []

/-- The kernel's right half of a block. -/
theorem pay_right (u : Vec Ideal S256x1024 .bf16) (w : Vec Ideal S2816x1024 .bf16) (f : Vec Ideal S256x5632 .f32) (p : Fin 256) (q : Fin 2816) :
    k0_pay1 u w f (ix2 p ⟨2816 + q.val, by omega⟩)
      = valueGrad (∑ k : Fin 1024, u (ix2 p k) * w (ix2 q k)) (f (ix2 p ⟨q.val, by omega⟩)) := by
  unfold valueGrad
  refine (concatenate_pair_apply_right (1 : Fin S256x5632.rank) _ _ concatenates_S256x2816_S256x2816_S256x5632_d1 _ rfl rfl (ix2 p q)
    (fun b hb => match b with | ⟨0, _⟩ => rfl | ⟨1, _⟩ => absurd rfl hb) (Nat.add_comm _ _)).trans ?_
  pointwise []

section Ref

open Cert.FfnBwdRefIdeal.Read

variable (y : S8192x1024.Idx → EReal) (w : S2816x1024.Idx → EReal) (f : S8192x5632.Idx → EReal) (i : Fin 8192) (j : Fin 2816)

/-- A padded array within the array it pads, and outside of it: columns before it. -/
theorem pad_before_out (x : Cert.FfnBwdRefIdeal.S8192x2816.Idx → EReal) (v : Cert.FfnBwdRefIdeal.S_.Idx → EReal) (hs : Cert.FfnBwdRefIdeal.S8192x2816.Pads ![0, 2816] ![0, 0] ![0, 0] S8192x5632) (hu : 0 < Cert.FfnBwdRefIdeal.S_.numel) :
    pad S8192x5632 ![0, 2816] ![0, 0] ![0, 0] x v hs hu (ix2 i ⟨j.val, by omega⟩) = v (Shape.Idx.first hu) := by
  unfold pad
  rw [dif_neg]
  intro h
  have h1 := (h 1).1
  change 2816 ≤ j.val at h1
  omega

theorem pad_before_in (x : Cert.FfnBwdRefIdeal.S8192x2816.Idx → EReal) (v : Cert.FfnBwdRefIdeal.S_.Idx → EReal) (hs : Cert.FfnBwdRefIdeal.S8192x2816.Pads ![0, 2816] ![0, 0] ![0, 0] S8192x5632) (hu : 0 < Cert.FfnBwdRefIdeal.S_.numel) :
    pad S8192x5632 ![0, 2816] ![0, 0] ![0, 0] x v hs hu (ix2 i ⟨2816 + j.val, by omega⟩) = x (ix2 i j) := by
  unfold pad
  rw [dif_pos]
  · refine congrArg x (funext fun a => match a with | ⟨0, _⟩ => Fin.ext ?_ | ⟨1, _⟩ => Fin.ext ?_)
    · change (i.val - 0) / (0 + 1) = i.val
      omega
    · change (2816 + j.val - 2816) / (0 + 1) = j.val
      omega
  · intro a
    match a with
    | ⟨0, _⟩ => change 0 ≤ i.val ∧ (i.val - 0) % (0 + 1) = 0 ∧ (i.val - 0) / (0 + 1) < 8192; omega
    | ⟨1, _⟩ => change 2816 ≤ 2816 + j.val ∧ (2816 + j.val - 2816) % (0 + 1) = 0 ∧ (2816 + j.val - 2816) / (0 + 1) < 2816; omega

/-- The same, with the columns after it. -/
theorem pad_after_in (x : Cert.FfnBwdRefIdeal.S8192x2816.Idx → EReal) (v : Cert.FfnBwdRefIdeal.S_.Idx → EReal) (hs : Cert.FfnBwdRefIdeal.S8192x2816.Pads ![0, 0] ![0, 2816] ![0, 0] S8192x5632) (hu : 0 < Cert.FfnBwdRefIdeal.S_.numel) :
    pad S8192x5632 ![0, 0] ![0, 2816] ![0, 0] x v hs hu (ix2 i ⟨j.val, by omega⟩) = x (ix2 i j) := by
  unfold pad
  rw [dif_pos]
  · refine congrArg x (funext fun a => match a with | ⟨0, _⟩ => Fin.ext ?_ | ⟨1, _⟩ => Fin.ext ?_)
    · change (i.val - 0) / (0 + 1) = i.val
      omega
    · change (j.val - 0) / (0 + 1) = j.val
      omega
  · intro a
    match a with
    | ⟨0, _⟩ => change 0 ≤ i.val ∧ (i.val - 0) % (0 + 1) = 0 ∧ (i.val - 0) / (0 + 1) < 8192; omega
    | ⟨1, _⟩ => change 0 ≤ j.val ∧ (j.val - 0) % (0 + 1) = 0 ∧ (j.val - 0) / (0 + 1) < 2816; omega

theorem pad_after_out (x : Cert.FfnBwdRefIdeal.S8192x2816.Idx → EReal) (v : Cert.FfnBwdRefIdeal.S_.Idx → EReal) (hs : Cert.FfnBwdRefIdeal.S8192x2816.Pads ![0, 0] ![0, 2816] ![0, 0] S8192x5632) (hu : 0 < Cert.FfnBwdRefIdeal.S_.numel) :
    pad S8192x5632 ![0, 0] ![0, 2816] ![0, 0] x v hs hu (ix2 i ⟨2816 + j.val, by omega⟩) = v (Shape.Idx.first hu) := by
  unfold pad
  rw [dif_neg]
  intro h
  have h1 := (h 1).2.2
  change (2816 + j.val - 0) / (0 + 1) < 2816 at h1
  omega

theorem ref_back : val_main_v7 (F := Ideal) y w (ix2 i j) = back y w i j := by
  pointwise [val_main_v7, val_main_v6, val_main_v4]
  rfl

theorem ref_sig : val_main_v1_2 (F := Ideal) f (ix2 i j) = Ideal.logistic (f (ix2 i ⟨j.val, by omega⟩)) := by
  pointwise [val_main_v1_2, val_main_call0_v4, val_main_call0_v3, val_main_call0_v2, val_main_call0_v1, val_main_call0_v0, val_main_v0, val_main_call0_cst, val_main_call0_cst_0]
  rfl

theorem ref_zero : (constant (F := Ideal) Cert.FfnBwdRefIdeal.S_ .f32 0x00000000#32) (Shape.Idx.first Cert.FfnBwdRefIdeal.Gen.facts.h_S_) = (0 : EReal) := by
  simp [constant, Ideal.ofBits, Ideal.ieee]

/-- The reference's right half. -/
theorem ref_right : val_main_v14 (F := Ideal) y w f (ix2 i ⟨2816 + j.val, by omega⟩)
    = f (ix2 i ⟨j.val, by omega⟩) * Ideal.logistic (f (ix2 i ⟨j.val, by omega⟩)) * back y w i j + 0 := by
  rw [← ref_sig, ← ref_back, ← ref_zero]
  refine congrArg₂ (· + ·) ((pad_before_in i j _ _ _ _).trans ?_) (pad_after_out i j _ _ _ _)
  pointwise [val_main_v8, val_main_v1_0, val_main_v0]

/-- The reference's left half. -/
theorem ref_left : val_main_v14 (F := Ideal) y w f (ix2 i ⟨j.val, by omega⟩)
    = 0 + (back y w i j * f (ix2 i ⟨2816 + j.val, by omega⟩) * Ideal.logistic (f (ix2 i ⟨j.val, by omega⟩))
      + f (ix2 i ⟨j.val, by omega⟩) * (back y w i j * f (ix2 i ⟨2816 + j.val, by omega⟩))
        * (Ideal.logistic (f (ix2 i ⟨j.val, by omega⟩)) * (((1 : ℝ) : EReal) - Ideal.logistic (f (ix2 i ⟨j.val, by omega⟩))))) := by
  rw [← ref_sig, ← ref_back, ← ref_zero, ← one_f32]
  refine congrArg₂ (· + ·) (pad_before_out i j _ _ _ _) ((pad_after_in i j _ _ _ _).trans ?_)
  pointwise [val_main_v11, val_main_call1_v1, val_main_call1_v2, val_main_call1_v0, val_main_v9, val_main_v2, val_main_v1_1, val_main_call0_v7, val_main_call0_v6, val_main_call0_cst_1, val_main_v0]

end Ref

/-- The two ways to compute the gate's gradient agree on reals. -/
theorem gate_real (d a b : ℝ) :
    (0 : EReal) + ((d : EReal) * b * Ideal.logistic (a : EReal) + (a : EReal) * ((d : EReal) * b) * (Ideal.logistic (a : EReal) * (((1 : ℝ) : EReal) - Ideal.logistic (a : EReal))))
      = gateGrad d a b := by
  unfold gateGrad
  rw [zero_add]
  simp only [Ideal.logistic_coe, ← EReal.coe_mul, ← EReal.coe_sub, ← EReal.coe_add]
  exact congrArg _ (by ring)

theorem value_real (d a : EReal) : a * Ideal.logistic a * d + 0 = valueGrad d a := by
  unfold valueGrad
  rw [add_zero, mul_comm]

variable (m : (ℓ : Loc nD τ sig) → Buf (Elt Ideal) ℓ) (c : Dev nD)

/-- The launched arguments. -/
def y : S8192x1024.Idx → EReal := m ((c : Thread nD τ).loc main_arg0)
def w : S2816x1024.Idx → EReal := m ((c : Thread nD τ).loc main_arg1)
def f : S8192x5632.Idx → EReal := m ((c : Thread nD τ).loc main_arg2)

theorem index_t : ∀ t : Fin cfg0.N, win0_0.index t = ![t.val, 0] ∧ win0_1.index t = ![0, 0] ∧ win0_2.index t = ![t.val, 0] ∧ win0_3.index t = ![t.val, 0] := by
  decide +kernel

theorem row_lt (t : Fin cfg0.N) (p : Fin 256) : t.val * 256 + p.val < 8192 := by
  have ht : t.val < 32 := lt_of_lt_of_eq t.isLt N_0
  omega

/-- What a step reads of the saved values. -/
theorem saved_at (t : Fin cfg0.N) (p : Fin 256) (q : Fin 5632) : iblk m c 2 t (ix2 p q) = f m c (ix2 ⟨t.val * 256 + p.val, row_lt t p⟩ q) := by
  have e2 := (index_t t).2.2.1
  unfold f
  blk_ext [iblk, V, e2]

/-- The activation's gradient in a step. -/
theorem step_back (t : Fin cfg0.N) (p : Fin 256) (q : Fin 2816) (a : Vec Ideal S256x1024 .bf16) (b : Vec Ideal S2816x1024 .bf16)
    (ha : a = iblk m c 0 t) (hb : b = iblk m c 1 t) :
    ∑ k : Fin 1024, a (ix2 p k) * b (ix2 q k) = back (y m c) (w m c) ⟨t.val * 256 + p.val, row_lt t p⟩ q := by
  subst ha hb
  refine Fin.sum_fin_congr fun k => ?_
  have e0 := (index_t t).1
  have e1 := (index_t t).2.1
  refine congrArg₂ (· * ·) ?_ ?_
  · unfold y
    blk_ext [iblk, V, e0]
  · unfold w
    blk_ext [iblk, V, e1]

/-- A column is in the left half or in the right. -/
theorem halves (q : Fin 5632) : (∃ j : Fin 2816, q = ⟨j.val, by omega⟩) ∨ ∃ j : Fin 2816, q = ⟨2816 + j.val, by omega⟩ := by
  by_cases h : q.val < 2816
  · exact .inl ⟨⟨q.val, h⟩, rfl⟩
  · exact .inr ⟨⟨q.val - 2816, by omega⟩, Fin.ext (by change q.val = 2816 + (q.val - 2816); omega)⟩

open Cert.FfnBwdRefIdeal.Read in
/-- On reals, a step's block is the reference's gradient at the step's positions. -/
theorem step_eq (hy : ∀ i, ∃ r : ℝ, y m c i = r) (hw : ∀ i, ∃ r : ℝ, w m c i = r) (hf : ∀ i, ∃ r : ℝ, f m c i = r)
    (t : Fin cfg0.N) (p : Fin 256) (q : Fin 5632) :
    k0_pay1 (iblk m c 0 t) (iblk m c 1 t) (iblk m c 2 t) (ix2 p q)
      = val_main_v14 (F := Ideal) (y m c) (w m c) (f m c) (ix2 ⟨t.val * 256 + p.val, row_lt t p⟩ q) := by
  rcases halves q with ⟨j, rfl⟩ | ⟨j, rfl⟩
  · refine (pay_left _ _ _ p j).trans ?_
    rw [ref_left, step_back m c t p j _ _ rfl rfl, saved_at, saved_at]
    choose ry hry using hy
    choose rw' hrw using hw
    choose rf hrf using hf
    have hd : back (y m c) (w m c) ⟨t.val * 256 + p.val, row_lt t p⟩ j
        = ((∑ k : Fin 1024, ry (ix2 ⟨t.val * 256 + p.val, row_lt t p⟩ k) * rw' (ix2 j k) : ℝ) : EReal) :=
      sum_mul_coe _ _ _ _ (fun k => hry _) (fun k => hrw _)
    rw [hd, hrf, hrf]
    exact (gate_real _ _ _).symm
  · refine (pay_right _ _ _ p j).trans ?_
    rw [ref_right, step_back m c t p j _ _ rfl rfl, saved_at]
    exact (value_real _ _).symm

open Cert.FfnBwdRefIdeal.Read in
/-- On reals, the kernel's result is the reference's. -/
theorem grad_eq (hy : ∀ i, ∃ r : ℝ, y m c i = r) (hw : ∀ i, ∃ r : ℝ, w m c i = r) (hf : ∀ i, ∃ r : ℝ, f m c i = r) :
    (dats m 0 c).arrAt 3 cfg0.N = fun i : S8192x5632.Idx => val_main_v14 (F := Ideal) (y m c) (w m c) (f m c) (ix2 (i 0) (i 1)) := by
  refine (dats m 0 c).arrAt_eq_of_covers 3 _ (by decide +kernel) fun t _ z => ?_
  have e := (index_t t).2.2.2
  have h0 : (z 0).val < 256 := (z 0).isLt
  have h1 : (z 1).val < 5632 := (z 1).isLt
  have key := step_eq m c hy hw hf t ⟨(z 0).val, h0⟩ ⟨(z 1).val, h1⟩
  have a0 : (win0_3.blk t).view.emb z 0 = (⟨t.val * 256 + (z 0).val, row_lt t ⟨(z 0).val, h0⟩⟩ : Fin 8192) := Fin.ext (by blk_simp [e])
  have a1 : (win0_3.blk t).view.emb z 1 = (⟨(z 1).val, h1⟩ : Fin 5632) := Fin.ext (by blk_simp [e])
  blk_simp
  rw [after0_3]
  frame_out
  refine Eq.trans ?_ (key.trans ?_)
  · exact congrArg _ (funext fun a => match a with | ⟨0, _⟩ => rfl | ⟨1, _⟩ => rfl)
  · rw [a0, a1]

/-- The precondition's side condition. -/
theorem facts : Cert.Pre_finite_ffn.Facts := ⟨by decide, by decide, by decide⟩

/-- Under the precondition every entry of the arguments is a real. -/
theorem reals (u : S8192x1024.Idx → EReal) (v : S2816x1024.Idx → EReal) (z : S8192x5632.Idx → EReal)
    (h : (@Cert.Pre_finite_ffn.fn facts Ideal _ u v z).1 = (fun _ => 1#1) ∧ (@Cert.Pre_finite_ffn.fn facts Ideal _ u v z).2.1 = (fun _ => 1#1)
      ∧ (@Cert.Pre_finite_ffn.fn facts Ideal _ u v z).2.2 = (fun _ => 1#1)) :
    (∀ i, ∃ r : ℝ, u i = r) ∧ (∀ i, ∃ r : ℝ, v i = r) ∧ ∀ i, ∃ r : ℝ, z i = r := by
  refine ⟨fun i => real_of_bit _ ?_, fun i => real_of_bit _ ?_, fun i => real_of_bit _ ?_⟩
  · have hi := congrFun h.1 i
    revert hi
    pointwise [Cert.Pre_finite_ffn.fn]
    rw [inf_bf16, abs_at]
    exact id
  · have hi := congrFun h.2.1 i
    revert hi
    pointwise [Cert.Pre_finite_ffn.fn]
    rw [inf_bf16, abs_at]
    exact id
  · have hi := congrFun h.2.2 i
    revert hi
    pointwise [Cert.Pre_finite_ffn.fn]
    rw [inf_f32, abs_at]
    exact id

open Cert.FfnBwdRefIdeal.Read in
theorem results_equal : Cert.algebraic_FfnBwdIdeal_FfnBwdRefIdeal_pre_finite_ffn (hFfnBwdIdeal := Cert.FfnBwdIdeal.Gen.facts)
    (hFfnBwdRefIdeal := Cert.FfnBwdRefIdeal.Gen.facts) (hPre_finite_ffn := facts) := by
  intro m g m' g' hpre hagree
  refine ⟨fun c => (dats m 0 c).arrAt 3 cfg0.N, run_blocks m g,
    (θ_run Cert.FfnBwdRefIdeal.defs _ _).mono (fun r h c => ?_) (Cert.FfnBwdRefIdeal.Value.run (F := Ideal) m' g')⟩
  obtain ⟨hf, h0, h1, h2⟩ := h c
  obtain ⟨e0, e1, e2⟩ := hagree c
  have hr := reals _ _ _ (hpre c)
  refine ⟨(hf.trans (val_main_v14_eq (F := Ideal) _ _ _)).trans ?_, h0, h1, h2⟩
  refine Eq.trans ?_ (grad_eq m c hr.1 hr.2.1 hr.2.2).symm
  refine (congr (congrArg₂ _ e0 e1) e2).trans (funext fun i => congrArg _ ?_)
  exact funext fun a => match a with | ⟨0, _⟩ => rfl | ⟨1, _⟩ => rfl

end Cert.FfnBwdIdeal.Val

end
-- ==== Proof.Blocked.lean ====
module

public import Idealize.ShloMosaic.PureOps.Ideal
public import Idealize.ShloMosaic.Lib.Pipeline.ValueKit.Acc

@[expose] public section

noncomputable section

/-! A sum over 8192 rows taken as four blocks of 2048 rows. -/

namespace Cert.Blocked

theorem row_lt (s : Fin 4) (k : Fin 2048) : s.val * 2048 + k.val < 8192 := by omega

/-- Four blocks of 2048 rows are the 8192 rows. -/
theorem sum_four (f : Fin 8192 → EReal) : ∑ s : Fin 4, ∑ k : Fin 2048, f ⟨s.val * 2048 + k.val, row_lt s k⟩ = ∑ l : Fin 8192, f l := by
  refine Fin.sum_mul_add_congr fun s k h => ?_
  rfl

end Cert.Blocked

end
-- ==== Proof.GradIn.lean ====
module

public import proofs.«01_k».proof.Proof.Blocked
public import proofs.«01_k».proof.Proof.Gen.GradFfnInIdeal.Value
public import proofs.«01_k».proof.Proof.Gen.GradFfnInRefIdeal.Read
public import proofs.«01_k».proof.Proof.Gen.GradFfnInRefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the feed-forward's first weights: the kernel adds four blocks of 2048 rows in a scratch, the reference
    is one product over the 8192 rows. -/

namespace Cert.GradFfnInIdeal.Sum

open Cert.GradFfnInIdeal Cert.GradFfnInIdeal.Gen Cert.GradFfnInIdeal.Value Idealize.ShloMosaic Idealize.ShloMosaic.TcCoe

/-- The product of one block. -/
theorem block_at (u : Vec Ideal S2048x1024 .bf16) (v : Vec Ideal S2048x1408 .bf16) (p : Fin 1024) (q : Fin 1408) :
    k0_pay1 u v (ix2 p q) = ∑ k : Fin 2048, u (ix2 k p) * v (ix2 k q) := by
  pointwise [k0_pay1]

/-- What the first of four steps stores in the scratch. -/
theorem first_at (u : Vec Ideal S2048x1024 .bf16) (v : Vec Ideal S2048x1408 .bf16) (j : S1024x1408.Idx) :
    k0_pay2 u v j = 0 + k0_pay1 u v j := by
  rw [zero_add]
  pointwise [k0_pay2]

/-- What each later step stores in the scratch. -/
theorem later_at (u : Vec Ideal S2048x1024 .bf16) (v : Vec Ideal S2048x1408 .bf16) (w : Vec Ideal S1024x1408 .f32) (j : S1024x1408.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S1024x1408.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    rw [outsAt0_A m c t h (by omega) (by omega)]
    dsimp only
    frame_out
    exact first_at _ _ _
  · intro t h i
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  rw [outsAt0_C m c t (by omega) (by omega) hr]
  dsimp only
  frame_out
  rfl

/-- The three windows' blocks at each step. -/
theorem index_t : ∀ t : Fin cfg0.N, win0_0.index t = ![t.val % 4, 0] ∧ win0_1.index t = ![t.val % 4, t.val / 4] ∧ win0_2.index t = ![0, t.val / 4] := by
  decide +kernel

/-- The launched arguments. -/
def x : S8192x1024.Idx → EReal := m ((c : Thread nD τ).loc main_arg0)
def y : S8192x5632.Idx → EReal := m ((c : Thread nD τ).loc main_arg1)

theorem step_lt (t : Fin cfg0.N) (hm : t.val % 4 = 3) (s : Fin 4) : 4 * (t.val / 4) + s.val < cfg0.N := by
  have := t.isLt; omega

/-- An entry of the rows' block a step reads. -/
theorem rows_at (t : Fin cfg0.N) (hm : t.val % 4 = 3) (s : Fin 4) (k : Fin 2048) (p : Fin 1024) :
    iblk m c 0 ⟨4 * (t.val / 4) + s.val, step_lt t hm s⟩ (ix2 k p) = x m c (ix2 ⟨s.val * 2048 + k.val, Blocked.row_lt s k⟩ p) := by
  have e := (index_t ⟨4 * (t.val / 4) + s.val, step_lt t hm s⟩).1
  dsimp only at e
  rw [show (4 * (t.val / 4) + s.val) % 4 = s.val by omega] at e
  unfold x
  blk_ext [iblk, V, e]

/-- An entry of the gradient's block a step reads. -/
theorem cols_at (t : Fin cfg0.N) (hm : t.val % 4 = 3) (s : Fin 4) (k : Fin 2048) (q : Fin 1408) (h : t.val / 4 * 1408 + q.val < 5632) :
    iblk m c 1 ⟨4 * (t.val / 4) + s.val, step_lt t hm s⟩ (ix2 k q) = y m c (ix2 ⟨s.val * 2048 + k.val, Blocked.row_lt s k⟩ ⟨t.val / 4 * 1408 + q.val, h⟩) := by
  have e := (index_t ⟨4 * (t.val / 4) + s.val, step_lt t hm s⟩).2.1
  dsimp only at e
  rw [show (4 * (t.val / 4) + s.val) % 4 = s.val by omega, show (4 * (t.val / 4) + s.val) / 4 = t.val / 4 by omega] at e
  unfold y
  blk_ext [iblk, V, e]

/-- An entry of the block a last step writes back: one sum over all the rows. -/
theorem tile_at (t : Fin cfg0.N) (hm : t.val % 4 = 3) (p : Fin 1024) (q : Fin 1408) (h : t.val / 4 * 1408 + q.val < 5632) :
    (outsAt0 m c t.val t.isLt).1 (ix2 p q) = ∑ k : Fin 8192, x m c (ix2 k p) * y m c (ix2 k ⟨t.val / 4 * 1408 + q.val, h⟩) := by
  rw [out_eq m c t hm, scratch_at m c t hm, zero_add, ← Blocked.sum_four]
  refine Fin.sum_fin_congr fun s => ?_
  refine (block_at _ _ p q).trans (Fin.sum_fin_congr fun k => ?_)
  rw [rows_at m c t hm, cols_at m c t hm s k q h]

/-- The array the kernel leaves: at an index, one sum over all the rows. -/
theorem array_eq : (dats m 0 c).arrAt 2 cfg0.N = fun i : S1024x5632.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 16 := lt_of_lt_of_eq t.isLt N_0
  have h0 : (z 0).val < 1024 := (z 0).isLt
  have h1 : (z 1).val < 1408 := (z 1).isLt
  have hq : t.val / 4 * 1408 + (z 1).val < 5632 := by omega
  have key := tile_at m c t hm ⟨(z 0).val, h0⟩ ⟨(z 1).val, h1⟩ hq
  have a0 : (win0_2.blk t).view.emb z 0 = (⟨(z 0).val, h0⟩ : Fin 1024) := Fin.ext (by blk_simp [e])
  have a1 : (win0_2.blk t).view.emb z 1 = (⟨t.val / 4 * 1408 + (z 1).val, hq⟩ : Fin 5632) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x1024.Idx → EReal) (v : S8192x5632.Idx → EReal)
    (hu : u = m ((c : Thread nD τ).loc main_arg0)) (hv : v = m ((c : Thread nD τ).loc main_arg1)) :
    Cert.GradFfnInRefIdeal.Read.val_main_v4 (F := Ideal) u v = G2 m c := by
  subst hu hv
  rw [← final2, array_eq]
  funext i
  obtain ⟨p, q, rfl⟩ : ∃ (p : Fin 1024) (q : Fin 5632), i = ix2 p q := ⟨i 0, i 1, funext fun a => match a with | ⟨0, _⟩ => rfl | ⟨1, _⟩ => rfl⟩
  unfold x y
  pointwise [Cert.GradFfnInRefIdeal.Read.val_main_v4, Cert.GradFfnInRefIdeal.Read.val_main_v3, Cert.GradFfnInRefIdeal.Read.val_main_v2, Cert.GradFfnInRefIdeal.Read.val_main_v1, Cert.GradFfnInRefIdeal.Read.val_main_v0]
  refine Fin.sum_fin_congr fun k => ?_
  exact mul_comm _ _

theorem results_equal : Cert.algebraic_GradFfnInIdeal_GradFfnInRefIdeal (hGradFfnInIdeal := Cert.GradFfnInIdeal.Gen.facts) (hGradFfnInRefIdeal := Cert.GradFfnInRefIdeal.Gen.facts) := by
  intro m g m' g' _ hagree
  refine ⟨G2 m, run m g, (θ_run Cert.GradFfnInRefIdeal.defs _ _).mono (fun r h c => ?_) (Cert.GradFfnInRefIdeal.Value.run (F := Ideal) m' g')⟩
  obtain ⟨hy, h0, h1⟩ := h c
  obtain ⟨e0, e1⟩ := hagree c
  exact ⟨(hy.trans (Cert.GradFfnInRefIdeal.Read.val_main_v4_eq (F := Ideal) _ _)).trans (value m c _ _ e0 e1), h0, h1⟩

end Cert.GradFfnInIdeal.Sum

end
-- ==== Proof.GradOut.lean ====
module

public import proofs.«01_k».proof.Proof.Blocked
public import proofs.«01_k».proof.Proof.Gen.GradFfnOutIdeal.Value
public import proofs.«01_k».proof.Proof.Gen.GradFfnOutRefIdeal.Read
public import proofs.«01_k».proof.Proof.Gen.GradFfnOutRefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the feed-forward's second weights: each block of 1408 rows of the result is added up from four blocks of
    2048 positions. -/

namespace Cert.GradFfnOutIdeal.Sum

open Cert.GradFfnOutIdeal Cert.GradFfnOutIdeal.Gen Cert.GradFfnOutIdeal.Value Idealize.ShloMosaic Idealize.ShloMosaic.TcCoe

/-- The product of one block. -/
theorem block_at (u : Vec Ideal S2048x1408 .bf16) (v : Vec Ideal S2048x1024 .bf16) (p : Fin 1408) (q : Fin 1024) :
    k0_pay1 u v (ix2 p q) = ∑ k : Fin 2048, u (ix2 k p) * v (ix2 k q) := by
  pointwise [k0_pay1]

/-- What the first of four steps stores in the scratch. -/
theorem first_at (u : Vec Ideal S2048x1408 .bf16) (v : Vec Ideal S2048x1024 .bf16) (j : S1408x1024.Idx) :
    k0_pay2 u v j = 0 + k0_pay1 u v j := by
  rw [zero_add]
  pointwise [k0_pay2]

/-- What each later step stores in the scratch. -/
theorem later_at (u : Vec Ideal S2048x1408 .bf16) (v : Vec Ideal S2048x1024 .bf16) (w : Vec Ideal S1408x1024 .f32) (j : S1408x1024.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S1408x1024.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    rw [outsAt0_A m c t h (by omega) (by omega)]
    dsimp only
    frame_out
    exact first_at _ _ _
  · intro t h i
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  rw [outsAt0_C m c t (by omega) (by omega) hr]
  dsimp only
  frame_out
  rfl

/-- The three windows' blocks at each step. -/
theorem index_t : ∀ t : Fin cfg0.N, win0_0.index t = ![t.val % 4, t.val / 4] ∧ win0_1.index t = ![t.val % 4, 0] ∧ win0_2.index t = ![t.val / 4, 0] := by
  decide +kernel

/-- The launched arguments. -/
def x : S8192x2816.Idx → EReal := m ((c : Thread nD τ).loc main_arg0)
def y : S8192x1024.Idx → EReal := m ((c : Thread nD τ).loc main_arg1)

theorem step_lt (t : Fin cfg0.N) (hm : t.val % 4 = 3) (s : Fin 4) : 4 * (t.val / 4) + s.val < cfg0.N := by
  have := t.isLt; omega

/-- An entry of the hidden values' block a step reads. -/
theorem rows_at (t : Fin cfg0.N) (hm : t.val % 4 = 3) (s : Fin 4) (k : Fin 2048) (p : Fin 1408) (h : t.val / 4 * 1408 + p.val < 2816) :
    iblk m c 0 ⟨4 * (t.val / 4) + s.val, step_lt t hm s⟩ (ix2 k p) = x m c (ix2 ⟨s.val * 2048 + k.val, Blocked.row_lt s k⟩ ⟨t.val / 4 * 1408 + p.val, h⟩) := by
  have e := (index_t ⟨4 * (t.val / 4) + s.val, step_lt t hm s⟩).1
  dsimp only at e
  rw [show (4 * (t.val / 4) + s.val) % 4 = s.val by omega, show (4 * (t.val / 4) + s.val) / 4 = t.val / 4 by omega] at e
  unfold x
  blk_ext [iblk, V, e]

/-- An entry of the gradient's block a step reads. -/
theorem cols_at (t : Fin cfg0.N) (hm : t.val % 4 = 3) (s : Fin 4) (k : Fin 2048) (q : Fin 1024) :
    iblk m c 1 ⟨4 * (t.val / 4) + s.val, step_lt t hm s⟩ (ix2 k q) = y m c (ix2 ⟨s.val * 2048 + k.val, Blocked.row_lt s k⟩ q) := by
  have e := (index_t ⟨4 * (t.val / 4) + s.val, step_lt t hm s⟩).2.1
  dsimp only at e
  rw [show (4 * (t.val / 4) + s.val) % 4 = s.val by omega] at e
  unfold y
  blk_ext [iblk, V, e]

/-- An entry of the block a last step writes back: one sum over all the positions. -/
theorem tile_at (t : Fin cfg0.N) (hm : t.val % 4 = 3) (p : Fin 1408) (q : Fin 1024) (h : t.val / 4 * 1408 + p.val < 2816) :
    (outsAt0 m c t.val t.isLt).1 (ix2 p q) = ∑ k : Fin 8192, x m c (ix2 k ⟨t.val / 4 * 1408 + p.val, h⟩) * y m c (ix2 k q) := by
  rw [out_eq m c t hm, scratch_at m c t hm, zero_add, ← Blocked.sum_four]
  refine Fin.sum_fin_congr fun s => ?_
  refine (block_at _ _ p q).trans (Fin.sum_fin_congr fun k => ?_)
  rw [rows_at m c t hm s k p h, cols_at m c t hm]

/-- The array the kernel leaves: at an index, one sum over all the positions. -/
theorem array_eq : (dats m 0 c).arrAt 2 cfg0.N = fun i : S2816x1024.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 8 := lt_of_lt_of_eq t.isLt N_0
  have h0 : (z 0).val < 1408 := (z 0).isLt
  have h1 : (z 1).val < 1024 := (z 1).isLt
  have hq : t.val / 4 * 1408 + (z 0).val < 2816 := by omega
  have key := tile_at m c t hm ⟨(z 0).val, h0⟩ ⟨(z 1).val, h1⟩ hq
  have a0 : (win0_2.blk t).view.emb z 0 = (⟨t.val / 4 * 1408 + (z 0).val, hq⟩ : Fin 2816) := Fin.ext (by blk_simp [e])
  have a1 : (win0_2.blk t).view.emb z 1 = (⟨(z 1).val, h1⟩ : Fin 1024) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x2816.Idx → EReal) (v : S8192x1024.Idx → EReal)
    (hu : u = m ((c : Thread nD τ).loc main_arg0)) (hv : v = m ((c : Thread nD τ).loc main_arg1)) :
    Cert.GradFfnOutRefIdeal.Read.val_main_v4 (F := Ideal) u v = G2 m c := by
  subst hu hv
  rw [← final2, array_eq]
  funext i
  obtain ⟨p, q, rfl⟩ : ∃ (p : Fin 2816) (q : Fin 1024), i = ix2 p q := ⟨i 0, i 1, funext fun a => match a with | ⟨0, _⟩ => rfl | ⟨1, _⟩ => rfl⟩
  unfold x y
  pointwise [Cert.GradFfnOutRefIdeal.Read.val_main_v4, Cert.GradFfnOutRefIdeal.Read.val_main_v3, Cert.GradFfnOutRefIdeal.Read.val_main_v2, Cert.GradFfnOutRefIdeal.Read.val_main_v1, Cert.GradFfnOutRefIdeal.Read.val_main_v0]
  refine Fin.sum_fin_congr fun k => ?_
  exact mul_comm _ _

theorem results_equal : Cert.algebraic_GradFfnOutIdeal_GradFfnOutRefIdeal (hGradFfnOutIdeal := Cert.GradFfnOutIdeal.Gen.facts) (hGradFfnOutRefIdeal := Cert.GradFfnOutRefIdeal.Gen.facts) := by
  intro m g m' g' _ hagree
  refine ⟨G2 m, run m g, (θ_run Cert.GradFfnOutRefIdeal.defs _ _).mono (fun r h c => ?_) (Cert.GradFfnOutRefIdeal.Value.run (F := Ideal) m' g')⟩
  obtain ⟨hy, h0, h1⟩ := h c
  obtain ⟨e0, e1⟩ := hagree c
  exact ⟨(hy.trans (Cert.GradFfnOutRefIdeal.Read.val_main_v4_eq (F := Ideal) _ _)).trans (value m c _ _ e0 e1), h0, h1⟩

end Cert.GradFfnOutIdeal.Sum

end
-- ==== Proof.FfnFwdVal.lean ====
module

public import proofs.«01_k».proof.Defs
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The feed-forward's first product with its gated activation: 256 positions a step, all the columns at once. -/

namespace Cert.FfnFwdIdeal.Val

open Cert.FfnFwdIdeal Cert.FfnFwdIdeal.Gen Cert.FfnFwdIdeal.Value Idealize.ShloMosaic Idealize.ShloMosaic.TcCoe

/-- A position's product with a column of the weights. -/
def lin (x : S8192x1024.Idx → EReal) (w : S1024x5632.Idx → EReal) (i : Fin 8192) (j : Fin 5632) : EReal := ∑ k : Fin 1024, x (ix2 i k) * w (ix2 k j)

/-- The gated activation of a position at a hidden unit. -/
def gated (x : S8192x1024.Idx → EReal) (w : S1024x5632.Idx → EReal) (i : Fin 8192) (j : Fin 2816) : EReal :=
  lin x w i ⟨j.val, by omega⟩ * Ideal.logistic (lin x w i ⟨j.val, by omega⟩) * lin x w i ⟨2816 + j.val, by omega⟩

/-- The reference's product at an index. -/
theorem ref_lin (x : S8192x1024.Idx → EReal) (w : S1024x5632.Idx → EReal) (i : Fin 8192) (j : Fin 5632) :
    Cert.FfnFwdRefIdeal.Read.val_main_v2 (F := Ideal) x w (ix2 i j) = lin x w i j := by
  pointwise [Cert.FfnFwdRefIdeal.Read.val_main_v2, Cert.FfnFwdRefIdeal.Read.val_main_v1, Cert.FfnFwdRefIdeal.Read.val_main_v0]
  rfl

open Cert.FfnFwdRefIdeal.Read in
/-- The reference's activation at an index. -/
theorem ref_gated (x : S8192x1024.Idx → EReal) (w : S1024x5632.Idx → EReal) (i : Fin 8192) (j : Fin 2816) :
    Cert.FfnFwdRefIdeal.Read.val_main_v7 (F := Ideal) x w (ix2 i j) = gated x w i j := by
  unfold gated
  simp only [← ref_lin]
  pointwise [val_main_v7, val_main_v6, val_main_v5, val_main_v4, val_main_call0_v5, val_main_call0_v4, val_main_call0_v3, val_main_call0_v2, val_main_call0_v1, val_main_call0_v0, val_main_v3, val_main_call0_cst, val_main_call0_cst_0]
  rfl

/-- The kernel's product of a block at an index. -/
theorem pay_lin (u : Vec Ideal S256x1024 .bf16) (w : Vec Ideal S1024x5632 .bf16) (p : Fin 256) (q : Fin 5632) :
    k0_pay1 u w (ix2 p q) = ∑ k : Fin 1024, u (ix2 p k) * w (ix2 k q) := by
  pointwise [k0_pay1]

/-- The kernel's activation of a block at an index, in terms of its product. -/
theorem pay_gated (u : Vec Ideal S256x1024 .bf16) (w : Vec Ideal S1024x5632 .bf16) (p : Fin 256) (q : Fin 2816) :
    k0_pay2 u w (ix2 p q) = k0_pay1 u w (ix2 p ⟨q.val, by omega⟩) * Ideal.logistic (k0_pay1 u w (ix2 p ⟨q.val, by omega⟩)) * k0_pay1 u w (ix2 p ⟨2816 + q.val, by omega⟩) := by
  unfold k0_pay2
  generalize k0_pay1 u w = f
  pointwise []

variable (m : (ℓ : Loc nD τ sig) → Buf (Elt Ideal) ℓ) (c : Dev nD)

/-- The launched arguments. -/
def x : S8192x1024.Idx → EReal := m ((c : Thread nD τ).loc main_arg0)
def w : S1024x5632.Idx → EReal := m ((c : Thread nD τ).loc main_arg1)

theorem index_t : ∀ t : Fin cfg0.N, win0_0.index t = ![t.val, 0] ∧ win0_1.index t = ![0, 0] ∧ win0_2.index t = ![t.val, 0] ∧ win0_3.index t = ![t.val, 0] := by
  decide +kernel

theorem row_lt (t : Fin cfg0.N) (p : Fin 256) : t.val * 256 + p.val < 8192 := by
  have ht : t.val < 32 := lt_of_lt_of_eq t.isLt N_0
  omega

/-- The product that a step computes is the whole product's, at the step's positions. -/
theorem step_lin (t : Fin cfg0.N) (p : Fin 256) (q : Fin 5632) :
    k0_pay1 (iblk m c 0 t) (iblk m c 1 t) (ix2 p q) = lin (x m c) (w m c) ⟨t.val * 256 + p.val, row_lt t p⟩ q := by
  refine (pay_lin _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The first result is the whole product. -/
theorem lin_eq : (dats m 0 c).arrAt 2 cfg0.N = fun i : S8192x5632.Idx => lin (x m c) (w m c) (i 0) (i 1) := by
  refine (dats m 0 c).arrAt_eq_of_covers 2 _ (by decide +kernel) fun t hf z => ?_
  have e := (index_t t).2.2.1
  have h0 : (z 0).val < 256 := (z 0).isLt
  have h1 : (z 1).val < 5632 := (z 1).isLt
  have key := step_lin m c t ⟨(z 0).val, h0⟩ ⟨(z 1).val, h1⟩
  have a0 : (win0_2.blk t).view.emb z 0 = (⟨t.val * 256 + (z 0).val, row_lt t ⟨(z 0).val, h0⟩⟩ : Fin 8192) := Fin.ext (by blk_simp [e])
  have a1 : (win0_2.blk t).view.emb z 1 = (⟨(z 1).val, h1⟩ : Fin 5632) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The second result is the gated activation. -/
theorem gated_eq : (dats m 0 c).arrAt 3 cfg0.N = fun i : S8192x2816.Idx => gated (x m c) (w m c) (i 0) (i 1) := by
  refine (dats m 0 c).arrAt_eq_of_covers 3 _ (by decide +kernel) fun t hf z => ?_
  have e := (index_t t).2.2.2
  have h0 : (z 0).val < 256 := (z 0).isLt
  have h1 : (z 1).val < 2816 := (z 1).isLt
  have key := pay_gated (iblk m c 0 t) (iblk m c 1 t) ⟨(z 0).val, h0⟩ ⟨(z 1).val, h1⟩
  simp only [step_lin] at key
  have a0 : (win0_3.blk t).view.emb z 0 = (⟨t.val * 256 + (z 0).val, row_lt t ⟨(z 0).val, h0⟩⟩ : Fin 8192) := Fin.ext (by blk_simp [e])
  have a1 : (win0_3.blk t).view.emb z 1 = (⟨(z 1).val, h1⟩ : Fin 2816) := Fin.ext (by blk_simp [e])
  blk_simp
  rw [after0_3]
  frame_out
  refine Eq.trans ?_ (key.trans ?_)
  · exact congrArg _ (funext fun a => match a with | ⟨0, _⟩ => rfl | ⟨1, _⟩ => rfl)
  · rw [a0, a1]; rfl

/-- The kernel's results are the reference's, on the same arguments. -/
theorem values (m : (ℓ : Loc nD τ sig) → Buf (Elt Ideal) ℓ) (c : Dev nD) (u : S8192x1024.Idx → EReal) (v : S1024x5632.Idx → EReal)
    (hu : u = m ((c : Thread nD τ).loc main_arg0)) (hv : v = m ((c : Thread nD τ).loc main_arg1)) :
    Cert.FfnFwdRefIdeal.Read.val_main_v2 (F := Ideal) u v = (dats m 0 c).arrAt 2 cfg0.N
    ∧ Cert.FfnFwdRefIdeal.Read.val_main_v7 (F := Ideal) u v = (dats m 0 c).arrAt 3 cfg0.N := by
  subst hu hv
  rw [lin_eq, gated_eq]
  refine ⟨funext fun i => ?_, funext fun i => ?_⟩
  · obtain ⟨p, q, rfl⟩ : ∃ (p : Fin 8192) (q : Fin 5632), i = ix2 p q := ⟨i 0, i 1, funext fun a => match a with | ⟨0, _⟩ => rfl | ⟨1, _⟩ => rfl⟩
    exact ref_lin _ _ p q
  · obtain ⟨p, q, rfl⟩ : ∃ (p : Fin 8192) (q : Fin 2816), i = ix2 p q := ⟨i 0, i 1, funext fun a => match a with | ⟨0, _⟩ => rfl | ⟨1, _⟩ => rfl⟩
    exact ref_gated _ _ p q

theorem results_equal : Cert.algebraic_FfnFwdIdeal_FfnFwdRefIdeal (hFfnFwdIdeal := Cert.FfnFwdIdeal.Gen.facts) (hFfnFwdRefIdeal := Cert.FfnFwdRefIdeal.Gen.facts) := by
  intro m g m' g' _ hagree
  refine ⟨fun c => (dats m 0 c).arrAt 2 cfg0.N, fun c => (dats m 0 c).arrAt 3 cfg0.N, run_blocks m g,
    (θ_run Cert.FfnFwdRefIdeal.defs _ _).mono (fun r h c => ?_) (Cert.FfnFwdRefIdeal.Value.run (F := Ideal) m' g')⟩
  obtain ⟨hf, hy, h0, h1⟩ := h c
  obtain ⟨e0, e1⟩ := hagree c
  have key := values m c _ _ e0 e1
  exact ⟨(hf.trans (Cert.FfnFwdRefIdeal.Read.val_main_v2_eq (F := Ideal) _ _)).trans key.1,
    (hy.trans (Cert.FfnFwdRefIdeal.Read.val_main_v7_eq (F := Ideal) _ _)).trans key.2, h0, h1⟩

end Cert.FfnFwdIdeal.Val

end
-- ==== Proof.ProjInVal.lean ====
module

public import proofs.«01_k».proof.Defs
public import proofs.«01_k».proof.Proof.Gen.ProjInIdeal.Value
public import proofs.«01_k».proof.Proof.Gen.ProjInRefIdeal.Run
public import proofs.«01_k».proof.Proof.Gen.ProjInRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The input projection: one product, its columns dealt out to five results; the sixth is the input itself. -/

namespace Cert.ProjInIdeal.Val

open Cert.ProjInIdeal Cert.ProjInIdeal.Gen Cert.ProjInIdeal.Value Idealize.ShloMosaic Idealize.ShloMosaic.TcCoe

/-- A position's product with a column of the weights. -/
def lin (x : S8192x1024.Idx → EReal) (w : S1024x6656.Idx → EReal) (i : Fin 8192) (j : Fin 6656) : EReal := ∑ k : Fin 1024, x (ix2 i k) * w (ix2 k j)

/-- The reference's product at an index. -/
theorem ref_lin (x : S8192x1024.Idx → EReal) (w : S1024x6656.Idx → EReal) (i : Fin 8192) (j : Fin 6656) :
    Cert.ProjInRefIdeal.Read.val_main_v1 (F := Ideal) x w (ix2 i j) = lin x w i j := by
  pointwise [Cert.ProjInRefIdeal.Read.val_main_v1, Cert.ProjInRefIdeal.Read.val_main_v0]
  rfl

/-- The kernel's product of a block at an index. -/
theorem pay_lin (u : Vec Ideal S256x1024 .f32) (w : Vec Ideal S1024x6656 .bf16) (p : Fin 256) (q : Fin 6656) :
    k0_pay1 u w (ix2 p q) = ∑ k : Fin 1024, u (ix2 p k) * w (ix2 k q) := by
  pointwise [k0_pay1]

variable (m : (ℓ : Loc nD τ sig) → Buf (Elt Ideal) ℓ) (c : Dev nD)

/-- The launched arguments. -/
def x : S8192x1024.Idx → EReal := m ((c : Thread nD τ).loc main_arg0)
def w : S1024x6656.Idx → EReal := m ((c : Thread nD τ).loc main_arg1)

theorem index_t : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

theorem row_lt (t : Fin cfg0.N) (p : Fin 256) : t.val * 256 + p.val < 8192 := by
  have ht : t.val < 32 := lt_of_lt_of_eq t.isLt N_0
  omega

/-- An entry of the input's block a step reads. -/
theorem rows_at (t : Fin cfg0.N) (p : Fin 256) (k : Fin 1024) : iblk m c 0 t (ix2 p k) = x m c (ix2 ⟨t.val * 256 + p.val, row_lt t p⟩ k) := by
  have e0 := (index_t t).1
  unfold x
  blk_ext [iblk, V, e0]

/-- The product that a step computes is the whole product's, at the step's positions. -/
theorem step_lin (t : Fin cfg0.N) (p : Fin 256) (q : Fin 6656) :
    k0_pay1 (iblk m c 0 t) (iblk m c 1 t) (ix2 p q) = lin (x m c) (w m c) ⟨t.val * 256 + p.val, row_lt t p⟩ q := by
  refine (pay_lin _ _ p q).trans (Fin.sum_fin_congr fun k => ?_)
  have e1 := (index_t t).2.1
  refine congrArg₂ (· * ·) (rows_at m c t p k) ?_
  unfold w
  blk_ext [iblk, V, e1]

/-- The first result's columns, in the kernel's step, in its array and in the reference. -/
theorem pay_first (u : Vec Ideal S256x1024 .f32) (w : Vec Ideal S1024x6656 .bf16) (p : Fin 256) (j : Fin 1536) :
    k0_pay5 u w (ix2 p j) = k0_pay1 u w (ix2 p ⟨j.val, by omega⟩) := by
  unfold k0_pay5
  generalize k0_pay1 u w = f
  pointwise []

theorem first_eq : (dats m 0 c).arrAt 2 cfg0.N = fun i : S8192x1536.Idx => lin (x m c) (w m c) (i 0) ⟨(i 1).val, by have h : (i 1).val < 1536 := (i 1).isLt; omega⟩ := by
  refine (dats m 0 c).arrAt_eq_of_covers 2 _ (by decide +kernel) fun t hf z => ?_
  have e := (index_t t).2.2.1
  have h0 : (z 0).val < 256 := (z 0).isLt
  have h1 : (z 1).val < 1536 := (z 1).isLt
  have key := (pay_first (iblk m c 0 t) (iblk m c 1 t) ⟨(z 0).val, h0⟩ ⟨(z 1).val, h1⟩).trans (step_lin m c t _ _)
  have a0 : (win0_2.blk t).view.emb z 0 = (⟨t.val * 256 + (z 0).val, row_lt t ⟨(z 0).val, h0⟩⟩ : Fin 8192) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0]; exact congrArg _ (Fin.ext (by simp [e]))

theorem ref_first (x : S8192x1024.Idx → EReal) (w : S1024x6656.Idx → EReal) (i : Fin 8192) (j : Fin 1536) :
    Cert.ProjInRefIdeal.Read.val_main_v7 (F := Ideal) x w (ix2 i j) = lin x w i ⟨j.val, by omega⟩ := by
  rw [← ref_lin]
  pointwise [Cert.ProjInRefIdeal.Read.val_main_v7, Cert.ProjInRefIdeal.Read.val_main_v2]

/-- The second result's columns, in the kernel's step, in its array and in the reference. -/
theorem pay_second (u : Vec Ideal S256x1024 .f32) (w : Vec Ideal S1024x6656 .bf16) (p : Fin 256) (j : Fin 1024) :
    k0_pay2 u w (ix2 p j) = k0_pay1 u w (ix2 p ⟨1536 + j.val, by omega⟩) := by
  unfold k0_pay2
  generalize k0_pay1 u w = f
  pointwise []

theorem second_eq : (dats m 0 c).arrAt 3 cfg0.N = fun i : S8192x1024.Idx => lin (x m c) (w m c) (i 0) ⟨1536 + (i 1).val, by have h : (i 1).val < 1024 := (i 1).isLt; omega⟩ := by
  refine (dats m 0 c).arrAt_eq_of_covers 3 _ (by decide +kernel) fun t hf z => ?_
  have e := (index_t t).2.2.2.1
  have h0 : (z 0).val < 256 := (z 0).isLt
  have h1 : (z 1).val < 1024 := (z 1).isLt
  have key := (pay_second (iblk m c 0 t) (iblk m c 1 t) ⟨(z 0).val, h0⟩ ⟨(z 1).val, h1⟩).trans (step_lin m c t _ _)
  have a0 : (win0_3.blk t).view.emb z 0 = (⟨t.val * 256 + (z 0).val, row_lt t ⟨(z 0).val, h0⟩⟩ : Fin 8192) := Fin.ext (by blk_simp [e])
  blk_simp
  rw [after0_3]
  frame_out
  refine Eq.trans ?_ (key.trans ?_)
  · exact congrArg _ (funext fun a => match a with | ⟨0, _⟩ => rfl | ⟨1, _⟩ => rfl)
  · rw [a0]; exact congrArg _ (Fin.ext (by simp [e]))

theorem ref_second (x : S8192x1024.Idx → EReal) (w : S1024x6656.Idx → EReal) (i : Fin 8192) (j : Fin 1024) :
    Cert.ProjInRefIdeal.Read.val_main_v3 (F := Ideal) x w (ix2 i j) = lin x w i ⟨1536 + j.val, by omega⟩ := by
  rw [← ref_lin]
  pointwise [Cert.ProjInRefIdeal.Read.val_main_v3]

/-- The third result's columns, in the kernel's step, in its array and in the reference. -/
theorem pay_third (u : Vec Ideal S256x1024 .f32) (w : Vec Ideal S1024x6656 .bf16) (p : Fin 256) (j : Fin 1024) :
    k0_pay6 u w (ix2 p j) = k0_pay1 u w (ix2 p ⟨2560 + j.val, by omega⟩) := by
  unfold k0_pay6
  generalize k0_pay1 u w = f
  pointwise []

theorem third_eq : (dats m 0 c).arrAt 4 cfg0.N = fun i : S8192x1024.Idx => lin (x m c) (w m c) (i 0) ⟨2560 + (i 1).val, by have h : (i 1).val < 1024 := (i 1).isLt; omega⟩ := by
  refine (dats m 0 c).arrAt_eq_of_covers 4 _ (by decide +kernel) fun t hf z => ?_
  have e := (index_t t).2.2.2.2.1
  have h0 : (z 0).val < 256 := (z 0).isLt
  have h1 : (z 1).val < 1024 := (z 1).isLt
  have key := (pay_third (iblk m c 0 t) (iblk m c 1 t) ⟨(z 0).val, h0⟩ ⟨(z 1).val, h1⟩).trans (step_lin m c t _ _)
  have a0 : (win0_4.blk t).view.emb z 0 = (⟨t.val * 256 + (z 0).val, row_lt t ⟨(z 0).val, h0⟩⟩ : Fin 8192) := Fin.ext (by blk_simp [e])
  blk_simp
  rw [after0_4]
  frame_out
  refine Eq.trans ?_ (key.trans ?_)
  · exact congrArg _ (funext fun a => match a with | ⟨0, _⟩ => rfl | ⟨1, _⟩ => rfl)
  · rw [a0]; exact congrArg _ (Fin.ext (by simp [e]))

theorem ref_third (x : S8192x1024.Idx → EReal) (w : S1024x6656.Idx → EReal) (i : Fin 8192) (j : Fin 1024) :
    Cert.ProjInRefIdeal.Read.val_main_v8 (F := Ideal) x w (ix2 i j) = lin x w i ⟨2560 + j.val, by omega⟩ := by
  rw [← ref_lin]
  pointwise [Cert.ProjInRefIdeal.Read.val_main_v8, Cert.ProjInRefIdeal.Read.val_main_v4]

/-- The fourth result's columns, in the kernel's step, in its array and in the reference. -/
theorem pay_fourth (u : Vec Ideal S256x1024 .f32) (w : Vec Ideal S1024x6656 .bf16) (p : Fin 256) (j : Fin 1024) :
    k0_pay3 u w (ix2 p j) = k0_pay1 u w (ix2 p ⟨3584 + j.val, by omega⟩) := by
  unfold k0_pay3
  generalize k0_pay1 u w = f
  pointwise []

theorem fourth_eq : (dats m 0 c).arrAt 5 cfg0.N = fun i : S8192x1024.Idx => lin (x m c) (w m c) (i 0) ⟨3584 + (i 1).val, by have h : (i 1).val < 1024 := (i 1).isLt; omega⟩ := by
  refine (dats m 0 c).arrAt_eq_of_covers 5 _ (by decide +kernel) fun t hf z => ?_
  have e := (index_t t).2.2.2.2.2.1
  have h0 : (z 0).val < 256 := (z 0).isLt
  have h1 : (z 1).val < 1024 := (z 1).isLt
  have key := (pay_fourth (iblk m c 0 t) (iblk m c 1 t) ⟨(z 0).val, h0⟩ ⟨(z 1).val, h1⟩).trans (step_lin m c t _ _)
  have a0 : (win0_5.blk t).view.emb z 0 = (⟨t.val * 256 + (z 0).val, row_lt t ⟨(z 0).val, h0⟩⟩ : Fin 8192) := Fin.ext (by blk_simp [e])
  blk_simp
  rw [after0_5]
  frame_out
  refine Eq.trans ?_ (key.trans ?_)
  · exact congrArg _ (funext fun a => match a with | ⟨0, _⟩ => rfl | ⟨1, _⟩ => rfl)
  · rw [a0]; exact congrArg _ (Fin.ext (by simp [e]))

theorem ref_fourth (x : S8192x1024.Idx → EReal) (w : S1024x6656.Idx → EReal) (i : Fin 8192) (j : Fin 1024) :
    Cert.ProjInRefIdeal.Read.val_main_v5 (F := Ideal) x w (ix2 i j) = lin x w i ⟨3584 + j.val, by omega⟩ := by
  rw [← ref_lin]
  pointwise [Cert.ProjInRefIdeal.Read.val_main_v5]

/-- The fifth result's columns, in the kernel's step, in its array and in the reference. -/
theorem pay_fifth (u : Vec Ideal S256x1024 .f32) (w : Vec Ideal S1024x6656 .bf16) (p : Fin 256) (j : Fin 2048) :
    k0_pay4 u w (ix2 p j) = k0_pay1 u w (ix2 p ⟨4608 + j.val, by omega⟩) := by
  unfold k0_pay4
  generalize k0_pay1 u w = f
  pointwise []

theorem fifth_eq : (dats m 0 c).arrAt 6 cfg0.N = fun i : S8192x2048.Idx => lin (x m c) (w m c) (i 0) ⟨4608 + (i 1).val, by have h : (i 1).val < 2048 := (i 1).isLt; omega⟩ := by
  refine (dats m 0 c).arrAt_eq_of_covers 6 _ (by decide +kernel) fun t hf z => ?_
  have e := (index_t t).2.2.2.2.2.2.1
  have h0 : (z 0).val < 256 := (z 0).isLt
  have h1 : (z 1).val < 2048 := (z 1).isLt
  have key := (pay_fifth (iblk m c 0 t) (iblk m c 1 t) ⟨(z 0).val, h0⟩ ⟨(z 1).val, h1⟩).trans (step_lin m c t _ _)
  have a0 : (win0_6.blk t).view.emb z 0 = (⟨t.val * 256 + (z 0).val, row_lt t ⟨(z 0).val, h0⟩⟩ : Fin 8192) := Fin.ext (by blk_simp [e])
  blk_simp
  rw [after0_6]
  frame_out
  refine Eq.trans ?_ (key.trans ?_)
  · exact congrArg _ (funext fun a => match a with | ⟨0, _⟩ => rfl | ⟨1, _⟩ => rfl)
  · rw [a0]; exact congrArg _ (Fin.ext (by simp [e]))

theorem ref_fifth (x : S8192x1024.Idx → EReal) (w : S1024x6656.Idx → EReal) (i : Fin 8192) (j : Fin 2048) :
    Cert.ProjInRefIdeal.Read.val_main_v6 (F := Ideal) x w (ix2 i j) = lin x w i ⟨4608 + j.val, by omega⟩ := by
  rw [← ref_lin]
  pointwise [Cert.ProjInRefIdeal.Read.val_main_v6]

/-- The sixth result is the input. -/
theorem copy_eq : (dats m 0 c).arrAt 7 cfg0.N = x m c := by
  refine (dats m 0 c).arrAt_eq_of_covers 7 _ (by decide +kernel) fun t hf z => ?_
  have e := (index_t t).2.2.2.2.2.2.2
  have h0 : (z 0).val < 256 := (z 0).isLt
  have h1 : (z 1).val < 1024 := (z 1).isLt
  have key := rows_at m c t ⟨(z 0).val, h0⟩ ⟨(z 1).val, h1⟩
  have a0 : (win0_7.blk t).view.emb z 0 = (⟨t.val * 256 + (z 0).val, row_lt t ⟨(z 0).val, h0⟩⟩ : Fin 8192) := Fin.ext (by blk_simp [e])
  have a1 : (win0_7.blk t).view.emb z 1 = (⟨(z 1).val, h1⟩ : Fin 1024) := Fin.ext (by blk_simp [e])
  blk_simp
  rw [after0_7]
  frame_out
  refine Eq.trans ?_ (key.trans ?_)
  · exact congrArg (iblk m c 0 t) (funext fun a => match a with | ⟨0, _⟩ => rfl | ⟨1, _⟩ => rfl)
  · rw [← a0, ← a1]
    exact congrArg _ (funext fun a => match a with | ⟨0, _⟩ => rfl | ⟨1, _⟩ => rfl)

open Cert.ProjInRefIdeal.Read in
/-- The kernel's results are the reference's, on the same arguments. -/
theorem values (m : (ℓ : Loc nD τ sig) → Buf (Elt Ideal) ℓ) (c : Dev nD) (u : S8192x1024.Idx → EReal) (v : S1024x6656.Idx → EReal)
    (hu : u = m ((c : Thread nD τ).loc main_arg0)) (hv : v = m ((c : Thread nD τ).loc main_arg1)) :
    val_main_v7 (F := Ideal) u v = (dats m 0 c).arrAt 2 cfg0.N ∧ val_main_v3 (F := Ideal) u v = (dats m 0 c).arrAt 3 cfg0.N
    ∧ val_main_v8 (F := Ideal) u v = (dats m 0 c).arrAt 4 cfg0.N ∧ val_main_v5 (F := Ideal) u v = (dats m 0 c).arrAt 5 cfg0.N
    ∧ val_main_v6 (F := Ideal) u v = (dats m 0 c).arrAt 6 cfg0.N ∧ val_main_v9 (F := Ideal) u = (dats m 0 c).arrAt 7 cfg0.N := by
  subst hu hv
  have at_ix {b : ℕ} (i : (Shape.mk 2 ![8192, b]).Idx) : i = ix2 (i 0) (i 1) := funext fun a => match a with | ⟨0, _⟩ => rfl | ⟨1, _⟩ => rfl
  rw [first_eq, second_eq, third_eq, fourth_eq, fifth_eq, copy_eq]
  refine ⟨funext fun i => ?_, funext fun i => ?_, funext fun i => ?_, funext fun i => ?_, funext fun i => ?_, rfl⟩
  · exact (congrArg _ (at_ix i)).trans (ref_first _ _ (i 0) (i 1))
  · exact (congrArg _ (at_ix i)).trans (ref_second _ _ (i 0) (i 1))
  · exact (congrArg _ (at_ix i)).trans (ref_third _ _ (i 0) (i 1))
  · exact (congrArg _ (at_ix i)).trans (ref_fourth _ _ (i 0) (i 1))
  · exact (congrArg _ (at_ix i)).trans (ref_fifth _ _ (i 0) (i 1))

open Cert.ProjInRefIdeal.Read in
theorem results_equal : Cert.algebraic_ProjInIdeal_ProjInRefIdeal (hProjInIdeal := Cert.ProjInIdeal.Gen.facts) (hProjInRefIdeal := Cert.ProjInRefIdeal.Gen.facts) := by
  intro m g m' g' _ hagree
  refine ⟨fun c => (dats m 0 c).arrAt 2 cfg0.N, fun c => (dats m 0 c).arrAt 3 cfg0.N, fun c => (dats m 0 c).arrAt 4 cfg0.N,
    fun c => (dats m 0 c).arrAt 5 cfg0.N, fun c => (dats m 0 c).arrAt 6 cfg0.N, fun c => (dats m 0 c).arrAt 7 cfg0.N, run_blocks m g,
    (θ_run Cert.ProjInRefIdeal.defs _ _).mono (fun r h c => ?_) (Cert.ProjInRefIdeal.Value.run (F := Ideal) m' g')⟩
  obtain ⟨ha, hb, hc, hd, he, hx, h0, h1⟩ := h c
  obtain ⟨e0, e1⟩ := hagree c
  obtain ⟨ka, kb, kc, kd, ke, kx⟩ := values m c _ _ e0 e1
  exact ⟨(ha.trans (val_main_v7_eq (F := Ideal) _ _)).trans ka, (hb.trans (val_main_v3_eq (F := Ideal) _ _)).trans kb,
    (hc.trans (val_main_v8_eq (F := Ideal) _ _)).trans kc, (hd.trans (val_main_v5_eq (F := Ideal) _ _)).trans kd,
    (he.trans (val_main_v6_eq (F := Ideal) _ _)).trans ke, (hx.trans (val_main_v9_eq (F := Ideal) _)).trans kx, h0, h1⟩

end Cert.ProjInIdeal.Val

end
-- ==== Proof.GradSquareSum.lean ====
module

public import proofs.«01_k».proof.Proof.Blocked
public import proofs.«01_k».proof.Proof.Gen.GradSquareIdeal.Value
public import proofs.«01_k».proof.Proof.Gen.GradSquareRefIdeal.Read
public import proofs.«01_k».proof.Proof.Gen.GradSquareRefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of a square matrix of weights: the kernel adds four blocks of 2048 rows in a scratch, the reference is one
    product over the 8192 rows. -/

namespace Cert.GradSquareIdeal.Sum

open Cert.GradSquareIdeal Cert.GradSquareIdeal.Gen Cert.GradSquareIdeal.Value Idealize.ShloMosaic Idealize.ShloMosaic.TcCoe

/-- The product of one block. -/
theorem block_at (u : Vec Ideal S2048x1024 .bf16) (v : Vec Ideal S2048x1024 .bf16) (p : Fin 1024) (q : Fin 1024) :
    k0_pay1 u v (ix2 p q) = ∑ k : Fin 2048, u (ix2 k p) * v (ix2 k q) := by
  pointwise [k0_pay1]

/-- What the first of four steps stores in the scratch. -/
theorem first_at (u : Vec Ideal S2048x1024 .bf16) (v : Vec Ideal S2048x1024 .bf16) (j : S1024x1024.Idx) :
    k0_pay2 u v j = 0 + k0_pay1 u v j := by
  rw [zero_add]
  pointwise [k0_pay2]

/-- What each later step stores in the scratch. -/
theorem later_at (u : Vec Ideal S2048x1024 .bf16) (v : Vec Ideal S2048x1024 .bf16) (w : Vec Ideal S1024x1024 .f32) (j : S1024x1024.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S1024x1024.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    have ht : t.val < 4 := lt_of_lt_of_eq t.isLt N_0
    rw [outsAt0_A m c t h (by omega) (by omega)]
    dsimp only
    frame_out
    exact first_at _ _ _
  · intro t h i
    have ht : t.val < 4 := lt_of_lt_of_eq t.isLt N_0
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  have ht : t.val < 4 := lt_of_lt_of_eq t.isLt N_0
  rw [outsAt0_C m c t (by omega) (by omega) hr]
  dsimp only
  frame_out
  rfl

/-- The three windows' blocks at each step. -/
theorem index_t : ∀ t : Fin cfg0.N, win0_0.index t = ![t.val % 4, 0] ∧ win0_1.index t = ![t.val % 4, t.val / 4] ∧ win0_2.index t = ![0, t.val / 4] := by
  decide +kernel

/-- The launched arguments. -/
def x : S8192x1024.Idx → EReal := m ((c : Thread nD τ).loc main_arg0)
def y : S8192x1024.Idx → EReal := m ((c : Thread nD τ).loc main_arg1)

theorem step_lt (t : Fin cfg0.N) (hm : t.val % 4 = 3) (s : Fin 4) : 4 * (t.val / 4) + s.val < cfg0.N := by
  have := t.isLt; omega

/-- An entry of the rows' block a step reads. -/
theorem rows_at (t : Fin cfg0.N) (hm : t.val % 4 = 3) (s : Fin 4) (k : Fin 2048) (p : Fin 1024) :
    iblk m c 0 ⟨4 * (t.val / 4) + s.val, step_lt t hm s⟩ (ix2 k p) = x m c (ix2 ⟨s.val * 2048 + k.val, Blocked.row_lt s k⟩ p) := by
  have e := (index_t ⟨4 * (t.val / 4) + s.val, step_lt t hm s⟩).1
  dsimp only at e
  rw [show (4 * (t.val / 4) + s.val) % 4 = s.val by omega] at e
  unfold x
  blk_ext [iblk, V, e]

/-- An entry of the gradient's block a step reads. -/
theorem cols_at (t : Fin cfg0.N) (hm : t.val % 4 = 3) (s : Fin 4) (k : Fin 2048) (q : Fin 1024) (h : t.val / 4 * 1024 + q.val < 1024) :
    iblk m c 1 ⟨4 * (t.val / 4) + s.val, step_lt t hm s⟩ (ix2 k q) = y m c (ix2 ⟨s.val * 2048 + k.val, Blocked.row_lt s k⟩ ⟨t.val / 4 * 1024 + q.val, h⟩) := by
  have e := (index_t ⟨4 * (t.val / 4) + s.val, step_lt t hm s⟩).2.1
  dsimp only at e
  rw [show (4 * (t.val / 4) + s.val) % 4 = s.val by omega, show (4 * (t.val / 4) + s.val) / 4 = t.val / 4 by omega] at e
  unfold y
  blk_ext [iblk, V, e]

/-- An entry of the block a last step writes back: one sum over all the rows. -/
theorem tile_at (t : Fin cfg0.N) (hm : t.val % 4 = 3) (p : Fin 1024) (q : Fin 1024) (h : t.val / 4 * 1024 + q.val < 1024) :
    (outsAt0 m c t.val t.isLt).1 (ix2 p q) = ∑ k : Fin 8192, x m c (ix2 k p) * y m c (ix2 k ⟨t.val / 4 * 1024 + q.val, h⟩) := by
  rw [out_eq m c t hm, scratch_at m c t hm, zero_add, ← Blocked.sum_four]
  refine Fin.sum_fin_congr fun s => ?_
  refine (block_at _ _ p q).trans (Fin.sum_fin_congr fun k => ?_)
  rw [rows_at m c t hm, cols_at m c t hm s k q h]

/-- The array the kernel leaves: at an index, one sum over all the rows. -/
theorem array_eq : (dats m 0 c).arrAt 2 cfg0.N = fun i : S1024x1024.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 4 := lt_of_lt_of_eq t.isLt N_0
  have h0 : (z 0).val < 1024 := (z 0).isLt
  have h1 : (z 1).val < 1024 := (z 1).isLt
  have hq : t.val / 4 * 1024 + (z 1).val < 1024 := by omega
  have key := tile_at m c t hm ⟨(z 0).val, h0⟩ ⟨(z 1).val, h1⟩ hq
  have a0 : (win0_2.blk t).view.emb z 0 = (⟨(z 0).val, h0⟩ : Fin 1024) := Fin.ext (by blk_simp [e])
  have a1 : (win0_2.blk t).view.emb z 1 = (⟨t.val / 4 * 1024 + (z 1).val, hq⟩ : Fin 1024) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x1024.Idx → EReal) (v : S8192x1024.Idx → EReal)
    (hu : u = m ((c : Thread nD τ).loc main_arg0)) (hv : v = m ((c : Thread nD τ).loc main_arg1)) :
    Cert.GradSquareRefIdeal.Read.val_main_v4 (F := Ideal) u v = G2 m c := by
  subst hu hv
  rw [← final2, array_eq]
  funext i
  obtain ⟨p, q, rfl⟩ : ∃ (p : Fin 1024) (q : Fin 1024), i = ix2 p q := ⟨i 0, i 1, funext fun a => match a with | ⟨0, _⟩ => rfl | ⟨1, _⟩ => rfl⟩
  unfold x y
  pointwise [Cert.GradSquareRefIdeal.Read.val_main_v4, Cert.GradSquareRefIdeal.Read.val_main_v3, Cert.GradSquareRefIdeal.Read.val_main_v2, Cert.GradSquareRefIdeal.Read.val_main_v1, Cert.GradSquareRefIdeal.Read.val_main_v0]
  refine Fin.sum_fin_congr fun k => ?_
  exact mul_comm _ _

theorem results_equal : Cert.algebraic_GradSquareIdeal_GradSquareRefIdeal (hGradSquareIdeal := Cert.GradSquareIdeal.Gen.facts) (hGradSquareRefIdeal := Cert.GradSquareRefIdeal.Gen.facts) := by
  intro m g m' g' _ hagree
  refine ⟨G2 m, run m g, (θ_run Cert.GradSquareRefIdeal.defs _ _).mono (fun r h c => ?_) (Cert.GradSquareRefIdeal.Value.run (F := Ideal) m' g')⟩
  obtain ⟨hy, h0, h1⟩ := h c
  obtain ⟨e0, e1⟩ := hagree c
  exact ⟨(hy.trans (Cert.GradSquareRefIdeal.Read.val_main_v4_eq (F := Ideal) _ _)).trans (value m c _ _ e0 e1), h0, h1⟩

end Cert.GradSquareIdeal.Sum

end
-- ==== Proof.GradHalfSum.lean ====
module

public import proofs.«01_k».proof.Proof.Blocked
public import proofs.«01_k».proof.Proof.Gen.GradHalfIdeal.Value
public import proofs.«01_k».proof.Proof.Gen.GradHalfRefIdeal.Read
public import proofs.«01_k».proof.Proof.Gen.GradHalfRefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of 512 columns of the input projection's weights, added up in four blocks of 2048 rows. -/

namespace Cert.GradHalfIdeal.Sum

open Cert.GradHalfIdeal Cert.GradHalfIdeal.Gen Cert.GradHalfIdeal.Value Idealize.ShloMosaic Idealize.ShloMosaic.TcCoe

/-- The product of one block. -/
theorem block_at (u : Vec Ideal S2048x1024 .bf16) (v : Vec Ideal S2048x512 .bf16) (p : Fin 1024) (q : Fin 512) :
    k0_pay1 u v (ix2 p q) = ∑ k : Fin 2048, u (ix2 k p) * v (ix2 k q) := by
  pointwise [k0_pay1]

/-- What the first of four steps stores in the scratch. -/
theorem first_at (u : Vec Ideal S2048x1024 .bf16) (v : Vec Ideal S2048x512 .bf16) (j : S1024x512.Idx) :
    k0_pay2 u v j = 0 + k0_pay1 u v j := by
  rw [zero_add]
  pointwise [k0_pay2]

/-- What each later step stores in the scratch. -/
theorem later_at (u : Vec Ideal S2048x1024 .bf16) (v : Vec Ideal S2048x512 .bf16) (w : Vec Ideal S1024x512 .f32) (j : S1024x512.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S1024x512.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    have ht : t.val < 4 := lt_of_lt_of_eq t.isLt N_0
    rw [outsAt0_A m c t h (by omega) (by omega)]
    dsimp only
    frame_out
    exact first_at _ _ _
  · intro t h i
    have ht : t.val < 4 := lt_of_lt_of_eq t.isLt N_0
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  have ht : t.val < 4 := lt_of_lt_of_eq t.isLt N_0
  rw [outsAt0_C m c t (by omega) (by omega) hr]
  dsimp only
  frame_out
  rfl

/-- The three windows' blocks at each step. -/
theorem index_t : ∀ t : Fin cfg0.N, win0_0.index t = ![t.val % 4, 0] ∧ win0_1.index t = ![t.val % 4, t.val / 4] ∧ win0_2.index t = ![0, t.val / 4] := by
  decide +kernel

/-- The launched arguments. -/
def x : S8192x1024.Idx → EReal := m ((c : Thread nD τ).loc main_arg0)
def y : S8192x512.Idx → EReal := m ((c : Thread nD τ).loc main_arg1)

theorem step_lt (t : Fin cfg0.N) (hm : t.val % 4 = 3) (s : Fin 4) : 4 * (t.val / 4) + s.val < cfg0.N := by
  have := t.isLt; omega

/-- An entry of the rows' block a step reads. -/
theorem rows_at (t : Fin cfg0.N) (hm : t.val % 4 = 3) (s : Fin 4) (k : Fin 2048) (p : Fin 1024) :
    iblk m c 0 ⟨4 * (t.val / 4) + s.val, step_lt t hm s⟩ (ix2 k p) = x m c (ix2 ⟨s.val * 2048 + k.val, Blocked.row_lt s k⟩ p) := by
  have e := (index_t ⟨4 * (t.val / 4) + s.val, step_lt t hm s⟩).1
  dsimp only at e
  rw [show (4 * (t.val / 4) + s.val) % 4 = s.val by omega] at e
  unfold x
  blk_ext [iblk, V, e]

/-- An entry of the gradient's block a step reads. -/
theorem cols_at (t : Fin cfg0.N) (hm : t.val % 4 = 3) (s : Fin 4) (k : Fin 2048) (q : Fin 512) (h : t.val / 4 * 512 + q.val < 512) :
    iblk m c 1 ⟨4 * (t.val / 4) + s.val, step_lt t hm s⟩ (ix2 k q) = y m c (ix2 ⟨s.val * 2048 + k.val, Blocked.row_lt s k⟩ ⟨t.val / 4 * 512 + q.val, h⟩) := by
  have e := (index_t ⟨4 * (t.val / 4) + s.val, step_lt t hm s⟩).2.1
  dsimp only at e
  rw [show (4 * (t.val / 4) + s.val) % 4 = s.val by omega, show (4 * (t.val / 4) + s.val) / 4 = t.val / 4 by omega] at e
  unfold y
  blk_ext [iblk, V, e]

/-- An entry of the block a last step writes back: one sum over all the rows. -/
theorem tile_at (t : Fin cfg0.N) (hm : t.val % 4 = 3) (p : Fin 1024) (q : Fin 512) (h : t.val / 4 * 512 + q.val < 512) :
    (outsAt0 m c t.val t.isLt).1 (ix2 p q) = ∑ k : Fin 8192, x m c (ix2 k p) * y m c (ix2 k ⟨t.val / 4 * 512 + q.val, h⟩) := by
  rw [out_eq m c t hm, scratch_at m c t hm, zero_add, ← Blocked.sum_four]
  refine Fin.sum_fin_congr fun s => ?_
  refine (block_at _ _ p q).trans (Fin.sum_fin_congr fun k => ?_)
  rw [rows_at m c t hm, cols_at m c t hm s k q h]

/-- The array the kernel leaves: at an index, one sum over all the rows. -/
theorem array_eq : (dats m 0 c).arrAt 2 cfg0.N = fun i : S1024x512.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 4 := lt_of_lt_of_eq t.isLt N_0
  have h0 : (z 0).val < 1024 := (z 0).isLt
  have h1 : (z 1).val < 512 := (z 1).isLt
  have hq : t.val / 4 * 512 + (z 1).val < 512 := by omega
  have key := tile_at m c t hm ⟨(z 0).val, h0⟩ ⟨(z 1).val, h1⟩ hq
  have a0 : (win0_2.blk t).view.emb z 0 = (⟨(z 0).val, h0⟩ : Fin 1024) := Fin.ext (by blk_simp [e])
  have a1 : (win0_2.blk t).view.emb z 1 = (⟨t.val / 4 * 512 + (z 1).val, hq⟩ : Fin 512) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x1024.Idx → EReal) (v : S8192x512.Idx → EReal)
    (hu : u = m ((c : Thread nD τ).loc main_arg0)) (hv : v = m ((c : Thread nD τ).loc main_arg1)) :
    Cert.GradHalfRefIdeal.Read.val_main_v4 (F := Ideal) u v = G2 m c := by
  subst hu hv
  rw [← final2, array_eq]
  funext i
  obtain ⟨p, q, rfl⟩ : ∃ (p : Fin 1024) (q : Fin 512), i = ix2 p q := ⟨i 0, i 1, funext fun a => match a with | ⟨0, _⟩ => rfl | ⟨1, _⟩ => rfl⟩
  unfold x y
  pointwise [Cert.GradHalfRefIdeal.Read.val_main_v4, Cert.GradHalfRefIdeal.Read.val_main_v3, Cert.GradHalfRefIdeal.Read.val_main_v2, Cert.GradHalfRefIdeal.Read.val_main_v1, Cert.GradHalfRefIdeal.Read.val_main_v0]
  refine Fin.sum_fin_congr fun k => ?_
  exact mul_comm _ _

theorem results_equal : Cert.algebraic_GradHalfIdeal_GradHalfRefIdeal (hGradHalfIdeal := Cert.GradHalfIdeal.Gen.facts) (hGradHalfRefIdeal := Cert.GradHalfRefIdeal.Gen.facts) := by
  intro m g m' g' _ hagree
  refine ⟨G2 m, run m g, (θ_run Cert.GradHalfRefIdeal.defs _ _).mono (fun r h c => ?_) (Cert.GradHalfRefIdeal.Value.run (F := Ideal) m' g')⟩
  obtain ⟨hy, h0, h1⟩ := h c
  obtain ⟨e0, e1⟩ := hagree c
  exact ⟨(hy.trans (Cert.GradHalfRefIdeal.Read.val_main_v4_eq (F := Ideal) _ _)).trans (value m c _ _ e0 e1), h0, h1⟩

end Cert.GradHalfIdeal.Sum

end
-- ==== Proof.GradGateSum.lean ====
module

public import proofs.«01_k».proof.Proof.Blocked
public import proofs.«01_k».proof.Proof.Gen.GradGateIdeal.Value
public import proofs.«01_k».proof.Proof.Gen.GradGateRefIdeal.Read
public import proofs.«01_k».proof.Proof.Gen.GradGateRefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the gate's columns of the input projection's weights, added up in four blocks of 2048 rows. -/

namespace Cert.GradGateIdeal.Sum

open Cert.GradGateIdeal Cert.GradGateIdeal.Gen Cert.GradGateIdeal.Value Idealize.ShloMosaic Idealize.ShloMosaic.TcCoe

/-- The product of one block. -/
theorem block_at (u : Vec Ideal S2048x1024 .bf16) (v : Vec Ideal S2048x1024 .bf16) (p : Fin 1024) (q : Fin 1024) :
    k0_pay1 u v (ix2 p q) = ∑ k : Fin 2048, u (ix2 k p) * v (ix2 k q) := by
  pointwise [k0_pay1]

/-- What the first of four steps stores in the scratch. -/
theorem first_at (u : Vec Ideal S2048x1024 .bf16) (v : Vec Ideal S2048x1024 .bf16) (j : S1024x1024.Idx) :
    k0_pay2 u v j = 0 + k0_pay1 u v j := by
  rw [zero_add]
  pointwise [k0_pay2]

/-- What each later step stores in the scratch. -/
theorem later_at (u : Vec Ideal S2048x1024 .bf16) (v : Vec Ideal S2048x1024 .bf16) (w : Vec Ideal S1024x1024 .f32) (j : S1024x1024.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S1024x1024.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    rw [outsAt0_A m c t h (by omega) (by omega)]
    dsimp only
    frame_out
    exact first_at _ _ _
  · intro t h i
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  rw [outsAt0_C m c t (by omega) (by omega) hr]
  dsimp only
  frame_out
  rfl

/-- The three windows' blocks at each step. -/
theorem index_t : ∀ t : Fin cfg0.N, win0_0.index t = ![t.val % 4, 0] ∧ win0_1.index t = ![t.val % 4, t.val / 4] ∧ win0_2.index t = ![0, t.val / 4] := by
  decide +kernel

/-- The launched arguments. -/
def x : S8192x1024.Idx → EReal := m ((c : Thread nD τ).loc main_arg0)
def y : S8192x2048.Idx → EReal := m ((c : Thread nD τ).loc main_arg1)

theorem step_lt (t : Fin cfg0.N) (hm : t.val % 4 = 3) (s : Fin 4) : 4 * (t.val / 4) + s.val < cfg0.N := by
  have := t.isLt; omega

/-- An entry of the rows' block a step reads. -/
theorem rows_at (t : Fin cfg0.N) (hm : t.val % 4 = 3) (s : Fin 4) (k : Fin 2048) (p : Fin 1024) :
    iblk m c 0 ⟨4 * (t.val / 4) + s.val, step_lt t hm s⟩ (ix2 k p) = x m c (ix2 ⟨s.val * 2048 + k.val, Blocked.row_lt s k⟩ p) := by
  have e := (index_t ⟨4 * (t.val / 4) + s.val, step_lt t hm s⟩).1
  dsimp only at e
  rw [show (4 * (t.val / 4) + s.val) % 4 = s.val by omega] at e
  unfold x
  blk_ext [iblk, V, e]

/-- An entry of the gradient's block a step reads. -/
theorem cols_at (t : Fin cfg0.N) (hm : t.val % 4 = 3) (s : Fin 4) (k : Fin 2048) (q : Fin 1024) (h : t.val / 4 * 1024 + q.val < 2048) :
    iblk m c 1 ⟨4 * (t.val / 4) + s.val, step_lt t hm s⟩ (ix2 k q) = y m c (ix2 ⟨s.val * 2048 + k.val, Blocked.row_lt s k⟩ ⟨t.val / 4 * 1024 + q.val, h⟩) := by
  have e := (index_t ⟨4 * (t.val / 4) + s.val, step_lt t hm s⟩).2.1
  dsimp only at e
  rw [show (4 * (t.val / 4) + s.val) % 4 = s.val by omega, show (4 * (t.val / 4) + s.val) / 4 = t.val / 4 by omega] at e
  unfold y
  blk_ext [iblk, V, e]

/-- An entry of the block a last step writes back: one sum over all the rows. -/
theorem tile_at (t : Fin cfg0.N) (hm : t.val % 4 = 3) (p : Fin 1024) (q : Fin 1024) (h : t.val / 4 * 1024 + q.val < 2048) :
    (outsAt0 m c t.val t.isLt).1 (ix2 p q) = ∑ k : Fin 8192, x m c (ix2 k p) * y m c (ix2 k ⟨t.val / 4 * 1024 + q.val, h⟩) := by
  rw [out_eq m c t hm, scratch_at m c t hm, zero_add, ← Blocked.sum_four]
  refine Fin.sum_fin_congr fun s => ?_
  refine (block_at _ _ p q).trans (Fin.sum_fin_congr fun k => ?_)
  rw [rows_at m c t hm, cols_at m c t hm s k q h]

/-- The array the kernel leaves: at an index, one sum over all the rows. -/
theorem array_eq : (dats m 0 c).arrAt 2 cfg0.N = fun i : S1024x2048.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 8 := lt_of_lt_of_eq t.isLt N_0
  have h0 : (z 0).val < 1024 := (z 0).isLt
  have h1 : (z 1).val < 1024 := (z 1).isLt
  have hq : t.val / 4 * 1024 + (z 1).val < 2048 := by omega
  have key := tile_at m c t hm ⟨(z 0).val, h0⟩ ⟨(z 1).val, h1⟩ hq
  have a0 : (win0_2.blk t).view.emb z 0 = (⟨(z 0).val, h0⟩ : Fin 1024) := Fin.ext (by blk_simp [e])
  have a1 : (win0_2.blk t).view.emb z 1 = (⟨t.val / 4 * 1024 + (z 1).val, hq⟩ : Fin 2048) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x1024.Idx → EReal) (v : S8192x2048.Idx → EReal)
    (hu : u = m ((c : Thread nD τ).loc main_arg0)) (hv : v = m ((c : Thread nD τ).loc main_arg1)) :
    Cert.GradGateRefIdeal.Read.val_main_v4 (F := Ideal) u v = G2 m c := by
  subst hu hv
  rw [← final2, array_eq]
  funext i
  obtain ⟨p, q, rfl⟩ : ∃ (p : Fin 1024) (q : Fin 2048), i = ix2 p q := ⟨i 0, i 1, funext fun a => match a with | ⟨0, _⟩ => rfl | ⟨1, _⟩ => rfl⟩
  unfold x y
  pointwise [Cert.GradGateRefIdeal.Read.val_main_v4, Cert.GradGateRefIdeal.Read.val_main_v3, Cert.GradGateRefIdeal.Read.val_main_v2, Cert.GradGateRefIdeal.Read.val_main_v1, Cert.GradGateRefIdeal.Read.val_main_v0]
  refine Fin.sum_fin_congr fun k => ?_
  exact mul_comm _ _

theorem results_equal : Cert.algebraic_GradGateIdeal_GradGateRefIdeal (hGradGateIdeal := Cert.GradGateIdeal.Gen.facts) (hGradGateRefIdeal := Cert.GradGateRefIdeal.Gen.facts) := by
  intro m g m' g' _ hagree
  refine ⟨G2 m, run m g, (θ_run Cert.GradGateRefIdeal.defs _ _).mono (fun r h c => ?_) (Cert.GradGateRefIdeal.Value.run (F := Ideal) m' g')⟩
  obtain ⟨hy, h0, h1⟩ := h c
  obtain ⟨e0, e1⟩ := hagree c
  exact ⟨(hy.trans (Cert.GradGateRefIdeal.Read.val_main_v4_eq (F := Ideal) _ _)).trans (value m c _ _ e0 e1), h0, h1⟩

end Cert.GradGateIdeal.Sum

end
-- ==== Proof.GradOmVal.lean ====
module

public import proofs.«01_k».proof.Defs
public import proofs.«01_k».proof.Proof.Gen.GradOmIdeal.Value
public import proofs.«01_k».proof.Proof.Gen.GradOmRefIdeal.Run
public import proofs.«01_k».proof.Proof.Gen.GradOmRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! A gradient sent back through a square weight: each block of 1024 positions against the whole weight. -/

namespace Cert.GradOmIdeal.Val

open Cert.GradOmIdeal Cert.GradOmIdeal.Gen Cert.GradOmIdeal.Value Idealize.ShloMosaic Idealize.ShloMosaic.TcCoe

variable (m : (ℓ : Loc nD τ sig) → Buf (Elt Ideal) ℓ) (c : Dev nD)

/-- The product of one block. -/
theorem block_at (u : Vec Ideal S1024x1024 .bf16) (v : Vec Ideal S1024x1024 .bf16) (p : Fin 1024) (q : Fin 1024) :
    k0_pay1 u v (ix2 p q) = ∑ k : Fin 1024, u (ix2 p k) * v (ix2 q k) := by
  pointwise [k0_pay1]

/-- The launched arguments. -/
def x : S8192x1024.Idx → EReal := m ((c : Thread nD τ).loc main_arg0)
def w : S1024x1024.Idx → EReal := m ((c : Thread nD τ).loc main_arg1)

theorem index_t : ∀ t : Fin cfg0.N, win0_0.index t = ![t.val, 0] ∧ win0_1.index t = ![0, 0] ∧ win0_2.index t = ![t.val, 0] := by
  decide +kernel

theorem row_lt (t : Fin cfg0.N) (p : Fin 1024) : t.val * 1024 + p.val < 8192 := by
  have ht : t.val < 8 := lt_of_lt_of_eq t.isLt N_0
  omega

/-- The block a step computes is the whole product's, at the step's positions. -/
theorem step_at (t : Fin cfg0.N) (p : Fin 1024) (q : Fin 1024) :
    k0_pay1 (iblk m c 0 t) (iblk m c 1 t) (ix2 p q) = ∑ k : Fin 1024, x m c (ix2 ⟨t.val * 1024 + p.val, row_lt t p⟩ k) * w m c (ix2 q k) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S8192x1024.Idx => ∑ k : Fin 1024, x m c (ix2 (i 0) k) * w m c (ix2 (i 1) k) := by
  refine (dats m 0 c).arrAt_eq_of_covers 2 _ (by decide +kernel) fun t hf z => ?_
  have e := (index_t t).2.2
  have h0 : (z 0).val < 1024 := (z 0).isLt
  have h1 : (z 1).val < 1024 := (z 1).isLt
  have key := step_at m c t ⟨(z 0).val, h0⟩ ⟨(z 1).val, h1⟩
  have a0 : (win0_2.blk t).view.emb z 0 = (⟨t.val * 1024 + (z 0).val, row_lt t ⟨(z 0).val, h0⟩⟩ : Fin 8192) := Fin.ext (by blk_simp [e])
  have a1 : (win0_2.blk t).view.emb z 1 = (⟨(z 1).val, h1⟩ : Fin 1024) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S8192x1024.Idx → EReal) (v : S1024x1024.Idx → EReal)
    (hu : u = m ((c : Thread nD τ).loc main_arg0)) (hv : v = m ((c : Thread nD τ).loc main_arg1)) :
    Cert.GradOmRefIdeal.Read.val_main_v3 (F := Ideal) u v = (dats m 0 c).arrAt 2 cfg0.N := by
  subst hu hv
  rw [array_eq]
  funext i
  obtain ⟨p, q, rfl⟩ : ∃ (p : Fin 8192) (q : Fin 1024), i = ix2 p q := ⟨i 0, i 1, funext fun a => match a with | ⟨0, _⟩ => rfl | ⟨1, _⟩ => rfl⟩
  unfold x w
  pointwise [Cert.GradOmRefIdeal.Read.val_main_v3, Cert.GradOmRefIdeal.Read.val_main_v2, Cert.GradOmRefIdeal.Read.val_main_v1, Cert.GradOmRefIdeal.Read.val_main_v0]

theorem results_equal : Cert.algebraic_GradOmIdeal_GradOmRefIdeal (hGradOmIdeal := Cert.GradOmIdeal.Gen.facts) (hGradOmRefIdeal := Cert.GradOmRefIdeal.Gen.facts) := by
  intro m g m' g' _ hagree
  refine ⟨fun c => (dats m 0 c).arrAt 2 cfg0.N, run_blocks m g, (θ_run Cert.GradOmRefIdeal.defs _ _).mono (fun r h c => ?_) (Cert.GradOmRefIdeal.Value.run (F := Ideal) m' g')⟩
  obtain ⟨hy, h0, h1⟩ := h c
  obtain ⟨e0, e1⟩ := hagree c
  exact ⟨(hy.trans (Cert.GradOmRefIdeal.Read.val_main_v3_eq (F := Ideal) _ _)).trans (value m c _ _ e0 e1), h0, h1⟩

end Cert.GradOmIdeal.Val

end
-- ==== Proof.GradYGatedVal.lean ====
module

public import proofs.«01_k».proof.Defs
public import proofs.«01_k».proof.Proof.Gen.GradYGatedIdeal.Value
public import proofs.«01_k».proof.Proof.Gen.GradYGatedRefIdeal.Run
public import proofs.«01_k».proof.Proof.Gen.GradYGatedRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the gated retention sent back through its output weight: each block of 1024 positions against the whole weight. -/

namespace Cert.GradYGatedIdeal.Val

open Cert.GradYGatedIdeal Cert.GradYGatedIdeal.Gen Cert.GradYGatedIdeal.Value Idealize.ShloMosaic Idealize.ShloMosaic.TcCoe

variable (m : (ℓ : Loc nD τ sig) → Buf (Elt Ideal) ℓ) (c : Dev nD)

/-- The product of one block. -/
theorem block_at (u : Vec Ideal S1024x1024 .bf16) (v : Vec Ideal S1024x1024 .bf16) (p : Fin 1024) (q : Fin 1024) :
    k0_pay1 u v (ix2 p q) = ∑ k : Fin 1024, u (ix2 p k) * v (ix2 q k) := by
  pointwise [k0_pay1]

/-- The launched arguments. -/
def x : S8192x1024.Idx → EReal := m ((c : Thread nD τ).loc main_arg0)
def w : S1024x1024.Idx → EReal := m ((c : Thread nD τ).loc main_arg1)

theorem index_t : ∀ t : Fin cfg0.N, win0_0.index t = ![t.val, 0] ∧ win0_1.index t = ![0, 0] ∧ win0_2.index t = ![t.val, 0] := by
  decide +kernel

theorem row_lt (t : Fin cfg0.N) (p : Fin 1024) : t.val * 1024 + p.val < 8192 := by
  have ht : t.val < 8 := lt_of_lt_of_eq t.isLt N_0
  omega

/-- The block a step computes is the whole product's, at the step's positions. -/
theorem step_at (t : Fin cfg0.N) (p : Fin 1024) (q : Fin 1024) :
    k0_pay1 (iblk m c 0 t) (iblk m c 1 t) (ix2 p q) = ∑ k : Fin 1024, x m c (ix2 ⟨t.val * 1024 + p.val, row_lt t p⟩ k) * w m c (ix2 q k) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S8192x1024.Idx => ∑ k : Fin 1024, x m c (ix2 (i 0) k) * w m c (ix2 (i 1) k) := by
  refine (dats m 0 c).arrAt_eq_of_covers 2 _ (by decide +kernel) fun t hf z => ?_
  have e := (index_t t).2.2
  have h0 : (z 0).val < 1024 := (z 0).isLt
  have h1 : (z 1).val < 1024 := (z 1).isLt
  have key := step_at m c t ⟨(z 0).val, h0⟩ ⟨(z 1).val, h1⟩
  have a0 : (win0_2.blk t).view.emb z 0 = (⟨t.val * 1024 + (z 0).val, row_lt t ⟨(z 0).val, h0⟩⟩ : Fin 8192) := Fin.ext (by blk_simp [e])
  have a1 : (win0_2.blk t).view.emb z 1 = (⟨(z 1).val, h1⟩ : Fin 1024) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S8192x1024.Idx → EReal) (v : S1024x1024.Idx → EReal)
    (hu : u = m ((c : Thread nD τ).loc main_arg0)) (hv : v = m ((c : Thread nD τ).loc main_arg1)) :
    Cert.GradYGatedRefIdeal.Read.val_main_v2 (F := Ideal) u v = (dats m 0 c).arrAt 2 cfg0.N := by
  subst hu hv
  rw [array_eq]
  funext i
  obtain ⟨p, q, rfl⟩ : ∃ (p : Fin 8192) (q : Fin 1024), i = ix2 p q := ⟨i 0, i 1, funext fun a => match a with | ⟨0, _⟩ => rfl | ⟨1, _⟩ => rfl⟩
  unfold x w
  pointwise [Cert.GradYGatedRefIdeal.Read.val_main_v2, Cert.GradYGatedRefIdeal.Read.val_main_v1, Cert.GradYGatedRefIdeal.Read.val_main_v0]

theorem results_equal : Cert.algebraic_GradYGatedIdeal_GradYGatedRefIdeal (hGradYGatedIdeal := Cert.GradYGatedIdeal.Gen.facts) (hGradYGatedRefIdeal := Cert.GradYGatedRefIdeal.Gen.facts) := by
  intro m g m' g' _ hagree
  refine ⟨fun c => (dats m 0 c).arrAt 2 cfg0.N, run_blocks m g, (θ_run Cert.GradYGatedRefIdeal.defs _ _).mono (fun r h c => ?_) (Cert.GradYGatedRefIdeal.Value.run (F := Ideal) m' g')⟩
  obtain ⟨hy, h0, h1⟩ := h c
  obtain ⟨e0, e1⟩ := hagree c
  exact ⟨(hy.trans (Cert.GradYGatedRefIdeal.Read.val_main_v2_eq (F := Ideal) _ _)).trans (value m c _ _ e0 e1), h0, h1⟩

end Cert.GradYGatedIdeal.Val

end
-- ==== Proof.GradASbVal.lean ====
module

public import proofs.«01_k».proof.Defs
public import proofs.«01_k».proof.Proof.Gen.GradASbIdeal.Value
public import proofs.«01_k».proof.Proof.Gen.GradASbRefIdeal.Run
public import proofs.«01_k».proof.Proof.Gen.GradASbRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the smaller attention sent back through its output weight: each block of 1024 positions against the whole weight. -/

namespace Cert.GradASbIdeal.Val

open Cert.GradASbIdeal Cert.GradASbIdeal.Gen Cert.GradASbIdeal.Value Idealize.ShloMosaic Idealize.ShloMosaic.TcCoe

variable (m : (ℓ : Loc nD τ sig) → Buf (Elt Ideal) ℓ) (c : Dev nD)

/-- The product of one block. -/
theorem block_at (u : Vec Ideal S1024x1024 .bf16) (v : Vec Ideal S512x1024 .bf16) (p : Fin 1024) (q : Fin 512) :
    k0_pay1 u v (ix2 p q) = ∑ k : Fin 1024, u (ix2 p k) * v (ix2 q k) := by
  pointwise [k0_pay1]

/-- The launched arguments. -/
def x : S8192x1024.Idx → EReal := m ((c : Thread nD τ).loc main_arg0)
def w : S512x1024.Idx → EReal := m ((c : Thread nD τ).loc main_arg1)

theorem index_t : ∀ t : Fin cfg0.N, win0_0.index t = ![t.val, 0] ∧ win0_1.index t = ![0, 0] ∧ win0_2.index t = ![t.val, 0] := by
  decide +kernel

theorem row_lt (t : Fin cfg0.N) (p : Fin 1024) : t.val * 1024 + p.val < 8192 := by
  have ht : t.val < 8 := lt_of_lt_of_eq t.isLt N_0
  omega

/-- The block a step computes is the whole product's, at the step's positions. -/
theorem step_at (t : Fin cfg0.N) (p : Fin 1024) (q : Fin 512) :
    k0_pay1 (iblk m c 0 t) (iblk m c 1 t) (ix2 p q) = ∑ k : Fin 1024, x m c (ix2 ⟨t.val * 1024 + p.val, row_lt t p⟩ k) * w m c (ix2 q k) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S8192x512.Idx => ∑ k : Fin 1024, x m c (ix2 (i 0) k) * w m c (ix2 (i 1) k) := by
  refine (dats m 0 c).arrAt_eq_of_covers 2 _ (by decide +kernel) fun t hf z => ?_
  have e := (index_t t).2.2
  have h0 : (z 0).val < 1024 := (z 0).isLt
  have h1 : (z 1).val < 512 := (z 1).isLt
  have key := step_at m c t ⟨(z 0).val, h0⟩ ⟨(z 1).val, h1⟩
  have a0 : (win0_2.blk t).view.emb z 0 = (⟨t.val * 1024 + (z 0).val, row_lt t ⟨(z 0).val, h0⟩⟩ : Fin 8192) := Fin.ext (by blk_simp [e])
  have a1 : (win0_2.blk t).view.emb z 1 = (⟨(z 1).val, h1⟩ : Fin 512) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S8192x1024.Idx → EReal) (v : S512x1024.Idx → EReal)
    (hu : u = m ((c : Thread nD τ).loc main_arg0)) (hv : v = m ((c : Thread nD τ).loc main_arg1)) :
    Cert.GradASbRefIdeal.Read.val_main_v3 (F := Ideal) u v = (dats m 0 c).arrAt 2 cfg0.N := by
  subst hu hv
  rw [array_eq]
  funext i
  obtain ⟨p, q, rfl⟩ : ∃ (p : Fin 8192) (q : Fin 512), i = ix2 p q := ⟨i 0, i 1, funext fun a => match a with | ⟨0, _⟩ => rfl | ⟨1, _⟩ => rfl⟩
  unfold x w
  pointwise [Cert.GradASbRefIdeal.Read.val_main_v3, Cert.GradASbRefIdeal.Read.val_main_v2, Cert.GradASbRefIdeal.Read.val_main_v1, Cert.GradASbRefIdeal.Read.val_main_v0]

theorem results_equal : Cert.algebraic_GradASbIdeal_GradASbRefIdeal (hGradASbIdeal := Cert.GradASbIdeal.Gen.facts) (hGradASbRefIdeal := Cert.GradASbRefIdeal.Gen.facts) := by
  intro m g m' g' _ hagree
  refine ⟨fun c => (dats m 0 c).arrAt 2 cfg0.N, run_blocks m g, (θ_run Cert.GradASbRefIdeal.defs _ _).mono (fun r h c => ?_) (Cert.GradASbRefIdeal.Value.run (F := Ideal) m' g')⟩
  obtain ⟨hy, h0, h1⟩ := h c
  obtain ⟨e0, e1⟩ := hagree c
  exact ⟨(hy.trans (Cert.GradASbRefIdeal.Read.val_main_v3_eq (F := Ideal) _ _)).trans (value m c _ _ e0 e1), h0, h1⟩

end Cert.GradASbIdeal.Val

end
-- ==== Proof.GradSbOSum.lean ====
module

public import proofs.«01_k».proof.Proof.Blocked
public import proofs.«01_k».proof.Proof.Gen.GradSbOIdeal.Value
public import proofs.«01_k».proof.Proof.Gen.GradSbORefIdeal.Read
public import proofs.«01_k».proof.Proof.Gen.GradSbORefIdeal.Run
public import proofs.«01_k».proof.Defs
public import Idealize.ShloMosaic.Lib.Pointwise
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the smaller attention's output weight, added up in four blocks of 2048 rows. -/

namespace Cert.GradSbOIdeal.Sum

open Cert.GradSbOIdeal Cert.GradSbOIdeal.Gen Cert.GradSbOIdeal.Value Idealize.ShloMosaic Idealize.ShloMosaic.TcCoe

/-- The product of one block. -/
theorem block_at (u : Vec Ideal S2048x512 .bf16) (v : Vec Ideal S2048x1024 .bf16) (p : Fin 512) (q : Fin 1024) :
    k0_pay1 u v (ix2 p q) = ∑ k : Fin 2048, u (ix2 k p) * v (ix2 k q) := by
  pointwise [k0_pay1]

/-- What the first of four steps stores in the scratch. -/
theorem first_at (u : Vec Ideal S2048x512 .bf16) (v : Vec Ideal S2048x1024 .bf16) (j : S512x1024.Idx) :
    k0_pay2 u v j = 0 + k0_pay1 u v j := by
  rw [zero_add]
  pointwise [k0_pay2]

/-- What each later step stores in the scratch. -/
theorem later_at (u : Vec Ideal S2048x512 .bf16) (v : Vec Ideal S2048x1024 .bf16) (w : Vec Ideal S512x1024 .f32) (j : S512x1024.Idx) :
    k0_pay3 u v w j = w j + k0_pay1 u v j := by
  pointwise [k0_pay3]

variable (m : (ℓ : Loc nD τ sig) → Buf (Elt Ideal) ℓ) (c : Dev nD)

/-- The scratch after the last of four steps: the four blocks' products added up. -/
theorem scratch_at (t : Fin cfg0.N) (hr : t.val % 4 = 4 - 1) (j : S512x1024.Idx) :
    (outsAt0 m c t.val t.isLt).2 j = 0 + ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => 0)
    (fun t j => k0_pay1 (iblk m c 0 t) (iblk m c 1 t) j) ?_ ?_ t hr j]
  · intro t h i
    have ht : t.val < 4 := lt_of_lt_of_eq t.isLt N_0
    rw [outsAt0_A m c t h (by omega) (by omega)]
    dsimp only
    frame_out
    exact first_at _ _ _
  · intro t h i
    have ht : t.val < 4 := lt_of_lt_of_eq t.isLt N_0
    by_cases h2 : t.val % 4 = 3
    · rw [outsAt0_C m c t h (by omega) h2]
      dsimp only
      frame_out
      rw [later_at]
      exact congrArg (· + _) (congrFun (Memref.IsWhole.read_unread (Memref.isWhole_whole cc0_scratch0) _) i)
    · rw [outsAt0_B m c t h (by omega) h2]
      dsimp only
      frame_out
      rw [later_at]
      exact congrArg (· + _) (congrFun (Memref.IsWhole.read_unread (Memref.isWhole_whole cc0_scratch0) _) i)

/-- The block a last step writes back is the scratch. -/
theorem out_eq (t : Fin cfg0.N) (hr : t.val % 4 = 3) : (outsAt0 m c t.val t.isLt).1 = (outsAt0 m c t.val t.isLt).2 := by
  have ht : t.val < 4 := lt_of_lt_of_eq t.isLt N_0
  rw [outsAt0_C m c t (by omega) (by omega) hr]
  dsimp only
  frame_out
  rfl

/-- The three windows' blocks at each step. -/
theorem index_t : ∀ t : Fin cfg0.N, win0_0.index t = ![t.val % 4, 0] ∧ win0_1.index t = ![t.val % 4, t.val / 4] ∧ win0_2.index t = ![0, t.val / 4] := by
  decide +kernel

/-- The launched arguments. -/
def x : S8192x512.Idx → EReal := m ((c : Thread nD τ).loc main_arg0)
def y : S8192x1024.Idx → EReal := m ((c : Thread nD τ).loc main_arg1)

theorem step_lt (t : Fin cfg0.N) (hm : t.val % 4 = 3) (s : Fin 4) : 4 * (t.val / 4) + s.val < cfg0.N := by
  have := t.isLt; omega

/-- An entry of the rows' block a step reads. -/
theorem rows_at (t : Fin cfg0.N) (hm : t.val % 4 = 3) (s : Fin 4) (k : Fin 2048) (p : Fin 512) :
    iblk m c 0 ⟨4 * (t.val / 4) + s.val, step_lt t hm s⟩ (ix2 k p) = x m c (ix2 ⟨s.val * 2048 + k.val, Blocked.row_lt s k⟩ p) := by
  have e := (index_t ⟨4 * (t.val / 4) + s.val, step_lt t hm s⟩).1
  dsimp only at e
  rw [show (4 * (t.val / 4) + s.val) % 4 = s.val by omega] at e
  unfold x
  blk_ext [iblk, V, e]

/-- An entry of the gradient's block a step reads. -/
theorem cols_at (t : Fin cfg0.N) (hm : t.val % 4 = 3) (s : Fin 4) (k : Fin 2048) (q : Fin 1024) (h : t.val / 4 * 1024 + q.val < 1024) :
    iblk m c 1 ⟨4 * (t.val / 4) + s.val, step_lt t hm s⟩ (ix2 k q) = y m c (ix2 ⟨s.val * 2048 + k.val, Blocked.row_lt s k⟩ ⟨t.val / 4 * 1024 + q.val, h⟩) := by
  have e := (index_t ⟨4 * (t.val / 4) + s.val, step_lt t hm s⟩).2.1
  dsimp only at e
  rw [show (4 * (t.val / 4) + s.val) % 4 = s.val by omega, show (4 * (t.val / 4) + s.val) / 4 = t.val / 4 by omega] at e
  unfold y
  blk_ext [iblk, V, e]

/-- An entry of the block a last step writes back: one sum over all the rows. -/
theorem tile_at (t : Fin cfg0.N) (hm : t.val % 4 = 3) (p : Fin 512) (q : Fin 1024) (h : t.val / 4 * 1024 + q.val < 1024) :
    (outsAt0 m c t.val t.isLt).1 (ix2 p q) = ∑ k : Fin 8192, x m c (ix2 k p) * y m c (ix2 k ⟨t.val / 4 * 1024 + q.val, h⟩) := by
  rw [out_eq m c t hm, scratch_at m c t hm, zero_add, ← Blocked.sum_four]
  refine Fin.sum_fin_congr fun s => ?_
  refine (block_at _ _ p q).trans (Fin.sum_fin_congr fun k => ?_)
  rw [rows_at m c t hm, cols_at m c t hm s k q h]

/-- The array the kernel leaves: at an index, one sum over all the rows. -/
theorem array_eq : (dats m 0 c).arrAt 2 cfg0.N = fun i : S512x1024.Idx => ∑ k : Fin 8192, x m c (ix2 k (i 0)) * y m c (ix2 k (i 1)) := by
  refine (dats m 0 c).arrAt_eq_of_covers 2 _ (by decide +kernel) fun t hf z => ?_
  have hm : t.val % 4 = 3 := (flush0_2 t).mp hf
  have e := (index_t t).2.2
  have ht : t.val < 4 := lt_of_lt_of_eq t.isLt N_0
  have h0 : (z 0).val < 512 := (z 0).isLt
  have h1 : (z 1).val < 1024 := (z 1).isLt
  have hq : t.val / 4 * 1024 + (z 1).val < 1024 := by omega
  have key := tile_at m c t hm ⟨(z 0).val, h0⟩ ⟨(z 1).val, h1⟩ hq
  have a0 : (win0_2.blk t).view.emb z 0 = (⟨(z 0).val, h0⟩ : Fin 512) := Fin.ext (by blk_simp [e])
  have a1 : (win0_2.blk t).view.emb z 1 = (⟨t.val / 4 * 1024 + (z 1).val, hq⟩ : Fin 1024) := Fin.ext (by blk_simp [e])
  blk_simp
  rw [after0_2]
  refine Eq.trans ?_ (key.trans ?_)
  · exact congrArg _ (funext fun a => match a with | ⟨0, _⟩ => rfl | ⟨1, _⟩ => rfl)
  · rw [a0, a1]

/-- The kernel's result is the reference's, on the same arguments. -/
theorem value (m : (ℓ : Loc nD τ sig) → Buf (Elt Ideal) ℓ) (c : Dev nD) (u : S8192x512.Idx → EReal) (v : S8192x1024.Idx → EReal)
    (hu : u = m ((c : Thread nD τ).loc main_arg0)) (hv : v = m ((c : Thread nD τ).loc main_arg1)) :
    Cert.GradSbORefIdeal.Read.val_main_v4 (F := Ideal) u v = G2 m c := by
  subst hu hv
  rw [← final2, array_eq]
  funext i
  obtain ⟨p, q, rfl⟩ : ∃ (p : Fin 512) (q : Fin 1024), i = ix2 p q := ⟨i 0, i 1, funext fun a => match a with | ⟨0, _⟩ => rfl | ⟨1, _⟩ => rfl⟩
  unfold x y
  pointwise [Cert.GradSbORefIdeal.Read.val_main_v4, Cert.GradSbORefIdeal.Read.val_main_v3, Cert.GradSbORefIdeal.Read.val_main_v2, Cert.GradSbORefIdeal.Read.val_main_v1, Cert.GradSbORefIdeal.Read.val_main_v0]
  refine Fin.sum_fin_congr fun k => ?_
  exact mul_comm _ _

theorem results_equal : Cert.algebraic_GradSbOIdeal_GradSbORefIdeal (hGradSbOIdeal := Cert.GradSbOIdeal.Gen.facts) (hGradSbORefIdeal := Cert.GradSbORefIdeal.Gen.facts) := by
  intro m g m' g' _ hagree
  refine ⟨G2 m, run m g, (θ_run Cert.GradSbORefIdeal.defs _ _).mono (fun r h c => ?_) (Cert.GradSbORefIdeal.Value.run (F := Ideal) m' g')⟩
  obtain ⟨hy, h0, h1⟩ := h c
  obtain ⟨e0, e1⟩ := hagree c
  exact ⟨(hy.trans (Cert.GradSbORefIdeal.Read.val_main_v4_eq (F := Ideal) _ _)).trans (value m c _ _ e0 e1), h0, h1⟩

end Cert.GradSbOIdeal.Sum

end
-- ==== Proof.MemQVal.lean ====
module

public import proofs.«01_k».proof.Defs
public import proofs.«01_k».proof.Proof.Gen.MemQIdeal.Value
public import proofs.«01_k».proof.Proof.Gen.MemQRefIdeal.Run
public import proofs.«01_k».proof.Proof.Gen.MemQRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The queries of the attention to memory: each block of 1024 positions against the whole weight. -/

namespace Cert.MemQIdeal.Val

open Cert.MemQIdeal Cert.MemQIdeal.Gen Cert.MemQIdeal.Value Idealize.ShloMosaic Idealize.ShloMosaic.TcCoe

variable (m : (ℓ : Loc nD τ sig) → Buf (Elt Ideal) ℓ) (c : Dev nD)

/-- The product of one block. -/
theorem block_at (u : Vec Ideal S1024x1024 .bf16) (v : Vec Ideal S1024x1024 .bf16) (p : Fin 1024) (q : Fin 1024) :
    k0_pay1 u v (ix2 p q) = ∑ k : Fin 1024, u (ix2 p k) * v (ix2 k q) := by
  pointwise [k0_pay1]

/-- The launched arguments. -/
def x : S8192x1024.Idx → EReal := m ((c : Thread nD τ).loc main_arg0)
def w : S1024x1024.Idx → EReal := m ((c : Thread nD τ).loc main_arg1)

theorem index_t : ∀ t : Fin cfg0.N, win0_0.index t = ![t.val, 0] ∧ win0_1.index t = ![0, 0] ∧ win0_2.index t = ![t.val, 0] := by
  decide +kernel

theorem row_lt (t : Fin cfg0.N) (p : Fin 1024) : t.val * 1024 + p.val < 8192 := by
  have ht : t.val < 8 := lt_of_lt_of_eq t.isLt N_0
  omega

/-- The block a step computes is the whole product's, at the step's positions. -/
theorem step_at (t : Fin cfg0.N) (p : Fin 1024) (q : Fin 1024) :
    k0_pay1 (iblk m c 0 t) (iblk m c 1 t) (ix2 p q) = ∑ k : Fin 1024, x m c (ix2 ⟨t.val * 1024 + p.val, row_lt t p⟩ k) * w m c (ix2 k q) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S8192x1024.Idx => ∑ k : Fin 1024, x m c (ix2 (i 0) k) * w m c (ix2 k (i 1)) := by
  refine (dats m 0 c).arrAt_eq_of_covers 2 _ (by decide +kernel) fun t hf z => ?_
  have e := (index_t t).2.2
  have h0 : (z 0).val < 1024 := (z 0).isLt
  have h1 : (z 1).val < 1024 := (z 1).isLt
  have key := step_at m c t ⟨(z 0).val, h0⟩ ⟨(z 1).val, h1⟩
  have a0 : (win0_2.blk t).view.emb z 0 = (⟨t.val * 1024 + (z 0).val, row_lt t ⟨(z 0).val, h0⟩⟩ : Fin 8192) := Fin.ext (by blk_simp [e])
  have a1 : (win0_2.blk t).view.emb z 1 = (⟨(z 1).val, h1⟩ : Fin 1024) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S8192x1024.Idx → EReal) (v : S1024x1024.Idx → EReal)
    (hu : u = m ((c : Thread nD τ).loc main_arg0)) (hv : v = m ((c : Thread nD τ).loc main_arg1)) :
    Cert.MemQRefIdeal.Read.val_main_v3 (F := Ideal) u v = (dats m 0 c).arrAt 2 cfg0.N := by
  subst hu hv
  rw [array_eq]
  funext i
  obtain ⟨p, q, rfl⟩ : ∃ (p : Fin 8192) (q : Fin 1024), i = ix2 p q := ⟨i 0, i 1, funext fun a => match a with | ⟨0, _⟩ => rfl | ⟨1, _⟩ => rfl⟩
  unfold x w
  pointwise [Cert.MemQRefIdeal.Read.val_main_v3, Cert.MemQRefIdeal.Read.val_main_v2, Cert.MemQRefIdeal.Read.val_main_v1, Cert.MemQRefIdeal.Read.val_main_v0]

theorem results_equal : Cert.algebraic_MemQIdeal_MemQRefIdeal (hMemQIdeal := Cert.MemQIdeal.Gen.facts) (hMemQRefIdeal := Cert.MemQRefIdeal.Gen.facts) := by
  intro m g m' g' _ hagree
  refine ⟨fun c => (dats m 0 c).arrAt 2 cfg0.N, run_blocks m g, (θ_run Cert.MemQRefIdeal.defs _ _).mono (fun r h c => ?_) (Cert.MemQRefIdeal.Value.run (F := Ideal) m' g')⟩
  obtain ⟨hy, h0, h1⟩ := h c
  obtain ⟨e0, e1⟩ := hagree c
  exact ⟨(hy.trans (Cert.MemQRefIdeal.Read.val_main_v3_eq (F := Ideal) _ _)).trans (value m c _ _ e0 e1), h0, h1⟩

end Cert.MemQIdeal.Val

end
-- ==== Proof.SbOutVal.lean ====
module

public import proofs.«01_k».proof.Defs
public import proofs.«01_k».proof.Proof.Gen.SbOutIdeal.Value
public import proofs.«01_k».proof.Proof.Gen.SbOutRefIdeal.Run
public import proofs.«01_k».proof.Proof.Gen.SbOutRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The output of the smaller attention: each block of 1024 positions against the whole weight. -/

namespace Cert.SbOutIdeal.Val

open Cert.SbOutIdeal Cert.SbOutIdeal.Gen Cert.SbOutIdeal.Value Idealize.ShloMosaic Idealize.ShloMosaic.TcCoe

variable (m : (ℓ : Loc nD τ sig) → Buf (Elt Ideal) ℓ) (c : Dev nD)

/-- The product of one block. -/
theorem block_at (u : Vec Ideal S1024x512 .bf16) (v : Vec Ideal S512x1024 .bf16) (p : Fin 1024) (q : Fin 1024) :
    k0_pay1 u v (ix2 p q) = ∑ k : Fin 512, u (ix2 p k) * v (ix2 k q) := by
  pointwise [k0_pay1]

/-- The launched arguments. -/
def x : S8192x512.Idx → EReal := m ((c : Thread nD τ).loc main_arg0)
def w : S512x1024.Idx → EReal := m ((c : Thread nD τ).loc main_arg1)

theorem index_t : ∀ t : Fin cfg0.N, win0_0.index t = ![t.val, 0] ∧ win0_1.index t = ![0, 0] ∧ win0_2.index t = ![t.val, 0] := by
  decide +kernel

theorem row_lt (t : Fin cfg0.N) (p : Fin 1024) : t.val * 1024 + p.val < 8192 := by
  have ht : t.val < 8 := lt_of_lt_of_eq t.isLt N_0
  omega

/-- The block a step computes is the whole product's, at the step's positions. -/
theorem step_at (t : Fin cfg0.N) (p : Fin 1024) (q : Fin 1024) :
    k0_pay1 (iblk m c 0 t) (iblk m c 1 t) (ix2 p q) = ∑ k : Fin 512, x m c (ix2 ⟨t.val * 1024 + p.val, row_lt t p⟩ k) * w m c (ix2 k q) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S8192x1024.Idx => ∑ k : Fin 512, x m c (ix2 (i 0) k) * w m c (ix2 k (i 1)) := by
  refine (dats m 0 c).arrAt_eq_of_covers 2 _ (by decide +kernel) fun t hf z => ?_
  have e := (index_t t).2.2
  have h0 : (z 0).val < 1024 := (z 0).isLt
  have h1 : (z 1).val < 1024 := (z 1).isLt
  have key := step_at m c t ⟨(z 0).val, h0⟩ ⟨(z 1).val, h1⟩
  have a0 : (win0_2.blk t).view.emb z 0 = (⟨t.val * 1024 + (z 0).val, row_lt t ⟨(z 0).val, h0⟩⟩ : Fin 8192) := Fin.ext (by blk_simp [e])
  have a1 : (win0_2.blk t).view.emb z 1 = (⟨(z 1).val, h1⟩ : Fin 1024) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S8192x512.Idx → EReal) (v : S512x1024.Idx → EReal)
    (hu : u = m ((c : Thread nD τ).loc main_arg0)) (hv : v = m ((c : Thread nD τ).loc main_arg1)) :
    Cert.SbOutRefIdeal.Read.val_main_v2 (F := Ideal) u v = (dats m 0 c).arrAt 2 cfg0.N := by
  subst hu hv
  rw [array_eq]
  funext i
  obtain ⟨p, q, rfl⟩ : ∃ (p : Fin 8192) (q : Fin 1024), i = ix2 p q := ⟨i 0, i 1, funext fun a => match a with | ⟨0, _⟩ => rfl | ⟨1, _⟩ => rfl⟩
  unfold x w
  pointwise [Cert.SbOutRefIdeal.Read.val_main_v2, Cert.SbOutRefIdeal.Read.val_main_v1, Cert.SbOutRefIdeal.Read.val_main_v0]

theorem results_equal : Cert.algebraic_SbOutIdeal_SbOutRefIdeal (hSbOutIdeal := Cert.SbOutIdeal.Gen.facts) (hSbOutRefIdeal := Cert.SbOutRefIdeal.Gen.facts) := by
  intro m g m' g' _ hagree
  refine ⟨fun c => (dats m 0 c).arrAt 2 cfg0.N, run_blocks m g, (θ_run Cert.SbOutRefIdeal.defs _ _).mono (fun r h c => ?_) (Cert.SbOutRefIdeal.Value.run (F := Ideal) m' g')⟩
  obtain ⟨hy, h0, h1⟩ := h c
  obtain ⟨e0, e1⟩ := hagree c
  exact ⟨(hy.trans (Cert.SbOutRefIdeal.Read.val_main_v2_eq (F := Ideal) _ _)).trans (value m c _ _ e0 e1), h0, h1⟩

end Cert.SbOutIdeal.Val

end
-- ==== Proof.RetOutVal.lean ====
module

public import proofs.«01_k».proof.Defs
public import proofs.«01_k».proof.Proof.Gen.RetOutIdeal.Value
public import proofs.«01_k».proof.Proof.Gen.RetOutRefIdeal.Run
public import proofs.«01_k».proof.Proof.Gen.RetOutRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! A gradient sent back through a square weight: each block of 1024 positions against the whole weight. -/

/-! The retention's output product, and the two branches mixed under their gates. -/

namespace Cert.RetOutIdeal.Val

open Cert.RetOutIdeal Cert.RetOutIdeal.Gen Cert.RetOutIdeal.Value Idealize.ShloMosaic Idealize.ShloMosaic.TcCoe

/-- A position's product with a column of the weights. -/
def lin (y : S8192x1024.Idx → EReal) (w : S1024x1024.Idx → EReal) (i : Fin 8192) (j : Fin 1024) : EReal := ∑ k : Fin 1024, y (ix2 i k) * w (ix2 k j)

/-- A gate. -/
def gate (h : S8192x2048.Idx → EReal) (b : S1x2048.Idx → EReal) (i : Fin 8192) (j : Fin 2048) : EReal := Ideal.logistic (h (ix2 i j) + b (ix2 0 j))

/-- The two branches under their gates, added up. -/
def mix (y : S8192x1024.Idx → EReal) (w : S1024x1024.Idx → EReal) (h : S8192x2048.Idx → EReal) (b : S1x2048.Idx → EReal) (s : S8192x1024.Idx → EReal)
    (i : Fin 8192) (j : Fin 1024) : EReal :=
  gate h b i ⟨j.val, by omega⟩ * s (ix2 i j) + gate h b i ⟨1024 + j.val, by omega⟩ * lin y w i j

section reference

open Cert.RetOutRefIdeal.Read

variable (y : S8192x1024.Idx → EReal) (w : S1024x1024.Idx → EReal) (h : S8192x2048.Idx → EReal) (b : S1x2048.Idx → EReal) (s : S8192x1024.Idx → EReal)

theorem ref_lin (i : Fin 8192) (j : Fin 1024) : val_main_v11 (F := Ideal) y w (ix2 i j) = lin y w i j := by
  pointwise [val_main_v11, val_main_v10, val_main_v9]
  rfl

theorem ref_gate (i : Fin 8192) (j : Fin 2048) : val_main_v7 (F := Ideal) h b (ix2 i j) = gate h b i j := by
  pointwise [val_main_v7, val_main_v6, val_main_v5, val_main_v4, val_main_v3, val_main_v2, val_main_v1, val_main_v0, val_main_cst, val_main_cst_0]
  rfl

/-- The first half of the gates, reached through the array of pairs. -/
theorem ref_left (i : Fin 8192) (j : Fin 1024) : val_main_v13 (F := Ideal) h b (ix2 i j) = gate h b i ⟨j.val, by omega⟩ := by
  rw [← ref_gate]
  unfold val_main_v13 val_main_v12 val_main_v8
  generalize val_main_v7 (F := Ideal) h b = f
  pointwise []

/-- The second half of the gates. -/
theorem ref_right (i : Fin 8192) (j : Fin 1024) : val_main_v16 (F := Ideal) h b (ix2 i j) = gate h b i ⟨1024 + j.val, by omega⟩ := by
  rw [← ref_gate]
  unfold val_main_v16 val_main_v15 val_main_v8
  generalize val_main_v7 (F := Ideal) h b = f
  pointwise []

theorem ref_mix (i : Fin 8192) (j : Fin 1024) : val_main_v19 (F := Ideal) y w h b s (ix2 i j) = mix y w h b s i j := by
  unfold val_main_v19 val_main_v18 val_main_v17 val_main_v14 mix
  rw [← ref_left, ← ref_right, ← ref_lin]
  generalize val_main_v13 (F := Ideal) h b = f
  generalize val_main_v16 (F := Ideal) h b = g
  generalize val_main_v11 (F := Ideal) y w = o
  pointwise []

end reference

/-- The product of one block. -/
theorem block_at (u : Vec Ideal S512x1024 .bf16) (v : Vec Ideal S1024x1024 .bf16) (p : Fin 512) (q : Fin 1024) :
    k0_pay1 u v (ix2 p q) = ∑ k : Fin 1024, u (ix2 p k) * v (ix2 k q) := by
  pointwise [k0_pay1]

/-- The mix of one block. -/
theorem mix_at (u : Vec Ideal S512x1024 .bf16) (v : Vec Ideal S1024x1024 .bf16) (h : Vec Ideal S512x2048 .f32) (b : Vec Ideal S1x2048 .f32) (s : Vec Ideal S512x1024 .f32)
    (p : Fin 512) (q : Fin 1024) :
    k0_pay2 u v h b s (ix2 p q) = Ideal.logistic (h (ix2 p ⟨q.val, by omega⟩) + b (ix2 0 ⟨q.val, by omega⟩)) * s (ix2 p q)
      + Ideal.logistic (h (ix2 p ⟨1024 + q.val, by omega⟩) + b (ix2 0 ⟨1024 + q.val, by omega⟩)) * k0_pay1 u v (ix2 p q) := by
  unfold k0_pay2
  generalize k0_pay1 u v = f
  pointwise []

variable (m : (ℓ : Loc nD τ sig) → Buf (Elt Ideal) ℓ) (c : Dev nD)

/-- The launched arguments. -/
def y : S8192x1024.Idx → EReal := m ((c : Thread nD τ).loc main_arg0)
def w : S1024x1024.Idx → EReal := m ((c : Thread nD τ).loc main_arg1)
def h : S8192x2048.Idx → EReal := m ((c : Thread nD τ).loc main_arg2)
def b : S1x2048.Idx → EReal := m ((c : Thread nD τ).loc main_arg3)
def s : S8192x1024.Idx → EReal := m ((c : Thread nD τ).loc main_arg4)

theorem index_t : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] := by
  decide +kernel

theorem row_lt (t : Fin cfg0.N) (p : Fin 512) : t.val * 512 + p.val < 8192 := by
  have ht : t.val < 16 := lt_of_lt_of_eq t.isLt N_0
  omega

/-- The product a step computes. -/
theorem step_lin (t : Fin cfg0.N) (p : Fin 512) (q : Fin 1024) :
    k0_pay1 (iblk m c 0 t) (iblk m c 1 t) (ix2 p q) = lin (y m c) (w m c) ⟨t.val * 512 + p.val, row_lt t p⟩ q := by
  refine (block_at _ _ p q).trans (Fin.sum_fin_congr fun k => ?_)
  obtain ⟨e0, e1, -⟩ := index_t t
  refine congrArg₂ (· * ·) ?_ ?_
  · unfold y
    blk_ext [iblk, V, e0]
  · unfold w
    blk_ext [iblk, V, e1]

theorem step_gate (t : Fin cfg0.N) (p : Fin 512) (q : Fin 2048) :
    iblk m c 2 t (ix2 p q) = h m c (ix2 ⟨t.val * 512 + p.val, row_lt t p⟩ q) := by
  obtain ⟨-, -, e, -⟩ := index_t t
  unfold h
  blk_ext [iblk, V, e]

theorem step_bias (t : Fin cfg0.N) (q : Fin 2048) : iblk m c 3 t (ix2 (0 : Fin 1) q) = b m c (ix2 (0 : Fin 1) q) := by
  obtain ⟨-, -, -, e, -⟩ := index_t t
  unfold b
  blk_ext [iblk, V, e]

theorem step_other (t : Fin cfg0.N) (p : Fin 512) (q : Fin 1024) :
    iblk m c 4 t (ix2 p q) = s m c (ix2 ⟨t.val * 512 + p.val, row_lt t p⟩ q) := by
  obtain ⟨-, -, -, -, e, -⟩ := index_t t
  unfold s
  blk_ext [iblk, V, e]

/-- The mix a step computes. -/
theorem step_mix (t : Fin cfg0.N) (p : Fin 512) (q : Fin 1024) :
    k0_pay2 (iblk m c 0 t) (iblk m c 1 t) (iblk m c 2 t) (iblk m c 3 t) (iblk m c 4 t) (ix2 p q)
      = mix (y m c) (w m c) (h m c) (b m c) (s m c) ⟨t.val * 512 + p.val, row_lt t p⟩ q := by
  refine (mix_at _ _ _ _ _ p q).trans ?_
  rw [step_lin m c t p q, step_gate m c t p, step_gate m c t p, step_bias m c t, step_bias m c t, step_other m c t p q]
  rfl

/-- The product the kernel leaves. -/
theorem lin_eq : (dats m 0 c).arrAt 5 cfg0.N = fun i : S8192x1024.Idx => lin (y m c) (w m c) (i 0) (i 1) := by
  refine (dats m 0 c).arrAt_eq_of_covers 5 _ (by decide +kernel) fun t hf z => ?_
  obtain ⟨-, -, -, -, -, e, -⟩ := index_t t
  have h0 : (z 0).val < 512 := (z 0).isLt
  have h1 : (z 1).val < 1024 := (z 1).isLt
  have key := step_lin m c t ⟨(z 0).val, h0⟩ ⟨(z 1).val, h1⟩
  have a0 : (win0_5.blk t).view.emb z 0 = (⟨t.val * 512 + (z 0).val, row_lt t ⟨(z 0).val, h0⟩⟩ : Fin 8192) := Fin.ext (by blk_simp [e])
  have a1 : (win0_5.blk t).view.emb z 1 = (⟨(z 1).val, h1⟩ : Fin 1024) := Fin.ext (by blk_simp [e])
  blk_simp
  rw [after0_5]
  frame_out
  refine Eq.trans ?_ (key.trans ?_)
  · exact congrArg _ (funext fun a => match a with | ⟨0, _⟩ => rfl | ⟨1, _⟩ => rfl)
  · rw [a0, a1]

/-- The mix the kernel leaves. -/
theorem mix_eq : (dats m 0 c).arrAt 6 cfg0.N = fun i : S8192x1024.Idx => mix (y m c) (w m c) (h m c) (b m c) (s m c) (i 0) (i 1) := by
  refine (dats m 0 c).arrAt_eq_of_covers 6 _ (by decide +kernel) fun t hf z => ?_
  obtain ⟨-, -, -, -, -, -, e⟩ := index_t t
  have h0 : (z 0).val < 512 := (z 0).isLt
  have h1 : (z 1).val < 1024 := (z 1).isLt
  have key := step_mix m c t ⟨(z 0).val, h0⟩ ⟨(z 1).val, h1⟩
  have a0 : (win0_6.blk t).view.emb z 0 = (⟨t.val * 512 + (z 0).val, row_lt t ⟨(z 0).val, h0⟩⟩ : Fin 8192) := Fin.ext (by blk_simp [e])
  have a1 : (win0_6.blk t).view.emb z 1 = (⟨(z 1).val, h1⟩ : Fin 1024) := Fin.ext (by blk_simp [e])
  blk_simp
  rw [after0_6]
  frame_out
  refine Eq.trans ?_ (key.trans ?_)
  · exact congrArg _ (funext fun a => match a with | ⟨0, _⟩ => rfl | ⟨1, _⟩ => rfl)
  · rw [a0, a1]

open Cert.RetOutRefIdeal.Read in
/-- The kernel's results are the reference's, on the same arguments. -/
theorem values (y₀ : S8192x1024.Idx → EReal) (w₀ : S1024x1024.Idx → EReal) (h₀ : S8192x2048.Idx → EReal) (b₀ : S1x2048.Idx → EReal) (s₀ : S8192x1024.Idx → EReal)
    (ey : y₀ = m ((c : Thread nD τ).loc main_arg0)) (ew : w₀ = m ((c : Thread nD τ).loc main_arg1)) (eh : h₀ = m ((c : Thread nD τ).loc main_arg2))
    (eb : b₀ = m ((c : Thread nD τ).loc main_arg3)) (es : s₀ = m ((c : Thread nD τ).loc main_arg4)) :
    val_main_v11 (F := Ideal) y₀ w₀ = (dats m 0 c).arrAt 5 cfg0.N ∧ val_main_v19 (F := Ideal) y₀ w₀ h₀ b₀ s₀ = (dats m 0 c).arrAt 6 cfg0.N := by
  subst ey ew eh eb es
  have at_ix (i : S8192x1024.Idx) : i = ix2 (i 0) (i 1) := funext fun a => match a with | ⟨0, _⟩ => rfl | ⟨1, _⟩ => rfl
  rw [lin_eq, mix_eq]
  refine ⟨funext fun i => ?_, funext fun i => ?_⟩
  · exact (congrArg _ (at_ix i)).trans (ref_lin _ _ (i 0) (i 1))
  · exact (congrArg _ (at_ix i)).trans (ref_mix _ _ _ _ _ (i 0) (i 1))

theorem results_equal : Cert.algebraic_RetOutIdeal_RetOutRefIdeal (hRetOutIdeal := Cert.RetOutIdeal.Gen.facts) (hRetOutRefIdeal := Cert.RetOutRefIdeal.Gen.facts) := by
  intro m g m' g' _ hagree
  refine ⟨fun c => (dats m 0 c).arrAt 5 cfg0.N, fun c => (dats m 0 c).arrAt 6 cfg0.N, run_blocks m g,
    (θ_run Cert.RetOutRefIdeal.defs _ _).mono (fun r h c => ?_) (Cert.RetOutRefIdeal.Value.run (F := Ideal) m' g')⟩
  obtain ⟨hy, hm, kept⟩ := h c
  obtain ⟨e0, e1, e2, e3, e4⟩ := hagree c
  have key := values m c _ _ _ _ _ e0 e1 e2 e3 e4
  exact ⟨(hy.trans (Cert.RetOutRefIdeal.Read.val_main_v11_eq (F := Ideal) _ _)).trans key.1,
    (hm.trans (Cert.RetOutRefIdeal.Read.val_main_v19_eq (F := Ideal) _ _ _ _ _)).trans key.2, kept⟩

end Cert.RetOutIdeal.Val

end
-- ==== Proof.LnOutVal.lean ====
module

public import proofs.«01_k».proof.Defs
public import proofs.«01_k».proof.Proof.Gen.LnOutIdeal.Value
public import proofs.«01_k».proof.Proof.Gen.LnOutRefIdeal.Run
public import proofs.«01_k».proof.Proof.Gen.LnOutRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! A gradient sent back through a square weight: each block of 1024 positions against the whole weight. -/

/-! A product added to a scaled residual, and the rows of the sum normalised: four results. -/

namespace Cert.LnOutIdeal.Val

open Cert.LnOutIdeal Cert.LnOutIdeal.Gen Cert.LnOutIdeal.Value Idealize.ShloMosaic Idealize.ShloMosaic.TcCoe

/-- The scaled residual and the product. -/
def pre (a : S8192x1024.Idx → EReal) (w : S1024x1024.Idx → EReal) (x : S8192x1024.Idx → EReal) (i : Fin 8192) (j : Fin 1024) : EReal :=
  Ideal.ofBits .f32 0x3F9837F0#32 * x (ix2 i j) + ∑ k : Fin 1024, a (ix2 i k) * w (ix2 k j)

/-- An entry less its row's mean. -/
def dev (a : S8192x1024.Idx → EReal) (w : S1024x1024.Idx → EReal) (x : S8192x1024.Idx → EReal) (i : Fin 8192) (j : Fin 1024) : EReal :=
  pre a w x i j - Ideal.div (∑ k : Fin 1024, pre a w x i k) (Ideal.ofBits .f32 0x44800000#32)

/-- A row's scale. -/
def scale (a : S8192x1024.Idx → EReal) (w : S1024x1024.Idx → EReal) (x : S8192x1024.Idx → EReal) (i : Fin 8192) : EReal :=
  Ideal.rsqrt (Ideal.div (∑ k : Fin 1024, dev a w x i k * dev a w x i k) (Ideal.ofBits .f32 0x44800000#32) + Ideal.ofBits .f32 0x3727C5AC#32)

/-- The normalised entry. -/
def normed (a : S8192x1024.Idx → EReal) (w : S1024x1024.Idx → EReal) (x : S8192x1024.Idx → EReal) (i : Fin 8192) (j : Fin 1024) : EReal :=
  dev a w x i j * scale a w x i

/-- The entry under the gain and the bias. -/
def out (a : S8192x1024.Idx → EReal) (w : S1024x1024.Idx → EReal) (x : S8192x1024.Idx → EReal) (g b : S1x1024.Idx → EReal) (i : Fin 8192) (j : Fin 1024) : EReal :=
  normed a w x i j * g (ix2 0 j) + b (ix2 0 j)

section reference

open Cert.LnOutRefIdeal.Read

variable (a : S8192x1024.Idx → EReal) (w : S1024x1024.Idx → EReal) (x : S8192x1024.Idx → EReal) (g b : S1x1024.Idx → EReal)

theorem ref_dev (i : Fin 8192) (j : Fin 1024) : val_main_v21 (F := Ideal) a w x (ix2 i j) = dev a w x i j := by
  pointwise [val_main_v21, val_main_v20, val_main_v9, val_main_v8, val_main_cst_1, val_main_v7, val_main_v6, val_main_cst_0, val_main_v5, val_main_v4, val_main_v3, val_main_v2, val_main_v1, val_main_v0, val_main_cst]
  rfl

theorem ref_scale (i : Fin 8192) (o : Fin 1) : val_main_v19 (F := Ideal) a w x (ix2 i o) = scale a w x i := by
  have hd : ∀ j, val_main_v11 (F := Ideal) a w x (ix2 i j) = dev a w x i j := ref_dev a w x i
  unfold val_main_v19 val_main_v18 val_main_v17 val_main_v16 val_main_v15 val_main_v14 val_main_v13 val_main_v12 val_main_cst_2 val_main_cst_3 val_main_cst_4
  generalize val_main_v11 (F := Ideal) a w x = d at hd ⊢
  pointwise []
  simp only [hd]
  rfl

theorem ref_normed (i : Fin 8192) (j : Fin 1024) : val_main_v23 (F := Ideal) a w x (ix2 i j) = normed a w x i j := by
  unfold val_main_v23 val_main_v22 normed
  rw [← ref_dev, ← ref_scale a w x i 0]
  generalize val_main_v21 (F := Ideal) a w x = d
  generalize val_main_v19 (F := Ideal) a w x = r
  pointwise []

theorem ref_out (i : Fin 8192) (j : Fin 1024) : val_main_v27 (F := Ideal) a w x g b (ix2 i j) = out a w x g b i j := by
  unfold val_main_v27 val_main_v26 val_main_v25 val_main_v24 out
  rw [← ref_normed]
  generalize val_main_v23 (F := Ideal) a w x = d
  pointwise []

end reference

section step

/-! One step's blocks, whose rows are positions of the whole arrays. -/

variable (a : Vec Ideal S512x1024 .bf16) (w : Vec Ideal S1024x1024 .bf16) (x : Vec Ideal S512x1024 .f32) (g b : Vec Ideal S1x1024 .f32)
  (A : S8192x1024.Idx → EReal) (W : S1024x1024.Idx → EReal) (X : S8192x1024.Idx → EReal) (G B : S1x1024.Idx → EReal) (p : Fin 512) (i : Fin 8192)
  (ha : ∀ k : Fin 1024, a (ix2 p k) = A (ix2 i k)) (hw : ∀ k j : Fin 1024, w (ix2 k j) = W (ix2 k j)) (hx : ∀ k : Fin 1024, x (ix2 p k) = X (ix2 i k))
  (hg : ∀ k : Fin 1024, g (ix2 (0 : Fin 1) k) = G (ix2 (0 : Fin 1) k)) (hb : ∀ k : Fin 1024, b (ix2 (0 : Fin 1) k) = B (ix2 (0 : Fin 1) k))

include ha hw hx

theorem step_dev (q : Fin 1024) : k0_pay1 a w x (ix2 p q) = dev A W X i q := by
  pointwise [k0_pay1]
  simp only [ha, hw, hx]
  rfl

theorem step_scale (o : Fin 1) : k0_pay2 a w x (ix2 p o) = scale A W X i := by
  have hd := step_dev a w x A W X p i ha hw hx
  unfold k0_pay2
  generalize k0_pay1 a w x = d at hd ⊢
  pointwise []
  simp only [hd]
  rfl

theorem step_normed (q : Fin 1024) : k0_pay3 a w x (ix2 p q) = normed A W X i q := by
  unfold k0_pay3 normed
  rw [← step_dev a w x A W X p i ha hw hx, ← step_scale a w x A W X p i ha hw hx 0]
  generalize k0_pay1 a w x = d
  generalize k0_pay2 a w x = r
  pointwise []

include hg hb

theorem step_out (q : Fin 1024) : k0_pay4 a w x g b (ix2 p q) = out A W X G B i q := by
  unfold k0_pay4 out
  rw [← step_normed a w x A W X p i ha hw hx, ← hg, ← hb]
  generalize k0_pay3 a w x = d
  pointwise []

theorem step_short (q : Fin 1024) : k0_pay5 a w x g b (ix2 p q) = out A W X G B i q := by
  rw [← step_out a w x g b A W X G B p i ha hw hx hg hb]
  unfold k0_pay5
  generalize k0_pay4 a w x g b = d
  pointwise []

end step

variable (m : (ℓ : Loc nD τ sig) → Buf (Elt Ideal) ℓ) (c : Dev nD)

/-- The launched arguments. -/
def a : S8192x1024.Idx → EReal := m ((c : Thread nD τ).loc main_arg0)
def w : S1024x1024.Idx → EReal := m ((c : Thread nD τ).loc main_arg1)
def x : S8192x1024.Idx → EReal := m ((c : Thread nD τ).loc main_arg2)
def g : S1x1024.Idx → EReal := m ((c : Thread nD τ).loc main_arg3)
def b : S1x1024.Idx → EReal := m ((c : Thread nD τ).loc main_arg4)

theorem index_t : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] := by
  decide +kernel

theorem row_lt (t : Fin cfg0.N) (p : Fin 512) : t.val * 512 + p.val < 8192 := by
  have ht : t.val < 16 := lt_of_lt_of_eq t.isLt N_0
  omega

/-! The blocks a step reads. -/

theorem rows_at (t : Fin cfg0.N) (p : Fin 512) (k : Fin 1024) : iblk m c 0 t (ix2 p k) = a m c (ix2 ⟨t.val * 512 + p.val, row_lt t p⟩ k) := by
  obtain ⟨e, -⟩ := index_t t
  unfold a
  blk_ext [iblk, V, e]

theorem weights_at (t : Fin cfg0.N) (k j : Fin 1024) : iblk m c 1 t (ix2 k j) = w m c (ix2 k j) := by
  obtain ⟨-, e, -⟩ := index_t t
  unfold w
  blk_ext [iblk, V, e]

theorem residual_at (t : Fin cfg0.N) (p : Fin 512) (k : Fin 1024) : iblk m c 2 t (ix2 p k) = x m c (ix2 ⟨t.val * 512 + p.val, row_lt t p⟩ k) := by
  obtain ⟨-, -, e, -⟩ := index_t t
  unfold x
  blk_ext [iblk, V, e]

theorem gain_at (t : Fin cfg0.N) (k : Fin 1024) : iblk m c 3 t (ix2 (0 : Fin 1) k) = g m c (ix2 (0 : Fin 1) k) := by
  obtain ⟨-, -, -, e, -⟩ := index_t t
  unfold g
  blk_ext [iblk, V, e]

theorem bias_at (t : Fin cfg0.N) (k : Fin 1024) : iblk m c 4 t (ix2 (0 : Fin 1) k) = b m c (ix2 (0 : Fin 1) k) := by
  obtain ⟨-, -, -, -, e, -⟩ := index_t t
  unfold b
  blk_ext [iblk, V, e]

/-- The first result. -/
theorem out_eq : (dats m 0 c).arrAt 5 cfg0.N = fun i : S8192x1024.Idx => out (a m c) (w m c) (x m c) (g m c) (b m c) (i 0) (i 1) := by
  refine (dats m 0 c).arrAt_eq_of_covers 5 _ (by decide +kernel) fun t hf z => ?_
  obtain ⟨-, -, -, -, -, e, -⟩ := index_t t
  have h0 : (z 0).val < 512 := (z 0).isLt
  have h1 : (z 1).val < 1024 := (z 1).isLt
  have key := step_out _ _ _ _ _ _ _ _ _ _ ⟨(z 0).val, h0⟩ _ (rows_at m c t _) (weights_at m c t) (residual_at m c t _) (gain_at m c t) (bias_at m c t) ⟨(z 1).val, h1⟩
  have a0 : (win0_5.blk t).view.emb z 0 = (⟨t.val * 512 + (z 0).val, row_lt t ⟨(z 0).val, h0⟩⟩ : Fin 8192) := Fin.ext (by blk_simp [e])
  have a1 : (win0_5.blk t).view.emb z 1 = (⟨(z 1).val, h1⟩ : Fin 1024) := Fin.ext (by blk_simp [e])
  blk_simp
  rw [after0_5]
  frame_out
  refine Eq.trans ?_ (key.trans ?_)
  · exact congrArg _ (funext fun a => match a with | ⟨0, _⟩ => rfl | ⟨1, _⟩ => rfl)
  · rw [a0, a1]

/-- The second result: the first once more. -/
theorem short_eq : (dats m 0 c).arrAt 6 cfg0.N = fun i : S8192x1024.Idx => out (a m c) (w m c) (x m c) (g m c) (b m c) (i 0) (i 1) := by
  refine (dats m 0 c).arrAt_eq_of_covers 6 _ (by decide +kernel) fun t hf z => ?_
  obtain ⟨-, -, -, -, -, -, e, -⟩ := index_t t
  have h0 : (z 0).val < 512 := (z 0).isLt
  have h1 : (z 1).val < 1024 := (z 1).isLt
  have key := step_short _ _ _ _ _ _ _ _ _ _ ⟨(z 0).val, h0⟩ _ (rows_at m c t _) (weights_at m c t) (residual_at m c t _) (gain_at m c t) (bias_at m c t) ⟨(z 1).val, h1⟩
  have a0 : (win0_6.blk t).view.emb z 0 = (⟨t.val * 512 + (z 0).val, row_lt t ⟨(z 0).val, h0⟩⟩ : Fin 8192) := Fin.ext (by blk_simp [e])
  have a1 : (win0_6.blk t).view.emb z 1 = (⟨(z 1).val, h1⟩ : Fin 1024) := Fin.ext (by blk_simp [e])
  blk_simp
  rw [after0_6]
  frame_out
  refine Eq.trans ?_ (key.trans ?_)
  · exact congrArg _ (funext fun a => match a with | ⟨0, _⟩ => rfl | ⟨1, _⟩ => rfl)
  · rw [a0, a1]

/-- The third result: the normalised rows. -/
theorem normed_eq : (dats m 0 c).arrAt 7 cfg0.N = fun i : S8192x1024.Idx => normed (a m c) (w m c) (x m c) (i 0) (i 1) := by
  refine (dats m 0 c).arrAt_eq_of_covers 7 _ (by decide +kernel) fun t hf z => ?_
  obtain ⟨-, -, -, -, -, -, -, e, -⟩ := index_t t
  have h0 : (z 0).val < 512 := (z 0).isLt
  have h1 : (z 1).val < 1024 := (z 1).isLt
  have key := step_normed _ _ _ _ _ _ ⟨(z 0).val, h0⟩ _ (rows_at m c t _) (weights_at m c t) (residual_at m c t _) ⟨(z 1).val, h1⟩
  have a0 : (win0_7.blk t).view.emb z 0 = (⟨t.val * 512 + (z 0).val, row_lt t ⟨(z 0).val, h0⟩⟩ : Fin 8192) := Fin.ext (by blk_simp [e])
  have a1 : (win0_7.blk t).view.emb z 1 = (⟨(z 1).val, h1⟩ : Fin 1024) := Fin.ext (by blk_simp [e])
  blk_simp
  rw [after0_7]
  frame_out
  refine Eq.trans ?_ (key.trans ?_)
  · exact congrArg _ (funext fun a => match a with | ⟨0, _⟩ => rfl | ⟨1, _⟩ => rfl)
  · rw [a0, a1]

/-- The fourth result: the rows' scales. -/
theorem scale_eq : (dats m 0 c).arrAt 8 cfg0.N = fun i : S8192x1.Idx => scale (a m c) (w m c) (x m c) (i 0) := by
  refine (dats m 0 c).arrAt_eq_of_covers 8 _ (by decide +kernel) fun t hf z => ?_
  obtain ⟨-, -, -, -, -, -, -, -, e⟩ := index_t t
  have h0 : (z 0).val < 512 := (z 0).isLt
  have h1 : (z 1).val < 1 := (z 1).isLt
  have key := step_scale _ _ _ _ _ _ ⟨(z 0).val, h0⟩ _ (rows_at m c t _) (weights_at m c t) (residual_at m c t _) ⟨(z 1).val, h1⟩
  have a0 : (win0_8.blk t).view.emb z 0 = (⟨t.val * 512 + (z 0).val, row_lt t ⟨(z 0).val, h0⟩⟩ : Fin 8192) := Fin.ext (by blk_simp [e])
  blk_simp
  rw [after0_8]
  frame_out
  refine Eq.trans ?_ (key.trans ?_)
  · exact congrArg _ (funext fun a => match a with | ⟨0, _⟩ => rfl | ⟨1, _⟩ => rfl)
  · rw [a0]

open Cert.LnOutRefIdeal.Read in
/-- The kernel's results are the reference's, on the same arguments. -/
theorem values (a₀ : S8192x1024.Idx → EReal) (w₀ : S1024x1024.Idx → EReal) (x₀ : S8192x1024.Idx → EReal) (g₀ b₀ : S1x1024.Idx → EReal)
    (ea : a₀ = m ((c : Thread nD τ).loc main_arg0)) (ew : w₀ = m ((c : Thread nD τ).loc main_arg1)) (ex : x₀ = m ((c : Thread nD τ).loc main_arg2))
    (eg : g₀ = m ((c : Thread nD τ).loc main_arg3)) (eb : b₀ = m ((c : Thread nD τ).loc main_arg4)) :
    val_main_v27 (F := Ideal) a₀ w₀ x₀ g₀ b₀ = (dats m 0 c).arrAt 5 cfg0.N ∧ val_main_v28 (F := Ideal) a₀ w₀ x₀ g₀ b₀ = (dats m 0 c).arrAt 6 cfg0.N
    ∧ val_main_v23 (F := Ideal) a₀ w₀ x₀ = (dats m 0 c).arrAt 7 cfg0.N ∧ val_main_v19 (F := Ideal) a₀ w₀ x₀ = (dats m 0 c).arrAt 8 cfg0.N := by
  subst ea ew ex eg eb
  have at_ix {k : ℕ} (i : (Shape.mk 2 ![8192, k]).Idx) : i = ix2 (i 0) (i 1) := funext fun a => match a with | ⟨0, _⟩ => rfl | ⟨1, _⟩ => rfl
  rw [out_eq, short_eq, normed_eq, scale_eq]
  refine ⟨funext fun i => ?_, funext fun i => ?_, funext fun i => ?_, funext fun i => ?_⟩
  · exact (congrArg _ (at_ix i)).trans (ref_out _ _ _ _ _ (i 0) (i 1))
  · exact (congrArg _ (at_ix i)).trans (ref_out _ _ _ _ _ (i 0) (i 1))
  · exact (congrArg _ (at_ix i)).trans (ref_normed _ _ _ (i 0) (i 1))
  · exact (congrArg _ (at_ix i)).trans (ref_scale _ _ _ (i 0) (i 1))

open Cert.LnOutRefIdeal.Read in
theorem results_equal : Cert.algebraic_LnOutIdeal_LnOutRefIdeal (hLnOutIdeal := Cert.LnOutIdeal.Gen.facts) (hLnOutRefIdeal := Cert.LnOutRefIdeal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run Cert.LnOutRefIdeal.defs _ _).mono (fun r h c => ?_) (Cert.LnOutRefIdeal.Value.run (F := Ideal) m' g')⟩
  obtain ⟨ho, hs, hn, hr, kept⟩ := h c
  obtain ⟨e0, e1, e2, e3, e4⟩ := hagree c
  obtain ⟨ko, ks, kn, kr⟩ := values m c _ _ _ _ _ e0 e1 e2 e3 e4
  exact ⟨(ho.trans (val_main_v27_eq (F := Ideal) _ _ _ _ _)).trans ko, (hs.trans (val_main_v28_eq (F := Ideal) _ _ _ _ _)).trans ks,
    (hn.trans (val_main_v23_eq (F := Ideal) _ _ _)).trans kn, (hr.trans (val_main_v19_eq (F := Ideal) _ _ _)).trans kr, kept⟩

end Cert.LnOutIdeal.Val

end
-- ==== Proof.Lanes.lean ====
module

public import Idealize.ShloMosaic.Lib.Pointwise
public import Idealize.ShloMosaic.Lib.Pipeline.ValueKit.Acc

@[expose] public section

noncomputable section

/-! A sum over 8192 rows taken in the order of the kernels that keep eight lanes: 32 steps of 256 rows, each step's rows in groups of eight. -/

namespace Cert.Lanes

open Idealize.ShloMosaic

/-- The row of a lane's group within a step of 256. -/
theorem row_in (r : Fin 32) (l : Fin 8) : r.val * 8 + l.val < 256 := by omega

/-- A row of all. -/
theorem row_of (t : Fin 32) (r : Fin 256) : t.val * 256 + r.val < 8192 := by omega

/-- Each lane's sum over the steps and the groups, all lanes added up, is the sum over the rows. -/
theorem sum_lanes (f : Fin 8192 → EReal) :
    ∑ l : Fin 8, ∑ t : Fin 32, ∑ r : Fin 32, f ⟨t.val * 256 + (⟨r.val * 8 + l.val, row_in r l⟩ : Fin 256).val, row_of t _⟩ = ∑ i : Fin 8192, f i := by
  rw [Finset.sum_comm]
  refine Eq.trans (Fin.sum_fin_congr fun t => ?_) (Fin.sum_mul_add_congr (S := 32) (n := 256) (F := fun t k => f ⟨t.val * 256 + k.val, row_of t k⟩) fun _ _ _ => rfl)
  rw [Finset.sum_comm]
  exact Fin.sum_mul_add_congr (S := 32) (n := 8) (f := fun k => f ⟨t.val * 256 + k.val, row_of t k⟩) fun _ _ _ => rfl

end Cert.Lanes

end
-- ==== Proof.GradMixVal.lean ====
module

public import proofs.«01_k».proof.Defs
public import proofs.«01_k».proof.Proof.Finite
public import proofs.«01_k».proof.Proof.Lanes
public import proofs.«01_k».proof.Proof.Gen.GradMixIdeal.Value
public import proofs.«01_k».proof.Proof.Gen.GradMixRefIdeal.Run
public import proofs.«01_k».proof.Proof.Gen.GradMixRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient through the gated mix of the two branches: to each branch, to the gates, and to the gates' bias, the last a sum over all positions. -/

namespace Cert.GradMixIdeal.Val

open Cert.GradMixIdeal Cert.GradMixIdeal.Gen Cert.GradMixIdeal.Value Idealize.ShloMosaic Idealize.ShloMosaic.TcCoe

/-- The gradient of the mix: a position's incoming gradient with a row of the weight. -/
def back (u : S8192x1024.Idx → EReal) (w : S1024x1024.Idx → EReal) (i : Fin 8192) (j : Fin 1024) : EReal := ∑ k : Fin 1024, u (ix2 i k) * w (ix2 j k)

/-- A gate. -/
def gate (h : S8192x2048.Idx → EReal) (b : S1x2048.Idx → EReal) (i : Fin 8192) (j : Fin 2048) : EReal := Ideal.logistic (h (ix2 i j) + b (ix2 0 j))

/-- The gradient that reaches a gate's argument, from the mix's gradient, the branch's entry and the gate. -/
def through (d y g : EReal) : EReal := d * y * g * (((1 : ℝ) : EReal) - g)

/-- The gradient at every gate: the first half's branch is one array, the second half's the other. -/
def gates (u : S8192x1024.Idx → EReal) (w : S1024x1024.Idx → EReal) (h : S8192x2048.Idx → EReal) (b : S1x2048.Idx → EReal) (s r : S8192x1024.Idx → EReal)
    (i : Fin 8192) (j : Fin 2048) : EReal :=
  if hj : j.val < 1024 then through (back u w i ⟨j.val, hj⟩) (s (ix2 i ⟨j.val, hj⟩)) (gate h b i j)
  else through (back u w i ⟨j.val - 1024, by omega⟩) (r (ix2 i ⟨j.val - 1024, by omega⟩)) (gate h b i j)

/-- Every column is in one half or the other. -/
theorem halves {P : Fin 2048 → Prop} (h0 : ∀ q : Fin 1024, P ⟨q.val, by omega⟩) (h1 : ∀ q : Fin 1024, P ⟨1024 + q.val, by omega⟩) (j : Fin 2048) : P j := by
  by_cases hj : j.val < 1024
  · exact h0 ⟨j.val, hj⟩
  · have := h1 ⟨j.val - 1024, by omega⟩
    rwa [show (⟨1024 + (j.val - 1024), by omega⟩ : Fin 2048) = j from Fin.ext (by dsimp only; omega)] at this

section reference

open Cert.GradMixRefIdeal.Read

variable (u : S8192x1024.Idx → EReal) (w : S1024x1024.Idx → EReal) (h : S8192x2048.Idx → EReal) (b : S1x2048.Idx → EReal) (s r : S8192x1024.Idx → EReal)

theorem ref_back (i : Fin 8192) (j : Fin 1024) : val_main_v22 (F := Ideal) u w (ix2 i j) = back u w i j := by
  pointwise [val_main_v22, val_main_v21, val_main_v19]
  rfl

theorem ref_gate (i : Fin 8192) (j : Fin 2048) : val_main_v7 (F := Ideal) h b (ix2 i j) = gate h b i j := by
  pointwise [val_main_v7, val_main_v6, val_main_v5, val_main_v4, val_main_v3, val_main_v2, val_main_v1, val_main_v0, val_main_cst, val_main_cst_0]
  rfl

theorem ref_slope (i : Fin 8192) (j : Fin 2048) : val_main_v10 (F := Ideal) h b (ix2 i j) = gate h b i j * (((1 : ℝ) : EReal) - gate h b i j) := by
  rw [← ref_gate, ← Finite.one_f32]
  unfold val_main_v10 val_main_v9 val_main_v8
  generalize val_main_v7 (F := Ideal) h b = f
  pointwise [val_main_cst_1]

/-- The first half of the gates, reached through the array of pairs. -/
theorem ref_left (i : Fin 8192) (j : Fin 1024) : val_main_v13 (F := Ideal) h b (ix2 i j) = gate h b i ⟨j.val, by omega⟩ := by
  rw [← ref_gate]
  unfold val_main_v13 val_main_v12 val_main_v11
  generalize val_main_v7 (F := Ideal) h b = f
  pointwise []

/-- The second half of the gates. -/
theorem ref_right (i : Fin 8192) (j : Fin 1024) : val_main_v16 (F := Ideal) h b (ix2 i j) = gate h b i ⟨1024 + j.val, by omega⟩ := by
  rw [← ref_gate]
  unfold val_main_v16 val_main_v15 val_main_v11
  generalize val_main_v7 (F := Ideal) h b = f
  pointwise []

theorem ref_first (i : Fin 8192) (j : Fin 1024) : val_main_v36 (F := Ideal) u w h b (ix2 i j) = back u w i j * gate h b i ⟨j.val, by omega⟩ := by
  rw [mul_comm, ← ref_left, ← ref_back]
  unfold val_main_v36 val_main_v27
  generalize val_main_v13 (F := Ideal) h b = f
  generalize val_main_v22 (F := Ideal) u w = d
  pointwise []

theorem ref_second (i : Fin 8192) (j : Fin 1024) : val_main_v37 (F := Ideal) u w h b (ix2 i j) = back u w i j * gate h b i ⟨1024 + j.val, by omega⟩ := by
  rw [mul_comm, ← ref_right, ← ref_back]
  unfold val_main_v37 val_main_v23
  generalize val_main_v16 (F := Ideal) h b = f
  generalize val_main_v22 (F := Ideal) u w = d
  pointwise []

theorem pair_zero (hu : 0 < Cert.GradMixRefIdeal.S_.numel) : val_main_cst_2 (F := Ideal) (Shape.Idx.first hu) = 0 := by
  unfold val_main_cst_2
  exact Ideal.ofBits_zero FTy.f32

theorem pair_zero' (hu : 0 < Cert.GradMixRefIdeal.S_.numel) : val_main_cst_3 (F := Ideal) (Shape.Idx.first hu) = 0 := by
  unfold val_main_cst_3
  exact Ideal.ofBits_zero FTy.f32

section pads

variable (x : Cert.GradMixRefIdeal.S8192x1x1024.Idx → EReal) (v : Cert.GradMixRefIdeal.S_.Idx → EReal) (hu : 0 < Cert.GradMixRefIdeal.S_.numel) (i : Fin 8192) (j : Fin 1024)

theorem pad_low_in (hs : Cert.GradMixRefIdeal.S8192x1x1024.Pads ![0, 1, 0] ![0, 0, 0] ![0, 0, 0] Cert.GradMixRefIdeal.S8192x2x1024) :
    pad Cert.GradMixRefIdeal.S8192x2x1024 ![0, 1, 0] ![0, 0, 0] ![0, 0, 0] x v hs hu (ix3 i 1 j) = x (ix3 i 0 j) := by
  unfold pad
  rw [dif_pos]
  · refine congrArg x (funext fun a => match a with | ⟨0, _⟩ => Fin.ext ?_ | ⟨1, _⟩ => Fin.ext ?_ | ⟨2, _⟩ => Fin.ext ?_)
    · change (i.val - 0) / (0 + 1) = i.val
      omega
    · change (1 - 1) / (0 + 1) = 0
      omega
    · change (j.val - 0) / (0 + 1) = j.val
      omega
  · intro a
    match a with
    | ⟨0, _⟩ => change 0 ≤ i.val ∧ (i.val - 0) % (0 + 1) = 0 ∧ (i.val - 0) / (0 + 1) < 8192; omega
    | ⟨1, _⟩ => change 1 ≤ 1 ∧ (1 - 1) % (0 + 1) = 0 ∧ (1 - 1) / (0 + 1) < 1; omega
    | ⟨2, _⟩ => change 0 ≤ j.val ∧ (j.val - 0) % (0 + 1) = 0 ∧ (j.val - 0) / (0 + 1) < 1024; omega

theorem pad_low_out (hs : Cert.GradMixRefIdeal.S8192x1x1024.Pads ![0, 1, 0] ![0, 0, 0] ![0, 0, 0] Cert.GradMixRefIdeal.S8192x2x1024) :
    pad Cert.GradMixRefIdeal.S8192x2x1024 ![0, 1, 0] ![0, 0, 0] ![0, 0, 0] x v hs hu (ix3 i 0 j) = v (Shape.Idx.first hu) := by
  unfold pad
  rw [dif_neg]
  intro h
  have h1 := (h 1).1
  change 1 ≤ 0 at h1
  omega

theorem pad_high_in (hs : Cert.GradMixRefIdeal.S8192x1x1024.Pads ![0, 0, 0] ![0, 1, 0] ![0, 0, 0] Cert.GradMixRefIdeal.S8192x2x1024) :
    pad Cert.GradMixRefIdeal.S8192x2x1024 ![0, 0, 0] ![0, 1, 0] ![0, 0, 0] x v hs hu (ix3 i 0 j) = x (ix3 i 0 j) := by
  unfold pad
  rw [dif_pos]
  · refine congrArg x (funext fun a => match a with | ⟨0, _⟩ => Fin.ext ?_ | ⟨1, _⟩ => Fin.ext ?_ | ⟨2, _⟩ => Fin.ext ?_)
    · change (i.val - 0) / (0 + 1) = i.val
      omega
    · change (0 - 0) / (0 + 1) = 0
      omega
    · change (j.val - 0) / (0 + 1) = j.val
      omega
  · intro a
    match a with
    | ⟨0, _⟩ => change 0 ≤ i.val ∧ (i.val - 0) % (0 + 1) = 0 ∧ (i.val - 0) / (0 + 1) < 8192; omega
    | ⟨1, _⟩ => change 0 ≤ 0 ∧ (0 - 0) % (0 + 1) = 0 ∧ (0 - 0) / (0 + 1) < 1; omega
    | ⟨2, _⟩ => change 0 ≤ j.val ∧ (j.val - 0) % (0 + 1) = 0 ∧ (j.val - 0) / (0 + 1) < 1024; omega

theorem pad_high_out (hs : Cert.GradMixRefIdeal.S8192x1x1024.Pads ![0, 0, 0] ![0, 1, 0] ![0, 0, 0] Cert.GradMixRefIdeal.S8192x2x1024) :
    pad Cert.GradMixRefIdeal.S8192x2x1024 ![0, 0, 0] ![0, 1, 0] ![0, 0, 0] x v hs hu (ix3 i 1 j) = v (Shape.Idx.first hu) := by
  unfold pad
  rw [dif_neg]
  intro h
  have h1 := (h 1).2.2
  change (1 - 0) / (0 + 1) < 1 at h1
  omega

end pads

/-- The array of pairs at its first slot. -/
theorem ref_pair_left (i : Fin 8192) (j : Fin 1024) : val_main_v31 (F := Ideal) u w s r (ix3 i 0 j) = back u w i j * s (ix2 i j) := by
  rw [← ref_back]
  refine (congrArg₂ (· + ·) (pad_low_out _ _ _ i j _) (pad_high_in _ _ _ i j _)).trans ?_
  rw [pair_zero, zero_add]
  unfold val_main_v29 val_main_v28
  generalize val_main_v22 (F := Ideal) u w = d
  pointwise []

/-- The array of pairs at its second slot. -/
theorem ref_pair_right (i : Fin 8192) (j : Fin 1024) : val_main_v31 (F := Ideal) u w s r (ix3 i 1 j) = back u w i j * r (ix2 i j) := by
  rw [← ref_back]
  refine (congrArg₂ (· + ·) (pad_low_in _ _ _ i j _) (pad_high_out _ _ _ i j _)).trans ?_
  rw [pair_zero', add_zero]
  unfold val_main_v25 val_main_v24
  generalize val_main_v22 (F := Ideal) u w = d
  pointwise []

theorem gates_left (i : Fin 8192) (j : Fin 1024) : gates u w h b s r i ⟨j.val, by omega⟩ = through (back u w i j) (s (ix2 i j)) (gate h b i ⟨j.val, by omega⟩) := by
  unfold gates
  rw [dif_pos j.isLt]

theorem gates_right (i : Fin 8192) (j : Fin 1024) : gates u w h b s r i ⟨1024 + j.val, by omega⟩ = through (back u w i j) (r (ix2 i j)) (gate h b i ⟨1024 + j.val, by omega⟩) := by
  unfold gates
  rw [dif_neg (by dsimp only; omega)]
  have e : (⟨1024 + j.val - 1024, by omega⟩ : Fin 1024) = j := Fin.ext (by dsimp only; omega)
  simp only [e]

theorem ref_gates (i : Fin 8192) (j : Fin 2048) : val_main_v33 (F := Ideal) u w h b s r (ix2 i j) = gates u w h b s r i j := by
  revert j
  refine halves (fun q => ?_) (fun q => ?_)
  · rw [gates_left]
    unfold through
    rw [mul_assoc, ← ref_slope, ← ref_pair_left u w s r]
    unfold val_main_v33 val_main_v32
    generalize val_main_v10 (F := Ideal) h b = f
    generalize val_main_v31 (F := Ideal) u w s r = d
    pointwise []
    have e0 : (⟨q.val / 1024, by omega⟩ : Fin 2) = 0 := Fin.ext (by change q.val / 1024 = 0; omega)
    have e1 : (⟨q.val % 1024, by omega⟩ : Fin 1024) = q := Fin.ext (by change q.val % 1024 = q.val; omega)
    rw [e0, e1]
  · rw [gates_right]
    unfold through
    rw [mul_assoc, ← ref_slope, ← ref_pair_right u w s r]
    unfold val_main_v33 val_main_v32
    generalize val_main_v10 (F := Ideal) h b = f
    generalize val_main_v31 (F := Ideal) u w s r = d
    pointwise []
    have e0 : (⟨(1024 + q.val) / 1024, by omega⟩ : Fin 2) = 1 := Fin.ext (by change (1024 + q.val) / 1024 = 1; omega)
    rw [e0]

theorem ref_third (i : Fin 8192) (j : Fin 2048) : val_main_v38 (F := Ideal) u w h b s r (ix2 i j) = gates u w h b s r i j := by
  rw [← ref_gates]
  unfold val_main_v38
  generalize val_main_v33 (F := Ideal) u w h b s r = f
  pointwise []

theorem ref_bias (p : Fin 1) (j : Fin 2048) : val_main_v35 (F := Ideal) u w h b s r (ix2 p j) = ∑ i : Fin 8192, gates u w h b s r i j := by
  refine Eq.trans ?_ (Fin.sum_fin_congr fun i => ref_gates u w h b s r i j)
  unfold val_main_v35 val_main_v34
  generalize val_main_v33 (F := Ideal) u w h b s r = f
  pointwise [val_main_cst_4]

end reference

section payloads

variable (u : Vec Ideal S256x1024 .bf16) (w : Vec Ideal S1024x1024 .bf16) (h : Vec Ideal S256x2048 .f32) (b : Vec Ideal S1x2048 .f32) (s r : Vec Ideal S256x1024 .f32)

theorem pay_back (p : Fin 256) (q : Fin 1024) : k0_pay5 u w (ix2 p q) = ∑ k : Fin 1024, u (ix2 p k) * w (ix2 q k) := by
  pointwise [k0_pay5]

theorem pay_gate0 (p : Fin 256) (q : Fin 1024) : k0_pay7 h b (ix2 p q) = Ideal.logistic (h (ix2 p ⟨q.val, by omega⟩) + b (ix2 0 ⟨q.val, by omega⟩)) := by
  pointwise [k0_pay7, k0_pay6]

theorem pay_gate1 (p : Fin 256) (q : Fin 1024) : k0_pay8 h b (ix2 p q) = Ideal.logistic (h (ix2 p ⟨1024 + q.val, by omega⟩) + b (ix2 0 ⟨1024 + q.val, by omega⟩)) := by
  pointwise [k0_pay8, k0_pay6]

theorem pay_first (p : Fin 256) (q : Fin 1024) : k0_pay10 u w h b (ix2 p q) = k0_pay5 u w (ix2 p q) * k0_pay7 h b (ix2 p q) := by
  unfold k0_pay10
  generalize k0_pay5 u w = d
  generalize k0_pay7 h b = g
  pointwise []

theorem pay_second (p : Fin 256) (q : Fin 1024) : k0_pay11 u w h b (ix2 p q) = k0_pay5 u w (ix2 p q) * k0_pay8 h b (ix2 p q) := by
  unfold k0_pay11
  generalize k0_pay5 u w = d
  generalize k0_pay8 h b = g
  pointwise []

/-- The left half of a block of the gates' gradient. -/
theorem pay_left (p : Fin 256) (q : Fin 1024) :
    k0_pay9 u w h b s r (ix2 p ⟨q.val, by omega⟩) = through (k0_pay5 u w (ix2 p q)) (s (ix2 p q)) (k0_pay7 h b (ix2 p q)) := by
  unfold through
  rw [← Finite.one_f32]
  refine (concatenate_pair_apply_left (1 : Fin S256x2048.rank) _ _ concatenates_S256x1024_S256x1024_S256x2048_d1 _ rfl (ix2 p q)
    (fun b => match b with | ⟨0, _⟩ => rfl | ⟨1, _⟩ => rfl)).trans ?_
  generalize k0_pay5 u w = d
  generalize k0_pay7 h b = g
  pointwise []

/-- The right half of a block of the gates' gradient. -/
theorem pay_right (p : Fin 256) (q : Fin 1024) :
    k0_pay9 u w h b s r (ix2 p ⟨1024 + q.val, by omega⟩) = through (k0_pay5 u w (ix2 p q)) (r (ix2 p q)) (k0_pay8 h b (ix2 p q)) := by
  unfold through
  rw [← Finite.one_f32]
  refine (concatenate_pair_apply_right (1 : Fin S256x2048.rank) _ _ concatenates_S256x1024_S256x1024_S256x2048_d1 _ rfl rfl (ix2 p q)
    (fun b hb => match b with | ⟨0, _⟩ => rfl | ⟨1, _⟩ => absurd rfl hb) (Nat.add_comm _ _)).trans ?_
  generalize k0_pay5 u w = d
  generalize k0_pay8 h b = g
  pointwise []

theorem pay_third (p : Fin 256) (q : Fin 2048) : k0_pay12 u w h b s r (ix2 p q) = k0_pay9 u w h b s r (ix2 p q) := by
  unfold k0_pay12
  generalize k0_pay9 u w h b s r = f
  pointwise []

theorem pay_lanes (a : Fin 32) (l : Fin 8) (q : Fin 2048) : k0_pay13 u w h b s r (ix3 a l q) = k0_pay9 u w h b s r (ix2 ⟨a.val * 8 + l.val, Lanes.row_in a l⟩ q) := by
  unfold k0_pay13
  generalize k0_pay9 u w h b s r = f
  pointwise []

end payloads

/-- What a step adds to a lane. -/
theorem lane_at (v : FVec Ideal S32x8x2048 .f32) (l : Fin 8) (q : Fin 2048) : k0_pay1 v (ix2 l q) = ∑ a : Fin 32, v (ix3 a l q) := by
  pointwise [k0_pay1]

theorem first_at (v : FVec Ideal S32x8x2048 .f32) (i : S8x2048.Idx) : k0_pay2 v i = 0 + k0_pay1 v i := by
  rw [zero_add]
  unfold k0_pay2
  generalize k0_pay1 v = f
  pointwise []

theorem later_at (v : FVec Ideal S32x8x2048 .f32) (o : Vec Ideal S8x2048 .f32) (i : S8x2048.Idx) : k0_pay3 v o i = o i + k0_pay1 v i := by
  unfold k0_pay3
  generalize k0_pay1 v = f
  pointwise []

theorem total_at (o : Vec Ideal S8x2048 .f32) (p : Fin 1) (q : Fin 2048) : k0_pay4 o (ix2 p q) = ∑ l : Fin 8, o (ix2 l q) := by
  pointwise [k0_pay4]

variable (m : (ℓ : Loc nD τ sig) → Buf (Elt Ideal) ℓ) (c : Dev nD)

/-- The launched arguments. -/
def u : S8192x1024.Idx → EReal := m ((c : Thread nD τ).loc main_arg0)
def w : S1024x1024.Idx → EReal := m ((c : Thread nD τ).loc main_arg1)
def h : S8192x2048.Idx → EReal := m ((c : Thread nD τ).loc main_arg2)
def b : S1x2048.Idx → EReal := m ((c : Thread nD τ).loc main_arg3)
def s : S8192x1024.Idx → EReal := m ((c : Thread nD τ).loc main_arg4)
def r : S8192x1024.Idx → EReal := m ((c : Thread nD τ).loc main_arg5)

/-- The gates' gradient of the launched arguments. -/
def gatesOf (i : Fin 8192) (j : Fin 2048) : EReal := gates (u m c) (w m c) (h m c) (b m c) (s m c) (r m c) i j

/-- The two branches' gradients of the launched arguments. -/
def firstOf (i : Fin 8192) (j : Fin 1024) : EReal := back (u m c) (w m c) i j * gate (h m c) (b m c) i ⟨j.val, by omega⟩
def secondOf (i : Fin 8192) (j : Fin 1024) : EReal := back (u m c) (w m c) i j * gate (h m c) (b m c) i ⟨1024 + j.val, by omega⟩

theorem index_t : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] := by
  decide +kernel

theorem row_lt (t : Fin cfg0.N) (p : Fin 256) : t.val * 256 + p.val < 8192 := by
  have ht : t.val < 32 := lt_of_lt_of_eq t.isLt N_0
  omega

theorem step_back (t : Fin cfg0.N) (p : Fin 256) (q : Fin 1024) :
    k0_pay5 (iblk m c 0 t) (iblk m c 1 t) (ix2 p q) = back (u m c) (w m c) ⟨t.val * 256 + p.val, row_lt t p⟩ q := by
  refine (pay_back _ _ p q).trans (Fin.sum_fin_congr fun k => ?_)
  obtain ⟨e0, e1, -⟩ := index_t t
  refine congrArg₂ (· * ·) ?_ ?_
  · unfold u
    blk_ext [iblk, V, e0]
  · unfold w
    blk_ext [iblk, V, e1]

theorem step_h (t : Fin cfg0.N) (p : Fin 256) (q : Fin 2048) : iblk m c 2 t (ix2 p q) = h m c (ix2 ⟨t.val * 256 + p.val, row_lt t p⟩ q) := by
  obtain ⟨-, -, e, -⟩ := index_t t
  unfold h
  blk_ext [iblk, V, e]

theorem step_b (t : Fin cfg0.N) (q : Fin 2048) : iblk m c 3 t (ix2 (0 : Fin 1) q) = b m c (ix2 (0 : Fin 1) q) := by
  obtain ⟨-, -, -, e, -⟩ := index_t t
  unfold b
  blk_ext [iblk, V, e]

theorem step_s (t : Fin cfg0.N) (p : Fin 256) (q : Fin 1024) : iblk m c 4 t (ix2 p q) = s m c (ix2 ⟨t.val * 256 + p.val, row_lt t p⟩ q) := by
  obtain ⟨-, -, -, -, e, -⟩ := index_t t
  unfold s
  blk_ext [iblk, V, e]

theorem step_r (t : Fin cfg0.N) (p : Fin 256) (q : Fin 1024) : iblk m c 5 t (ix2 p q) = r m c (ix2 ⟨t.val * 256 + p.val, row_lt t p⟩ q) := by
  obtain ⟨-, -, -, -, -, e, -⟩ := index_t t
  unfold r
  blk_ext [iblk, V, e]

theorem step_gate0 (t : Fin cfg0.N) (p : Fin 256) (q : Fin 1024) :
    k0_pay7 (iblk m c 2 t) (iblk m c 3 t) (ix2 p q) = gate (h m c) (b m c) ⟨t.val * 256 + p.val, row_lt t p⟩ ⟨q.val, by omega⟩ := by
  refine (pay_gate0 _ _ p q).trans ?_
  rw [step_h m c t p, step_b m c t]
  rfl

theorem step_gate1 (t : Fin cfg0.N) (p : Fin 256) (q : Fin 1024) :
    k0_pay8 (iblk m c 2 t) (iblk m c 3 t) (ix2 p q) = gate (h m c) (b m c) ⟨t.val * 256 + p.val, row_lt t p⟩ ⟨1024 + q.val, by omega⟩ := by
  refine (pay_gate1 _ _ p q).trans ?_
  rw [step_h m c t p, step_b m c t]
  rfl

/-- The gates' gradient a step computes. -/
theorem step_gates (t : Fin cfg0.N) (p : Fin 256) (q : Fin 2048) :
    k0_pay9 (iblk m c 0 t) (iblk m c 1 t) (iblk m c 2 t) (iblk m c 3 t) (iblk m c 4 t) (iblk m c 5 t) (ix2 p q) = gatesOf m c ⟨t.val * 256 + p.val, row_lt t p⟩ q := by
  unfold gatesOf
  revert q
  refine halves (fun q => ?_) (fun q => ?_)
  · refine (pay_left _ _ _ _ _ _ p q).trans ?_
    rw [gates_left, step_back m c t p q, step_s m c t p q, step_gate0 m c t p q]
  · refine (pay_right _ _ _ _ _ _ p q).trans ?_
    rw [gates_right, step_back m c t p q, step_r m c t p q, step_gate1 m c t p q]

theorem step_first (t : Fin cfg0.N) (p : Fin 256) (q : Fin 1024) :
    k0_pay10 (iblk m c 0 t) (iblk m c 1 t) (iblk m c 2 t) (iblk m c 3 t) (ix2 p q) = firstOf m c ⟨t.val * 256 + p.val, row_lt t p⟩ q :=
  (pay_first _ _ _ _ p q).trans (congrArg₂ (· * ·) (step_back m c t p q) (step_gate0 m c t p q))

theorem step_second (t : Fin cfg0.N) (p : Fin 256) (q : Fin 1024) :
    k0_pay11 (iblk m c 0 t) (iblk m c 1 t) (iblk m c 2 t) (iblk m c 3 t) (ix2 p q) = secondOf m c ⟨t.val * 256 + p.val, row_lt t p⟩ q :=
  (pay_second _ _ _ _ p q).trans (congrArg₂ (· * ·) (step_back m c t p q) (step_gate1 m c t p q))

/-- What a step adds to the lanes. -/
def added (t : Fin cfg0.N) : FVec Ideal S8x2048 .f32 :=
  k0_pay1 (k0_pay13 (iblk m c 0 t) (iblk m c 1 t) (iblk m c 2 t) (iblk m c 3 t) (iblk m c 4 t) (iblk m c 5 t))

theorem added_at (t : Fin cfg0.N) (l : Fin 8) (q : Fin 2048) :
    added m c t (ix2 l q) = ∑ a : Fin 32, gatesOf m c ⟨t.val * 256 + (⟨a.val * 8 + l.val, Lanes.row_in a l⟩ : Fin 256).val, row_lt t _⟩ q :=
  (lane_at _ l q).trans (Fin.sum_fin_congr fun a => (pay_lanes _ _ _ _ _ _ a l q).trans (step_gates m c t _ q))

section outs

variable (t : Fin cfg0.N)

theorem out6 : (outsAt0 m c t.val t.isLt).1 = k0_pay10 (iblk m c 0 t) (iblk m c 1 t) (iblk m c 2 t) (iblk m c 3 t) := by
  have ht : t.val < 32 := lt_of_lt_of_eq t.isLt N_0
  by_cases h0 : t.val % 32 = 0
  · rw [outsAt0_A m c t h0 (by omega) (by omega)]
    dsimp only
    frame_out
  · by_cases h2 : t.val % 32 = 31
    · rw [outsAt0_C m c t h0 (by omega) h2]
      dsimp only
      frame_out
    · rw [outsAt0_B m c t h0 (by omega) h2]
      dsimp only
      frame_out

theorem out7 : (outsAt0 m c t.val t.isLt).2.1 = k0_pay11 (iblk m c 0 t) (iblk m c 1 t) (iblk m c 2 t) (iblk m c 3 t) := by
  have ht : t.val < 32 := lt_of_lt_of_eq t.isLt N_0
  by_cases h0 : t.val % 32 = 0
  · rw [outsAt0_A m c t h0 (by omega) (by omega)]
    dsimp only
    frame_out
  · by_cases h2 : t.val % 32 = 31
    · rw [outsAt0_C m c t h0 (by omega) h2]
      dsimp only
      frame_out
    · rw [outsAt0_B m c t h0 (by omega) h2]
      dsimp only
      frame_out

theorem out8 : (outsAt0 m c t.val t.isLt).2.2.1 = k0_pay12 (iblk m c 0 t) (iblk m c 1 t) (iblk m c 2 t) (iblk m c 3 t) (iblk m c 4 t) (iblk m c 5 t) := by
  have ht : t.val < 32 := lt_of_lt_of_eq t.isLt N_0
  by_cases h0 : t.val % 32 = 0
  · rw [outsAt0_A m c t h0 (by omega) (by omega)]
    dsimp only
    frame_out
  · by_cases h2 : t.val % 32 = 31
    · rw [outsAt0_C m c t h0 (by omega) h2]
      dsimp only
      frame_out
    · rw [outsAt0_B m c t h0 (by omega) h2]
      dsimp only
      frame_out

/-- The sum a last step writes back is that of its lanes. -/
theorem out9 (h2 : t.val % 32 = 31) : (outsAt0 m c t.val t.isLt).2.2.2.1 = k0_pay4 (outsAt0 m c t.val t.isLt).2.2.2.2 := by
  have ht : t.val < 32 := lt_of_lt_of_eq t.isLt N_0
  rw [outsAt0_C m c t (by omega) (by omega) h2]
  dsimp only
  frame_out

/-- The lanes after the last step: all the steps' additions. -/
theorem scratch_at (h2 : t.val % 32 = 31) (i : S8x2048.Idx) : (outsAt0 m c t.val t.isLt).2.2.2.2 i = 0 + ∑ a : Fin cfg0.N, added m c a i := by
  have ht : t.val < 32 := lt_of_lt_of_eq t.isLt N_0
  refine Pipeline.eq_sum_fin_of_reset_step_apply_last (fun n h => (outsAt0 m c n h).2.2.2.2) 32 (fun _ => 0) (fun t i => added m c t i) ?_ ?_
    (le_of_eq N_0) t ((show t.val + 1 = 32 by omega).trans N_0.symm) i
  · intro t h i
    have ht : t.val < 32 := lt_of_lt_of_eq t.isLt N_0
    rw [outsAt0_A m c t h (by omega) (by omega)]
    dsimp only
    frame_out
    exact first_at _ _
  · intro t h i
    have ht : t.val < 32 := lt_of_lt_of_eq t.isLt N_0
    by_cases h2 : t.val % 32 = 31
    · rw [outsAt0_C m c t h (by omega) h2]
      dsimp only
      frame_out
      refine (later_at _ _ _).trans ?_
      exact congrArg (· + _) (congrFun (Memref.IsWhole.read_unread (Memref.isWhole_whole cc0_scratch0) _) i)
    · rw [outsAt0_B m c t h (by omega) h2]
      dsimp only
      frame_out
      refine (later_at _ _ _).trans ?_
      exact congrArg (· + _) (congrFun (Memref.IsWhole.read_unread (Memref.isWhole_whole cc0_scratch0) _) i)

/-- The sum a last step writes back runs over all positions. -/
theorem bias_at (h2 : t.val % 32 = 31) (p : Fin 1) (q : Fin 2048) : (outsAt0 m c t.val t.isLt).2.2.2.1 (ix2 p q) = ∑ i : Fin 8192, gatesOf m c i q := by
  rw [out9 m c t h2]
  refine (total_at _ p q).trans (Eq.trans ?_ (Lanes.sum_lanes fun i => gatesOf m c i q))
  refine Fin.sum_fin_congr fun l => (scratch_at m c t h2 (ix2 l q)).trans ((zero_add _).trans ?_)
  exact (Fin.sum_fin_congr fun a => added_at m c a l q)

end outs

/-- The gradient of the first branch. -/
theorem first_eq : (dats m 0 c).arrAt 6 cfg0.N = fun i : S8192x1024.Idx => firstOf m c (i 0) (i 1) := by
  refine (dats m 0 c).arrAt_eq_of_covers 6 _ (by decide +kernel) fun t hf z => ?_
  obtain ⟨-, -, -, -, -, -, e, -⟩ := index_t t
  have h0 : (z 0).val < 256 := (z 0).isLt
  have h1 : (z 1).val < 1024 := (z 1).isLt
  have key := step_first m c t ⟨(z 0).val, h0⟩ ⟨(z 1).val, h1⟩
  have a0 : (win0_6.blk t).view.emb z 0 = (⟨t.val * 256 + (z 0).val, row_lt t ⟨(z 0).val, h0⟩⟩ : Fin 8192) := Fin.ext (by blk_simp [e])
  have a1 : (win0_6.blk t).view.emb z 1 = (⟨(z 1).val, h1⟩ : Fin 1024) := Fin.ext (by blk_simp [e])
  blk_simp
  rw [after0_6, out6 m c t]
  refine Eq.trans ?_ (key.trans ?_)
  · exact congrArg _ (funext fun a => match a with | ⟨0, _⟩ => rfl | ⟨1, _⟩ => rfl)
  · rw [a0, a1]

/-- The gradient of the second branch. -/
theorem second_eq : (dats m 0 c).arrAt 7 cfg0.N = fun i : S8192x1024.Idx => secondOf m c (i 0) (i 1) := by
  refine (dats m 0 c).arrAt_eq_of_covers 7 _ (by decide +kernel) fun t hf z => ?_
  obtain ⟨-, -, -, -, -, -, -, e, -⟩ := index_t t
  have h0 : (z 0).val < 256 := (z 0).isLt
  have h1 : (z 1).val < 1024 := (z 1).isLt
  have key := step_second m c t ⟨(z 0).val, h0⟩ ⟨(z 1).val, h1⟩
  have a0 : (win0_7.blk t).view.emb z 0 = (⟨t.val * 256 + (z 0).val, row_lt t ⟨(z 0).val, h0⟩⟩ : Fin 8192) := Fin.ext (by blk_simp [e])
  have a1 : (win0_7.blk t).view.emb z 1 = (⟨(z 1).val, h1⟩ : Fin 1024) := Fin.ext (by blk_simp [e])
  blk_simp
  rw [after0_7, out7 m c t]
  refine Eq.trans ?_ (key.trans ?_)
  · exact congrArg _ (funext fun a => match a with | ⟨0, _⟩ => rfl | ⟨1, _⟩ => rfl)
  · rw [a0, a1]

/-- The gates' gradient. -/
theorem third_eq : (dats m 0 c).arrAt 8 cfg0.N = fun i : S8192x2048.Idx => gatesOf m c (i 0) (i 1) := by
  refine (dats m 0 c).arrAt_eq_of_covers 8 _ (by decide +kernel) fun t hf z => ?_
  obtain ⟨-, -, -, -, -, -, -, -, e, -⟩ := index_t t
  have h0 : (z 0).val < 256 := (z 0).isLt
  have h1 : (z 1).val < 2048 := (z 1).isLt
  have key := (pay_third (iblk m c 0 t) (iblk m c 1 t) (iblk m c 2 t) (iblk m c 3 t) (iblk m c 4 t) (iblk m c 5 t) ⟨(z 0).val, h0⟩ ⟨(z 1).val, h1⟩).trans (step_gates m c t _ _)
  have a0 : (win0_8.blk t).view.emb z 0 = (⟨t.val * 256 + (z 0).val, row_lt t ⟨(z 0).val, h0⟩⟩ : Fin 8192) := Fin.ext (by blk_simp [e])
  have a1 : (win0_8.blk t).view.emb z 1 = (⟨(z 1).val, h1⟩ : Fin 2048) := Fin.ext (by blk_simp [e])
  blk_simp
  rw [after0_8, out8 m c t]
  refine Eq.trans ?_ (key.trans ?_)
  · exact congrArg _ (funext fun a => match a with | ⟨0, _⟩ => rfl | ⟨1, _⟩ => rfl)
  · rw [a0, a1]

/-- The bias's gradient. -/
theorem bias_eq : (dats m 0 c).arrAt 9 cfg0.N = fun i : S1x2048.Idx => ∑ k : Fin 8192, gatesOf m c k (i 1) := by
  refine (dats m 0 c).arrAt_eq_of_covers 9 _ (by decide +kernel) fun t hf z => ?_
  have h2 : t.val % 32 = 31 := (flush0_9 t).mp hf
  obtain ⟨-, -, -, -, -, -, -, -, -, e⟩ := index_t t
  have h0 : (z 0).val < 1 := (z 0).isLt
  have h1 : (z 1).val < 2048 := (z 1).isLt
  have key := bias_at m c t h2 ⟨(z 0).val, h0⟩ ⟨(z 1).val, h1⟩
  have a1 : (win0_9.blk t).view.emb z 1 = (⟨(z 1).val, h1⟩ : Fin 2048) := Fin.ext (by blk_simp [e])
  blk_simp
  rw [after0_9]
  refine Eq.trans ?_ (key.trans ?_)
  · exact congrArg _ (funext fun a => match a with | ⟨0, _⟩ => rfl | ⟨1, _⟩ => rfl)
  · rw [a1]

open Cert.GradMixRefIdeal.Read in
/-- The kernel's results are the reference's, on the same arguments. -/
theorem values (u₀ : S8192x1024.Idx → EReal) (w₀ : S1024x1024.Idx → EReal) (h₀ : S8192x2048.Idx → EReal) (b₀ : S1x2048.Idx → EReal) (s₀ r₀ : S8192x1024.Idx → EReal)
    (eu : u₀ = m ((c : Thread nD τ).loc main_arg0)) (ew : w₀ = m ((c : Thread nD τ).loc main_arg1)) (eh : h₀ = m ((c : Thread nD τ).loc main_arg2))
    (eb : b₀ = m ((c : Thread nD τ).loc main_arg3)) (es : s₀ = m ((c : Thread nD τ).loc main_arg4)) (er : r₀ = m ((c : Thread nD τ).loc main_arg5)) :
    val_main_v36 (F := Ideal) u₀ w₀ h₀ b₀ = (dats m 0 c).arrAt 6 cfg0.N ∧ val_main_v37 (F := Ideal) u₀ w₀ h₀ b₀ = (dats m 0 c).arrAt 7 cfg0.N
      ∧ val_main_v38 (F := Ideal) u₀ w₀ h₀ b₀ s₀ r₀ = (dats m 0 c).arrAt 8 cfg0.N ∧ val_main_v35 (F := Ideal) u₀ w₀ h₀ b₀ s₀ r₀ = (dats m 0 c).arrAt 9 cfg0.N := by
  subst eu ew eh eb es er
  have at_ix (i : S8192x1024.Idx) : i = ix2 (i 0) (i 1) := funext fun a => match a with | ⟨0, _⟩ => rfl | ⟨1, _⟩ => rfl
  have at_wide (i : S8192x2048.Idx) : i = ix2 (i 0) (i 1) := funext fun a => match a with | ⟨0, _⟩ => rfl | ⟨1, _⟩ => rfl
  have at_row (i : S1x2048.Idx) : i = ix2 (i 0) (i 1) := funext fun a => match a with | ⟨0, _⟩ => rfl | ⟨1, _⟩ => rfl
  rw [first_eq, second_eq, third_eq, bias_eq]
  refine ⟨funext fun i => ?_, funext fun i => ?_, funext fun i => ?_, funext fun i => ?_⟩
  · exact (congrArg _ (at_ix i)).trans (ref_first _ _ _ _ (i 0) (i 1))
  · exact (congrArg _ (at_ix i)).trans (ref_second _ _ _ _ (i 0) (i 1))
  · exact (congrArg _ (at_wide i)).trans (ref_third _ _ _ _ _ _ (i 0) (i 1))
  · exact (congrArg _ (at_row i)).trans (ref_bias _ _ _ _ _ _ (i 0) (i 1))

theorem results_equal : Cert.algebraic_GradMixIdeal_GradMixRefIdeal (hGradMixIdeal := Cert.GradMixIdeal.Gen.facts) (hGradMixRefIdeal := Cert.GradMixRefIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, run_blocks m g,
    (θ_run Cert.GradMixRefIdeal.defs _ _).mono (fun r h c => ?_) (Cert.GradMixRefIdeal.Value.run (F := Ideal) m' g')⟩
  obtain ⟨h6, h7, h8, h9, kept⟩ := h c
  obtain ⟨e0, e1, e2, e3, e4, e5⟩ := hagree c
  have key := values m c _ _ _ _ _ _ e0 e1 e2 e3 e4 e5
  exact ⟨(h6.trans (Cert.GradMixRefIdeal.Read.val_main_v36_eq (F := Ideal) _ _ _ _)).trans key.1,
    (h7.trans (Cert.GradMixRefIdeal.Read.val_main_v37_eq (F := Ideal) _ _ _ _)).trans key.2.1,
    (h8.trans (Cert.GradMixRefIdeal.Read.val_main_v38_eq (F := Ideal) _ _ _ _ _ _)).trans key.2.2.1,
    (h9.trans (Cert.GradMixRefIdeal.Read.val_main_v35_eq (F := Ideal) _ _ _ _ _ _)).trans key.2.2.2, kept⟩

end Cert.GradMixIdeal.Val

end
-- ==== Proof.NormGrad.lean ====
module

public import proofs.«01_k».proof.Proof.BMath

@[expose] public section

noncomputable section

/-! The gradient of a normalised row of 1024 entries: as one formula, as the chain rule through the mean and the variance writes it,
and that the two are equal for every row, wherever the gradient that comes in is real. -/

namespace Cert.Norm

open Idealize.ShloMosaic Cert.Ret

/-- The row's mean, an entry's distance from it, the variance with its small addend, and the scale. -/
def mean (f : Fin 1024 → EReal) : EReal := Ideal.div (∑ k, f k) (Ideal.ofBits .f32 0x44800000#32)
def dev (f : Fin 1024 → EReal) (j : Fin 1024) : EReal := f j - mean f
def spread (f : Fin 1024 → EReal) : EReal := mean (fun k => dev f k * dev f k) + Ideal.ofBits .f32 0x3727C5AC#32
def scale (f : Fin 1024 → EReal) : EReal := Ideal.rsqrt (spread f)
def normed (f : Fin 1024 → EReal) (j : Fin 1024) : EReal := dev f j * scale f

/-- The gradient in one formula. -/
def short (f x : Fin 1024 → EReal) (j : Fin 1024) : EReal :=
  scale f * (x j - mean x - normed f j * mean (fun k => x k * normed f k))

/-- The part that comes through the variance. -/
def turn (f x : Fin 1024 → EReal) (j : Fin 1024) : EReal :=
  Ideal.div ((∑ k, dev f k * x k) * (Ideal.ofBits .f32 0xBF000000#32 * Ideal.div (scale f) (spread f))) (Ideal.ofBits .f32 0x44800000#32)
    * (Ideal.ofBits .f32 0x40000000#32 * dev f j)

/-- The gradient by the chain rule: straight, through the variance, and through the mean. -/
def chain (f x : Fin 1024 → EReal) (j : Fin 1024) : EReal :=
  x j * scale f + turn f x j + Ideal.div ((∑ k, -(x k * scale f)) + ∑ k, -turn f x k) (Ideal.ofBits .f32 0x44800000#32)

/-! ## Rows of reals -/

def meanR (f : Fin 1024 → ℝ) : ℝ := (∑ k, f k) * (1 / 1024)
def devR (f : Fin 1024 → ℝ) (j : Fin 1024) : ℝ := f j - meanR f
def spreadR (f : Fin 1024 → ℝ) : ℝ := meanR (fun k => devR f k * devR f k) + epsR
def scaleR (f : Fin 1024 → ℝ) : ℝ := (Real.sqrt (spreadR f))⁻¹
def normedR (f : Fin 1024 → ℝ) (j : Fin 1024) : ℝ := devR f j * scaleR f
def turnR (f x : Fin 1024 → ℝ) (j : Fin 1024) : ℝ :=
  (∑ k, devR f k * x k) * (-(1 / 2) * (scaleR f * (1 / spreadR f))) * (1 / 1024) * (2 * devR f j)

theorem spread_pos (f : Fin 1024 → ℝ) : 0 < spreadR f := by
  unfold spreadR meanR
  have h0 : 0 ≤ ∑ k, devR f k * devR f k := Finset.sum_nonneg fun k _ => mul_self_nonneg _
  have h : (0 : ℝ) < epsR := by norm_num [epsR]
  linarith

theorem scale_sq (f : Fin 1024 → ℝ) : 1 / spreadR f = scaleR f * scaleR f := by
  unfold scaleR
  rw [← mul_inv, Real.mul_self_sqrt (spread_pos f).le, one_div]

theorem sum_dev (f : Fin 1024 → ℝ) : ∑ k, devR f k = 0 := by
  unfold devR meanR
  rw [Finset.sum_sub_distrib, Finset.sum_const, Finset.card_univ, Fintype.card_fin, nsmul_eq_mul]
  push_cast
  ring

/-- The variance's part sums to zero over a row. -/
theorem sum_turn (f x : Fin 1024 → ℝ) : ∑ k, -turnR f x k = 0 := by
  unfold turnR
  rw [Finset.sum_neg_distrib, ← Finset.mul_sum, ← Finset.mul_sum, sum_dev, mul_zero, mul_zero, neg_zero]

theorem real_eq (f x : Fin 1024 → ℝ) (j : Fin 1024) :
    x j * scaleR f + turnR f x j + ((∑ k, -(x k * scaleR f)) + ∑ k, -turnR f x k) * (1 / 1024)
      = scaleR f * (x j - meanR x - normedR f j * meanR (fun k => x k * normedR f k)) := by
  have hm : meanR (fun k => x k * normedR f k) = (∑ k, devR f k * x k) * scaleR f * (1 / 1024) := by
    unfold meanR
    rw [Finset.sum_mul Finset.univ (fun k => devR f k * x k)]
    refine congrArg (· * _) (Finset.sum_congr rfl fun k _ => ?_)
    unfold normedR
    ring
  rw [sum_turn, hm, add_zero, Finset.sum_neg_distrib, ← Finset.sum_mul]
  unfold turnR
  rw [scale_sq]
  unfold meanR normedR
  ring

theorem lit_1024 : Ideal.ofBits .f32 0x44800000#32 = ((1024 : ℝ) : EReal) := by
  simp [Ideal.ofBits, Ideal.ieee, -EReal.coe_mul]; norm_num

theorem div_lit (x : EReal) : Ideal.div x (Ideal.ofBits .f32 0x44800000#32) = x * ((1 / 1024 : ℝ) : EReal) := by
  rw [lit_1024, Ideal.div_coe (by norm_num)]

variable (f x : Fin 1024 → ℝ)

theorem mean_coe : mean (fun k => (f k : EReal)) = (meanR f : EReal) := by
  unfold mean meanR
  rw [div_lit, ← coe_sum, ← EReal.coe_mul]

theorem dev_coe (j : Fin 1024) : dev (fun k => (f k : EReal)) j = (devR f j : EReal) := by
  unfold dev devR
  rw [mean_coe, ← EReal.coe_sub]

theorem spread_coe : spread (fun k => (f k : EReal)) = (spreadR f : EReal) := by
  unfold spread spreadR
  simp only [dev_coe, ← EReal.coe_mul]
  rw [mean_coe, lit_eps, ← EReal.coe_add]
  rfl

theorem scale_coe : scale (fun k => (f k : EReal)) = (scaleR f : EReal) := by
  unfold scale
  rw [spread_coe, rsqrt_pos _ (spread_pos f)]
  rfl

theorem turn_coe (j : Fin 1024) : turn (fun k => (f k : EReal)) (fun k => (x k : EReal)) j = (turnR f x j : EReal) := by
  unfold turn turnR
  rw [div_lit, scale_coe, spread_coe, Ideal.div_coe (spread_pos f).ne', lit_half, lit_2]
  simp only [dev_coe, ← EReal.coe_mul, ← coe_sum]

/-- On a row of reals the two agree. -/
theorem coe_eq (j : Fin 1024) : chain (fun k => (f k : EReal)) (fun k => (x k : EReal)) j = short (fun k => (f k : EReal)) (fun k => (x k : EReal)) j := by
  unfold chain short normed
  rw [div_lit]
  simp only [turn_coe, dev_coe, scale_coe, mean_coe, ← EReal.coe_mul, ← EReal.coe_neg, ← EReal.coe_sub, ← coe_sum, ← EReal.coe_add]
  exact congrArg _ (real_eq f x j)

/-! ## Rows with an infinite entry -/

theorem sum_bot {ι : Type} [DecidableEq ι] (s : Finset ι) (f : ι → EReal) (i : ι) (hi : i ∈ s) (h : f i = ⊥) : ∑ k ∈ s, f k = ⊥ := by
  rw [← Finset.add_sum_erase s f hi, h, EReal.bot_add]

theorem sum_ne_bot {ι : Type} [DecidableEq ι] (s : Finset ι) (f : ι → EReal) (h : ∀ i ∈ s, f i ≠ ⊥) : ∑ k ∈ s, f k ≠ ⊥ := by
  induction s using Finset.induction_on with
  | empty => simp
  | insert a s ha ih =>
    rw [Finset.sum_insert ha]
    intro hs
    rcases EReal.add_eq_bot_iff.mp hs with h' | h'
    · exact h a (Finset.mem_insert_self a s) h'
    · exact ih (fun i hi => h i (Finset.mem_insert_of_mem hi)) h'

theorem sum_top {ι : Type} [DecidableEq ι] (s : Finset ι) (f : ι → EReal) (i : ι) (hi : i ∈ s) (h : f i = ⊤) (hb : ∀ k ∈ s, f k ≠ ⊥) :
    ∑ k ∈ s, f k = ⊤ := by
  rw [← Finset.add_sum_erase s f hi, h]
  exact EReal.top_add_of_ne_bot (sum_ne_bot _ _ fun k hk => hb k (Finset.mem_of_mem_erase hk))

theorem third_pos : (0 : EReal) < ((1 / 1024 : ℝ) : EReal) := by exact_mod_cast (by norm_num : (0 : ℝ) < 1 / 1024)

/-- A row with an infinite entry has an infinite mean, and every entry is infinitely far from it. -/
theorem dev_sq (f : Fin 1024 → EReal) (i : Fin 1024) (h : f i = ⊥ ∨ f i = ⊤) (j : Fin 1024) : dev f j * dev f j = ⊤ := by
  unfold dev
  by_cases hb : ∃ k, f k = ⊥
  · obtain ⟨k, hk⟩ := hb
    have hm : mean f = ⊥ := by
      unfold mean
      rw [div_lit, sum_bot _ f k (Finset.mem_univ k) hk, EReal.bot_mul_of_pos third_pos]
    rw [hm, sub_eq_add_neg, EReal.neg_bot]
    by_cases hj : f j = ⊥
    · rw [hj, EReal.bot_add, EReal.bot_mul_bot]
    · rw [EReal.add_top_of_ne_bot hj, EReal.top_mul_top]
  · have hi : f i = ⊤ := h.resolve_left fun h' => hb ⟨i, h'⟩
    have hm : mean f = ⊤ := by
      unfold mean
      rw [div_lit, sum_top _ f i (Finset.mem_univ i) hi (fun k _ hk => hb ⟨k, hk⟩), EReal.top_mul_of_pos third_pos]
    rw [hm, sub_eq_add_neg, EReal.neg_top, EReal.add_bot, EReal.bot_mul_bot]

theorem spread_top (f : Fin 1024 → EReal) (i : Fin 1024) (h : f i = ⊥ ∨ f i = ⊤) : spread f = ⊤ := by
  unfold spread mean
  rw [div_lit, sum_top _ _ i (Finset.mem_univ i) (dev_sq f i h i) (fun k _ hk => absurd ((dev_sq f i h k).symm.trans hk) (by decide)),
    EReal.top_mul_of_pos third_pos, lit_eps]
  exact EReal.top_add_coe _

/-- On such a row both are zero. -/
theorem inf_eq (f x : Fin 1024 → EReal) (i : Fin 1024) (h : f i = ⊥ ∨ f i = ⊤) (j : Fin 1024) : chain f x j = short f x j := by
  have hs : scale f = 0 := by unfold scale; rw [spread_top f i h]; rfl
  have hd : Ideal.div (scale f) (spread f) = 0 := by
    rw [hs, spread_top f i h, Ideal.div, if_neg (by decide), zero_mul]
  have ht : ∀ k, turn f x k = 0 := fun k => by
    unfold turn
    rw [hd, mul_zero, mul_zero, div_lit, zero_mul, zero_mul]
  unfold chain short
  simp only [ht, hs, mul_zero, zero_mul, neg_zero, Finset.sum_const_zero, add_zero, div_lit]

/-- Where the gradient that comes in is real, the two agree. -/
theorem chain_eq (f x : Fin 1024 → EReal) (hx : ∀ k, ∃ r : ℝ, x k = r) (j : Fin 1024) : chain f x j = short f x j := by
  by_cases h : ∃ i, f i = ⊥ ∨ f i = ⊤
  · obtain ⟨i, h⟩ := h
    exact inf_eq f x i h j
  · have hf : ∀ k, ∃ r : ℝ, f k = r := fun k => by
      rcases hk : f k with _ | _ | r
      · exact absurd ⟨k, .inl hk⟩ h
      · exact absurd ⟨k, .inr hk⟩ h
      · exact ⟨_, rfl⟩
    choose rf hrf using hf
    choose rx hrx using hx
    rw [show f = fun k => (rf k : EReal) from funext hrf, show x = fun k => (rx k : EReal) from funext hrx]
    exact coe_eq rf rx j

end Cert.Norm

end
-- ==== Proof.GradNormVal.lean ====
module

public import proofs.«01_k».proof.Defs
public import proofs.«01_k».proof.Proof.Finite
public import proofs.«01_k».proof.Proof.Lanes
public import proofs.«01_k».proof.Proof.NormGrad
public import proofs.«01_k».proof.Proof.Gen.GradNormIdeal.Value
public import proofs.«01_k».proof.Proof.Gen.GradNormRefIdeal.Run
public import proofs.«01_k».proof.Proof.Gen.GradNormRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.StableHlo.ReadAt
public import Idealize.ShloMosaic.Lib.Claim

@[expose] public section

set_option maxRecDepth 16384

noncomputable section

/-! The gradient through the first layer norm: to its argument, to its gain and to its bias, the last two sums over all positions. -/

namespace Cert.GradNormIdeal.Val

open Cert.GradNormIdeal Cert.GradNormIdeal.Gen Cert.GradNormIdeal.Value Idealize.ShloMosaic Idealize.ShloMosaic.TcCoe Cert.Finite

/-- The gradient of the layer norm's result: through the memory query's weight and through the next residual. -/
def inc (d : S8192x1024.Idx → EReal) (w : S1024x1024.Idx → EReal) (u : S8192x1024.Idx → EReal) (i : Fin 8192) (j : Fin 1024) : EReal :=
  (∑ k : Fin 1024, d (ix2 i k) * w (ix2 j k)) + Ideal.ofBits .f32 0x3F9837F0#32 * u (ix2 i j)

/-- A position's row of the layer norm's argument, and of its gradient times the gain. -/
def row (y : S8192x1024.Idx → EReal) (i : Fin 8192) (k : Fin 1024) : EReal := y (ix2 i k)
def gained (d : S8192x1024.Idx → EReal) (w : S1024x1024.Idx → EReal) (u : S8192x1024.Idx → EReal) (g : S1x1024.Idx → EReal) (i : Fin 8192) (k : Fin 1024) : EReal :=
  inc d w u i k * g (ix2 0 k)

section reference

open Cert.GradNormRefIdeal.Read

variable (d : S8192x1024.Idx → EReal) (w : S1024x1024.Idx → EReal) (u y : S8192x1024.Idx → EReal) (g : S1x1024.Idx → EReal)

theorem ref_inc (i : Fin 8192) (j : Fin 1024) : val_main_v36 (F := Ideal) d w u (ix2 i j) = inc d w u i j := by
  pointwise [val_main_v36, val_main_v35, val_main_v34, val_main_cst_8, val_main_v33, val_main_v32, val_main_v30]
  rfl

theorem ref_mean (i : Fin 8192) (p : Fin 1) : val_main_v4 (F := Ideal) y (ix2 i p) = Norm.mean (row y i) := by
  pointwise [val_main_v4, val_main_v3, val_main_v2, val_main_v1, val_main_cst_1, val_main_cst_0]
  rfl

theorem ref_dev (i : Fin 8192) (j : Fin 1024) : val_main_v6 (F := Ideal) y (ix2 i j) = Norm.dev (row y i) j := by
  unfold Norm.dev
  rw [← ref_mean y i 0]
  unfold val_main_v6 val_main_v5
  generalize val_main_v4 (F := Ideal) y = f
  pointwise []
  rfl

theorem ref_dev' (i : Fin 8192) (j : Fin 1024) : val_main_v15 (F := Ideal) y (ix2 i j) = Norm.dev (row y i) j := by
  unfold Norm.dev
  rw [← ref_mean y i 0]
  unfold val_main_v15 val_main_v14
  generalize val_main_v4 (F := Ideal) y = f
  pointwise []
  rfl

theorem ref_spread (i : Fin 8192) (p : Fin 1) : val_main_v17 (F := Ideal) y (ix2 i p) = Norm.spread (row y i) := by
  unfold Norm.spread
  refine Eq.trans ?_ (congrArg (fun f => Norm.mean f + _) (funext fun k => congrArg₂ (· * ·) (ref_dev y i k) (ref_dev y i k)))
  unfold val_main_v17 val_main_v13 val_main_v11 val_main_v10 val_main_v7
  generalize val_main_v6 (F := Ideal) y = f
  pointwise [val_main_v16, val_main_v12, val_main_cst_3, val_main_cst_4, val_main_cst_5]
  rfl

theorem ref_scale (i : Fin 8192) (p : Fin 1) : val_main_v18 (F := Ideal) y (ix2 i p) = Norm.scale (row y i) := by
  unfold Norm.scale
  rw [← ref_spread y i p]
  unfold val_main_v18
  generalize val_main_v17 (F := Ideal) y = f
  pointwise []

theorem ref_normed (i : Fin 8192) (j : Fin 1024) : val_main_v23 (F := Ideal) y (ix2 i j) = Norm.normed (row y i) j := by
  unfold Norm.normed
  rw [← ref_dev', ← ref_scale y i 0]
  unfold val_main_v23 val_main_v22
  generalize val_main_v15 (F := Ideal) y = f
  generalize val_main_v18 (F := Ideal) y = s
  pointwise []

theorem ref_gained (i : Fin 8192) (j : Fin 1024) : val_main_v43 (F := Ideal) d w u g (ix2 i j) = gained d w u g i j := by
  unfold gained
  rw [← ref_inc]
  unfold val_main_v43 val_main_v42
  generalize val_main_v36 (F := Ideal) d w u = f
  pointwise []

/-- The gradient straight through the scale. -/
theorem ref_straight (i : Fin 8192) (j : Fin 1024) : val_main_v48 (F := Ideal) d w u y g (ix2 i j) = gained d w u g i j * Norm.scale (row y i) := by
  rw [← ref_gained, ← ref_scale y i 0]
  unfold val_main_v48 val_main_v47
  generalize val_main_v43 (F := Ideal) d w u g = f
  generalize val_main_v18 (F := Ideal) y = s
  pointwise []

/-- The factor of the variance's own gradient. -/
theorem ref_factor (i : Fin 8192) (p : Fin 1) :
    val_main_v21 (F := Ideal) y (ix2 i p) = Ideal.ofBits .f32 0xBF000000#32 * Ideal.div (Norm.scale (row y i)) (Norm.spread (row y i)) := by
  rw [← ref_scale y i p, ← ref_spread y i p]
  unfold val_main_v21 val_main_v19
  generalize val_main_v18 (F := Ideal) y = f
  generalize val_main_v17 (F := Ideal) y = s
  pointwise [val_main_v20, val_main_cst_6]

theorem ref_var (i : Fin 8192) (p : Fin 1) :
    val_main_v54 (F := Ideal) d w u y g (ix2 i p) = Ideal.div ((∑ k : Fin 1024, Norm.dev (row y i) k * gained d w u g i k)
      * (Ideal.ofBits .f32 0xBF000000#32 * Ideal.div (Norm.scale (row y i)) (Norm.spread (row y i)))) (Ideal.ofBits .f32 0x44800000#32) := by
  rw [← ref_factor y i p]
  refine Eq.trans ?_ (congrArg (fun f => Ideal.div (f * _) _) (Fin.sum_fin_congr fun k => congrArg₂ (· * ·) (ref_dev' y i k) (ref_gained d w u g i k)))
  unfold val_main_v54 val_main_v49 val_main_v46 val_main_v45 val_main_v44
  generalize val_main_v43 (F := Ideal) d w u g = f
  generalize val_main_v15 (F := Ideal) y = s
  generalize val_main_v21 (F := Ideal) y = r
  pointwise [val_main_v53, val_main_cst_13, val_main_cst_11]

theorem ref_turn (i : Fin 8192) (j : Fin 1024) : val_main_v57 (F := Ideal) d w u y g (ix2 i j) = Norm.turn (row y i) (gained d w u g i) j := by
  unfold Norm.turn
  rw [← ref_var d w u y g i 0, ← ref_dev]
  unfold val_main_v57 val_main_v56 val_main_v55 val_main_v9
  generalize val_main_v54 (F := Ideal) d w u y g = f
  generalize val_main_v6 (F := Ideal) y = s
  pointwise [val_main_v8, val_main_cst_2, val_main_cst_14]
  exact congrArg (· * _) (Fin.sum_univ_one fun k : Fin 1 => f (ix2 i k))

theorem ref_grad (i : Fin 8192) (j : Fin 1024) : val_main_v67 (F := Ideal) d w u y g (ix2 i j) = Norm.chain (row y i) (gained d w u g i) j := by
  unfold Norm.chain
  refine Eq.trans ?_ (congrArg₂ (· + ·) (congrArg₂ (· + ·) (ref_straight d w u y g i j) (ref_turn d w u y g i j))
    (congrArg (fun f => Ideal.div f _) (congrArg₂ (· + ·) (Fin.sum_fin_congr fun k => congrArg (- ·) (ref_straight d w u y g i k))
      (Fin.sum_fin_congr fun k => congrArg (- ·) (ref_turn d w u y g i k)))))
  unfold val_main_v67 val_main_v66 val_main_v65 val_main_v64 val_main_v62 val_main_v61 val_main_v60 val_main_v59 val_main_v58 val_main_v52 val_main_v51 val_main_v50
  generalize val_main_v48 (F := Ideal) d w u y g = f
  generalize val_main_v57 (F := Ideal) d w u y g = s
  pointwise [val_main_v63, val_main_cst_12, val_main_cst_15, val_main_cst_16, val_main_cst_17]
  exact congrArg (_ + ·) (Fin.sum_univ_one fun _ : Fin 1 => Ideal.div ((∑ k : Fin 1024, -f (ix2 i k)) + ∑ k : Fin 1024, -s (ix2 i k)) (Ideal.ofBits .f32 0x44800000#32))

theorem ref_small (i : Fin 8192) (j : Fin 1024) : val_main_v68 (F := Ideal) d w u y g (ix2 i j) = Norm.chain (row y i) (gained d w u g i) j := by
  rw [← ref_grad]
  unfold val_main_v68
  generalize val_main_v67 (F := Ideal) d w u y g = f
  pointwise []

theorem ref_bias (p : Fin 1) (j : Fin 1024) : val_main_v38 (F := Ideal) d w u (ix2 p j) = ∑ i : Fin 8192, inc d w u i j := by
  refine Eq.trans ?_ (Fin.sum_fin_congr fun i => ref_inc d w u i j)
  unfold val_main_v38 val_main_v37
  generalize val_main_v36 (F := Ideal) d w u = f
  pointwise [val_main_cst_9]

theorem ref_gain (p : Fin 1) (j : Fin 1024) : val_main_v41 (F := Ideal) d w u y (ix2 p j) = ∑ i : Fin 8192, inc d w u i j * Norm.normed (row y i) j := by
  refine Eq.trans ?_ (Fin.sum_fin_congr fun i => (mul_comm _ _).trans (congrArg₂ (· * ·) (ref_inc d w u i j) (ref_normed y i j)))
  unfold val_main_v41 val_main_v40 val_main_v39
  generalize val_main_v36 (F := Ideal) d w u = f
  generalize val_main_v23 (F := Ideal) y = s
  pointwise [val_main_cst_10]

end reference

section payloads

variable (d : Vec Ideal S256x1024 .bf16) (w : Vec Ideal S1024x1024 .bf16) (u x : Vec Ideal S256x1024 .f32) (s : Vec Ideal S256x1 .f32) (g : Vec Ideal S1x1024 .f32)

theorem pay_inc (p : Fin 256) (q : Fin 1024) :
    k0_pay10 d w u (ix2 p q) = (∑ k : Fin 1024, d (ix2 p k) * w (ix2 q k)) + Ideal.ofBits .f32 0x3F9837F0#32 * u (ix2 p q) := by
  pointwise [k0_pay10]

theorem pay_x (p : Fin 256) (q : Fin 1024) : k0_pay9 x (ix2 p q) = x (ix2 p q) := by
  pointwise [k0_pay9]

theorem pay_grad (p : Fin 256) (q : Fin 1024) :
    k0_pay11 d w u x s g (ix2 p q) = s (ix2 p 0) * (k0_pay10 d w u (ix2 p q) * g (ix2 0 q) - Norm.mean (fun k => k0_pay10 d w u (ix2 p k) * g (ix2 0 k))
      - x (ix2 p q) * Norm.mean (fun k => k0_pay10 d w u (ix2 p k) * g (ix2 0 k) * x (ix2 p k))) := by
  simp only [← pay_x x]
  unfold k0_pay11
  generalize k0_pay10 d w u = f
  generalize k0_pay9 x = z
  pointwise []
  rfl

theorem pay_small (p : Fin 256) (q : Fin 1024) : k0_pay13 d w u x s g (ix2 p q) = k0_pay11 d w u x s g (ix2 p q) := by
  unfold k0_pay13
  generalize k0_pay11 d w u x s g = f
  pointwise []

theorem pay_prod (p : Fin 256) (q : Fin 1024) : k0_pay12 d w u x (ix2 p q) = k0_pay10 d w u (ix2 p q) * x (ix2 p q) := by
  rw [← pay_x x p q]
  unfold k0_pay12
  generalize k0_pay10 d w u = f
  generalize k0_pay9 x = z
  pointwise []

end payloads

/-- What a step adds to a lane of either sum. -/
theorem lane_gain (v : FVec Ideal S256x1024 .f32) (l : Fin 8) (q : Fin 1024) : k0_pay1 v (ix2 l q) = ∑ a : Fin 32, v (ix2 ⟨a.val * 8 + l.val, Lanes.row_in a l⟩ q) := by
  pointwise [k0_pay1]

theorem lane_bias (v : FVec Ideal S256x1024 .f32) (l : Fin 8) (q : Fin 1024) : k0_pay4 v (ix2 l q) = ∑ a : Fin 32, v (ix2 ⟨a.val * 8 + l.val, Lanes.row_in a l⟩ q) := by
  pointwise [k0_pay4]

theorem first_gain (v : FVec Ideal S256x1024 .f32) (i : S8x1024.Idx) : k0_pay2 v i = 0 + k0_pay1 v i := by
  rw [zero_add]
  unfold k0_pay2
  generalize k0_pay1 v = f
  pointwise []

theorem first_bias (v : FVec Ideal S256x1024 .f32) (i : S8x1024.Idx) : k0_pay5 v i = 0 + k0_pay4 v i := by
  rw [zero_add]
  unfold k0_pay5
  generalize k0_pay4 v = f
  pointwise []

theorem later_gain (v : FVec Ideal S256x1024 .f32) (o : Vec Ideal S8x1024 .f32) (i : S8x1024.Idx) : k0_pay3 v o i = o i + k0_pay1 v i := by
  unfold k0_pay3
  generalize k0_pay1 v = f
  pointwise []

theorem later_bias (v : FVec Ideal S256x1024 .f32) (o : Vec Ideal S8x1024 .f32) (i : S8x1024.Idx) : k0_pay6 v o i = o i + k0_pay4 v i := by
  unfold k0_pay6
  generalize k0_pay4 v = f
  pointwise []

theorem total_gain (o : Vec Ideal S8x1024 .f32) (p : Fin 1) (q : Fin 1024) : k0_pay7 o (ix2 p q) = ∑ l : Fin 8, o (ix2 l q) := by
  pointwise [k0_pay7]

theorem total_bias (o : Vec Ideal S8x1024 .f32) (p : Fin 1) (q : Fin 1024) : k0_pay8 o (ix2 p q) = ∑ l : Fin 8, o (ix2 l q) := by
  pointwise [k0_pay8]

variable (m : (ℓ : Loc nD τ sig) → Buf (Elt Ideal) ℓ) (c : Dev nD)

/-- The launched arguments. -/
def d : S8192x1024.Idx → EReal := m ((c : Thread nD τ).loc main_arg0)
def w : S1024x1024.Idx → EReal := m ((c : Thread nD τ).loc main_arg1)
def u : S8192x1024.Idx → EReal := m ((c : Thread nD τ).loc main_arg2)
def y : S8192x1024.Idx → EReal := m ((c : Thread nD τ).loc main_arg3)
def g : S1x1024.Idx → EReal := m ((c : Thread nD τ).loc main_arg4)

/-- The kernel's results in terms of the launched arguments. -/
def incOf (i : Fin 8192) (j : Fin 1024) : EReal := inc (d m c) (w m c) (u m c) i j
def gainOf (i : Fin 8192) (j : Fin 1024) : EReal := incOf m c i j * Norm.normed (row (y m c) i) j
def gradOf (i : Fin 8192) (j : Fin 1024) : EReal := Norm.short (row (y m c) i) (gained (d m c) (w m c) (u m c) (g m c) i) j

/-- The saved scale and the normalised row, computed before the call. -/
theorem host_scale (i : Fin 8192) (p : Fin 1) : V m c main_v13 (ix2 i p) = Norm.scale (row (y m c) i) := by
  simp only [V, hostOps0]
  after_reads_at
  pointwise []
  rfl

theorem host_normed (i : Fin 8192) (j : Fin 1024) : V m c main_v17 (ix2 i j) = Norm.normed (row (y m c) i) j := by
  simp only [V, hostOps0]
  after_reads_at
  pointwise []
  rfl

theorem index_t : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0]
    ∧ win0_8.index t = ![0, 0] ∧ win0_9.index t = ![0, 0] := by
  decide +kernel

theorem row_lt (t : Fin cfg0.N) (p : Fin 256) : t.val * 256 + p.val < 8192 := by
  have ht : t.val < 32 := lt_of_lt_of_eq t.isLt N_0
  omega

theorem step_d (t : Fin cfg0.N) (p : Fin 256) (q : Fin 1024) : iblk m c 0 t (ix2 p q) = d m c (ix2 ⟨t.val * 256 + p.val, row_lt t p⟩ q) := by
  obtain ⟨e, -⟩ := index_t t
  unfold d
  blk_ext [iblk, V, e]

theorem step_w (t : Fin cfg0.N) (p q : Fin 1024) : iblk m c 1 t (ix2 p q) = w m c (ix2 p q) := by
  obtain ⟨-, e, -⟩ := index_t t
  unfold w
  blk_ext [iblk, V, e]

theorem step_u (t : Fin cfg0.N) (p : Fin 256) (q : Fin 1024) : iblk m c 2 t (ix2 p q) = u m c (ix2 ⟨t.val * 256 + p.val, row_lt t p⟩ q) := by
  obtain ⟨-, -, e, -⟩ := index_t t
  unfold u
  blk_ext [iblk, V, e]

theorem step_x (t : Fin cfg0.N) (p : Fin 256) (q : Fin 1024) : iblk m c 3 t (ix2 p q) = Norm.normed (row (y m c) ⟨t.val * 256 + p.val, row_lt t p⟩) q := by
  obtain ⟨-, -, -, e, -⟩ := index_t t
  refine (?_ : _ = V m c main_v17 (ix2 ⟨t.val * 256 + p.val, row_lt t p⟩ q)).trans (host_normed m c _ _)
  generalize hV : V m c = W
  unfold iblk
  rw [hV]
  blk_ext [e]

theorem step_s (t : Fin cfg0.N) (p : Fin 256) : iblk m c 4 t (ix2 p (0 : Fin 1)) = Norm.scale (row (y m c) ⟨t.val * 256 + p.val, row_lt t p⟩) := by
  obtain ⟨-, -, -, -, e, -⟩ := index_t t
  refine (?_ : _ = V m c main_v13 (ix2 ⟨t.val * 256 + p.val, row_lt t p⟩ 0)).trans (host_scale m c _ _)
  generalize hV : V m c = W
  unfold iblk
  rw [hV]
  blk_ext [e]

theorem step_g (t : Fin cfg0.N) (q : Fin 1024) : iblk m c 5 t (ix2 (0 : Fin 1) q) = g m c (ix2 (0 : Fin 1) q) := by
  obtain ⟨-, -, -, -, -, e, -⟩ := index_t t
  unfold g
  blk_ext [iblk, V, e]

theorem step_inc (t : Fin cfg0.N) (p : Fin 256) (q : Fin 1024) :
    k0_pay10 (iblk m c 0 t) (iblk m c 1 t) (iblk m c 2 t) (ix2 p q) = incOf m c ⟨t.val * 256 + p.val, row_lt t p⟩ q := by
  refine (pay_inc _ _ _ p q).trans ?_
  exact congrArg₂ (· + ·) (Fin.sum_fin_congr fun k => congrArg₂ (· * ·) (step_d m c t p k) (step_w m c t q k)) (congrArg (_ * ·) (step_u m c t p q))

theorem step_prod (t : Fin cfg0.N) (p : Fin 256) (q : Fin 1024) :
    k0_pay12 (iblk m c 0 t) (iblk m c 1 t) (iblk m c 2 t) (iblk m c 3 t) (ix2 p q) = gainOf m c ⟨t.val * 256 + p.val, row_lt t p⟩ q :=
  (pay_prod _ _ _ _ p q).trans (congrArg₂ (· * ·) (step_inc m c t p q) (step_x m c t p q))

/-- The gradient a step computes. -/
theorem step_grad (t : Fin cfg0.N) (p : Fin 256) (q : Fin 1024) :
    k0_pay11 (iblk m c 0 t) (iblk m c 1 t) (iblk m c 2 t) (iblk m c 3 t) (iblk m c 4 t) (iblk m c 5 t) (ix2 p q) = gradOf m c ⟨t.val * 256 + p.val, row_lt t p⟩ q := by
  have e (k : Fin 1024) : k0_pay10 (iblk m c 0 t) (iblk m c 1 t) (iblk m c 2 t) (ix2 p k) * iblk m c 5 t (ix2 (0 : Fin 1) k)
      = gained (d m c) (w m c) (u m c) (g m c) ⟨t.val * 256 + p.val, row_lt t p⟩ k := congrArg₂ (· * ·) (step_inc m c t p k) (step_g m c t k)
  refine (pay_grad _ _ _ _ _ _ p q).trans ?_
  unfold gradOf Norm.short
  refine congrArg₂ (· * ·) (step_s m c t p) (congrArg₂ (· - ·) (congrArg₂ (· - ·) (e q) (congrArg Norm.mean (funext e)))
    (congrArg₂ (· * ·) (step_x m c t p q) (congrArg Norm.mean (funext fun k => congrArg₂ (· * ·) (e k) (step_x m c t p k)))))

/-- What a step adds to the lanes of either sum. -/
def addedGain (t : Fin cfg0.N) : FVec Ideal S8x1024 .f32 := k0_pay1 (k0_pay12 (iblk m c 0 t) (iblk m c 1 t) (iblk m c 2 t) (iblk m c 3 t))
def addedBias (t : Fin cfg0.N) : FVec Ideal S8x1024 .f32 := k0_pay4 (k0_pay10 (iblk m c 0 t) (iblk m c 1 t) (iblk m c 2 t))

theorem added_gain_at (t : Fin cfg0.N) (l : Fin 8) (q : Fin 1024) :
    addedGain m c t (ix2 l q) = ∑ a : Fin 32, gainOf m c ⟨t.val * 256 + (⟨a.val * 8 + l.val, Lanes.row_in a l⟩ : Fin 256).val, row_lt t _⟩ q :=
  (lane_gain _ l q).trans (Fin.sum_fin_congr fun a => step_prod m c t _ q)

theorem added_bias_at (t : Fin cfg0.N) (l : Fin 8) (q : Fin 1024) :
    addedBias m c t (ix2 l q) = ∑ a : Fin 32, incOf m c ⟨t.val * 256 + (⟨a.val * 8 + l.val, Lanes.row_in a l⟩ : Fin 256).val, row_lt t _⟩ q :=
  (lane_bias _ l q).trans (Fin.sum_fin_congr fun a => step_inc m c t _ q)

section outs

variable (t : Fin cfg0.N)

theorem out6 : (outsAt0 m c t.val t.isLt).1 = k0_pay11 (iblk m c 0 t) (iblk m c 1 t) (iblk m c 2 t) (iblk m c 3 t) (iblk m c 4 t) (iblk m c 5 t) := by
  have ht : t.val < 32 := lt_of_lt_of_eq t.isLt N_0
  by_cases h0 : t.val % 32 = 0
  · rw [outsAt0_A m c t h0 (by omega) h0 (by omega) (by omega)]
    dsimp only
    frame_out
  · by_cases h2 : t.val % 32 = 31
    · rw [outsAt0_C m c t h0 (by omega) h0 (by omega) h2]
      dsimp only
      frame_out
    · rw [outsAt0_B m c t h0 (by omega) h0 (by omega) h2]
      dsimp only
      frame_out

theorem out7 : (outsAt0 m c t.val t.isLt).2.1 = k0_pay13 (iblk m c 0 t) (iblk m c 1 t) (iblk m c 2 t) (iblk m c 3 t) (iblk m c 4 t) (iblk m c 5 t) := by
  have ht : t.val < 32 := lt_of_lt_of_eq t.isLt N_0
  by_cases h0 : t.val % 32 = 0
  · rw [outsAt0_A m c t h0 (by omega) h0 (by omega) (by omega)]
    dsimp only
    frame_out
  · by_cases h2 : t.val % 32 = 31
    · rw [outsAt0_C m c t h0 (by omega) h0 (by omega) h2]
      dsimp only
      frame_out
    · rw [outsAt0_B m c t h0 (by omega) h0 (by omega) h2]
      dsimp only
      frame_out

/-- The gain's sum, written back by the last step: that of its lanes. -/
theorem out_gain (h2 : t.val % 32 = 31) : (outsAt0 m c t.val t.isLt).2.2.1 = k0_pay7 (outsAt0 m c t.val t.isLt).2.2.2.2.1 := by
  have ht : t.val < 32 := lt_of_lt_of_eq t.isLt N_0
  rw [outsAt0_C m c t (by omega) (by omega) (by omega) (by omega) h2]
  dsimp only
  frame_out

/-- The gain's lanes after the last step: all the steps' additions. -/
theorem lanes_gain (h2 : t.val % 32 = 31) (i : S8x1024.Idx) : (outsAt0 m c t.val t.isLt).2.2.2.2.1 i = 0 + ∑ a : Fin cfg0.N, addedGain m c a i := by
  have ht : t.val < 32 := lt_of_lt_of_eq t.isLt N_0
  refine Pipeline.eq_sum_fin_of_reset_step_apply_last (fun n h => (outsAt0 m c n h).2.2.2.2.1) 32 (fun _ => 0) (fun t i => addedGain m c t i) ?_ ?_
    (le_of_eq N_0) t ((show t.val + 1 = 32 by omega).trans N_0.symm) i
  · intro t h i
    have ht : t.val < 32 := lt_of_lt_of_eq t.isLt N_0
    rw [outsAt0_A m c t h (by omega) h (by omega) (by omega)]
    dsimp only
    frame_out
    exact first_gain _ _
  · intro t h i
    have ht : t.val < 32 := lt_of_lt_of_eq t.isLt N_0
    by_cases h2 : t.val % 32 = 31
    · rw [outsAt0_C m c t h (by omega) h (by omega) h2]
      dsimp only
      frame_out
      refine (later_gain _ _ _).trans ?_
      exact congrArg (· + _) (congrFun (Memref.IsWhole.read_unread (Memref.isWhole_whole cc0_scratch0) _) i)
    · rw [outsAt0_B m c t h (by omega) h (by omega) h2]
      dsimp only
      frame_out
      refine (later_gain _ _ _).trans ?_
      exact congrArg (· + _) (congrFun (Memref.IsWhole.read_unread (Memref.isWhole_whole cc0_scratch0) _) i)

/-- The gain's sum runs over all positions. -/
theorem gain_at (h2 : t.val % 32 = 31) (p : Fin 1) (q : Fin 1024) : (outsAt0 m c t.val t.isLt).2.2.1 (ix2 p q) = ∑ i : Fin 8192, gainOf m c i q := by
  rw [out_gain m c t h2]
  refine (total_gain _ p q).trans (Eq.trans ?_ (Lanes.sum_lanes fun i => gainOf m c i q))
  refine Fin.sum_fin_congr fun l => (lanes_gain m c t h2 (ix2 l q)).trans ((zero_add _).trans ?_)
  exact (Fin.sum_fin_congr fun a => added_gain_at m c a l q)

/-- The bias's sum, written back by the last step: that of its lanes. -/
theorem out_bias (h2 : t.val % 32 = 31) : (outsAt0 m c t.val t.isLt).2.2.2.1 = k0_pay8 (outsAt0 m c t.val t.isLt).2.2.2.2.2 := by
  have ht : t.val < 32 := lt_of_lt_of_eq t.isLt N_0
  rw [outsAt0_C m c t (by omega) (by omega) (by omega) (by omega) h2]
  dsimp only
  frame_out

/-- The bias's lanes after the last step: all the steps' additions. -/
theorem lanes_bias (h2 : t.val % 32 = 31) (i : S8x1024.Idx) : (outsAt0 m c t.val t.isLt).2.2.2.2.2 i = 0 + ∑ a : Fin cfg0.N, addedBias m c a i := by
  have ht : t.val < 32 := lt_of_lt_of_eq t.isLt N_0
  refine Pipeline.eq_sum_fin_of_reset_step_apply_last (fun n h => (outsAt0 m c n h).2.2.2.2.2) 32 (fun _ => 0) (fun t i => addedBias m c t i) ?_ ?_
    (le_of_eq N_0) t ((show t.val + 1 = 32 by omega).trans N_0.symm) i
  · intro t h i
    have ht : t.val < 32 := lt_of_lt_of_eq t.isLt N_0
    rw [outsAt0_A m c t h (by omega) h (by omega) (by omega)]
    dsimp only
    frame_out
    exact first_bias _ _
  · intro t h i
    have ht : t.val < 32 := lt_of_lt_of_eq t.isLt N_0
    by_cases h2 : t.val % 32 = 31
    · rw [outsAt0_C m c t h (by omega) h (by omega) h2]
      dsimp only
      frame_out
      refine (later_bias _ _ _).trans ?_
      exact congrArg (· + _) (congrFun (Memref.IsWhole.read_unread (Memref.isWhole_whole cc0_scratch1) _) i)
    · rw [outsAt0_B m c t h (by omega) h (by omega) h2]
      dsimp only
      frame_out
      refine (later_bias _ _ _).trans ?_
      exact congrArg (· + _) (congrFun (Memref.IsWhole.read_unread (Memref.isWhole_whole cc0_scratch1) _) i)

/-- The bias's sum runs over all positions. -/
theorem bias_at (h2 : t.val % 32 = 31) (p : Fin 1) (q : Fin 1024) : (outsAt0 m c t.val t.isLt).2.2.2.1 (ix2 p q) = ∑ i : Fin 8192, incOf m c i q := by
  rw [out_bias m c t h2]
  refine (total_bias _ p q).trans (Eq.trans ?_ (Lanes.sum_lanes fun i => incOf m c i q))
  refine Fin.sum_fin_congr fun l => (lanes_bias m c t h2 (ix2 l q)).trans ((zero_add _).trans ?_)
  exact (Fin.sum_fin_congr fun a => added_bias_at m c a l q)

end outs

/-- The gradient of the argument. -/
theorem grad_eq : (dats m 0 c).arrAt 6 cfg0.N = fun i : S8192x1024.Idx => gradOf m c (i 0) (i 1) := by
  refine (dats m 0 c).arrAt_eq_of_covers 6 _ (by decide +kernel) fun t hf z => ?_
  obtain ⟨-, -, -, -, -, -, e, -⟩ := index_t t
  have h0 : (z 0).val < 256 := (z 0).isLt
  have h1 : (z 1).val < 1024 := (z 1).isLt
  have key := step_grad m c t ⟨(z 0).val, h0⟩ ⟨(z 1).val, h1⟩
  have a0 : (win0_6.blk t).view.emb z 0 = (⟨t.val * 256 + (z 0).val, row_lt t ⟨(z 0).val, h0⟩⟩ : Fin 8192) := Fin.ext (by blk_simp [e])
  have a1 : (win0_6.blk t).view.emb z 1 = (⟨(z 1).val, h1⟩ : Fin 1024) := Fin.ext (by blk_simp [e])
  blk_simp
  rw [after0_6, out6 m c t]
  refine Eq.trans ?_ (key.trans ?_)
  · exact congrArg _ (funext fun a => match a with | ⟨0, _⟩ => rfl | ⟨1, _⟩ => rfl)
  · rw [a0, a1]

/-- Its narrow copy. -/
theorem small_eq : (dats m 0 c).arrAt 7 cfg0.N = fun i : S8192x1024.Idx => gradOf m c (i 0) (i 1) := by
  refine (dats m 0 c).arrAt_eq_of_covers 7 _ (by decide +kernel) fun t hf z => ?_
  obtain ⟨-, -, -, -, -, -, -, e, -⟩ := index_t t
  have h0 : (z 0).val < 256 := (z 0).isLt
  have h1 : (z 1).val < 1024 := (z 1).isLt
  have key := (pay_small (iblk m c 0 t) (iblk m c 1 t) (iblk m c 2 t) (iblk m c 3 t) (iblk m c 4 t) (iblk m c 5 t) ⟨(z 0).val, h0⟩ ⟨(z 1).val, h1⟩).trans (step_grad m c t _ _)
  have a0 : (win0_7.blk t).view.emb z 0 = (⟨t.val * 256 + (z 0).val, row_lt t ⟨(z 0).val, h0⟩⟩ : Fin 8192) := Fin.ext (by blk_simp [e])
  have a1 : (win0_7.blk t).view.emb z 1 = (⟨(z 1).val, h1⟩ : Fin 1024) := Fin.ext (by blk_simp [e])
  blk_simp
  rw [after0_7, out7 m c t]
  refine Eq.trans ?_ (key.trans ?_)
  · exact congrArg _ (funext fun a => match a with | ⟨0, _⟩ => rfl | ⟨1, _⟩ => rfl)
  · rw [a0, a1]

/-- The gain's gradient. -/
theorem gain_eq : (dats m 0 c).arrAt 8 cfg0.N = fun i : S1x1024.Idx => ∑ k : Fin 8192, gainOf m c k (i 1) := by
  refine (dats m 0 c).arrAt_eq_of_covers 8 _ (by decide +kernel) fun t hf z => ?_
  have h2 : t.val % 32 = 31 := (flush0_8 t).mp hf
  obtain ⟨-, -, -, -, -, -, -, -, e, -⟩ := index_t t
  have h0 : (z 0).val < 1 := (z 0).isLt
  have h1 : (z 1).val < 1024 := (z 1).isLt
  have key := gain_at m c t h2 ⟨(z 0).val, h0⟩ ⟨(z 1).val, h1⟩
  have a1 : (win0_8.blk t).view.emb z 1 = (⟨(z 1).val, h1⟩ : Fin 1024) := Fin.ext (by blk_simp [e])
  blk_simp
  rw [after0_8]
  refine Eq.trans ?_ (key.trans ?_)
  · exact congrArg _ (funext fun a => match a with | ⟨0, _⟩ => rfl | ⟨1, _⟩ => rfl)
  · rw [a1]

/-- The bias's gradient. -/
theorem bias_eq : (dats m 0 c).arrAt 9 cfg0.N = fun i : S1x1024.Idx => ∑ k : Fin 8192, incOf m c k (i 1) := by
  refine (dats m 0 c).arrAt_eq_of_covers 9 _ (by decide +kernel) fun t hf z => ?_
  have h2 : t.val % 32 = 31 := (flush0_9 t).mp hf
  obtain ⟨-, -, -, -, -, -, -, -, -, e⟩ := index_t t
  have h0 : (z 0).val < 1 := (z 0).isLt
  have h1 : (z 1).val < 1024 := (z 1).isLt
  have key := bias_at m c t h2 ⟨(z 0).val, h0⟩ ⟨(z 1).val, h1⟩
  have a1 : (win0_9.blk t).view.emb z 1 = (⟨(z 1).val, h1⟩ : Fin 1024) := Fin.ext (by blk_simp [e])
  blk_simp
  rw [after0_9]
  refine Eq.trans ?_ (key.trans ?_)
  · exact congrArg _ (funext fun a => match a with | ⟨0, _⟩ => rfl | ⟨1, _⟩ => rfl)
  · rw [a1]

/-- On real arguments the gradient times the gain is real. -/
theorem gained_real (d₀ : S8192x1024.Idx → EReal) (w₀ : S1024x1024.Idx → EReal) (u₀ : S8192x1024.Idx → EReal) (g₀ : S1x1024.Idx → EReal)
    (hd : ∀ i, ∃ r : ℝ, d₀ i = r) (hw : ∀ i, ∃ r : ℝ, w₀ i = r) (hu : ∀ i, ∃ r : ℝ, u₀ i = r) (hg : ∀ i, ∃ r : ℝ, g₀ i = r)
    (i : Fin 8192) (k : Fin 1024) : ∃ r : ℝ, gained d₀ w₀ u₀ g₀ i k = r := by
  choose rd hrd using hd
  choose rw' hrw using hw
  choose ru hru using hu
  choose rg hrg using hg
  have hc : Ideal.ofBits .f32 0x3F9837F0#32 = ((0x9837F0 / 2 ^ 23 : ℝ) : EReal) := by
    simp [Ideal.ofBits, Ideal.ieee, -EReal.coe_mul]; norm_num
  have hs : ∑ l : Fin 1024, d₀ (ix2 i l) * w₀ (ix2 k l) = ((∑ l : Fin 1024, rd (ix2 i l) * rw' (ix2 k l) : ℝ) : EReal) :=
    sum_mul_coe _ _ _ _ (fun l => hrd _) (fun l => hrw _)
  unfold gained inc
  rw [hs, hc, hru, hrg, ← EReal.coe_mul, ← EReal.coe_add, ← EReal.coe_mul]
  exact ⟨_, rfl⟩

open Cert.GradNormRefIdeal.Read in
/-- The kernel's results are the reference's, on the same arguments. -/
theorem values (d₀ : S8192x1024.Idx → EReal) (w₀ : S1024x1024.Idx → EReal) (u₀ y₀ : S8192x1024.Idx → EReal) (g₀ : S1x1024.Idx → EReal)
    (ed : d₀ = m ((c : Thread nD τ).loc main_arg0)) (ew : w₀ = m ((c : Thread nD τ).loc main_arg1)) (eu : u₀ = m ((c : Thread nD τ).loc main_arg2))
    (ey : y₀ = m ((c : Thread nD τ).loc main_arg3)) (eg : g₀ = m ((c : Thread nD τ).loc main_arg4))
    (hd : ∀ i, ∃ r : ℝ, d m c i = r) (hw : ∀ i, ∃ r : ℝ, w m c i = r) (hu : ∀ i, ∃ r : ℝ, u m c i = r) (hg : ∀ i, ∃ r : ℝ, g m c i = r) :
    val_main_v67 (F := Ideal) d₀ w₀ u₀ y₀ g₀ = (dats m 0 c).arrAt 6 cfg0.N ∧ val_main_v68 (F := Ideal) d₀ w₀ u₀ y₀ g₀ = (dats m 0 c).arrAt 7 cfg0.N
      ∧ val_main_v41 (F := Ideal) d₀ w₀ u₀ y₀ = (dats m 0 c).arrAt 8 cfg0.N ∧ val_main_v38 (F := Ideal) d₀ w₀ u₀ = (dats m 0 c).arrAt 9 cfg0.N := by
  subst ed ew eu ey eg
  have at_ix (i : S8192x1024.Idx) : i = ix2 (i 0) (i 1) := funext fun a => match a with | ⟨0, _⟩ => rfl | ⟨1, _⟩ => rfl
  have at_row (i : S1x1024.Idx) : i = ix2 (i 0) (i 1) := funext fun a => match a with | ⟨0, _⟩ => rfl | ⟨1, _⟩ => rfl
  have same (i : Fin 8192) (j : Fin 1024) := Norm.chain_eq (row (y m c) i) _ (gained_real _ _ _ _ hd hw hu hg i) j
  rw [grad_eq, small_eq, gain_eq, bias_eq]
  refine ⟨funext fun i => ?_, funext fun i => ?_, funext fun i => ?_, funext fun i => ?_⟩
  · exact ((congrArg _ (at_ix i)).trans (ref_grad _ _ _ _ _ (i 0) (i 1))).trans (same (i 0) (i 1))
  · exact ((congrArg _ (at_ix i)).trans (ref_small _ _ _ _ _ (i 0) (i 1))).trans (same (i 0) (i 1))
  · exact (congrArg _ (at_row i)).trans (ref_gain _ _ _ _ (i 0) (i 1))
  · exact (congrArg _ (at_row i)).trans (ref_bias _ _ _ (i 0) (i 1))

/-- The precondition's side condition. -/
theorem facts : Cert.Pre_finite_norm.Facts := ⟨by decide, by decide, by decide⟩

/-- Under the precondition every entry of the four arrays is a real. -/
theorem reals (d₀ : S8192x1024.Idx → EReal) (w₀ : S1024x1024.Idx → EReal) (u₀ y₀ : S8192x1024.Idx → EReal) (g₀ : S1x1024.Idx → EReal)
    (h : (@Cert.Pre_finite_norm.fn facts Ideal _ d₀ w₀ u₀ y₀ g₀).1 = (fun _ => 1#1) ∧ (@Cert.Pre_finite_norm.fn facts Ideal _ d₀ w₀ u₀ y₀ g₀).2.1 = (fun _ => 1#1)
      ∧ (@Cert.Pre_finite_norm.fn facts Ideal _ d₀ w₀ u₀ y₀ g₀).2.2.1 = (fun _ => 1#1) ∧ (@Cert.Pre_finite_norm.fn facts Ideal _ d₀ w₀ u₀ y₀ g₀).2.2.2 = (fun _ => 1#1)) :
    (∀ i, ∃ r : ℝ, d₀ i = r) ∧ (∀ i, ∃ r : ℝ, w₀ i = r) ∧ (∀ i, ∃ r : ℝ, u₀ i = r) ∧ ∀ i, ∃ r : ℝ, g₀ i = r := by
  refine ⟨fun i => real_of_bit _ ?_, fun i => real_of_bit _ ?_, fun i => real_of_bit _ ?_, fun i => real_of_bit _ ?_⟩
  · have hi := congrFun h.1 i
    revert hi
    pointwise [Cert.Pre_finite_norm.fn]
    rw [inf_bf16, abs_at]
    exact id
  · have hi := congrFun h.2.1 i
    revert hi
    pointwise [Cert.Pre_finite_norm.fn]
    rw [inf_bf16, abs_at]
    exact id
  · have hi := congrFun h.2.2.1 i
    revert hi
    pointwise [Cert.Pre_finite_norm.fn]
    rw [inf_f32, abs_at]
    exact id
  · have hi := congrFun h.2.2.2 i
    revert hi
    pointwise [Cert.Pre_finite_norm.fn]
    rw [inf_f32, abs_at]
    exact id

theorem results_equal : Cert.algebraic_GradNormIdeal_GradNormRefIdeal_pre_finite_norm (hGradNormIdeal := Cert.GradNormIdeal.Gen.facts)
    (hGradNormRefIdeal := Cert.GradNormRefIdeal.Gen.facts) (hPre_finite_norm := facts) := by
  intro m g' m' g'' hpre hagree
  refine ⟨fun c => (dats m 0 c).arrAt 6 cfg0.N, fun c => (dats m 0 c).arrAt 7 cfg0.N, fun c => (dats m 0 c).arrAt 8 cfg0.N, fun c => (dats m 0 c).arrAt 9 cfg0.N, run_blocks m g',
    (θ_run Cert.GradNormRefIdeal.defs _ _).mono (fun r h c => ?_) (Cert.GradNormRefIdeal.Value.run (F := Ideal) m' g'')⟩
  obtain ⟨h6, h7, h8, h9, kept⟩ := h c
  obtain ⟨e0, e1, e2, e3, e4⟩ := hagree c
  have hr := reals _ _ _ _ _ (hpre c)
  have key := values m c _ _ _ _ _ e0 e1 e2 e3 e4 hr.1 hr.2.1 hr.2.2.1 hr.2.2.2
  exact ⟨(h6.trans (Cert.GradNormRefIdeal.Read.val_main_v67_eq (F := Ideal) _ _)).trans key.1,
    (h7.trans (Cert.GradNormRefIdeal.Read.val_main_v68_eq (F := Ideal) _ _)).trans key.2.1,
    (h8.trans (Cert.GradNormRefIdeal.Read.val_main_v41_eq (F := Ideal) _ _ _ _)).trans key.2.2.1,
    (h9.trans (Cert.GradNormRefIdeal.Read.val_main_v38_eq (F := Ideal) _ _ _)).trans key.2.2.2, kept⟩

end Cert.GradNormIdeal.Val

end
-- ==== Proof.MemKvVal.lean ====
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The keys and values of the memory: its 256 rows against the whole weight, in one step. -/

namespace Cert.MemKvIdeal.Val

open Cert.MemKvIdeal Cert.MemKvIdeal.Gen Cert.MemKvIdeal.Value Idealize.ShloMosaic Idealize.ShloMosaic.TcCoe

variable (m : (ℓ : Loc nD τ sig) → Buf (Elt Ideal) ℓ) (c : Dev nD)

/-- The product of one block. -/
theorem block_at (u : Vec Ideal S256x1024 .bf16) (v : Vec Ideal S1024x2048 .bf16) (p : Fin 256) (q : Fin 2048) :
    k0_pay1 u v (ix2 p q) = ∑ k : Fin 1024, u (ix2 p k) * v (ix2 k q) := by
  pointwise [k0_pay1]

/-- The launched arguments. -/
def x : S256x1024.Idx → EReal := m ((c : Thread nD τ).loc main_arg0)
def w : S1024x2048.Idx → EReal := m ((c : Thread nD τ).loc main_arg1)

theorem index_t : ∀ t : Fin cfg0.N, win0_0.index t = ![0, 0] ∧ win0_1.index t = ![0, 0] ∧ win0_2.index t = ![0, 0] := by
  decide +kernel

/-- The block the step computes is the whole product. -/
theorem step_at (t : Fin cfg0.N) (p : Fin 256) (q : Fin 2048) :
    k0_pay1 (iblk m c 0 t) (iblk m c 1 t) (ix2 p q) = ∑ k : Fin 1024, x m c (ix2 p k) * w m c (ix2 k q) := by
  refine (block_at _ _ p q).trans (Fin.sum_fin_congr fun k => ?_)
  have e0 := (index_t t).1
  have e1 := (index_t t).2.1
  refine congrArg₂ (· * ·) ?_ ?_
  · unfold x
    blk_ext [iblk, V, e0]
  · unfold w
    blk_ext [iblk, V, e1]

/-- The array the kernel leaves. -/
theorem array_eq : (dats m 0 c).arrAt 2 cfg0.N = fun i : S256x2048.Idx => ∑ k : Fin 1024, x m c (ix2 (i 0) k) * w m c (ix2 k (i 1)) := by
  refine (dats m 0 c).arrAt_eq_of_covers 2 _ (by decide +kernel) fun t hf z => ?_
  have e := (index_t t).2.2
  have h0 : (z 0).val < 256 := (z 0).isLt
  have h1 : (z 1).val < 2048 := (z 1).isLt
  have key := step_at m c t ⟨(z 0).val, h0⟩ ⟨(z 1).val, h1⟩
  have a0 : (win0_2.blk t).view.emb z 0 = (⟨(z 0).val, h0⟩ : Fin 256) := Fin.ext (by blk_simp [e])
  have a1 : (win0_2.blk t).view.emb z 1 = (⟨(z 1).val, h1⟩ : Fin 2048) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S256x1024.Idx → EReal) (v : S1024x2048.Idx → EReal)
    (hu : u = m ((c : Thread nD τ).loc main_arg0)) (hv : v = m ((c : Thread nD τ).loc main_arg1)) :
    Cert.MemKvRefIdeal.Read.val_main_v3 (F := Ideal) u v = (dats m 0 c).arrAt 2 cfg0.N := by
  subst hu hv
  rw [array_eq]
  funext i
  obtain ⟨p, q, rfl⟩ : ∃ (p : Fin 256) (q : Fin 2048), i = ix2 p q := ⟨i 0, i 1, funext fun a => match a with | ⟨0, _⟩ => rfl | ⟨1, _⟩ => rfl⟩
  unfold x w
  pointwise [Cert.MemKvRefIdeal.Read.val_main_v3, Cert.MemKvRefIdeal.Read.val_main_v2, Cert.MemKvRefIdeal.Read.val_main_v1, Cert.MemKvRefIdeal.Read.val_main_v0]

theorem results_equal : Cert.algebraic_MemKvIdeal_MemKvRefIdeal (hMemKvIdeal := Cert.MemKvIdeal.Gen.facts) (hMemKvRefIdeal := Cert.MemKvRefIdeal.Gen.facts) := by
  intro m g m' g' _ hagree
  refine ⟨fun c => (dats m 0 c).arrAt 2 cfg0.N, run_blocks m g, (θ_run Cert.MemKvRefIdeal.defs _ _).mono (fun r h c => ?_) (Cert.MemKvRefIdeal.Value.run (F := Ideal) m' g')⟩
  obtain ⟨hy, h0, h1⟩ := h c
  obtain ⟨e0, e1⟩ := hagree c
  exact ⟨(hy.trans (Cert.MemKvRefIdeal.Read.val_main_v3_eq (F := Ideal) _ _)).trans (value m c _ _ e0 e1), h0, h1⟩

end Cert.MemKvIdeal.Val

end
-- ==== Proof.GradMemKvVal.lean ====
module

public import proofs.«01_k».proof.Defs
public import proofs.«01_k».proof.Proof.Gen.GradMemKvIdeal.Value
public import proofs.«01_k».proof.Proof.Gen.GradMemKvRefIdeal.Run
public import proofs.«01_k».proof.Proof.Gen.GradMemKvRefIdeal.Read
public import Idealize.ShloMosaic.Lib.Pointwise
public import Idealize.ShloMosaic.Lib.StableHlo.ReadAt
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The gradient of the memory's key and value weight: its two halves of 1024 columns, a step each. -/

namespace Cert.GradMemKvIdeal.Val

open Cert.GradMemKvIdeal Cert.GradMemKvIdeal.Gen Cert.GradMemKvIdeal.Value Idealize.ShloMosaic Idealize.ShloMosaic.TcCoe

variable (m : (ℓ : Loc nD τ sig) → Buf (Elt Ideal) ℓ) (c : Dev nD)

/-- The product of one block. -/
theorem block_at (u : Vec Ideal S256x1024 .bf16) (v : Vec Ideal S256x1024 .bf16) (p q : Fin 1024) :
    k0_pay1 u v (ix2 p q) = ∑ k : Fin 256, u (ix2 k p) * v (ix2 k q) := by
  pointwise [k0_pay1]

/-- The launched arguments. -/
def x : S256x1024.Idx → EReal := m ((c : Thread nD τ).loc main_arg0)
def y : S256x2048.Idx → EReal := m ((c : Thread nD τ).loc main_arg1)

/-- The host passes the gradient on. -/
theorem host_at (i : S256x2048.Idx) : V m c main_v0 i = y m c i := by
  simp only [V, hostOps0]
  after_reads_at
  rfl

theorem index_t : ∀ t : Fin cfg0.N, win0_0.index t = ![0, 0] ∧ win0_1.index t = ![0, t.val] ∧ win0_2.index t = ![0, t.val] := by
  decide +kernel

theorem col_lt (t : Fin cfg0.N) (q : Fin 1024) : t.val * 1024 + q.val < 2048 := by
  have ht : t.val < 2 := lt_of_lt_of_eq t.isLt N_0
  omega

/-- The block a step computes is the whole product's, at the step's columns. -/
theorem step_at (t : Fin cfg0.N) (p q : Fin 1024) :
    k0_pay1 (iblk m c 0 t) (iblk m c 1 t) (ix2 p q) = ∑ k : Fin 256, x m c (ix2 k p) * y m c (ix2 k ⟨t.val * 1024 + q.val, col_lt t q⟩) := by
  refine (block_at _ _ p q).trans (Fin.sum_fin_congr fun k => ?_)
  have e0 := (index_t t).1
  have e1 := (index_t t).2.1
  refine congrArg₂ (· * ·) ?_ ((?_ : _ = V m c main_v0 (ix2 k ⟨t.val * 1024 + q.val, col_lt t q⟩)).trans (host_at m c _))
  · unfold x
    blk_ext [iblk, V, e0]
  · generalize hV : V m c = W
    unfold iblk
    rw [hV]
    blk_ext [e1]

/-- The array the kernel leaves. -/
theorem array_eq : (dats m 0 c).arrAt 2 cfg0.N = fun i : S1024x2048.Idx => ∑ k : Fin 256, x m c (ix2 k (i 0)) * y m c (ix2 k (i 1)) := by
  refine (dats m 0 c).arrAt_eq_of_covers 2 _ (by decide +kernel) fun t hf z => ?_
  have e := (index_t t).2.2
  have h0 : (z 0).val < 1024 := (z 0).isLt
  have h1 : (z 1).val < 1024 := (z 1).isLt
  have key := step_at m c t ⟨(z 0).val, h0⟩ ⟨(z 1).val, h1⟩
  have a0 : (win0_2.blk t).view.emb z 0 = (⟨(z 0).val, h0⟩ : Fin 1024) := Fin.ext (by blk_simp [e])
  have a1 : (win0_2.blk t).view.emb z 1 = (⟨t.val * 1024 + (z 1).val, col_lt t ⟨(z 1).val, h1⟩⟩ : Fin 2048) := Fin.ext (by blk_simp [e])
  blk_simp
  rw [after0_2]
  frame_out
  refine Eq.trans ?_ (key.trans ?_)
  · exact congrArg _ (funext fun a => match a with | ⟨0, _⟩ => rfl | ⟨1, _⟩ => rfl)
  · rw [a0, a1]

/-- The kernel's result is the reference's, on the same arguments. -/
theorem value (u : S256x1024.Idx → EReal) (v : S256x2048.Idx → EReal)
    (hu : u = m ((c : Thread nD τ).loc main_arg0)) (hv : v = m ((c : Thread nD τ).loc main_arg1)) :
    Cert.GradMemKvRefIdeal.Read.val_main_v3 (F := Ideal) u v = (dats m 0 c).arrAt 2 cfg0.N := by
  subst hu hv
  rw [array_eq]
  funext i
  obtain ⟨p, q, rfl⟩ : ∃ (p : Fin 1024) (q : Fin 2048), i = ix2 p q := ⟨i 0, i 1, funext fun a => match a with | ⟨0, _⟩ => rfl | ⟨1, _⟩ => rfl⟩
  unfold x y
  pointwise [Cert.GradMemKvRefIdeal.Read.val_main_v3, Cert.GradMemKvRefIdeal.Read.val_main_v2, Cert.GradMemKvRefIdeal.Read.val_main_v1, Cert.GradMemKvRefIdeal.Read.val_main_v0]
  refine Fin.sum_fin_congr fun k => ?_
  exact mul_comm _ _

theorem results_equal : Cert.algebraic_GradMemKvIdeal_GradMemKvRefIdeal (hGradMemKvIdeal := Cert.GradMemKvIdeal.Gen.facts) (hGradMemKvRefIdeal := Cert.GradMemKvRefIdeal.Gen.facts) := by
  intro m g m' g' _ hagree
  refine ⟨fun c => (dats m 0 c).arrAt 2 cfg0.N, run_blocks m g, (θ_run Cert.GradMemKvRefIdeal.defs _ _).mono (fun r h c => ?_) (Cert.GradMemKvRefIdeal.Value.run (F := Ideal) m' g')⟩
  obtain ⟨hy, h0, h1⟩ := h c
  obtain ⟨e0, e1⟩ := hagree c
  exact ⟨(hy.trans (Cert.GradMemKvRefIdeal.Read.val_main_v3_eq (F := Ideal) _ _)).trans (value m c _ _ e0 e1), h0, h1⟩

end Cert.GradMemKvIdeal.Val

end
-- ==== Proof.FfnOutVal.lean ====
module

public import proofs.«01_k».proof.Defs
public import proofs.«01_k».proof.Proof.Finite
public import proofs.«01_k».proof.Proof.Lanes
public import proofs.«01_k».proof.Proof.NormGrad
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! The FFN's second product, the last layer norm, the loss, and the gradient of the loss back to the norm's argument, its gain and its bias. -/

namespace Cert.FfnOutIdeal.Val

open Cert.FfnOutIdeal Cert.FfnOutIdeal.Gen Cert.FfnOutIdeal.Value Idealize.ShloMosaic Idealize.ShloMosaic.TcCoe Cert.Finite

/-- A position's row of the layer norm's argument: the residual and the product. -/
def row (h : S8192x2816.Idx → EReal) (w : S2816x1024.Idx → EReal) (x : S8192x1024.Idx → EReal) (i : Fin 8192) (j : Fin 1024) : EReal :=
  Ideal.ofBits .f32 0x3F9837F0#32 * x (ix2 i j) + ∑ k : Fin 2816, h (ix2 i k) * w (ix2 k j)

/-- From a row: the distance to the target, the gradient of the layer norm's result, and that times the gain. -/
def off (f g b y : Fin 1024 → EReal) (j : Fin 1024) : EReal := Norm.normed f j * g j + b j - y j
def back (f g b y : Fin 1024 → EReal) (j : Fin 1024) : EReal := off f g b y j * Ideal.ofBits .f32 0x3A800000#32
def gained (f g b y : Fin 1024 → EReal) (j : Fin 1024) : EReal := back f g b y j * g j

theorem lit_scale (x : EReal) : Ideal.div (Ideal.ofBits .f32 0x3F000000#32) (Ideal.ofBits .f32 0x44800000#32)
    * (Ideal.ofBits .f32 0x40000000#32 * x) = x * Ideal.ofBits .f32 0x3A800000#32 := by
  have e1 : Ideal.ofBits .f32 0x3F000000#32 = ((1 / 2 : ℝ) : EReal) := by
    simp [Ideal.ofBits, Ideal.ieee, -EReal.coe_mul]; norm_num
  have e3 : Ideal.ofBits .f32 0x40000000#32 = ((2 : ℝ) : EReal) := by
    simp [Ideal.ofBits, Ideal.ieee, -EReal.coe_mul]; try norm_num
  have e4 : Ideal.ofBits .f32 0x3A800000#32 = ((1 / 1024 : ℝ) : EReal) := by
    simp [Ideal.ofBits, Ideal.ieee, -EReal.coe_mul]; norm_num
  rw [Norm.div_lit, e1, e3, e4, ← EReal.coe_mul, ← mul_assoc, ← EReal.coe_mul, mul_comm]
  exact congrArg (fun r : ℝ => x * (r : EReal)) (by norm_num)

section reference

open Cert.FfnOutRefIdeal.Read

variable (h : S8192x2816.Idx → EReal) (w : S2816x1024.Idx → EReal) (x : S8192x1024.Idx → EReal) (g b : S1x1024.Idx → EReal) (y : S8192x1024.Idx → EReal)

/-- The row of a position's target, and the one row of the gain and of the bias. -/
def aim (y : S8192x1024.Idx → EReal) (i : Fin 8192) (k : Fin 1024) : EReal := y (ix2 i k)
def one (g : S1x1024.Idx → EReal) (k : Fin 1024) : EReal := g (ix2 0 k)

theorem ref_row (i : Fin 8192) (j : Fin 1024) : val_main_v5 (F := Ideal) h w x (ix2 i j) = row h w x i j := by
  pointwise [val_main_v5, val_main_v4, val_main_v3, val_main_v2, val_main_v1, val_main_v0, val_main_cst]
  rfl

theorem ref_mean (i : Fin 8192) (p : Fin 1) : val_main_v9 (F := Ideal) h w x (ix2 i p) = Norm.mean (row h w x i) := by
  refine Eq.trans ?_ (congrArg Norm.mean (funext fun k => ref_row h w x i k))
  unfold val_main_v9 val_main_v7 val_main_v6
  generalize val_main_v5 (F := Ideal) h w x = f
  pointwise [val_main_v8, val_main_cst_1, val_main_cst_0]
  rfl

theorem ref_dev (i : Fin 8192) (j : Fin 1024) : val_main_v11 (F := Ideal) h w x (ix2 i j) = Norm.dev (row h w x i) j := by
  unfold Norm.dev
  rw [← ref_mean h w x i 0, ← ref_row]
  unfold val_main_v11 val_main_v10
  generalize val_main_v9 (F := Ideal) h w x = f
  generalize val_main_v5 (F := Ideal) h w x = s
  pointwise []

theorem ref_dev' (i : Fin 8192) (j : Fin 1024) : val_main_v20 (F := Ideal) h w x (ix2 i j) = Norm.dev (row h w x i) j := by
  unfold Norm.dev
  rw [← ref_mean h w x i 0, ← ref_row]
  unfold val_main_v20 val_main_v19
  generalize val_main_v9 (F := Ideal) h w x = f
  generalize val_main_v5 (F := Ideal) h w x = s
  pointwise []

theorem ref_spread (i : Fin 8192) (p : Fin 1) : val_main_v22 (F := Ideal) h w x (ix2 i p) = Norm.spread (row h w x i) := by
  unfold Norm.spread
  refine Eq.trans ?_ (congrArg (fun f => Norm.mean f + _) (funext fun k => congrArg₂ (· * ·) (ref_dev h w x i k) (ref_dev h w x i k)))
  unfold val_main_v22 val_main_v18 val_main_v16 val_main_v15 val_main_v12
  generalize val_main_v11 (F := Ideal) h w x = f
  pointwise [val_main_v21, val_main_v17, val_main_cst_3, val_main_cst_4, val_main_cst_5]
  rfl

theorem ref_scale (i : Fin 8192) (p : Fin 1) : val_main_v23 (F := Ideal) h w x (ix2 i p) = Norm.scale (row h w x i) := by
  unfold Norm.scale
  rw [← ref_spread h w x i p]
  unfold val_main_v23
  generalize val_main_v22 (F := Ideal) h w x = f
  pointwise []

theorem ref_normed (i : Fin 8192) (j : Fin 1024) : val_main_v28 (F := Ideal) h w x (ix2 i j) = Norm.normed (row h w x i) j := by
  unfold Norm.normed
  rw [← ref_dev', ← ref_scale h w x i 0]
  unfold val_main_v28 val_main_v27
  generalize val_main_v20 (F := Ideal) h w x = f
  generalize val_main_v23 (F := Ideal) h w x = s
  pointwise []

theorem ref_off (i : Fin 8192) (j : Fin 1024) : val_main_v33 (F := Ideal) h w x g b y (ix2 i j) = off (row h w x i) (one g) (one b) (aim y i) j := by
  unfold off
  rw [← ref_normed]
  unfold val_main_v33 val_main_v32 val_main_v30
  generalize val_main_v28 (F := Ideal) h w x = f
  pointwise [val_main_v31, val_main_v29]
  rfl

theorem ref_back (i : Fin 8192) (j : Fin 1024) : val_main_v47 (F := Ideal) h w x g b y (ix2 i j) = back (row h w x i) (one g) (one b) (aim y i) j := by
  unfold back
  rw [← ref_off]
  unfold val_main_v47 val_main_v36
  generalize val_main_v33 (F := Ideal) h w x g b y = f
  pointwise [val_main_v46, val_main_v45, val_main_v44, val_main_v43, val_main_v42, val_main_v35, val_main_cst_7, val_main_cst_12, val_main_cst_13, val_main_cst_14]
  exact lit_scale _

theorem ref_gained (i : Fin 8192) (j : Fin 1024) : val_main_v54 (F := Ideal) h w x g b y (ix2 i j) = gained (row h w x i) (one g) (one b) (aim y i) j := by
  unfold gained
  rw [← ref_back]
  unfold val_main_v54 val_main_v53
  generalize val_main_v47 (F := Ideal) h w x g b y = f
  pointwise []
  rfl

/-- The gradient straight through the scale. -/
theorem ref_straight (i : Fin 8192) (j : Fin 1024) :
    val_main_v59 (F := Ideal) h w x g b y (ix2 i j) = gained (row h w x i) (one g) (one b) (aim y i) j * Norm.scale (row h w x i) := by
  rw [← ref_gained, ← ref_scale h w x i 0]
  unfold val_main_v59 val_main_v58
  generalize val_main_v54 (F := Ideal) h w x g b y = f
  generalize val_main_v23 (F := Ideal) h w x = s
  pointwise []

/-- The factor of the variance's own gradient. -/
theorem ref_factor (i : Fin 8192) (p : Fin 1) :
    val_main_v26 (F := Ideal) h w x (ix2 i p) = Ideal.ofBits .f32 0xBF000000#32 * Ideal.div (Norm.scale (row h w x i)) (Norm.spread (row h w x i)) := by
  rw [← ref_scale h w x i p, ← ref_spread h w x i p]
  unfold val_main_v26 val_main_v24
  generalize val_main_v23 (F := Ideal) h w x = f
  generalize val_main_v22 (F := Ideal) h w x = s
  pointwise [val_main_v25, val_main_cst_6]

theorem ref_var (i : Fin 8192) (p : Fin 1) :
    val_main_v65 (F := Ideal) h w x g b y (ix2 i p) = Ideal.div ((∑ k : Fin 1024, Norm.dev (row h w x i) k * gained (row h w x i) (one g) (one b) (aim y i) k)
      * (Ideal.ofBits .f32 0xBF000000#32 * Ideal.div (Norm.scale (row h w x i)) (Norm.spread (row h w x i)))) (Ideal.ofBits .f32 0x44800000#32) := by
  rw [← ref_factor h w x i p]
  refine Eq.trans ?_ (congrArg (fun f => Ideal.div (f * _) _) (Fin.sum_fin_congr fun k => congrArg₂ (· * ·) (ref_dev' h w x i k) (ref_gained h w x g b y i k)))
  unfold val_main_v65 val_main_v60 val_main_v57 val_main_v56 val_main_v55
  generalize val_main_v54 (F := Ideal) h w x g b y = f
  generalize val_main_v20 (F := Ideal) h w x = s
  generalize val_main_v26 (F := Ideal) h w x = r
  pointwise [val_main_v64, val_main_cst_19, val_main_cst_17]

theorem ref_turn (i : Fin 8192) (j : Fin 1024) :
    val_main_v68 (F := Ideal) h w x g b y (ix2 i j) = Norm.turn (row h w x i) (gained (row h w x i) (one g) (one b) (aim y i)) j := by
  unfold Norm.turn
  rw [← ref_var h w x g b y i 0, ← ref_dev]
  unfold val_main_v68 val_main_v67 val_main_v66 val_main_v14
  generalize val_main_v65 (F := Ideal) h w x g b y = f
  generalize val_main_v11 (F := Ideal) h w x = s
  pointwise [val_main_v13, val_main_cst_2, val_main_cst_20]
  exact congrArg (· * _) (Fin.sum_univ_one fun k : Fin 1 => f (ix2 i k))

theorem ref_grad (i : Fin 8192) (j : Fin 1024) :
    val_main_v78 (F := Ideal) h w x g b y (ix2 i j) = Norm.chain (row h w x i) (gained (row h w x i) (one g) (one b) (aim y i)) j := by
  unfold Norm.chain
  refine Eq.trans ?_ (congrArg₂ (· + ·) (congrArg₂ (· + ·) (ref_straight h w x g b y i j) (ref_turn h w x g b y i j))
    (congrArg (fun f => Ideal.div f _) (congrArg₂ (· + ·) (Fin.sum_fin_congr fun k => congrArg (- ·) (ref_straight h w x g b y i k))
      (Fin.sum_fin_congr fun k => congrArg (- ·) (ref_turn h w x g b y i k)))))
  unfold val_main_v78 val_main_v77 val_main_v76 val_main_v75 val_main_v73 val_main_v72 val_main_v71 val_main_v70 val_main_v69 val_main_v63 val_main_v62 val_main_v61
  generalize val_main_v59 (F := Ideal) h w x g b y = f
  generalize val_main_v68 (F := Ideal) h w x g b y = s
  pointwise [val_main_v74, val_main_cst_18, val_main_cst_21, val_main_cst_22, val_main_cst_23]
  exact congrArg (_ + ·) (Fin.sum_univ_one fun _ : Fin 1 => Ideal.div ((∑ k : Fin 1024, -f (ix2 i k)) + ∑ k : Fin 1024, -s (ix2 i k)) (Ideal.ofBits .f32 0x44800000#32))

theorem ref_small (i : Fin 8192) (j : Fin 1024) :
    val_main_v105 (F := Ideal) h w x g b y (ix2 i j) = Norm.chain (row h w x i) (gained (row h w x i) (one g) (one b) (aim y i)) j := by
  rw [← ref_grad]
  unfold val_main_v105
  generalize val_main_v78 (F := Ideal) h w x g b y = f
  pointwise []

theorem ref_bias (p : Fin 1) (j : Fin 1024) :
    val_main_v49 (F := Ideal) h w x g b y (ix2 p j) = ∑ i : Fin 8192, back (row h w x i) (one g) (one b) (aim y i) j := by
  refine Eq.trans ?_ (Fin.sum_fin_congr fun i => ref_back h w x g b y i j)
  unfold val_main_v49 val_main_v48
  generalize val_main_v47 (F := Ideal) h w x g b y = f
  pointwise [val_main_cst_15]

theorem ref_gain (p : Fin 1) (j : Fin 1024) :
    val_main_v52 (F := Ideal) h w x g b y (ix2 p j) = ∑ i : Fin 8192, back (row h w x i) (one g) (one b) (aim y i) j * Norm.normed (row h w x i) j := by
  refine Eq.trans ?_ (Fin.sum_fin_congr fun i => (mul_comm _ _).trans (congrArg₂ (· * ·) (ref_back h w x g b y i j) (ref_normed h w x i j)))
  unfold val_main_v52 val_main_v51 val_main_v50
  generalize val_main_v47 (F := Ideal) h w x g b y = f
  generalize val_main_v28 (F := Ideal) h w x = s
  pointwise [val_main_cst_16]

/-! The loss's columns read the layer norm a second time. -/

theorem loss_mean (i : Fin 8192) (p : Fin 1) : val_main_v82 (F := Ideal) h w x (ix2 i p) = Norm.mean (row h w x i) := by
  refine Eq.trans ?_ (congrArg Norm.mean (funext fun k => ref_row h w x i k))
  unfold val_main_v82 val_main_v80 val_main_v79
  generalize val_main_v5 (F := Ideal) h w x = f
  pointwise [val_main_v81, val_main_cst_25, val_main_cst_24]
  rfl

theorem loss_dev (i : Fin 8192) (j : Fin 1024) : val_main_v84 (F := Ideal) h w x (ix2 i j) = Norm.dev (row h w x i) j := by
  unfold Norm.dev
  rw [← loss_mean h w x i 0, ← ref_row]
  unfold val_main_v84 val_main_v83
  generalize val_main_v82 (F := Ideal) h w x = f
  generalize val_main_v5 (F := Ideal) h w x = s
  pointwise []

theorem loss_dev' (i : Fin 8192) (j : Fin 1024) : val_main_v91 (F := Ideal) h w x (ix2 i j) = Norm.dev (row h w x i) j := by
  unfold Norm.dev
  rw [← loss_mean h w x i 0, ← ref_row]
  unfold val_main_v91 val_main_v90
  generalize val_main_v82 (F := Ideal) h w x = f
  generalize val_main_v5 (F := Ideal) h w x = s
  pointwise []

theorem loss_scale (i : Fin 8192) (p : Fin 1) : val_main_v94 (F := Ideal) h w x (ix2 i p) = Norm.scale (row h w x i) := by
  unfold Norm.scale Norm.spread
  refine Eq.trans ?_ (congrArg (fun f => Ideal.rsqrt (Norm.mean f + _)) (funext fun k => congrArg₂ (· * ·) (loss_dev h w x i k) (loss_dev h w x i k)))
  unfold val_main_v94 val_main_v93 val_main_v89 val_main_v87 val_main_v86 val_main_v85
  generalize val_main_v84 (F := Ideal) h w x = f
  pointwise [val_main_v92, val_main_v88, val_main_cst_26, val_main_cst_27, val_main_cst_28]
  rfl

theorem loss_off (i : Fin 8192) (j : Fin 1024) : val_main_v101 (F := Ideal) h w x g b y (ix2 i j) = off (row h w x i) (one g) (one b) (aim y i) j := by
  unfold off Norm.normed
  rw [← loss_dev', ← loss_scale h w x i 0]
  unfold val_main_v101 val_main_v100 val_main_v98 val_main_v96 val_main_v95
  generalize val_main_v91 (F := Ideal) h w x = f
  generalize val_main_v94 (F := Ideal) h w x = s
  pointwise [val_main_v99, val_main_v97]
  rfl

theorem ref_loss (p : Fin 1) (j : Fin 1024) : val_main_v104 (F := Ideal) h w x g b y (ix2 p j)
    = ∑ i : Fin 8192, off (row h w x i) (one g) (one b) (aim y i) j * off (row h w x i) (one g) (one b) (aim y i) j := by
  refine Eq.trans ?_ (Fin.sum_fin_congr fun i => congrArg₂ (· * ·) (loss_off h w x g b y i j) (loss_off h w x g b y i j))
  unfold val_main_v104 val_main_v103 val_main_v102
  generalize val_main_v101 (F := Ideal) h w x g b y = f
  pointwise [val_main_cst_29]

end reference

section payloads

variable (h : Vec Ideal S256x2816 .bf16) (w : Vec Ideal S2816x1024 .bf16) (x : Vec Ideal S256x1024 .f32) (g b : Vec Ideal S1x1024 .f32) (y : Vec Ideal S256x1024 .f32)

/-- A block's rows. -/
def brow (h : Vec Ideal S256x2816 .bf16) (w : Vec Ideal S2816x1024 .bf16) (x : Vec Ideal S256x1024 .f32) (p : Fin 256) (q : Fin 1024) : EReal :=
  Ideal.ofBits .f32 0x3F9837F0#32 * x (ix2 p q) + ∑ k : Fin 2816, h (ix2 p k) * w (ix2 k q)

theorem pay_dev (p : Fin 256) (q : Fin 1024) : k0_pay7 h w x (ix2 p q) = Norm.dev (brow h w x p) q := by
  pointwise [k0_pay7]
  rfl

theorem pay_scale (p : Fin 256) (r : Fin 1) : k0_pay8 h w x (ix2 p r) = Norm.scale (brow h w x p) := by
  unfold Norm.scale Norm.spread
  refine Eq.trans ?_ (congrArg (fun f => Ideal.rsqrt (Norm.mean f + _)) (funext fun k => congrArg₂ (· * ·) (pay_dev h w x p k) (pay_dev h w x p k)))
  unfold k0_pay8
  generalize k0_pay7 h w x = f
  pointwise []
  rfl

theorem pay_normed (p : Fin 256) (q : Fin 1024) : k0_pay9 h w x (ix2 p q) = Norm.normed (brow h w x p) q := by
  unfold Norm.normed
  rw [← pay_dev, ← pay_scale h w x p 0]
  unfold k0_pay9
  generalize k0_pay7 h w x = f
  generalize k0_pay8 h w x = s
  pointwise []

theorem pay_off (p : Fin 256) (q : Fin 1024) :
    k0_pay10 h w x g b y (ix2 p q) = off (brow h w x p) (fun k => g (ix2 0 k)) (fun k => b (ix2 0 k)) (fun k => y (ix2 p k)) q := by
  unfold off
  rw [← pay_normed]
  unfold k0_pay10
  generalize k0_pay9 h w x = f
  pointwise []

theorem pay_back (p : Fin 256) (q : Fin 1024) :
    k0_pay11 h w x g b y (ix2 p q) = back (brow h w x p) (fun k => g (ix2 0 k)) (fun k => b (ix2 0 k)) (fun k => y (ix2 p k)) q := by
  unfold back
  rw [← pay_off]
  unfold k0_pay11
  generalize k0_pay10 h w x g b y = f
  pointwise []

theorem pay_gained (p : Fin 256) (q : Fin 1024) :
    k0_pay12 h w x g b y (ix2 p q) = gained (brow h w x p) (fun k => g (ix2 0 k)) (fun k => b (ix2 0 k)) (fun k => y (ix2 p k)) q := by
  unfold gained
  rw [← pay_back]
  unfold k0_pay12
  generalize k0_pay11 h w x g b y = f
  pointwise []

theorem pay_sum (p : Fin 256) (r : Fin 1) : k0_pay13 h w x g b y (ix2 p r) = ∑ k : Fin 1024, k0_pay12 h w x g b y (ix2 p k) := by
  unfold k0_pay13
  generalize k0_pay12 h w x g b y = f
  pointwise []

/-- The gradient of the norm's argument, from the scale, the normalised rows, the gradient times the gain and its sum. -/
theorem pay_grad (s : FVec Ideal S256x1 .f32) (n e : FVec Ideal S256x1024 .f32) (u : FVec Ideal S256x1 .f32) (p : Fin 256) (q : Fin 1024)
    (hu : u (ix2 p 0) = ∑ k : Fin 1024, e (ix2 p k)) :
    k0_pay14 s n e u (Scalar.ofBits .f32 0x44800000#32) (ix2 p q) = s (ix2 p 0) * (e (ix2 p q) - Norm.mean (fun k => e (ix2 p k))
      - n (ix2 p q) * Norm.mean (fun k => e (ix2 p k) * n (ix2 p k))) := by
  unfold Norm.mean
  rw [← hu]
  pointwise [k0_pay14]

theorem pay_small (s : FVec Ideal S256x1 .f32) (n e : FVec Ideal S256x1024 .f32) (u : FVec Ideal S256x1 .f32) (p : Fin 256) (q : Fin 1024) :
    k0_pay15 s n e u (Scalar.ofBits .f32 0x44800000#32) (ix2 p q) = k0_pay14 s n e u (Scalar.ofBits .f32 0x44800000#32) (ix2 p q) := by
  unfold k0_pay15
  generalize k0_pay14 s n e u (Scalar.ofBits .f32 0x44800000#32) = f
  pointwise []

end payloads

/-! What a step adds to a lane of each of the three sums. -/

theorem lane_loss (v : FVec Ideal S256x1024 .f32) (l : Fin 8) (q : Fin 1024) :
    k0_pay16 v (ix2 l q) = ∑ a : Fin 32, v (ix2 ⟨a.val * 8 + l.val, Lanes.row_in a l⟩ q) * v (ix2 ⟨a.val * 8 + l.val, Lanes.row_in a l⟩ q) := by
  pointwise [k0_pay16]

theorem lane_gain (n v : FVec Ideal S256x1024 .f32) (l : Fin 8) (q : Fin 1024) :
    k0_pay19 n v (ix2 l q) = ∑ a : Fin 32, v (ix2 ⟨a.val * 8 + l.val, Lanes.row_in a l⟩ q) * n (ix2 ⟨a.val * 8 + l.val, Lanes.row_in a l⟩ q) := by
  pointwise [k0_pay19]

theorem lane_bias (v : FVec Ideal S256x1024 .f32) (l : Fin 8) (q : Fin 1024) :
    k0_pay1 (k0_pay22 v) (ix2 l q) = ∑ a : Fin 32, v (ix2 ⟨a.val * 8 + l.val, Lanes.row_in a l⟩ q) := by
  pointwise [k0_pay1, k0_pay22]

theorem first_loss (v : FVec Ideal S256x1024 .f32) (i : S8x1024.Idx) : k0_pay17 v i = 0 + k0_pay16 v i := by
  rw [zero_add]
  unfold k0_pay17
  generalize k0_pay16 v = f
  pointwise []

theorem later_loss (v : FVec Ideal S256x1024 .f32) (o : Vec Ideal S8x1024 .f32) (i : S8x1024.Idx) : k0_pay18 v o i = o i + k0_pay16 v i := by
  unfold k0_pay18
  generalize k0_pay16 v = f
  pointwise []

theorem first_gain (n v : FVec Ideal S256x1024 .f32) (i : S8x1024.Idx) : k0_pay20 n v i = 0 + k0_pay19 n v i := by
  rw [zero_add]
  unfold k0_pay20
  generalize k0_pay19 n v = f
  pointwise []

theorem later_gain (n v : FVec Ideal S256x1024 .f32) (o : Vec Ideal S8x1024 .f32) (i : S8x1024.Idx) : k0_pay21 n v o i = o i + k0_pay19 n v i := by
  unfold k0_pay21
  generalize k0_pay19 n v = f
  pointwise []

theorem first_bias (v : FVec Ideal S32x8x1024 .f32) (i : S8x1024.Idx) : k0_pay2 v i = 0 + k0_pay1 v i := by
  rw [zero_add]
  unfold k0_pay2
  generalize k0_pay1 v = f
  pointwise []

theorem later_bias (v : FVec Ideal S32x8x1024 .f32) (o : Vec Ideal S8x1024 .f32) (i : S8x1024.Idx) : k0_pay3 v o i = o i + k0_pay1 v i := by
  unfold k0_pay3
  generalize k0_pay1 v = f
  pointwise []

theorem total_loss (o : Vec Ideal S8x1024 .f32) (p : Fin 1) (q : Fin 1024) : k0_pay4 o (ix2 p q) = ∑ l : Fin 8, o (ix2 l q) := by
  pointwise [k0_pay4]

theorem total_gain (o : Vec Ideal S8x1024 .f32) (p : Fin 1) (q : Fin 1024) : k0_pay5 o (ix2 p q) = ∑ l : Fin 8, o (ix2 l q) := by
  pointwise [k0_pay5]

theorem total_bias (o : Vec Ideal S8x1024 .f32) (p : Fin 1) (q : Fin 1024) : k0_pay6 o (ix2 p q) = ∑ l : Fin 8, o (ix2 l q) := by
  pointwise [k0_pay6]

variable (m : (ℓ : Loc nD τ sig) → Buf (Elt Ideal) ℓ) (c : Dev nD)

/-- The launched arguments. -/
def h : S8192x2816.Idx → EReal := m ((c : Thread nD τ).loc main_arg0)
def w : S2816x1024.Idx → EReal := m ((c : Thread nD τ).loc main_arg1)
def x : S8192x1024.Idx → EReal := m ((c : Thread nD τ).loc main_arg2)
def g : S1x1024.Idx → EReal := m ((c : Thread nD τ).loc main_arg3)
def b : S1x1024.Idx → EReal := m ((c : Thread nD τ).loc main_arg4)
def y : S8192x1024.Idx → EReal := m ((c : Thread nD τ).loc main_arg5)

/-- The kernel's results in terms of the launched arguments. -/
def rowOf (i : Fin 8192) : Fin 1024 → EReal := row (h m c) (w m c) (x m c) i
def offOf (i : Fin 8192) (j : Fin 1024) : EReal := off (rowOf m c i) (one (g m c)) (one (b m c)) (aim (y m c) i) j
def lossOf (i : Fin 8192) (j : Fin 1024) : EReal := offOf m c i j * offOf m c i j
def biasOf (i : Fin 8192) (j : Fin 1024) : EReal := back (rowOf m c i) (one (g m c)) (one (b m c)) (aim (y m c) i) j
def gainOf (i : Fin 8192) (j : Fin 1024) : EReal := biasOf m c i j * Norm.normed (rowOf m c i) j
def gradOf (i : Fin 8192) (j : Fin 1024) : EReal := Norm.short (rowOf m c i) (gained (rowOf m c i) (one (g m c)) (one (b m c)) (aim (y m c) i)) j

theorem index_t : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] := by
  decide +kernel

theorem row_lt (t : Fin cfg0.N) (p : Fin 256) : t.val * 256 + p.val < 8192 := by
  have ht : t.val < 32 := lt_of_lt_of_eq t.isLt N_0
  omega

theorem step_h (t : Fin cfg0.N) (p : Fin 256) (q : Fin 2816) : iblk m c 0 t (ix2 p q) = h m c (ix2 ⟨t.val * 256 + p.val, row_lt t p⟩ q) := by
  obtain ⟨e, -⟩ := index_t t
  unfold h
  blk_ext [iblk, V, e]

theorem step_w (t : Fin cfg0.N) (p : Fin 2816) (q : Fin 1024) : iblk m c 1 t (ix2 p q) = w m c (ix2 p q) := by
  obtain ⟨-, e, -⟩ := index_t t
  unfold w
  blk_ext [iblk, V, e]

theorem step_x (t : Fin cfg0.N) (p : Fin 256) (q : Fin 1024) : iblk m c 2 t (ix2 p q) = x m c (ix2 ⟨t.val * 256 + p.val, row_lt t p⟩ q) := by
  obtain ⟨-, -, e, -⟩ := index_t t
  unfold x
  blk_ext [iblk, V, e]

theorem step_g (t : Fin cfg0.N) (q : Fin 1024) : iblk m c 3 t (ix2 (0 : Fin 1) q) = g m c (ix2 (0 : Fin 1) q) := by
  obtain ⟨-, -, -, e, -⟩ := index_t t
  unfold g
  blk_ext [iblk, V, e]

theorem step_b (t : Fin cfg0.N) (q : Fin 1024) : iblk m c 4 t (ix2 (0 : Fin 1) q) = b m c (ix2 (0 : Fin 1) q) := by
  obtain ⟨-, -, -, -, e, -⟩ := index_t t
  unfold b
  blk_ext [iblk, V, e]

theorem step_y (t : Fin cfg0.N) (p : Fin 256) (q : Fin 1024) : iblk m c 5 t (ix2 p q) = y m c (ix2 ⟨t.val * 256 + p.val, row_lt t p⟩ q) := by
  obtain ⟨-, -, -, -, -, e, -⟩ := index_t t
  unfold y
  blk_ext [iblk, V, e]

/-- What a step forms: the scales, the normalised rows, the distances, the gradient of the norm's result, that times the gain, and its sums. -/
def scl (t : Fin cfg0.N) : FVec Ideal S256x1 .f32 := k0_pay8 (iblk m c 0 t) (iblk m c 1 t) (iblk m c 2 t)
def nrm (t : Fin cfg0.N) : FVec Ideal S256x1024 .f32 := k0_pay9 (iblk m c 0 t) (iblk m c 1 t) (iblk m c 2 t)
def dif (t : Fin cfg0.N) : FVec Ideal S256x1024 .f32 := k0_pay10 (iblk m c 0 t) (iblk m c 1 t) (iblk m c 2 t) (iblk m c 3 t) (iblk m c 4 t) (iblk m c 5 t)
def bck (t : Fin cfg0.N) : FVec Ideal S256x1024 .f32 := k0_pay11 (iblk m c 0 t) (iblk m c 1 t) (iblk m c 2 t) (iblk m c 3 t) (iblk m c 4 t) (iblk m c 5 t)
def gnd (t : Fin cfg0.N) : FVec Ideal S256x1024 .f32 := k0_pay12 (iblk m c 0 t) (iblk m c 1 t) (iblk m c 2 t) (iblk m c 3 t) (iblk m c 4 t) (iblk m c 5 t)
def tot (t : Fin cfg0.N) : FVec Ideal S256x1 .f32 := k0_pay13 (iblk m c 0 t) (iblk m c 1 t) (iblk m c 2 t) (iblk m c 3 t) (iblk m c 4 t) (iblk m c 5 t)

/-- The rows a step sees. -/
theorem step_row (t : Fin cfg0.N) (p : Fin 256) :
    brow (iblk m c 0 t) (iblk m c 1 t) (iblk m c 2 t) p = rowOf m c ⟨t.val * 256 + p.val, row_lt t p⟩ := by
  funext q
  exact congrArg₂ (· + ·) (congrArg (_ * ·) (step_x m c t p q)) (Fin.sum_fin_congr fun k => congrArg₂ (· * ·) (step_h m c t p k) (step_w m c t k q))

theorem step_normed (t : Fin cfg0.N) (p : Fin 256) (q : Fin 1024) :
    nrm m c t (ix2 p q) = Norm.normed (rowOf m c ⟨t.val * 256 + p.val, row_lt t p⟩) q :=
  (pay_normed _ _ _ p q).trans (congrArg (fun f => Norm.normed f q) (step_row m c t p))

theorem step_scale (t : Fin cfg0.N) (p : Fin 256) :
    scl m c t (ix2 p (0 : Fin 1)) = Norm.scale (rowOf m c ⟨t.val * 256 + p.val, row_lt t p⟩) :=
  (pay_scale _ _ _ p 0).trans (congrArg Norm.scale (step_row m c t p))

theorem step_off (t : Fin cfg0.N) (p : Fin 256) (q : Fin 1024) :
    dif m c t (ix2 p q) = offOf m c ⟨t.val * 256 + p.val, row_lt t p⟩ q := by
  refine (pay_off _ _ _ _ _ _ p q).trans ?_
  rw [step_row m c t p, funext (step_g m c t), funext (step_b m c t), funext (step_y m c t p)]
  rfl

theorem step_back (t : Fin cfg0.N) (p : Fin 256) (q : Fin 1024) :
    bck m c t (ix2 p q) = biasOf m c ⟨t.val * 256 + p.val, row_lt t p⟩ q := by
  refine (pay_back _ _ _ _ _ _ p q).trans ?_
  rw [step_row m c t p, funext (step_g m c t), funext (step_b m c t), funext (step_y m c t p)]
  rfl

theorem step_gained (t : Fin cfg0.N) (p : Fin 256) (q : Fin 1024) :
    gnd m c t (ix2 p q)
      = gained (rowOf m c ⟨t.val * 256 + p.val, row_lt t p⟩) (one (g m c)) (one (b m c)) (aim (y m c) ⟨t.val * 256 + p.val, row_lt t p⟩) q := by
  refine (pay_gained _ _ _ _ _ _ p q).trans ?_
  rw [step_row m c t p, funext (step_g m c t), funext (step_b m c t), funext (step_y m c t p)]
  rfl

/-- What a step stores as the gradient of the norm's argument, wide and narrow. -/
def grad (t : Fin cfg0.N) : FVec Ideal S256x1024 .f32 :=
  k0_pay14 (scl m c t) (nrm m c t)
    (gnd m c t)
    (tot m c t) (Scalar.ofBits .f32 0x44800000#32)
def narrow (t : Fin cfg0.N) : FVec Ideal S256x1024 .bf16 :=
  k0_pay15 (scl m c t) (nrm m c t)
    (gnd m c t)
    (tot m c t) (Scalar.ofBits .f32 0x44800000#32)

theorem step_grad (t : Fin cfg0.N) (p : Fin 256) (q : Fin 1024) : grad m c t (ix2 p q) = gradOf m c ⟨t.val * 256 + p.val, row_lt t p⟩ q := by
  refine (pay_grad (scl m c t) (nrm m c t) (gnd m c t) (tot m c t) p q (pay_sum _ _ _ _ _ _ p 0)).trans ?_
  unfold gradOf Norm.short
  simp only [step_scale m c t p, step_gained m c t p, step_normed m c t p]

theorem step_narrow (t : Fin cfg0.N) (p : Fin 256) (q : Fin 1024) : narrow m c t (ix2 p q) = gradOf m c ⟨t.val * 256 + p.val, row_lt t p⟩ q :=
  (pay_small _ _ _ _ p q).trans (step_grad m c t p q)

/-- What a step adds to the lanes of the three sums. -/
def addedLoss (t : Fin cfg0.N) : FVec Ideal S8x1024 .f32 :=
  k0_pay16 (dif m c t)
def addedGain (t : Fin cfg0.N) : FVec Ideal S8x1024 .f32 :=
  k0_pay19 (nrm m c t) (bck m c t)
def addedBias (t : Fin cfg0.N) : FVec Ideal S8x1024 .f32 :=
  k0_pay1 (k0_pay22 (bck m c t))

theorem added_loss_at (t : Fin cfg0.N) (l : Fin 8) (q : Fin 1024) :
    addedLoss m c t (ix2 l q) = ∑ a : Fin 32, lossOf m c ⟨t.val * 256 + (⟨a.val * 8 + l.val, Lanes.row_in a l⟩ : Fin 256).val, row_lt t _⟩ q :=
  (lane_loss _ l q).trans (Fin.sum_fin_congr fun a => congrArg₂ (· * ·) (step_off m c t _ q) (step_off m c t _ q))

theorem added_gain_at (t : Fin cfg0.N) (l : Fin 8) (q : Fin 1024) :
    addedGain m c t (ix2 l q) = ∑ a : Fin 32, gainOf m c ⟨t.val * 256 + (⟨a.val * 8 + l.val, Lanes.row_in a l⟩ : Fin 256).val, row_lt t _⟩ q :=
  (lane_gain _ _ l q).trans (Fin.sum_fin_congr fun a => congrArg₂ (· * ·) (step_back m c t _ q) (step_normed m c t _ q))

theorem added_bias_at (t : Fin cfg0.N) (l : Fin 8) (q : Fin 1024) :
    addedBias m c t (ix2 l q) = ∑ a : Fin 32, biasOf m c ⟨t.val * 256 + (⟨a.val * 8 + l.val, Lanes.row_in a l⟩ : Fin 256).val, row_lt t _⟩ q :=
  (lane_bias _ l q).trans (Fin.sum_fin_congr fun a => step_back m c t _ q)

section outs

variable (t : Fin cfg0.N)

theorem outs : (outsAt0 m c t.val t.isLt).1 = grad m c t ∧ (outsAt0 m c t.val t.isLt).2.1 = narrow m c t := by
  have ht : t.val < 32 := lt_of_lt_of_eq t.isLt N_0
  by_cases h0 : t.val % 32 = 0
  · rw [outsAt0_A m c t h0 (by omega) h0 (by omega) h0 (by omega) (by omega)]
    exact ⟨by dsimp only; frame_out; rfl, by dsimp only; frame_out; rfl⟩
  · by_cases h2 : t.val % 32 = 31
    · rw [outsAt0_C m c t h0 (by omega) h0 (by omega) h0 (by omega) h2]
      exact ⟨by dsimp only; frame_out; rfl, by dsimp only; frame_out; rfl⟩
    · rw [outsAt0_B m c t h0 (by omega) h0 (by omega) h0 (by omega) h2]
      exact ⟨by dsimp only; frame_out; rfl, by dsimp only; frame_out; rfl⟩

/-- The sum of the squared distances, written back by the last step: that of its lanes. -/
theorem out_loss (h2 : t.val % 32 = 31) : (outsAt0 m c t.val t.isLt).2.2.1 = k0_pay4 (outsAt0 m c t.val t.isLt).2.2.2.2.2.1 := by
  have ht : t.val < 32 := lt_of_lt_of_eq t.isLt N_0
  rw [outsAt0_C m c t (by omega) (by omega) (by omega) (by omega) (by omega) (by omega) h2]
  dsimp only
  frame_out

/-- Its lanes after the last step: all the steps' additions. -/
theorem lanes_loss (h2 : t.val % 32 = 31) (i : S8x1024.Idx) : (outsAt0 m c t.val t.isLt).2.2.2.2.2.1 i = 0 + ∑ a : Fin cfg0.N, addedLoss m c a i := by
  have ht : t.val < 32 := lt_of_lt_of_eq t.isLt N_0
  refine Pipeline.eq_sum_fin_of_reset_step_apply_last (fun n h => (outsAt0 m c n h).2.2.2.2.2.1) 32 (fun _ => 0) (fun t i => addedLoss m c t i) ?_ ?_
    (le_of_eq N_0) t ((show t.val + 1 = 32 by omega).trans N_0.symm) i
  · intro t h i
    have ht : t.val < 32 := lt_of_lt_of_eq t.isLt N_0
    rw [outsAt0_A m c t h (by omega) h (by omega) h (by omega) (by omega)]
    dsimp only
    frame_out
    exact first_loss _ _
  · intro t h i
    have ht : t.val < 32 := lt_of_lt_of_eq t.isLt N_0
    by_cases h2 : t.val % 32 = 31
    · rw [outsAt0_C m c t h (by omega) h (by omega) h (by omega) h2]
      dsimp only
      frame_out
      refine (later_loss _ _ _).trans ?_
      exact congrArg (· + _) (congrFun (Memref.IsWhole.read_unread (Memref.isWhole_whole cc0_scratch0) _) i)
    · rw [outsAt0_B m c t h (by omega) h (by omega) h (by omega) h2]
      dsimp only
      frame_out
      refine (later_loss _ _ _).trans ?_
      exact congrArg (· + _) (congrFun (Memref.IsWhole.read_unread (Memref.isWhole_whole cc0_scratch0) _) i)

/-- It runs over all positions. -/
theorem loss_at (h2 : t.val % 32 = 31) (p : Fin 1) (q : Fin 1024) : (outsAt0 m c t.val t.isLt).2.2.1 (ix2 p q) = ∑ i : Fin 8192, lossOf m c i q := by
  rw [out_loss m c t h2]
  refine (total_loss _ p q).trans (Eq.trans ?_ (Lanes.sum_lanes fun i => lossOf m c i q))
  refine Fin.sum_fin_congr fun l => (lanes_loss m c t h2 (ix2 l q)).trans ((zero_add _).trans ?_)
  exact (Fin.sum_fin_congr fun a => added_loss_at m c a l q)

/-- The gain's sum, written back by the last step: that of its lanes. -/
theorem out_gain (h2 : t.val % 32 = 31) : (outsAt0 m c t.val t.isLt).2.2.2.1 = k0_pay5 (outsAt0 m c t.val t.isLt).2.2.2.2.2.2.1 := by
  have ht : t.val < 32 := lt_of_lt_of_eq t.isLt N_0
  rw [outsAt0_C m c t (by omega) (by omega) (by omega) (by omega) (by omega) (by omega) h2]
  dsimp only
  frame_out

/-- Its lanes after the last step: all the steps' additions. -/
theorem lanes_gain (h2 : t.val % 32 = 31) (i : S8x1024.Idx) : (outsAt0 m c t.val t.isLt).2.2.2.2.2.2.1 i = 0 + ∑ a : Fin cfg0.N, addedGain m c a i := by
  have ht : t.val < 32 := lt_of_lt_of_eq t.isLt N_0
  refine Pipeline.eq_sum_fin_of_reset_step_apply_last (fun n h => (outsAt0 m c n h).2.2.2.2.2.2.1) 32 (fun _ => 0) (fun t i => addedGain m c t i) ?_ ?_
    (le_of_eq N_0) t ((show t.val + 1 = 32 by omega).trans N_0.symm) i
  · intro t h i
    have ht : t.val < 32 := lt_of_lt_of_eq t.isLt N_0
    rw [outsAt0_A m c t h (by omega) h (by omega) h (by omega) (by omega)]
    dsimp only
    frame_out
    exact first_gain _ _ _
  · intro t h i
    have ht : t.val < 32 := lt_of_lt_of_eq t.isLt N_0
    by_cases h2 : t.val % 32 = 31
    · rw [outsAt0_C m c t h (by omega) h (by omega) h (by omega) h2]
      dsimp only
      frame_out
      refine (later_gain _ _ _ _).trans ?_
      exact congrArg (· + _) (congrFun (Memref.IsWhole.read_unread (Memref.isWhole_whole cc0_scratch1) _) i)
    · rw [outsAt0_B m c t h (by omega) h (by omega) h (by omega) h2]
      dsimp only
      frame_out
      refine (later_gain _ _ _ _).trans ?_
      exact congrArg (· + _) (congrFun (Memref.IsWhole.read_unread (Memref.isWhole_whole cc0_scratch1) _) i)

/-- It runs over all positions. -/
theorem gain_at (h2 : t.val % 32 = 31) (p : Fin 1) (q : Fin 1024) : (outsAt0 m c t.val t.isLt).2.2.2.1 (ix2 p q) = ∑ i : Fin 8192, gainOf m c i q := by
  rw [out_gain m c t h2]
  refine (total_gain _ p q).trans (Eq.trans ?_ (Lanes.sum_lanes fun i => gainOf m c i q))
  refine Fin.sum_fin_congr fun l => (lanes_gain m c t h2 (ix2 l q)).trans ((zero_add _).trans ?_)
  exact (Fin.sum_fin_congr fun a => added_gain_at m c a l q)

/-- The bias's sum, written back by the last step: that of its lanes. -/
theorem out_bias (h2 : t.val % 32 = 31) : (outsAt0 m c t.val t.isLt).2.2.2.2.1 = k0_pay6 (outsAt0 m c t.val t.isLt).2.2.2.2.2.2.2 := by
  have ht : t.val < 32 := lt_of_lt_of_eq t.isLt N_0
  rw [outsAt0_C m c t (by omega) (by omega) (by omega) (by omega) (by omega) (by omega) h2]
  dsimp only
  frame_out

/-- Its lanes after the last step: all the steps' additions. -/
theorem lanes_bias (h2 : t.val % 32 = 31) (i : S8x1024.Idx) : (outsAt0 m c t.val t.isLt).2.2.2.2.2.2.2 i = 0 + ∑ a : Fin cfg0.N, addedBias m c a i := by
  have ht : t.val < 32 := lt_of_lt_of_eq t.isLt N_0
  refine Pipeline.eq_sum_fin_of_reset_step_apply_last (fun n h => (outsAt0 m c n h).2.2.2.2.2.2.2) 32 (fun _ => 0) (fun t i => addedBias m c t i) ?_ ?_
    (le_of_eq N_0) t ((show t.val + 1 = 32 by omega).trans N_0.symm) i
  · intro t h i
    have ht : t.val < 32 := lt_of_lt_of_eq t.isLt N_0
    rw [outsAt0_A m c t h (by omega) h (by omega) h (by omega) (by omega)]
    dsimp only
    frame_out
    exact first_bias _ _
  · intro t h i
    have ht : t.val < 32 := lt_of_lt_of_eq t.isLt N_0
    by_cases h2 : t.val % 32 = 31
    · rw [outsAt0_C m c t h (by omega) h (by omega) h (by omega) h2]
      dsimp only
      frame_out
      refine (later_bias _ _ _).trans ?_
      exact congrArg (· + _) (congrFun (Memref.IsWhole.read_unread (Memref.isWhole_whole cc0_scratch2) _) i)
    · rw [outsAt0_B m c t h (by omega) h (by omega) h (by omega) h2]
      dsimp only
      frame_out
      refine (later_bias _ _ _).trans ?_
      exact congrArg (· + _) (congrFun (Memref.IsWhole.read_unread (Memref.isWhole_whole cc0_scratch2) _) i)

/-- It runs over all positions. -/
theorem bias_at (h2 : t.val % 32 = 31) (p : Fin 1) (q : Fin 1024) : (outsAt0 m c t.val t.isLt).2.2.2.2.1 (ix2 p q) = ∑ i : Fin 8192, biasOf m c i q := by
  rw [out_bias m c t h2]
  refine (total_bias _ p q).trans (Eq.trans ?_ (Lanes.sum_lanes fun i => biasOf m c i q))
  refine Fin.sum_fin_congr fun l => (lanes_bias m c t h2 (ix2 l q)).trans ((zero_add _).trans ?_)
  exact (Fin.sum_fin_congr fun a => added_bias_at m c a l q)

end outs

/-- The gradient of the argument. -/
theorem grad_eq : (dats m 0 c).arrAt 6 cfg0.N = fun i : S8192x1024.Idx => gradOf m c (i 0) (i 1) := by
  refine (dats m 0 c).arrAt_eq_of_covers 6 _ (by decide +kernel) fun t hf z => ?_
  obtain ⟨-, -, -, -, -, -, e, -⟩ := index_t t
  have h0 : (z 0).val < 256 := (z 0).isLt
  have h1 : (z 1).val < 1024 := (z 1).isLt
  have key := step_grad m c t ⟨(z 0).val, h0⟩ ⟨(z 1).val, h1⟩
  have a0 : (win0_6.blk t).view.emb z 0 = (⟨t.val * 256 + (z 0).val, row_lt t ⟨(z 0).val, h0⟩⟩ : Fin 8192) := Fin.ext (by blk_simp [e])
  have a1 : (win0_6.blk t).view.emb z 1 = (⟨(z 1).val, h1⟩ : Fin 1024) := Fin.ext (by blk_simp [e])
  blk_simp
  rw [after0_6, (outs m c t).1]
  refine Eq.trans ?_ (key.trans ?_)
  · exact congrArg _ (funext fun a => match a with | ⟨0, _⟩ => rfl | ⟨1, _⟩ => rfl)
  · rw [a0, a1]

/-- Its narrow copy. -/
theorem small_eq : (dats m 0 c).arrAt 7 cfg0.N = fun i : S8192x1024.Idx => gradOf m c (i 0) (i 1) := by
  refine (dats m 0 c).arrAt_eq_of_covers 7 _ (by decide +kernel) fun t hf z => ?_
  obtain ⟨-, -, -, -, -, -, -, e, -⟩ := index_t t
  have h0 : (z 0).val < 256 := (z 0).isLt
  have h1 : (z 1).val < 1024 := (z 1).isLt
  have key := step_narrow m c t ⟨(z 0).val, h0⟩ ⟨(z 1).val, h1⟩
  have a0 : (win0_7.blk t).view.emb z 0 = (⟨t.val * 256 + (z 0).val, row_lt t ⟨(z 0).val, h0⟩⟩ : Fin 8192) := Fin.ext (by blk_simp [e])
  have a1 : (win0_7.blk t).view.emb z 1 = (⟨(z 1).val, h1⟩ : Fin 1024) := Fin.ext (by blk_simp [e])
  blk_simp
  rw [after0_7, (outs m c t).2]
  refine Eq.trans ?_ (key.trans ?_)
  · exact congrArg _ (funext fun a => match a with | ⟨0, _⟩ => rfl | ⟨1, _⟩ => rfl)
  · rw [a0, a1]

/-- The columns of the loss. -/
theorem loss_eq : (dats m 0 c).arrAt 8 cfg0.N = fun i : S1x1024.Idx => ∑ k : Fin 8192, lossOf m c k (i 1) := by
  refine (dats m 0 c).arrAt_eq_of_covers 8 _ (by decide +kernel) fun t hf z => ?_
  have h2 : t.val % 32 = 31 := (flush0_8 t).mp hf
  obtain ⟨-, -, -, -, -, -, -, -, e, -⟩ := index_t t
  have h0 : (z 0).val < 1 := (z 0).isLt
  have h1 : (z 1).val < 1024 := (z 1).isLt
  have key := loss_at m c t h2 ⟨(z 0).val, h0⟩ ⟨(z 1).val, h1⟩
  have a1 : (win0_8.blk t).view.emb z 1 = (⟨(z 1).val, h1⟩ : Fin 1024) := Fin.ext (by blk_simp [e])
  blk_simp
  rw [after0_8]
  refine Eq.trans ?_ (key.trans ?_)
  · exact congrArg _ (funext fun a => match a with | ⟨0, _⟩ => rfl | ⟨1, _⟩ => rfl)
  · rw [a1]

/-- The gain's gradient. -/
theorem gain_eq : (dats m 0 c).arrAt 9 cfg0.N = fun i : S1x1024.Idx => ∑ k : Fin 8192, gainOf m c k (i 1) := by
  refine (dats m 0 c).arrAt_eq_of_covers 9 _ (by decide +kernel) fun t hf z => ?_
  have h2 : t.val % 32 = 31 := (flush0_9 t).mp hf
  obtain ⟨-, -, -, -, -, -, -, -, -, e, -⟩ := index_t t
  have h0 : (z 0).val < 1 := (z 0).isLt
  have h1 : (z 1).val < 1024 := (z 1).isLt
  have key := gain_at m c t h2 ⟨(z 0).val, h0⟩ ⟨(z 1).val, h1⟩
  have a1 : (win0_9.blk t).view.emb z 1 = (⟨(z 1).val, h1⟩ : Fin 1024) := Fin.ext (by blk_simp [e])
  blk_simp
  rw [after0_9]
  refine Eq.trans ?_ (key.trans ?_)
  · exact congrArg _ (funext fun a => match a with | ⟨0, _⟩ => rfl | ⟨1, _⟩ => rfl)
  · rw [a1]

/-- The bias's gradient. -/
theorem bias_eq : (dats m 0 c).arrAt 10 cfg0.N = fun i : S1x1024.Idx => ∑ k : Fin 8192, biasOf m c k (i 1) := by
  refine (dats m 0 c).arrAt_eq_of_covers 10 _ (by decide +kernel) fun t hf z => ?_
  have h2 : t.val % 32 = 31 := (flush0_10 t).mp hf
  obtain ⟨-, -, -, -, -, -, -, -, -, -, e⟩ := index_t t
  have h0 : (z 0).val < 1 := (z 0).isLt
  have h1 : (z 1).val < 1024 := (z 1).isLt
  have key := bias_at m c t h2 ⟨(z 0).val, h0⟩ ⟨(z 1).val, h1⟩
  have a1 : (win0_10.blk t).view.emb z 1 = (⟨(z 1).val, h1⟩ : Fin 1024) := Fin.ext (by blk_simp [e])
  blk_simp
  rw [after0_10]
  refine Eq.trans ?_ (key.trans ?_)
  · exact congrArg _ (funext fun a => match a with | ⟨0, _⟩ => rfl | ⟨1, _⟩ => rfl)
  · rw [a1]

/-- On a row of reals, with a real gain, bias and target, the gradient times the gain is real. -/
theorem gained_real (f g₀ b₀ y₀ : Fin 1024 → EReal) (hf : ∀ k, ∃ r : ℝ, f k = r) (hg : ∀ k, ∃ r : ℝ, g₀ k = r) (hb : ∀ k, ∃ r : ℝ, b₀ k = r)
    (hy : ∀ k, ∃ r : ℝ, y₀ k = r) (k : Fin 1024) : ∃ r : ℝ, gained f g₀ b₀ y₀ k = r := by
  choose rf hrf using hf
  obtain ⟨rg, hrg⟩ := hg k
  obtain ⟨rb, hrb⟩ := hb k
  obtain ⟨ry, hry⟩ := hy k
  have hc : Ideal.ofBits .f32 0x3A800000#32 = ((1 / 1024 : ℝ) : EReal) := by
    simp [Ideal.ofBits, Ideal.ieee, -EReal.coe_mul]; norm_num
  rw [show f = fun k => (rf k : EReal) from funext hrf]
  unfold gained back off Norm.normed
  rw [Norm.dev_coe, Norm.scale_coe, hc, hrg, hrb, hry, ← EReal.coe_mul, ← EReal.coe_mul, ← EReal.coe_add, ← EReal.coe_sub, ← EReal.coe_mul, ← EReal.coe_mul]
  exact ⟨_, rfl⟩

/-- The two forms of the gradient agree: on a row with an infinite entry the scale is zero, and a row of reals gives a real gradient. -/
theorem same (f g₀ b₀ y₀ : Fin 1024 → EReal) (hg : ∀ k, ∃ r : ℝ, g₀ k = r) (hb : ∀ k, ∃ r : ℝ, b₀ k = r) (hy : ∀ k, ∃ r : ℝ, y₀ k = r) (j : Fin 1024) :
    Norm.chain f (gained f g₀ b₀ y₀) j = Norm.short f (gained f g₀ b₀ y₀) j := by
  by_cases h : ∃ i, f i = ⊥ ∨ f i = ⊤
  · obtain ⟨i, h⟩ := h
    exact Norm.inf_eq f _ i h j
  · refine Norm.chain_eq f _ (gained_real f g₀ b₀ y₀ (fun k => ?_) hg hb hy) j
    rcases hk : f k with _ | _ | r
    · exact absurd ⟨k, .inl hk⟩ h
    · exact absurd ⟨k, .inr hk⟩ h
    · exact ⟨_, rfl⟩

open Cert.FfnOutRefIdeal.Read in
/-- The kernel's results are the reference's, on the same arguments. -/
theorem values (h₀ : S8192x2816.Idx → EReal) (w₀ : S2816x1024.Idx → EReal) (x₀ : S8192x1024.Idx → EReal) (g₀ b₀ : S1x1024.Idx → EReal) (y₀ : S8192x1024.Idx → EReal)
    (eh : h₀ = m ((c : Thread nD τ).loc main_arg0)) (ew : w₀ = m ((c : Thread nD τ).loc main_arg1)) (ex : x₀ = m ((c : Thread nD τ).loc main_arg2))
    (eg : g₀ = m ((c : Thread nD τ).loc main_arg3)) (eb : b₀ = m ((c : Thread nD τ).loc main_arg4)) (ey : y₀ = m ((c : Thread nD τ).loc main_arg5))
    (hg : ∀ i, ∃ r : ℝ, g m c i = r) (hb : ∀ i, ∃ r : ℝ, b m c i = r) (hy : ∀ i, ∃ r : ℝ, y m c i = r) :
    val_main_v78 (F := Ideal) h₀ w₀ x₀ g₀ b₀ y₀ = (dats m 0 c).arrAt 6 cfg0.N ∧ val_main_v105 (F := Ideal) h₀ w₀ x₀ g₀ b₀ y₀ = (dats m 0 c).arrAt 7 cfg0.N
      ∧ val_main_v104 (F := Ideal) h₀ w₀ x₀ g₀ b₀ y₀ = (dats m 0 c).arrAt 8 cfg0.N ∧ val_main_v52 (F := Ideal) h₀ w₀ x₀ g₀ b₀ y₀ = (dats m 0 c).arrAt 9 cfg0.N
      ∧ val_main_v49 (F := Ideal) h₀ w₀ x₀ g₀ b₀ y₀ = (dats m 0 c).arrAt 10 cfg0.N := by
  subst eh ew ex eg eb ey
  have at_ix (i : S8192x1024.Idx) : i = ix2 (i 0) (i 1) := funext fun a => match a with | ⟨0, _⟩ => rfl | ⟨1, _⟩ => rfl
  have at_row (i : S1x1024.Idx) : i = ix2 (i 0) (i 1) := funext fun a => match a with | ⟨0, _⟩ => rfl | ⟨1, _⟩ => rfl
  have eq (i : Fin 8192) (j : Fin 1024) := same (rowOf m c i) (one (g m c)) (one (b m c)) (aim (y m c) i) (fun _ => hg _) (fun _ => hb _) (fun _ => hy _) j
  rw [grad_eq, small_eq, loss_eq, gain_eq, bias_eq]
  refine ⟨funext fun i => ?_, funext fun i => ?_, funext fun i => ?_, funext fun i => ?_, funext fun i => ?_⟩
  · exact ((congrArg _ (at_ix i)).trans (ref_grad _ _ _ _ _ _ (i 0) (i 1))).trans (eq (i 0) (i 1))
  · exact ((congrArg _ (at_ix i)).trans (ref_small _ _ _ _ _ _ (i 0) (i 1))).trans (eq (i 0) (i 1))
  · exact (congrArg _ (at_row i)).trans (ref_loss _ _ _ _ _ _ (i 0) (i 1))
  · exact (congrArg _ (at_row i)).trans (ref_gain _ _ _ _ _ _ (i 0) (i 1))
  · exact (congrArg _ (at_row i)).trans (ref_bias _ _ _ _ _ _ (i 0) (i 1))

/-- The precondition's side condition. -/
theorem facts : Cert.Pre_finite_out.Facts := ⟨by decide, by decide⟩

/-- Under the precondition every entry of the gain, the bias and the target is a real. -/
theorem reals (h₀ : S8192x2816.Idx → EReal) (w₀ : S2816x1024.Idx → EReal) (x₀ : S8192x1024.Idx → EReal) (g₀ b₀ : S1x1024.Idx → EReal) (y₀ : S8192x1024.Idx → EReal)
    (hp : (@Cert.Pre_finite_out.fn facts Ideal _ h₀ w₀ x₀ g₀ b₀ y₀).1 = (fun _ => 1#1) ∧ (@Cert.Pre_finite_out.fn facts Ideal _ h₀ w₀ x₀ g₀ b₀ y₀).2.1 = (fun _ => 1#1)
      ∧ (@Cert.Pre_finite_out.fn facts Ideal _ h₀ w₀ x₀ g₀ b₀ y₀).2.2 = (fun _ => 1#1)) :
    (∀ i, ∃ r : ℝ, g₀ i = r) ∧ (∀ i, ∃ r : ℝ, b₀ i = r) ∧ ∀ i, ∃ r : ℝ, y₀ i = r := by
  refine ⟨fun i => real_of_bit _ ?_, fun i => real_of_bit _ ?_, fun i => real_of_bit _ ?_⟩
  · have hi := congrFun hp.1 i
    revert hi
    pointwise [Cert.Pre_finite_out.fn]
    rw [inf_f32, abs_at]
    exact id
  · have hi := congrFun hp.2.1 i
    revert hi
    pointwise [Cert.Pre_finite_out.fn]
    rw [inf_f32, abs_at]
    exact id
  · have hi := congrFun hp.2.2 i
    revert hi
    pointwise [Cert.Pre_finite_out.fn]
    rw [inf_f32, abs_at]
    exact id

theorem results_equal : Cert.algebraic_FfnOutIdeal_FfnOutRefIdeal_pre_finite_out (hFfnOutIdeal := Cert.FfnOutIdeal.Gen.facts)
    (hFfnOutRefIdeal := Cert.FfnOutRefIdeal.Gen.facts) (hPre_finite_out := facts) := by
  intro m g' m' g'' hpre hagree
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, run_blocks m g',
    (θ_run Cert.FfnOutRefIdeal.defs _ _).mono (fun r h c => ?_) (Cert.FfnOutRefIdeal.Value.run (F := Ideal) m' g'')⟩
  obtain ⟨h6, h7, h8, h9, h10, kept⟩ := h c
  obtain ⟨e0, e1, e2, e3, e4, e5⟩ := hagree c
  have hr := reals _ _ _ _ _ _ (hpre c)
  have key := values m c _ _ _ _ _ _ e0 e1 e2 e3 e4 e5 hr.1 hr.2.1 hr.2.2
  exact ⟨(h6.trans (Cert.FfnOutRefIdeal.Read.val_main_v78_eq (F := Ideal) _ _)).trans key.1,
    (h7.trans (Cert.FfnOutRefIdeal.Read.val_main_v105_eq (F := Ideal) _ _)).trans key.2.1,
    (h8.trans (Cert.FfnOutRefIdeal.Read.val_main_v104_eq (F := Ideal) _ _)).trans key.2.2.1,
    (h9.trans (Cert.FfnOutRefIdeal.Read.val_main_v52_eq (F := Ideal) _ _)).trans key.2.2.2.1,
    (h10.trans (Cert.FfnOutRefIdeal.Read.val_main_v49_eq (F := Ideal) _ _)).trans key.2.2.2.2, kept⟩

end Cert.FfnOutIdeal.Val

end
-- ==== Proof.Adam.lean ====
module

public import Idealize.ShloMosaic.Lib.Pointwise
public import Idealize.ShloMosaic.Lib.Pipeline.ValueKit.Tiles

@[expose] public section

noncomputable section

/-! One entry of an AdamW step, and the rows of one part in a block of eight parts. -/

namespace Cert.Adam

open Idealize.ShloMosaic

/-- The new first moment. -/
def first (g m : EReal) : EReal := Ideal.ofBits FTy.f32 0x3F666666#32 * m + Ideal.ofBits FTy.f32 0x3DCCCCCD#32 * g

/-- The new second moment. -/
def second (g v : EReal) : EReal := Ideal.ofBits FTy.f32 0x3F7FBE77#32 * v + Ideal.ofBits FTy.f32 0x3A83126F#32 * (g * g)

/-- The change of the weight. -/
def change (w g m v : EReal) : EReal :=
  Ideal.ofBits FTy.f32 0xBA83126F#32 * (Ideal.div (Ideal.div (first g m) (Ideal.ofBits FTy.f32 0x3F26BD02#32))
      (Ideal.sqrt (Ideal.div (second g v) (Ideal.ofBits FTy.f32 0x3C231ACC#32)) + Ideal.ofBits FTy.f32 0x322BCC77#32)
    + Ideal.ofBits FTy.f32 0x3C23D70A#32 * w)

/-- A load of one part reads that part's entries. -/
theorem part_at {n k : ℕ} {e : EltTy} (X : Vec Ideal ⟨3, ![8, n, k]⟩ e) (s : Fin 8)
    (inb : ∀ a, (![s.val, 0, 0] : Fin 3 → ℕ) a + (⟨3, ![1, n, k]⟩ : Shape).size a ≤ (⟨3, ![8, n, k]⟩ : Shape).size a) (p : Fin n) (q : Fin k) :
    View.ld X (Rect.unit ![s.val, 0, 0] (⟨3, ![1, n, k]⟩ : Shape).size inb) (ix3 0 p q) = X (ix3 s p q) :=
  View.ld_unit_apply_of X _ _ inb _ _ (by
    intro a; fin_cases a
    · rfl
    · exact (Nat.zero_add _).symm
    · exact (Nat.zero_add _).symm)

/-- The sum of the eight parts. -/
def total {n k : ℕ} (x : (⟨3, ![8, n, k]⟩ : Shape).Idx → EReal) (i : Fin n) (j : Fin k) : EReal := ∑ d : Fin 8, x (ix3 d i j)

/-- The new moments and the change, from the parts. -/
def firstOf {n k : ℕ} (x : (⟨3, ![8, n, k]⟩ : Shape).Idx → EReal) (u : (⟨2, ![n, k]⟩ : Shape).Idx → EReal) (i : Fin n) (j : Fin k) : EReal :=
  first (total x i j) (u (ix2 i j))
def secondOf {n k : ℕ} (x : (⟨3, ![8, n, k]⟩ : Shape).Idx → EReal) (v : (⟨2, ![n, k]⟩ : Shape).Idx → EReal) (i : Fin n) (j : Fin k) : EReal :=
  second (total x i j) (v (ix2 i j))
def changeOf {n k : ℕ} (x : (⟨3, ![8, n, k]⟩ : Shape).Idx → EReal) (w u v : (⟨2, ![n, k]⟩ : Shape).Idx → EReal) (i : Fin n) (j : Fin k) : EReal :=
  change (w (ix2 i j)) (total x i j) (u (ix2 i j)) (v (ix2 i j))

theorem at_ix {n k : ℕ} (i : (⟨2, ![n, k]⟩ : Shape).Idx) : i = ix2 (i 0) (i 1) := funext fun a => match a with | ⟨0, _⟩ => rfl | ⟨1, _⟩ => rfl

end Cert.Adam

end
-- ==== Proof.AdamInVal.lean ====
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the input projection: blocks of 256 rows, the gradient summed from eight parts. -/

namespace Cert.AdamInIdeal.Val

open Cert.AdamInIdeal Cert.AdamInIdeal.Gen Cert.AdamInIdeal.Value Idealize.ShloMosaic Idealize.ShloMosaic.TcCoe Cert.Adam

section reference

open Cert.AdamInRefIdeal.Read

variable (x : S8x1024x832.Idx → EReal) (w u v : S1024x832.Idx → EReal) (i : Fin 1024) (j : Fin 832)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x256x832 .bf16) (w u v : Vec Ideal S256x832 .f32) (p : Fin 256) (q : Fin 832) :
    k0_pay5 x w u v (ix2 p q) = ∑ d : Fin 8, x (ix3 d p q) := by
  have h (s : Fin 8) (inb) := part_at (n := 256) (k := 832) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x256x832_S1x256x832_0_0_0) (h 1 inb_S8x256x832_S1x256x832_1_0_0)) (h 2 inb_S8x256x832_S1x256x832_2_0_0)) (h 3 inb_S8x256x832_S1x256x832_3_0_0))
    (h 4 inb_S8x256x832_S1x256x832_4_0_0)) (h 5 inb_S8x256x832_S1x256x832_5_0_0)) (h 6 inb_S8x256x832_S1x256x832_6_0_0)) (h 7 inb_S8x256x832_S1x256x832_7_0_0))
  unfold k0_pay5
  pointwise [k0_pay4]

theorem first_at (f u : Vec Ideal S256x832 .f32) (p : Fin 256) (q : Fin 832) : k0_pay1 f u (ix2 p q) = first (f (ix2 p q)) (u (ix2 p q)) := by
  pointwise [k0_pay1]
  rfl

theorem second_at (f v : Vec Ideal S256x832 .f32) (p : Fin 256) (q : Fin 832) : k0_pay2 f v (ix2 p q) = second (f (ix2 p q)) (v (ix2 p q)) := by
  pointwise [k0_pay2]
  rfl

theorem change_at (f w u v : Vec Ideal S256x832 .f32) (p : Fin 256) (q : Fin 832) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x1024x832.Idx → EReal := m ((c : Thread nD τ).loc main_arg0)
def w : S1024x832.Idx → EReal := m ((c : Thread nD τ).loc main_arg1)
def u : S1024x832.Idx → EReal := m ((c : Thread nD τ).loc main_arg2)
def v : S1024x832.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 256) : Fin 1024 := ⟨t.val * 256 + p.val, by
  have ht : t.val < 4 := lt_of_lt_of_eq t.isLt N_0
  omega⟩

/-- The sum a step forms. -/
def sum : FVec Ideal S256x832 .f32 := k0_pay5 (iblk m c 0 t) (iblk m c 1 t) (iblk m c 2 t) (iblk m c 3 t)

/-- What a step stores. -/
theorem step (p : Fin 256) (q : Fin 832) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S1024x832.Idx => total (x m c) (i 0) (i 1))
    ∧ (dats m 0 c).arrAt 5 cfg0.N = (fun i : S1024x832.Idx => changeOf (x m c) (w m c) (u m c) (v m c) (i 0) (i 1))
    ∧ (dats m 0 c).arrAt 6 cfg0.N = (fun i : S1024x832.Idx => firstOf (x m c) (u m c) (i 0) (i 1))
    ∧ (dats m 0 c).arrAt 7 cfg0.N = (fun i : S1024x832.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 256 := (z 0).isLt
    have h1 : (z 1).val < 832 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamInRefIdeal.Read in
/-- The kernel's results are the reference's, on the same arguments. -/
theorem values (x₀ : S8x1024x832.Idx → EReal) (w₀ u₀ v₀ : S1024x832.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamInIdeal_AdamInRefIdeal (hAdamInIdeal := Cert.AdamInIdeal.Gen.facts) (hAdamInRefIdeal := Cert.AdamInRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamInRefIdeal.defs _ _).mono (fun r h c => ?_) (Cert.AdamInRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamInRefIdeal.Read.val_main_v1_eq (F := Ideal) _)).trans key.1,
    (hd.trans (Cert.AdamInRefIdeal.Read.val_main_v25_eq (F := Ideal) _ _ _ _)).trans key.2.1,
    (hu.trans (Cert.AdamInRefIdeal.Read.val_main_v6_eq (F := Ideal) _ _)).trans key.2.2.1,
    (hv.trans (Cert.AdamInRefIdeal.Read.val_main_v12_eq (F := Ideal) _ _)).trans key.2.2.2, kept⟩

end Cert.AdamInIdeal.Val

end
-- ==== Proof.AdamSbOVal.lean ====
module

public import proofs.«01_k».proof.Defs
public import proofs.«01_k».proof.Proof.Gen.AdamSbOIdeal.Value
public import proofs.«01_k».proof.Proof.Gen.AdamSbORefIdeal.Run
public import proofs.«01_k».proof.Proof.Gen.AdamSbORefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the stick-breaking output's weight: blocks of 256 rows, the gradient summed from eight parts. -/

namespace Cert.AdamSbOIdeal.Val

open Cert.AdamSbOIdeal Cert.AdamSbOIdeal.Gen Cert.AdamSbOIdeal.Value Idealize.ShloMosaic Idealize.ShloMosaic.TcCoe Cert.Adam

section reference

open Cert.AdamSbORefIdeal.Read

variable (x : S8x512x128.Idx → EReal) (w u v : S512x128.Idx → EReal) (i : Fin 512) (j : Fin 128)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x256x128 .bf16) (w u v : Vec Ideal S256x128 .f32) (p : Fin 256) (q : Fin 128) :
    k0_pay5 x w u v (ix2 p q) = ∑ d : Fin 8, x (ix3 d p q) := by
  have h (s : Fin 8) (inb) := part_at (n := 256) (k := 128) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x256x128_S1x256x128_0_0_0) (h 1 inb_S8x256x128_S1x256x128_1_0_0)) (h 2 inb_S8x256x128_S1x256x128_2_0_0)) (h 3 inb_S8x256x128_S1x256x128_3_0_0))
    (h 4 inb_S8x256x128_S1x256x128_4_0_0)) (h 5 inb_S8x256x128_S1x256x128_5_0_0)) (h 6 inb_S8x256x128_S1x256x128_6_0_0)) (h 7 inb_S8x256x128_S1x256x128_7_0_0))
  unfold k0_pay5
  pointwise [k0_pay4]

theorem first_at (f u : Vec Ideal S256x128 .f32) (p : Fin 256) (q : Fin 128) : k0_pay1 f u (ix2 p q) = first (f (ix2 p q)) (u (ix2 p q)) := by
  pointwise [k0_pay1]
  rfl

theorem second_at (f v : Vec Ideal S256x128 .f32) (p : Fin 256) (q : Fin 128) : k0_pay2 f v (ix2 p q) = second (f (ix2 p q)) (v (ix2 p q)) := by
  pointwise [k0_pay2]
  rfl

theorem change_at (f w u v : Vec Ideal S256x128 .f32) (p : Fin 256) (q : Fin 128) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x512x128.Idx → EReal := m ((c : Thread nD τ).loc main_arg0)
def w : S512x128.Idx → EReal := m ((c : Thread nD τ).loc main_arg1)
def u : S512x128.Idx → EReal := m ((c : Thread nD τ).loc main_arg2)
def v : S512x128.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 256) : Fin 512 := ⟨t.val * 256 + p.val, by
  have ht : t.val < 2 := lt_of_lt_of_eq t.isLt N_0
  omega⟩

/-- The sum a step forms. -/
def sum : FVec Ideal S256x128 .f32 := k0_pay5 (iblk m c 0 t) (iblk m c 1 t) (iblk m c 2 t) (iblk m c 3 t)

/-- What a step stores. -/
theorem step (p : Fin 256) (q : Fin 128) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S512x128.Idx => total (x m c) (i 0) (i 1))
    ∧ (dats m 0 c).arrAt 5 cfg0.N = (fun i : S512x128.Idx => changeOf (x m c) (w m c) (u m c) (v m c) (i 0) (i 1))
    ∧ (dats m 0 c).arrAt 6 cfg0.N = (fun i : S512x128.Idx => firstOf (x m c) (u m c) (i 0) (i 1))
    ∧ (dats m 0 c).arrAt 7 cfg0.N = (fun i : S512x128.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 256 := (z 0).isLt
    have h1 : (z 1).val < 128 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamSbORefIdeal.Read in
/-- The kernel's results are the reference's, on the same arguments. -/
theorem values (x₀ : S8x512x128.Idx → EReal) (w₀ u₀ v₀ : S512x128.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamSbOIdeal_AdamSbORefIdeal (hAdamSbOIdeal := Cert.AdamSbOIdeal.Gen.facts) (hAdamSbORefIdeal := Cert.AdamSbORefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamSbORefIdeal.defs _ _).mono (fun r h c => ?_) (Cert.AdamSbORefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamSbORefIdeal.Read.val_main_v1_eq (F := Ideal) _)).trans key.1,
    (hd.trans (Cert.AdamSbORefIdeal.Read.val_main_v25_eq (F := Ideal) _ _ _ _)).trans key.2.1,
    (hu.trans (Cert.AdamSbORefIdeal.Read.val_main_v6_eq (F := Ideal) _ _)).trans key.2.2.1,
    (hv.trans (Cert.AdamSbORefIdeal.Read.val_main_v12_eq (F := Ideal) _ _)).trans key.2.2.2, kept⟩

end Cert.AdamSbOIdeal.Val

end
-- ==== Proof.AdamRowsVal.lean ====
module

public import proofs.«01_k».proof.Defs
public import proofs.«01_k».proof.Proof.Gen.AdamRowsIdeal.Value
public import proofs.«01_k».proof.Proof.Gen.AdamRowsRefIdeal.Run
public import proofs.«01_k».proof.Proof.Gen.AdamRowsRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the four weights that are sharded by rows of 1024: blocks of 128 rows, the gradient summed from eight parts. -/

namespace Cert.AdamRowsIdeal.Val

open Cert.AdamRowsIdeal Cert.AdamRowsIdeal.Gen Cert.AdamRowsIdeal.Value Idealize.ShloMosaic Idealize.ShloMosaic.TcCoe Cert.Adam

section reference

open Cert.AdamRowsRefIdeal.Read

variable (x : S8x128x1024.Idx → EReal) (w u v : S128x1024.Idx → EReal) (i : Fin 128) (j : Fin 1024)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x128x1024 .bf16) (w u v : Vec Ideal S128x1024 .f32) (p : Fin 128) (q : Fin 1024) :
    k0_pay5 x w u v (ix2 p q) = ∑ d : Fin 8, x (ix3 d p q) := by
  have h (s : Fin 8) (inb) := part_at (n := 128) (k := 1024) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x128x1024_S1x128x1024_0_0_0) (h 1 inb_S8x128x1024_S1x128x1024_1_0_0)) (h 2 inb_S8x128x1024_S1x128x1024_2_0_0)) (h 3 inb_S8x128x1024_S1x128x1024_3_0_0))
    (h 4 inb_S8x128x1024_S1x128x1024_4_0_0)) (h 5 inb_S8x128x1024_S1x128x1024_5_0_0)) (h 6 inb_S8x128x1024_S1x128x1024_6_0_0)) (h 7 inb_S8x128x1024_S1x128x1024_7_0_0))
  unfold k0_pay5
  pointwise [k0_pay4]

theorem first_at (f u : Vec Ideal S128x1024 .f32) (p : Fin 128) (q : Fin 1024) : k0_pay1 f u (ix2 p q) = first (f (ix2 p q)) (u (ix2 p q)) := by
  pointwise [k0_pay1]
  rfl

theorem second_at (f v : Vec Ideal S128x1024 .f32) (p : Fin 128) (q : Fin 1024) : k0_pay2 f v (ix2 p q) = second (f (ix2 p q)) (v (ix2 p q)) := by
  pointwise [k0_pay2]
  rfl

theorem change_at (f w u v : Vec Ideal S128x1024 .f32) (p : Fin 128) (q : Fin 1024) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x128x1024.Idx → EReal := m ((c : Thread nD τ).loc main_arg0)
def w : S128x1024.Idx → EReal := m ((c : Thread nD τ).loc main_arg1)
def u : S128x1024.Idx → EReal := m ((c : Thread nD τ).loc main_arg2)
def v : S128x1024.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 128) : Fin 128 := ⟨t.val * 128 + p.val, by
  have ht : t.val < 1 := lt_of_lt_of_eq t.isLt N_0
  omega⟩

/-- The sum a step forms. -/
def sum : FVec Ideal S128x1024 .f32 := k0_pay5 (iblk m c 0 t) (iblk m c 1 t) (iblk m c 2 t) (iblk m c 3 t)

/-- What a step stores. -/
theorem step (p : Fin 128) (q : Fin 1024) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S128x1024.Idx => total (x m c) (i 0) (i 1))
    ∧ (dats m 0 c).arrAt 5 cfg0.N = (fun i : S128x1024.Idx => changeOf (x m c) (w m c) (u m c) (v m c) (i 0) (i 1))
    ∧ (dats m 0 c).arrAt 6 cfg0.N = (fun i : S128x1024.Idx => firstOf (x m c) (u m c) (i 0) (i 1))
    ∧ (dats m 0 c).arrAt 7 cfg0.N = (fun i : S128x1024.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 128 := (z 0).isLt
    have h1 : (z 1).val < 1024 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamRowsRefIdeal.Read in
/-- The kernel's results are the reference's, on the same arguments. -/
theorem values (x₀ : S8x128x1024.Idx → EReal) (w₀ u₀ v₀ : S128x1024.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamRowsIdeal_AdamRowsRefIdeal (hAdamRowsIdeal := Cert.AdamRowsIdeal.Gen.facts) (hAdamRowsRefIdeal := Cert.AdamRowsRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamRowsRefIdeal.defs _ _).mono (fun r h c => ?_) (Cert.AdamRowsRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamRowsRefIdeal.Read.val_main_v1_eq (F := Ideal) _)).trans key.1,
    (hd.trans (Cert.AdamRowsRefIdeal.Read.val_main_v25_eq (F := Ideal) _ _ _ _)).trans key.2.1,
    (hu.trans (Cert.AdamRowsRefIdeal.Read.val_main_v6_eq (F := Ideal) _ _)).trans key.2.2.1,
    (hv.trans (Cert.AdamRowsRefIdeal.Read.val_main_v12_eq (F := Ideal) _ _)).trans key.2.2.2, kept⟩

end Cert.AdamRowsIdeal.Val

end
-- ==== Proof.AdamMemKvVal.lean ====
module

public import proofs.«01_k».proof.Defs
public import proofs.«01_k».proof.Proof.Gen.AdamMemKvIdeal.Value
public import proofs.«01_k».proof.Proof.Gen.AdamMemKvRefIdeal.Run
public import proofs.«01_k».proof.Proof.Gen.AdamMemKvRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the memory's key and value weight: blocks of 256 rows, the gradient summed from eight parts. -/

namespace Cert.AdamMemKvIdeal.Val

open Cert.AdamMemKvIdeal Cert.AdamMemKvIdeal.Gen Cert.AdamMemKvIdeal.Value Idealize.ShloMosaic Idealize.ShloMosaic.TcCoe Cert.Adam

section reference

open Cert.AdamMemKvRefIdeal.Read

variable (x : S8x1024x256.Idx → EReal) (w u v : S1024x256.Idx → EReal) (i : Fin 1024) (j : Fin 256)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x256x256 .bf16) (w u v : Vec Ideal S256x256 .f32) (p : Fin 256) (q : Fin 256) :
    k0_pay5 x w u v (ix2 p q) = ∑ d : Fin 8, x (ix3 d p q) := by
  have h (s : Fin 8) (inb) := part_at (n := 256) (k := 256) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x256x256_S1x256x256_0_0_0) (h 1 inb_S8x256x256_S1x256x256_1_0_0)) (h 2 inb_S8x256x256_S1x256x256_2_0_0)) (h 3 inb_S8x256x256_S1x256x256_3_0_0))
    (h 4 inb_S8x256x256_S1x256x256_4_0_0)) (h 5 inb_S8x256x256_S1x256x256_5_0_0)) (h 6 inb_S8x256x256_S1x256x256_6_0_0)) (h 7 inb_S8x256x256_S1x256x256_7_0_0))
  unfold k0_pay5
  pointwise [k0_pay4]

theorem first_at (f u : Vec Ideal S256x256 .f32) (p : Fin 256) (q : Fin 256) : k0_pay1 f u (ix2 p q) = first (f (ix2 p q)) (u (ix2 p q)) := by
  pointwise [k0_pay1]
  rfl

theorem second_at (f v : Vec Ideal S256x256 .f32) (p : Fin 256) (q : Fin 256) : k0_pay2 f v (ix2 p q) = second (f (ix2 p q)) (v (ix2 p q)) := by
  pointwise [k0_pay2]
  rfl

theorem change_at (f w u v : Vec Ideal S256x256 .f32) (p : Fin 256) (q : Fin 256) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x1024x256.Idx → EReal := m ((c : Thread nD τ).loc main_arg0)
def w : S1024x256.Idx → EReal := m ((c : Thread nD τ).loc main_arg1)
def u : S1024x256.Idx → EReal := m ((c : Thread nD τ).loc main_arg2)
def v : S1024x256.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 256) : Fin 1024 := ⟨t.val * 256 + p.val, by
  have ht : t.val < 4 := lt_of_lt_of_eq t.isLt N_0
  omega⟩

/-- The sum a step forms. -/
def sum : FVec Ideal S256x256 .f32 := k0_pay5 (iblk m c 0 t) (iblk m c 1 t) (iblk m c 2 t) (iblk m c 3 t)

/-- What a step stores. -/
theorem step (p : Fin 256) (q : Fin 256) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S1024x256.Idx => total (x m c) (i 0) (i 1))
    ∧ (dats m 0 c).arrAt 5 cfg0.N = (fun i : S1024x256.Idx => changeOf (x m c) (w m c) (u m c) (v m c) (i 0) (i 1))
    ∧ (dats m 0 c).arrAt 6 cfg0.N = (fun i : S1024x256.Idx => firstOf (x m c) (u m c) (i 0) (i 1))
    ∧ (dats m 0 c).arrAt 7 cfg0.N = (fun i : S1024x256.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 256 := (z 0).isLt
    have h1 : (z 1).val < 256 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamMemKvRefIdeal.Read in
/-- The kernel's results are the reference's, on the same arguments. -/
theorem values (x₀ : S8x1024x256.Idx → EReal) (w₀ u₀ v₀ : S1024x256.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamMemKvIdeal_AdamMemKvRefIdeal (hAdamMemKvIdeal := Cert.AdamMemKvIdeal.Gen.facts) (hAdamMemKvRefIdeal := Cert.AdamMemKvRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamMemKvRefIdeal.defs _ _).mono (fun r h c => ?_) (Cert.AdamMemKvRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamMemKvRefIdeal.Read.val_main_v1_eq (F := Ideal) _)).trans key.1,
    (hd.trans (Cert.AdamMemKvRefIdeal.Read.val_main_v25_eq (F := Ideal) _ _ _ _)).trans key.2.1,
    (hu.trans (Cert.AdamMemKvRefIdeal.Read.val_main_v6_eq (F := Ideal) _ _)).trans key.2.2.1,
    (hv.trans (Cert.AdamMemKvRefIdeal.Read.val_main_v12_eq (F := Ideal) _ _)).trans key.2.2.2, kept⟩

end Cert.AdamMemKvIdeal.Val

end
-- ==== Proof.AdamFfnInVal.lean ====
module

public import proofs.«01_k».proof.Defs
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the FFN's first weight: blocks of 256 rows, the gradient summed from eight parts. -/

namespace Cert.AdamFfnInIdeal.Val

open Cert.AdamFfnInIdeal Cert.AdamFfnInIdeal.Gen Cert.AdamFfnInIdeal.Value Idealize.ShloMosaic Idealize.ShloMosaic.TcCoe Cert.Adam

section reference

open Cert.AdamFfnInRefIdeal.Read

variable (x : S8x1024x704.Idx → EReal) (w u v : S1024x704.Idx → EReal) (i : Fin 1024) (j : Fin 704)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x256x704 .bf16) (w u v : Vec Ideal S256x704 .f32) (p : Fin 256) (q : Fin 704) :
    k0_pay5 x w u v (ix2 p q) = ∑ d : Fin 8, x (ix3 d p q) := by
  have h (s : Fin 8) (inb) := part_at (n := 256) (k := 704) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x256x704_S1x256x704_0_0_0) (h 1 inb_S8x256x704_S1x256x704_1_0_0)) (h 2 inb_S8x256x704_S1x256x704_2_0_0)) (h 3 inb_S8x256x704_S1x256x704_3_0_0))
    (h 4 inb_S8x256x704_S1x256x704_4_0_0)) (h 5 inb_S8x256x704_S1x256x704_5_0_0)) (h 6 inb_S8x256x704_S1x256x704_6_0_0)) (h 7 inb_S8x256x704_S1x256x704_7_0_0))
  unfold k0_pay5
  pointwise [k0_pay4]

theorem first_at (f u : Vec Ideal S256x704 .f32) (p : Fin 256) (q : Fin 704) : k0_pay1 f u (ix2 p q) = first (f (ix2 p q)) (u (ix2 p q)) := by
  pointwise [k0_pay1]
  rfl

theorem second_at (f v : Vec Ideal S256x704 .f32) (p : Fin 256) (q : Fin 704) : k0_pay2 f v (ix2 p q) = second (f (ix2 p q)) (v (ix2 p q)) := by
  pointwise [k0_pay2]
  rfl

theorem change_at (f w u v : Vec Ideal S256x704 .f32) (p : Fin 256) (q : Fin 704) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x1024x704.Idx → EReal := m ((c : Thread nD τ).loc main_arg0)
def w : S1024x704.Idx → EReal := m ((c : Thread nD τ).loc main_arg1)
def u : S1024x704.Idx → EReal := m ((c : Thread nD τ).loc main_arg2)
def v : S1024x704.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 256) : Fin 1024 := ⟨t.val * 256 + p.val, by
  have ht : t.val < 4 := lt_of_lt_of_eq t.isLt N_0
  omega⟩

/-- The sum a step forms. -/
def sum : FVec Ideal S256x704 .f32 := k0_pay5 (iblk m c 0 t) (iblk m c 1 t) (iblk m c 2 t) (iblk m c 3 t)

/-- What a step stores. -/
theorem step (p : Fin 256) (q : Fin 704) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S1024x704.Idx => total (x m c) (i 0) (i 1))
    ∧ (dats m 0 c).arrAt 5 cfg0.N = (fun i : S1024x704.Idx => changeOf (x m c) (w m c) (u m c) (v m c) (i 0) (i 1))
    ∧ (dats m 0 c).arrAt 6 cfg0.N = (fun i : S1024x704.Idx => firstOf (x m c) (u m c) (i 0) (i 1))
    ∧ (dats m 0 c).arrAt 7 cfg0.N = (fun i : S1024x704.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 256 := (z 0).isLt
    have h1 : (z 1).val < 704 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamFfnInRefIdeal.Read in
/-- The kernel's results are the reference's, on the same arguments. -/
theorem values (x₀ : S8x1024x704.Idx → EReal) (w₀ u₀ v₀ : S1024x704.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamFfnInIdeal_AdamFfnInRefIdeal (hAdamFfnInIdeal := Cert.AdamFfnInIdeal.Gen.facts) (hAdamFfnInRefIdeal := Cert.AdamFfnInRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamFfnInRefIdeal.defs _ _).mono (fun r h c => ?_) (Cert.AdamFfnInRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamFfnInRefIdeal.Read.val_main_v1_eq (F := Ideal) _)).trans key.1,
    (hd.trans (Cert.AdamFfnInRefIdeal.Read.val_main_v25_eq (F := Ideal) _ _ _ _)).trans key.2.1,
    (hu.trans (Cert.AdamFfnInRefIdeal.Read.val_main_v6_eq (F := Ideal) _ _)).trans key.2.2.1,
    (hv.trans (Cert.AdamFfnInRefIdeal.Read.val_main_v12_eq (F := Ideal) _ _)).trans key.2.2.2, kept⟩

end Cert.AdamFfnInIdeal.Val

end
-- ==== Proof.AdamFfnOutVal.lean ====
module

public import proofs.«01_k».proof.Defs
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the FFN's second weight: blocks of 176 rows, the gradient summed from eight parts. -/

namespace Cert.AdamFfnOutIdeal.Val

open Cert.AdamFfnOutIdeal Cert.AdamFfnOutIdeal.Gen Cert.AdamFfnOutIdeal.Value Idealize.ShloMosaic Idealize.ShloMosaic.TcCoe Cert.Adam

section reference

open Cert.AdamFfnOutRefIdeal.Read

variable (x : S8x352x1024.Idx → EReal) (w u v : S352x1024.Idx → EReal) (i : Fin 352) (j : Fin 1024)

theorem ref_total : val_main_v1 (F := Ideal) x (ix2 i j) = total x i j := by
  pointwise [val_main_v1, val_main_v0, val_main_cst]
  rfl

theorem ref_first : val_main_v6 (F := Ideal) x u (ix2 i j) = firstOf x u i j := by
  unfold val_main_v6 val_main_v5 firstOf first
  rw [← ref_total]
  generalize val_main_v1 (F := Ideal) x = f
  pointwise [val_main_v4, val_main_v3, val_main_v2, val_main_cst_0, val_main_cst_1]

theorem ref_second : val_main_v12 (F := Ideal) x v (ix2 i j) = secondOf x v i j := by
  unfold val_main_v12 val_main_v11 val_main_v9 secondOf second
  rw [← ref_total]
  generalize val_main_v1 (F := Ideal) x = f
  pointwise [val_main_v10, val_main_v8, val_main_v7, val_main_cst_2, val_main_cst_3]

theorem ref_change : val_main_v25 (F := Ideal) x w u v (ix2 i j) = changeOf x w u v i j := by
  unfold val_main_v25 val_main_v23 val_main_v20 val_main_v19 val_main_v17 val_main_v16 val_main_v14 changeOf change
  rw [show first _ _ = _ from (ref_first x u i j).symm, show second _ _ = _ from (ref_second x v i j).symm]
  generalize val_main_v6 (F := Ideal) x u = f
  generalize val_main_v12 (F := Ideal) x v = g
  pointwise [val_main_v24, val_main_v22, val_main_v21, val_main_v18, val_main_v15, val_main_v13, val_main_cst_4, val_main_cst_5, val_main_cst_6,
    val_main_cst_7, val_main_cst_8]

end reference

/-- The sum of a block's eight parts. -/
theorem total_at (x : Vec Ideal S8x176x1024 .bf16) (w u v : Vec Ideal S176x1024 .f32) (p : Fin 176) (q : Fin 1024) :
    k0_pay5 x w u v (ix2 p q) = ∑ d : Fin 8, x (ix3 d p q) := by
  have h (s : Fin 8) (inb) := part_at (n := 176) (k := 1024) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x176x1024_S1x176x1024_0_0_0) (h 1 inb_S8x176x1024_S1x176x1024_1_0_0)) (h 2 inb_S8x176x1024_S1x176x1024_2_0_0)) (h 3 inb_S8x176x1024_S1x176x1024_3_0_0))
    (h 4 inb_S8x176x1024_S1x176x1024_4_0_0)) (h 5 inb_S8x176x1024_S1x176x1024_5_0_0)) (h 6 inb_S8x176x1024_S1x176x1024_6_0_0)) (h 7 inb_S8x176x1024_S1x176x1024_7_0_0))
  unfold k0_pay5
  pointwise [k0_pay4]

theorem first_at (f u : Vec Ideal S176x1024 .f32) (p : Fin 176) (q : Fin 1024) : k0_pay1 f u (ix2 p q) = first (f (ix2 p q)) (u (ix2 p q)) := by
  pointwise [k0_pay1]
  rfl

theorem second_at (f v : Vec Ideal S176x1024 .f32) (p : Fin 176) (q : Fin 1024) : k0_pay2 f v (ix2 p q) = second (f (ix2 p q)) (v (ix2 p q)) := by
  pointwise [k0_pay2]
  rfl

theorem change_at (f w u v : Vec Ideal S176x1024 .f32) (p : Fin 176) (q : Fin 1024) :
    k0_pay3 f w u v (ix2 p q) = change (w (ix2 p q)) (f (ix2 p q)) (u (ix2 p q)) (v (ix2 p q)) := by
  unfold change
  rw [← first_at, ← second_at]
  unfold k0_pay3
  generalize k0_pay1 f u = a
  generalize k0_pay2 f v = b
  pointwise []

variable (m : (ℓ : Loc nD τ sig) → Buf (Elt Ideal) ℓ) (c : Dev nD) (t : Fin cfg0.N)

/-- The launched arguments: the parts, the weight, and its two moments. -/
def x : S8x352x1024.Idx → EReal := m ((c : Thread nD τ).loc main_arg0)
def w : S352x1024.Idx → EReal := m ((c : Thread nD τ).loc main_arg1)
def u : S352x1024.Idx → EReal := m ((c : Thread nD τ).loc main_arg2)
def v : S352x1024.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 176) : Fin 352 := ⟨t.val * 176 + p.val, by
  have ht : t.val < 2 := lt_of_lt_of_eq t.isLt N_0
  omega⟩

/-- The sum a step forms. -/
def sum : FVec Ideal S176x1024 .f32 := k0_pay5 (iblk m c 0 t) (iblk m c 1 t) (iblk m c 2 t) (iblk m c 3 t)

/-- What a step stores. -/
theorem step (p : Fin 176) (q : Fin 1024) : sum m c t (ix2 p q) = total (x m c) (row t p) q
    ∧ k0_pay3 (sum m c t) (iblk m c 1 t) (iblk m c 2 t) (iblk m c 3 t) (ix2 p q) = changeOf (x m c) (w m c) (u m c) (v m c) (row t p) q
    ∧ k0_pay1 (sum m c t) (iblk m c 2 t) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S352x1024.Idx => total (x m c) (i 0) (i 1))
    ∧ (dats m 0 c).arrAt 5 cfg0.N = (fun i : S352x1024.Idx => changeOf (x m c) (w m c) (u m c) (v m c) (i 0) (i 1))
    ∧ (dats m 0 c).arrAt 6 cfg0.N = (fun i : S352x1024.Idx => firstOf (x m c) (u m c) (i 0) (i 1))
    ∧ (dats m 0 c).arrAt 7 cfg0.N = (fun i : S352x1024.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 176 := (z 0).isLt
    have h1 : (z 1).val < 1024 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamFfnOutRefIdeal.Read in
/-- The kernel's results are the reference's, on the same arguments. -/
theorem values (x₀ : S8x352x1024.Idx → EReal) (w₀ u₀ v₀ : S352x1024.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v1 (F := Ideal) x₀ = (dats m 0 c).arrAt 4 cfg0.N ∧ val_main_v25 (F := Ideal) x₀ w₀ u₀ v₀ = (dats m 0 c).arrAt 5 cfg0.N
      ∧ val_main_v6 (F := Ideal) x₀ u₀ = (dats m 0 c).arrAt 6 cfg0.N ∧ val_main_v12 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamFfnOutIdeal_AdamFfnOutRefIdeal (hAdamFfnOutIdeal := Cert.AdamFfnOutIdeal.Gen.facts) (hAdamFfnOutRefIdeal := Cert.AdamFfnOutRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamFfnOutRefIdeal.defs _ _).mono (fun r h c => ?_) (Cert.AdamFfnOutRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamFfnOutRefIdeal.Read.val_main_v1_eq (F := Ideal) _)).trans key.1,
    (hd.trans (Cert.AdamFfnOutRefIdeal.Read.val_main_v25_eq (F := Ideal) _ _ _ _)).trans key.2.1,
    (hu.trans (Cert.AdamFfnOutRefIdeal.Read.val_main_v6_eq (F := Ideal) _ _)).trans key.2.2.1,
    (hv.trans (Cert.AdamFfnOutRefIdeal.Read.val_main_v12_eq (F := Ideal) _ _)).trans key.2.2.2, kept⟩

end Cert.AdamFfnOutIdeal.Val

end
-- ==== Proof.AdamSmallVal.lean ====
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Adam
public import Idealize.ShloMosaic.Lib.Pointwise
public import Idealize.ShloMosaic.Lib.Pipeline.ValueKit.Acc
public import Idealize.ShloMosaic.Lib.Pipeline.ValueKit.Point
public import Idealize.ShloMosaic.Lib.Pipeline.ValueKit.Tiles
public import Idealize.ShloMosaic.Lib.Claim

@[expose] public section

set_option maxRecDepth 16384

noncomputable section

/-! AdamW on the packed small weights: blocks of 8 rows, the gradient summed from eight parts. -/

namespace Cert.AdamSmallIdeal.Val

open Cert.AdamSmallIdeal Cert.AdamSmallIdeal.Gen Cert.AdamSmallIdeal.Value Idealize.ShloMosaic Idealize.ShloMosaic.TcCoe Cert.Adam

section reference

open Cert.AdamSmallRefIdeal.Read

variable (x : S8x8x1024.Idx → EReal) (w u v : S8x1024.Idx → EReal) (i : Fin 8) (j : Fin 1024)

theorem ref_total : val_main_v0 (F := Ideal) x (ix2 i j) = total x i j := by
  pointwise [val_main_v0, val_main_cst]
  rfl

theorem ref_first : val_main_v5 (F := Ideal) x u (ix2 i j) = firstOf x u i j := by
  unfold val_main_v5 val_main_v4 firstOf first
  rw [← ref_total]
  generalize val_main_v0 (F := Ideal) x = f
  pointwise [val_main_v3, val_main_v2, val_main_v1, val_main_cst_0, val_main_cst_1]

theorem ref_second : val_main_v11 (F := Ideal) x v (ix2 i j) = secondOf x v i j := by
  unfold val_main_v11 val_main_v10 val_main_v8 secondOf second
  rw [← ref_total]
  generalize val_main_v0 (F := Ideal) x = f
  pointwise [val_main_v9, val_main_v7, val_main_v6, val_main_cst_2, val_main_cst_3]

theorem ref_change : val_main_v24 (F := Ideal) x w u v (ix2 i j) = changeOf x w u v i j := by
  unfold val_main_v24 val_main_v22 val_main_v19 val_main_v18 val_main_v16 val_main_v15 val_main_v13 changeOf change
  rw [show first _ _ = _ from (ref_first x u i j).symm, show second _ _ = _ from (ref_second x v i j).symm]
  generalize val_main_v5 (F := Ideal) x u = f
  generalize val_main_v11 (F := Ideal) x v = g
  pointwise [val_main_v23, val_main_v21, val_main_v20, val_main_v17, val_main_v14, val_main_v12, val_main_cst_4, val_main_cst_5, val_main_cst_6,
    val_main_cst_7, val_main_cst_8]

end reference

/-- The sum of a block's eight parts. -/
theorem total_at (x : Vec Ideal S8x8x1024 .f32) (w u v : Vec Ideal S8x1024 .f32) (p : Fin 8) (q : Fin 1024) :
    k0_pay6 x w u v (ix2 p q) = ∑ d : Fin 8, x (ix3 d p q) := by
  have h (s : Fin 8) (inb) := part_at (n := 8) (k := 1024) x s inb p q
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·)
    (h 0 inb_S8x8x1024_S1x8x1024_0_0_0) (h 1 inb_S8x8x1024_S1x8x1024_1_0_0)) (h 2 inb_S8x8x1024_S1x8x1024_2_0_0)) (h 3 inb_S8x8x1024_S1x8x1024_3_0_0))
    (h 4 inb_S8x8x1024_S1x8x1024_4_0_0)) (h 5 inb_S8x8x1024_S1x8x1024_5_0_0)) (h 6 inb_S8x8x1024_S1x8x1024_6_0_0)) (h 7 inb_S8x8x1024_S1x8x1024_7_0_0))
  unfold k0_pay6
  pointwise [k0_pay4]

theorem first_at (f u : Vec Ideal S8x1024 .f32) (p : Fin 8) (q : Fin 1024) : k0_pay1 f (k0_pay5 u) (ix2 p q) = first (f (ix2 p q)) (u (ix2 p q)) := by
  pointwise [k0_pay1, k0_pay5]
  rfl

theorem second_at (f v : Vec Ideal S8x1024 .f32) (p : Fin 8) (q : Fin 1024) : k0_pay2 f v (ix2 p q) = second (f (ix2 p q)) (v (ix2 p q)) := by
  pointwise [k0_pay2]
  rfl

theorem change_at (f w u v : Vec Ideal S8x1024 .f32) (p : Fin 8) (q : Fin 1024) :
    k0_pay3 f w v (k0_pay5 u) (ix2 p q) = change (w (ix2 p q)) (f (ix2 p q)) (u (ix2 p q)) (v (ix2 p q)) := by
  unfold change
  rw [← first_at, ← second_at]
  unfold k0_pay3
  generalize k0_pay1 f (k0_pay5 u) = a
  generalize k0_pay2 f v = b
  pointwise []

variable (m : (ℓ : Loc nD τ sig) → Buf (Elt Ideal) ℓ) (c : Dev nD) (t : Fin cfg0.N)

/-- The launched arguments: the parts, the weight, and its two moments. -/
def x : S8x8x1024.Idx → EReal := m ((c : Thread nD τ).loc main_arg0)
def w : S8x1024.Idx → EReal := m ((c : Thread nD τ).loc main_arg1)
def u : S8x1024.Idx → EReal := m ((c : Thread nD τ).loc main_arg2)
def v : S8x1024.Idx → EReal := m ((c : Thread nD τ).loc main_arg3)

theorem index_t : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel

/-- A block's row in the array. -/
def row (p : Fin 8) : Fin 8 := ⟨t.val * 8 + p.val, by
  have ht : t.val < 1 := lt_of_lt_of_eq t.isLt N_0
  omega⟩

/-- The sum a step forms. -/
def sum : FVec Ideal S8x1024 .f32 := k0_pay6 (iblk m c 0 t) (iblk m c 1 t) (iblk m c 2 t) (iblk m c 3 t)

/-- The scaled first moment, from the whole block. -/
theorem moment (x : Vec Ideal S8x8x1024 .f32) (w u v : Vec Ideal S8x1024 .f32) : k0_pay7 x w u v = k0_pay5 u :=
  congrArg k0_pay5 (View.ld_unit_zero (S := S8x1024) (funext fun a => by fin_cases a <;> rfl) _ u)

/-- What a step stores. -/
theorem step (p : Fin 8) (q : Fin 1024) : sum m c t (ix2 p q) = total (x m c) (row t p) q
    ∧ k0_pay3 (sum m c t) (iblk m c 1 t) (iblk m c 3 t) (k0_pay5 (iblk m c 2 t)) (ix2 p q) = changeOf (x m c) (w m c) (u m c) (v m c) (row t p) q
    ∧ k0_pay1 (sum m c t) (k0_pay5 (iblk m c 2 t)) (ix2 p q) = firstOf (x m c) (u m c) (row t p) q
    ∧ k0_pay2 (sum m c t) (iblk m c 3 t) (ix2 p q) = secondOf (x m c) (v m c) (row t p) q := by
  obtain ⟨e0, e1, e2, e3, -⟩ := index_t t
  have hs : sum m c t (ix2 p q) = total (x m c) (row t p) q :=
    (total_at _ _ _ _ p q).trans (Fin.sum_fin_congr fun d => by unfold x row; blk_ext [iblk, V, e0])
  have hw : iblk m c 1 t (ix2 p q) = w m c (ix2 (row t p) q) := by unfold w row; blk_ext [iblk, V, e1]
  have hu : iblk m c 2 t (ix2 p q) = u m c (ix2 (row t p) q) := by unfold u row; blk_ext [iblk, V, e2]
  have hv : iblk m c 3 t (ix2 p q) = v m c (ix2 (row t p) q) := by unfold v row; blk_ext [iblk, V, e3]
  unfold changeOf firstOf secondOf
  refine ⟨hs, (change_at _ _ _ _ p q).trans ?_, (first_at _ _ p q).trans ?_, (second_at _ _ p q).trans ?_⟩
  · rw [hs, hw, hu, hv]
  · rw [hs, hu]
  · rw [hs, hv]

/-- The results the kernel leaves: the sum, the weight's change, and the new moments. -/
theorem blocks : (dats m 0 c).arrAt 4 cfg0.N = (fun i : S8x1024.Idx => total (x m c) (i 0) (i 1))
    ∧ (dats m 0 c).arrAt 5 cfg0.N = (fun i : S8x1024.Idx => changeOf (x m c) (w m c) (u m c) (v m c) (i 0) (i 1))
    ∧ (dats m 0 c).arrAt 6 cfg0.N = (fun i : S8x1024.Idx => firstOf (x m c) (u m c) (i 0) (i 1))
    ∧ (dats m 0 c).arrAt 7 cfg0.N = (fun i : S8x1024.Idx => secondOf (x m c) (v m c) (i 0) (i 1)) := by
  refine ⟨(dats m 0 c).arrAt_eq_of_covers 4 _ (by decide +kernel) fun t hf z => ?_, (dats m 0 c).arrAt_eq_of_covers 5 _ (by decide +kernel) fun t hf z => ?_,
    (dats m 0 c).arrAt_eq_of_covers 6 _ (by decide +kernel) fun t hf z => ?_, (dats m 0 c).arrAt_eq_of_covers 7 _ (by decide +kernel) fun t hf z => ?_⟩
  all_goals
    obtain ⟨-, -, -, -, e4, e5, e6, e7⟩ := index_t t
    have h0 : (z 0).val < 8 := (z 0).isLt
    have h1 : (z 1).val < 1024 := (z 1).isLt
    obtain ⟨k4, k5, k6, k7⟩ := step m c t ⟨(z 0).val, h0⟩ ⟨(z 1).val, h1⟩
  · blk_simp
    rw [after0_4]
    frame_out
    refine Eq.trans ?_ (k4.trans (congrArg₂ _ (Fin.ext ?_) (Fin.ext ?_)))
    · exact congrArg _ (funext fun a => match a with | ⟨0, _⟩ => rfl | ⟨1, _⟩ => rfl)
    · unfold row; blk_simp [e4]
    · blk_simp [e4]
  · blk_simp
    rw [after0_5]
    frame_out
    rw [moment]
    refine Eq.trans ?_ (k5.trans (congrArg₂ _ (Fin.ext ?_) (Fin.ext ?_)))
    · exact congrArg _ (funext fun a => match a with | ⟨0, _⟩ => rfl | ⟨1, _⟩ => rfl)
    · unfold row; blk_simp [e5]
    · blk_simp [e5]
  · blk_simp
    rw [after0_6]
    frame_out
    rw [moment]
    refine Eq.trans ?_ (k6.trans (congrArg₂ _ (Fin.ext ?_) (Fin.ext ?_)))
    · exact congrArg _ (funext fun a => match a with | ⟨0, _⟩ => rfl | ⟨1, _⟩ => rfl)
    · unfold row; blk_simp [e6]
    · blk_simp [e6]
  · blk_simp
    rw [after0_7]
    frame_out
    refine Eq.trans ?_ (k7.trans (congrArg₂ _ (Fin.ext ?_) (Fin.ext ?_)))
    · exact congrArg _ (funext fun a => match a with | ⟨0, _⟩ => rfl | ⟨1, _⟩ => rfl)
    · unfold row; blk_simp [e7]
    · blk_simp [e7]

open Cert.AdamSmallRefIdeal.Read in
/-- The kernel's results are the reference's, on the same arguments. -/
theorem values (x₀ : S8x8x1024.Idx → EReal) (w₀ u₀ v₀ : S8x1024.Idx → EReal) (ex : x₀ = m ((c : Thread nD τ).loc main_arg0))
    (ew : w₀ = m ((c : Thread nD τ).loc main_arg1)) (eu : u₀ = m ((c : Thread nD τ).loc main_arg2)) (ev : v₀ = m ((c : Thread nD τ).loc main_arg3)) :
    val_main_v0 (F := Ideal) x₀ = (dats m 0 c).arrAt 4 cfg0.N ∧ val_main_v24 (F := Ideal) x₀ w₀ u₀ v₀ = (dats m 0 c).arrAt 5 cfg0.N
      ∧ val_main_v5 (F := Ideal) x₀ u₀ = (dats m 0 c).arrAt 6 cfg0.N ∧ val_main_v11 (F := Ideal) x₀ v₀ = (dats m 0 c).arrAt 7 cfg0.N := by
  subst ex ew eu ev
  obtain ⟨b4, b5, b6, b7⟩ := blocks m c
  rw [b4, b5, b6, b7]
  exact ⟨funext fun i => (congrArg _ (at_ix i)).trans (ref_total _ (i 0) (i 1)), funext fun i => (congrArg _ (at_ix i)).trans (ref_change _ _ _ _ (i 0) (i 1)),
    funext fun i => (congrArg _ (at_ix i)).trans (ref_first _ _ (i 0) (i 1)), funext fun i => (congrArg _ (at_ix i)).trans (ref_second _ _ (i 0) (i 1))⟩

theorem results_equal : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g,
    (θ_run Cert.AdamSmallRefIdeal.defs _ _).mono (fun r h c => ?_) (Cert.AdamSmallRefIdeal.Value.run (F := Ideal) m' g')⟩
  obtain ⟨hg, hd, hu, hv, kept⟩ := h c
  obtain ⟨e0, e1, e2, e3⟩ := hagree c
  have key := values m c _ _ _ _ e0 e1 e2 e3
  exact ⟨(hg.trans (Cert.AdamSmallRefIdeal.Read.val_main_v0_eq (F := Ideal) _)).trans key.1,
    (hd.trans (Cert.AdamSmallRefIdeal.Read.val_main_v24_eq (F := Ideal) _ _ _ _)).trans key.2.1,
    (hu.trans (Cert.AdamSmallRefIdeal.Read.val_main_v5_eq (F := Ideal) _ _)).trans key.2.2.1,
    (hv.trans (Cert.AdamSmallRefIdeal.Read.val_main_v11_eq (F := Ideal) _ _)).trans key.2.2.2, kept⟩

end Cert.AdamSmallIdeal.Val

end
-- ==== Proof.lean ====
module

public import proofs.«01_k».proof.Proof.Gen.Kernel.Frame
public import proofs.«01_k».proof.Proof.Gen.Kernelb.Frame
public import proofs.«01_k».proof.Proof.Gen.FfnBwd.Frame
public import proofs.«01_k».proof.Proof.Gen.GradFfnIn.Frame
public import proofs.«01_k».proof.Proof.Gen.GradFfnOut.Frame
public import proofs.«01_k».proof.Proof.Gen.FfnFwd.Frame
public import proofs.«01_k».proof.Proof.Gen.ProjIn.Frame
public import proofs.«01_k».proof.Proof.Gen.GradSquare.Frame
public import proofs.«01_k».proof.Proof.Gen.GradHalf.Frame
public import proofs.«01_k».proof.Proof.Gen.GradGate.Frame
public import proofs.«01_k».proof.Proof.Gen.GradOm.Frame
public import proofs.«01_k».proof.Proof.Gen.GradYGated.Frame
public import proofs.«01_k».proof.Proof.Gen.GradASb.Frame
public import proofs.«01_k».proof.Proof.Gen.GradSbO.Frame
public import proofs.«01_k».proof.Proof.Gen.MemQ.Frame
public import proofs.«01_k».proof.Proof.Gen.SbOut.Frame
public import proofs.«01_k».proof.Proof.Gen.RetOut.Frame
public import proofs.«01_k».proof.Proof.Gen.LnOut.Frame
public import proofs.«01_k».proof.Proof.Gen.GradMix.Frame
public import proofs.«01_k».proof.Proof.Gen.GradNorm.Frame
public import proofs.«01_k».proof.Proof.Gen.MemKv.Frame
public import proofs.«01_k».proof.Proof.Gen.GradMemKv.Frame
public import proofs.«01_k».proof.Proof.Gen.FfnOut.Frame
public import proofs.«01_k».proof.Proof.Gen.AdamIn.Frame
public import proofs.«01_k».proof.Proof.Gen.AdamSbO.Frame
public import proofs.«01_k».proof.Proof.Gen.AdamRows.Frame
public import proofs.«01_k».proof.Proof.Gen.AdamMemKv.Frame
public import proofs.«01_k».proof.Proof.Gen.AdamFfnIn.Frame
public import proofs.«01_k».proof.Proof.Gen.AdamFfnOut.Frame
public import proofs.«01_k».proof.Proof.Gen.AdamSmall.Frame
public import proofs.«01_k».proof.Proof.Forward
public import proofs.«01_k».proof.Proof.Backward
public import proofs.«01_k».proof.Proof.FfnBwdVal
public import proofs.«01_k».proof.Proof.GradIn
public import proofs.«01_k».proof.Proof.GradOut
public import proofs.«01_k».proof.Proof.FfnFwdVal
public import proofs.«01_k».proof.Proof.ProjInVal
public import proofs.«01_k».proof.Proof.GradSquareSum
public import proofs.«01_k».proof.Proof.GradHalfSum
public import proofs.«01_k».proof.Proof.GradGateSum
public import proofs.«01_k».proof.Proof.GradOmVal
public import proofs.«01_k».proof.Proof.GradYGatedVal
public import proofs.«01_k».proof.Proof.GradASbVal
public import proofs.«01_k».proof.Proof.GradSbOSum
public import proofs.«01_k».proof.Proof.MemQVal
public import proofs.«01_k».proof.Proof.SbOutVal
public import proofs.«01_k».proof.Proof.RetOutVal
public import proofs.«01_k».proof.Proof.LnOutVal
public import proofs.«01_k».proof.Proof.GradMixVal
public import proofs.«01_k».proof.Proof.GradNormVal
public import proofs.«01_k».proof.Proof.MemKvVal
public import proofs.«01_k».proof.Proof.GradMemKvVal
public import proofs.«01_k».proof.Proof.FfnOutVal
public import proofs.«01_k».proof.Proof.AdamInVal
public import proofs.«01_k».proof.Proof.AdamSbOVal
public import proofs.«01_k».proof.Proof.AdamRowsVal
public import proofs.«01_k».proof.Proof.AdamMemKvVal
public import proofs.«01_k».proof.Proof.AdamFfnInVal
public import proofs.«01_k».proof.Proof.AdamFfnOutVal
public import proofs.«01_k».proof.Proof.AdamSmallVal
public import proofs.«01_k».proof.Defs
public import Idealize.ShloMosaic.Adequacy
public import Idealize.ShloMosaic.Init

@[expose] public section

noncomputable section

namespace Cert.Proof

open Idealize.ShloMosaic Idealize.SL.Sem

theorem frame_reference : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_referenceb : Cert.quiescent_ReferencebIdeal (hReferencebIdeal := Cert.ReferencebIdeal.Gen.facts) := fun m ρ _ =>
  (θ_run Cert.ReferencebIdeal.defs _ _).mono (fun r h => ⟨fun c => (h c).2.2.2.2, Idealize.ShloMosaic.sem_eq_zero_of_no_sems (by decide) r.2⟩)
    (Cert.ReferencebIdeal.Value.run (F := Ideal) m ρ)

theorem frame_ffnBwd : Cert.quiescent_FfnBwdRefIdeal (hFfnBwdRefIdeal := Cert.FfnBwdRefIdeal.Gen.facts) := fun m ρ _ =>
  (θ_run Cert.FfnBwdRefIdeal.defs _ _).mono (fun r h => ⟨fun c => (h c).2, Idealize.ShloMosaic.sem_eq_zero_of_no_sems (by decide) r.2⟩)
    (Cert.FfnBwdRefIdeal.Value.run (F := Ideal) m ρ)

theorem frame_gradFfnIn : Cert.quiescent_GradFfnInRefIdeal (hGradFfnInRefIdeal := Cert.GradFfnInRefIdeal.Gen.facts) := fun m ρ _ =>
  (θ_run Cert.GradFfnInRefIdeal.defs _ _).mono (fun r h => ⟨fun c => (h c).2, Idealize.ShloMosaic.sem_eq_zero_of_no_sems (by decide) r.2⟩)
    (Cert.GradFfnInRefIdeal.Value.run (F := Ideal) m ρ)

theorem frame_gradFfnOut : Cert.quiescent_GradFfnOutRefIdeal (hGradFfnOutRefIdeal := Cert.GradFfnOutRefIdeal.Gen.facts) := fun m ρ _ =>
  (θ_run Cert.GradFfnOutRefIdeal.defs _ _).mono (fun r h => ⟨fun c => (h c).2, Idealize.ShloMosaic.sem_eq_zero_of_no_sems (by decide) r.2⟩)
    (Cert.GradFfnOutRefIdeal.Value.run (F := Ideal) m ρ)

theorem frame_ffnFwd : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2, Idealize.ShloMosaic.sem_eq_zero_of_no_sems (by decide) r.2⟩)
    (Cert.FfnFwdRefIdeal.Value.run (F := Ideal) m ρ)

theorem frame_projIn : Cert.quiescent_ProjInRefIdeal (hProjInRefIdeal := Cert.ProjInRefIdeal.Gen.facts) := fun m ρ _ =>
  (θ_run Cert.ProjInRefIdeal.defs _ _).mono (fun r h => ⟨fun c => (h c).2.2.2.2.2.2, Idealize.ShloMosaic.sem_eq_zero_of_no_sems (by decide) r.2⟩)
    (Cert.ProjInRefIdeal.Value.run (F := Ideal) m ρ)

theorem frame_gradSquare : Cert.quiescent_GradSquareRefIdeal (hGradSquareRefIdeal := Cert.GradSquareRefIdeal.Gen.facts) := fun m ρ _ =>
  (θ_run Cert.GradSquareRefIdeal.defs _ _).mono (fun r h => ⟨fun c => (h c).2, Idealize.ShloMosaic.sem_eq_zero_of_no_sems (by decide) r.2⟩)
    (Cert.GradSquareRefIdeal.Value.run (F := Ideal) m ρ)

theorem frame_gradHalf : Cert.quiescent_GradHalfRefIdeal (hGradHalfRefIdeal := Cert.GradHalfRefIdeal.Gen.facts) := fun m ρ _ =>
  (θ_run Cert.GradHalfRefIdeal.defs _ _).mono (fun r h => ⟨fun c => (h c).2, Idealize.ShloMosaic.sem_eq_zero_of_no_sems (by decide) r.2⟩)
    (Cert.GradHalfRefIdeal.Value.run (F := Ideal) m ρ)

theorem frame_gradGate : Cert.quiescent_GradGateRefIdeal (hGradGateRefIdeal := Cert.GradGateRefIdeal.Gen.facts) := fun m ρ _ =>
  (θ_run Cert.GradGateRefIdeal.defs _ _).mono (fun r h => ⟨fun c => (h c).2, Idealize.ShloMosaic.sem_eq_zero_of_no_sems (by decide) r.2⟩)
    (Cert.GradGateRefIdeal.Value.run (F := Ideal) m ρ)

theorem frame_gradOm : Cert.quiescent_GradOmRefIdeal (hGradOmRefIdeal := Cert.GradOmRefIdeal.Gen.facts) := fun m ρ _ =>
  (θ_run Cert.GradOmRefIdeal.defs _ _).mono (fun r h => ⟨fun c => (h c).2, Idealize.ShloMosaic.sem_eq_zero_of_no_sems (by decide) r.2⟩)
    (Cert.GradOmRefIdeal.Value.run (F := Ideal) m ρ)

theorem frame_gradYGated : Cert.quiescent_GradYGatedRefIdeal (hGradYGatedRefIdeal := Cert.GradYGatedRefIdeal.Gen.facts) := fun m ρ _ =>
  (θ_run Cert.GradYGatedRefIdeal.defs _ _).mono (fun r h => ⟨fun c => (h c).2, Idealize.ShloMosaic.sem_eq_zero_of_no_sems (by decide) r.2⟩)
    (Cert.GradYGatedRefIdeal.Value.run (F := Ideal) m ρ)

theorem frame_gradASb : Cert.quiescent_GradASbRefIdeal (hGradASbRefIdeal := Cert.GradASbRefIdeal.Gen.facts) := fun m ρ _ =>
  (θ_run Cert.GradASbRefIdeal.defs _ _).mono (fun r h => ⟨fun c => (h c).2, Idealize.ShloMosaic.sem_eq_zero_of_no_sems (by decide) r.2⟩)
    (Cert.GradASbRefIdeal.Value.run (F := Ideal) m ρ)

theorem frame_gradSbO : Cert.quiescent_GradSbORefIdeal (hGradSbORefIdeal := Cert.GradSbORefIdeal.Gen.facts) := fun m ρ _ =>
  (θ_run Cert.GradSbORefIdeal.defs _ _).mono (fun r h => ⟨fun c => (h c).2, Idealize.ShloMosaic.sem_eq_zero_of_no_sems (by decide) r.2⟩)
    (Cert.GradSbORefIdeal.Value.run (F := Ideal) m ρ)

theorem frame_memQ : Cert.quiescent_MemQRefIdeal (hMemQRefIdeal := Cert.MemQRefIdeal.Gen.facts) := fun m ρ _ =>
  (θ_run Cert.MemQRefIdeal.defs _ _).mono (fun r h => ⟨fun c => (h c).2, Idealize.ShloMosaic.sem_eq_zero_of_no_sems (by decide) r.2⟩)
    (Cert.MemQRefIdeal.Value.run (F := Ideal) m ρ)

theorem frame_sbOut : Cert.quiescent_SbOutRefIdeal (hSbOutRefIdeal := Cert.SbOutRefIdeal.Gen.facts) := fun m ρ _ =>
  (θ_run Cert.SbOutRefIdeal.defs _ _).mono (fun r h => ⟨fun c => (h c).2, Idealize.ShloMosaic.sem_eq_zero_of_no_sems (by decide) r.2⟩)
    (Cert.SbOutRefIdeal.Value.run (F := Ideal) m ρ)

theorem frame_retOut : Cert.quiescent_RetOutRefIdeal (hRetOutRefIdeal := Cert.RetOutRefIdeal.Gen.facts) := fun m ρ _ =>
  (θ_run Cert.RetOutRefIdeal.defs _ _).mono (fun r h => ⟨fun c => (h c).2.2, Idealize.ShloMosaic.sem_eq_zero_of_no_sems (by decide) r.2⟩)
    (Cert.RetOutRefIdeal.Value.run (F := Ideal) m ρ)

theorem frame_lnOut : Cert.quiescent_LnOutRefIdeal (hLnOutRefIdeal := Cert.LnOutRefIdeal.Gen.facts) := fun m ρ _ =>
  (θ_run Cert.LnOutRefIdeal.defs _ _).mono (fun r h => ⟨fun c => (h c).2.2.2.2, Idealize.ShloMosaic.sem_eq_zero_of_no_sems (by decide) r.2⟩)
    (Cert.LnOutRefIdeal.Value.run (F := Ideal) m ρ)

theorem frame_gradMix : Cert.quiescent_GradMixRefIdeal (hGradMixRefIdeal := Cert.GradMixRefIdeal.Gen.facts) := fun m ρ _ =>
  (θ_run Cert.GradMixRefIdeal.defs _ _).mono (fun r h => ⟨fun c => (h c).2.2.2.2, Idealize.ShloMosaic.sem_eq_zero_of_no_sems (by decide) r.2⟩)
    (Cert.GradMixRefIdeal.Value.run (F := Ideal) m ρ)

theorem frame_gradNorm : Cert.quiescent_GradNormRefIdeal (hGradNormRefIdeal := Cert.GradNormRefIdeal.Gen.facts) := fun m ρ _ =>
  (θ_run Cert.GradNormRefIdeal.defs _ _).mono (fun r h => ⟨fun c => (h c).2.2.2.2, Idealize.ShloMosaic.sem_eq_zero_of_no_sems (by decide) r.2⟩)
    (Cert.GradNormRefIdeal.Value.run (F := Ideal) m ρ)

theorem frame_memKv : Cert.quiescent_MemKvRefIdeal (hMemKvRefIdeal := Cert.MemKvRefIdeal.Gen.facts) := fun m ρ _ =>
  (θ_run Cert.MemKvRefIdeal.defs _ _).mono (fun r h => ⟨fun c => (h c).2, Idealize.ShloMosaic.sem_eq_zero_of_no_sems (by decide) r.2⟩)
    (Cert.MemKvRefIdeal.Value.run (F := Ideal) m ρ)

theorem frame_gradMemKv : Cert.quiescent_GradMemKvRefIdeal (hGradMemKvRefIdeal := Cert.GradMemKvRefIdeal.Gen.facts) := fun m ρ _ =>
  (θ_run Cert.GradMemKvRefIdeal.defs _ _).mono (fun r h => ⟨fun c => (h c).2, Idealize.ShloMosaic.sem_eq_zero_of_no_sems (by decide) r.2⟩)
    (Cert.GradMemKvRefIdeal.Value.run (F := Ideal) m ρ)

theorem frame_ffnOut : Cert.quiescent_FfnOutRefIdeal (hFfnOutRefIdeal := Cert.FfnOutRefIdeal.Gen.facts) := fun m ρ _ =>
  (θ_run Cert.FfnOutRefIdeal.defs _ _).mono (fun r h => ⟨fun c => (h c).2.2.2.2.2, Idealize.ShloMosaic.sem_eq_zero_of_no_sems (by decide) r.2⟩)
    (Cert.FfnOutRefIdeal.Value.run (F := Ideal) m ρ)

theorem frame_adamIn : Cert.quiescent_AdamInRefIdeal (hAdamInRefIdeal := Cert.AdamInRefIdeal.Gen.facts) := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

theorem frame_adamSbO : Cert.quiescent_AdamSbORefIdeal (hAdamSbORefIdeal := Cert.AdamSbORefIdeal.Gen.facts) := fun m ρ _ =>
  (θ_run Cert.AdamSbORefIdeal.defs _ _).mono (fun r h => ⟨fun c => (h c).2.2.2.2, Idealize.ShloMosaic.sem_eq_zero_of_no_sems (by decide) r.2⟩)
    (Cert.AdamSbORefIdeal.Value.run (F := Ideal) m ρ)

theorem frame_adamRows : Cert.quiescent_AdamRowsRefIdeal (hAdamRowsRefIdeal := Cert.AdamRowsRefIdeal.Gen.facts) := fun m ρ _ =>
  (θ_run Cert.AdamRowsRefIdeal.defs _ _).mono (fun r h => ⟨fun c => (h c).2.2.2.2, Idealize.ShloMosaic.sem_eq_zero_of_no_sems (by decide) r.2⟩)
    (Cert.AdamRowsRefIdeal.Value.run (F := Ideal) m ρ)

theorem frame_adamMemKv : Cert.quiescent_AdamMemKvRefIdeal (hAdamMemKvRefIdeal := Cert.AdamMemKvRefIdeal.Gen.facts) := fun m ρ _ =>
  (θ_run Cert.AdamMemKvRefIdeal.defs _ _).mono (fun r h => ⟨fun c => (h c).2.2.2.2, Idealize.ShloMosaic.sem_eq_zero_of_no_sems (by decide) r.2⟩)
    (Cert.AdamMemKvRefIdeal.Value.run (F := Ideal) m ρ)

theorem frame_adamFfnIn : Cert.quiescent_AdamFfnInRefIdeal (hAdamFfnInRefIdeal := Cert.AdamFfnInRefIdeal.Gen.facts) := fun m ρ _ =>
  (θ_run Cert.AdamFfnInRefIdeal.defs _ _).mono (fun r h => ⟨fun c => (h c).2.2.2.2, Idealize.ShloMosaic.sem_eq_zero_of_no_sems (by decide) r.2⟩)
    (Cert.AdamFfnInRefIdeal.Value.run (F := Ideal) m ρ)

theorem frame_adamFfnOut : Cert.quiescent_AdamFfnOutRefIdeal (hAdamFfnOutRefIdeal := Cert.AdamFfnOutRefIdeal.Gen.facts) := fun m ρ _ =>
  (θ_run Cert.AdamFfnOutRefIdeal.defs _ _).mono (fun r h => ⟨fun c => (h c).2.2.2.2, Idealize.ShloMosaic.sem_eq_zero_of_no_sems (by decide) r.2⟩)
    (Cert.AdamFfnOutRefIdeal.Value.run (F := Ideal) m ρ)

theorem frame_adamSmall : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, Idealize.ShloMosaic.sem_eq_zero_of_no_sems (by decide) r.2⟩)
    (Cert.AdamSmallRefIdeal.Value.run (F := Ideal) m ρ)

theorem claim : Cert.Claim :=
  ⟨Cert.Kernel.Gen.facts, Cert.KernelIdeal.Gen.facts, Cert.ReferenceIdeal.Gen.facts,
  Cert.Kernelb.Gen.facts, Cert.KernelbIdeal.Gen.facts, Cert.ReferencebIdeal.Gen.facts,
  Cert.FfnBwd.Gen.facts, Cert.FfnBwdIdeal.Gen.facts, Cert.FfnBwdRefIdeal.Gen.facts,
  Cert.GradFfnIn.Gen.facts, Cert.GradFfnInIdeal.Gen.facts, Cert.GradFfnInRefIdeal.Gen.facts,
  Cert.GradFfnOut.Gen.facts, Cert.GradFfnOutIdeal.Gen.facts, Cert.GradFfnOutRefIdeal.Gen.facts,
  Cert.FfnFwd.Gen.facts, Cert.FfnFwdIdeal.Gen.facts, Cert.FfnFwdRefIdeal.Gen.facts,
  Cert.ProjIn.Gen.facts, Cert.ProjInIdeal.Gen.facts, Cert.ProjInRefIdeal.Gen.facts,
  Cert.GradSquare.Gen.facts, Cert.GradSquareIdeal.Gen.facts, Cert.GradSquareRefIdeal.Gen.facts,
  Cert.GradHalf.Gen.facts, Cert.GradHalfIdeal.Gen.facts, Cert.GradHalfRefIdeal.Gen.facts,
  Cert.GradGate.Gen.facts, Cert.GradGateIdeal.Gen.facts, Cert.GradGateRefIdeal.Gen.facts,
  Cert.GradOm.Gen.facts, Cert.GradOmIdeal.Gen.facts, Cert.GradOmRefIdeal.Gen.facts,
  Cert.GradYGated.Gen.facts, Cert.GradYGatedIdeal.Gen.facts, Cert.GradYGatedRefIdeal.Gen.facts,
  Cert.GradASb.Gen.facts, Cert.GradASbIdeal.Gen.facts, Cert.GradASbRefIdeal.Gen.facts,
  Cert.GradSbO.Gen.facts, Cert.GradSbOIdeal.Gen.facts, Cert.GradSbORefIdeal.Gen.facts,
  Cert.MemQ.Gen.facts, Cert.MemQIdeal.Gen.facts, Cert.MemQRefIdeal.Gen.facts,
  Cert.SbOut.Gen.facts, Cert.SbOutIdeal.Gen.facts, Cert.SbOutRefIdeal.Gen.facts,
  Cert.RetOut.Gen.facts, Cert.RetOutIdeal.Gen.facts, Cert.RetOutRefIdeal.Gen.facts,
  Cert.LnOut.Gen.facts, Cert.LnOutIdeal.Gen.facts, Cert.LnOutRefIdeal.Gen.facts,
  Cert.GradMix.Gen.facts, Cert.GradMixIdeal.Gen.facts, Cert.GradMixRefIdeal.Gen.facts,
  Cert.GradNorm.Gen.facts, Cert.GradNormIdeal.Gen.facts, Cert.GradNormRefIdeal.Gen.facts,
  Cert.MemKv.Gen.facts, Cert.MemKvIdeal.Gen.facts, Cert.MemKvRefIdeal.Gen.facts,
  Cert.GradMemKv.Gen.facts, Cert.GradMemKvIdeal.Gen.facts, Cert.GradMemKvRefIdeal.Gen.facts,
  Cert.FfnOut.Gen.facts, Cert.FfnOutIdeal.Gen.facts, Cert.FfnOutRefIdeal.Gen.facts,
  Cert.AdamIn.Gen.facts, Cert.AdamInIdeal.Gen.facts, Cert.AdamInRefIdeal.Gen.facts,
  Cert.AdamSbO.Gen.facts, Cert.AdamSbOIdeal.Gen.facts, Cert.AdamSbORefIdeal.Gen.facts,
  Cert.AdamRows.Gen.facts, Cert.AdamRowsIdeal.Gen.facts, Cert.AdamRowsRefIdeal.Gen.facts,
  Cert.AdamMemKv.Gen.facts, Cert.AdamMemKvIdeal.Gen.facts, Cert.AdamMemKvRefIdeal.Gen.facts,
  Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts,
  Cert.AdamSmall.Gen.facts, Cert.AdamSmallIdeal.Gen.facts, Cert.AdamSmallRefIdeal.Gen.facts,
  Cert.Backward.facts, Cert.FfnBwdIdeal.Val.facts, Cert.GradNormIdeal.Val.facts, Cert.FfnOutIdeal.Val.facts,
  fun m ρ _ => Cert.Kernel.Gen.frame m ρ, fun m ρ _ => Cert.KernelIdeal.Gen.frame m ρ, frame_reference,
  fun m ρ _ => Cert.Kernelb.Gen.frame m ρ, fun m ρ _ => Cert.KernelbIdeal.Gen.frame m ρ, fun m ρ _ => Cert.KernelbIdeal.Gen.frame m ρ, frame_referenceb, fun m ρ _ => frame_referenceb m ρ trivial,
  fun m ρ _ => Cert.FfnBwd.Gen.frame m ρ, fun m ρ _ => Cert.FfnBwdIdeal.Gen.frame m ρ, fun m ρ _ => Cert.FfnBwdIdeal.Gen.frame m ρ, frame_ffnBwd, fun m ρ _ => frame_ffnBwd m ρ trivial,
  fun m ρ _ => Cert.GradFfnIn.Gen.frame m ρ, fun m ρ _ => Cert.GradFfnInIdeal.Gen.frame m ρ, frame_gradFfnIn,
  fun m ρ _ => Cert.GradFfnOut.Gen.frame m ρ, fun m ρ _ => Cert.GradFfnOutIdeal.Gen.frame m ρ, frame_gradFfnOut,
  fun m ρ _ => Cert.FfnFwd.Gen.frame m ρ, fun m ρ _ => Cert.FfnFwdIdeal.Gen.frame m ρ, frame_ffnFwd,
  fun m ρ _ => Cert.ProjIn.Gen.frame m ρ, fun m ρ _ => Cert.ProjInIdeal.Gen.frame m ρ, frame_projIn,
  fun m ρ _ => Cert.GradSquare.Gen.frame m ρ, fun m ρ _ => Cert.GradSquareIdeal.Gen.frame m ρ, frame_gradSquare,
  fun m ρ _ => Cert.GradHalf.Gen.frame m ρ, fun m ρ _ => Cert.GradHalfIdeal.Gen.frame m ρ, frame_gradHalf,
  fun m ρ _ => Cert.GradGate.Gen.frame m ρ, fun m ρ _ => Cert.GradGateIdeal.Gen.frame m ρ, frame_gradGate,
  fun m ρ _ => Cert.GradOm.Gen.frame m ρ, fun m ρ _ => Cert.GradOmIdeal.Gen.frame m ρ, frame_gradOm,
  fun m ρ _ => Cert.GradYGated.Gen.frame m ρ, fun m ρ _ => Cert.GradYGatedIdeal.Gen.frame m ρ, frame_gradYGated,
  fun m ρ _ => Cert.GradASb.Gen.frame m ρ, fun m ρ _ => Cert.GradASbIdeal.Gen.frame m ρ, frame_gradASb,
  fun m ρ _ => Cert.GradSbO.Gen.frame m ρ, fun m ρ _ => Cert.GradSbOIdeal.Gen.frame m ρ, frame_gradSbO,
  fun m ρ _ => Cert.MemQ.Gen.frame m ρ, fun m ρ _ => Cert.MemQIdeal.Gen.frame m ρ, frame_memQ,
  fun m ρ _ => Cert.SbOut.Gen.frame m ρ, fun m ρ _ => Cert.SbOutIdeal.Gen.frame m ρ, frame_sbOut,
  fun m ρ _ => Cert.RetOut.Gen.frame m ρ, fun m ρ _ => Cert.RetOutIdeal.Gen.frame m ρ, frame_retOut,
  fun m ρ _ => Cert.LnOut.Gen.frame m ρ, fun m ρ _ => Cert.LnOutIdeal.Gen.frame m ρ, frame_lnOut,
  fun m ρ _ => Cert.GradMix.Gen.frame m ρ, fun m ρ _ => Cert.GradMixIdeal.Gen.frame m ρ, frame_gradMix,
  fun m ρ _ => Cert.GradNorm.Gen.frame m ρ, fun m ρ _ => Cert.GradNormIdeal.Gen.frame m ρ, fun m ρ _ => Cert.GradNormIdeal.Gen.frame m ρ, frame_gradNorm, fun m ρ _ => frame_gradNorm m ρ trivial,
  fun m ρ _ => Cert.MemKv.Gen.frame m ρ, fun m ρ _ => Cert.MemKvIdeal.Gen.frame m ρ, frame_memKv,
  fun m ρ _ => Cert.GradMemKv.Gen.frame m ρ, fun m ρ _ => Cert.GradMemKvIdeal.Gen.frame m ρ, frame_gradMemKv,
  fun m ρ _ => Cert.FfnOut.Gen.frame m ρ, fun m ρ _ => Cert.FfnOutIdeal.Gen.frame m ρ, fun m ρ _ => Cert.FfnOutIdeal.Gen.frame m ρ, frame_ffnOut, fun m ρ _ => frame_ffnOut m ρ trivial,
  fun m ρ _ => Cert.AdamIn.Gen.frame m ρ, fun m ρ _ => Cert.AdamInIdeal.Gen.frame m ρ, frame_adamIn,
  fun m ρ _ => Cert.AdamSbO.Gen.frame m ρ, fun m ρ _ => Cert.AdamSbOIdeal.Gen.frame m ρ, frame_adamSbO,
  fun m ρ _ => Cert.AdamRows.Gen.frame m ρ, fun m ρ _ => Cert.AdamRowsIdeal.Gen.frame m ρ, frame_adamRows,
  fun m ρ _ => Cert.AdamMemKv.Gen.frame m ρ, fun m ρ _ => Cert.AdamMemKvIdeal.Gen.frame m ρ, frame_adamMemKv,
  fun m ρ _ => Cert.AdamFfnIn.Gen.frame m ρ, fun m ρ _ => Cert.AdamFfnInIdeal.Gen.frame m ρ, frame_adamFfnIn,
  fun m ρ _ => Cert.AdamFfnOut.Gen.frame m ρ, fun m ρ _ => Cert.AdamFfnOutIdeal.Gen.frame m ρ, frame_adamFfnOut,
  fun m ρ _ => Cert.AdamSmall.Gen.frame m ρ, fun m ρ _ => Cert.AdamSmallIdeal.Gen.frame m ρ, frame_adamSmall,
  trivial, Cert.Forward.results_equal, trivial, Cert.Backward.results_equal,
  trivial, Cert.FfnBwdIdeal.Val.results_equal,
  trivial, Cert.GradFfnInIdeal.Sum.results_equal,
  trivial, Cert.GradFfnOutIdeal.Sum.results_equal,
  trivial, Cert.FfnFwdIdeal.Val.results_equal,
  trivial, Cert.ProjInIdeal.Val.results_equal,
  trivial, Cert.GradSquareIdeal.Sum.results_equal,
  trivial, Cert.GradHalfIdeal.Sum.results_equal,
  trivial, Cert.GradGateIdeal.Sum.results_equal,
  trivial, Cert.GradOmIdeal.Val.results_equal,
  trivial, Cert.GradYGatedIdeal.Val.results_equal,
  trivial, Cert.GradASbIdeal.Val.results_equal,
  trivial, Cert.GradSbOIdeal.Sum.results_equal,
  trivial, Cert.MemQIdeal.Val.results_equal,
  trivial, Cert.SbOutIdeal.Val.results_equal,
  trivial, Cert.RetOutIdeal.Val.results_equal,
  trivial, Cert.LnOutIdeal.Val.results_equal,
  trivial, Cert.GradMixIdeal.Val.results_equal,
  trivial, Cert.GradNormIdeal.Val.results_equal,
  trivial, Cert.MemKvIdeal.Val.results_equal,
  trivial, Cert.GradMemKvIdeal.Val.results_equal,
  trivial, Cert.FfnOutIdeal.Val.results_equal,
  trivial, Cert.AdamInIdeal.Val.results_equal,
  trivial, Cert.AdamSbOIdeal.Val.results_equal,
  trivial, Cert.AdamRowsIdeal.Val.results_equal,
  trivial, Cert.AdamMemKvIdeal.Val.results_equal,
  trivial, Cert.AdamFfnInIdeal.Val.results_equal,
  trivial, Cert.AdamFfnOutIdeal.Val.results_equal,
  trivial, Cert.AdamSmallIdeal.Val.results_equal⟩

end Cert.Proof

end
